-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite9 [hPre_finite9 : Cert.Pre_finite9.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite9.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite9.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_finite9.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2.1 = (fun _ => 1#1)
    ∧ (Cert.Pre_finite9.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite9 [hPre_finite9 : Cert.Pre_finite9.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite9.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite9.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_finite9.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2.1 = (fun _ => 1#1)
    ∧ (Cert.Pre_finite9.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite [hPre_finite : Cert.Pre_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite [hPre_finite : Cert.Pre_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite9 [hKernel10Ideal : Cert.Kernel10Ideal.Facts] [hPre_finite9 : Cert.Pre_finite9.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite9 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite9 [hReference10Ideal : Cert.Reference10Ideal.Facts] [hPre_finite9 : Cert.Pre_finite9.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite9 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite [hKernel11Ideal : Cert.Kernel11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite [hReference11Ideal : Cert.Reference11Ideal.Facts] [hPre_finite : Cert.Pre_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23)
      ∧ r.2.mem ((c.tc : Thread Cert.Kernel13.nD Cert.Kernel13.τ).loc Cert.Kernel13.main_arg24) = m ((c.tc : Thread Cert.Kernel13.nD Cert.Kernel13.τ).loc Cert.Kernel13.main_arg24)
      ∧ r.2.mem ((c.tc : Thread Cert.Kernel13.nD Cert.Kernel13.τ).loc Cert.Kernel13.main_arg25) = m ((c.tc : Thread Cert.Kernel13.nD Cert.Kernel13.τ).loc Cert.Kernel13.main_arg25)
      ∧ r.2.mem ((c.tc : Thread Cert.Kernel13.nD Cert.Kernel13.τ).loc Cert.Kernel13.main_arg26) = m ((c.tc : Thread Cert.Kernel13.nD Cert.Kernel13.τ).loc Cert.Kernel13.main_arg26)
      ∧ r.2.mem ((c.tc : Thread Cert.Kernel13.nD Cert.Kernel13.τ).loc Cert.Kernel13.main_arg27) = m ((c.tc : Thread Cert.Kernel13.nD Cert.Kernel13.τ).loc Cert.Kernel13.main_arg27)
      ∧ r.2.mem ((c.tc : Thread Cert.Kernel13.nD Cert.Kernel13.τ).loc Cert.Kernel13.main_arg28) = m ((c.tc : Thread Cert.Kernel13.nD Cert.Kernel13.τ).loc Cert.Kernel13.main_arg28)
      ∧ r.2.mem ((c.tc : Thread Cert.Kernel13.nD Cert.Kernel13.τ).loc Cert.Kernel13.main_arg29) = m ((c.tc : Thread Cert.Kernel13.nD Cert.Kernel13.τ).loc Cert.Kernel13.main_arg29)
      ∧ r.2.mem ((c.tc : Thread Cert.Kernel13.nD Cert.Kernel13.τ).loc Cert.Kernel13.main_arg30) = m ((c.tc : Thread Cert.Kernel13.nD Cert.Kernel13.τ).loc Cert.Kernel13.main_arg30)
      ∧ r.2.mem ((c.tc : Thread Cert.Kernel13.nD Cert.Kernel13.τ).loc Cert.Kernel13.main_arg31) = m ((c.tc : Thread Cert.Kernel13.nD Cert.Kernel13.τ).loc Cert.Kernel13.main_arg31)
      ∧ r.2.mem ((c.tc : Thread Cert.Kernel13.nD Cert.Kernel13.τ).loc Cert.Kernel13.main_arg32) = m ((c.tc : Thread Cert.Kernel13.nD Cert.Kernel13.τ).loc Cert.Kernel13.main_arg32)
      ∧ r.2.mem ((c.tc : Thread Cert.Kernel13.nD Cert.Kernel13.τ).loc Cert.Kernel13.main_arg33) = m ((c.tc : Thread Cert.Kernel13.nD Cert.Kernel13.τ).loc Cert.Kernel13.main_arg33)
      ∧ r.2.mem ((c.tc : Thread Cert.Kernel13.nD Cert.Kernel13.τ).loc Cert.Kernel13.main_arg34) = m ((c.tc : Thread Cert.Kernel13.nD Cert.Kernel13.τ).loc Cert.Kernel13.main_arg34)
      ∧ r.2.mem ((c.tc : Thread Cert.Kernel13.nD Cert.Kernel13.τ).loc Cert.Kernel13.main_arg35) = m ((c.tc : Thread Cert.Kernel13.nD Cert.Kernel13.τ).loc Cert.Kernel13.main_arg35)
      ∧ r.2.mem ((c.tc : Thread Cert.Kernel13.nD Cert.Kernel13.τ).loc Cert.Kernel13.main_arg36) = m ((c.tc : Thread Cert.Kernel13.nD Cert.Kernel13.τ).loc Cert.Kernel13.main_arg36)
      ∧ r.2.mem ((c.tc : Thread Cert.Kernel13.nD Cert.Kernel13.τ).loc Cert.Kernel13.main_arg37) = m ((c.tc : Thread Cert.Kernel13.nD Cert.Kernel13.τ).loc Cert.Kernel13.main_arg37)
      ∧ r.2.mem ((c.tc : Thread Cert.Kernel13.nD Cert.Kernel13.τ).loc Cert.Kernel13.main_arg38) = m ((c.tc : Thread Cert.Kernel13.nD Cert.Kernel13.τ).loc Cert.Kernel13.main_arg38)
      ∧ r.2.mem ((c.tc : Thread Cert.Kernel13.nD Cert.Kernel13.τ).loc Cert.Kernel13.main_arg39) = m ((c.tc : Thread Cert.Kernel13.nD Cert.Kernel13.τ).loc Cert.Kernel13.main_arg39)
      ∧ r.2.mem ((c.tc : Thread Cert.Kernel13.nD Cert.Kernel13.τ).loc Cert.Kernel13.main_arg40) = m ((c.tc : Thread Cert.Kernel13.nD Cert.Kernel13.τ).loc Cert.Kernel13.main_arg40)
      ∧ r.2.mem ((c.tc : Thread Cert.Kernel13.nD Cert.Kernel13.τ).loc Cert.Kernel13.main_arg41) = m ((c.tc : Thread Cert.Kernel13.nD Cert.Kernel13.τ).loc Cert.Kernel13.main_arg41)
      ∧ r.2.mem ((c.tc : Thread Cert.Kernel13.nD Cert.Kernel13.τ).loc Cert.Kernel13.main_arg42) = m ((c.tc : Thread Cert.Kernel13.nD Cert.Kernel13.τ).loc Cert.Kernel13.main_arg42)
      ∧ r.2.mem ((c.tc : Thread Cert.Kernel13.nD Cert.Kernel13.τ).loc Cert.Kernel13.main_arg43) = m ((c.tc : Thread Cert.Kernel13.nD Cert.Kernel13.τ).loc Cert.Kernel13.main_arg43))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
      ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
      ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
      ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
      ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
      ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
      ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
      ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
      ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
      ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
      ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
      ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
      ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35)
      ∧ r.2.mem ((c.tc : Thread Cert.Kernel13Ideal.nD Cert.Kernel13Ideal.τ).loc Cert.Kernel13Ideal.main_arg36) = m ((c.tc : Thread Cert.Kernel13Ideal.nD Cert.Kernel13Ideal.τ).loc Cert.Kernel13Ideal.main_arg36)
      ∧ r.2.mem ((c.tc : Thread Cert.Kernel13Ideal.nD Cert.Kernel13Ideal.τ).loc Cert.Kernel13Ideal.main_arg37) = m ((c.tc : Thread Cert.Kernel13Ideal.nD Cert.Kernel13Ideal.τ).loc Cert.Kernel13Ideal.main_arg37)
      ∧ r.2.mem ((c.tc : Thread Cert.Kernel13Ideal.nD Cert.Kernel13Ideal.τ).loc Cert.Kernel13Ideal.main_arg38) = m ((c.tc : Thread Cert.Kernel13Ideal.nD Cert.Kernel13Ideal.τ).loc Cert.Kernel13Ideal.main_arg38)
      ∧ r.2.mem ((c.tc : Thread Cert.Kernel13Ideal.nD Cert.Kernel13Ideal.τ).loc Cert.Kernel13Ideal.main_arg39) = m ((c.tc : Thread Cert.Kernel13Ideal.nD Cert.Kernel13Ideal.τ).loc Cert.Kernel13Ideal.main_arg39)
      ∧ r.2.mem ((c.tc : Thread Cert.Kernel13Ideal.nD Cert.Kernel13Ideal.τ).loc Cert.Kernel13Ideal.main_arg40) = m ((c.tc : Thread Cert.Kernel13Ideal.nD Cert.Kernel13Ideal.τ).loc Cert.Kernel13Ideal.main_arg40)
      ∧ r.2.mem ((c.tc : Thread Cert.Kernel13Ideal.nD Cert.Kernel13Ideal.τ).loc Cert.Kernel13Ideal.main_arg41) = m ((c.tc : Thread Cert.Kernel13Ideal.nD Cert.Kernel13Ideal.τ).loc Cert.Kernel13Ideal.main_arg41)
      ∧ r.2.mem ((c.tc : Thread Cert.Kernel13Ideal.nD Cert.Kernel13Ideal.τ).loc Cert.Kernel13Ideal.main_arg42) = m ((c.tc : Thread Cert.Kernel13Ideal.nD Cert.Kernel13Ideal.τ).loc Cert.Kernel13Ideal.main_arg42)
      ∧ r.2.mem ((c.tc : Thread Cert.Kernel13Ideal.nD Cert.Kernel13Ideal.τ).loc Cert.Kernel13Ideal.main_arg43) = m ((c.tc : Thread Cert.Kernel13Ideal.nD Cert.Kernel13Ideal.τ).loc Cert.Kernel13Ideal.main_arg43))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23)
      ∧ r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24)
      ∧ r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25)
      ∧ r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26)
      ∧ r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27)
      ∧ r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28)
      ∧ r.2.mem ((c.tc : Thread Cert.Reference13Ideal.nD Cert.Reference13Ideal.τ).loc Cert.Reference13Ideal.main_arg29) = m ((c.tc : Thread Cert.Reference13Ideal.nD Cert.Reference13Ideal.τ).loc Cert.Reference13Ideal.main_arg29)
      ∧ r.2.mem ((c.tc : Thread Cert.Reference13Ideal.nD Cert.Reference13Ideal.τ).loc Cert.Reference13Ideal.main_arg30) = m ((c.tc : Thread Cert.Reference13Ideal.nD Cert.Reference13Ideal.τ).loc Cert.Reference13Ideal.main_arg30)
      ∧ r.2.mem ((c.tc : Thread Cert.Reference13Ideal.nD Cert.Reference13Ideal.τ).loc Cert.Reference13Ideal.main_arg31) = m ((c.tc : Thread Cert.Reference13Ideal.nD Cert.Reference13Ideal.τ).loc Cert.Reference13Ideal.main_arg31)
      ∧ r.2.mem ((c.tc : Thread Cert.Reference13Ideal.nD Cert.Reference13Ideal.τ).loc Cert.Reference13Ideal.main_arg32) = m ((c.tc : Thread Cert.Reference13Ideal.nD Cert.Reference13Ideal.τ).loc Cert.Reference13Ideal.main_arg32)
      ∧ r.2.mem ((c.tc : Thread Cert.Reference13Ideal.nD Cert.Reference13Ideal.τ).loc Cert.Reference13Ideal.main_arg33) = m ((c.tc : Thread Cert.Reference13Ideal.nD Cert.Reference13Ideal.τ).loc Cert.Reference13Ideal.main_arg33)
      ∧ r.2.mem ((c.tc : Thread Cert.Reference13Ideal.nD Cert.Reference13Ideal.τ).loc Cert.Reference13Ideal.main_arg34) = m ((c.tc : Thread Cert.Reference13Ideal.nD Cert.Reference13Ideal.τ).loc Cert.Reference13Ideal.main_arg34)
      ∧ r.2.mem ((c.tc : Thread Cert.Reference13Ideal.nD Cert.Reference13Ideal.τ).loc Cert.Reference13Ideal.main_arg35) = m ((c.tc : Thread Cert.Reference13Ideal.nD Cert.Reference13Ideal.τ).loc Cert.Reference13Ideal.main_arg35)
      ∧ r.2.mem ((c.tc : Thread Cert.Reference13Ideal.nD Cert.Reference13Ideal.τ).loc Cert.Reference13Ideal.main_arg36) = m ((c.tc : Thread Cert.Reference13Ideal.nD Cert.Reference13Ideal.τ).loc Cert.Reference13Ideal.main_arg36)
      ∧ r.2.mem ((c.tc : Thread Cert.Reference13Ideal.nD Cert.Reference13Ideal.τ).loc Cert.Reference13Ideal.main_arg37) = m ((c.tc : Thread Cert.Reference13Ideal.nD Cert.Reference13Ideal.τ).loc Cert.Reference13Ideal.main_arg37)
      ∧ r.2.mem ((c.tc : Thread Cert.Reference13Ideal.nD Cert.Reference13Ideal.τ).loc Cert.Reference13Ideal.main_arg38) = m ((c.tc : Thread Cert.Reference13Ideal.nD Cert.Reference13Ideal.τ).loc Cert.Reference13Ideal.main_arg38)
      ∧ r.2.mem ((c.tc : Thread Cert.Reference13Ideal.nD Cert.Reference13Ideal.τ).loc Cert.Reference13Ideal.main_arg39) = m ((c.tc : Thread Cert.Reference13Ideal.nD Cert.Reference13Ideal.τ).loc Cert.Reference13Ideal.main_arg39)
      ∧ r.2.mem ((c.tc : Thread Cert.Reference13Ideal.nD Cert.Reference13Ideal.τ).loc Cert.Reference13Ideal.main_arg40) = m ((c.tc : Thread Cert.Reference13Ideal.nD Cert.Reference13Ideal.τ).loc Cert.Reference13Ideal.main_arg40)
      ∧ r.2.mem ((c.tc : Thread Cert.Reference13Ideal.nD Cert.Reference13Ideal.τ).loc Cert.Reference13Ideal.main_arg41) = m ((c.tc : Thread Cert.Reference13Ideal.nD Cert.Reference13Ideal.τ).loc Cert.Reference13Ideal.main_arg41)
      ∧ r.2.mem ((c.tc : Thread Cert.Reference13Ideal.nD Cert.Reference13Ideal.τ).loc Cert.Reference13Ideal.main_arg42) = m ((c.tc : Thread Cert.Reference13Ideal.nD Cert.Reference13Ideal.τ).loc Cert.Reference13Ideal.main_arg42)
      ∧ r.2.mem ((c.tc : Thread Cert.Reference13Ideal.nD Cert.Reference13Ideal.τ).loc Cert.Reference13Ideal.main_arg43) = m ((c.tc : Thread Cert.Reference13Ideal.nD Cert.Reference13Ideal.τ).loc Cert.Reference13Ideal.main_arg43))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v19_1)) (v3 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v19_1) = v2 c
          ∧ r.2.mem ((c.tc : Thread Cert.KernelIdeal.nD Cert.KernelIdeal.τ).loc Cert.KernelIdeal.main_v19_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v9)) (v2 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_v12) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v12)) (v1 : (c : Dev Cert.Kernel5Ideal.nD) → Buf (Elt Ideal) ((c.tc : Thread Cert.Kernel5Ideal.nD Cert.Kernel5Ideal.τ).loc Cert.Kernel5Ideal.main_v13)) (v2 : (c : Dev Cert.Kernel5Ideal.nD) → Buf (Elt Ideal) ((c.tc : Thread Cert.Kernel5Ideal.nD Cert.Kernel5Ideal.τ).loc Cert.Kernel5Ideal.main_v14)) (v3 : (c : Dev Cert.Kernel5Ideal.nD) → Buf (Elt Ideal) ((c.tc : Thread Cert.Kernel5Ideal.nD Cert.Kernel5Ideal.τ).loc Cert.Kernel5Ideal.main_v15)) (v4 : (c : Dev Cert.Kernel5Ideal.nD) → Buf (Elt Ideal) ((c.tc : Thread Cert.Kernel5Ideal.nD Cert.Kernel5Ideal.τ).loc Cert.Kernel5Ideal.main_v16)) (v5 : (c : Dev Cert.Kernel5Ideal.nD) → Buf (Elt Ideal) ((c.tc : Thread Cert.Kernel5Ideal.nD Cert.Kernel5Ideal.τ).loc Cert.Kernel5Ideal.main_v17)) (v6 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_v14) = v2 c
          ∧ r.2.mem ((c.tc : Thread Cert.Kernel5Ideal.nD Cert.Kernel5Ideal.τ).loc Cert.Kernel5Ideal.main_v15) = v3 c
          ∧ r.2.mem ((c.tc : Thread Cert.Kernel5Ideal.nD Cert.Kernel5Ideal.τ).loc Cert.Kernel5Ideal.main_v16) = v4 c
          ∧ r.2.mem ((c.tc : Thread Cert.Kernel5Ideal.nD Cert.Kernel5Ideal.τ).loc Cert.Kernel5Ideal.main_v17) = v5 c
          ∧ r.2.mem ((c.tc : Thread Cert.Kernel5Ideal.nD Cert.Kernel5Ideal.τ).loc Cert.Kernel5Ideal.main_v18) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_v2) = v2 c
          ∧ r.2.mem ((c.tc : Thread Cert.Reference5Ideal.nD Cert.Reference5Ideal.τ).loc Cert.Reference5Ideal.main_v3) = v3 c
          ∧ r.2.mem ((c.tc : Thread Cert.Reference5Ideal.nD Cert.Reference5Ideal.τ).loc Cert.Reference5Ideal.main_v5) = v4 c
          ∧ r.2.mem ((c.tc : Thread Cert.Reference5Ideal.nD Cert.Reference5Ideal.τ).loc Cert.Reference5Ideal.main_v6) = v5 c
          ∧ r.2.mem ((c.tc : Thread Cert.Reference5Ideal.nD Cert.Reference5Ideal.τ).loc Cert.Reference5Ideal.main_v7) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)) →
    ∃ (v0 : (c : Dev Cert.Kernel6Ideal.nD) → Buf (Elt Ideal) ((c.tc : Thread Cert.Kernel6Ideal.nD Cert.Kernel6Ideal.τ).loc Cert.Kernel6Ideal.main_v15)) (v1 : (c : Dev Cert.Kernel6Ideal.nD) → Buf (Elt Ideal) ((c.tc : Thread Cert.Kernel6Ideal.nD Cert.Kernel6Ideal.τ).loc Cert.Kernel6Ideal.main_v16)) (v2 : (c : Dev Cert.Kernel6Ideal.nD) → Buf (Elt Ideal) ((c.tc : Thread Cert.Kernel6Ideal.nD Cert.Kernel6Ideal.τ).loc Cert.Kernel6Ideal.main_v17)) (v3 : (c : Dev Cert.Kernel6Ideal.nD) → Buf (Elt Ideal) ((c.tc : Thread Cert.Kernel6Ideal.nD Cert.Kernel6Ideal.τ).loc Cert.Kernel6Ideal.main_v18)) (v4 : (c : Dev Cert.Kernel6Ideal.nD) → Buf (Elt Ideal) ((c.tc : Thread Cert.Kernel6Ideal.nD Cert.Kernel6Ideal.τ).loc Cert.Kernel6Ideal.main_v19)) (v5 : (c : Dev Cert.Kernel6Ideal.nD) → Buf (Elt Ideal) ((c.tc : Thread Cert.Kernel6Ideal.nD Cert.Kernel6Ideal.τ).loc Cert.Kernel6Ideal.main_v20)) (v6 : (c : Dev Cert.Kernel6Ideal.nD) → Buf (Elt Ideal) ((c.tc : Thread Cert.Kernel6Ideal.nD Cert.Kernel6Ideal.τ).loc Cert.Kernel6Ideal.main_v21)) (v7 : (c : Dev Cert.Kernel6Ideal.nD) → Buf (Elt Ideal) ((c.tc : Thread Cert.Kernel6Ideal.nD Cert.Kernel6Ideal.τ).loc Cert.Kernel6Ideal.main_v22)) (v8 : (c : Dev Cert.Kernel6Ideal.nD) → Buf (Elt Ideal) ((c.tc : Thread Cert.Kernel6Ideal.nD Cert.Kernel6Ideal.τ).loc Cert.Kernel6Ideal.main_v23)) (v9 : (c : Dev Cert.Kernel6Ideal.nD) → Buf (Elt Ideal) ((c.tc : Thread Cert.Kernel6Ideal.nD Cert.Kernel6Ideal.τ).loc Cert.Kernel6Ideal.main_v24)) (v10 : (c : Dev Cert.Kernel6Ideal.nD) → Buf (Elt Ideal) ((c.tc : Thread Cert.Kernel6Ideal.nD Cert.Kernel6Ideal.τ).loc Cert.Kernel6Ideal.main_v25)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_v16) = v1 c
          ∧ r.2.mem ((c.tc : Thread Cert.Kernel6Ideal.nD Cert.Kernel6Ideal.τ).loc Cert.Kernel6Ideal.main_v17) = v2 c
          ∧ r.2.mem ((c.tc : Thread Cert.Kernel6Ideal.nD Cert.Kernel6Ideal.τ).loc Cert.Kernel6Ideal.main_v18) = v3 c
          ∧ r.2.mem ((c.tc : Thread Cert.Kernel6Ideal.nD Cert.Kernel6Ideal.τ).loc Cert.Kernel6Ideal.main_v19) = v4 c
          ∧ r.2.mem ((c.tc : Thread Cert.Kernel6Ideal.nD Cert.Kernel6Ideal.τ).loc Cert.Kernel6Ideal.main_v20) = v5 c
          ∧ r.2.mem ((c.tc : Thread Cert.Kernel6Ideal.nD Cert.Kernel6Ideal.τ).loc Cert.Kernel6Ideal.main_v21) = v6 c
          ∧ r.2.mem ((c.tc : Thread Cert.Kernel6Ideal.nD Cert.Kernel6Ideal.τ).loc Cert.Kernel6Ideal.main_v22) = v7 c
          ∧ r.2.mem ((c.tc : Thread Cert.Kernel6Ideal.nD Cert.Kernel6Ideal.τ).loc Cert.Kernel6Ideal.main_v23) = v8 c
          ∧ r.2.mem ((c.tc : Thread Cert.Kernel6Ideal.nD Cert.Kernel6Ideal.τ).loc Cert.Kernel6Ideal.main_v24) = v9 c
          ∧ r.2.mem ((c.tc : Thread Cert.Kernel6Ideal.nD Cert.Kernel6Ideal.τ).loc Cert.Kernel6Ideal.main_v25) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_v17) = v4 c
          ∧ r.2.mem ((c.tc : Thread Cert.Reference6Ideal.nD Cert.Reference6Ideal.τ).loc Cert.Reference6Ideal.main_v16) = v5 c
          ∧ r.2.mem ((c.tc : Thread Cert.Reference6Ideal.nD Cert.Reference6Ideal.τ).loc Cert.Reference6Ideal.main_v21) = v6 c
          ∧ r.2.mem ((c.tc : Thread Cert.Reference6Ideal.nD Cert.Reference6Ideal.τ).loc Cert.Reference6Ideal.main_v33) = v7 c
          ∧ r.2.mem ((c.tc : Thread Cert.Reference6Ideal.nD Cert.Reference6Ideal.τ).loc Cert.Reference6Ideal.main_v25) = v8 c
          ∧ r.2.mem ((c.tc : Thread Cert.Reference6Ideal.nD Cert.Reference6Ideal.τ).loc Cert.Reference6Ideal.main_v34) = v9 c
          ∧ r.2.mem ((c.tc : Thread Cert.Reference6Ideal.nD Cert.Reference6Ideal.τ).loc Cert.Reference6Ideal.main_v30) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v20_0)) (v2 : (c : Dev Cert.Kernel9Ideal.nD) → Buf (Elt Ideal) ((c.tc : Thread Cert.Kernel9Ideal.nD Cert.Kernel9Ideal.τ).loc Cert.Kernel9Ideal.main_v20_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v20_0) = v1 c
          ∧ r.2.mem ((c.tc : Thread Cert.Kernel9Ideal.nD Cert.Kernel9Ideal.τ).loc Cert.Kernel9Ideal.main_v20_1) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v65) = v0 c
          ∧ r.2.mem ((c.tc : Thread Cert.Reference9Ideal.nD Cert.Reference9Ideal.τ).loc Cert.Reference9Ideal.main_v68) = v1 c
          ∧ r.2.mem ((c.tc : Thread Cert.Reference9Ideal.nD Cert.Reference9Ideal.τ).loc Cert.Reference9Ideal.main_v71) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite9 [hKernel10Ideal : Cert.Kernel10Ideal.Facts] [hReference10Ideal : Cert.Reference10Ideal.Facts] [hPre_finite9 : Cert.Pre_finite9.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite9 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v58_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v58_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v65) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite [hKernel11Ideal : Cert.Kernel11Ideal.Facts] [hReference11Ideal : Cert.Reference11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v74_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v74_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v83) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)) (v1 : (c : Dev Cert.Kernel12Ideal.nD) → Buf (Elt Ideal) ((c.tc : Thread Cert.Kernel12Ideal.nD Cert.Kernel12Ideal.τ).loc Cert.Kernel12Ideal.main_v1_0)) (v2 : (c : Dev Cert.Kernel12Ideal.nD) → Buf (Elt Ideal) ((c.tc : Thread Cert.Kernel12Ideal.nD Cert.Kernel12Ideal.τ).loc Cert.Kernel12Ideal.main_v1_1)) (v3 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_v1_0) = v1 c
          ∧ r.2.mem ((c.tc : Thread Cert.Kernel12Ideal.nD Cert.Kernel12Ideal.τ).loc Cert.Kernel12Ideal.main_v1_1) = v2 c
          ∧ r.2.mem ((c.tc : Thread Cert.Kernel12Ideal.nD Cert.Kernel12Ideal.τ).loc Cert.Kernel12Ideal.main_v1_2) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg3) = v1 c
          ∧ r.2.mem ((c.tc : Thread Cert.Reference12Ideal.nD Cert.Reference12Ideal.τ).loc Cert.Reference12Ideal.main_v15) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)
      ∧ m' ((c.tc : Thread Cert.Reference13Ideal.nD Cert.Reference13Ideal.τ).loc Cert.Reference13Ideal.main_arg24) = m ((c.tc : Thread Cert.Kernel13Ideal.nD Cert.Kernel13Ideal.τ).loc Cert.Kernel13Ideal.main_arg24)
      ∧ m' ((c.tc : Thread Cert.Reference13Ideal.nD Cert.Reference13Ideal.τ).loc Cert.Reference13Ideal.main_arg25) = m ((c.tc : Thread Cert.Kernel13Ideal.nD Cert.Kernel13Ideal.τ).loc Cert.Kernel13Ideal.main_arg25)
      ∧ m' ((c.tc : Thread Cert.Reference13Ideal.nD Cert.Reference13Ideal.τ).loc Cert.Reference13Ideal.main_arg26) = m ((c.tc : Thread Cert.Kernel13Ideal.nD Cert.Kernel13Ideal.τ).loc Cert.Kernel13Ideal.main_arg26)
      ∧ m' ((c.tc : Thread Cert.Reference13Ideal.nD Cert.Reference13Ideal.τ).loc Cert.Reference13Ideal.main_arg27) = m ((c.tc : Thread Cert.Kernel13Ideal.nD Cert.Kernel13Ideal.τ).loc Cert.Kernel13Ideal.main_arg27)
      ∧ m' ((c.tc : Thread Cert.Reference13Ideal.nD Cert.Reference13Ideal.τ).loc Cert.Reference13Ideal.main_arg28) = m ((c.tc : Thread Cert.Kernel13Ideal.nD Cert.Kernel13Ideal.τ).loc Cert.Kernel13Ideal.main_arg28)
      ∧ m' ((c.tc : Thread Cert.Reference13Ideal.nD Cert.Reference13Ideal.τ).loc Cert.Reference13Ideal.main_arg29) = m ((c.tc : Thread Cert.Kernel13Ideal.nD Cert.Kernel13Ideal.τ).loc Cert.Kernel13Ideal.main_arg29)
      ∧ m' ((c.tc : Thread Cert.Reference13Ideal.nD Cert.Reference13Ideal.τ).loc Cert.Reference13Ideal.main_arg30) = m ((c.tc : Thread Cert.Kernel13Ideal.nD Cert.Kernel13Ideal.τ).loc Cert.Kernel13Ideal.main_arg30)
      ∧ m' ((c.tc : Thread Cert.Reference13Ideal.nD Cert.Reference13Ideal.τ).loc Cert.Reference13Ideal.main_arg31) = m ((c.tc : Thread Cert.Kernel13Ideal.nD Cert.Kernel13Ideal.τ).loc Cert.Kernel13Ideal.main_arg31)
      ∧ m' ((c.tc : Thread Cert.Reference13Ideal.nD Cert.Reference13Ideal.τ).loc Cert.Reference13Ideal.main_arg32) = m ((c.tc : Thread Cert.Kernel13Ideal.nD Cert.Kernel13Ideal.τ).loc Cert.Kernel13Ideal.main_arg32)
      ∧ m' ((c.tc : Thread Cert.Reference13Ideal.nD Cert.Reference13Ideal.τ).loc Cert.Reference13Ideal.main_arg33) = m ((c.tc : Thread Cert.Kernel13Ideal.nD Cert.Kernel13Ideal.τ).loc Cert.Kernel13Ideal.main_arg33)
      ∧ m' ((c.tc : Thread Cert.Reference13Ideal.nD Cert.Reference13Ideal.τ).loc Cert.Reference13Ideal.main_arg34) = m ((c.tc : Thread Cert.Kernel13Ideal.nD Cert.Kernel13Ideal.τ).loc Cert.Kernel13Ideal.main_arg34)
      ∧ m' ((c.tc : Thread Cert.Reference13Ideal.nD Cert.Reference13Ideal.τ).loc Cert.Reference13Ideal.main_arg35) = m ((c.tc : Thread Cert.Kernel13Ideal.nD Cert.Kernel13Ideal.τ).loc Cert.Kernel13Ideal.main_arg35)
      ∧ m' ((c.tc : Thread Cert.Reference13Ideal.nD Cert.Reference13Ideal.τ).loc Cert.Reference13Ideal.main_arg36) = m ((c.tc : Thread Cert.Kernel13Ideal.nD Cert.Kernel13Ideal.τ).loc Cert.Kernel13Ideal.main_arg36)
      ∧ m' ((c.tc : Thread Cert.Reference13Ideal.nD Cert.Reference13Ideal.τ).loc Cert.Reference13Ideal.main_arg37) = m ((c.tc : Thread Cert.Kernel13Ideal.nD Cert.Kernel13Ideal.τ).loc Cert.Kernel13Ideal.main_arg37)
      ∧ m' ((c.tc : Thread Cert.Reference13Ideal.nD Cert.Reference13Ideal.τ).loc Cert.Reference13Ideal.main_arg38) = m ((c.tc : Thread Cert.Kernel13Ideal.nD Cert.Kernel13Ideal.τ).loc Cert.Kernel13Ideal.main_arg38)
      ∧ m' ((c.tc : Thread Cert.Reference13Ideal.nD Cert.Reference13Ideal.τ).loc Cert.Reference13Ideal.main_arg39) = m ((c.tc : Thread Cert.Kernel13Ideal.nD Cert.Kernel13Ideal.τ).loc Cert.Kernel13Ideal.main_arg39)
      ∧ m' ((c.tc : Thread Cert.Reference13Ideal.nD Cert.Reference13Ideal.τ).loc Cert.Reference13Ideal.main_arg40) = m ((c.tc : Thread Cert.Kernel13Ideal.nD Cert.Kernel13Ideal.τ).loc Cert.Kernel13Ideal.main_arg40)
      ∧ m' ((c.tc : Thread Cert.Reference13Ideal.nD Cert.Reference13Ideal.τ).loc Cert.Reference13Ideal.main_arg41) = m ((c.tc : Thread Cert.Kernel13Ideal.nD Cert.Kernel13Ideal.τ).loc Cert.Kernel13Ideal.main_arg41)
      ∧ m' ((c.tc : Thread Cert.Reference13Ideal.nD Cert.Reference13Ideal.τ).loc Cert.Reference13Ideal.main_arg42) = m ((c.tc : Thread Cert.Kernel13Ideal.nD Cert.Kernel13Ideal.τ).loc Cert.Kernel13Ideal.main_arg42)
      ∧ m' ((c.tc : Thread Cert.Reference13Ideal.nD Cert.Reference13Ideal.τ).loc Cert.Reference13Ideal.main_arg43) = m ((c.tc : Thread Cert.Kernel13Ideal.nD Cert.Kernel13Ideal.τ).loc Cert.Kernel13Ideal.main_arg43)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v1_0)) (v4 : (c : Dev Cert.Kernel13Ideal.nD) → Buf (Elt Ideal) ((c.tc : Thread Cert.Kernel13Ideal.nD Cert.Kernel13Ideal.τ).loc Cert.Kernel13Ideal.main_v1_1)) (v5 : (c : Dev Cert.Kernel13Ideal.nD) → Buf (Elt Ideal) ((c.tc : Thread Cert.Kernel13Ideal.nD Cert.Kernel13Ideal.τ).loc Cert.Kernel13Ideal.main_v1_2)) (v6 : (c : Dev Cert.Kernel13Ideal.nD) → Buf (Elt Ideal) ((c.tc : Thread Cert.Kernel13Ideal.nD Cert.Kernel13Ideal.τ).loc Cert.Kernel13Ideal.main_v2_0)) (v7 : (c : Dev Cert.Kernel13Ideal.nD) → Buf (Elt Ideal) ((c.tc : Thread Cert.Kernel13Ideal.nD Cert.Kernel13Ideal.τ).loc Cert.Kernel13Ideal.main_v2_1)) (v8 : (c : Dev Cert.Kernel13Ideal.nD) → Buf (Elt Ideal) ((c.tc : Thread Cert.Kernel13Ideal.nD Cert.Kernel13Ideal.τ).loc Cert.Kernel13Ideal.main_v2_2)) (v9 : (c : Dev Cert.Kernel13Ideal.nD) → Buf (Elt Ideal) ((c.tc : Thread Cert.Kernel13Ideal.nD Cert.Kernel13Ideal.τ).loc Cert.Kernel13Ideal.main_v3_0)) (v10 : (c : Dev Cert.Kernel13Ideal.nD) → Buf (Elt Ideal) ((c.tc : Thread Cert.Kernel13Ideal.nD Cert.Kernel13Ideal.τ).loc Cert.Kernel13Ideal.main_v3_1)) (v11 : (c : Dev Cert.Kernel13Ideal.nD) → Buf (Elt Ideal) ((c.tc : Thread Cert.Kernel13Ideal.nD Cert.Kernel13Ideal.τ).loc Cert.Kernel13Ideal.main_v3_2)) (v12 : (c : Dev Cert.Kernel13Ideal.nD) → Buf (Elt Ideal) ((c.tc : Thread Cert.Kernel13Ideal.nD Cert.Kernel13Ideal.τ).loc Cert.Kernel13Ideal.main_v4_0)) (v13 : (c : Dev Cert.Kernel13Ideal.nD) → Buf (Elt Ideal) ((c.tc : Thread Cert.Kernel13Ideal.nD Cert.Kernel13Ideal.τ).loc Cert.Kernel13Ideal.main_v4_1)) (v14 : (c : Dev Cert.Kernel13Ideal.nD) → Buf (Elt Ideal) ((c.tc : Thread Cert.Kernel13Ideal.nD Cert.Kernel13Ideal.τ).loc Cert.Kernel13Ideal.main_v4_2)) (v15 : (c : Dev Cert.Kernel13Ideal.nD) → Buf (Elt Ideal) ((c.tc : Thread Cert.Kernel13Ideal.nD Cert.Kernel13Ideal.τ).loc Cert.Kernel13Ideal.main_v5_0)) (v16 : (c : Dev Cert.Kernel13Ideal.nD) → Buf (Elt Ideal) ((c.tc : Thread Cert.Kernel13Ideal.nD Cert.Kernel13Ideal.τ).loc Cert.Kernel13Ideal.main_v5_1)) (v17 : (c : Dev Cert.Kernel13Ideal.nD) → Buf (Elt Ideal) ((c.tc : Thread Cert.Kernel13Ideal.nD Cert.Kernel13Ideal.τ).loc Cert.Kernel13Ideal.main_v5_2)) (v18 : (c : Dev Cert.Kernel13Ideal.nD) → Buf (Elt Ideal) ((c.tc : Thread Cert.Kernel13Ideal.nD Cert.Kernel13Ideal.τ).loc Cert.Kernel13Ideal.main_v6_0)) (v19 : (c : Dev Cert.Kernel13Ideal.nD) → Buf (Elt Ideal) ((c.tc : Thread Cert.Kernel13Ideal.nD Cert.Kernel13Ideal.τ).loc Cert.Kernel13Ideal.main_v6_1)) (v20 : (c : Dev Cert.Kernel13Ideal.nD) → Buf (Elt Ideal) ((c.tc : Thread Cert.Kernel13Ideal.nD Cert.Kernel13Ideal.τ).loc Cert.Kernel13Ideal.main_v6_2)) (v21 : (c : Dev Cert.Kernel13Ideal.nD) → Buf (Elt Ideal) ((c.tc : Thread Cert.Kernel13Ideal.nD Cert.Kernel13Ideal.τ).loc Cert.Kernel13Ideal.main_v7_0)) (v22 : (c : Dev Cert.Kernel13Ideal.nD) → Buf (Elt Ideal) ((c.tc : Thread Cert.Kernel13Ideal.nD Cert.Kernel13Ideal.τ).loc Cert.Kernel13Ideal.main_v7_1)) (v23 : (c : Dev Cert.Kernel13Ideal.nD) → Buf (Elt Ideal) ((c.tc : Thread Cert.Kernel13Ideal.nD Cert.Kernel13Ideal.τ).loc Cert.Kernel13Ideal.main_v7_2)) (v24 : (c : Dev Cert.Kernel13Ideal.nD) → Buf (Elt Ideal) ((c.tc : Thread Cert.Kernel13Ideal.nD Cert.Kernel13Ideal.τ).loc Cert.Kernel13Ideal.main_v8_0)) (v25 : (c : Dev Cert.Kernel13Ideal.nD) → Buf (Elt Ideal) ((c.tc : Thread Cert.Kernel13Ideal.nD Cert.Kernel13Ideal.τ).loc Cert.Kernel13Ideal.main_v8_1)) (v26 : (c : Dev Cert.Kernel13Ideal.nD) → Buf (Elt Ideal) ((c.tc : Thread Cert.Kernel13Ideal.nD Cert.Kernel13Ideal.τ).loc Cert.Kernel13Ideal.main_v8_2)) (v27 : (c : Dev Cert.Kernel13Ideal.nD) → Buf (Elt Ideal) ((c.tc : Thread Cert.Kernel13Ideal.nD Cert.Kernel13Ideal.τ).loc Cert.Kernel13Ideal.main_v9_0)) (v28 : (c : Dev Cert.Kernel13Ideal.nD) → Buf (Elt Ideal) ((c.tc : Thread Cert.Kernel13Ideal.nD Cert.Kernel13Ideal.τ).loc Cert.Kernel13Ideal.main_v9_1)) (v29 : (c : Dev Cert.Kernel13Ideal.nD) → Buf (Elt Ideal) ((c.tc : Thread Cert.Kernel13Ideal.nD Cert.Kernel13Ideal.τ).loc Cert.Kernel13Ideal.main_v9_2)) (v30 : (c : Dev Cert.Kernel13Ideal.nD) → Buf (Elt Ideal) ((c.tc : Thread Cert.Kernel13Ideal.nD Cert.Kernel13Ideal.τ).loc Cert.Kernel13Ideal.main_v10_0)) (v31 : (c : Dev Cert.Kernel13Ideal.nD) → Buf (Elt Ideal) ((c.tc : Thread Cert.Kernel13Ideal.nD Cert.Kernel13Ideal.τ).loc Cert.Kernel13Ideal.main_v10_1)) (v32 : (c : Dev Cert.Kernel13Ideal.nD) → Buf (Elt Ideal) ((c.tc : Thread Cert.Kernel13Ideal.nD Cert.Kernel13Ideal.τ).loc Cert.Kernel13Ideal.main_v10_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v1_0) = v3 c
          ∧ r.2.mem ((c.tc : Thread Cert.Kernel13Ideal.nD Cert.Kernel13Ideal.τ).loc Cert.Kernel13Ideal.main_v1_1) = v4 c
          ∧ r.2.mem ((c.tc : Thread Cert.Kernel13Ideal.nD Cert.Kernel13Ideal.τ).loc Cert.Kernel13Ideal.main_v1_2) = v5 c
          ∧ r.2.mem ((c.tc : Thread Cert.Kernel13Ideal.nD Cert.Kernel13Ideal.τ).loc Cert.Kernel13Ideal.main_v2_0) = v6 c
          ∧ r.2.mem ((c.tc : Thread Cert.Kernel13Ideal.nD Cert.Kernel13Ideal.τ).loc Cert.Kernel13Ideal.main_v2_1) = v7 c
          ∧ r.2.mem ((c.tc : Thread Cert.Kernel13Ideal.nD Cert.Kernel13Ideal.τ).loc Cert.Kernel13Ideal.main_v2_2) = v8 c
          ∧ r.2.mem ((c.tc : Thread Cert.Kernel13Ideal.nD Cert.Kernel13Ideal.τ).loc Cert.Kernel13Ideal.main_v3_0) = v9 c
          ∧ r.2.mem ((c.tc : Thread Cert.Kernel13Ideal.nD Cert.Kernel13Ideal.τ).loc Cert.Kernel13Ideal.main_v3_1) = v10 c
          ∧ r.2.mem ((c.tc : Thread Cert.Kernel13Ideal.nD Cert.Kernel13Ideal.τ).loc Cert.Kernel13Ideal.main_v3_2) = v11 c
          ∧ r.2.mem ((c.tc : Thread Cert.Kernel13Ideal.nD Cert.Kernel13Ideal.τ).loc Cert.Kernel13Ideal.main_v4_0) = v12 c
          ∧ r.2.mem ((c.tc : Thread Cert.Kernel13Ideal.nD Cert.Kernel13Ideal.τ).loc Cert.Kernel13Ideal.main_v4_1) = v13 c
          ∧ r.2.mem ((c.tc : Thread Cert.Kernel13Ideal.nD Cert.Kernel13Ideal.τ).loc Cert.Kernel13Ideal.main_v4_2) = v14 c
          ∧ r.2.mem ((c.tc : Thread Cert.Kernel13Ideal.nD Cert.Kernel13Ideal.τ).loc Cert.Kernel13Ideal.main_v5_0) = v15 c
          ∧ r.2.mem ((c.tc : Thread Cert.Kernel13Ideal.nD Cert.Kernel13Ideal.τ).loc Cert.Kernel13Ideal.main_v5_1) = v16 c
          ∧ r.2.mem ((c.tc : Thread Cert.Kernel13Ideal.nD Cert.Kernel13Ideal.τ).loc Cert.Kernel13Ideal.main_v5_2) = v17 c
          ∧ r.2.mem ((c.tc : Thread Cert.Kernel13Ideal.nD Cert.Kernel13Ideal.τ).loc Cert.Kernel13Ideal.main_v6_0) = v18 c
          ∧ r.2.mem ((c.tc : Thread Cert.Kernel13Ideal.nD Cert.Kernel13Ideal.τ).loc Cert.Kernel13Ideal.main_v6_1) = v19 c
          ∧ r.2.mem ((c.tc : Thread Cert.Kernel13Ideal.nD Cert.Kernel13Ideal.τ).loc Cert.Kernel13Ideal.main_v6_2) = v20 c
          ∧ r.2.mem ((c.tc : Thread Cert.Kernel13Ideal.nD Cert.Kernel13Ideal.τ).loc Cert.Kernel13Ideal.main_v7_0) = v21 c
          ∧ r.2.mem ((c.tc : Thread Cert.Kernel13Ideal.nD Cert.Kernel13Ideal.τ).loc Cert.Kernel13Ideal.main_v7_1) = v22 c
          ∧ r.2.mem ((c.tc : Thread Cert.Kernel13Ideal.nD Cert.Kernel13Ideal.τ).loc Cert.Kernel13Ideal.main_v7_2) = v23 c
          ∧ r.2.mem ((c.tc : Thread Cert.Kernel13Ideal.nD Cert.Kernel13Ideal.τ).loc Cert.Kernel13Ideal.main_v8_0) = v24 c
          ∧ r.2.mem ((c.tc : Thread Cert.Kernel13Ideal.nD Cert.Kernel13Ideal.τ).loc Cert.Kernel13Ideal.main_v8_1) = v25 c
          ∧ r.2.mem ((c.tc : Thread Cert.Kernel13Ideal.nD Cert.Kernel13Ideal.τ).loc Cert.Kernel13Ideal.main_v8_2) = v26 c
          ∧ r.2.mem ((c.tc : Thread Cert.Kernel13Ideal.nD Cert.Kernel13Ideal.τ).loc Cert.Kernel13Ideal.main_v9_0) = v27 c
          ∧ r.2.mem ((c.tc : Thread Cert.Kernel13Ideal.nD Cert.Kernel13Ideal.τ).loc Cert.Kernel13Ideal.main_v9_1) = v28 c
          ∧ r.2.mem ((c.tc : Thread Cert.Kernel13Ideal.nD Cert.Kernel13Ideal.τ).loc Cert.Kernel13Ideal.main_v9_2) = v29 c
          ∧ r.2.mem ((c.tc : Thread Cert.Kernel13Ideal.nD Cert.Kernel13Ideal.τ).loc Cert.Kernel13Ideal.main_v10_0) = v30 c
          ∧ r.2.mem ((c.tc : Thread Cert.Kernel13Ideal.nD Cert.Kernel13Ideal.τ).loc Cert.Kernel13Ideal.main_v10_1) = v31 c
          ∧ r.2.mem ((c.tc : Thread Cert.Kernel13Ideal.nD Cert.Kernel13Ideal.τ).loc Cert.Kernel13Ideal.main_v10_2) = v32 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
          ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
          ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
          ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
          ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
          ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
          ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
          ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
          ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
          ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
          ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
          ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
          ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35)
          ∧ r.2.mem ((c.tc : Thread Cert.Kernel13Ideal.nD Cert.Kernel13Ideal.τ).loc Cert.Kernel13Ideal.main_arg36) = m ((c.tc : Thread Cert.Kernel13Ideal.nD Cert.Kernel13Ideal.τ).loc Cert.Kernel13Ideal.main_arg36)
          ∧ r.2.mem ((c.tc : Thread Cert.Kernel13Ideal.nD Cert.Kernel13Ideal.τ).loc Cert.Kernel13Ideal.main_arg37) = m ((c.tc : Thread Cert.Kernel13Ideal.nD Cert.Kernel13Ideal.τ).loc Cert.Kernel13Ideal.main_arg37)
          ∧ r.2.mem ((c.tc : Thread Cert.Kernel13Ideal.nD Cert.Kernel13Ideal.τ).loc Cert.Kernel13Ideal.main_arg38) = m ((c.tc : Thread Cert.Kernel13Ideal.nD Cert.Kernel13Ideal.τ).loc Cert.Kernel13Ideal.main_arg38)
          ∧ r.2.mem ((c.tc : Thread Cert.Kernel13Ideal.nD Cert.Kernel13Ideal.τ).loc Cert.Kernel13Ideal.main_arg39) = m ((c.tc : Thread Cert.Kernel13Ideal.nD Cert.Kernel13Ideal.τ).loc Cert.Kernel13Ideal.main_arg39)
          ∧ r.2.mem ((c.tc : Thread Cert.Kernel13Ideal.nD Cert.Kernel13Ideal.τ).loc Cert.Kernel13Ideal.main_arg40) = m ((c.tc : Thread Cert.Kernel13Ideal.nD Cert.Kernel13Ideal.τ).loc Cert.Kernel13Ideal.main_arg40)
          ∧ r.2.mem ((c.tc : Thread Cert.Kernel13Ideal.nD Cert.Kernel13Ideal.τ).loc Cert.Kernel13Ideal.main_arg41) = m ((c.tc : Thread Cert.Kernel13Ideal.nD Cert.Kernel13Ideal.τ).loc Cert.Kernel13Ideal.main_arg41)
          ∧ r.2.mem ((c.tc : Thread Cert.Kernel13Ideal.nD Cert.Kernel13Ideal.τ).loc Cert.Kernel13Ideal.main_arg42) = m ((c.tc : Thread Cert.Kernel13Ideal.nD Cert.Kernel13Ideal.τ).loc Cert.Kernel13Ideal.main_arg42)
          ∧ r.2.mem ((c.tc : Thread Cert.Kernel13Ideal.nD Cert.Kernel13Ideal.τ).loc Cert.Kernel13Ideal.main_arg43) = m ((c.tc : Thread Cert.Kernel13Ideal.nD Cert.Kernel13Ideal.τ).loc Cert.Kernel13Ideal.main_arg43))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v47) = v3 c
          ∧ r.2.mem ((c.tc : Thread Cert.Reference13Ideal.nD Cert.Reference13Ideal.τ).loc Cert.Reference13Ideal.main_v28) = v4 c
          ∧ r.2.mem ((c.tc : Thread Cert.Reference13Ideal.nD Cert.Reference13Ideal.τ).loc Cert.Reference13Ideal.main_v34) = v5 c
          ∧ r.2.mem ((c.tc : Thread Cert.Reference13Ideal.nD Cert.Reference13Ideal.τ).loc Cert.Reference13Ideal.main_v71) = v6 c
          ∧ r.2.mem ((c.tc : Thread Cert.Reference13Ideal.nD Cert.Reference13Ideal.τ).loc Cert.Reference13Ideal.main_v52) = v7 c
          ∧ r.2.mem ((c.tc : Thread Cert.Reference13Ideal.nD Cert.Reference13Ideal.τ).loc Cert.Reference13Ideal.main_v58) = v8 c
          ∧ r.2.mem ((c.tc : Thread Cert.Reference13Ideal.nD Cert.Reference13Ideal.τ).loc Cert.Reference13Ideal.main_v95) = v9 c
          ∧ r.2.mem ((c.tc : Thread Cert.Reference13Ideal.nD Cert.Reference13Ideal.τ).loc Cert.Reference13Ideal.main_v76) = v10 c
          ∧ r.2.mem ((c.tc : Thread Cert.Reference13Ideal.nD Cert.Reference13Ideal.τ).loc Cert.Reference13Ideal.main_v82) = v11 c
          ∧ r.2.mem ((c.tc : Thread Cert.Reference13Ideal.nD Cert.Reference13Ideal.τ).loc Cert.Reference13Ideal.main_v119) = v12 c
          ∧ r.2.mem ((c.tc : Thread Cert.Reference13Ideal.nD Cert.Reference13Ideal.τ).loc Cert.Reference13Ideal.main_v100) = v13 c
          ∧ r.2.mem ((c.tc : Thread Cert.Reference13Ideal.nD Cert.Reference13Ideal.τ).loc Cert.Reference13Ideal.main_v106) = v14 c
          ∧ r.2.mem ((c.tc : Thread Cert.Reference13Ideal.nD Cert.Reference13Ideal.τ).loc Cert.Reference13Ideal.main_v143) = v15 c
          ∧ r.2.mem ((c.tc : Thread Cert.Reference13Ideal.nD Cert.Reference13Ideal.τ).loc Cert.Reference13Ideal.main_v124) = v16 c
          ∧ r.2.mem ((c.tc : Thread Cert.Reference13Ideal.nD Cert.Reference13Ideal.τ).loc Cert.Reference13Ideal.main_v130) = v17 c
          ∧ r.2.mem ((c.tc : Thread Cert.Reference13Ideal.nD Cert.Reference13Ideal.τ).loc Cert.Reference13Ideal.main_v167) = v18 c
          ∧ r.2.mem ((c.tc : Thread Cert.Reference13Ideal.nD Cert.Reference13Ideal.τ).loc Cert.Reference13Ideal.main_v148) = v19 c
          ∧ r.2.mem ((c.tc : Thread Cert.Reference13Ideal.nD Cert.Reference13Ideal.τ).loc Cert.Reference13Ideal.main_v154) = v20 c
          ∧ r.2.mem ((c.tc : Thread Cert.Reference13Ideal.nD Cert.Reference13Ideal.τ).loc Cert.Reference13Ideal.main_v191) = v21 c
          ∧ r.2.mem ((c.tc : Thread Cert.Reference13Ideal.nD Cert.Reference13Ideal.τ).loc Cert.Reference13Ideal.main_v172) = v22 c
          ∧ r.2.mem ((c.tc : Thread Cert.Reference13Ideal.nD Cert.Reference13Ideal.τ).loc Cert.Reference13Ideal.main_v178) = v23 c
          ∧ r.2.mem ((c.tc : Thread Cert.Reference13Ideal.nD Cert.Reference13Ideal.τ).loc Cert.Reference13Ideal.main_v215) = v24 c
          ∧ r.2.mem ((c.tc : Thread Cert.Reference13Ideal.nD Cert.Reference13Ideal.τ).loc Cert.Reference13Ideal.main_v196) = v25 c
          ∧ r.2.mem ((c.tc : Thread Cert.Reference13Ideal.nD Cert.Reference13Ideal.τ).loc Cert.Reference13Ideal.main_v202) = v26 c
          ∧ r.2.mem ((c.tc : Thread Cert.Reference13Ideal.nD Cert.Reference13Ideal.τ).loc Cert.Reference13Ideal.main_v239) = v27 c
          ∧ r.2.mem ((c.tc : Thread Cert.Reference13Ideal.nD Cert.Reference13Ideal.τ).loc Cert.Reference13Ideal.main_v220) = v28 c
          ∧ r.2.mem ((c.tc : Thread Cert.Reference13Ideal.nD Cert.Reference13Ideal.τ).loc Cert.Reference13Ideal.main_v226) = v29 c
          ∧ r.2.mem ((c.tc : Thread Cert.Reference13Ideal.nD Cert.Reference13Ideal.τ).loc Cert.Reference13Ideal.main_v263) = v30 c
          ∧ r.2.mem ((c.tc : Thread Cert.Reference13Ideal.nD Cert.Reference13Ideal.τ).loc Cert.Reference13Ideal.main_v244) = v31 c
          ∧ r.2.mem ((c.tc : Thread Cert.Reference13Ideal.nD Cert.Reference13Ideal.τ).loc Cert.Reference13Ideal.main_v250) = v32 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23)
          ∧ r.2.mem ((c.tc : Thread Cert.Reference13Ideal.nD Cert.Reference13Ideal.τ).loc Cert.Reference13Ideal.main_arg24) = m' ((c.tc : Thread Cert.Reference13Ideal.nD Cert.Reference13Ideal.τ).loc Cert.Reference13Ideal.main_arg24)
          ∧ r.2.mem ((c.tc : Thread Cert.Reference13Ideal.nD Cert.Reference13Ideal.τ).loc Cert.Reference13Ideal.main_arg25) = m' ((c.tc : Thread Cert.Reference13Ideal.nD Cert.Reference13Ideal.τ).loc Cert.Reference13Ideal.main_arg25)
          ∧ r.2.mem ((c.tc : Thread Cert.Reference13Ideal.nD Cert.Reference13Ideal.τ).loc Cert.Reference13Ideal.main_arg26) = m' ((c.tc : Thread Cert.Reference13Ideal.nD Cert.Reference13Ideal.τ).loc Cert.Reference13Ideal.main_arg26)
          ∧ r.2.mem ((c.tc : Thread Cert.Reference13Ideal.nD Cert.Reference13Ideal.τ).loc Cert.Reference13Ideal.main_arg27) = m' ((c.tc : Thread Cert.Reference13Ideal.nD Cert.Reference13Ideal.τ).loc Cert.Reference13Ideal.main_arg27)
          ∧ r.2.mem ((c.tc : Thread Cert.Reference13Ideal.nD Cert.Reference13Ideal.τ).loc Cert.Reference13Ideal.main_arg28) = m' ((c.tc : Thread Cert.Reference13Ideal.nD Cert.Reference13Ideal.τ).loc Cert.Reference13Ideal.main_arg28)
          ∧ r.2.mem ((c.tc : Thread Cert.Reference13Ideal.nD Cert.Reference13Ideal.τ).loc Cert.Reference13Ideal.main_arg29) = m' ((c.tc : Thread Cert.Reference13Ideal.nD Cert.Reference13Ideal.τ).loc Cert.Reference13Ideal.main_arg29)
          ∧ r.2.mem ((c.tc : Thread Cert.Reference13Ideal.nD Cert.Reference13Ideal.τ).loc Cert.Reference13Ideal.main_arg30) = m' ((c.tc : Thread Cert.Reference13Ideal.nD Cert.Reference13Ideal.τ).loc Cert.Reference13Ideal.main_arg30)
          ∧ r.2.mem ((c.tc : Thread Cert.Reference13Ideal.nD Cert.Reference13Ideal.τ).loc Cert.Reference13Ideal.main_arg31) = m' ((c.tc : Thread Cert.Reference13Ideal.nD Cert.Reference13Ideal.τ).loc Cert.Reference13Ideal.main_arg31)
          ∧ r.2.mem ((c.tc : Thread Cert.Reference13Ideal.nD Cert.Reference13Ideal.τ).loc Cert.Reference13Ideal.main_arg32) = m' ((c.tc : Thread Cert.Reference13Ideal.nD Cert.Reference13Ideal.τ).loc Cert.Reference13Ideal.main_arg32)
          ∧ r.2.mem ((c.tc : Thread Cert.Reference13Ideal.nD Cert.Reference13Ideal.τ).loc Cert.Reference13Ideal.main_arg33) = m' ((c.tc : Thread Cert.Reference13Ideal.nD Cert.Reference13Ideal.τ).loc Cert.Reference13Ideal.main_arg33)
          ∧ r.2.mem ((c.tc : Thread Cert.Reference13Ideal.nD Cert.Reference13Ideal.τ).loc Cert.Reference13Ideal.main_arg34) = m' ((c.tc : Thread Cert.Reference13Ideal.nD Cert.Reference13Ideal.τ).loc Cert.Reference13Ideal.main_arg34)
          ∧ r.2.mem ((c.tc : Thread Cert.Reference13Ideal.nD Cert.Reference13Ideal.τ).loc Cert.Reference13Ideal.main_arg35) = m' ((c.tc : Thread Cert.Reference13Ideal.nD Cert.Reference13Ideal.τ).loc Cert.Reference13Ideal.main_arg35)
          ∧ r.2.mem ((c.tc : Thread Cert.Reference13Ideal.nD Cert.Reference13Ideal.τ).loc Cert.Reference13Ideal.main_arg36) = m' ((c.tc : Thread Cert.Reference13Ideal.nD Cert.Reference13Ideal.τ).loc Cert.Reference13Ideal.main_arg36)
          ∧ r.2.mem ((c.tc : Thread Cert.Reference13Ideal.nD Cert.Reference13Ideal.τ).loc Cert.Reference13Ideal.main_arg37) = m' ((c.tc : Thread Cert.Reference13Ideal.nD Cert.Reference13Ideal.τ).loc Cert.Reference13Ideal.main_arg37)
          ∧ r.2.mem ((c.tc : Thread Cert.Reference13Ideal.nD Cert.Reference13Ideal.τ).loc Cert.Reference13Ideal.main_arg38) = m' ((c.tc : Thread Cert.Reference13Ideal.nD Cert.Reference13Ideal.τ).loc Cert.Reference13Ideal.main_arg38)
          ∧ r.2.mem ((c.tc : Thread Cert.Reference13Ideal.nD Cert.Reference13Ideal.τ).loc Cert.Reference13Ideal.main_arg39) = m' ((c.tc : Thread Cert.Reference13Ideal.nD Cert.Reference13Ideal.τ).loc Cert.Reference13Ideal.main_arg39)
          ∧ r.2.mem ((c.tc : Thread Cert.Reference13Ideal.nD Cert.Reference13Ideal.τ).loc Cert.Reference13Ideal.main_arg40) = m' ((c.tc : Thread Cert.Reference13Ideal.nD Cert.Reference13Ideal.τ).loc Cert.Reference13Ideal.main_arg40)
          ∧ r.2.mem ((c.tc : Thread Cert.Reference13Ideal.nD Cert.Reference13Ideal.τ).loc Cert.Reference13Ideal.main_arg41) = m' ((c.tc : Thread Cert.Reference13Ideal.nD Cert.Reference13Ideal.τ).loc Cert.Reference13Ideal.main_arg41)
          ∧ r.2.mem ((c.tc : Thread Cert.Reference13Ideal.nD Cert.Reference13Ideal.τ).loc Cert.Reference13Ideal.main_arg42) = m' ((c.tc : Thread Cert.Reference13Ideal.nD Cert.Reference13Ideal.τ).loc Cert.Reference13Ideal.main_arg42)
          ∧ r.2.mem ((c.tc : Thread Cert.Reference13Ideal.nD Cert.Reference13Ideal.τ).loc Cert.Reference13Ideal.main_arg43) = m' ((c.tc : Thread Cert.Reference13Ideal.nD Cert.Reference13Ideal.τ).loc Cert.Reference13Ideal.main_arg43))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0)) (v1 : (c : Dev Cert.Kernel14Ideal.nD) → Buf (Elt Ideal) ((c.tc : Thread Cert.Kernel14Ideal.nD Cert.Kernel14Ideal.τ).loc Cert.Kernel14Ideal.main_v1)) (v2 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_v1) = v1 c
          ∧ r.2.mem ((c.tc : Thread Cert.Kernel14Ideal.nD Cert.Kernel14Ideal.τ).loc Cert.Kernel14Ideal.main_v2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v1_0)) (v3 : (c : Dev Cert.Kernel15Ideal.nD) → Buf (Elt Ideal) ((c.tc : Thread Cert.Kernel15Ideal.nD Cert.Kernel15Ideal.τ).loc Cert.Kernel15Ideal.main_v1_1)) (v4 : (c : Dev Cert.Kernel15Ideal.nD) → Buf (Elt Ideal) ((c.tc : Thread Cert.Kernel15Ideal.nD Cert.Kernel15Ideal.τ).loc Cert.Kernel15Ideal.main_v2_0)) (v5 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v1_0) = v2 c
          ∧ r.2.mem ((c.tc : Thread Cert.Kernel15Ideal.nD Cert.Kernel15Ideal.τ).loc Cert.Kernel15Ideal.main_v1_1) = v3 c
          ∧ r.2.mem ((c.tc : Thread Cert.Kernel15Ideal.nD Cert.Kernel15Ideal.τ).loc Cert.Kernel15Ideal.main_v2_0) = v4 c
          ∧ r.2.mem ((c.tc : Thread Cert.Kernel15Ideal.nD Cert.Kernel15Ideal.τ).loc Cert.Kernel15Ideal.main_v2_1) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v69) = v2 c
          ∧ r.2.mem ((c.tc : Thread Cert.Reference15Ideal.nD Cert.Reference15Ideal.τ).loc Cert.Reference15Ideal.main_v52) = v3 c
          ∧ r.2.mem ((c.tc : Thread Cert.Reference15Ideal.nD Cert.Reference15Ideal.τ).loc Cert.Reference15Ideal.main_v104) = v4 c
          ∧ r.2.mem ((c.tc : Thread Cert.Reference15Ideal.nD Cert.Reference15Ideal.τ).loc Cert.Reference15Ideal.main_v87) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v49) = v0 c
          ∧ r.2.mem ((c.tc : Thread Cert.Reference16Ideal.nD Cert.Reference16Ideal.τ).loc Cert.Reference16Ideal.main_v48) = v1 c
          ∧ r.2.mem ((c.tc : Thread Cert.Reference16Ideal.nD Cert.Reference16Ideal.τ).loc Cert.Reference16Ideal.main_v32) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite9 (hKernel10Ideal := hKernel10Ideal) (hPre_finite9 := hPre_finite9)
    ∧ quiescent_Reference10Ideal (hReference10Ideal := hReference10Ideal)
    ∧ quiescent_Reference10Ideal_pre_finite9 (hReference10Ideal := hReference10Ideal) (hPre_finite9 := hPre_finite9)
    ∧ quiescent_Kernel11 (hKernel11 := hKernel11)
    ∧ quiescent_Kernel11Ideal (hKernel11Ideal := hKernel11Ideal)
    ∧ quiescent_Kernel11Ideal_pre_finite (hKernel11Ideal := hKernel11Ideal) (hPre_finite := hPre_finite)
    ∧ quiescent_Reference11Ideal (hReference11Ideal := hReference11Ideal)
    ∧ quiescent_Reference11Ideal_pre_finite (hReference11Ideal := hReference11Ideal) (hPre_finite := hPre_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite9 (hKernel10Ideal := hKernel10Ideal) (hReference10Ideal := hReference10Ideal) (hPre_finite9 := hPre_finite9)
    ∧ preserves_Kernel11_Kernel11Ideal
    ∧ algebraic_Kernel11Ideal_Reference11Ideal_pre_finite (hKernel11Ideal := hKernel11Ideal) (hReference11Ideal := hReference11Ideal) (hPre_finite := hPre_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x4x64 : Shape := ⟨3, ![4096, 4, 64]⟩
abbrev S4096x4 : Shape := ⟨2, ![4096, 4]⟩
abbrev S_ : Shape := ⟨0, ![]⟩

class Facts : Prop where
  bcast_S_S4096x4x64 : S_.BroadcastsInDim S4096x4x64 (![] : Fin 0 → Fin S4096x4x64.rank)
  bcast_S_S4096x4 : S_.BroadcastsInDim S4096x4 (![] : Fin 0 → Fin S4096x4.rank)

variable [Facts]

def fn {F : FTy → Type} [FloatOps F] (main_arg0 : FVec F S4096x4x64 .f32) (main_arg1 : FVec F S4096x4x64 .f32) (main_arg2 : FVec F S4096x4x64 .f32) (main_arg3 : FVec F S4096x4 .f32) (main_arg4 : FVec F S4096x4x64 .f32) : IVec S4096x4x64 1 × IVec S4096x4x64 1 × IVec S4096x4x64 1 × IVec S4096x4 1 × IVec S4096x4x64 1 :=
  let main_v0 : FVec F S4096x4x64 .f32 := Host.absf main_arg0
  let main_cst : FVec F S_ .f32 := constant S_ .f32 0x7F800000#32
  let main_v1 : FVec F S4096x4x64 .f32 := broadcastInDim S4096x4x64 ![] bcast_S_S4096x4x64 main_cst
  let main_v2 : IVec S4096x4x64 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S4096x4 .f32 := Host.absf main_arg3
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_v12 : FVec F S4096x4x64 .f32 := Host.absf main_arg4
  let main_cst_3 : FVec F S_ .f32 := constant S_ .f32 0x7F800000#32
  let main_v13 : FVec F S4096x4x64 .f32 := broadcastInDim S4096x4x64 ![] bcast_S_S4096x4x64 main_cst_3
  let main_v14 : IVec S4096x4x64 1 := cmpf .olt main_v12 main_v13
  (main_v2, main_v5, main_v8, main_v11, main_v14)
-- ==== Pre_finite9.lean ====
abbrev S4096x4x96 : Shape := ⟨3, ![4096, 4, 96]⟩
abbrev S4096x4x64 : Shape := ⟨3, ![4096, 4, 64]⟩
abbrev S_ : Shape := ⟨0, ![]⟩

class Facts : Prop where
  bcast_S_S4096x4x96 : S_.BroadcastsInDim S4096x4x96 (![] : Fin 0 → Fin S4096x4x96.rank)
  bcast_S_S4096x4x64 : S_.BroadcastsInDim S4096x4x64 (![] : Fin 0 → Fin S4096x4x64.rank)

variable [Facts]

def fn {F : FTy → Type} [FloatOps F] (main_arg0 : FVec F S4096x4x96 .f32) (main_arg1 : FVec F S4096x4x96 .f32) (main_arg2 : FVec F S4096x4x64 .f32) (main_arg3 : FVec F S4096x4x64 .f32) : IVec S4096x4x96 1 × IVec S4096x4x96 1 × IVec S4096x4x64 1 × IVec S4096x4x64 1 :=
  let main_v0 : FVec F S4096x4x96 .f32 := Host.absf main_arg0
  let main_cst : FVec F S_ .f32 := constant S_ .f32 0x7F800000#32
  let main_v1 : FVec F S4096x4x96 .f32 := broadcastInDim S4096x4x96 ![] bcast_S_S4096x4x96 main_cst
  let main_v2 : IVec S4096x4x96 1 := cmpf .olt main_v0 main_v1
  let main_v3 : FVec F S4096x4x96 .f32 := Host.absf main_arg1
  let main_cst_0 : FVec F S_ .f32 := constant S_ .f32 0x7F800000#32
  let main_v4 : FVec F S4096x4x96 .f32 := broadcastInDim S4096x4x96 ![] bcast_S_S4096x4x96 main_cst_0
  let main_v5 : IVec S4096x4x96 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S4096x4x64 .f32 := Host.absf main_arg3
  let main_cst_2 : FVec F S_ .f32 := constant S_ .f32 0x7F800000#32
  let main_v10 : FVec F S4096x4x64 .f32 := broadcastInDim S4096x4x64 ![] bcast_S_S4096x4x64 main_cst_2
  let main_v11 : IVec S4096x4x64 1 := cmpf .olt main_v9 main_v10
  (main_v2, main_v5, main_v8, main_v11)
-- ==== Kernel.lean ====
abbrev S4096x4x64 : Shape := ⟨3, ![4096, 4, 64]⟩
abbrev S4096x4 : Shape := ⟨2, ![4096, 4]⟩
abbrev S_ : Shape := ⟨0, ![]⟩
abbrev S4096x4x128 : Shape := ⟨3, ![4096, 4, 128]⟩
abbrev S4096x512 : Shape := ⟨2, ![4096, 512]⟩
abbrev S4096x1536 : Shape := ⟨2, ![4096, 1536]⟩
abbrev S4x4096 : Shape := ⟨2, ![4, 4096]⟩
abbrev S4x8x1x512 : Shape := ⟨4, ![4, 8, 1, 512]⟩
abbrev S4x4096x1 : Shape := ⟨3, ![4, 4096, 1]⟩
abbrev S512x128 : Shape := ⟨2, ![512, 128]⟩
abbrev S4096x128 : Shape := ⟨2, ![4096, 128]⟩
abbrev S1x8x1x512 : Shape := ⟨4, ![1, 8, 1, 512]⟩
abbrev S1x512x1 : Shape := ⟨3, ![1, 512, 1]⟩
abbrev S1x1x1x512 : Shape := ⟨4, ![1, 1, 1, 512]⟩
abbrev S512x1 : Shape := ⟨2, ![512, 1]⟩
abbrev S512x512 : Shape := ⟨2, ![512, 512]⟩
abbrev S1x512 : Shape := ⟨2, ![1, 512]⟩
abbrev S512 : Shape := ⟨1, ![512]⟩
abbrev S128x512 : Shape := ⟨2, ![128, 512]⟩
abbrev S8x512 : Shape := ⟨2, ![8, 512]⟩

abbrev nBuf : Space → Nat
  | .hbm => 38
  | .vmem => 34
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4x64, .f32⟩
  | .hbm, ⟨5, _⟩ => ⟨S_, .i32⟩
  | .hbm, ⟨6, _⟩ => ⟨S_, .f32⟩
  | .hbm, ⟨7, _⟩ => ⟨S4096x4x128, .f32⟩
  | .hbm, ⟨8, _⟩ => ⟨S4096x512, .f32⟩
  | .hbm, ⟨9, _⟩ => ⟨S_, .i32⟩
  | .hbm, ⟨10, _⟩ => ⟨S_, .f32⟩
  | .hbm, ⟨11, _⟩ => ⟨S4096x4x128, .f32⟩
  | .hbm, ⟨12, _⟩ => ⟨S4096x512, .f32⟩
  | .hbm, ⟨13, _⟩ => ⟨S_, .i32⟩
  | .hbm, ⟨14, _⟩ => ⟨S_, .f32⟩
  | .hbm, ⟨15, _⟩ => ⟨S4096x4x128, .f32⟩
  | .hbm, ⟨16, _⟩ => ⟨S4096x512, .f32⟩
  | .hbm, ⟨17, _⟩ => ⟨S4096x1536, .f32⟩
  | .hbm, ⟨18, _⟩ => ⟨S_, .i32⟩
  | .hbm, ⟨19, _⟩ => ⟨S_, .f32⟩
  | .hbm, ⟨20, _⟩ => ⟨S4096x4x128, .f32⟩
  | .hbm, ⟨21, _⟩ => ⟨S4096x512, .f32⟩
  | .hbm, ⟨22, _⟩ => ⟨S4x4096, .f32⟩
  | .hbm, ⟨23, _⟩ => ⟨S4x8x1x512, .f32⟩
  | .hbm, ⟨24, _⟩ => ⟨S4x4096, .f32⟩
  | .hbm, ⟨25, _⟩ => ⟨S4x4096x1, .f32⟩
  | .hbm, ⟨26, _⟩ => ⟨S4096x512, .f32⟩
  | .hbm, ⟨27, _⟩ => ⟨S4x4096x1, .f32⟩
  | .hbm, ⟨28, _⟩ => ⟨S4x8x1x512, .f32⟩
  | .hbm, ⟨29, _⟩ => ⟨S4096x512, .f32⟩
  | .hbm, ⟨30, _⟩ => ⟨S4096x4x128, .f32⟩
  | .hbm, ⟨31, _⟩ => ⟨S_, .f32⟩
  | .hbm, ⟨32, _⟩ => ⟨S4096x4, .f32⟩
  | .hbm, ⟨33, _⟩ => ⟨S4x4096, .f32⟩
  | .hbm, ⟨34, _⟩ => ⟨S4x8x1x512, .f32⟩
  | .hbm, ⟨35, _⟩ => ⟨S4096x512, .f32⟩
  | .hbm, ⟨36, _⟩ => ⟨S4096x512, .f32⟩
  | .hbm, ⟨37, _⟩ => ⟨S4x4096x1, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x8x1x512, .f32⟩
  | .local _ .vmem, ⟨7, _⟩ => ⟨S1x8x1x512, .f32⟩
  | .local _ .vmem, ⟨8, _⟩ => ⟨S512x128, .f32⟩
  | .local _ .vmem, ⟨9, _⟩ => ⟨S512x128, .f32⟩
  | .local _ .vmem, ⟨10, _⟩ => ⟨S1x512x1, .f32⟩
  | .local _ .vmem, ⟨11, _⟩ => ⟨S1x512x1, .f32⟩
  | .local _ .vmem, ⟨12, _⟩ => ⟨S1x1x1x512, .f32⟩
  | .local _ .vmem, ⟨13, _⟩ => ⟨S1x1x1x512, .f32⟩
  | .local _ .vmem, ⟨14, _⟩ => ⟨S4096x128, .f32⟩
  | .local _ .vmem, ⟨15, _⟩ => ⟨S4096x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S4096x128, .f32⟩
  | .local _ .vmem, ⟨21, _⟩ => ⟨S4096x128, .f32⟩
  | .local _ .vmem, ⟨22, _⟩ => ⟨S1x8x1x512, .f32⟩
  | .local _ .vmem, ⟨23, _⟩ => ⟨S1x8x1x512, .f32⟩
  | .local _ .vmem, ⟨24, _⟩ => ⟨S1x8x1x512, .f32⟩
  | .local _ .vmem, ⟨25, _⟩ => ⟨S1x8x1x512, .f32⟩
  | .local _ .vmem, ⟨26, _⟩ => ⟨S1x512x1, .f32⟩
  | .local _ .vmem, ⟨27, _⟩ => ⟨S1x512x1, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S1x512x1, .f32⟩
  | .local _ .vmem, ⟨33, _⟩ => ⟨S1x512x1, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  ⟨c0_i32, v12, c1_i32_4⟩
def k0_mult1 (i : grid0.Coords) (k0_t1 : Fin (k0_t1_loop i).trips) : BitVec 32 :=
  let c0_i32 : BitVec 32 := 0#32
  let c1_i32_4 : BitVec 32 := 1#32
  let arg9 : BitVec 32 := Scf.iv c0_i32 c1_i32_4 k0_t1
  let c512_i32_27 : BitVec 32 := 512#32
  let v72 : BitVec 32 := Scalar.muli arg9 c512_i32_27
  v72
def k0_off1 (i : grid0.Coords) (k0_t1 : Fin (k0_t1_loop i).trips) : Fin 2 → Nat :=
  let c0_i32 : BitVec 32 := 0#32
  let c1_i32_4 : BitVec 32 := 1#32
  let arg9 : BitVec 32 := Scf.iv c0_i32 c1_i32_4 k0_t1
  let c512_i32_27 : BitVec 32 := 512#32
  let v72 : BitVec 32 := Scalar.muli arg9 c512_i32_27
  let v73 : BitVec 32 := v72
  let v74 : Index := Scalar.indexCast v73
  let c0_28 : Index := 0#32
  ![v74.toNat, 0]
def k0_off2 (i : grid0.Coords) (k0_t1 : Fin (k0_t1_loop i).trips) : Fin 4 → Nat :=
  let c0_31 : Index := 0#32
  let c0_i32 : BitVec 32 := 0#32
  let c1_i32_4 : BitVec 32 := 1#32
  let arg9 : BitVec 32 := Scf.iv c0_i32 c1_i32_4 k0_t1
  let v83 : Index := Scalar.indexCast arg9
  let c0_32 : Index := 0#32
  let c0_33 : Index := 0#32
  ![0, v83.toNat, 0, 0]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_5 : BitVec 32 := 1#32
  ⟨v12, v9, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg9 : BitVec 32 := Scf.iv v12 c1_i32_5 k0_t2
  let c512_i32_27 : BitVec 32 := 512#32
  let v72 : BitVec 32 := Scalar.muli arg9 c512_i32_27
  v72
def k0_off3 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg9 : BitVec 32 := Scf.iv v12 c1_i32_5 k0_t2
  let c512_i32_27 : BitVec 32 := 512#32
  let v72 : BitVec 32 := Scalar.muli arg9 c512_i32_27
  let v73 : BitVec 32 := v72
  let v74 : Index := Scalar.indexCast v73
  let c0_28 : Index := 0#32
  ![v74.toNat, 0]
def k0_off4 (i : grid0.Coords) (k0_t2 : Fin (k0_t2_loop i).trips) : Fin 4 → Nat :=
  let c0_31 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg9 : BitVec 32 := Scf.iv v12 c1_i32_5 k0_t2
  let v83 : Index := Scalar.indexCast arg9
  let c0_32 : Index := 0#32
  let c0_33 : Index := 0#32
  ![0, v83.toNat, 0, 0]
def k0_mult3 (i : grid0.Coords) : BitVec 32 :=
  let arg1 : BitVec 32 := BitVec.ofNat 32 (i 1).val
  let c512_i32 : BitVec 32 := 512#32
  let v15 : BitVec 32 := Scalar.muli arg1 c512_i32
  v15
def k0_off5 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_6 : Index := 0#32
  ![v17.toNat, 0]
def k0_off6 (i : grid0.Coords) : Fin 4 → Nat :=
  let c0_9 : Index := 0#32
  let arg1 : BitVec 32 := BitVec.ofNat 32 (i 1).val
  let v26 : Index := Scalar.indexCast arg1
  let c0_10 : Index := 0#32
  let c0_11 : Index := 0#32
  ![0, v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c1_i32_8 : BitVec 32 := 1#32
  let v12 : BitVec 32 := Scalar.muli arg1 c1_i32_8
  let c0_i32 : BitVec 32 := 0#32
  let v13 : BitVec 32 := Scalar.addi v12 c0_i32
  let c512_i32 : BitVec 32 := 512#32
  let v14 : BitVec 32 := Scalar.muli v13 c512_i32
  v14
def k1_off1 (i : grid1.Coords) : Fin 2 → Nat :=
  let arg1 : BitVec 32 := BitVec.ofNat 32 (i 1).val
  let c1_i32_8 : BitVec 32 := 1#32
  let v12 : BitVec 32 := Scalar.muli arg1 c1_i32_8
  let c0_i32 : BitVec 32 := 0#32
  let v13 : BitVec 32 := Scalar.addi v12 c0_i32
  let c512_i32 : BitVec 32 := 512#32
  let v14 : BitVec 32 := Scalar.muli v13 c512_i32
  let v15 : BitVec 32 := v14
  let v16 : Index := Scalar.indexCast v15
  let c0_9 : Index := 0#32
  ![v16.toNat, 0]
def k1_off2 (i : grid1.Coords) : Fin 4 → Nat :=
  let c0_15 : Index := 0#32
  let arg1 : BitVec 32 := BitVec.ofNat 32 (i 1).val
  let c1_i32_8 : BitVec 32 := 1#32
  let v12 : BitVec 32 := Scalar.muli arg1 c1_i32_8
  let c0_i32 : BitVec 32 := 0#32
  let v13 : BitVec 32 := Scalar.addi v12 c0_i32
  let v37 : Index := Scalar.indexCast v13
  let c0_16 : Index := 0#32
  let c0_17 : Index := 0#32
  ![0, v37.toNat, 0, 0]
@[reducible] def k1_t1_loop (i : grid1.Coords) : Scf.Loop 32 :=
  let arg1 : BitVec 32 := BitVec.ofNat 32 (i 1).val
  let c1_i32 : BitVec 32 := 1#32
  let v11 : BitVec 32 := Scalar.addi arg1 c1_i32
  let c8_i32 : BitVec 32 := 8#32
  let v58 : BitVec 32 := Scalar.subi c8_i32 v11
  let c1_i32_24 : BitVec 32 := 1#32
  let v60 : BitVec 32 := Scalar.divsi v58 c1_i32_24
  let v61 : BitVec 32 := Scalar.muli v60 c1_i32_24
  let v62 : BitVec 32 := Scalar.addi v11 v61
  let c1_i32_25 : BitVec 32 := 1#32
  ⟨v11, v62, c1_i32_25⟩
def k1_mult2 (i : grid1.Coords) (k1_t1 : Fin (k1_t1_loop i).trips) : BitVec 32 :=
  let arg1 : BitVec 32 := BitVec.ofNat 32 (i 1).val
  let c1_i32 : BitVec 32 := 1#32
  let v11 : BitVec 32 := Scalar.addi arg1 c1_i32
  let c1_i32_25 : BitVec 32 := 1#32
  let arg12 : BitVec 32 := Scf.iv v11 c1_i32_25 k1_t1
  let c1_i32_37 : BitVec 32 := 1#32
  let v76 : BitVec 32 := Scalar.muli arg12 c1_i32_37
  let c0_i32_38 : BitVec 32 := 0#32
  let v77 : BitVec 32 := Scalar.addi v76 c0_i32_38
  let c512_i32_39 : BitVec 32 := 512#32
  let v78 : BitVec 32 := Scalar.muli v77 c512_i32_39
  v78
def k1_off3 (i : grid1.Coords) (k1_t1 : Fin (k1_t1_loop i).trips) : Fin 2 → Nat :=
  let arg1 : BitVec 32 := BitVec.ofNat 32 (i 1).val
  let c1_i32 : BitVec 32 := 1#32
  let v11 : BitVec 32 := Scalar.addi arg1 c1_i32
  let c1_i32_25 : BitVec 32 := 1#32
  let arg12 : BitVec 32 := Scf.iv v11 c1_i32_25 k1_t1
  let c1_i32_37 : BitVec 32 := 1#32
  let v76 : BitVec 32 := Scalar.muli arg12 c1_i32_37
  let c0_i32_38 : BitVec 32 := 0#32
  let v77 : BitVec 32 := Scalar.addi v76 c0_i32_38
  let c512_i32_39 : BitVec 32 := 512#32
  let v78 : BitVec 32 := Scalar.muli v77 c512_i32_39
  let v79 : BitVec 32 := v78
  let v80 : Index := Scalar.indexCast v79
  let c0_40 : Index := 0#32
  ![v80.toNat, 0]
def k1_off4 (i : grid1.Coords) (k1_t1 : Fin (k1_t1_loop i).trips) : Fin 4 → Nat :=
  let c0_44 : Index := 0#32
  let arg1 : BitVec 32 := BitVec.ofNat 32 (i 1).val
  let c1_i32 : BitVec 32 := 1#32
  let v11 : BitVec 32 := Scalar.addi arg1 c1_i32
  let c1_i32_25 : BitVec 32 := 1#32
  let arg12 : BitVec 32 := Scf.iv v11 c1_i32_25 k1_t1
  let c1_i32_37 : BitVec 32 := 1#32
  let v76 : BitVec 32 := Scalar.muli arg12 c1_i32_37
  let c0_i32_38 : BitVec 32 := 0#32
  let v77 : BitVec 32 := Scalar.addi v76 c0_i32_38
  let v94 : Index := Scalar.indexCast v77
  let c0_45 : Index := 0#32
  let c0_46 : Index := 0#32
  ![0, v94.toNat, 0, 0]
@[reducible] def k1_t2_loop (i : grid1.Coords) : Scf.Loop 32 :=
  let arg1 : BitVec 32 := BitVec.ofNat 32 (i 1).val
  let c1_i32 : BitVec 32 := 1#32
  let v11 : BitVec 32 := Scalar.addi arg1 c1_i32
  let c8_i32 : BitVec 32 := 8#32
  let v58 : BitVec 32 := Scalar.subi c8_i32 v11
  let c1_i32_24 : BitVec 32 := 1#32
  let v60 : BitVec 32 := Scalar.divsi v58 c1_i32_24
  let v61 : BitVec 32 := Scalar.muli v60 c1_i32_24
  let v62 : BitVec 32 := Scalar.addi v11 v61
  let v59 : BitVec 32 := Scalar.addi v11 v58
  let c1_i32_26 : BitVec 32 := 1#32
  ⟨v62, v59, c1_i32_26⟩
def k1_mult3 (i : grid1.Coords) (k1_t2 : Fin (k1_t2_loop i).trips) : BitVec 32 :=
  let arg1 : BitVec 32 := BitVec.ofNat 32 (i 1).val
  let c1_i32 : BitVec 32 := 1#32
  let v11 : BitVec 32 := Scalar.addi arg1 c1_i32
  let c8_i32 : BitVec 32 := 8#32
  let v58 : BitVec 32 := Scalar.subi c8_i32 v11
  let c1_i32_24 : BitVec 32 := 1#32
  let v60 : BitVec 32 := Scalar.divsi v58 c1_i32_24
  let v61 : BitVec 32 := Scalar.muli v60 c1_i32_24
  let v62 : BitVec 32 := Scalar.addi v11 v61
  let c1_i32_26 : BitVec 32 := 1#32
  let arg12 : BitVec 32 := Scf.iv v62 c1_i32_26 k1_t2
  let c1_i32_37 : BitVec 32 := 1#32
  let v76 : BitVec 32 := Scalar.muli arg12 c1_i32_37
  let c0_i32_38 : BitVec 32 := 0#32
  let v77 : BitVec 32 := Scalar.addi v76 c0_i32_38
  let c512_i32_39 : BitVec 32 := 512#32
  let v78 : BitVec 32 := Scalar.muli v77 c512_i32_39
  v78
def k1_off5 (i : grid1.Coords) (k1_t2 : Fin (k1_t2_loop i).trips) : Fin 2 → Nat :=
  let arg1 : BitVec 32 := BitVec.ofNat 32 (i 1).val
  let c1_i32 : BitVec 32 := 1#32
  let v11 : BitVec 32 := Scalar.addi arg1 c1_i32
  let c8_i32 : BitVec 32 := 8#32
  let v58 : BitVec 32 := Scalar.subi c8_i32 v11
  let c1_i32_24 : BitVec 32 := 1#32
  let v60 : BitVec 32 := Scalar.divsi v58 c1_i32_24
  let v61 : BitVec 32 := Scalar.muli v60 c1_i32_24
  let v62 : BitVec 32 := Scalar.addi v11 v61
  let c1_i32_26 : BitVec 32 := 1#32
  let arg12 : BitVec 32 := Scf.iv v62 c1_i32_26 k1_t2
  let c1_i32_37 : BitVec 32 := 1#32
  let v76 : BitVec 32 := Scalar.muli arg12 c1_i32_37
  let c0_i32_38 : BitVec 32 := 0#32
  let v77 : BitVec 32 := Scalar.addi v76 c0_i32_38
  let c512_i32_39 : BitVec 32 := 512#32
  let v78 : BitVec 32 := Scalar.muli v77 c512_i32_39
  let v79 : BitVec 32 := v78
  let v80 : Index := Scalar.indexCast v79
  let c0_40 : Index := 0#32
  ![v80.toNat, 0]
def k1_off6 (i : grid1.Coords) (k1_t2 : Fin (k1_t2_loop i).trips) : Fin 4 → Nat :=
  let c0_44 : Index := 0#32
  let arg1 : BitVec 32 := BitVec.ofNat 32 (i 1).val
  let c1_i32 : BitVec 32 := 1#32
  let v11 : BitVec 32 := Scalar.addi arg1 c1_i32
  let c8_i32 : BitVec 32 := 8#32
  let v58 : BitVec 32 := Scalar.subi c8_i32 v11
  let c1_i32_24 : BitVec 32 := 1#32
  let v60 : BitVec 32 := Scalar.divsi v58 c1_i32_24
  let v61 : BitVec 32 := Scalar.muli v60 c1_i32_24
  let v62 : BitVec 32 := Scalar.addi v11 v61
  let c1_i32_26 : BitVec 32 := 1#32
  let arg12 : BitVec 32 := Scf.iv v62 c1_i32_26 k1_t2
  let c1_i32_37 : BitVec 32 := 1#32
  let v76 : BitVec 32 := Scalar.muli arg12 c1_i32_37
  let c0_i32_38 : BitVec 32 := 0#32
  let v77 : BitVec 32 := Scalar.addi v76 c0_i32_38
  let v94 : Index := Scalar.indexCast v77
  let c0_45 : Index := 0#32
  let c0_46 : Index := 0#32
  ![0, v94.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S4096x4x64 : Shape := ⟨3, ![4096, 4, 64]⟩
abbrev S4096x4 : Shape := ⟨2, ![4096, 4]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4x4096x64 : Shape := ⟨3, ![4, 4096, 64]⟩
abbrev S4096x4x128 : Shape := ⟨3, ![4096, 4, 128]⟩
abbrev S4096x512 : Shape := ⟨2, ![4096, 512]⟩

abbrev nBuf : Space → Nat
  | .hbm => 126
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4x64, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .i1⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S4x4096, .i1⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x4096, .f32⟩
  | .hbm, ⟨63, _⟩ => ⟨S4x4096x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x64x4096, .f32⟩
  | .hbm, ⟨69, _⟩ => ⟨S4096x4x64, .f32⟩
  | .hbm, ⟨70, _⟩ => ⟨S4x64x4096, .f32⟩
  | .hbm, ⟨71, _⟩ => ⟨S4x4096x4096, .f32⟩
  | .hbm, ⟨72, _⟩ => ⟨S4x64x4096, .f32⟩
  | .hbm, ⟨73, _⟩ => ⟨S4096x4x64, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S4x4096x1, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x1x4096, .f32⟩
  | .hbm, ⟨95, _⟩ => ⟨S_, .f32⟩
  | .hbm, ⟨96, _⟩ => ⟨S4x4096, .f32⟩
  | .hbm, ⟨97, _⟩ => ⟨S4096x4, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096, .f32⟩
  | .hbm, ⟨103, _⟩ => ⟨S4096x4, .f32⟩
  | .hbm, ⟨104, _⟩ => ⟨S4096x4, .f32⟩
  | .hbm, ⟨105, _⟩ => ⟨S_, .f32⟩
  | .hbm, ⟨106, _⟩ => ⟨S4x4096x4096, .f32⟩
  | .hbm, ⟨107, _⟩ => ⟨S4x4096x4096, .f32⟩
  | .hbm, ⟨108, _⟩ => ⟨S4x4096x64, .f32⟩
  | .hbm, ⟨109, _⟩ => ⟨S4096x4x64, .f32⟩
  | .hbm, ⟨110, _⟩ => ⟨S4x4096x64, .f32⟩
  | .hbm, ⟨111, _⟩ => ⟨S4096x4x64, .f32⟩
  | .hbm, ⟨112, _⟩ => ⟨S_, .f32⟩
  | .hbm, ⟨113, _⟩ => ⟨S4096x4x64, .f32⟩
  | .hbm, ⟨114, _⟩ => ⟨S4096x4x128, .f32⟩
  | .hbm, ⟨115, _⟩ => ⟨S4096x512, .f32⟩
  | .hbm, ⟨116, _⟩ => ⟨S_, .f32⟩
  | .hbm, ⟨117, _⟩ => ⟨S4096x4x64, .f32⟩
  | .hbm, ⟨118, _⟩ => ⟨S4096x4x128, .f32⟩
  | .hbm, ⟨119, _⟩ => ⟨S4096x512, .f32⟩
  | .hbm, ⟨120, _⟩ => ⟨S_, .f32⟩
  | .hbm, ⟨121, _⟩ => ⟨S4096x4x64, .f32⟩
  | .hbm, ⟨122, _⟩ => ⟨S4096x4x128, .f32⟩
  | .hbm, ⟨123, _⟩ => ⟨S4096x512, .f32⟩
  | .hbm, ⟨124, _⟩ => ⟨S4x4096, .f32⟩
  | .hbm, ⟨125, _⟩ => ⟨S4x4096x1, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4096x5632 : Shape := ⟨2, ![4096, 5632]⟩
abbrev S512x1024 : Shape := ⟨2, ![512, 1024]⟩
abbrev S1024x2816 : Shape := ⟨2, ![1024, 2816]⟩
abbrev S512x2816 : Shape := ⟨2, ![512, 2816]⟩
abbrev S8x128 : Shape := ⟨2, ![8, 128]⟩
abbrev S1x5632 : Shape := ⟨2, ![1, 5632]⟩
abbrev S4096x2816 : Shape := ⟨2, ![4096, 2816]⟩
abbrev S4096x256 : Shape := ⟨2, ![4096, 256]⟩
abbrev S8x256 : Shape := ⟨2, ![8, 256]⟩
abbrev S3x256 : Shape := ⟨2, ![3, 256]⟩
abbrev S1x256 : Shape := ⟨2, ![1, 256]⟩
abbrev S4104x256 : Shape := ⟨2, ![4104, 256]⟩

abbrev nBuf : Space → Nat
  | .hbm => 13
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S1024x5632, .bf16⟩
  | .hbm, ⟨8, _⟩ => ⟨S4096x5632, .f32⟩
  | .hbm, ⟨9, _⟩ => ⟨S1x5632, .f32⟩
  | .hbm, ⟨10, _⟩ => ⟨S4096x2816, .bf16⟩
  | .hbm, ⟨11, _⟩ => ⟨S2816x1024, .bf16⟩
  | .hbm, ⟨12, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | .local _ .vmem, ⟨6, _⟩ => ⟨S8x128, .f32⟩
  | .local _ .vmem, ⟨7, _⟩ => ⟨S4096x256, .f32⟩
  | .local _ .vmem, ⟨8, _⟩ => ⟨S4096x256, .f32⟩
  | .local _ .vmem, ⟨9, _⟩ => ⟨S8x256, .f32⟩
  | .local _ .vmem, ⟨10, _⟩ => ⟨S8x256, .f32⟩
  | .local _ .vmem, ⟨11, _⟩ => ⟨S4096x256, .f32⟩
  | .local _ .vmem, ⟨12, _⟩ => ⟨S4096x256, .f32⟩
  | .local _ .vmem, ⟨13, _⟩ => ⟨S8x256, .f32⟩
  | .local _ .vmem, ⟨14, _⟩ => ⟨S8x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S4096x256, .bf16⟩
  | .local _ .vmem, ⟨24, _⟩ => ⟨S4096x256, .bf16⟩
  | .local _ .vmem, ⟨25, _⟩ => ⟨S512x2816, .bf16⟩
  | .local _ .vmem, ⟨26, _⟩ => ⟨S512x2816, .bf16⟩
  | .local _ .vmem, ⟨27, _⟩ => ⟨S2816x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![11, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== Reference2Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S4096x1024, .f32⟩
  | .hbm, ⟨6, _⟩ => ⟨S4096x5632, .f32⟩
  | .hbm, ⟨7, _⟩ => ⟨S_, .f32⟩
  | .hbm, ⟨8, _⟩ => ⟨S2x5632, .f32⟩
  | .hbm, ⟨9, _⟩ => ⟨S4098x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S8x128 : Shape := ⟨2, ![8, 128]⟩
abbrev S1024x2816 : Shape := ⟨2, ![1024, 2816]⟩
abbrev S1024x1024 : Shape := ⟨2, ![1024, 1024]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 19
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S4096x1024, .bf16⟩
  | .hbm, ⟨7, _⟩ => ⟨S1024x5632, .bf16⟩
  | .hbm, ⟨8, _⟩ => ⟨S2816x1024, .bf16⟩
  | .hbm, ⟨9, _⟩ => ⟨S4096x2816, .bf16⟩
  | .hbm, ⟨10, _⟩ => ⟨S4096x2816, .bf16⟩
  | .hbm, ⟨11, _⟩ => ⟨S4096x2816, .f32⟩
  | .hbm, ⟨12, _⟩ => ⟨S1024x2816, .bf16⟩
  | .hbm, ⟨13, _⟩ => ⟨S1024x2816, .bf16⟩
  | .hbm, ⟨14, _⟩ => ⟨S4096x1024, .f32⟩
  | .hbm, ⟨15, _⟩ => ⟨S4096x1024, .f32⟩
  | .hbm, ⟨16, _⟩ => ⟨S1024x2816, .bf16⟩
  | .hbm, ⟨17, _⟩ => ⟨S1024x2816, .bf16⟩
  | .hbm, ⟨18, _⟩ => ⟨S1024x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S8x128, .f32⟩
  | .local _ .vmem, ⟨6, _⟩ => ⟨S1024x2816, .bf16⟩
  | .local _ .vmem, ⟨7, _⟩ => ⟨S1024x2816, .bf16⟩
  | .local _ .vmem, ⟨8, _⟩ => ⟨S1024x2816, .bf16⟩
  | .local _ .vmem, ⟨9, _⟩ => ⟨S1024x1024, .f32⟩
  | .local _ .vmem, ⟨10, _⟩ => ⟨S1024x1024, .f32⟩
  | .local _ .vmem, ⟨11, _⟩ => ⟨S8x128, .f32⟩
  | .local _ .vmem, ⟨12, _⟩ => ⟨S512x2816, .bf16⟩
  | .local _ .vmem, ⟨13, _⟩ => ⟨S512x2816, .bf16⟩
  | .local _ .vmem, ⟨14, _⟩ => ⟨S1024x2816, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S8x128, .f32⟩
  | .local _ .vmem, ⟨20, _⟩ => ⟨S4096x512, .bf16⟩
  | .local _ .vmem, ⟨21, _⟩ => ⟨S4096x512, .bf16⟩
  | .local _ .vmem, ⟨22, _⟩ => ⟨S4096x1408, .bf16⟩
  | .local _ .vmem, ⟨23, _⟩ => ⟨S4096x1408, .bf16⟩
  | .local _ .vmem, ⟨24, _⟩ => ⟨S512x1408, .bf16⟩
  | .local _ .vmem, ⟨25, _⟩ => ⟨S512x1408, .bf16⟩
  | .local _ .vmem, ⟨26, _⟩ => ⟨S8x128, .f32⟩
  | .local _ .vmem, ⟨27, _⟩ => ⟨S4096x512, .bf16⟩
  | .local _ .vmem, ⟨28, _⟩ => ⟨S4096x512, .bf16⟩
  | .local _ .vmem, ⟨29, _⟩ => ⟨S4096x1408, .bf16⟩
  | .local _ .vmem, ⟨30, _⟩ => ⟨S4096x1408, .bf16⟩
  | .local _ .vmem, ⟨31, _⟩ => ⟨S512x1408, .bf16⟩
  | .local _ .vmem, ⟨32, _⟩ => ⟨S512x1408, .bf16⟩
  | .local _ .vmem, ⟨33, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x2816 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference4Ideal.lean ====
abbrev S4096x1024 : Shape := ⟨2, ![4096, 1024]⟩
abbrev S1024x5632 : Shape := ⟨2, ![1024, 5632]⟩
abbrev S2816x1024 : Shape := ⟨2, ![2816, 1024]⟩
abbrev S4096x2816 : Shape := ⟨2, ![4096, 2816]⟩
abbrev S_ : Shape := ⟨0, ![]⟩
abbrev S1024x2816 : Shape := ⟨2, ![1024, 2816]⟩
abbrev S4096x5632 : Shape := ⟨2, ![4096, 5632]⟩
abbrev S5632x1024 : Shape := ⟨2, ![5632, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x2816, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4096x2816, .f32⟩
  | .hbm, ⟨12, _⟩ => ⟨S4096x5632, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S4096x1024, .f32⟩
  | .hbm, ⟨17, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel5.lean ====
abbrev S4096x1024 : Shape := ⟨2, ![4096, 1024]⟩
abbrev S1024x3200 : Shape := ⟨2, ![1024, 3200]⟩
abbrev S4096x256 : Shape := ⟨2, ![4096, 256]⟩
abbrev S256x512 : Shape := ⟨2, ![256, 512]⟩
abbrev S4096x128 : Shape := ⟨2, ![4096, 128]⟩
abbrev S128x1024 : Shape := ⟨2, ![128, 1024]⟩
abbrev S4096x512 : Shape := ⟨2, ![4096, 512]⟩
abbrev S512x1024 : Shape := ⟨2, ![512, 1024]⟩
abbrev S4096x1536 : Shape := ⟨2, ![4096, 1536]⟩
abbrev S1536x1024 : Shape := ⟨2, ![1536, 1024]⟩
abbrev S1024x1024 : Shape := ⟨2, ![1024, 1024]⟩
abbrev S256x1024 : Shape := ⟨2, ![256, 1024]⟩
abbrev S4096x3200 : Shape := ⟨2, ![4096, 3200]⟩
abbrev S512x3200 : Shape := ⟨2, ![512, 3200]⟩
abbrev S8x128 : Shape := ⟨2, ![8, 128]⟩
abbrev S1024x256 : Shape := ⟨2, ![1024, 256]⟩
abbrev S1024x512 : Shape := ⟨2, ![1024, 512]⟩
abbrev S1024x128 : Shape := ⟨2, ![1024, 128]⟩
abbrev S1024x1536 : Shape := ⟨2, ![1024, 1536]⟩

abbrev nBuf : Space → Nat
  | .hbm => 34
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x256, .f32⟩
  | .hbm, ⟨3, _⟩ => ⟨S256x512, .f32⟩
  | .hbm, ⟨4, _⟩ => ⟨S4096x128, .f32⟩
  | .hbm, ⟨5, _⟩ => ⟨S128x1024, .f32⟩
  | .hbm, ⟨6, _⟩ => ⟨S4096x512, .f32⟩
  | .hbm, ⟨7, _⟩ => ⟨S512x1024, .f32⟩
  | .hbm, ⟨8, _⟩ => ⟨S4096x1536, .f32⟩
  | .hbm, ⟨9, _⟩ => ⟨S1536x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x256, .f32⟩
  | .hbm, ⟨14, _⟩ => ⟨S256x1024, .f32⟩
  | .hbm, ⟨15, _⟩ => ⟨S4096x1024, .bf16⟩
  | .hbm, ⟨16, _⟩ => ⟨S1024x3200, .bf16⟩
  | .hbm, ⟨17, _⟩ => ⟨S4096x256, .bf16⟩
  | .hbm, ⟨18, _⟩ => ⟨S256x512, .bf16⟩
  | .hbm, ⟨19, _⟩ => ⟨S4096x128, .bf16⟩
  | .hbm, ⟨20, _⟩ => ⟨S128x1024, .bf16⟩
  | .hbm, ⟨21, _⟩ => ⟨S512x1024, .bf16⟩
  | .hbm, ⟨22, _⟩ => ⟨S4096x1536, .bf16⟩
  | .hbm, ⟨23, _⟩ => ⟨S1536x1024, .bf16⟩
  | .hbm, ⟨24, _⟩ => ⟨S4096x1024, .bf16⟩
  | .hbm, ⟨25, _⟩ => ⟨S1024x1024, .bf16⟩
  | .hbm, ⟨26, _⟩ => ⟨S256x1024, .bf16⟩
  | .hbm, ⟨27, _⟩ => ⟨S4096x3200, .f32⟩
  | .hbm, ⟨28, _⟩ => ⟨S4096x512, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | .local _ .vmem, ⟨5, _⟩ => ⟨S8x128, .f32⟩
  | .local _ .vmem, ⟨6, _⟩ => ⟨S1024x256, .bf16⟩
  | .local _ .vmem, ⟨7, _⟩ => ⟨S1024x256, .bf16⟩
  | .local _ .vmem, ⟨8, _⟩ => ⟨S256x512, .bf16⟩
  | .local _ .vmem, ⟨9, _⟩ => ⟨S1024x512, .f32⟩
  | .local _ .vmem, ⟨10, _⟩ => ⟨S1024x512, .f32⟩
  | .local _ .vmem, ⟨11, _⟩ => ⟨S8x128, .f32⟩
  | .local _ .vmem, ⟨12, _⟩ => ⟨S1024x128, .bf16⟩
  | .local _ .vmem, ⟨13, _⟩ => ⟨S1024x128, .bf16⟩
  | .local _ .vmem, ⟨14, _⟩ => ⟨S128x1024, .bf16⟩
  | .local _ .vmem, ⟨15, _⟩ => ⟨S1024x1024, .f32⟩
  | .local _ .vmem, ⟨16, _⟩ => ⟨S1024x1024, .f32⟩
  | .local _ .vmem, ⟨17, _⟩ => ⟨S8x128, .f32⟩
  | .local _ .vmem, ⟨18, _⟩ => ⟨S1024x512, .f32⟩
  | .local _ .vmem, ⟨19, _⟩ => ⟨S1024x512, .f32⟩
  | .local _ .vmem, ⟨20, _⟩ => ⟨S512x1024, .bf16⟩
  | .local _ .vmem, ⟨21, _⟩ => ⟨S1024x1024, .f32⟩
  | .local _ .vmem, ⟨22, _⟩ => ⟨S1024x1024, .f32⟩
  | .local _ .vmem, ⟨23, _⟩ => ⟨S8x128, .f32⟩
  | .local _ .vmem, ⟨24, _⟩ => ⟨S1024x1536, .bf16⟩
  | .local _ .vmem, ⟨25, _⟩ => ⟨S1024x1536, .bf16⟩
  | .local _ .vmem, ⟨26, _⟩ => ⟨S1536x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S8x128, .f32⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .f32⟩
  | .local _ .vmem, ⟨36, _⟩ => ⟨S1024x1024, .f32⟩
  | .local _ .vmem, ⟨37, _⟩ => ⟨S8x128, .f32⟩
  | .local _ .vmem, ⟨38, _⟩ => ⟨S1024x256, .f32⟩
  | .local _ .vmem, ⟨39, _⟩ => ⟨S1024x256, .f32⟩
  | .local _ .vmem, ⟨40, _⟩ => ⟨S256x1024, .bf16⟩
  | .local _ .vmem, ⟨41, _⟩ => ⟨S1024x1024, .f32⟩
  | .local _ .vmem, ⟨42, _⟩ => ⟨S1024x1024, .f32⟩
  | .local _ .vmem, ⟨43, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc6_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1536 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1536x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S256x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference5Ideal.lean ====
abbrev S4096x1024 : Shape := ⟨2, ![4096, 1024]⟩
abbrev S1024x3200 : Shape := ⟨2, ![1024, 3200]⟩
abbrev S4096x256 : Shape := ⟨2, ![4096, 256]⟩
abbrev S256x512 : Shape := ⟨2, ![256, 512]⟩
abbrev S4096x128 : Shape := ⟨2, ![4096, 128]⟩
abbrev S128x1024 : Shape := ⟨2, ![128, 1024]⟩
abbrev S4096x512 : Shape := ⟨2, ![4096, 512]⟩
abbrev S512x1024 : Shape := ⟨2, ![512, 1024]⟩
abbrev S4096x1536 : Shape := ⟨2, ![4096, 1536]⟩
abbrev S1536x1024 : Shape := ⟨2, ![1536, 1024]⟩
abbrev S1024x1024 : Shape := ⟨2, ![1024, 1024]⟩
abbrev S256x1024 : Shape := ⟨2, ![256, 1024]⟩
abbrev S4096x3200 : Shape := ⟨2, ![4096, 3200]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x256, .f32⟩
  | .hbm, ⟨3, _⟩ => ⟨S256x512, .f32⟩
  | .hbm, ⟨4, _⟩ => ⟨S4096x128, .f32⟩
  | .hbm, ⟨5, _⟩ => ⟨S128x1024, .f32⟩
  | .hbm, ⟨6, _⟩ => ⟨S4096x512, .f32⟩
  | .hbm, ⟨7, _⟩ => ⟨S512x1024, .f32⟩
  | .hbm, ⟨8, _⟩ => ⟨S4096x1536, .f32⟩
  | .hbm, ⟨9, _⟩ => ⟨S1536x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x256, .f32⟩
  | .hbm, ⟨14, _⟩ => ⟨S256x1024, .f32⟩
  | .hbm, ⟨15, _⟩ => ⟨S4096x3200, .f32⟩
  | .hbm, ⟨16, _⟩ => ⟨S4096x512, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩

abbrev nD : Nat := 1
abbrev τ : Topo := Topo.v7x

variable {F : FTy → Type} [FloatOps F]
-- ==== Kernel6.lean ====
abbrev S1024x3200 : Shape := ⟨2, ![1024, 3200]⟩
abbrev S4096x3200 : Shape := ⟨2, ![4096, 3200]⟩
abbrev S4096x256 : Shape := ⟨2, ![4096, 256]⟩
abbrev S256x512 : Shape := ⟨2, ![256, 512]⟩
abbrev S4096x512 : Shape := ⟨2, ![4096, 512]⟩
abbrev S4096x128 : Shape := ⟨2, ![4096, 128]⟩
abbrev S128x1024 : Shape := ⟨2, ![128, 1024]⟩
abbrev S4096x1024 : Shape := ⟨2, ![4096, 1024]⟩
abbrev S512x1024 : Shape := ⟨2, ![512, 1024]⟩
abbrev S1536x1024 : Shape := ⟨2, ![1536, 1024]⟩
abbrev S1024x1024 : Shape := ⟨2, ![1024, 1024]⟩
abbrev S256x1024 : Shape := ⟨2, ![256, 1024]⟩
abbrev S8x128 : Shape := ⟨2, ![8, 128]⟩
abbrev S4096x1536 : Shape := ⟨2, ![4096, 1536]⟩
abbrev S1024x1536 : Shape := ⟨2, ![1024, 1536]⟩
abbrev S1024x512 : Shape := ⟨2, ![1024, 512]⟩
abbrev S1024x128 : Shape := ⟨2, ![1024, 128]⟩
abbrev S1024x256 : Shape := ⟨2, ![1024, 256]⟩
abbrev S512x3200 : Shape := ⟨2, ![512, 3200]⟩

abbrev nBuf : Space → Nat
  | .hbm => 44
  | .vmem => 60
  | .smem => 0
  | _ => 0

abbrev bufTy : (tb : Table) → Fin (tcTables nBuf tb) → BufTy
  | .hbm, ⟨0, _⟩ => ⟨S1024x3200, .f32⟩
  | .hbm, ⟨1, _⟩ => ⟨S4096x3200, .f32⟩
  | .hbm, ⟨2, _⟩ => ⟨S4096x256, .f32⟩
  | .hbm, ⟨3, _⟩ => ⟨S256x512, .f32⟩
  | .hbm, ⟨4, _⟩ => ⟨S4096x512, .f32⟩
  | .hbm, ⟨5, _⟩ => ⟨S4096x128, .f32⟩
  | .hbm, ⟨6, _⟩ => ⟨S128x1024, .f32⟩
  | .hbm, ⟨7, _⟩ => ⟨S4096x1024, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S1536x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x256, .f32⟩
  | .hbm, ⟨17, _⟩ => ⟨S4096x1024, .f32⟩
  | .hbm, ⟨18, _⟩ => ⟨S1024x3200, .bf16⟩
  | .hbm, ⟨19, _⟩ => ⟨S4096x3200, .bf16⟩
  | .hbm, ⟨20, _⟩ => ⟨S4096x256, .bf16⟩
  | .hbm, ⟨21, _⟩ => ⟨S256x512, .bf16⟩
  | .hbm, ⟨22, _⟩ => ⟨S4096x512, .bf16⟩
  | .hbm, ⟨23, _⟩ => ⟨S4096x128, .bf16⟩
  | .hbm, ⟨24, _⟩ => ⟨S128x1024, .bf16⟩
  | .hbm, ⟨25, _⟩ => ⟨S4096x1024, .bf16⟩
  | .hbm, ⟨26, _⟩ => ⟨S512x1024, .bf16⟩
  | .hbm, ⟨27, _⟩ => ⟨S4096x1024, .bf16⟩
  | .hbm, ⟨28, _⟩ => ⟨S1536x1024, .bf16⟩
  | .hbm, ⟨29, _⟩ => ⟨S4096x1024, .bf16⟩
  | .hbm, ⟨30, _⟩ => ⟨S1024x1024, .bf16⟩
  | .hbm, ⟨31, _⟩ => ⟨S4096x1024, .bf16⟩
  | .hbm, ⟨32, _⟩ => ⟨S4096x1024, .bf16⟩
  | .hbm, ⟨33, _⟩ => ⟨S256x1024, .bf16⟩
  | .hbm, ⟨34, _⟩ => ⟨S4096x1024, .f32⟩
  | .hbm, ⟨35, _⟩ => ⟨S1024x1024, .bf16⟩
  | .hbm, ⟨36, _⟩ => ⟨S4096x1536, .f32⟩
  | .hbm, ⟨37, _⟩ => ⟨S4096x512, .f32⟩
  | .hbm, ⟨38, _⟩ => ⟨S512x1024, .f32⟩
  | .hbm, ⟨39, _⟩ => ⟨S4096x128, .f32⟩
  | .hbm, ⟨40, _⟩ => ⟨S128x1024, .bf16⟩
  | .hbm, ⟨41, _⟩ => ⟨S4096x256, .f32⟩
  | .hbm, ⟨42, _⟩ => ⟨S256x512, .bf16⟩
  | .hbm, ⟨43, _⟩ => ⟨S4096x1024, .f32⟩
  | .local _ .vmem, ⟨0, _⟩ => ⟨S4096x256, .f32⟩
  | .local _ .vmem, ⟨1, _⟩ => ⟨S4096x1024, .bf16⟩
  | .local _ .vmem, ⟨2, _⟩ => ⟨S256x1024, .bf16⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S4096x512, .bf16⟩
  | .local _ .vmem, ⟨11, _⟩ => ⟨S4096x512, .bf16⟩
  | .local _ .vmem, ⟨12, _⟩ => ⟨S4096x1024, .bf16⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S1024x1024, .f32⟩
  | .local _ .vmem, ⟨17, _⟩ => ⟨S1024x1024, .f32⟩
  | .local _ .vmem, ⟨18, _⟩ => ⟨S1536x1024, .bf16⟩
  | .local _ .vmem, ⟨19, _⟩ => ⟨S1024x1536, .f32⟩
  | .local _ .vmem, ⟨20, _⟩ => ⟨S1024x1536, .f32⟩
  | .local _ .vmem, ⟨21, _⟩ => ⟨S8x128, .f32⟩
  | .local _ .vmem, ⟨22, _⟩ => ⟨S1024x1024, .bf16⟩
  | .local _ .vmem, ⟨23, _⟩ => ⟨S1024x1024, .bf16⟩
  | .local _ .vmem, ⟨24, _⟩ => ⟨S512x1024, .bf16⟩
  | .local _ .vmem, ⟨25, _⟩ => ⟨S1024x512, .f32⟩
  | .local _ .vmem, ⟨26, _⟩ => ⟨S1024x512, .f32⟩
  | .local _ .vmem, ⟨27, _⟩ => ⟨S8x128, .f32⟩
  | .local _ .vmem, ⟨28, _⟩ => ⟨S4096x256, .f32⟩
  | .local _ .vmem, ⟨29, _⟩ => ⟨S4096x256, .f32⟩
  | .local _ .vmem, ⟨30, _⟩ => ⟨S4096x1024, .bf16⟩
  | .local _ .vmem, ⟨31, _⟩ => ⟨S256x1024, .f32⟩
  | .local _ .vmem, ⟨32, _⟩ => ⟨S256x1024, .f32⟩
  | .local _ .vmem, ⟨33, _⟩ => ⟨S8x128, .f32⟩
  | .local _ .vmem, ⟨34, _⟩ => ⟨S1024x1024, .bf16⟩
  | .local _ .vmem, ⟨35, _⟩ => ⟨S1024x1024, .bf16⟩
  | .local _ .vmem, ⟨36, _⟩ => ⟨S128x1024, .bf16⟩
  | .local _ .vmem, ⟨37, _⟩ => ⟨S1024x128, .f32⟩
  | .local _ .vmem, ⟨38, _⟩ => ⟨S1024x128, .f32⟩
  | .local _ .vmem, ⟨39, _⟩ => ⟨S8x128, .f32⟩
  | .local _ .vmem, ⟨40, _⟩ => ⟨S4096x128, .bf16⟩
  | .local _ .vmem, ⟨41, _⟩ => ⟨S4096x1024, .bf16⟩
  | .local _ .vmem, ⟨42, _⟩ => ⟨S128x1024, .bf16⟩
  | .local _ .vmem, ⟨43, _⟩ => ⟨S8x128, .f32⟩
  | .local _ .vmem, ⟨44, _⟩ => ⟨S1024x512, .bf16⟩
  | .local _ .vmem, ⟨45, _⟩ => ⟨S1024x512, .bf16⟩
  | .local _ .vmem, ⟨46, _⟩ => ⟨S256x512, .bf16⟩
  | .local _ .vmem, ⟨47, _⟩ => ⟨S1024x256, .f32⟩
  | .local _ .vmem, ⟨48, _⟩ => ⟨S1024x256, .f32⟩
  | .local _ .vmem, ⟨49, _⟩ => ⟨S8x128, .f32⟩
  | .local _ .vmem, ⟨50, _⟩ => ⟨S4096x256, .bf16⟩
  | .local _ .vmem, ⟨51, _⟩ => ⟨S4096x512, .bf16⟩
  | .local _ .vmem, ⟨52, _⟩ => ⟨S256x512, .bf16⟩
  | .local _ .vmem, ⟨53, _⟩ => ⟨S8x128, .f32⟩
  | .local _ .vmem, ⟨54, _⟩ => ⟨S512x3200, .bf16⟩
  | .local _ .vmem, ⟨55, _⟩ => ⟨S512x3200, .bf16⟩
  | .local _ .vmem, ⟨56, _⟩ => ⟨S1024x3200, .bf16⟩
  | .local _ .vmem, ⟨57, _⟩ => ⟨S512x1024, .f32⟩
  | .local _ .vmem, ⟨58, _⟩ => ⟨S512x1024, .f32⟩
  | .local _ .vmem, ⟨59, _⟩ => ⟨S8x128, .f32⟩
  | _, _ => ⟨S1024x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_scratch0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc4_scratch0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc5_scratch0 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc6_scratch0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_scratch0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc8_scratch0 : Ref sig .tc := ⟨.vmem, 49, rfl⟩
abbrev cc9_stg0_0 : Ref sig .tc := ⟨.vmem, 50, rfl⟩
abbrev cc9_stg1_0 : Ref sig .tc := ⟨.vmem, 51, rfl⟩
abbrev cc9_stg2_0 : Ref sig .tc := ⟨.vmem, 52, rfl⟩
abbrev cc9_scratch0 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc10_scratch0 : Ref sig .tc := ⟨.vmem, 59, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32
abbrev cc7_sem0_0 : DmaSem sig := 33
abbrev cc7_sem1_0 : DmaSem sig := 34
abbrev cc7_sem2_0 : DmaSem sig := 35
abbrev cc8_sem0_0 : DmaSem sig := 36
abbrev cc8_sem0_1 : DmaSem sig := 37
abbrev cc8_sem1_0 : DmaSem sig := 38
abbrev cc8_sem2_0 : DmaSem sig := 39
abbrev cc8_sem2_1 : DmaSem sig := 40
abbrev cc9_sem0_0 : DmaSem sig := 41
abbrev cc9_sem1_0 : DmaSem sig := 42
abbrev cc9_sem2_0 : DmaSem sig := 43
abbrev cc10_sem0_0 : DmaSem sig := 44
abbrev cc10_sem0_1 : DmaSem sig := 45
abbrev cc10_sem1_0 : DmaSem sig := 46
abbrev cc10_sem2_0 : DmaSem sig := 47
abbrev cc10_sem2_1 : DmaSem sig := 48

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1536x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1536 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S128x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S4096x128 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 1 → Memref sig .tc .vmem S4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 1 → Memref sig .tc .vmem S128x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true, false]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S256x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S4096x256 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S4096x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S256x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![8, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x3200 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x3200 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference6Ideal.lean ====
abbrev S1024x3200 : Shape := ⟨2, ![1024, 3200]⟩
abbrev S4096x3200 : Shape := ⟨2, ![4096, 3200]⟩
abbrev S4096x256 : Shape := ⟨2, ![4096, 256]⟩
abbrev S256x512 : Shape := ⟨2, ![256, 512]⟩
abbrev S4096x512 : Shape := ⟨2, ![4096, 512]⟩
abbrev S4096x128 : Shape := ⟨2, ![4096, 128]⟩
abbrev S128x1024 : Shape := ⟨2, ![128, 1024]⟩
abbrev S4096x1024 : Shape := ⟨2, ![4096, 1024]⟩
abbrev S512x1024 : Shape := ⟨2, ![512, 1024]⟩
abbrev S1536x1024 : Shape := ⟨2, ![1536, 1024]⟩
abbrev S1024x1024 : Shape := ⟨2, ![1024, 1024]⟩
abbrev S_ : Shape := ⟨0, ![]⟩
abbrev S256x1024 : Shape := ⟨2, ![256, 1024]⟩
abbrev S1024x256 : Shape := ⟨2, ![1024, 256]⟩
abbrev S4096x1536 : Shape := ⟨2, ![4096, 1536]⟩
abbrev S1024x1536 : Shape := ⟨2, ![1024, 1536]⟩
abbrev S1024x512 : Shape := ⟨2, ![1024, 512]⟩
abbrev S1024x128 : Shape := ⟨2, ![1024, 128]⟩
abbrev S512x256 : Shape := ⟨2, ![512, 256]⟩
abbrev S3200x1024 : Shape := ⟨2, ![3200, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x3200, .f32⟩
  | .hbm, ⟨1, _⟩ => ⟨S4096x3200, .f32⟩
  | .hbm, ⟨2, _⟩ => ⟨S4096x256, .f32⟩
  | .hbm, ⟨3, _⟩ => ⟨S256x512, .f32⟩
  | .hbm, ⟨4, _⟩ => ⟨S4096x512, .f32⟩
  | .hbm, ⟨5, _⟩ => ⟨S4096x128, .f32⟩
  | .hbm, ⟨6, _⟩ => ⟨S128x1024, .f32⟩
  | .hbm, ⟨7, _⟩ => ⟨S4096x1024, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S1536x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x256, .f32⟩
  | .hbm, ⟨17, _⟩ => ⟨S4096x1024, .f32⟩
  | .hbm, ⟨18, _⟩ => ⟨S_, .f32⟩
  | .hbm, ⟨19, _⟩ => ⟨S256x1024, .f32⟩
  | .hbm, ⟨20, _⟩ => ⟨S4096x1024, .f32⟩
  | .hbm, ⟨21, _⟩ => ⟨S1024x256, .f32⟩
  | .hbm, ⟨22, _⟩ => ⟨S256x1024, .f32⟩
  | .hbm, ⟨23, _⟩ => ⟨S4096x256, .f32⟩
  | .hbm, ⟨24, _⟩ => ⟨S4096x1024, .f32⟩
  | .hbm, ⟨25, _⟩ => ⟨S1024x1024, .f32⟩
  | .hbm, ⟨26, _⟩ => ⟨S1024x1024, .f32⟩
  | .hbm, ⟨27, _⟩ => ⟨S4096x1024, .f32⟩
  | .hbm, ⟨28, _⟩ => ⟨S_, .f32⟩
  | .hbm, ⟨29, _⟩ => ⟨S4096x1536, .f32⟩
  | .hbm, ⟨30, _⟩ => ⟨S4096x1024, .f32⟩
  | .hbm, ⟨31, _⟩ => ⟨S1024x1536, .f32⟩
  | .hbm, ⟨32, _⟩ => ⟨S1536x1024, .f32⟩
  | .hbm, ⟨33, _⟩ => ⟨S4096x1536, .f32⟩
  | .hbm, ⟨34, _⟩ => ⟨S4096x1024, .f32⟩
  | .hbm, ⟨35, _⟩ => ⟨S1024x512, .f32⟩
  | .hbm, ⟨36, _⟩ => ⟨S512x1024, .f32⟩
  | .hbm, ⟨37, _⟩ => ⟨S4096x512, .f32⟩
  | .hbm, ⟨38, _⟩ => ⟨S4096x1024, .f32⟩
  | .hbm, ⟨39, _⟩ => ⟨S1024x128, .f32⟩
  | .hbm, ⟨40, _⟩ => ⟨S128x1024, .f32⟩
  | .hbm, ⟨41, _⟩ => ⟨S4096x128, .f32⟩
  | .hbm, ⟨42, _⟩ => ⟨S4096x512, .f32⟩
  | .hbm, ⟨43, _⟩ => ⟨S512x256, .f32⟩
  | .hbm, ⟨44, _⟩ => ⟨S256x512, .f32⟩
  | .hbm, ⟨45, _⟩ => ⟨S4096x256, .f32⟩
  | .hbm, ⟨46, _⟩ => ⟨S_, .f32⟩
  | .hbm, ⟨47, _⟩ => ⟨S4096x1024, .f32⟩
  | .hbm, ⟨48, _⟩ => ⟨S4096x3200, .f32⟩
  | .hbm, ⟨49, _⟩ => ⟨S3200x1024, .f32⟩
  | .hbm, ⟨50, _⟩ => ⟨S1024x3200, .f32⟩
  | .hbm, ⟨51, _⟩ => ⟨S4096x1024, .f32⟩
  | .hbm, ⟨52, _⟩ => ⟨S256x1024, .bf16⟩
  | .hbm, ⟨53, _⟩ => ⟨S1024x1024, .bf16⟩
  | .hbm, ⟨54, _⟩ => ⟨S128x1024, .bf16⟩
  | .hbm, ⟨55, _⟩ => ⟨S256x512, .bf16⟩
  | _, _ => ⟨S1024x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel7.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .f32⟩
  | .local _ .vmem, ⟨3, _⟩ => ⟨S2048x1024, .f32⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S_, .f32⟩
  | .hbm, ⟨3, _⟩ => ⟨S1536x1024, .f32⟩
  | .hbm, ⟨4, _⟩ => ⟨S4096x1024, .f32⟩
  | .hbm, ⟨5, _⟩ => ⟨S1024x1536, .f32⟩
  | .hbm, ⟨6, _⟩ => ⟨S1536x1024, .f32⟩
  | .hbm, ⟨7, _⟩ => ⟨S4096x1536, .f32⟩
  | .hbm, ⟨8, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S4096x3200 : Shape := ⟨2, ![4096, 3200]⟩
abbrev S1024x3200 : Shape := ⟨2, ![1024, 3200]⟩
abbrev S1024x512 : Shape := ⟨2, ![1024, 512]⟩
abbrev S512x3200 : Shape := ⟨2, ![512, 3200]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S4096x1024, .bf16⟩
  | .hbm, ⟨3, _⟩ => ⟨S4096x3200, .bf16⟩
  | .hbm, ⟨4, _⟩ => ⟨S1024x3200, .bf16⟩
  | .local _ .vmem, ⟨0, _⟩ => ⟨S1024x512, .bf16⟩
  | .local _ .vmem, ⟨1, _⟩ => ⟨S1024x512, .bf16⟩
  | .local _ .vmem, ⟨2, _⟩ => ⟨S1024x3200, .bf16⟩
  | .local _ .vmem, ⟨3, _⟩ => ⟨S1024x3200, .bf16⟩
  | .local _ .vmem, ⟨4, _⟩ => ⟨S512x3200, .bf16⟩
  | .local _ .vmem, ⟨5, _⟩ => ⟨S512x3200, .bf16⟩
  | .local _ .vmem, ⟨6, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S_, .f32⟩
  | .hbm, ⟨3, _⟩ => ⟨S1024x3200, .f32⟩
  | .hbm, ⟨4, _⟩ => ⟨S4096x3200, .f32⟩
  | .hbm, ⟨5, _⟩ => ⟨S3200x1024, .f32⟩
  | .hbm, ⟨6, _⟩ => ⟨S1024x3200, .f32⟩
  | .hbm, ⟨7, _⟩ => ⟨S4096x1024, .f32⟩
  | .hbm, ⟨8, _⟩ => ⟨S1024x3200, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x4x96 : Shape := ⟨3, ![4096, 4, 96]⟩
abbrev S4096x4x64 : Shape := ⟨3, ![4096, 4, 64]⟩
abbrev S_ : Shape := ⟨0, ![]⟩
abbrev S4096x4x128 : Shape := ⟨3, ![4096, 4, 128]⟩
abbrev S4096x512 : Shape := ⟨2, ![4096, 512]⟩
abbrev S4096x1024 : Shape := ⟨2, ![4096, 1024]⟩
abbrev S4x4096x1 : Shape := ⟨3, ![4, 4096, 1]⟩
abbrev S4x8x1x512 : Shape := ⟨4, ![4, 8, 1, 512]⟩
abbrev S512x128 : Shape := ⟨2, ![512, 128]⟩
abbrev S4096x128 : Shape := ⟨2, ![4096, 128]⟩
abbrev S1x512x1 : Shape := ⟨3, ![1, 512, 1]⟩
abbrev S1x1x1x512 : Shape := ⟨4, ![1, 1, 1, 512]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S8x512 : Shape := ⟨2, ![8, 512]⟩
abbrev S1x512 : Shape := ⟨2, ![1, 512]⟩
abbrev S4096x4 : Shape := ⟨2, ![4096, 4]⟩
abbrev S4x4096 : Shape := ⟨2, ![4, 4096]⟩
abbrev S1x8x1x512 : Shape := ⟨4, ![1, 8, 1, 512]⟩

abbrev nBuf : Space → Nat
  | .hbm => 39
  | .vmem => 28
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S_, .i32⟩
  | .hbm, ⟨5, _⟩ => ⟨S_, .f32⟩
  | .hbm, ⟨6, _⟩ => ⟨S4096x4x128, .f32⟩
  | .hbm, ⟨7, _⟩ => ⟨S4096x512, .f32⟩
  | .hbm, ⟨8, _⟩ => ⟨S4096x512, .bf16⟩
  | .hbm, ⟨9, _⟩ => ⟨S_, .i32⟩
  | .hbm, ⟨10, _⟩ => ⟨S_, .f32⟩
  | .hbm, ⟨11, _⟩ => ⟨S4096x4x128, .f32⟩
  | .hbm, ⟨12, _⟩ => ⟨S4096x512, .f32⟩
  | .hbm, ⟨13, _⟩ => ⟨S4096x512, .bf16⟩
  | .hbm, ⟨14, _⟩ => ⟨S4096x4x64, .f32⟩
  | .hbm, ⟨15, _⟩ => ⟨S_, .i32⟩
  | .hbm, ⟨16, _⟩ => ⟨S_, .f32⟩
  | .hbm, ⟨17, _⟩ => ⟨S4096x4x128, .f32⟩
  | .hbm, ⟨18, _⟩ => ⟨S4096x512, .f32⟩
  | .hbm, ⟨19, _⟩ => ⟨S_, .i32⟩
  | .hbm, ⟨20, _⟩ => ⟨S_, .f32⟩
  | .hbm, ⟨21, _⟩ => ⟨S4096x4x128, .f32⟩
  | .hbm, ⟨22, _⟩ => ⟨S4096x512, .f32⟩
  | .hbm, ⟨23, _⟩ => ⟨S4096x1024, .f32⟩
  | .hbm, ⟨24, _⟩ => ⟨S_, .i32⟩
  | .hbm, ⟨25, _⟩ => ⟨S_, .f32⟩
  | .hbm, ⟨26, _⟩ => ⟨S4096x4x128, .f32⟩
  | .hbm, ⟨27, _⟩ => ⟨S4096x512, .f32⟩
  | .hbm, ⟨28, _⟩ => ⟨S4096x512, .f32⟩
  | .hbm, ⟨29, _⟩ => ⟨S4x4096x1, .f32⟩
  | .hbm, ⟨30, _⟩ => ⟨S4x8x1x512, .f32⟩
  | .hbm, ⟨31, _⟩ => ⟨S4096x512, .f32⟩
  | .hbm, ⟨32, _⟩ => ⟨S4096x4x128, .f32⟩
  | .hbm, ⟨33, _⟩ => ⟨S_, .f32⟩
  | .hbm, ⟨34, _⟩ => ⟨S4096x4, .f32⟩
  | .hbm, ⟨35, _⟩ => ⟨S4x4096, .f32⟩
  | .hbm, ⟨36, _⟩ => ⟨S4x8x1x512, .f32⟩
  | .hbm, ⟨37, _⟩ => ⟨S4096x512, .f32⟩
  | .hbm, ⟨38, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S1x1x1x512, .f32⟩
  | .local _ .vmem, ⟨11, _⟩ => ⟨S1x1x1x512, .f32⟩
  | .local _ .vmem, ⟨12, _⟩ => ⟨S4096x128, .bf16⟩
  | .local _ .vmem, ⟨13, _⟩ => ⟨S4096x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S4096x128, .f32⟩
  | .local _ .vmem, ⟨19, _⟩ => ⟨S4096x128, .f32⟩
  | .local _ .vmem, ⟨20, _⟩ => ⟨S1x8x1x512, .f32⟩
  | .local _ .vmem, ⟨21, _⟩ => ⟨S1x8x1x512, .f32⟩
  | .local _ .vmem, ⟨22, _⟩ => ⟨S1x8x1x512, .f32⟩
  | .local _ .vmem, ⟨23, _⟩ => ⟨S1x8x1x512, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call4_v0 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c512_i32_25 : BitVec 32 := 512#32
  let v67 : BitVec 32 := Scalar.muli arg8 c512_i32_25
  v67
def k0_off1 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c512_i32_25 : BitVec 32 := 512#32
  let v67 : BitVec 32 := Scalar.muli arg8 c512_i32_25
  let v68 : BitVec 32 := v67
  let v69 : Index := Scalar.indexCast v68
  let c0_26 : Index := 0#32
  ![v69.toNat, 0]
@[reducible] def k0_t2_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k0_t2
  let c512_i32_25 : BitVec 32 := 512#32
  let v67 : BitVec 32 := Scalar.muli arg8 c512_i32_25
  v67
def k0_off2 (i : grid0.Coords) (k0_t2 : Fin (k0_t2_loop i).trips) : Fin 2 → Nat :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k0_t2
  let c512_i32_25 : BitVec 32 := 512#32
  let v67 : BitVec 32 := Scalar.muli arg8 c512_i32_25
  let v68 : BitVec 32 := v67
  let v69 : Index := Scalar.indexCast v68
  let c0_26 : Index := 0#32
  ![v69.toNat, 0]
def k0_mult3 (i : grid0.Coords) : BitVec 32 :=
  let arg1 : BitVec 32 := BitVec.ofNat 32 (i 1).val
  let c512_i32 : BitVec 32 := 512#32
  let v14 : BitVec 32 := Scalar.muli arg1 c512_i32
  v14
def k0_off3 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_6 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c1_i32_5 : BitVec 32 := 1#32
  let v9 : BitVec 32 := Scalar.muli arg1 c1_i32_5
  let c0_i32 : BitVec 32 := 0#32
  let v10 : BitVec 32 := Scalar.addi v9 c0_i32
  let c512_i32 : BitVec 32 := 512#32
  let v11 : BitVec 32 := Scalar.muli v10 c512_i32
  v11
def k1_off1 (i : grid1.Coords) : Fin 2 → Nat :=
  let arg1 : BitVec 32 := BitVec.ofNat 32 (i 1).val
  let c1_i32_5 : BitVec 32 := 1#32
  let v9 : BitVec 32 := Scalar.muli arg1 c1_i32_5
  let c0_i32 : BitVec 32 := 0#32
  let v10 : BitVec 32 := Scalar.addi v9 c0_i32
  let c512_i32 : BitVec 32 := 512#32
  let v11 : BitVec 32 := Scalar.muli v10 c512_i32
  let v12 : BitVec 32 := v11
  let v13 : Index := Scalar.indexCast v12
  let c0_6 : Index := 0#32
  ![v13.toNat, 0]
def k1_off2 (i : grid1.Coords) : Fin 4 → Nat :=
  let c0_13 : Index := 0#32
  let arg1 : BitVec 32 := BitVec.ofNat 32 (i 1).val
  let c1_i32_5 : BitVec 32 := 1#32
  let v9 : BitVec 32 := Scalar.muli arg1 c1_i32_5
  let c0_i32 : BitVec 32 := 0#32
  let v10 : BitVec 32 := Scalar.addi v9 c0_i32
  let v33 : Index := Scalar.indexCast v10
  let c0_14 : Index := 0#32
  let c0_15 : Index := 0#32
  ![0, v33.toNat, 0, 0]
@[reducible] def k1_t1_loop (i : grid1.Coords) : Scf.Loop 32 :=
  let arg1 : BitVec 32 := BitVec.ofNat 32 (i 1).val
  let c1_i32 : BitVec 32 := 1#32
  let v8 : BitVec 32 := Scalar.addi arg1 c1_i32
  let c8_i32 : BitVec 32 := 8#32
  let v53 : BitVec 32 := Scalar.subi c8_i32 v8
  let c1_i32_22 : BitVec 32 := 1#32
  let v55 : BitVec 32 := Scalar.divsi v53 c1_i32_22
  let v56 : BitVec 32 := Scalar.muli v55 c1_i32_22
  let v57 : BitVec 32 := Scalar.addi v8 v56
  let c1_i32_23 : BitVec 32 := 1#32
  ⟨v8, v57, c1_i32_23⟩
def k1_mult2 (i : grid1.Coords) (k1_t1 : Fin (k1_t1_loop i).trips) : BitVec 32 :=
  let arg1 : BitVec 32 := BitVec.ofNat 32 (i 1).val
  let c1_i32 : BitVec 32 := 1#32
  let v8 : BitVec 32 := Scalar.addi arg1 c1_i32
  let c1_i32_23 : BitVec 32 := 1#32
  let arg10 : BitVec 32 := Scf.iv v8 c1_i32_23 k1_t1
  let c1_i32_30 : BitVec 32 := 1#32
  let v64 : BitVec 32 := Scalar.muli arg10 c1_i32_30
  let c0_i32_31 : BitVec 32 := 0#32
  let v65 : BitVec 32 := Scalar.addi v64 c0_i32_31
  let c512_i32_32 : BitVec 32 := 512#32
  let v66 : BitVec 32 := Scalar.muli v65 c512_i32_32
  v66
def k1_off3 (i : grid1.Coords) (k1_t1 : Fin (k1_t1_loop i).trips) : Fin 2 → Nat :=
  let arg1 : BitVec 32 := BitVec.ofNat 32 (i 1).val
  let c1_i32 : BitVec 32 := 1#32
  let v8 : BitVec 32 := Scalar.addi arg1 c1_i32
  let c1_i32_23 : BitVec 32 := 1#32
  let arg10 : BitVec 32 := Scf.iv v8 c1_i32_23 k1_t1
  let c1_i32_30 : BitVec 32 := 1#32
  let v64 : BitVec 32 := Scalar.muli arg10 c1_i32_30
  let c0_i32_31 : BitVec 32 := 0#32
  let v65 : BitVec 32 := Scalar.addi v64 c0_i32_31
  let c512_i32_32 : BitVec 32 := 512#32
  let v66 : BitVec 32 := Scalar.muli v65 c512_i32_32
  let v67 : BitVec 32 := v66
  let v68 : Index := Scalar.indexCast v67
  let c0_33 : Index := 0#32
  ![v68.toNat, 0]
def k1_off4 (i : grid1.Coords) (k1_t1 : Fin (k1_t1_loop i).trips) : Fin 4 → Nat :=
  let c0_38 : Index := 0#32
  let arg1 : BitVec 32 := BitVec.ofNat 32 (i 1).val
  let c1_i32 : BitVec 32 := 1#32
  let v8 : BitVec 32 := Scalar.addi arg1 c1_i32
  let c1_i32_23 : BitVec 32 := 1#32
  let arg10 : BitVec 32 := Scf.iv v8 c1_i32_23 k1_t1
  let c1_i32_30 : BitVec 32 := 1#32
  let v64 : BitVec 32 := Scalar.muli arg10 c1_i32_30
  let c0_i32_31 : BitVec 32 := 0#32
  let v65 : BitVec 32 := Scalar.addi v64 c0_i32_31
  let v81 : Index := Scalar.indexCast v65
  let c0_39 : Index := 0#32
  let c0_40 : Index := 0#32
  ![0, v81.toNat, 0, 0]
@[reducible] def k1_t2_loop (i : grid1.Coords) : Scf.Loop 32 :=
  let arg1 : BitVec 32 := BitVec.ofNat 32 (i 1).val
  let c1_i32 : BitVec 32 := 1#32
  let v8 : BitVec 32 := Scalar.addi arg1 c1_i32
  let c8_i32 : BitVec 32 := 8#32
  let v53 : BitVec 32 := Scalar.subi c8_i32 v8
  let c1_i32_22 : BitVec 32 := 1#32
  let v55 : BitVec 32 := Scalar.divsi v53 c1_i32_22
  let v56 : BitVec 32 := Scalar.muli v55 c1_i32_22
  let v57 : BitVec 32 := Scalar.addi v8 v56
  let v54 : BitVec 32 := Scalar.addi v8 v53
  let c1_i32_24 : BitVec 32 := 1#32
  ⟨v57, v54, c1_i32_24⟩
def k1_mult3 (i : grid1.Coords) (k1_t2 : Fin (k1_t2_loop i).trips) : BitVec 32 :=
  let arg1 : BitVec 32 := BitVec.ofNat 32 (i 1).val
  let c1_i32 : BitVec 32 := 1#32
  let v8 : BitVec 32 := Scalar.addi arg1 c1_i32
  let c8_i32 : BitVec 32 := 8#32
  let v53 : BitVec 32 := Scalar.subi c8_i32 v8
  let c1_i32_22 : BitVec 32 := 1#32
  let v55 : BitVec 32 := Scalar.divsi v53 c1_i32_22
  let v56 : BitVec 32 := Scalar.muli v55 c1_i32_22
  let v57 : BitVec 32 := Scalar.addi v8 v56
  let c1_i32_24 : BitVec 32 := 1#32
  let arg10 : BitVec 32 := Scf.iv v57 c1_i32_24 k1_t2
  let c1_i32_30 : BitVec 32 := 1#32
  let v64 : BitVec 32 := Scalar.muli arg10 c1_i32_30
  let c0_i32_31 : BitVec 32 := 0#32
  let v65 : BitVec 32 := Scalar.addi v64 c0_i32_31
  let c512_i32_32 : BitVec 32 := 512#32
  let v66 : BitVec 32 := Scalar.muli v65 c512_i32_32
  v66
def k1_off5 (i : grid1.Coords) (k1_t2 : Fin (k1_t2_loop i).trips) : Fin 2 → Nat :=
  let arg1 : BitVec 32 := BitVec.ofNat 32 (i 1).val
  let c1_i32 : BitVec 32 := 1#32
  let v8 : BitVec 32 := Scalar.addi arg1 c1_i32
  let c8_i32 : BitVec 32 := 8#32
  let v53 : BitVec 32 := Scalar.subi c8_i32 v8
  let c1_i32_22 : BitVec 32 := 1#32
  let v55 : BitVec 32 := Scalar.divsi v53 c1_i32_22
  let v56 : BitVec 32 := Scalar.muli v55 c1_i32_22
  let v57 : BitVec 32 := Scalar.addi v8 v56
  let c1_i32_24 : BitVec 32 := 1#32
  let arg10 : BitVec 32 := Scf.iv v57 c1_i32_24 k1_t2
  let c1_i32_30 : BitVec 32 := 1#32
  let v64 : BitVec 32 := Scalar.muli arg10 c1_i32_30
  let c0_i32_31 : BitVec 32 := 0#32
  let v65 : BitVec 32 := Scalar.addi v64 c0_i32_31
  let c512_i32_32 : BitVec 32 := 512#32
  let v66 : BitVec 32 := Scalar.muli v65 c512_i32_32
  let v67 : BitVec 32 := v66
  let v68 : Index := Scalar.indexCast v67
  let c0_33 : Index := 0#32
  ![v68.toNat, 0]
def k1_off6 (i : grid1.Coords) (k1_t2 : Fin (k1_t2_loop i).trips) : Fin 4 → Nat :=
  let c0_38 : Index := 0#32
  let arg1 : BitVec 32 := BitVec.ofNat 32 (i 1).val
  let c1_i32 : BitVec 32 := 1#32
  let v8 : BitVec 32 := Scalar.addi arg1 c1_i32
  let c8_i32 : BitVec 32 := 8#32
  let v53 : BitVec 32 := Scalar.subi c8_i32 v8
  let c1_i32_22 : BitVec 32 := 1#32
  let v55 : BitVec 32 := Scalar.divsi v53 c1_i32_22
  let v56 : BitVec 32 := Scalar.muli v55 c1_i32_22
  let v57 : BitVec 32 := Scalar.addi v8 v56
  let c1_i32_24 : BitVec 32 := 1#32
  let arg10 : BitVec 32 := Scf.iv v57 c1_i32_24 k1_t2
  let c1_i32_30 : BitVec 32 := 1#32
  let v64 : BitVec 32 := Scalar.muli arg10 c1_i32_30
  let c0_i32_31 : BitVec 32 := 0#32
  let v65 : BitVec 32 := Scalar.addi v64 c0_i32_31
  let v81 : Index := Scalar.indexCast v65
  let c0_39 : Index := 0#32
  let c0_40 : Index := 0#32
  ![0, v81.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Reference9Ideal.lean ====
abbrev S4096x4x96 : Shape := ⟨3, ![4096, 4, 96]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩
abbrev S4096x4x128 : Shape := ⟨3, ![4096, 4, 128]⟩
abbrev S4096x512 : Shape := ⟨2, ![4096, 512]⟩
abbrev S4096x4x32 : Shape := ⟨3, ![4096, 4, 32]⟩

abbrev nBuf : Space → Nat
  | .hbm => 101
  | .vmem => 0
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .i1⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x64x4096, .f32⟩
  | .hbm, ⟨60, _⟩ => ⟨S4096x4x64, .f32⟩
  | .hbm, ⟨61, _⟩ => ⟨S4x64x4096, .f32⟩
  | .hbm, ⟨62, _⟩ => ⟨S4x4096x4096, .f32⟩
  | .hbm, ⟨63, _⟩ => ⟨S4x64x4096, .f32⟩
  | .hbm, ⟨64, _⟩ => ⟨S4096x4x64, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4x4096x96, .f32⟩
  | .hbm, ⟨86, _⟩ => ⟨S4096x4x96, .f32⟩
  | .hbm, ⟨87, _⟩ => ⟨S4x4096x96, .f32⟩
  | .hbm, ⟨88, _⟩ => ⟨S4096x4x96, .f32⟩
  | .hbm, ⟨89, _⟩ => ⟨S_, .f32⟩
  | .hbm, ⟨90, _⟩ => ⟨S4096x4x64, .f32⟩
  | .hbm, ⟨91, _⟩ => ⟨S4096x4x128, .f32⟩
  | .hbm, ⟨92, _⟩ => ⟨S4096x512, .f32⟩
  | .hbm, ⟨93, _⟩ => ⟨S_, .f32⟩
  | .hbm, ⟨94, _⟩ => ⟨S4096x4x32, .f32⟩
  | .hbm, ⟨95, _⟩ => ⟨S4096x4x128, .f32⟩
  | .hbm, ⟨96, _⟩ => ⟨S4096x512, .f32⟩
  | .hbm, ⟨97, _⟩ => ⟨S_, .f32⟩
  | .hbm, ⟨98, _⟩ => ⟨S4096x4x64, .f32⟩
  | .hbm, ⟨99, _⟩ => ⟨S4096x4x128, .f32⟩
  | .hbm, ⟨100, _⟩ => ⟨S4096x512, .f32⟩
  | _, _ => ⟨S4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Kernel10.lean ====
abbrev S4096x4x96 : Shape := ⟨3, ![4096, 4, 96]⟩
abbrev S4096x4x64 : Shape := ⟨3, ![4096, 4, 64]⟩
abbrev S_ : Shape := ⟨0, ![]⟩
abbrev S4096x4x128 : Shape := ⟨3, ![4096, 4, 128]⟩
abbrev S4096x512 : Shape := ⟨2, ![4096, 512]⟩
abbrev S4096x1024 : Shape := ⟨2, ![4096, 1024]⟩
abbrev S4x4096x4096 : Shape := ⟨3, ![4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S512x128 : Shape := ⟨2, ![512, 128]⟩
abbrev S4096x128 : Shape := ⟨2, ![4096, 128]⟩
abbrev S1x512x1 : Shape := ⟨3, ![1, 512, 1]⟩
abbrev S512 : Shape := ⟨1, ![512]⟩
abbrev S512x1 : Shape := ⟨2, ![512, 1]⟩
abbrev S512x512 : Shape := ⟨2, ![512, 512]⟩

abbrev nBuf : Space → Nat
  | .hbm => 92
  | .vmem => 18
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S_, .i32⟩
  | .hbm, ⟨5, _⟩ => ⟨S_, .f32⟩
  | .hbm, ⟨6, _⟩ => ⟨S4096x4x128, .f32⟩
  | .hbm, ⟨7, _⟩ => ⟨S4096x512, .f32⟩
  | .hbm, ⟨8, _⟩ => ⟨S4096x512, .bf16⟩
  | .hbm, ⟨9, _⟩ => ⟨S_, .i32⟩
  | .hbm, ⟨10, _⟩ => ⟨S_, .f32⟩
  | .hbm, ⟨11, _⟩ => ⟨S4096x4x128, .f32⟩
  | .hbm, ⟨12, _⟩ => ⟨S4096x512, .f32⟩
  | .hbm, ⟨13, _⟩ => ⟨S4096x512, .bf16⟩
  | .hbm, ⟨14, _⟩ => ⟨S4096x4x64, .f32⟩
  | .hbm, ⟨15, _⟩ => ⟨S_, .i32⟩
  | .hbm, ⟨16, _⟩ => ⟨S_, .f32⟩
  | .hbm, ⟨17, _⟩ => ⟨S4096x4x128, .f32⟩
  | .hbm, ⟨18, _⟩ => ⟨S4096x512, .f32⟩
  | .hbm, ⟨19, _⟩ => ⟨S_, .i32⟩
  | .hbm, ⟨20, _⟩ => ⟨S_, .f32⟩
  | .hbm, ⟨21, _⟩ => ⟨S4096x4x128, .f32⟩
  | .hbm, ⟨22, _⟩ => ⟨S4096x512, .f32⟩
  | .hbm, ⟨23, _⟩ => ⟨S4096x1024, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4x4096x4096, .i1⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S4x64x4096, .f32⟩
  | .hbm, ⟨54, _⟩ => ⟨S4096x4x64, .f32⟩
  | .hbm, ⟨55, _⟩ => ⟨S_, .i32⟩
  | .hbm, ⟨56, _⟩ => ⟨S_, .f32⟩
  | .hbm, ⟨57, _⟩ => ⟨S4096x4x128, .f32⟩
  | .hbm, ⟨58, _⟩ => ⟨S4096x512, .f32⟩
  | .hbm, ⟨59, _⟩ => ⟨S4x4096x4096, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S4096, .i32⟩
  | .hbm, ⟨64, _⟩ => ⟨S1x4096, .i32⟩
  | .hbm, ⟨65, _⟩ => ⟨S4096x1, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S_, .f32⟩
  | .hbm, ⟨70, _⟩ => ⟨S_, .f32⟩
  | .hbm, ⟨71, _⟩ => ⟨S4x4096x4096, .i1⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S_, .i32⟩
  | .hbm, ⟨86, _⟩ => ⟨S_, .f32⟩
  | .hbm, ⟨87, _⟩ => ⟨S4096x4x128, .f32⟩
  | .hbm, ⟨88, _⟩ => ⟨S4096x512, .f32⟩
  | .hbm, ⟨89, _⟩ => ⟨S4096x512, .f32⟩
  | .hbm, ⟨90, _⟩ => ⟨S4x4096x1, .f32⟩
  | .hbm, ⟨91, _⟩ => ⟨S4x4096x1, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1, .f32⟩
  | .local _ .vmem, ⟨11, _⟩ => ⟨S1x512x1, .f32⟩
  | .local _ .vmem, ⟨12, _⟩ => ⟨S512x128, .f32⟩
  | .local _ .vmem, ⟨13, _⟩ => ⟨S512x128, .f32⟩
  | .local _ .vmem, ⟨14, _⟩ => ⟨S1x512x1, .f32⟩
  | .local _ .vmem, ⟨15, _⟩ => ⟨S1x512x1, .f32⟩
  | .local _ .vmem, ⟨16, _⟩ => ⟨S1x512x1, .f32⟩
  | .local _ .vmem, ⟨17, _⟩ => ⟨S1x512x1, .f32⟩
  | _, _ => ⟨S4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_call5_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_call6_v0 : Ref sig .tc := ⟨.hbm, 70, rfl⟩
abbrev main_call6_v1 : Ref sig .tc := ⟨.hbm, 71, rfl⟩
abbrev main_call6_v2 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_call7_v0 : Ref sig .tc := ⟨.hbm, 86, rfl⟩
abbrev main_v56 : Ref sig .tc := ⟨.hbm, 87, rfl⟩
abbrev main_v57 : Ref sig .tc := ⟨.hbm, 88, rfl⟩
abbrev main_v58_0 : Ref sig .tc := ⟨.hbm, 89, rfl⟩
abbrev main_v58_1 : Ref sig .tc := ⟨.hbm, 90, rfl⟩
abbrev main_v58_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_11 : BitVec 32 := 1#32
  ⟨c0_i32, v20, c1_i32_11⟩
def k0_mult1 (i : grid0.Coords) (k0_t1 : Fin (k0_t1_loop i).trips) : BitVec 32 :=
  let c0_i32 : BitVec 32 := 0#32
  let c1_i32_11 : BitVec 32 := 1#32
  let arg11 : BitVec 32 := Scf.iv c0_i32 c1_i32_11 k0_t1
  let c512_i32_30 : BitVec 32 := 512#32
  let v62 : BitVec 32 := Scalar.muli arg11 c512_i32_30
  v62
def k0_off1 (i : grid0.Coords) (k0_t1 : Fin (k0_t1_loop i).trips) : Fin 2 → Nat :=
  let c0_i32 : BitVec 32 := 0#32
  let c1_i32_11 : BitVec 32 := 1#32
  let arg11 : BitVec 32 := Scf.iv c0_i32 c1_i32_11 k0_t1
  let c512_i32_30 : BitVec 32 := 512#32
  let v62 : BitVec 32 := Scalar.muli arg11 c512_i32_30
  let v63 : BitVec 32 := v62
  let v64 : Index := Scalar.indexCast v63
  let c0_31 : Index := 0#32
  ![v64.toNat, 0]
@[reducible] def k0_t2_loop (i : grid0.Coords) : Scf.Loop 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_12 : BitVec 32 := 1#32
  ⟨v20, v17, c1_i32_12⟩
def k0_mult2 (i : grid0.Coords) (k0_t2 : Fin (k0_t2_loop i).trips) : BitVec 32 :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_12 : BitVec 32 := 1#32
  let arg11 : BitVec 32 := Scf.iv v20 c1_i32_12 k0_t2
  let c512_i32_30 : BitVec 32 := 512#32
  let v62 : BitVec 32 := Scalar.muli arg11 c512_i32_30
  v62
def k0_off2 (i : grid0.Coords) (k0_t2 : Fin (k0_t2_loop i).trips) : Fin 2 → Nat :=
  let c0_i32 : BitVec 32 := 0#32
  let arg1 : BitVec 32 := BitVec.ofNat 32 (i 1).val
  let v16 : BitVec 32 := Scalar.subi arg1 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_12 : BitVec 32 := 1#32
  let arg11 : BitVec 32 := Scf.iv v20 c1_i32_12 k0_t2
  let c512_i32_30 : BitVec 32 := 512#32
  let v62 : BitVec 32 := Scalar.muli arg11 c512_i32_30
  let v63 : BitVec 32 := v62
  let v64 : Index := Scalar.indexCast v63
  let c0_31 : Index := 0#32
  ![v64.toNat, 0]
def k0_mult3 (i : grid0.Coords) : BitVec 32 :=
  let arg1 : BitVec 32 := BitVec.ofNat 32 (i 1).val
  let c512_i32 : BitVec 32 := 512#32
  let v23 : BitVec 32 := Scalar.muli arg1 c512_i32
  v23
def k0_off3 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_13 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S4096x4x96 : Shape := ⟨3, ![4096, 4, 96]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩
abbrev S4096x4x32 : Shape := ⟨3, ![4096, 4, 32]⟩
abbrev S4096x4x128 : Shape := ⟨3, ![4096, 4, 128]⟩
abbrev S4096x512 : Shape := ⟨2, ![4096, 512]⟩

abbrev nBuf : Space → Nat
  | .hbm => 93
  | .vmem => 0
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .i1⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x64x4096, .f32⟩
  | .hbm, ⟨60, _⟩ => ⟨S4096x4x64, .f32⟩
  | .hbm, ⟨61, _⟩ => ⟨S4x64x4096, .f32⟩
  | .hbm, ⟨62, _⟩ => ⟨S4x4096x4096, .f32⟩
  | .hbm, ⟨63, _⟩ => ⟨S4x64x4096, .f32⟩
  | .hbm, ⟨64, _⟩ => ⟨S4096x4x64, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4x4096x96, .f32⟩
  | .hbm, ⟨86, _⟩ => ⟨S4096x4x96, .f32⟩
  | .hbm, ⟨87, _⟩ => ⟨S4x4096x96, .f32⟩
  | .hbm, ⟨88, _⟩ => ⟨S4096x4x96, .f32⟩
  | .hbm, ⟨89, _⟩ => ⟨S_, .f32⟩
  | .hbm, ⟨90, _⟩ => ⟨S4096x4x32, .f32⟩
  | .hbm, ⟨91, _⟩ => ⟨S4096x4x128, .f32⟩
  | .hbm, ⟨92, _⟩ => ⟨S4096x512, .f32⟩
  | _, _ => ⟨S4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Kernel11.lean ====
abbrev S4096x4x64 : Shape := ⟨3, ![4096, 4, 64]⟩
abbrev S4096x4 : Shape := ⟨2, ![4096, 4]⟩
abbrev S_ : Shape := ⟨0, ![]⟩
abbrev S4096x4x128 : Shape := ⟨3, ![4096, 4, 128]⟩
abbrev S4096x512 : Shape := ⟨2, ![4096, 512]⟩
abbrev S4096x1536 : Shape := ⟨2, ![4096, 1536]⟩
abbrev S4x4096 : Shape := ⟨2, ![4, 4096]⟩
abbrev S4x8x1x512 : Shape := ⟨4, ![4, 8, 1, 512]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S512x128 : Shape := ⟨2, ![512, 128]⟩
abbrev S4096x128 : Shape := ⟨2, ![4096, 128]⟩
abbrev S1x512x1 : Shape := ⟨3, ![1, 512, 1]⟩
abbrev S1x8x1x512 : Shape := ⟨4, ![1, 8, 1, 512]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩

abbrev nBuf : Space → Nat
  | .hbm => 107
  | .vmem => 20
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4x64, .f32⟩
  | .hbm, ⟨5, _⟩ => ⟨S_, .i32⟩
  | .hbm, ⟨6, _⟩ => ⟨S_, .f32⟩
  | .hbm, ⟨7, _⟩ => ⟨S4096x4x128, .f32⟩
  | .hbm, ⟨8, _⟩ => ⟨S4096x512, .f32⟩
  | .hbm, ⟨9, _⟩ => ⟨S_, .i32⟩
  | .hbm, ⟨10, _⟩ => ⟨S_, .f32⟩
  | .hbm, ⟨11, _⟩ => ⟨S4096x4x128, .f32⟩
  | .hbm, ⟨12, _⟩ => ⟨S4096x512, .f32⟩
  | .hbm, ⟨13, _⟩ => ⟨S_, .i32⟩
  | .hbm, ⟨14, _⟩ => ⟨S_, .f32⟩
  | .hbm, ⟨15, _⟩ => ⟨S4096x4x128, .f32⟩
  | .hbm, ⟨16, _⟩ => ⟨S4096x512, .f32⟩
  | .hbm, ⟨17, _⟩ => ⟨S4096x1536, .f32⟩
  | .hbm, ⟨18, _⟩ => ⟨S4x4096, .f32⟩
  | .hbm, ⟨19, _⟩ => ⟨S4x8x1x512, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S4x4096x4096, .i1⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x64x4096, .f32⟩
  | .hbm, ⟨58, _⟩ => ⟨S4096x4x64, .f32⟩
  | .hbm, ⟨59, _⟩ => ⟨S_, .i32⟩
  | .hbm, ⟨60, _⟩ => ⟨S_, .f32⟩
  | .hbm, ⟨61, _⟩ => ⟨S4096x4x128, .f32⟩
  | .hbm, ⟨62, _⟩ => ⟨S4096x512, .f32⟩
  | .hbm, ⟨63, _⟩ => ⟨S4x4096x4096, .f32⟩
  | .hbm, ⟨64, _⟩ => ⟨S_, .f32⟩
  | .hbm, ⟨65, _⟩ => ⟨S4x4096x4096, .f32⟩
  | .hbm, ⟨66, _⟩ => ⟨S4x4096x4096, .f32⟩
  | .hbm, ⟨67, _⟩ => ⟨S4x4096, .f32⟩
  | .hbm, ⟨68, _⟩ => ⟨S4x4096x1, .f32⟩
  | .hbm, ⟨69, _⟩ => ⟨S4x4096x4096, .f32⟩
  | .hbm, ⟨70, _⟩ => ⟨S4x4096x4096, .f32⟩
  | .hbm, ⟨71, _⟩ => ⟨S4x4096, .f32⟩
  | .hbm, ⟨72, _⟩ => ⟨S4x1x4096, .f32⟩
  | .hbm, ⟨73, _⟩ => ⟨S4x4096x4096, .f32⟩
  | .hbm, ⟨74, _⟩ => ⟨S4x4096x4096, .f32⟩
  | .hbm, ⟨75, _⟩ => ⟨S4096, .i32⟩
  | .hbm, ⟨76, _⟩ => ⟨S1x4096, .i32⟩
  | .hbm, ⟨77, _⟩ => ⟨S4096x1, .i32⟩
  | .hbm, ⟨78, _⟩ => ⟨S4096x4096, .i32⟩
  | .hbm, ⟨79, _⟩ => ⟨S4096x4096, .i32⟩
  | .hbm, ⟨80, _⟩ => ⟨S4096x4096, .i1⟩
  | .hbm, ⟨81, _⟩ => ⟨S_, .f32⟩
  | .hbm, ⟨82, _⟩ => ⟨S_, .f32⟩
  | .hbm, ⟨83, _⟩ => ⟨S4x4096x4096, .i1⟩
  | .hbm, ⟨84, _⟩ => ⟨S4x4096x4096, .f32⟩
  | .hbm, ⟨85, _⟩ => ⟨S4x4096x4096, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S4x4096x1, .f32⟩
  | .hbm, ⟨96, _⟩ => ⟨S4x4096x1, .f32⟩
  | .hbm, ⟨97, _⟩ => ⟨S4x4096, .f32⟩
  | .hbm, ⟨98, _⟩ => ⟨S4x4096x1, .f32⟩
  | .hbm, ⟨99, _⟩ => ⟨S4x4096x1, .f32⟩
  | .hbm, ⟨100, _⟩ => ⟨S_, .i32⟩
  | .hbm, ⟨101, _⟩ => ⟨S_, .f32⟩
  | .hbm, ⟨102, _⟩ => ⟨S4096x4x128, .f32⟩
  | .hbm, ⟨103, _⟩ => ⟨S4096x512, .f32⟩
  | .hbm, ⟨104, _⟩ => ⟨S4096x512, .f32⟩
  | .hbm, ⟨105, _⟩ => ⟨S4x4096x1, .f32⟩
  | .hbm, ⟨106, _⟩ => ⟨S4x4096x1, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1, .f32⟩
  | .local _ .vmem, ⟨11, _⟩ => ⟨S1x512x1, .f32⟩
  | .local _ .vmem, ⟨12, _⟩ => ⟨S1x8x1x512, .f32⟩
  | .local _ .vmem, ⟨13, _⟩ => ⟨S1x8x1x512, .f32⟩
  | .local _ .vmem, ⟨14, _⟩ => ⟨S512x128, .f32⟩
  | .local _ .vmem, ⟨15, _⟩ => ⟨S512x128, .f32⟩
  | .local _ .vmem, ⟨16, _⟩ => ⟨S1x512x1, .f32⟩
  | .local _ .vmem, ⟨17, _⟩ => ⟨S1x512x1, .f32⟩
  | .local _ .vmem, ⟨18, _⟩ => ⟨S1x512x1, .f32⟩
  | .local _ .vmem, ⟨19, _⟩ => ⟨S1x512x1, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_call4_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_call6_v0 : Ref sig .tc := ⟨.hbm, 101, rfl⟩
abbrev main_v72 : Ref sig .tc := ⟨.hbm, 102, rfl⟩
abbrev main_v73 : Ref sig .tc := ⟨.hbm, 103, rfl⟩
abbrev main_v74_0 : Ref sig .tc := ⟨.hbm, 104, rfl⟩
abbrev main_v74_1 : Ref sig .tc := ⟨.hbm, 105, rfl⟩
abbrev main_v74_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  ⟨c0_i32, v21, c1_i32_11⟩
def k0_mult1 (i : grid0.Coords) (k0_t1 : Fin (k0_t1_loop i).trips) : BitVec 32 :=
  let c0_i32 : BitVec 32 := 0#32
  let c1_i32_11 : BitVec 32 := 1#32
  let arg12 : BitVec 32 := Scf.iv c0_i32 c1_i32_11 k0_t1
  let c512_i32_32 : BitVec 32 := 512#32
  let v67 : BitVec 32 := Scalar.muli arg12 c512_i32_32
  v67
def k0_off1 (i : grid0.Coords) (k0_t1 : Fin (k0_t1_loop i).trips) : Fin 2 → Nat :=
  let c0_i32 : BitVec 32 := 0#32
  let c1_i32_11 : BitVec 32 := 1#32
  let arg12 : BitVec 32 := Scf.iv c0_i32 c1_i32_11 k0_t1
  let c512_i32_32 : BitVec 32 := 512#32
  let v67 : BitVec 32 := Scalar.muli arg12 c512_i32_32
  let v68 : BitVec 32 := v67
  let v69 : Index := Scalar.indexCast v68
  let c0_33 : Index := 0#32
  ![v69.toNat, 0]
def k0_off2 (i : grid0.Coords) (k0_t1 : Fin (k0_t1_loop i).trips) : Fin 4 → Nat :=
  let c0_35 : Index := 0#32
  let c0_i32 : BitVec 32 := 0#32
  let c1_i32_11 : BitVec 32 := 1#32
  let arg12 : BitVec 32 := Scf.iv c0_i32 c1_i32_11 k0_t1
  let v77 : Index := Scalar.indexCast arg12
  let c0_36 : Index := 0#32
  let c0_37 : Index := 0#32
  ![0, v77.toNat, 0, 0]
@[reducible] def k0_t2_loop (i : grid0.Coords) : Scf.Loop 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_12 : BitVec 32 := 1#32
  ⟨v21, v18, c1_i32_12⟩
def k0_mult2 (i : grid0.Coords) (k0_t2 : Fin (k0_t2_loop i).trips) : BitVec 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_12 : BitVec 32 := 1#32
  let arg12 : BitVec 32 := Scf.iv v21 c1_i32_12 k0_t2
  let c512_i32_32 : BitVec 32 := 512#32
  let v67 : BitVec 32 := Scalar.muli arg12 c512_i32_32
  v67
def k0_off3 (i : grid0.Coords) (k0_t2 : Fin (k0_t2_loop i).trips) : Fin 2 → Nat :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_12 : BitVec 32 := 1#32
  let arg12 : BitVec 32 := Scf.iv v21 c1_i32_12 k0_t2
  let c512_i32_32 : BitVec 32 := 512#32
  let v67 : BitVec 32 := Scalar.muli arg12 c512_i32_32
  let v68 : BitVec 32 := v67
  let v69 : Index := Scalar.indexCast v68
  let c0_33 : Index := 0#32
  ![v69.toNat, 0]
def k0_off4 (i : grid0.Coords) (k0_t2 : Fin (k0_t2_loop i).trips) : Fin 4 → Nat :=
  let c0_35 : Index := 0#32
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_12 : BitVec 32 := 1#32
  let arg12 : BitVec 32 := Scf.iv v21 c1_i32_12 k0_t2
  let v77 : Index := Scalar.indexCast arg12
  let c0_36 : Index := 0#32
  let c0_37 : Index := 0#32
  ![0, v77.toNat, 0, 0]
def k0_mult3 (i : grid0.Coords) : BitVec 32 :=
  let arg1 : BitVec 32 := BitVec.ofNat 32 (i 1).val
  let c512_i32 : BitVec 32 := 512#32
  let v24 : BitVec 32 := Scalar.muli arg1 c512_i32
  v24
def k0_off5 (i : grid0.Coords) : Fin 2 → Nat :=
  let arg1 : BitVec 32 := BitVec.ofNat 32 (i 1).val
  let c512_i32 : BitVec 32 := 512#32
  let v24 : BitVec 32 := Scalar.muli arg1 c512_i32
  let v25 : BitVec 32 := v24
  let v26 : Index := Scalar.indexCast v25
  let c0_13 : Index := 0#32
  ![v26.toNat, 0]
def k0_off6 (i : grid0.Coords) : Fin 4 → Nat :=
  let c0_15 : Index := 0#32
  let arg1 : BitVec 32 := BitVec.ofNat 32 (i 1).val
  let v34 : Index := Scalar.indexCast arg1
  let c0_16 : Index := 0#32
  let c0_17 : Index := 0#32
  ![0, v34.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S4096x4x64 : Shape := ⟨3, ![4096, 4, 64]⟩
abbrev S4096x4 : Shape := ⟨2, ![4096, 4]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4x4096x64 : Shape := ⟨3, ![4, 4096, 64]⟩
abbrev S4096x4x128 : Shape := ⟨3, ![4096, 4, 128]⟩
abbrev S4096x512 : Shape := ⟨2, ![4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x4x64, .f32⟩
  | .hbm, ⟨2, _⟩ => ⟨S4096x4x64, .f32⟩
  | .hbm, ⟨3, _⟩ => ⟨S4096x4, .f32⟩
  | .hbm, ⟨4, _⟩ => ⟨S4096x4x64, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .i1⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S4x4096, .i1⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x4096, .f32⟩
  | .hbm, ⟨63, _⟩ => ⟨S4x4096x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x64x4096, .f32⟩
  | .hbm, ⟨69, _⟩ => ⟨S4096x4x64, .f32⟩
  | .hbm, ⟨70, _⟩ => ⟨S4x64x4096, .f32⟩
  | .hbm, ⟨71, _⟩ => ⟨S4x4096x4096, .f32⟩
  | .hbm, ⟨72, _⟩ => ⟨S4x64x4096, .f32⟩
  | .hbm, ⟨73, _⟩ => ⟨S4096x4x64, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S4x4096x1, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x1x4096, .f32⟩
  | .hbm, ⟨95, _⟩ => ⟨S_, .f32⟩
  | .hbm, ⟨96, _⟩ => ⟨S4x4096, .f32⟩
  | .hbm, ⟨97, _⟩ => ⟨S4096x4, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096, .f32⟩
  | .hbm, ⟨103, _⟩ => ⟨S4096x4, .f32⟩
  | .hbm, ⟨104, _⟩ => ⟨S4096x4, .f32⟩
  | .hbm, ⟨105, _⟩ => ⟨S_, .f32⟩
  | .hbm, ⟨106, _⟩ => ⟨S4x4096x4096, .f32⟩
  | .hbm, ⟨107, _⟩ => ⟨S4x4096x4096, .f32⟩
  | .hbm, ⟨108, _⟩ => ⟨S4x4096x64, .f32⟩
  | .hbm, ⟨109, _⟩ => ⟨S4096x4x64, .f32⟩
  | .hbm, ⟨110, _⟩ => ⟨S4x4096x64, .f32⟩
  | .hbm, ⟨111, _⟩ => ⟨S4096x4x64, .f32⟩
  | .hbm, ⟨112, _⟩ => ⟨S_, .f32⟩
  | .hbm, ⟨113, _⟩ => ⟨S4096x4x64, .f32⟩
  | .hbm, ⟨114, _⟩ => ⟨S4096x4x128, .f32⟩
  | .hbm, ⟨115, _⟩ => ⟨S4096x512, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Kernel12.lean ====
abbrev S4096x1024 : Shape := ⟨2, ![4096, 1024]⟩
abbrev S512x1024 : Shape := ⟨2, ![512, 1024]⟩
abbrev S256x1024 : Shape := ⟨2, ![256, 1024]⟩

abbrev nBuf : Space → Nat
  | .hbm => 8
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference12Ideal.lean ====
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S512x1024 : Shape := ⟨2, ![512, 1024]⟩
abbrev S2048x1408 : Shape := ⟨2, ![2048, 1408]⟩
abbrev S6x1408 : Shape := ⟨2, ![6, 1408]⟩
abbrev S1408x1024 : Shape := ⟨2, ![1408, 1024]⟩
abbrev S512x256 : Shape := ⟨2, ![512, 256]⟩
abbrev S2048x537 : Shape := ⟨2, ![2048, 537]⟩
abbrev S384x96 : Shape := ⟨2, ![384, 96]⟩
abbrev S256x128 : Shape := ⟨2, ![256, 128]⟩
abbrev S8x128 : Shape := ⟨2, ![8, 128]⟩
abbrev S1248x128 : Shape := ⟨2, ![1248, 128]⟩
abbrev S256x1408 : Shape := ⟨2, ![256, 1408]⟩
abbrev S352x1024 : Shape := ⟨2, ![352, 1024]⟩
abbrev S512x537 : Shape := ⟨2, ![512, 537]⟩

abbrev nBuf : Space → Nat
  | .hbm => 77
  | .vmem => 98
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S6x1408, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S2048x537, .f32⟩
  | .hbm, ⟨25, _⟩ => ⟨S2048x537, .f32⟩
  | .hbm, ⟨26, _⟩ => ⟨S2048x537, .f32⟩
  | .hbm, ⟨27, _⟩ => ⟨S2048x537, .f32⟩
  | .hbm, ⟨28, _⟩ => ⟨S384x96, .f32⟩
  | .hbm, ⟨29, _⟩ => ⟨S384x96, .f32⟩
  | .hbm, ⟨30, _⟩ => ⟨S384x96, .f32⟩
  | .hbm, ⟨31, _⟩ => ⟨S384x96, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S1248x128, .f32⟩
  | .hbm, ⟨41, _⟩ => ⟨S1248x128, .f32⟩
  | .hbm, ⟨42, _⟩ => ⟨S1248x128, .f32⟩
  | .hbm, ⟨43, _⟩ => ⟨S1248x128, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S2048x1408, .f32⟩
  | .hbm, ⟨48, _⟩ => ⟨S2048x1408, .f32⟩
  | .hbm, ⟨49, _⟩ => ⟨S2048x1408, .f32⟩
  | .hbm, ⟨50, _⟩ => ⟨S6x1408, .f32⟩
  | .hbm, ⟨51, _⟩ => ⟨S6x1408, .f32⟩
  | .hbm, ⟨52, _⟩ => ⟨S6x1408, .f32⟩
  | .hbm, ⟨53, _⟩ => ⟨S1408x1024, .f32⟩
  | .hbm, ⟨54, _⟩ => ⟨S1408x1024, .f32⟩
  | .hbm, ⟨55, _⟩ => ⟨S1408x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S512x256, .f32⟩
  | .hbm, ⟨60, _⟩ => ⟨S512x256, .f32⟩
  | .hbm, ⟨61, _⟩ => ⟨S512x256, .f32⟩
  | .hbm, ⟨62, _⟩ => ⟨S2048x537, .f32⟩
  | .hbm, ⟨63, _⟩ => ⟨S2048x537, .f32⟩
  | .hbm, ⟨64, _⟩ => ⟨S2048x537, .f32⟩
  | .hbm, ⟨65, _⟩ => ⟨S384x96, .f32⟩
  | .hbm, ⟨66, _⟩ => ⟨S384x96, .f32⟩
  | .hbm, ⟨67, _⟩ => ⟨S384x96, .f32⟩
  | .hbm, ⟨68, _⟩ => ⟨S256x128, .f32⟩
  | .hbm, ⟨69, _⟩ => ⟨S256x128, .f32⟩
  | .hbm, ⟨70, _⟩ => ⟨S256x128, .f32⟩
  | .hbm, ⟨71, _⟩ => ⟨S8x128, .f32⟩
  | .hbm, ⟨72, _⟩ => ⟨S8x128, .f32⟩
  | .hbm, ⟨73, _⟩ => ⟨S8x128, .f32⟩
  | .hbm, ⟨74, _⟩ => ⟨S1248x128, .f32⟩
  | .hbm, ⟨75, _⟩ => ⟨S1248x128, .f32⟩
  | .hbm, ⟨76, _⟩ => ⟨S1248x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S6x1408, .f32⟩
  | .local _ .vmem, ⟨22, _⟩ => ⟨S6x1408, .f32⟩
  | .local _ .vmem, ⟨23, _⟩ => ⟨S6x1408, .f32⟩
  | .local _ .vmem, ⟨24, _⟩ => ⟨S6x1408, .f32⟩
  | .local _ .vmem, ⟨25, _⟩ => ⟨S6x1408, .f32⟩
  | .local _ .vmem, ⟨26, _⟩ => ⟨S6x1408, .f32⟩
  | .local _ .vmem, ⟨27, _⟩ => ⟨S6x1408, .f32⟩
  | .local _ .vmem, ⟨28, _⟩ => ⟨S352x1024, .f32⟩
  | .local _ .vmem, ⟨29, _⟩ => ⟨S352x1024, .f32⟩
  | .local _ .vmem, ⟨30, _⟩ => ⟨S352x1024, .f32⟩
  | .local _ .vmem, ⟨31, _⟩ => ⟨S352x1024, .f32⟩
  | .local _ .vmem, ⟨32, _⟩ => ⟨S352x1024, .f32⟩
  | .local _ .vmem, ⟨33, _⟩ => ⟨S352x1024, .f32⟩
  | .local _ .vmem, ⟨34, _⟩ => ⟨S352x1024, .f32⟩
  | .local _ .vmem, ⟨35, _⟩ => ⟨S352x1024, .f32⟩
  | .local _ .vmem, ⟨36, _⟩ => ⟨S352x1024, .f32⟩
  | .local _ .vmem, ⟨37, _⟩ => ⟨S352x1024, .f32⟩
  | .local _ .vmem, ⟨38, _⟩ => ⟨S352x1024, .f32⟩
  | .local _ .vmem, ⟨39, _⟩ => ⟨S352x1024, .f32⟩
  | .local _ .vmem, ⟨40, _⟩ => ⟨S352x1024, .f32⟩
  | .local _ .vmem, ⟨41, _⟩ => ⟨S352x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S512x537, .f32⟩
  | .local _ .vmem, ⟨57, _⟩ => ⟨S512x537, .f32⟩
  | .local _ .vmem, ⟨58, _⟩ => ⟨S512x537, .f32⟩
  | .local _ .vmem, ⟨59, _⟩ => ⟨S512x537, .f32⟩
  | .local _ .vmem, ⟨60, _⟩ => ⟨S512x537, .f32⟩
  | .local _ .vmem, ⟨61, _⟩ => ⟨S512x537, .f32⟩
  | .local _ .vmem, ⟨62, _⟩ => ⟨S512x537, .f32⟩
  | .local _ .vmem, ⟨63, _⟩ => ⟨S512x537, .f32⟩
  | .local _ .vmem, ⟨64, _⟩ => ⟨S512x537, .f32⟩
  | .local _ .vmem, ⟨65, _⟩ => ⟨S512x537, .f32⟩
  | .local _ .vmem, ⟨66, _⟩ => ⟨S512x537, .f32⟩
  | .local _ .vmem, ⟨67, _⟩ => ⟨S512x537, .f32⟩
  | .local _ .vmem, ⟨68, _⟩ => ⟨S512x537, .f32⟩
  | .local _ .vmem, ⟨69, _⟩ => ⟨S512x537, .f32⟩
  | .local _ .vmem, ⟨70, _⟩ => ⟨S384x96, .f32⟩
  | .local _ .vmem, ⟨71, _⟩ => ⟨S384x96, .f32⟩
  | .local _ .vmem, ⟨72, _⟩ => ⟨S384x96, .f32⟩
  | .local _ .vmem, ⟨73, _⟩ => ⟨S384x96, .f32⟩
  | .local _ .vmem, ⟨74, _⟩ => ⟨S384x96, .f32⟩
  | .local _ .vmem, ⟨75, _⟩ => ⟨S384x96, .f32⟩
  | .local _ .vmem, ⟨76, _⟩ => ⟨S384x96, .f32⟩
  | .local _ .vmem, ⟨77, _⟩ => ⟨S256x128, .f32⟩
  | .local _ .vmem, ⟨78, _⟩ => ⟨S256x128, .f32⟩
  | .local _ .vmem, ⟨79, _⟩ => ⟨S256x128, .f32⟩
  | .local _ .vmem, ⟨80, _⟩ => ⟨S256x128, .f32⟩
  | .local _ .vmem, ⟨81, _⟩ => ⟨S256x128, .f32⟩
  | .local _ .vmem, ⟨82, _⟩ => ⟨S256x128, .f32⟩
  | .local _ .vmem, ⟨83, _⟩ => ⟨S256x128, .f32⟩
  | .local _ .vmem, ⟨84, _⟩ => ⟨S8x128, .f32⟩
  | .local _ .vmem, ⟨85, _⟩ => ⟨S8x128, .f32⟩
  | .local _ .vmem, ⟨86, _⟩ => ⟨S8x128, .f32⟩
  | .local _ .vmem, ⟨87, _⟩ => ⟨S8x128, .f32⟩
  | .local _ .vmem, ⟨88, _⟩ => ⟨S8x128, .f32⟩
  | .local _ .vmem, ⟨89, _⟩ => ⟨S8x128, .f32⟩
  | .local _ .vmem, ⟨90, _⟩ => ⟨S8x128, .f32⟩
  | .local _ .vmem, ⟨91, _⟩ => ⟨S1248x128, .f32⟩
  | .local _ .vmem, ⟨92, _⟩ => ⟨S1248x128, .f32⟩
  | .local _ .vmem, ⟨93, _⟩ => ⟨S1248x128, .f32⟩
  | .local _ .vmem, ⟨94, _⟩ => ⟨S1248x128, .f32⟩
  | .local _ .vmem, ⟨95, _⟩ => ⟨S1248x128, .f32⟩
  | .local _ .vmem, ⟨96, _⟩ => ⟨S1248x128, .f32⟩
  | .local _ .vmem, ⟨97, _⟩ => ⟨S1248x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0_0 : Ref sig .tc := ⟨.hbm, 44, rfl⟩
abbrev main_v0_1 : Ref sig .tc := ⟨.hbm, 45, rfl⟩
abbrev main_v0_2 : Ref sig .tc := ⟨.hbm, 46, rfl⟩
abbrev main_v1_0 : Ref sig .tc := ⟨.hbm, 47, rfl⟩
abbrev main_v1_1 : Ref sig .tc := ⟨.hbm, 48, rfl⟩
abbrev main_v1_2 : Ref sig .tc := ⟨.hbm, 49, rfl⟩
abbrev main_v2_0 : Ref sig .tc := ⟨.hbm, 50, rfl⟩
abbrev main_v2_1 : Ref sig .tc := ⟨.hbm, 51, rfl⟩
abbrev main_v2_2 : Ref sig .tc := ⟨.hbm, 52, rfl⟩
abbrev main_v3_0 : Ref sig .tc := ⟨.hbm, 53, rfl⟩
abbrev main_v3_1 : Ref sig .tc := ⟨.hbm, 54, rfl⟩
abbrev main_v3_2 : Ref sig .tc := ⟨.hbm, 55, rfl⟩
abbrev main_v4_0 : Ref sig .tc := ⟨.hbm, 56, rfl⟩
abbrev main_v4_1 : Ref sig .tc := ⟨.hbm, 57, rfl⟩
abbrev main_v4_2 : Ref sig .tc := ⟨.hbm, 58, rfl⟩
abbrev main_v5_0 : Ref sig .tc := ⟨.hbm, 59, rfl⟩
abbrev main_v5_1 : Ref sig .tc := ⟨.hbm, 60, rfl⟩
abbrev main_v5_2 : Ref sig .tc := ⟨.hbm, 61, rfl⟩
abbrev main_v6_0 : Ref sig .tc := ⟨.hbm, 62, rfl⟩
abbrev main_v6_1 : Ref sig .tc := ⟨.hbm, 63, rfl⟩
abbrev main_v6_2 : Ref sig .tc := ⟨.hbm, 64, rfl⟩
abbrev main_v7_0 : Ref sig .tc := ⟨.hbm, 65, rfl⟩
abbrev main_v7_1 : Ref sig .tc := ⟨.hbm, 66, rfl⟩
abbrev main_v7_2 : Ref sig .tc := ⟨.hbm, 67, rfl⟩
abbrev main_v8_0 : Ref sig .tc := ⟨.hbm, 68, rfl⟩
abbrev main_v8_1 : Ref sig .tc := ⟨.hbm, 69, rfl⟩
abbrev main_v8_2 : Ref sig .tc := ⟨.hbm, 70, rfl⟩
abbrev main_v9_0 : Ref sig .tc := ⟨.hbm, 71, rfl⟩
abbrev main_v9_1 : Ref sig .tc := ⟨.hbm, 72, rfl⟩
abbrev main_v9_2 : Ref sig .tc := ⟨.hbm, 73, rfl⟩
abbrev main_v10_0 : Ref sig .tc := ⟨.hbm, 74, rfl⟩
abbrev main_v10_1 : Ref sig .tc := ⟨.hbm, 75, rfl⟩
abbrev main_v10_2 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg6_1 : Ref sig .tc := ⟨.vmem, 69, rfl⟩
abbrev cc7_stg0_0 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc8_stg0_0 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg6_0 : Ref sig .tc := ⟨.vmem, 83, rfl⟩
abbrev cc9_stg0_0 : Ref sig .tc := ⟨.vmem, 84, rfl⟩
abbrev cc9_stg1_0 : Ref sig .tc := ⟨.vmem, 85, rfl⟩
abbrev cc9_stg2_0 : Ref sig .tc := ⟨.vmem, 86, rfl⟩
abbrev cc9_stg3_0 : Ref sig .tc := ⟨.vmem, 87, rfl⟩
abbrev cc9_stg4_0 : Ref sig .tc := ⟨.vmem, 88, rfl⟩
abbrev cc9_stg5_0 : Ref sig .tc := ⟨.vmem, 89, rfl⟩
abbrev cc9_stg6_0 : Ref sig .tc := ⟨.vmem, 90, rfl⟩
abbrev cc10_stg0_0 : Ref sig .tc := ⟨.vmem, 91, rfl⟩
abbrev cc10_stg1_0 : Ref sig .tc := ⟨.vmem, 92, rfl⟩
abbrev cc10_stg2_0 : Ref sig .tc := ⟨.vmem, 93, rfl⟩
abbrev cc10_stg3_0 : Ref sig .tc := ⟨.vmem, 94, rfl⟩
abbrev cc10_stg4_0 : Ref sig .tc := ⟨.vmem, 95, rfl⟩
abbrev cc10_stg5_0 : Ref sig .tc := ⟨.vmem, 96, rfl⟩
abbrev cc10_stg6_0 : Ref sig .tc := ⟨.vmem, 97, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc5_sem0_0 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem4_1 : DmaSem sig := 65
abbrev cc6_sem5_0 : DmaSem sig := 66
abbrev cc6_sem5_1 : DmaSem sig := 67
abbrev cc6_sem6_0 : DmaSem sig := 68
abbrev cc6_sem6_1 : DmaSem sig := 69
abbrev cc7_sem0_0 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc8_sem0_0 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem6_0 : DmaSem sig := 83
abbrev cc9_sem0_0 : DmaSem sig := 84
abbrev cc9_sem1_0 : DmaSem sig := 85
abbrev cc9_sem2_0 : DmaSem sig := 86
abbrev cc9_sem3_0 : DmaSem sig := 87
abbrev cc9_sem4_0 : DmaSem sig := 88
abbrev cc9_sem5_0 : DmaSem sig := 89
abbrev cc9_sem6_0 : DmaSem sig := 90
abbrev cc10_sem0_0 : DmaSem sig := 91
abbrev cc10_sem1_0 : DmaSem sig := 92
abbrev cc10_sem2_0 : DmaSem sig := 93
abbrev cc10_sem3_0 : DmaSem sig := 94
abbrev cc10_sem4_0 : DmaSem sig := 95
abbrev cc10_sem5_0 : DmaSem sig := 96
abbrev cc10_sem6_0 : DmaSem sig := 97

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S6x1408 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S6x1408 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S6x1408 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S6x1408 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S6x1408 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S6x1408 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S6x1408 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S352x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S352x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S352x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S352x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S352x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S352x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S352x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S512x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S512x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S512x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S512x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S512x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S512x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S512x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S512x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S512x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x537 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x537 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x537 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x537 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x537 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x537 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x537 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S384x96 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S384x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S384x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S384x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S384x96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S384x96 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S384x96 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S256x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S256x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S256x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .vmem S256x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S8x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S8x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S8x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S8x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S8x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev stage9_5 : Fin 1 → Memref sig .tc .vmem S8x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![true]

abbrev stage9_6 : Fin 1 → Memref sig .tc .vmem S8x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S1248x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1248x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S1248x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

abbrev stage10_3 : Fin 1 → Memref sig .tc .vmem S1248x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S1248x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev stage10_5 : Fin 1 → Memref sig .tc .vmem S1248x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev stage10_6 : Fin 1 → Memref sig .tc .vmem S1248x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![true]
-- ==== Reference13Ideal.lean ====
abbrev S512x1024 : Shape := ⟨2, ![512, 1024]⟩
abbrev S2048x1408 : Shape := ⟨2, ![2048, 1408]⟩
abbrev S6x1408 : Shape := ⟨2, ![6, 1408]⟩
abbrev S1408x1024 : Shape := ⟨2, ![1408, 1024]⟩
abbrev S512x256 : Shape := ⟨2, ![512, 256]⟩
abbrev S2048x537 : Shape := ⟨2, ![2048, 537]⟩
abbrev S384x96 : Shape := ⟨2, ![384, 96]⟩
abbrev S256x128 : Shape := ⟨2, ![256, 128]⟩
abbrev S8x128 : Shape := ⟨2, ![8, 128]⟩
abbrev S1248x128 : Shape := ⟨2, ![1248, 128]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S2048x1408, .f32⟩
  | 5 => ⟨S2048x1408, .f32⟩
  | 6 => ⟨S2048x1408, .f32⟩
  | 7 => ⟨S2048x1408, .f32⟩
  | 8 => ⟨S6x1408, .f32⟩
  | 9 => ⟨S6x1408, .f32⟩
  | 10 => ⟨S6x1408, .f32⟩
  | 11 => ⟨S6x1408, .f32⟩
  | 12 => ⟨S1408x1024, .f32⟩
  | 13 => ⟨S1408x1024, .f32⟩
  | 14 => ⟨S1408x1024, .f32⟩
  | 15 => ⟨S1408x1024, .f32⟩
  | 16 => ⟨S512x1024, .f32⟩
  | 17 => ⟨S512x1024, .f32⟩
  | 18 => ⟨S512x1024, .f32⟩
  | 19 => ⟨S512x1024, .f32⟩
  | 20 => ⟨S512x256, .f32⟩
  | 21 => ⟨S512x256, .f32⟩
  | 22 => ⟨S512x256, .f32⟩
  | 23 => ⟨S512x256, .f32⟩
  | 24 => ⟨S2048x537, .f32⟩
  | 25 => ⟨S2048x537, .f32⟩
  | 26 => ⟨S2048x537, .f32⟩
  | 27 => ⟨S2048x537, .f32⟩
  | 28 => ⟨S384x96, .f32⟩
  | 29 => ⟨S384x96, .f32⟩
  | 30 => ⟨S384x96, .f32⟩
  | 31 => ⟨S384x96, .f32⟩
  | 32 => ⟨S256x128, .f32⟩
  | 33 => ⟨S256x128, .f32⟩
  | 34 => ⟨S256x128, .f32⟩
  | 35 => ⟨S256x128, .f32⟩
  | 36 => ⟨S8x128, .f32⟩
  | 37 => ⟨S8x128, .f32⟩
  | 38 => ⟨S8x128, .f32⟩
  | 39 => ⟨S8x128, .f32⟩
  | 40 => ⟨S1248x128, .f32⟩
  | 41 => ⟨S1248x128, .f32⟩
  | 42 => ⟨S1248x128, .f32⟩
  | 43 => ⟨S1248x128, .f32⟩
  | 44 => ⟨S_, .f32⟩
  | 45 => ⟨S512x1024, .f32⟩
  | 46 => ⟨S512x1024, .f32⟩
  | 47 => ⟨S_, .f32⟩
  | 48 => ⟨S512x1024, .f32⟩
  | 49 => ⟨S512x1024, .f32⟩
  | 50 => ⟨S512x1024, .f32⟩
  | 51 => ⟨S_, .f32⟩
  | 52 => ⟨S512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S512x1024, .f32⟩
  | 59 => ⟨S_, .f32⟩
  | 60 => ⟨S512x1024, .f32⟩
  | 61 => ⟨S512x1024, .f32⟩
  | 62 => ⟨S_, .f32⟩
  | 63 => ⟨S512x1024, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S_, .f32⟩
  | 78 => ⟨S2048x1408, .f32⟩
  | 79 => ⟨S2048x1408, .f32⟩
  | 80 => ⟨S_, .f32⟩
  | 81 => ⟨S2048x1408, .f32⟩
  | 82 => ⟨S2048x1408, .f32⟩
  | 83 => ⟨S2048x1408, .f32⟩
  | 84 => ⟨S_, .f32⟩
  | 85 => ⟨S2048x1408, .f32⟩
  | 86 => ⟨S2048x1408, .f32⟩
  | 87 => ⟨S2048x1408, .f32⟩
  | 88 => ⟨S_, .f32⟩
  | 89 => ⟨S2048x1408, .f32⟩
  | 90 => ⟨S2048x1408, .f32⟩
  | 91 => ⟨S2048x1408, .f32⟩
  | 92 => ⟨S_, .f32⟩
  | 93 => ⟨S2048x1408, .f32⟩
  | 94 => ⟨S2048x1408, .f32⟩
  | 95 => ⟨S_, .f32⟩
  | 96 => ⟨S2048x1408, .f32⟩
  | 97 => ⟨S2048x1408, .f32⟩
  | 98 => ⟨S2048x1408, .f32⟩
  | 99 => ⟨S_, .f32⟩
  | 100 => ⟨S2048x1408, .f32⟩
  | 101 => ⟨S2048x1408, .f32⟩
  | 102 => ⟨S2048x1408, .f32⟩
  | 103 => ⟨S_, .f32⟩
  | 104 => ⟨S2048x1408, .f32⟩
  | 105 => ⟨S2048x1408, .f32⟩
  | 106 => ⟨S2048x1408, .f32⟩
  | 107 => ⟨S_, .f32⟩
  | 108 => ⟨S2048x1408, .f32⟩
  | 109 => ⟨S2048x1408, .f32⟩
  | 110 => ⟨S_, .f32⟩
  | 111 => ⟨S6x1408, .f32⟩
  | 112 => ⟨S6x1408, .f32⟩
  | 113 => ⟨S_, .f32⟩
  | 114 => ⟨S6x1408, .f32⟩
  | 115 => ⟨S6x1408, .f32⟩
  | 116 => ⟨S6x1408, .f32⟩
  | 117 => ⟨S_, .f32⟩
  | 118 => ⟨S6x1408, .f32⟩
  | 119 => ⟨S6x1408, .f32⟩
  | 120 => ⟨S6x1408, .f32⟩
  | 121 => ⟨S_, .f32⟩
  | 122 => ⟨S6x1408, .f32⟩
  | 123 => ⟨S6x1408, .f32⟩
  | 124 => ⟨S6x1408, .f32⟩
  | 125 => ⟨S_, .f32⟩
  | 126 => ⟨S6x1408, .f32⟩
  | 127 => ⟨S6x1408, .f32⟩
  | _ => ⟨S512x1024, .f32⟩

abbrev hbmTy0_1 (i : Nat) : BufTy := match i % 128 with
  | 0 => ⟨S_, .f32⟩
  | 1 => ⟨S6x1408, .f32⟩
  | 2 => ⟨S6x1408, .f32⟩
  | 3 => ⟨S6x1408, .f32⟩
  | 4 => ⟨S_, .f32⟩
  | 5 => ⟨S6x1408, .f32⟩
  | 6 => ⟨S6x1408, .f32⟩
  | 7 => ⟨S6x1408, .f32⟩
  | 8 => ⟨S_, .f32⟩
  | 9 => ⟨S6x1408, .f32⟩
  | 10 => ⟨S6x1408, .f32⟩
  | 11 => ⟨S6x1408, .f32⟩
  | 12 => ⟨S_, .f32⟩
  | 13 => ⟨S6x1408, .f32⟩
  | 14 => ⟨S6x1408, .f32⟩
  | 15 => ⟨S_, .f32⟩
  | 16 => ⟨S1408x1024, .f32⟩
  | 17 => ⟨S1408x1024, .f32⟩
  | 18 => ⟨S_, .f32⟩
  | 19 => ⟨S1408x1024, .f32⟩
  | 20 => ⟨S1408x1024, .f32⟩
  | 21 => ⟨S1408x1024, .f32⟩
  | 22 => ⟨S_, .f32⟩
  | 23 => ⟨S1408x1024, .f32⟩
  | 24 => ⟨S1408x1024, .f32⟩
  | 25 => ⟨S1408x1024, .f32⟩
  | 26 => ⟨S_, .f32⟩
  | 27 => ⟨S1408x1024, .f32⟩
  | 28 => ⟨S1408x1024, .f32⟩
  | 29 => ⟨S1408x1024, .f32⟩
  | 30 => ⟨S_, .f32⟩
  | 31 => ⟨S1408x1024, .f32⟩
  | 32 => ⟨S1408x1024, .f32⟩
  | 33 => ⟨S_, .f32⟩
  | 34 => ⟨S1408x1024, .f32⟩
  | 35 => ⟨S1408x1024, .f32⟩
  | 36 => ⟨S1408x1024, .f32⟩
  | 37 => ⟨S_, .f32⟩
  | 38 => ⟨S1408x1024, .f32⟩
  | 39 => ⟨S1408x1024, .f32⟩
  | 40 => ⟨S1408x1024, .f32⟩
  | 41 => ⟨S_, .f32⟩
  | 42 => ⟨S1408x1024, .f32⟩
  | 43 => ⟨S1408x1024, .f32⟩
  | 44 => ⟨S1408x1024, .f32⟩
  | 45 => ⟨S_, .f32⟩
  | 46 => ⟨S1408x1024, .f32⟩
  | 47 => ⟨S1408x1024, .f32⟩
  | 48 => ⟨S_, .f32⟩
  | 49 => ⟨S512x1024, .f32⟩
  | 50 => ⟨S512x1024, .f32⟩
  | 51 => ⟨S_, .f32⟩
  | 52 => ⟨S512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S512x1024, .f32⟩
  | 59 => ⟨S_, .f32⟩
  | 60 => ⟨S512x1024, .f32⟩
  | 61 => ⟨S512x1024, .f32⟩
  | 62 => ⟨S512x1024, .f32⟩
  | 63 => ⟨S_, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S_, .f32⟩
  | 82 => ⟨S512x256, .f32⟩
  | 83 => ⟨S512x256, .f32⟩
  | 84 => ⟨S_, .f32⟩
  | 85 => ⟨S512x256, .f32⟩
  | 86 => ⟨S512x256, .f32⟩
  | 87 => ⟨S512x256, .f32⟩
  | 88 => ⟨S_, .f32⟩
  | 89 => ⟨S512x256, .f32⟩
  | 90 => ⟨S512x256, .f32⟩
  | 91 => ⟨S512x256, .f32⟩
  | 92 => ⟨S_, .f32⟩
  | 93 => ⟨S512x256, .f32⟩
  | 94 => ⟨S512x256, .f32⟩
  | 95 => ⟨S512x256, .f32⟩
  | 96 => ⟨S_, .f32⟩
  | 97 => ⟨S512x256, .f32⟩
  | 98 => ⟨S512x256, .f32⟩
  | 99 => ⟨S_, .f32⟩
  | 100 => ⟨S512x256, .f32⟩
  | 101 => ⟨S512x256, .f32⟩
  | 102 => ⟨S512x256, .f32⟩
  | 103 => ⟨S_, .f32⟩
  | 104 => ⟨S512x256, .f32⟩
  | 105 => ⟨S512x256, .f32⟩
  | 106 => ⟨S512x256, .f32⟩
  | 107 => ⟨S_, .f32⟩
  | 108 => ⟨S512x256, .f32⟩
  | 109 => ⟨S512x256, .f32⟩
  | 110 => ⟨S512x256, .f32⟩
  | 111 => ⟨S_, .f32⟩
  | 112 => ⟨S512x256, .f32⟩
  | 113 => ⟨S512x256, .f32⟩
  | 114 => ⟨S_, .f32⟩
  | 115 => ⟨S2048x537, .f32⟩
  | 116 => ⟨S2048x537, .f32⟩
  | 117 => ⟨S_, .f32⟩
  | 118 => ⟨S2048x537, .f32⟩
  | 119 => ⟨S2048x537, .f32⟩
  | 120 => ⟨S2048x537, .f32⟩
  | 121 => ⟨S_, .f32⟩
  | 122 => ⟨S2048x537, .f32⟩
  | 123 => ⟨S2048x537, .f32⟩
  | 124 => ⟨S2048x537, .f32⟩
  | 125 => ⟨S_, .f32⟩
  | 126 => ⟨S2048x537, .f32⟩
  | 127 => ⟨S2048x537, .f32⟩
  | _ => ⟨S512x1024, .f32⟩

abbrev hbmTy0_2 (i : Nat) : BufTy := match i % 128 with
  | 0 => ⟨S2048x537, .f32⟩
  | 1 => ⟨S_, .f32⟩
  | 2 => ⟨S2048x537, .f32⟩
  | 3 => ⟨S2048x537, .f32⟩
  | 4 => ⟨S_, .f32⟩
  | 5 => ⟨S2048x537, .f32⟩
  | 6 => ⟨S2048x537, .f32⟩
  | 7 => ⟨S2048x537, .f32⟩
  | 8 => ⟨S_, .f32⟩
  | 9 => ⟨S2048x537, .f32⟩
  | 10 => ⟨S2048x537, .f32⟩
  | 11 => ⟨S2048x537, .f32⟩
  | 12 => ⟨S_, .f32⟩
  | 13 => ⟨S2048x537, .f32⟩
  | 14 => ⟨S2048x537, .f32⟩
  | 15 => ⟨S2048x537, .f32⟩
  | 16 => ⟨S_, .f32⟩
  | 17 => ⟨S2048x537, .f32⟩
  | 18 => ⟨S2048x537, .f32⟩
  | 19 => ⟨S_, .f32⟩
  | 20 => ⟨S384x96, .f32⟩
  | 21 => ⟨S384x96, .f32⟩
  | 22 => ⟨S_, .f32⟩
  | 23 => ⟨S384x96, .f32⟩
  | 24 => ⟨S384x96, .f32⟩
  | 25 => ⟨S384x96, .f32⟩
  | 26 => ⟨S_, .f32⟩
  | 27 => ⟨S384x96, .f32⟩
  | 28 => ⟨S384x96, .f32⟩
  | 29 => ⟨S384x96, .f32⟩
  | 30 => ⟨S_, .f32⟩
  | 31 => ⟨S384x96, .f32⟩
  | 32 => ⟨S384x96, .f32⟩
  | 33 => ⟨S384x96, .f32⟩
  | 34 => ⟨S_, .f32⟩
  | 35 => ⟨S384x96, .f32⟩
  | 36 => ⟨S384x96, .f32⟩
  | 37 => ⟨S_, .f32⟩
  | 38 => ⟨S384x96, .f32⟩
  | 39 => ⟨S384x96, .f32⟩
  | 40 => ⟨S384x96, .f32⟩
  | 41 => ⟨S_, .f32⟩
  | 42 => ⟨S384x96, .f32⟩
  | 43 => ⟨S384x96, .f32⟩
  | 44 => ⟨S384x96, .f32⟩
  | 45 => ⟨S_, .f32⟩
  | 46 => ⟨S384x96, .f32⟩
  | 47 => ⟨S384x96, .f32⟩
  | 48 => ⟨S384x96, .f32⟩
  | 49 => ⟨S_, .f32⟩
  | 50 => ⟨S384x96, .f32⟩
  | 51 => ⟨S384x96, .f32⟩
  | 52 => ⟨S_, .f32⟩
  | 53 => ⟨S256x128, .f32⟩
  | 54 => ⟨S256x128, .f32⟩
  | 55 => ⟨S_, .f32⟩
  | 56 => ⟨S256x128, .f32⟩
  | 57 => ⟨S256x128, .f32⟩
  | 58 => ⟨S256x128, .f32⟩
  | 59 => ⟨S_, .f32⟩
  | 60 => ⟨S256x128, .f32⟩
  | 61 => ⟨S256x128, .f32⟩
  | 62 => ⟨S256x128, .f32⟩
  | 63 => ⟨S_, .f32⟩
  | 64 => ⟨S256x128, .f32⟩
  | 65 => ⟨S256x128, .f32⟩
  | 66 => ⟨S256x128, .f32⟩
  | 67 => ⟨S_, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S256x128, .f32⟩
  | 74 => ⟨S_, .f32⟩
  | 75 => ⟨S256x128, .f32⟩
  | 76 => ⟨S256x128, .f32⟩
  | 77 => ⟨S256x128, .f32⟩
  | 78 => ⟨S_, .f32⟩
  | 79 => ⟨S256x128, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S_, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S8x128, .f32⟩
  | 92 => ⟨S_, .f32⟩
  | 93 => ⟨S8x128, .f32⟩
  | 94 => ⟨S8x128, .f32⟩
  | 95 => ⟨S8x128, .f32⟩
  | 96 => ⟨S_, .f32⟩
  | 97 => ⟨S8x128, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S_, .f32⟩
  | 104 => ⟨S8x128, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S8x128, .f32⟩
  | 115 => ⟨S_, .f32⟩
  | 116 => ⟨S8x128, .f32⟩
  | 117 => ⟨S8x128, .f32⟩
  | 118 => ⟨S_, .f32⟩
  | 119 => ⟨S1248x128, .f32⟩
  | 120 => ⟨S1248x128, .f32⟩
  | 121 => ⟨S_, .f32⟩
  | 122 => ⟨S1248x128, .f32⟩
  | 123 => ⟨S1248x128, .f32⟩
  | 124 => ⟨S1248x128, .f32⟩
  | 125 => ⟨S_, .f32⟩
  | 126 => ⟨S1248x128, .f32⟩
  | 127 => ⟨S1248x128, .f32⟩
  | _ => ⟨S512x1024, .f32⟩

abbrev hbmTy0_3 (i : Nat) : BufTy := match i % 128 with
  | 0 => ⟨S1248x128, .f32⟩
  | 1 => ⟨S_, .f32⟩
  | 2 => ⟨S1248x128, .f32⟩
  | 3 => ⟨S1248x128, .f32⟩
  | 4 => ⟨S1248x128, .f32⟩
  | 5 => ⟨S_, .f32⟩
  | 6 => ⟨S1248x128, .f32⟩
  | 7 => ⟨S1248x128, .f32⟩
  | 8 => ⟨S_, .f32⟩
  | 9 => ⟨S1248x128, .f32⟩
  | 10 => ⟨S1248x128, .f32⟩
  | 11 => ⟨S1248x128, .f32⟩
  | 12 => ⟨S_, .f32⟩
  | 13 => ⟨S1248x128, .f32⟩
  | 14 => ⟨S1248x128, .f32⟩
  | 15 => ⟨S1248x128, .f32⟩
  | 16 => ⟨S_, .f32⟩
  | 17 => ⟨S1248x128, .f32⟩
  | 18 => ⟨S1248x128, .f32⟩
  | 19 => ⟨S1248x128, .f32⟩
  | 20 => ⟨S_, .f32⟩
  | 21 => ⟨S1248x128, .f32⟩
  | 22 => ⟨S1248x128, .f32⟩
  | _ => ⟨S512x1024, .f32⟩

abbrev hbmTy (i : Nat) : BufTy := match i / 128 with
  | 0 => hbmTy0_0 i
  | 1 => hbmTy0_1 i
  | 2 => hbmTy0_2 i
  | 3 => hbmTy0_3 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== Reference14Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1_0 : Ref sig .tc := ⟨.hbm, 14, rfl⟩
abbrev main_v1_1 : Ref sig .tc := ⟨.hbm, 15, rfl⟩
abbrev main_v2_0 : Ref sig .tc := ⟨.hbm, 16, rfl⟩
abbrev main_v2_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S4096x1024, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_cst_22 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Fwd.lean ====
module

public import proofs.«01_k».proof.Proof.Gen.KernelIdeal.Frame
public import Idealize.ShloMosaic.Lib.ValueIdx
public import Idealize.ShloMosaic.Lib.Pipeline.ValueKit.Tiles

@[expose] public section

set_option maxRecDepth 16384

noncomputable section

namespace Cert.KernelIdeal.Gen

open Idealize.ShloMosaic Idealize.ShloMosaic.ValueIdx Idealize.SL.Sem

variable {F : FTy → Type} [FloatOps F] [Cert.KernelIdeal.Facts]

/-! The forward body's blocks: the tiles its loop reads, the loop's state after `n` key tiles, and
    the three blocks it stores as the last step's payloads of that state. -/

/-- Rows `512 j …` of a whole array. -/
def tile (x : Vec F S4096x128 .f32) (j : ℕ) : Vec F S512x128 .f32 :=
  fun l => x (ix2 ⟨(512 * j + (l 0).val) % 4096, Nat.mod_lt _ (by decide)⟩ (l 1))

/-- Entry `j` of a head's eight rows. -/
def rowOf (x : Vec F S1x8x1x512 .f32) (j : ℕ) : Vec F S1x1x1x512 .f32 :=
  fun l => x (ix4 (l 0) ⟨j % 8, Nat.mod_lt _ (by decide)⟩ (l 2) (l 3))

/-- The forward loop's state: row maxima, row sums, weighted value rows. -/
abbrev FSt (F : FTy → Type) := FVec F S512x1 .f32 × FVec F S512x1 .f32 × FVec F S512x128 .f32

/-- One trip of the forward loop, on key tile `j`. -/
def fwdStep (x0 : Vec F S512x128 .f32) (x1 x2 : Vec F S4096x128 .f32) (x3 : Vec F S1x8x1x512 .f32) (j : ℕ) (a : FSt F) : FSt F :=
  (k0_pay14 x0 a.1 (tile x1 j) (rowOf x3 j), k0_pay17 x0 a.1 a.2.1 (tile x1 j) (rowOf x3 j),
    k0_pay18 x0 a.1 a.2.2 (tile x1 j) (tile x2 j) (rowOf x3 j))

/-- The forward loop's state after `n` key tiles. -/
def fwdSt (x0 : Vec F S512x128 .f32) (x1 x2 : Vec F S4096x128 .f32) (x3 : Vec F S1x8x1x512 .f32) : ℕ → FSt F
  | 0 => (k0_pay10, k0_pay11, k0_pay12)
  | n + 1 => fwdStep x0 x1 x2 x3 n (fwdSt x0 x1 x2 x3 n)

theorem trips0_1 : ∀ i : grid0.Coords, (k0_t1_loop i).trips = (i 1).val := by decide +kernel

theorem trips0_2 : ∀ i : grid0.Coords, (k0_t2_loop i).trips = 0 := by decide +kernel

theorem off0_1 : ∀ (i : grid0.Coords) (k : Fin (k0_t1_loop i).trips), k0_off1 i k = ![512 * k.val, 0] := by decide +kernel

theorem off0_2 : ∀ (i : grid0.Coords) (k : Fin (k0_t1_loop i).trips), k0_off2 i k = ![0, k.val, 0, 0] := by decide +kernel

theorem off0_5 : ∀ i : grid0.Coords, k0_off5 i = ![512 * (i 1).val, 0] := by decide +kernel

theorem off0_6 : ∀ i : grid0.Coords, k0_off6 i = ![0, (i 1).val, 0, 0] := by decide +kernel

/-- A load of 512 rows from row `512 j` on reads the tile. -/
theorem ld_tile (x : Vec F S4096x128 .f32) (off : Fin 2 → ℕ) (h : ∀ a, off a + S512x128.size a ≤ S4096x128.size a) (j : ℕ)
    (ho : off = ![512 * j, 0]) : View.ld x (Rect.unit (s := S4096x128) off S512x128.size h) = tile x j := by
  subst ho
  funext l
  have h0 := h 0
  have hl : (l 0).val < 512 := (l 0).isLt
  have h0' : 512 * j + 512 ≤ 4096 := h0
  refine View.ld_unit_apply_of x _ _ h l _ fun a => ?_
  match a with
  | ⟨0, _⟩ => show (512 * j + (l 0).val) % 4096 = 512 * j + (l 0).val; exact Nat.mod_eq_of_lt (by omega)
  | ⟨1, _⟩ => show (l 1).val = 0 + (l 1).val; omega

/-- A load of one of the eight rows. -/
theorem ld_row (x : Vec F S1x8x1x512 .f32) (off : Fin 4 → ℕ) (h : ∀ a, off a + S1x1x1x512.size a ≤ S1x8x1x512.size a) (j : ℕ)
    (ho : off = ![0, j, 0, 0]) : View.ld x (Rect.unit (s := S1x8x1x512) off S1x1x1x512.size h) = rowOf x j := by
  subst ho
  funext l
  have h1' : j + 1 ≤ 8 := h 1
  have hl : (l 1).val < 1 := (l 1).isLt
  refine View.ld_unit_apply_of x _ _ h l _ fun a => ?_
  match a with
  | ⟨0, _⟩ => show (l 0).val = 0 + (l 0).val; omega
  | ⟨1, _⟩ => show j % 8 = j + (l 1).val; rw [Nat.mod_eq_of_lt (by omega)]; omega
  | ⟨2, _⟩ => show (l 2).val = 0 + (l 2).val; omega
  | ⟨3, _⟩ => show (l 3).val = 0 + (l 3).val; omega

section
variable (𝒱 : Variants) (c : Dev nD) (bd : Option 𝒱.V) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x8x1x512 .f32) (harg5 : arg5.IsWhole) (arg6 : Memref sig .tc .vmem S512x128 .f32) (harg6 : arg6.IsWhole) (arg7 : Memref sig .tc .vmem S1x512x1 .f32) (harg7 : arg7.IsWhole) (arg8 : Memref sig .tc .vmem S1x1x1x512 .f32) (harg8 : arg8.IsWhole)
  (x0 : Vec F S512x128 .f32) (x1 x2 : Vec F S4096x128 .f32) (x3 : Vec F S1x8x1x512 .f32)

theorem trip0_eq (k : Fin (k0_t1_loop i).trips) (acc : FSt F) :
    tripR_k0_t1 (F := F) 𝒱 c bd i arg2 harg2 arg3 harg3 arg4 harg4 arg5 harg5 arg6 harg6 arg7 harg7 arg8 harg8 x0 (harg3.unread x1) (harg4.unread x2) (harg5.unread x3) k acc
      = fwdStep x0 x1 x2 x3 k.val acc := by
  unfold tripR_k0_t1 trip_k0_t1
  simp only [View.readAt_eq_ld, harg3.read_unread, harg4.read_unread, harg5.read_unread]
  rw [ld_tile x1 _ _ k.val (off0_1 i k), ld_tile x2 _ _ k.val (off0_1 i k), ld_row x3 _ _ k.val (off0_2 i k)]
  rfl

theorem st0_eq (n : ℕ) (hn : n ≤ (k0_t1_loop i).trips) :
    st_k0_t1 (F := F) 𝒱 c bd i arg2 harg2 arg3 harg3 arg4 harg4 arg5 harg5 arg6 harg6 arg7 harg7 arg8 harg8 x0 (harg3.unread x1) (harg4.unread x2) (harg5.unread x3) (k0_pay10, k0_pay11, k0_pay12) n
      = fwdSt x0 x1 x2 x3 n := by
  induction n with
  | zero => rfl
  | succ n ih =>
    rw [st_k0_t1_succ (F := F) 𝒱 c bd i arg2 harg2 arg3 harg3 arg4 harg4 arg5 harg5 arg6 harg6 arg7 harg7 arg8 harg8 x0 (harg3.unread x1) (harg4.unread x2) (harg5.unread x3) (k0_pay10, k0_pay11, k0_pay12) ⟨n, hn⟩,
      trip0_eq, ih (Nat.le_of_succ_le hn)]
    rfl

theorem stEnd0_eq :
    st_k0_t2 (F := F) 𝒱 c bd i arg2 harg2 arg3 harg3 arg4 harg4 arg5 harg5 arg6 harg6 arg7 harg7 arg8 harg8 x0 (harg3.unread x1) (harg4.unread x2) (harg5.unread x3)
        (st_k0_t1 (F := F) 𝒱 c bd i arg2 harg2 arg3 harg3 arg4 harg4 arg5 harg5 arg6 harg6 arg7 harg7 arg8 harg8 x0 (harg3.unread x1) (harg4.unread x2) (harg5.unread x3) (k0_pay10, k0_pay11, k0_pay12) (k0_t1_loop i).trips)
        (k0_t2_loop i).trips
      = fwdSt x0 x1 x2 x3 (i 1).val := by
  rw [trips0_2, st_k0_t2_zero, st0_eq _ _ _ _ _ _ _ _ _ _ _ _ _ _ _ _ _ _ _ _ _ _ _ le_rfl, trips0_1]

theorem ld_x0 : View.readAt (Elt F) arg2.view (Rect.unit ![0, 0] ![512, 128] inb_S512x128_S512x128_0_0).toLoadRect (harg2.unread x0) = x0 := by
  rw [View.readAt_eq_ld, harg2.read_unread]
  exact View.ld_unit_zero (S := S512x128) (by decide) inb_S512x128_S512x128_0_0 x0

theorem r0_eq : kernelRun0_A.sl.r c i arg2 harg2 arg3 harg3 arg4 harg4 arg5 harg5 arg6 harg6 arg7 harg7 arg8 harg8 x0 x1 x2 x3 = (fwdSt x0 x1 x2 x3 (i 1).val).1 := by
  unfold kernelRun0_A.sl.r
  rw [ld_x0]
  exact congrArg (·.1) (stEnd0_eq Variants.none c none i arg2 harg2 arg3 harg3 arg4 harg4 arg5 harg5 arg6 harg6 arg7 harg7 arg8 harg8 x0 x1 x2 x3)

theorem r0_1_eq : kernelRun0_A.sl.r_1 c i arg2 harg2 arg3 harg3 arg4 harg4 arg5 harg5 arg6 harg6 arg7 harg7 arg8 harg8 x0 x1 x2 x3 = (fwdSt x0 x1 x2 x3 (i 1).val).2.1 := by
  unfold kernelRun0_A.sl.r_1
  rw [ld_x0]
  exact congrArg (·.2.1) (stEnd0_eq Variants.none c none i arg2 harg2 arg3 harg3 arg4 harg4 arg5 harg5 arg6 harg6 arg7 harg7 arg8 harg8 x0 x1 x2 x3)

theorem r0_2_eq : kernelRun0_A.sl.r_2 c i arg2 harg2 arg3 harg3 arg4 harg4 arg5 harg5 arg6 harg6 arg7 harg7 arg8 harg8 x0 x1 x2 x3 = (fwdSt x0 x1 x2 x3 (i 1).val).2.2 := by
  unfold kernelRun0_A.sl.r_2
  rw [ld_x0]
  exact congrArg (·.2.2) (stEnd0_eq Variants.none c none i arg2 harg2 arg3 harg3 arg4 harg4 arg5 harg5 arg6 harg6 arg7 harg7 arg8 harg8 x0 x1 x2 x3)

theorem r0_3_eq : kernelRun0_A.sl.r_3 i arg4 harg4 x2 = k0_pay25 (tile x2 (i 1).val) := by
  unfold kernelRun0_A.sl.r_3
  rw [View.readAt_eq_ld, harg4.read_unread]
  exact congrArg k0_pay25 (ld_tile x2 _ _ (i 1).val (off0_5 i))

theorem r0_4_eq : kernelRun0_A.sl.r_4 c i arg2 harg2 arg3 harg3 arg5 harg5 x0 x1 x3 = k0_pay26 x0 (tile x1 (i 1).val) (rowOf x3 (i 1).val) := by
  unfold kernelRun0_A.sl.r_4
  rw [ld_x0, View.readAt_eq_ld, View.readAt_eq_ld, harg3.read_unread, harg5.read_unread]
  exact congrArg₂ (k0_pay26 x0) (ld_tile x1 _ _ (i 1).val (off0_5 i)) (ld_row x3 _ _ (i 1).val (off0_6 i))

/-- The output block the forward body stores. -/
theorem out0_4_eq :
    out0_A_4 c i arg2 harg2 arg3 harg3 arg4 harg4 arg5 harg5 arg6 harg6 arg7 harg7 arg8 harg8 x0 x1 x2 x3
      = k0_pay5 (fwdSt x0 x1 x2 x3 (i 1).val).1 (fwdSt x0 x1 x2 x3 (i 1).val).2.1 (fwdSt x0 x1 x2 x3 (i 1).val).2.2
          (k0_pay25 (tile x2 (i 1).val)) (k0_pay26 x0 (tile x1 (i 1).val) (rowOf x3 (i 1).val)) := by
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  refine (View.canon_unit_zero (S := S512x128) (by decide) inb_S512x128_S512x128_0_0 _).trans ?_
  rw [r0_eq, r0_1_eq, r0_2_eq, r0_3_eq, r0_4_eq]

/-- The row of logarithms the forward body stores for the backward calls. -/
theorem out0_6_eq :
    out0_A_6 c i arg2 harg2 arg3 harg3 arg4 harg4 arg5 harg5 arg6 harg6 arg7 harg7 arg8 harg8 x0 x1 x2 x3
      = k0_pay8 (fwdSt x0 x1 x2 x3 (i 1).val).1 (fwdSt x0 x1 x2 x3 (i 1).val).2.1
          (k0_pay26 x0 (tile x1 (i 1).val) (rowOf x3 (i 1).val)) := by
  unfold out0_A_6
  rw [View.read_writes_eq_canon _ _ _ (cover0_A_6 c i arg2 harg2 arg3 harg3 arg4 harg4 arg5 harg5 arg6 harg6 arg7 harg7 arg8 harg8 x0 x1 x2 x3)]
  unfold kernelRun0_A
  refine (View.canon_unit_zero (S := S1x1x1x512) (by decide) inb_S1x1x1x512_S1x1x1x512_0_0_0_0 _).trans ?_
  rw [r0_eq, r0_1_eq, r0_4_eq]

end

end Cert.KernelIdeal.Gen

end
-- ==== Proof.Ops.lean ====
module

public import proofs.«01_k».proof.Proof.Gen.KernelIdeal
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

/-! The block operations of the two kernels, read at an index over the extended reals. -/

namespace Cert.KernelIdeal.Ops

open Idealize.ShloMosaic Idealize.ShloMosaic.ValueIdx

variable {α : Type}

/-- The product of a block with the transpose of another, at an index. -/
theorem mm_nt {φ₁ φ₂ : FTy} (A : FVec Ideal S512x128 φ₁) (B : FVec Ideal S512x128 φ₂) (a b : Fin 512) :
    matmul dot_S512x128_S512x128_S512x512_1_1_0_0_n_n none A B (constant S512x512 .f32 0x00000000#32) (ix2 a b)
      = ∑ d : Fin 128, A (ix2 a d) * B (ix2 b d) := by
  refine (Ideal.matmul_transposedRhs_apply (M := 512) (K := 128) (N := 512) none A B _ a b).trans ?_
  rw [ValueIdx.constant_apply, Ideal.ofBits_zero_f32, zero_add]

/-- The product of a key block with a transposed query block, at an index. -/
theorem mm_nn {φ₁ φ₂ : FTy} (A : FVec Ideal S512x128 φ₁) (B : FVec Ideal S128x512 φ₂) (a b : Fin 512) :
    matmul dot_S512x128_S128x512_S512x512_1_0_0_1_n_n none A B (constant S512x512 .f32 0x00000000#32) (ix2 a b)
      = ∑ d : Fin 128, A (ix2 a d) * B (ix2 d b) := by
  refine (Ideal.matmul_plain_apply (M := 512) (K := 128) (N := 512) none A B _ a b).trans ?_
  rw [ValueIdx.constant_apply, Ideal.ofBits_zero_f32, zero_add]

/-- The product of a score block with a block of rows, at an index. -/
theorem mm_pv {φ₁ φ₂ : FTy} (A : FVec Ideal S512x512 φ₁) (B : FVec Ideal S512x128 φ₂) (a : Fin 512) (d : Fin 128) :
    matmul dot_S512x512_S512x128_S512x128_1_0_0_1_n_n none A B (constant S512x128 .f32 0x00000000#32) (ix2 a d)
      = ∑ b : Fin 512, A (ix2 a b) * B (ix2 b d) := by
  refine (Ideal.matmul_plain_apply (M := 512) (K := 512) (N := 128) none A B _ a d).trans ?_
  rw [ValueIdx.constant_apply, Ideal.ofBits_zero_f32, zero_add]

/-- A vector cast to a column. -/
theorem cast_col (x : S512.Idx → α) (h : S512.ShapeCasts S512x1) (a : Fin 512) (u : Fin 1) :
    shapeCast S512x1 x h (ix2 a u) = x (ix1 a) :=
  shapeCast_apply x h _ _ (by
    rw [Shape.rowMajor_val_two, Shape.rowMajor_val_one]
    show a.val = a.val * 1 + u.val
    omega)

/-- A column cast to a column with a leading unit axis. -/
theorem cast_col3 (x : S512x1.Idx → α) (h : S512x1.ShapeCasts S1x512x1) (u : Fin 1) (a : Fin 512) (w : Fin 1) :
    shapeCast S1x512x1 x h (ix3 u a w) = x (ix2 a w) := shapeCast_ab_1ab_apply x h u a w

/-- A column with a leading unit axis cast to a column. -/
theorem cast_col3' (x : S1x512x1.Idx → α) (h : S1x512x1.ShapeCasts S512x1) (a : Fin 512) (w : Fin 1) :
    shapeCast S512x1 x h (ix2 a w) = x (ix3 0 a w) := shapeCast_1ab_ab_apply x h a w

/-- A vector cast to a row. -/
theorem cast_row (x : S512.Idx → α) (h : S512.ShapeCasts S1x512) (u : Fin 1) (a : Fin 512) :
    shapeCast S1x512 x h (ix2 u a) = x (ix1 a) := shapeCast_a_1a_apply x h u a

/-- A row cast to a row with two leading unit axes. -/
theorem cast_row4 (x : S1x512.Idx → α) (h : S1x512.ShapeCasts S1x1x1x512) (u v w : Fin 1) (a : Fin 512) :
    shapeCast S1x1x1x512 x h (ix4 u v w a) = x (ix2 0 a) :=
  shapeCast_apply x h _ _ (by
    rw [Shape.rowMajor_val_two, Shape.rowMajor_val_four]
    show 0 * 512 + a.val = ((u.val * 1 + v.val) * 1 + w.val) * 512 + a.val
    omega)

/-- A row with two leading unit axes cast to a row. -/
theorem cast_row4' (x : S1x1x1x512.Idx → α) (h : S1x1x1x512.ShapeCasts S1x512) (u : Fin 1) (a : Fin 512) :
    shapeCast S1x512 x h (ix2 u a) = x (ix4 0 0 0 a) :=
  shapeCast_apply x h _ _ (by
    rw [Shape.rowMajor_val_two, Shape.rowMajor_val_four]
    show ((0 * 1 + 0) * 1 + 0) * 512 + a.val = u.val * 512 + a.val
    omega)

/-- A column repeated over 512 columns. -/
theorem bc_col512 (x : S512x1.Idx → α) (h : S512x1.Broadcasts S512x512) (a b : Fin 512) :
    broadcastTo S512x512 x h (ix2 a b) = x (ix2 a 0) := by
  refine broadcastTo_apply x h (ix2 a b) (ix2 a (0 : Fin 1)) fun ax => ?_
  match ax with
  | ⟨0, _⟩ => rfl
  | ⟨1, _⟩ => rfl

/-- A column repeated over 128 columns. -/
theorem bc_col128 (x : S512x1.Idx → α) (h : S512x1.Broadcasts S512x128) (a : Fin 512) (d : Fin 128) :
    broadcastTo S512x128 x h (ix2 a d) = x (ix2 a 0) := by
  refine broadcastTo_apply x h (ix2 a d) (ix2 a (0 : Fin 1)) fun ax => ?_
  match ax with
  | ⟨0, _⟩ => rfl
  | ⟨1, _⟩ => rfl

/-- A row repeated over 512 rows. -/
theorem bc_row (x : S1x512.Idx → α) (h : S1x512.Broadcasts S512x512) (a b : Fin 512) :
    broadcastTo S512x512 x h (ix2 a b) = x (ix2 0 b) := broadcastTo_1b_ab_apply x h a b

/-- A row's sum. -/
theorem sum_row (x : FVec Ideal S512x512 .f32) (a : Fin 512) (h : S512x512.Reduces [1] S512) (h1) (h2) :
    multiReduction .add [1] S512 x 0x00000000#32 h h1 h2 (ix1 a) = ∑ b : Fin 512, x (ix2 a b) := by
  rw [Ideal.multiReduction_add_single]
  refine Finset.sum_congr rfl fun b _ => congrArg x (funext fun ax => ?_)
  match ax with
  | ⟨0, _⟩ => rfl
  | ⟨1, _⟩ => rfl

theorem ofBits_bot : Ideal.ofBits .f32 0xFF800000#32 = ⊥ := by simp [Ideal.ofBits, Ideal.ieee]

/-- A row's maximum. -/
theorem max_row (x : FVec Ideal S512x512 .f32) (a : Fin 512) (h : S512x512.Reduces [1] S512) (h1) (h2) :
    multiReduction .maximumf [1] S512 x 0xFF800000#32 h h1 h2 (ix1 a) = (Finset.univ : Finset (Fin 512)).sup fun b => x (ix2 a b) := by
  rw [Ideal.multiReduction_maximumf_single, Ideal.ofBits_def, ofBits_bot]
  refine Finset.fold_congr fun b _ => congrArg x (funext fun ax => ?_)
  match ax with
  | ⟨0, _⟩ => rfl
  | ⟨1, _⟩ => rfl

/-- The maximum over eight equal rows. -/
theorem max_col8 (x : FVec Ideal S8x512 .f32) (a : Fin 512) (h : S8x512.Reduces [0] S512) (h1) (h2) :
    multiReduction .maximumf [0] S512 x 0xFF800000#32 h h1 h2 (ix1 a) = (Finset.univ : Finset (Fin 8)).sup fun b => x (ix2 b a) := by
  rw [Ideal.multiReduction_maximumf_single, Ideal.ofBits_def, ofBits_bot]
  refine Finset.fold_congr fun b _ => congrArg x (funext fun ax => ?_)
  match ax with
  | ⟨0, _⟩ => rfl
  | ⟨1, _⟩ => rfl

/-- The scale one eighth. -/
theorem ofBits_eighth : Ideal.ofBits .f32 0x3E000000#32 = ((0.125 : ℝ) : EReal) := by
  simp [Ideal.ofBits, Ideal.ieee]
  rw [← EReal.coe_mul]
  norm_num

end Cert.KernelIdeal.Ops

end
-- ==== Proof.Math.lean ====
module

public import Idealize.ShloMosaic.PureOps.Ideal.Laws
public import Mathlib.Data.EReal.Operations
public import Mathlib.Analysis.SpecialFunctions.Exp
public import Mathlib.Algebra.BigOperators.Field

@[expose] public section

noncomputable section

/-! Facts about extended reals that are real: sums, and one step of the running softmax of a row. -/

namespace Cert.FoxMath

open Idealize.ShloMosaic

/-- A sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real is the real sum. -/
theorem sum_eq_coe {ι : Type} (s : Finset ι) (g : ι → EReal) (f : ι → ℝ) (h : ∀ i ∈ s, g i = (f i : EReal)) :
    ∑ i ∈ s, g i = ((∑ i ∈ s, f i : ℝ) : EReal) := by
  rw [coe_sum]; exact Finset.sum_congr rfl h

/-- The largest of scores that are real or masked, one of them real, is real. -/
theorem sup_real {ι : Type} [Fintype ι] (s : ι → EReal) (T : ι → Prop) [DecidablePred T] (σ : ι → ℝ)
    (hs : ∀ b, s b = if T b then (σ b : EReal) else ⊥) (b₀ : ι) (hb : T b₀) :
    ∃ M : ℝ, (Finset.univ : Finset ι).sup s = (M : EReal) := by
  have h1 : (Finset.univ : Finset ι).sup s ≠ ⊥ := by
    intro h
    have := Finset.le_sup (f := s) (Finset.mem_univ b₀)
    rw [h, hs b₀, if_pos hb] at this
    exact absurd (le_bot_iff.1 this) (EReal.coe_ne_bot _)
  have h2 : (Finset.univ : Finset ι).sup s ≠ ⊤ := by
    refine ne_of_lt ((Finset.sup_lt_iff (by exact bot_lt_top)).2 fun b _ => ?_)
    rw [hs b]; split
    · exact EReal.coe_lt_top _
    · exact bot_lt_top
  exact ⟨_, (EReal.coe_toReal h2 h1).symm⟩

/-- The state of a row's running softmax: nothing seen yet, or a real shift `M` with the weights'
    sum `L` and the weighted rows' sum `A`, both held times `exp (-M)`. -/
def St {κ : Type} (m l : EReal) (acc : κ → EReal) (L : ℝ) (A : κ → ℝ) : Prop :=
  (m = ⊥ ∧ l = 0 ∧ (∀ d, acc d = 0) ∧ L = 0 ∧ ∀ d, A d = 0)
    ∨ ∃ M : ℝ, m = (M : EReal) ∧ l = ((Real.exp (-M) * L : ℝ) : EReal) ∧ ∀ d, acc d = ((Real.exp (-M) * A d : ℝ) : EReal)

/-- A score's weight. -/
def wt (T : Prop) [Decidable T] (σ : ℝ) : ℝ := if T then Real.exp σ else 0

theorem exp_shift (T : Prop) [Decidable T] (σ M : ℝ) :
    Ideal.exp ((if T then (σ : EReal) else ⊥) - (M : EReal)) = ((Real.exp (-M) * wt T σ : ℝ) : EReal) := by
  unfold wt
  split
  · rw [← EReal.coe_sub, Ideal.exp_coe, ← Real.exp_add]; congr 2; ring
  · rw [show (⊥ : EReal) - (M : EReal) = ⊥ from EReal.bot_sub _, Ideal.exp_bot, mul_zero, EReal.coe_zero]

/-- One step of the running softmax of a row. -/
theorem St_step {ι κ : Type} [Fintype ι] (m l : EReal) (acc : κ → EReal) (L : ℝ) (A : κ → ℝ) (h : St m l acc L A)
    (s : ι → EReal) (T : ι → Prop) [DecidablePred T] (σ : ι → ℝ) (hs : ∀ b, s b = if T b then (σ b : EReal) else ⊥)
    (b₀ : ι) (hb : T b₀) (v : ι → κ → EReal) (V : ι → κ → ℝ) (hv : ∀ b d, v b d = (V b d : EReal)) :
    ∃ M : ℝ, max m (Finset.univ.sup s) = (M : EReal)
      ∧ Ideal.exp (m - max m (Finset.univ.sup s)) * l + ∑ b, Ideal.exp (s b - max m (Finset.univ.sup s))
          = ((Real.exp (-M) * (L + ∑ b, wt (T b) (σ b)) : ℝ) : EReal)
      ∧ ∀ d, Ideal.exp (m - max m (Finset.univ.sup s)) * acc d + ∑ b, Ideal.exp (s b - max m (Finset.univ.sup s)) * v b d
          = ((Real.exp (-M) * (A d + ∑ b, wt (T b) (σ b) * V b d) : ℝ) : EReal) := by
  obtain ⟨M0, hM0⟩ := sup_real s T σ hs b₀ hb
  rw [hM0]
  have key : ∀ M : ℝ, (∀ b, Ideal.exp (s b - (M : EReal)) = ((Real.exp (-M) * wt (T b) (σ b) : ℝ) : EReal)) := fun M b => by
    rw [hs b]; exact exp_shift _ _ _
  have sum1 : ∀ M : ℝ, ∑ b, Ideal.exp (s b - (M : EReal)) = ((Real.exp (-M) * ∑ b, wt (T b) (σ b) : ℝ) : EReal) := fun M => by
    rw [Finset.mul_sum]; exact sum_eq_coe _ _ _ fun b _ => key M b
  have sum2 : ∀ (M : ℝ) d, ∑ b, Ideal.exp (s b - (M : EReal)) * v b d = ((Real.exp (-M) * ∑ b, wt (T b) (σ b) * V b d : ℝ) : EReal) :=
    fun M d => by
      rw [Finset.mul_sum]
      refine sum_eq_coe _ _ _ fun b _ => ?_
      rw [key M b, hv, ← EReal.coe_mul, mul_assoc]
  rcases h with ⟨hm, hl, hacc, hL, hA⟩ | ⟨M, hm, hl, hacc⟩
  · refine ⟨M0, by rw [hm]; exact max_eq_right bot_le, ?_, fun d => ?_⟩
    · rw [hm, max_eq_right bot_le, EReal.bot_sub, Ideal.exp_bot, zero_mul, zero_add, sum1, hL, zero_add]
    · rw [hm, max_eq_right bot_le, EReal.bot_sub, Ideal.exp_bot, zero_mul, zero_add, sum2, hA, zero_add]
  · have hmax : max m (M0 : EReal) = ((max M M0 : ℝ) : EReal) := by
      rw [hm]; exact (EReal.coe_strictMono.monotone.map_max).symm
    have hal : Ideal.exp ((M : EReal) - ((max M M0 : ℝ) : EReal)) = ((Real.exp (M - max M M0) : ℝ) : EReal) := by
      rw [← EReal.coe_sub, Ideal.exp_coe]
    have hexp : Real.exp (M - max M M0) * Real.exp (-M) = Real.exp (-max M M0) := by
      rw [← Real.exp_add]; congr 1; ring
    refine ⟨max M M0, hmax, ?_, fun d => ?_⟩
    · rw [hmax, hm, hal, hl, sum1, ← EReal.coe_mul, ← EReal.coe_add, ← mul_assoc, hexp, ← mul_add]
    · rw [hmax, hm, hal, hacc, sum2, ← EReal.coe_mul, ← EReal.coe_add, ← mul_assoc, hexp, ← mul_add]

/-- The weighted rows' sum over the weights' sum. -/
theorem St_out (M L A : ℝ) (hL : L ≠ 0) :
    Ideal.div ((Real.exp (-M) * A : ℝ) : EReal) ((Real.exp (-M) * L : ℝ) : EReal) = ((A / L : ℝ) : EReal) := by
  have h := (Real.exp_pos (-M)).ne'
  rw [Ideal.div_coe (mul_ne_zero h hL), ← EReal.coe_mul]
  congr 1; field_simp

/-- The shift plus the logarithm of the weights' sum. -/
theorem St_lse (M L : ℝ) (hL : 0 < L) :
    (M : EReal) + Ideal.log ((Real.exp (-M) * L : ℝ) : EReal) = ((Real.log L : ℝ) : EReal) := by
  have h := Real.exp_pos (-M)
  rw [Ideal.log_coe, if_neg (not_le.2 (mul_pos h hL)), Real.log_mul h.ne' hL.ne', Real.log_exp, ← EReal.coe_add]
  congr 1; ring

end Cert.FoxMath

end
-- ==== Proof.FwdIdeal.lean ====
module

public import proofs.«01_k».proof.Proof.Fwd
public import proofs.«01_k».proof.Proof.Ops
public import proofs.«01_k».proof.Proof.Math
public import Idealize.ShloMosaic.Lib.WordCmp

@[expose] public section

set_option maxRecDepth 16384

noncomputable section

/-! The forward body over real inputs: the running softmax of each query's row, tile by tile, and
    the blocks stored. -/

namespace Cert.KernelIdeal.Fox

open Idealize.ShloMosaic Idealize.ShloMosaic.ValueIdx Cert.KernelIdeal.Gen Cert.KernelIdeal.Ops Cert.FoxMath

variable [Cert.KernelIdeal.Facts]

/-! ## The payloads at an index -/

theorem pay9_apply (x : FVec Ideal S512x128 .f32) (a : Fin 512) (d : Fin 128) :
    k0_pay9 (F := Ideal) x (ix2 a d) = x (ix2 a d) * ((0.125 : ℝ) : EReal) := by
  unfold k0_pay9
  simp only [shapeCast_self]
  rw [← ofBits_eighth]; rfl

theorem pay13_apply (x k : FVec Ideal S512x128 .f32) (c : FVec Ideal S1x1x1x512 .f32) (a b : Fin 512) :
    k0_pay13 (F := Ideal) x k c (ix2 a b)
      = (∑ d : Fin 128, x (ix2 a d) * ((0.125 : ℝ) : EReal) * k (ix2 b d)) - c (ix4 0 0 0 b) := by
  unfold k0_pay13
  simp only [shapeCast_self]
  rw [subf_apply, mm_nt, bc_row, cast_row4']
  simp only [pay9_apply]; rfl

theorem pay1_apply (m : FVec Ideal S512x1 .f32) (s : FVec Ideal S512x512 .f32) (a : Fin 512) :
    k0_pay1 (F := Ideal) m s (ix2 a 0) = max (m (ix2 a 0)) (Finset.univ.sup fun b : Fin 512 => s (ix2 a b)) := by
  unfold k0_pay1
  rw [maximumf_apply, cast_col]
  exact congrArg (max _) (max_row s a _ _ _)

theorem pay2_apply (m : FVec Ideal S512x1 .f32) (s : FVec Ideal S512x512 .f32) (a : Fin 512) :
    k0_pay2 (F := Ideal) m s (ix2 a 0) = Ideal.exp (m (ix2 a 0) - k0_pay1 (F := Ideal) m s (ix2 a 0)) := rfl

theorem pay3_apply (m : FVec Ideal S512x1 .f32) (s : FVec Ideal S512x512 .f32) (a b : Fin 512) :
    k0_pay3 (F := Ideal) m s (ix2 a b) = Ideal.exp (s (ix2 a b) - k0_pay1 (F := Ideal) m s (ix2 a 0)) := by
  show Ideal.exp (s (ix2 a b) - broadcastTo S512x512 (k0_pay1 (F := Ideal) m s) _ (ix2 a b)) = _
  rw [bc_col512]

theorem pay4_apply (m l : FVec Ideal S512x1 .f32) (s : FVec Ideal S512x512 .f32) (a : Fin 512) :
    k0_pay4 (F := Ideal) m l s (ix2 a 0)
      = k0_pay2 (F := Ideal) m s (ix2 a 0) * l (ix2 a 0) + ∑ b : Fin 512, k0_pay3 (F := Ideal) m s (ix2 a b) := by
  unfold k0_pay4
  rw [addf_apply, mulf_apply, cast_col]
  exact congrArg (_ + ·) (sum_row _ a _ _ _)

/-- The weighted value rows of a step. -/
theorem num_apply (m : FVec Ideal S512x1 .f32) (acc v : FVec Ideal S512x128 .f32) (s : FVec Ideal S512x512 .f32) (hb) (hc) (a : Fin 512) (d : Fin 128) :
    addf (mulf (broadcastTo S512x128 (k0_pay2 (F := Ideal) m s) broadcasts_S512x1_S512x128) acc)
        (matmul dot_S512x512_S512x128_S512x128_1_0_0_1_n_n none (truncf .bf16 (k0_pay3 (F := Ideal) m s) hb) (truncf .bf16 v hc) (constant S512x128 .f32 0x00000000#32)) (ix2 a d)
      = k0_pay2 (F := Ideal) m s (ix2 a 0) * acc (ix2 a d) + ∑ b : Fin 512, k0_pay3 (F := Ideal) m s (ix2 a b) * v (ix2 b d) := by
  rw [addf_apply, mulf_apply, bc_col128, mm_pv]; rfl

theorem pay18_apply (x : FVec Ideal S512x128 .f32) (m : FVec Ideal S512x1 .f32) (acc k v : FVec Ideal S512x128 .f32) (c : FVec Ideal S1x1x1x512 .f32) (a : Fin 512) (d : Fin 128) :
    k0_pay18 (F := Ideal) x m acc k v c (ix2 a d)
      = k0_pay2 (F := Ideal) m (k0_pay13 (F := Ideal) x k c) (ix2 a 0) * acc (ix2 a d)
        + ∑ b : Fin 512, k0_pay3 (F := Ideal) m (k0_pay13 (F := Ideal) x k c) (ix2 a b) * v (ix2 b d) := by
  unfold k0_pay18
  simp only [shapeCast_self]
  exact num_apply m acc v (k0_pay13 (F := Ideal) x k c) _ _ a d

theorem pay5_apply (m l : FVec Ideal S512x1 .f32) (acc v : FVec Ideal S512x128 .f32) (s : FVec Ideal S512x512 .f32) (a : Fin 512) (d : Fin 128) :
    k0_pay5 (F := Ideal) m l acc (k0_pay25 (F := Ideal) v) s (ix2 a d)
      = Ideal.div (k0_pay2 (F := Ideal) m s (ix2 a 0) * acc (ix2 a d) + ∑ b : Fin 512, k0_pay3 (F := Ideal) m s (ix2 a b) * v (ix2 b d))
          (k0_pay4 (F := Ideal) m l s (ix2 a 0)) := by
  unfold k0_pay5 k0_pay25
  simp only [shapeCast_self]
  rw [divf_apply, num_apply, bc_col128]

theorem pay8_apply (m l : FVec Ideal S512x1 .f32) (s : FVec Ideal S512x512 .f32) (a : Fin 512) :
    k0_pay8 (F := Ideal) m l s (ix4 0 0 0 a)
      = k0_pay1 (F := Ideal) m s (ix2 a 0) + Ideal.log (k0_pay4 (F := Ideal) m l s (ix2 a 0)) := by
  unfold k0_pay8
  simp only [shapeCast_self]
  rw [cast_row4, cast_row]
  refine (max_col8 _ a _ _ _).trans ?_
  have h : ∀ b : Fin 8, extractStridedSlice S8x512 ![0, 0] (transpose S128x512 [1, 0] (broadcastTo S512x128 (k0_pay6 (F := Ideal) m l s) broadcasts_S512x1_S512x128) transposes_S512x128_p1_0_S128x512) slices_S128x512_o0_0_S8x512 (ix2 b a)
      = k0_pay6 (F := Ideal) m l s (ix2 a 0) := fun b => by
    refine (slice2_axis0_apply (n0 := 128) (n1 := 512) (m := 8) 0 _ slices_S128x512_o0_0_S8x512 b a ⟨b.val, by omega⟩ (Nat.zero_add _).symm).trans ?_
    rw [transpose_ix2_apply, bc_col128]
  simp only [h]
  rw [Finset.sup_const ⟨0, Finset.mem_univ _⟩]; rfl

/-- The masked scores of the diagonal tile. -/
theorem pay26_apply (x k : FVec Ideal S512x128 .f32) (c : FVec Ideal S1x1x1x512 .f32) (a b : Fin 512) :
    k0_pay26 (F := Ideal) x k c (ix2 a b) = if b.val ≤ a.val then k0_pay13 (F := Ideal) x k c (ix2 a b) else ⊥ := by
  have hm : cmpi .sle (iota .tc S512x512 32 [1] iota_S512x512_d1_w32) (addi (iota .tc S512x512 32 [0] iota_S512x512_d0_w32) (broadcast S512x512 0#32)) (ix2 a b)
      = BitVec.ofBool (decide (b.val ≤ a.val)) := by
    show IntOp.cmpi .sle (iota .tc S512x512 32 [1] iota_S512x512_d1_w32 (ix2 a b)) (iota .tc S512x512 32 [0] iota_S512x512_d0_w32 (ix2 a b) + 0#32) = _
    rw [BitVec.add_zero]
    show IntOp.cmpi .sle (BitVec.ofNat 32 (0 * 512 + b.val)) (BitVec.ofNat 32 (0 * 512 + a.val)) = _
    simp only [Nat.zero_mul, Nat.zero_add]
    exact WordCmp.cmpi_sle_ofNat (by omega) (by omega)
  show select (cmpi .sle (iota .tc S512x512 32 [1] iota_S512x512_d1_w32) (addi (iota .tc S512x512 32 [0] iota_S512x512_d0_w32) (broadcast S512x512 0#32))) (k0_pay13 (F := Ideal) x k c) (broadcast S512x512 (Scalar.ofBits .f32 0xFF800000#32)) (ix2 a b) = _
  rw [select_apply, hm]
  by_cases h : b.val ≤ a.val
  · rw [if_pos h, decide_eq_true h]; rfl
  · rw [if_neg h, decide_eq_false h]; exact ofBits_bot

/-! ## The running softmax over real inputs -/

/-- A score: the scaled product of a query's row and a key's row, less the key's decay. -/
def score (Q K : ℕ → Fin 128 → ℝ) (C : ℕ → ℝ) (q j : ℕ) : ℝ := (∑ d : Fin 128, Q q d * 0.125 * K j d) - C j

/-- A score's weight, nought past the diagonal. -/
def weight (Q K : ℕ → Fin 128 → ℝ) (C : ℕ → ℝ) (q j : ℕ) : ℝ := wt (j ≤ q) (score Q K C q j)

theorem weight_nonneg (Q K : ℕ → Fin 128 → ℝ) (C : ℕ → ℝ) (q j : ℕ) : 0 ≤ weight Q K C q j := by
  unfold weight wt; split
  · exact (Real.exp_pos _).le
  · exact le_rfl

/-- A row's sum of weights. -/
def total (Q K : ℕ → Fin 128 → ℝ) (C : ℕ → ℝ) (q : ℕ) : ℝ := ∑ j ∈ Finset.range 4096, weight Q K C q j

theorem total_pos (Q K : ℕ → Fin 128 → ℝ) (C : ℕ → ℝ) (q : ℕ) : 0 < total Q K C q := by
  refine Finset.sum_pos' (fun j _ => weight_nonneg Q K C q j) ⟨0, by simp, ?_⟩
  unfold weight wt; rw [if_pos (Nat.zero_le _)]; exact Real.exp_pos _

/-- Past the last key tile of a query tile the weights are nought. -/
theorem sum_weights (Q K : ℕ → Fin 128 → ℝ) (C : ℕ → ℝ) (q n : ℕ) (hq : q < 512 * n) (hn : 512 * n ≤ 4096) (f : ℕ → ℝ) :
    ∑ j ∈ Finset.range (512 * n), weight Q K C q j * f j = ∑ j ∈ Finset.range 4096, weight Q K C q j * f j := by
  refine Finset.sum_subset (Finset.range_subset_range.2 hn) fun j _ hj => ?_
  have : ¬ j ≤ q := by have := Finset.mem_range.not.1 hj; omega
  unfold weight wt; rw [if_neg this, zero_mul]

theorem sum_tile (f : ℕ → ℝ) (n : ℕ) :
    ∑ j ∈ Finset.range (512 * (n + 1)), f j = ∑ j ∈ Finset.range (512 * n), f j + ∑ b : Fin 512, f (512 * n + b.val) := by
  rw [Nat.mul_succ, Finset.sum_range_add, ← Fin.sum_univ_eq_sum_range (fun b => f (512 * n + b))]

section
variable (Q K V : ℕ → Fin 128 → ℝ) (C : ℕ → ℝ) (i : ℕ) (hi : i < 8)
  (x0 : FVec Ideal S512x128 .f32) (x1 x2 : FVec Ideal S4096x128 .f32) (x3 : FVec Ideal S1x8x1x512 .f32)
  (h0 : ∀ a d, x0 (ix2 a d) = (Q (512 * i + a.val) d : EReal))
  (h1 : ∀ (n : Fin 4096) d, x1 (ix2 n d) = (K n.val d : EReal))
  (h2 : ∀ (n : Fin 4096) d, x2 (ix2 n d) = (V n.val d : EReal))
  (h3 : ∀ (j : Fin 8) (b : Fin 512), x3 (ix4 0 j 0 b) = (C (512 * j.val + b.val) : EReal))

theorem tile_real (x : FVec Ideal S4096x128 .f32) (X : ℕ → Fin 128 → ℝ) (h : ∀ (n : Fin 4096) d, x (ix2 n d) = (X n.val d : EReal))
    (n : ℕ) (hn : n < 8) (b : Fin 512) (d : Fin 128) : tile (F := Ideal) x n (ix2 b d) = (X (512 * n + b.val) d : EReal) := by
  refine (h _ _).trans ?_
  have : (512 * n + b.val) % 4096 = 512 * n + b.val := Nat.mod_eq_of_lt (by have := b.isLt; omega)
  show (X ((512 * n + b.val) % 4096) d : EReal) = _
  rw [this]

theorem rowOf_real (x : FVec Ideal S1x8x1x512 .f32) (X : ℕ → ℝ) (h : ∀ (j : Fin 8) (b : Fin 512), x (ix4 0 j 0 b) = (X (512 * j.val + b.val) : EReal))
    (n : ℕ) (hn : n < 8) (b : Fin 512) : rowOf (F := Ideal) x n (ix4 0 0 0 b) = (X (512 * n + b.val) : EReal) := by
  refine (h ⟨n % 8, Nat.mod_lt _ (by decide)⟩ b).trans ?_
  show (X (512 * (n % 8) + b.val) : EReal) = _
  rw [Nat.mod_eq_of_lt hn]

include h0 h1 h3 in
theorem scores_real (n : ℕ) (hn : n < 8) (a b : Fin 512) :
    k0_pay13 (F := Ideal) x0 (tile x1 n) (rowOf x3 n) (ix2 a b) = (score Q K C (512 * i + a.val) (512 * n + b.val) : EReal) := by
  rw [pay13_apply, rowOf_real x3 C h3 n hn, sum_eq_coe Finset.univ _ (fun d => Q (512 * i + a.val) d * 0.125 * K (512 * n + b.val) d), ← EReal.coe_sub]
  · rfl
  · intro d _
    rw [h0, tile_real x1 K h1 n hn, ← EReal.coe_mul, ← EReal.coe_mul]

include h0 h1 h2 h3 in
/-- The loop's state of a row after `n` key tiles, all on or under the diagonal. -/
theorem fwdSt_real (n : ℕ) (hn : n ≤ i) (hi : i < 8) (a : Fin 512) :
    St ((fwdSt (F := Ideal) x0 x1 x2 x3 n).1 (ix2 a 0)) ((fwdSt (F := Ideal) x0 x1 x2 x3 n).2.1 (ix2 a 0))
      (fun d => (fwdSt (F := Ideal) x0 x1 x2 x3 n).2.2 (ix2 a d))
      (∑ j ∈ Finset.range (512 * n), weight Q K C (512 * i + a.val) j)
      (fun d => ∑ j ∈ Finset.range (512 * n), weight Q K C (512 * i + a.val) j * V j d) := by
  induction n with
  | zero => exact Or.inl ⟨ofBits_bot, Ideal.ofBits_zero_f32, fun d => Ideal.ofBits_zero_f32, by simp, fun d => by simp⟩
  | succ n ih =>
    have ih := ih (by omega)
    have hle : ∀ b : Fin 512, 512 * n + b.val ≤ 512 * i + a.val := fun b => by have := b.isLt; omega
    obtain ⟨M, hm, hl, hacc⟩ := St_step _ _ _ _ _ ih
      (fun b : Fin 512 => k0_pay13 (F := Ideal) x0 (tile x1 n) (rowOf x3 n) (ix2 a b))
      (fun b => 512 * n + b.val ≤ 512 * i + a.val) (fun b => score Q K C (512 * i + a.val) (512 * n + b.val))
      (fun b => by rw [scores_real Q K C i x0 x1 x3 h0 h1 h3 n (by omega), if_pos (hle b)]) 0 (hle 0)
      (fun b d => tile (F := Ideal) x2 n (ix2 b d)) (fun b d => V (512 * n + b.val) d) (fun b d => tile_real x2 V h2 n (by omega) b d)
    refine Or.inr ⟨M, ?_, ?_, fun d => ?_⟩
    · exact (pay1_apply _ _ a).trans hm
    · rw [sum_tile]
      refine Eq.trans (pay4_apply _ _ (k0_pay13 (F := Ideal) x0 (tile x1 n) (rowOf x3 n)) a) ?_
      simp only [pay3_apply, pay2_apply, pay1_apply]
      exact hl
    · beta_reduce
      rw [sum_tile]
      refine Eq.trans (pay18_apply _ _ _ _ _ _ a d) ?_
      simp only [pay3_apply, pay2_apply, pay1_apply]
      exact hacc d

include h0 h1 h2 h3 in
/-- The last step of a row, on the diagonal tile. -/
theorem fwdEnd_real (hi : i < 8) (a : Fin 512) :
    ∃ M : ℝ, k0_pay1 (F := Ideal) (fwdSt x0 x1 x2 x3 i).1 (k0_pay26 x0 (tile x1 i) (rowOf x3 i)) (ix2 a 0) = (M : EReal)
      ∧ k0_pay4 (F := Ideal) (fwdSt x0 x1 x2 x3 i).1 (fwdSt x0 x1 x2 x3 i).2.1 (k0_pay26 x0 (tile x1 i) (rowOf x3 i)) (ix2 a 0)
          = ((Real.exp (-M) * total Q K C (512 * i + a.val) : ℝ) : EReal)
      ∧ ∀ d, k0_pay2 (F := Ideal) (fwdSt x0 x1 x2 x3 i).1 (k0_pay26 x0 (tile x1 i) (rowOf x3 i)) (ix2 a 0) * (fwdSt (F := Ideal) x0 x1 x2 x3 i).2.2 (ix2 a d)
            + ∑ b : Fin 512, k0_pay3 (F := Ideal) (fwdSt x0 x1 x2 x3 i).1 (k0_pay26 x0 (tile x1 i) (rowOf x3 i)) (ix2 a b) * tile (F := Ideal) x2 i (ix2 b d)
          = ((Real.exp (-M) * ∑ j ∈ Finset.range 4096, weight Q K C (512 * i + a.val) j * V j d : ℝ) : EReal) := by
  obtain ⟨M, hm, hl, hacc⟩ := St_step _ _ _ _ _ (fwdSt_real Q K V C i x0 x1 x2 x3 h0 h1 h2 h3 i le_rfl hi a)
      (fun b : Fin 512 => k0_pay26 (F := Ideal) x0 (tile x1 i) (rowOf x3 i) (ix2 a b))
      (fun b => 512 * i + b.val ≤ 512 * i + a.val) (fun b => score Q K C (512 * i + a.val) (512 * i + b.val))
      (fun b => by
        rw [pay26_apply, scores_real Q K C i x0 x1 x3 h0 h1 h3 i hi]
        exact if_congr (by omega) rfl rfl) a le_rfl
      (fun b d => tile (F := Ideal) x2 i (ix2 b d)) (fun b d => V (512 * i + b.val) d) (fun b d => tile_real x2 V h2 i hi b d)
  have hlt : 512 * i + a.val < 512 * (i + 1) := by have := a.isLt; omega
  refine ⟨M, (pay1_apply _ _ a).trans hm, ?_, fun d => ?_⟩
  · have h := sum_weights Q K C (512 * i + a.val) (i + 1) hlt (by omega) fun _ => 1
    simp only [mul_one] at h
    rw [total, ← h, sum_tile, pay4_apply]
    simp only [pay3_apply, pay2_apply, pay1_apply]
    exact hl
  · rw [← sum_weights Q K C (512 * i + a.val) (i + 1) hlt (by omega) fun j => V j d, sum_tile]
    simp only [pay3_apply, pay2_apply, pay1_apply]
    exact hacc d

include h0 h1 h2 h3 in
/-- The block of outputs: the mean of the value rows under the weights. -/
theorem fwd_out_real (hi : i < 8) (a : Fin 512) (d : Fin 128) :
    k0_pay5 (F := Ideal) (fwdSt x0 x1 x2 x3 i).1 (fwdSt x0 x1 x2 x3 i).2.1 (fwdSt x0 x1 x2 x3 i).2.2 (k0_pay25 (tile x2 i))
        (k0_pay26 x0 (tile x1 i) (rowOf x3 i)) (ix2 a d)
      = (((∑ j ∈ Finset.range 4096, weight Q K C (512 * i + a.val) j * V j d) / total Q K C (512 * i + a.val) : ℝ) : EReal) := by
  obtain ⟨M, _, hl, hacc⟩ := fwdEnd_real Q K V C i x0 x1 x2 x3 h0 h1 h2 h3 hi a
  rw [pay5_apply, hl, hacc d, St_out _ _ _ (total_pos Q K C _).ne']

include h0 h1 h2 h3 in
/-- The row of logarithms of the weights' sums. -/
theorem fwd_lse_real (hi : i < 8) (a : Fin 512) :
    k0_pay8 (F := Ideal) (fwdSt x0 x1 x2 x3 i).1 (fwdSt x0 x1 x2 x3 i).2.1
        (k0_pay26 x0 (tile x1 i) (rowOf x3 i)) (ix4 0 0 0 a)
      = ((Real.log (total Q K C (512 * i + a.val)) : ℝ) : EReal) := by
  obtain ⟨M, hm, hl, _⟩ := fwdEnd_real Q K V C i x0 x1 x2 x3 h0 h1 h2 h3 hi a
  rw [pay8_apply, hm, hl, St_lse _ _ (total_pos Q K C _)]

end

end Cert.KernelIdeal.Fox

end
-- ==== Proof.Arr0.lean ====
module

public import proofs.«01_k».proof.Proof.FwdIdeal
public import Idealize.ShloMosaic.Lib.Pipeline.Value

@[expose] public section

set_option maxRecDepth 16384

noncomputable section

/-! The forward call's result arrays: the output and the row logarithms, entry by entry, from the
    entries of the packed queries, keys and values and of the decay. -/

namespace Cert.KernelIdeal.Fox

open Idealize.ShloMosaic Idealize.ShloMosaic.ValueIdx Idealize.ShloMosaic.TcCoe Cert.KernelIdeal Cert.KernelIdeal.Gen
open Cert.KernelIdeal.Ops Cert.FoxMath
open Idealize.ShloMosaic.Pipeline (Dat)

/-- The grid point of head `h` and block `i`. -/
def pt0 (h : Fin 4) (i : Fin 8) : Fin cfg0.N := ⟨8 * h.val + i.val, by have := h.isLt; have := i.isLt; show _ < 32; omega⟩

theorem coords0 : ∀ (h : Fin 4) (i : Fin 8), ((grid0.coords (pt0 h i)) 1).val = i.val := by decide +kernel

theorem ix0_0 : ∀ (h : Fin 4) (i : Fin 8), win0_0.index (pt0 h i) 0 = i.val ∧ win0_0.index (pt0 h i) 1 = h.val := by decide +kernel
theorem ix0_1 : ∀ (h : Fin 4) (i : Fin 8), win0_1.index (pt0 h i) 0 = 0 ∧ win0_1.index (pt0 h i) 1 = 4 + h.val := by decide +kernel
theorem ix0_2 : ∀ (h : Fin 4) (i : Fin 8), win0_2.index (pt0 h i) 0 = 0 ∧ win0_2.index (pt0 h i) 1 = 8 + h.val := by decide +kernel
theorem ix0_3 : ∀ (h : Fin 4) (i : Fin 8), win0_3.index (pt0 h i) 0 = h.val ∧ win0_3.index (pt0 h i) 1 = 0
    ∧ win0_3.index (pt0 h i) 2 = 0 ∧ win0_3.index (pt0 h i) 3 = 0 := by decide +kernel
theorem ix0_4 : ∀ (h : Fin 4) (i : Fin 8), win0_4.index (pt0 h i) 0 = i.val ∧ win0_4.index (pt0 h i) 1 = h.val := by decide +kernel
theorem ix0_6 : ∀ (h : Fin 4) (i : Fin 8), win0_6.index (pt0 h i) 0 = h.val ∧ win0_6.index (pt0 h i) 1 = i.val
    ∧ win0_6.index (pt0 h i) 2 = 0 ∧ win0_6.index (pt0 h i) 3 = 0 := by decide +kernel
theorem fl0_4 : ∀ t : Fin cfg0.N, (cfg0.win 4).flush t = true := by decide +kernel
theorem fl0_6 : ∀ t : Fin cfg0.N, (cfg0.win 6).flush t = true := by decide +kernel
theorem inj0_4 : ∀ t t' : Fin cfg0.N, win0_4.index t = win0_4.index t' → t = t' :=
  (by decide +kernel : ∀ t t' : Fin grid0.N, win0_4.index t = win0_4.index t' → t = t')
theorem inj0_6 : ∀ t t' : Fin cfg0.N, win0_6.index t = win0_6.index t' → t = t' :=
  (by decide +kernel : ∀ t t' : Fin grid0.N, win0_6.index t = win0_6.index t' → t = t')
theorem dj0_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (inj0_4 t t' h)
theorem dj0_6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (inj0_6 t t' h)

section
variable {F : FTy → Type} [FloatOps F] (V : (c : Dev nD) → (b : Ref sig .tc) → Buf (Elt F) ((c : Thread nD τ).loc b)) (c : Dev nD)

/-- The packed array as the forward call finds it. -/
abbrev zAt : FVec F S4096x1536 .f32 := V c main_v6
/-- The decay's rows as the forward call finds them. -/
abbrev cAt : FVec F S4x8x1x512 .f32 := V c main_v10

theorem iblk0_0_apply (h : Fin 4) (i : Fin 8) (a : Fin 512) (d : Fin 128) (n : Fin 4096) (e : Fin 1536) (hn : n.val = 512 * i.val + a.val)
    (he : e.val = 128 * h.val + d.val) : (iblk0 V c 0 (pt0 h i) : FVec F S512x128 .f32) (ix2 a d) = zAt V c (ix2 n e) := by
  unfold iblk0
  rw [View.read_apply]
  show V c main_v6 _ = V c main_v6 _
  congr 1
  funext x
  apply Fin.ext
  match x with
  | ⟨0, _⟩ => show win0_0.index (pt0 h i) 0 * 512 + 1 * a.val = n.val; rw [(ix0_0 h i).1]; omega
  | ⟨1, _⟩ => show win0_0.index (pt0 h i) 1 * 128 + 1 * d.val = e.val; rw [(ix0_0 h i).2]; omega

theorem iblk0_1_apply (h : Fin 4) (i : Fin 8) (a : Fin 4096) (d : Fin 128) (e : Fin 1536)
    (he : e.val = 512 + 128 * h.val + d.val) : (iblk0 V c 1 (pt0 h i) : FVec F S4096x128 .f32) (ix2 a d) = zAt V c (ix2 a e) := by
  unfold iblk0
  rw [View.read_apply]
  show V c main_v6 _ = V c main_v6 _
  congr 1
  funext x
  apply Fin.ext
  match x with
  | ⟨0, _⟩ => show win0_1.index (pt0 h i) 0 * 4096 + 1 * a.val = a.val; rw [(ix0_1 h i).1]; omega
  | ⟨1, _⟩ => show win0_1.index (pt0 h i) 1 * 128 + 1 * d.val = e.val; rw [(ix0_1 h i).2]; omega

theorem iblk0_2_apply (h : Fin 4) (i : Fin 8) (a : Fin 4096) (d : Fin 128) (e : Fin 1536)
    (he : e.val = 1024 + 128 * h.val + d.val) : (iblk0 V c 2 (pt0 h i) : FVec F S4096x128 .f32) (ix2 a d) = zAt V c (ix2 a e) := by
  unfold iblk0
  rw [View.read_apply]
  show V c main_v6 _ = V c main_v6 _
  congr 1
  funext x
  apply Fin.ext
  match x with
  | ⟨0, _⟩ => show win0_2.index (pt0 h i) 0 * 4096 + 1 * a.val = a.val; rw [(ix0_2 h i).1]; omega
  | ⟨1, _⟩ => show win0_2.index (pt0 h i) 1 * 128 + 1 * d.val = e.val; rw [(ix0_2 h i).2]; omega

theorem iblk0_3_apply (h : Fin 4) (i : Fin 8) (j : Fin 8) (b : Fin 512) :
    (iblk0 V c 3 (pt0 h i) : FVec F S1x8x1x512 .f32) (ix4 0 j 0 b) = cAt V c (ix4 h j 0 b) := by
  unfold iblk0
  rw [View.read_apply]
  show V c main_v10 _ = V c main_v10 _
  congr 1
  funext x
  apply Fin.ext
  match x with
  | ⟨0, _⟩ => show win0_3.index (pt0 h i) 0 * 1 + 1 * 0 = h.val; rw [(ix0_3 h i).1]; omega
  | ⟨1, _⟩ => show win0_3.index (pt0 h i) 1 * 8 + 1 * j.val = j.val; rw [(ix0_3 h i).2.1]; omega
  | ⟨2, _⟩ => show win0_3.index (pt0 h i) 2 * 1 + 1 * 0 = 0; rw [(ix0_3 h i).2.2.1]
  | ⟨3, _⟩ => show win0_3.index (pt0 h i) 3 * 512 + 1 * b.val = b.val; rw [(ix0_3 h i).2.2.2]; omega

theorem o_apply (h : Fin 4) (i : Fin 8) (a : Fin 512) (d : Fin 128) (n : Fin 4096) (e : Fin 512) (hn : n.val = 512 * i.val + a.val)
    (he : e.val = 128 * h.val + d.val) :
    ((dat0 V c).arrAt 4 cfg0.N : FVec F S4096x512 .f32) (ix2 n e) = (outsAt0 V c (pt0 h i)).1 (ix2 a d) := by
  have hb := (dat0 V c).read_blk_arrAt_eq_flushed 4 dj0_4 cfg0.N (pt0 h i) (pt0 h i).isLt (fl0_4 _)
  have hb' := congrFun hb (ix2 a d : S512x128.Idx)
  rw [View.read_apply] at hb'
  refine Eq.trans ?_ (hb'.trans ?_)
  · show ((dat0 V c).arrAt 4 cfg0.N : FVec F S4096x512 .f32) _ = ((dat0 V c).arrAt 4 cfg0.N : FVec F S4096x512 .f32) _
    congr 1
    funext x
    apply Fin.ext
    match x with
    | ⟨0, _⟩ => show n.val = win0_4.index (pt0 h i) 0 * 512 + 1 * a.val; rw [(ix0_4 h i).1]; omega
    | ⟨1, _⟩ => show e.val = win0_4.index (pt0 h i) 1 * 128 + 1 * d.val; rw [(ix0_4 h i).2]; omega
  · show (cfg0.win 4).cut (grid0.coords (pt0 h i)) ((dat0 V c).after 4 (pt0 h i)) (ix2 a d : S512x128.Idx) = _
    rw [after0_4]; rfl

theorem lse_apply (h : Fin 4) (i : Fin 8) (a : Fin 512) :
    ((dat0 V c).arrAt 6 cfg0.N : FVec F S4x8x1x512 .f32) (ix4 h i 0 a) = (outsAt0 V c (pt0 h i)).2.2 (ix4 0 0 0 a) := by
  have hb := (dat0 V c).read_blk_arrAt_eq_flushed 6 dj0_6 cfg0.N (pt0 h i) (pt0 h i).isLt (fl0_6 _)
  have hb' := congrFun hb (ix4 0 0 0 a : S1x1x1x512.Idx)
  rw [View.read_apply] at hb'
  refine Eq.trans ?_ (hb'.trans ?_)
  · show ((dat0 V c).arrAt 6 cfg0.N : FVec F S4x8x1x512 .f32) _ = ((dat0 V c).arrAt 6 cfg0.N : FVec F S4x8x1x512 .f32) _
    congr 1
    funext x
    apply Fin.ext
    match x with
    | ⟨0, _⟩ => show h.val = win0_6.index (pt0 h i) 0 * 1 + 1 * 0; rw [(ix0_6 h i).1]; omega
    | ⟨1, _⟩ => show i.val = win0_6.index (pt0 h i) 1 * 1 + 1 * 0; rw [(ix0_6 h i).2.1]; omega
    | ⟨2, _⟩ => show 0 = win0_6.index (pt0 h i) 2 * 1 + 1 * 0; rw [(ix0_6 h i).2.2.1]
    | ⟨3, _⟩ => show a.val = win0_6.index (pt0 h i) 3 * 512 + 1 * a.val; rw [(ix0_6 h i).2.2.2]; omega
  · show (cfg0.win 6).cut (grid0.coords (pt0 h i)) ((dat0 V c).after 6 (pt0 h i)) (ix4 0 0 0 a : S1x1x1x512.Idx) = _
    rw [after0_6]; rfl

end

section
variable (V : (c : Dev nD) → (b : Ref sig .tc) → Buf (Elt Ideal) ((c : Thread nD τ).loc b)) (c : Dev nD)
  (Q K W : Fin 4 → ℕ → Fin 128 → ℝ) (C : Fin 4 → ℕ → ℝ)
  (hq : ∀ (h : Fin 4) (n : Fin 4096) (d : Fin 128) (e : Fin 1536), e.val = 128 * h.val + d.val → zAt V c (ix2 n e) = (Q h n.val d : EReal))
  (hk : ∀ (h : Fin 4) (n : Fin 4096) (d : Fin 128) (e : Fin 1536), e.val = 512 + 128 * h.val + d.val → zAt V c (ix2 n e) = (K h n.val d : EReal))
  (hv : ∀ (h : Fin 4) (n : Fin 4096) (d : Fin 128) (e : Fin 1536), e.val = 1024 + 128 * h.val + d.val → zAt V c (ix2 n e) = (W h n.val d : EReal))
  (hc : ∀ (h : Fin 4) (j : Fin 8) (b : Fin 512), cAt V c (ix4 h j 0 b) = (C h (512 * j.val + b.val) : EReal))
include hq hk hv hc

/-- The forward call's output. -/
theorem o_real (h : Fin 4) (n : Fin 4096) (d : Fin 128) (e : Fin 512) (he : e.val = 128 * h.val + d.val) :
    ((dat0 V c).arrAt 4 cfg0.N : FVec Ideal S4096x512 .f32) (ix2 n e)
      = (((∑ j ∈ Finset.range 4096, weight (Q h) (K h) (C h) n.val j * W h j d) / total (Q h) (K h) (C h) n.val : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [o_apply V c h i a d n e hia he, hia]
  dsimp only [outsAt0]
  rw [out0_4_eq, coords0]
  exact fwd_out_real (Q h) (K h) (W h) (C h) i.val _ _ _ _
    (fun a d => iblk0_0_apply V c h i a d ⟨512 * i.val + a.val, by have := a.isLt; have := i.isLt; omega⟩ ⟨128 * h.val + d.val, by have := h.isLt; have := d.isLt; omega⟩ rfl rfl
      |>.trans (hq h _ d _ rfl))
    (fun a d => iblk0_1_apply V c h i a d ⟨512 + 128 * h.val + d.val, by have := h.isLt; have := d.isLt; omega⟩ rfl |>.trans (hk h _ d _ rfl))
    (fun a d => iblk0_2_apply V c h i a d ⟨1024 + 128 * h.val + d.val, by have := h.isLt; have := d.isLt; omega⟩ rfl |>.trans (hv h _ d _ rfl))
    (fun j b => iblk0_3_apply V c h i j b |>.trans (hc h j b)) i.isLt a d

/-- The forward call's row logarithms. -/
theorem lse_real (h : Fin 4) (i : Fin 8) (a : Fin 512) :
    ((dat0 V c).arrAt 6 cfg0.N : FVec Ideal S4x8x1x512 .f32) (ix4 h i 0 a)
      = ((Real.log (total (Q h) (K h) (C h) (512 * i.val + a.val)) : ℝ) : EReal) := by
  rw [lse_apply V c h i a]
  dsimp only [outsAt0]
  rw [out0_6_eq, coords0]
  exact fwd_lse_real (Q h) (K h) (W h) (C h) i.val _ _ _ _
    (fun a d => iblk0_0_apply V c h i a d ⟨512 * i.val + a.val, by have := a.isLt; have := i.isLt; omega⟩ ⟨128 * h.val + d.val, by have := h.isLt; have := d.isLt; omega⟩ rfl rfl
      |>.trans (hq h _ d _ rfl))
    (fun a d => iblk0_1_apply V c h i a d ⟨512 + 128 * h.val + d.val, by have := h.isLt; have := d.isLt; omega⟩ rfl |>.trans (hk h _ d _ rfl))
    (fun a d => iblk0_2_apply V c h i a d ⟨1024 + 128 * h.val + d.val, by have := h.isLt; have := d.isLt; omega⟩ rfl |>.trans (hv h _ d _ rfl))
    (fun j b => iblk0_3_apply V c h i j b |>.trans (hc h j b)) i.isLt a

end

end Cert.KernelIdeal.Fox

end
-- ==== Proof.Dkv.lean ====
module

public import proofs.«01_k».proof.Proof.Gen.KernelIdeal.Frame
public import proofs.«01_k».proof.Proof.Fwd
public import Idealize.ShloMosaic.Lib.ValueIdx
public import Idealize.ShloMosaic.Lib.Pipeline.ValueKit.Tiles

@[expose] public section

set_option maxRecDepth 16384

noncomputable section

namespace Cert.KernelIdeal.Gen

open Idealize.ShloMosaic Idealize.ShloMosaic.ValueIdx Idealize.SL.Sem

variable {F : FTy → Type} [FloatOps F] [Cert.KernelIdeal.Facts]

/-! The key and value gradients' body: the loop's state after `n` query tiles past the diagonal
    one, and the three blocks it stores as the last payloads of that state. -/

/-- The loop's state: the key gradient, the value gradient, the score gradients' sum. -/
abbrev DSt (F : FTy → Type) := FVec F S512x128 .f32 × FVec F S512x128 .f32 × FVec F S512x512 .f32

section
variable (x0 : Vec F S4096x128 .f32) (x1 x2 : Vec F S512x128 .f32) (x3 : Vec F S4096x128 .f32) (x4 x5 : Vec F S1x8x1x512 .f32) (x6 : Vec F S1x512x1 .f32)

/-- The diagonal step, on query tile `j`. -/
def dkvInit (j : ℕ) : DSt F :=
  (k1_pay13 (k1_pay2 x2) k1_pay4 (k1_pay7 (tile x0 j)) (k1_pay8 (tile x3 j)) (k1_pay9 x1 x6 (tile x0 j)) (rowOf x4 j) (rowOf x5 j),
    k1_pay11 k1_pay5 (k1_pay8 (tile x3 j)) (k1_pay9 x1 x6 (tile x0 j)) (rowOf x4 j),
    k1_pay14 (k1_pay2 x2) k1_pay6 (k1_pay8 (tile x3 j)) (k1_pay9 x1 x6 (tile x0 j)) (rowOf x4 j) (rowOf x5 j))

/-- One trip of the loop, on query tile `n`. -/
def dkvStep (n : ℕ) (a : DSt F) : DSt F :=
  (k1_pay20 (k1_pay1 x1) (k1_pay2 x2) (k1_pay3 x6) a.1 (tile x0 n) (tile x3 n) (rowOf x4 n) (rowOf x5 n),
    k1_pay18 (k1_pay1 x1) (k1_pay3 x6) a.2.1 (tile x0 n) (tile x3 n) (rowOf x4 n),
    k1_pay21 (k1_pay1 x1) (k1_pay2 x2) (k1_pay3 x6) a.2.2 (tile x0 n) (tile x3 n) (rowOf x4 n) (rowOf x5 n))

/-- The loop's state after the diagonal tile `j` and `n` further ones. -/
def dkvSt (j : ℕ) : ℕ → DSt F
  | 0 => dkvInit x0 x1 x2 x3 x4 x5 x6 j
  | n + 1 => dkvStep x0 x1 x2 x3 x4 x5 x6 (j + 1 + n) (dkvSt j n)

end

theorem trips1_1 : ∀ i : grid1.Coords, (k1_t1_loop i).trips = 7 - (i 1).val := by decide +kernel

theorem trips1_2 : ∀ i : grid1.Coords, (k1_t2_loop i).trips = 0 := by decide +kernel

theorem off1_1 : ∀ i : grid1.Coords, k1_off1 i = ![512 * (i 1).val, 0] := by decide +kernel

theorem off1_2 : ∀ i : grid1.Coords, k1_off2 i = ![0, (i 1).val, 0, 0] := by decide +kernel

theorem off1_3 : ∀ (i : grid1.Coords) (k : Fin (k1_t1_loop i).trips), k1_off3 i k = ![512 * ((i 1).val + 1 + k.val), 0] := by decide +kernel

theorem off1_4 : ∀ (i : grid1.Coords) (k : Fin (k1_t1_loop i).trips), k1_off4 i k = ![0, (i 1).val + 1 + k.val, 0, 0] := by decide +kernel

section
variable (𝒱 : Variants) (c : Dev nD) (bd : Option 𝒱.V) (i : grid1.Coords) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S1x8x1x512 .f32) (harg6 : arg6.IsWhole) (arg7 : Memref sig .tc .vmem S1x8x1x512 .f32) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x1 .f32) (harg11 : arg11.IsWhole)
  (x0 : Vec F S4096x128 .f32) (x1 x2 : Vec F S512x128 .f32) (x3 : Vec F S4096x128 .f32) (x4 x5 : Vec F S1x8x1x512 .f32) (x6 : Vec F S1x512x1 .f32)
  (v8 v9 : FVec F S512x128 .f32) (v10 : FVec F S512x512 .f32) (v11 v13 : BitVec 32) (v21 v25 : FVec F S512x128 .bf16) (v36 : FVec F S512x512 .f32)

theorem trip1_eq (k : Fin (k1_t1_loop i).trips) (acc : DSt F) :
    tripR_k1_t1 (F := F) 𝒱 c bd i arg2 harg2 arg3 harg3 arg4 harg4 arg5 harg5 arg6 harg6 arg7 harg7 arg8 harg8 arg9 harg9 arg10 harg10 arg11 harg11 (k1_pay1 x1) (k1_pay2 x2) (k1_pay3 x6) v8 v9 v10 v11 v13 v21 v25 v36 (harg2.unread x0) (harg5.unread x3) (harg6.unread x4) (harg7.unread x5) k acc
      = dkvStep x0 x1 x2 x3 x4 x5 x6 ((i 1).val + 1 + k.val) acc := by
  unfold tripR_k1_t1 trip_k1_t1
  simp only [View.readAt_eq_ld, harg2.read_unread, harg5.read_unread, harg6.read_unread, harg7.read_unread]
  rw [ld_tile x0 _ _ _ (off1_3 i k), ld_tile x3 _ _ _ (off1_3 i k), ld_row x4 _ _ _ (off1_4 i k), ld_row x5 _ _ _ (off1_4 i k)]
  rfl

theorem st1_eq (n : ℕ) (hn : n ≤ (k1_t1_loop i).trips) :
    st_k1_t1 (F := F) 𝒱 c bd i arg2 harg2 arg3 harg3 arg4 harg4 arg5 harg5 arg6 harg6 arg7 harg7 arg8 harg8 arg9 harg9 arg10 harg10 arg11 harg11 (k1_pay1 x1) (k1_pay2 x2) (k1_pay3 x6) v8 v9 v10 v11 v13 v21 v25 v36 (harg2.unread x0) (harg5.unread x3) (harg6.unread x4) (harg7.unread x5) (dkvInit x0 x1 x2 x3 x4 x5 x6 (i 1).val) n
      = dkvSt x0 x1 x2 x3 x4 x5 x6 (i 1).val n := by
  induction n with
  | zero => rfl
  | succ n ih =>
    rw [st_k1_t1_succ (F := F) 𝒱 c bd i arg2 harg2 arg3 harg3 arg4 harg4 arg5 harg5 arg6 harg6 arg7 harg7 arg8 harg8 arg9 harg9 arg10 harg10 arg11 harg11 (k1_pay1 x1) (k1_pay2 x2) (k1_pay3 x6) v8 v9 v10 v11 v13 v21 v25 v36 (harg2.unread x0) (harg5.unread x3) (harg6.unread x4) (harg7.unread x5) (dkvInit x0 x1 x2 x3 x4 x5 x6 (i 1).val) ⟨n, hn⟩,
      trip1_eq, ih (Nat.le_of_succ_le hn)]
    rfl

theorem stEnd1_eq :
    st_k1_t2 (F := F) 𝒱 c bd i arg2 harg2 arg3 harg3 arg4 harg4 arg5 harg5 arg6 harg6 arg7 harg7 arg8 harg8 arg9 harg9 arg10 harg10 arg11 harg11 (k1_pay1 x1) (k1_pay2 x2) (k1_pay3 x6) v8 v9 v10 v11 v13 v21 v25 v36 (harg2.unread x0) (harg5.unread x3) (harg6.unread x4) (harg7.unread x5)
        (st_k1_t1 (F := F) 𝒱 c bd i arg2 harg2 arg3 harg3 arg4 harg4 arg5 harg5 arg6 harg6 arg7 harg7 arg8 harg8 arg9 harg9 arg10 harg10 arg11 harg11 (k1_pay1 x1) (k1_pay2 x2) (k1_pay3 x6) v8 v9 v10 v11 v13 v21 v25 v36 (harg2.unread x0) (harg5.unread x3) (harg6.unread x4) (harg7.unread x5) (dkvInit x0 x1 x2 x3 x4 x5 x6 (i 1).val) (k1_t1_loop i).trips)
        (k1_t2_loop i).trips
      = dkvSt x0 x1 x2 x3 x4 x5 x6 (i 1).val (7 - (i 1).val) := by
  rw [trips1_2, st_k1_t2_zero, st1_eq (hn := le_rfl), trips1_1]

theorem r1_eq : kernelRun1_A.sl.r c arg3 harg3 x1 = k1_pay1 x1 := by
  unfold kernelRun1_A.sl.r
  rw [View.readAt_eq_ld, harg3.read_unread]
  exact congrArg k1_pay1 (View.ld_unit_zero (S := S512x128) (by decide) inb_S512x128_S512x128_0_0 x1)

theorem r1_1_eq : kernelRun1_A.sl.r_1 c arg4 harg4 x2 = k1_pay2 x2 := by
  unfold kernelRun1_A.sl.r_1
  rw [View.readAt_eq_ld, harg4.read_unread]
  exact congrArg k1_pay2 (View.ld_unit_zero (S := S512x128) (by decide) inb_S512x128_S512x128_0_0 x2)

theorem r1_2_eq : kernelRun1_A.sl.r_2 c arg8 harg8 x6 = k1_pay3 x6 := by
  unfold kernelRun1_A.sl.r_2
  rw [View.readAt_eq_ld, harg8.read_unread]
  exact congrArg k1_pay3 (View.ld_unit_zero (S := S1x512x1) (by decide) inb_S1x512x1_S1x512x1_0_0_0 x6)

theorem r1_3_eq : kernelRun1_A.sl.r_3 c i arg2 harg2 x0 = k1_pay7 (tile x0 (i 1).val) := by
  unfold kernelRun1_A.sl.r_3
  rw [View.readAt_eq_ld, harg2.read_unread]
  exact congrArg k1_pay7 (ld_tile x0 _ _ _ (off1_1 i))

theorem r1_4_eq : kernelRun1_A.sl.r_4 c i arg5 harg5 x3 = k1_pay8 (tile x3 (i 1).val) := by
  unfold kernelRun1_A.sl.r_4
  rw [View.readAt_eq_ld, harg5.read_unread]
  exact congrArg k1_pay8 (ld_tile x3 _ _ _ (off1_1 i))

theorem r1_5_eq : kernelRun1_A.sl.r_5 c i arg2 harg2 arg3 harg3 arg8 harg8 x0 x1 x6 = k1_pay9 x1 x6 (tile x0 (i 1).val) := by
  unfold kernelRun1_A.sl.r_5
  simp only [View.readAt_eq_ld, harg2.read_unread, harg3.read_unread, harg8.read_unread]
  rw [View.ld_unit_zero (S := S512x128) (by decide) inb_S512x128_S512x128_0_0 x1,
    View.ld_unit_zero (S := S1x512x1) (by decide) inb_S1x512x1_S1x512x1_0_0_0 x6]
  exact congrArg (k1_pay9 x1 x6) (ld_tile x0 _ _ _ (off1_1 i))

theorem ld_x4 : View.readAt (Elt F) arg6.view (Rect.unit (k1_off2 i) ![1, 1, 1, 512] (k1_off2_inb i)).toLoadRect (harg6.unread x4) = rowOf x4 (i 1).val := by
  rw [View.readAt_eq_ld, harg6.read_unread]; exact ld_row x4 _ _ _ (off1_2 i)

theorem ld_x5 : View.readAt (Elt F) arg7.view (Rect.unit (k1_off2 i) ![1, 1, 1, 512] (k1_off2_inb i)).toLoadRect (harg7.unread x5) = rowOf x5 (i 1).val := by
  rw [View.readAt_eq_ld, harg7.read_unread]; exact ld_row x5 _ _ _ (off1_2 i)

/-- The key gradient's block. -/
theorem out1_7_eq :
    out1_A_7 c i arg2 harg2 arg3 harg3 arg4 harg4 arg5 harg5 arg6 harg6 arg7 harg7 arg8 harg8 arg9 harg9 arg10 harg10 arg11 harg11 x0 x1 x2 x3 x4 x5 x6 = k1_pay30 (dkvSt x0 x1 x2 x3 x4 x5 x6 (i 1).val (7 - (i 1).val)).1 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 x0 x1 x2 x3 x4 x5 x6)]
  unfold kernelRun1_A
  refine (View.canon_unit_zero (S := S512x128) (by decide) inb_S512x128_S512x128_0_0 _).trans ?_
  rw [r1_eq, r1_1_eq, r1_2_eq, r1_3_eq, r1_4_eq, r1_5_eq, ld_x4, ld_x5]
  exact congrArg (fun s : DSt F => k1_pay30 s.1) (stEnd1_eq ..)

/-- The value gradient's block. -/
theorem out1_8_eq :
    out1_A_8 c i arg2 harg2 arg3 harg3 arg4 harg4 arg5 harg5 arg6 harg6 arg7 harg7 arg8 harg8 arg9 harg9 arg10 harg10 arg11 harg11 x0 x1 x2 x3 x4 x5 x6 = (dkvSt x0 x1 x2 x3 x4 x5 x6 (i 1).val (7 - (i 1).val)).2.1 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 x0 x1 x2 x3 x4 x5 x6)]
  unfold kernelRun1_A
  refine (View.canon_unit_zero (S := S512x128) (by decide) inb_S512x128_S512x128_0_0 _).trans ?_
  unfold kernelRun1_A.sl.r_6
  rw [r1_eq, r1_1_eq, r1_2_eq, r1_3_eq, r1_4_eq, r1_5_eq, ld_x4, ld_x5]
  exact congrArg (fun s : DSt F => s.2.1) (stEnd1_eq ..)

/-- The decay gradient's block. -/
theorem out1_9_eq :
    out1_A_9 c i arg2 harg2 arg3 harg3 arg4 harg4 arg5 harg5 arg6 harg6 arg7 harg7 arg8 harg8 arg9 harg9 arg10 harg10 arg11 harg11 x0 x1 x2 x3 x4 x5 x6 = k1_pay29 (dkvSt x0 x1 x2 x3 x4 x5 x6 (i 1).val (7 - (i 1).val)).2.2 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 x0 x1 x2 x3 x4 x5 x6)]
  unfold kernelRun1_A
  refine (View.canon_unit_zero (S := S1x512x1) (by decide) inb_S1x512x1_S1x512x1_0_0_0 _).trans ?_
  rw [r1_eq, r1_1_eq, r1_2_eq, r1_3_eq, r1_4_eq, r1_5_eq, ld_x4, ld_x5]
  exact congrArg (fun s : DSt F => k1_pay29 s.2.2) (stEnd1_eq ..)

end

end Cert.KernelIdeal.Gen

end
-- ==== Proof.DkvIdeal.lean ====
module

public import proofs.«01_k».proof.Proof.Dkv
public import proofs.«01_k».proof.Proof.FwdIdeal

@[expose] public section

set_option maxRecDepth 16384

noncomputable section

/-! The key and value gradients' body over real inputs: each stored block as a sum over the queries. -/

namespace Cert.KernelIdeal.Fox

open Idealize.ShloMosaic Idealize.ShloMosaic.ValueIdx Cert.KernelIdeal.Gen Cert.KernelIdeal.Ops Cert.FoxMath

variable [Cert.KernelIdeal.Facts]

/-! ## The payloads at an index -/

theorem dpay1 (x : FVec Ideal S512x128 .f32) (a : Fin 512) (d : Fin 128) : k1_pay1 (F := Ideal) x (ix2 a d) = x (ix2 a d) := by
  unfold k1_pay1; simp only [shapeCast_self]; rfl

theorem dpay2 (x : FVec Ideal S512x128 .f32) (a : Fin 512) (d : Fin 128) : k1_pay2 (F := Ideal) x (ix2 a d) = x (ix2 a d) := by
  unfold k1_pay2; simp only [shapeCast_self]; rfl

theorem dpay3 (x : FVec Ideal S1x512x1 .f32) (a : Fin 512) : k1_pay3 (F := Ideal) x (ix2 a 0) = x (ix3 0 a 0) := by
  unfold k1_pay3; rw [cast_col3']

theorem dpay7 (x : FVec Ideal S512x128 .f32) (a : Fin 512) (d : Fin 128) :
    k1_pay7 (F := Ideal) x (ix2 a d) = x (ix2 a d) * ((0.125 : ℝ) : EReal) := pay9_apply x a d

theorem dpay8 (x : FVec Ideal S512x128 .f32) (a : Fin 512) (d : Fin 128) : k1_pay8 (F := Ideal) x (ix2 a d) = x (ix2 a d) := by
  unfold k1_pay8; simp only [shapeCast_self]; rfl

theorem dpay15 (x : FVec Ideal S512x128 .f32) (a : Fin 512) (d : Fin 128) :
    k1_pay15 (F := Ideal) x (ix2 a d) = x (ix2 a d) * ((0.125 : ℝ) : EReal) := pay9_apply x a d

theorem dpay16 (x : FVec Ideal S512x128 .f32) (a : Fin 512) (d : Fin 128) : k1_pay16 (F := Ideal) x (ix2 a d) = x (ix2 a d) := by
  unfold k1_pay16; simp only [shapeCast_self]; rfl

/-- A product with a transposed block of rows. -/
theorem mm_t {φ : FTy} (A B : FVec Ideal S512x128 φ) (a b : Fin 512) :
    matmul dot_S512x128_S128x512_S512x512_1_0_0_1_n_n none A (transpose S128x512 [1, 0] B transposes_S512x128_p1_0_S128x512)
        (constant S512x512 .f32 0x00000000#32) (ix2 a b)
      = ∑ d : Fin 128, A (ix2 a d) * B (ix2 b d) := by
  rw [mm_nn]
  exact Finset.sum_congr rfl fun d _ => by rw [transpose_ix2_apply]

/-- The scores of a tile, keys by queries. -/
def sT (k q : FVec Ideal S512x128 .f32) (c : FVec Ideal S1x512x1 .f32) (a b : Fin 512) : EReal :=
  (∑ d : Fin 128, k (ix2 a d) * (q (ix2 b d) * ((0.125 : ℝ) : EReal))) - c (ix3 0 a 0)

theorem dpay9 (k : FVec Ideal S512x128 .f32) (c : FVec Ideal S1x512x1 .f32) (q : FVec Ideal S512x128 .f32) (a b : Fin 512) :
    k1_pay9 (F := Ideal) k c q (ix2 a b) = if a.val ≤ b.val then sT k q c a b else ⊥ := by
  have hm : cmpi .sle (iota .tc S512x512 32 [0] iota_S512x512_d0_w32) (addi (iota .tc S512x512 32 [1] iota_S512x512_d1_w32) (broadcast S512x512 0#32)) (ix2 a b)
      = BitVec.ofBool (decide (a.val ≤ b.val)) := by
    show IntOp.cmpi .sle (iota .tc S512x512 32 [0] iota_S512x512_d0_w32 (ix2 a b)) (iota .tc S512x512 32 [1] iota_S512x512_d1_w32 (ix2 a b) + 0#32) = _
    rw [BitVec.add_zero]
    show IntOp.cmpi .sle (BitVec.ofNat 32 (0 * 512 + a.val)) (BitVec.ofNat 32 (0 * 512 + b.val)) = _
    simp only [Nat.zero_mul, Nat.zero_add]
    exact WordCmp.cmpi_sle_ofNat (by omega) (by omega)
  have hs : subf (matmul dot_S512x128_S128x512_S512x512_1_0_0_1_n_n none (k1_pay1 (F := Ideal) k) (transpose S128x512 [1, 0] (k1_pay7 (F := Ideal) q) transposes_S512x128_p1_0_S128x512)
        (constant S512x512 .f32 0x00000000#32)) (broadcastTo S512x512 (k1_pay3 (F := Ideal) c) broadcasts_S512x1_S512x512) (ix2 a b) = sT k q c a b := by
    rw [subf_apply, mm_t, bc_col512, dpay3]
    simp only [dpay1, dpay7]; rfl
  unfold k1_pay9
  simp only []
  rw [select_apply, hm]
  by_cases h : a.val ≤ b.val
  · rw [if_pos h, decide_eq_true h]; exact hs
  · rw [if_neg h, decide_eq_false h]; exact ofBits_bot

theorem dpay10 (s : FVec Ideal S512x512 .f32) (l : FVec Ideal S1x1x1x512 .f32) (a b : Fin 512) :
    k1_pay10 (F := Ideal) s l (ix2 a b) = Ideal.exp (s (ix2 a b) - l (ix4 0 0 0 b)) := by
  show Ideal.exp (s (ix2 a b) - broadcastTo S512x512 (shapeCast S1x512 l _) _ (ix2 a b)) = _
  rw [bc_row, cast_row4']

theorem dpay17 (k q : FVec Ideal S512x128 .f32) (c : FVec Ideal S1x512x1 .f32) (l : FVec Ideal S1x1x1x512 .f32) (a b : Fin 512) :
    k1_pay17 (F := Ideal) (k1_pay1 (F := Ideal) k) (k1_pay3 (F := Ideal) c) q l (ix2 a b) = Ideal.exp (sT k q c a b - l (ix4 0 0 0 b)) := by
  have hs : subf (matmul dot_S512x128_S128x512_S512x512_1_0_0_1_n_n none (k1_pay1 (F := Ideal) k) (transpose S128x512 [1, 0] (k1_pay15 (F := Ideal) q) transposes_S512x128_p1_0_S128x512)
        (constant S512x512 .f32 0x00000000#32)) (broadcastTo S512x512 (k1_pay3 (F := Ideal) c) broadcasts_S512x1_S512x512) (ix2 a b) = sT k q c a b := by
    rw [subf_apply, mm_t, bc_col512, dpay3]
    simp only [dpay1, dpay15]; rfl
  rw [← hs]
  unfold k1_pay17
  show Ideal.exp ((subf (_ : FVec Ideal S512x512 .f32) _ : FVec Ideal S512x512 .f32) (ix2 a b) - broadcastTo S512x512 (shapeCast S1x512 l _) _ (ix2 a b)) = _
  rw [bc_row, cast_row4']

/-- A tile's score gradients, from its probabilities. -/
theorem ds_apply (P : FVec Ideal S512x512 .f32) (v : FVec Ideal S512x128 .f32) (do' : FVec Ideal S512x128 .bf16) (D : FVec Ideal S1x1x1x512 .f32) (a b : Fin 512) :
    mulf P (subf (matmul dot_S512x128_S128x512_S512x512_1_0_0_1_n_n none (k1_pay2 (F := Ideal) v) (transpose S128x512 [1, 0] do' transposes_S512x128_p1_0_S128x512)
        (constant S512x512 .f32 0x00000000#32)) (broadcastTo S512x512 (shapeCast S1x512 D shapeCasts_S1x1x1x512_S1x512) broadcasts_S1x512_S512x512)) (ix2 a b)
      = P (ix2 a b) * ((∑ d : Fin 128, v (ix2 a d) * do' (ix2 b d)) - D (ix4 0 0 0 b)) := by
  rw [mulf_apply, subf_apply, mm_t, bc_row, cast_row4']
  simp only [dpay2]

theorem dpay12 (v w : FVec Ideal S512x128 .f32) (s : FVec Ideal S512x512 .f32) (l D : FVec Ideal S1x1x1x512 .f32) (a b : Fin 512) :
    k1_pay12 (F := Ideal) (k1_pay2 (F := Ideal) v) (k1_pay8 (F := Ideal) w) s l D (ix2 a b)
      = k1_pay10 (F := Ideal) s l (ix2 a b) * ((∑ d : Fin 128, v (ix2 a d) * w (ix2 b d)) - D (ix4 0 0 0 b)) := by
  unfold k1_pay12
  refine (ds_apply _ v _ D a b).trans ?_
  simp only [dpay8]

theorem dpay19 (k v q w : FVec Ideal S512x128 .f32) (c : FVec Ideal S1x512x1 .f32) (l D : FVec Ideal S1x1x1x512 .f32) (a b : Fin 512) :
    k1_pay19 (F := Ideal) (k1_pay1 (F := Ideal) k) (k1_pay2 (F := Ideal) v) (k1_pay3 (F := Ideal) c) q w l D (ix2 a b)
      = k1_pay17 (F := Ideal) (k1_pay1 (F := Ideal) k) (k1_pay3 (F := Ideal) c) q l (ix2 a b) * ((∑ d : Fin 128, v (ix2 a d) * w (ix2 b d)) - D (ix4 0 0 0 b)) := by
  unfold k1_pay19
  refine (ds_apply _ v _ D a b).trans ?_
  simp only [dpay16]

theorem dpay11 (acc w : FVec Ideal S512x128 .f32) (s : FVec Ideal S512x512 .f32) (l : FVec Ideal S1x1x1x512 .f32) (a : Fin 512) (d : Fin 128) :
    k1_pay11 (F := Ideal) acc (k1_pay8 (F := Ideal) w) s l (ix2 a d) = acc (ix2 a d) + ∑ b : Fin 512, k1_pay10 (F := Ideal) s l (ix2 a b) * w (ix2 b d) := by
  unfold k1_pay11
  rw [addf_apply, mm_pv]
  simp only [dpay8]; rfl

theorem dpay13 (v5 w : FVec Ideal S512x128 .bf16) (acc q : FVec Ideal S512x128 .f32) (s : FVec Ideal S512x512 .f32) (l D : FVec Ideal S1x1x1x512 .f32) (a : Fin 512) (d : Fin 128) :
    k1_pay13 (F := Ideal) v5 acc (k1_pay7 (F := Ideal) q) w s l D (ix2 a d)
      = acc (ix2 a d) + ∑ b : Fin 512, k1_pay12 (F := Ideal) v5 w s l D (ix2 a b) * (q (ix2 b d) * ((0.125 : ℝ) : EReal)) := by
  unfold k1_pay13
  rw [addf_apply, mm_pv]
  simp only [dpay7]; rfl

theorem dpay18 (v2 : FVec Ideal S512x128 .bf16) (v7 : FVec Ideal S512x1 .f32) (acc q w : FVec Ideal S512x128 .f32) (l : FVec Ideal S1x1x1x512 .f32) (a : Fin 512) (d : Fin 128) :
    k1_pay18 (F := Ideal) v2 v7 acc q w l (ix2 a d) = acc (ix2 a d) + ∑ b : Fin 512, k1_pay17 (F := Ideal) v2 v7 q l (ix2 a b) * w (ix2 b d) := by
  unfold k1_pay18
  rw [addf_apply, mm_pv]
  simp only [dpay16]; rfl

theorem dpay20 (v2 v5 : FVec Ideal S512x128 .bf16) (v7 : FVec Ideal S512x1 .f32) (acc q w : FVec Ideal S512x128 .f32) (l D : FVec Ideal S1x1x1x512 .f32) (a : Fin 512) (d : Fin 128) :
    k1_pay20 (F := Ideal) v2 v5 v7 acc q w l D (ix2 a d)
      = acc (ix2 a d) + ∑ b : Fin 512, k1_pay19 (F := Ideal) v2 v5 v7 q w l D (ix2 a b) * (q (ix2 b d) * ((0.125 : ℝ) : EReal)) := by
  unfold k1_pay20
  rw [addf_apply, mm_pv]
  simp only [dpay15]; rfl

theorem ofBits_one : Ideal.ofBits .f32 0x3F800000#32 = 1 := by
  simp [Ideal.ofBits, Ideal.ieee]
  rw [← EReal.coe_mul]
  norm_num

theorem dpay30 (x : FVec Ideal S512x128 .f32) (a : Fin 512) (d : Fin 128) : k1_pay30 (F := Ideal) x (ix2 a d) = x (ix2 a d) := by
  show x (ix2 a d) * Ideal.ofBits .f32 0x3F800000#32 = _
  rw [ofBits_one, mul_one]

theorem dpay29 (x : FVec Ideal S512x512 .f32) (a : Fin 512) : k1_pay29 (F := Ideal) x (ix3 0 a 0) = 0 - ∑ b : Fin 512, x (ix2 a b) := by
  unfold k1_pay29
  rw [cast_col3, subf_apply, cast_col]
  exact congrArg₂ (· - ·) Ideal.ofBits_zero_f32 (sum_row _ a _ _ _)

end Cert.KernelIdeal.Fox

end
-- ==== Proof.DkvReal.lean ====
module

public import proofs.«01_k».proof.Proof.DkvIdeal

@[expose] public section

set_option maxRecDepth 16384

noncomputable section

/-! The key and value gradients' body over real inputs: the loop's state as sums over the queries
    seen so far, and the stored blocks as sums over all of them. -/

namespace Cert.KernelIdeal.Fox

open Idealize.ShloMosaic Idealize.ShloMosaic.ValueIdx Cert.KernelIdeal.Gen Cert.KernelIdeal.Ops Cert.FoxMath

variable [Cert.KernelIdeal.Facts]

/-- A probability, from the row's logarithm `L`. -/
def prob (Q K : ℕ → Fin 128 → ℝ) (C L : ℕ → ℝ) (n j : ℕ) : ℝ := wt (j ≤ n) (score Q K C n j - L n)

/-- A score's gradient, from the rows' logarithms `L` and row sums `D`. -/
def dsc (Q K V W : ℕ → Fin 128 → ℝ) (C L D : ℕ → ℝ) (n j : ℕ) : ℝ :=
  prob Q K C L n j * ((∑ d : Fin 128, V j d * W n d) - D n)

theorem prob_zero (Q K : ℕ → Fin 128 → ℝ) (C L : ℕ → ℝ) (n j : ℕ) (h : n < j) : prob Q K C L n j = 0 := by
  unfold prob wt; rw [if_neg (by omega)]

theorem dsc_zero (Q K V W : ℕ → Fin 128 → ℝ) (C L D : ℕ → ℝ) (n j : ℕ) (h : n < j) : dsc Q K V W C L D n j = 0 := by
  unfold dsc; rw [prob_zero _ _ _ _ _ _ h, zero_mul]

theorem exp_sub' (T : Prop) [Decidable T] (σ L : ℝ) :
    Ideal.exp ((if T then (σ : EReal) else ⊥) - (L : EReal)) = ((wt T (σ - L) : ℝ) : EReal) := by
  unfold wt
  split
  · rw [← EReal.coe_sub, Ideal.exp_coe]
  · rw [show (⊥ : EReal) - (L : EReal) = ⊥ from EReal.bot_sub _, Ideal.exp_bot, EReal.coe_zero]

/-- Tiles of 512. -/
theorem sum_tiles (f : ℕ → ℝ) (m : ℕ) : ∑ j ∈ Finset.range (512 * m), f j = ∑ b : Fin 512, ∑ t ∈ Finset.range m, f (512 * t + b.val) := by
  induction m with
  | zero => simp
  | succ m ih => rw [sum_tile, ih, ← Finset.sum_add_distrib]; exact Finset.sum_congr rfl fun b _ => (Finset.sum_range_succ _ _).symm

section
variable (Q K V W : ℕ → Fin 128 → ℝ) (C L D : ℕ → ℝ) (J : ℕ)
  (x0 : FVec Ideal S4096x128 .f32) (x1 x2 : FVec Ideal S512x128 .f32) (x3 : FVec Ideal S4096x128 .f32)
  (x4 x5 : FVec Ideal S1x8x1x512 .f32) (x6 : FVec Ideal S1x512x1 .f32)
  (h0 : ∀ (n : Fin 4096) d, x0 (ix2 n d) = (Q n.val d : EReal))
  (h1 : ∀ a d, x1 (ix2 a d) = (K (512 * J + a.val) d : EReal))
  (h2 : ∀ a d, x2 (ix2 a d) = (V (512 * J + a.val) d : EReal))
  (h3 : ∀ (n : Fin 4096) d, x3 (ix2 n d) = (W n.val d : EReal))
  (h4 : ∀ (j : Fin 8) (b : Fin 512), x4 (ix4 0 j 0 b) = (L (512 * j.val + b.val) : EReal))
  (h5 : ∀ (j : Fin 8) (b : Fin 512), x5 (ix4 0 j 0 b) = (D (512 * j.val + b.val) : EReal))
  (h6 : ∀ a : Fin 512, x6 (ix3 0 a 0) = (C (512 * J + a.val) : EReal))

include h0 h1 h6 in
theorem sT_real (n : ℕ) (hn : n < 8) (a b : Fin 512) :
    sT x1 (tile (F := Ideal) x0 n) x6 a b = (score Q K C (512 * n + b.val) (512 * J + a.val) : EReal) := by
  unfold sT
  rw [h6, sum_eq_coe Finset.univ _ (fun d => Q (512 * n + b.val) d * 0.125 * K (512 * J + a.val) d), ← EReal.coe_sub]
  · rfl
  · intro d _
    rw [h1, tile_real x0 Q h0 n hn, ← EReal.coe_mul, ← EReal.coe_mul, mul_comm]

include h0 h1 h4 h6 in
theorem probDiag_real (hJ : J < 8) (a b : Fin 512) :
    k1_pay10 (F := Ideal) (k1_pay9 x1 x6 (tile x0 J)) (rowOf x4 J) (ix2 a b)
      = (prob Q K C L (512 * J + b.val) (512 * J + a.val) : EReal) := by
  rw [dpay10, dpay9, sT_real Q K C J x0 x1 x6 h0 h1 h6 J hJ, rowOf_real x4 L h4 J hJ, exp_sub']
  unfold prob wt
  exact congrArg _ (if_congr (by omega) rfl rfl)

include h0 h1 h4 h6 in
theorem prob_real (n : ℕ) (hn : n < 8) (hJ : J < n) (a b : Fin 512) :
    k1_pay17 (F := Ideal) (k1_pay1 x1) (k1_pay3 x6) (tile x0 n) (rowOf x4 n) (ix2 a b)
      = (prob Q K C L (512 * n + b.val) (512 * J + a.val) : EReal) := by
  rw [dpay17, sT_real Q K C J x0 x1 x6 h0 h1 h6 n hn, rowOf_real x4 L h4 n hn, ← EReal.coe_sub, Ideal.exp_coe]
  unfold prob wt
  rw [if_pos (by have := a.isLt; omega)]

include h2 h3 h5 in
theorem dp_real (n : ℕ) (hn : n < 8) (a b : Fin 512) :
    (∑ d : Fin 128, x2 (ix2 a d) * tile (F := Ideal) x3 n (ix2 b d)) - rowOf (F := Ideal) x5 n (ix4 0 0 0 b)
      = (((∑ d : Fin 128, V (512 * J + a.val) d * W (512 * n + b.val) d) - D (512 * n + b.val) : ℝ) : EReal) := by
  rw [rowOf_real x5 D h5 n hn, sum_eq_coe Finset.univ _ (fun d => V (512 * J + a.val) d * W (512 * n + b.val) d), ← EReal.coe_sub]
  intro d _
  rw [h2, tile_real x3 W h3 n hn, ← EReal.coe_mul]

include h0 h1 h2 h3 h4 h5 h6 in
theorem dsDiag_real (hJ : J < 8) (a b : Fin 512) :
    k1_pay12 (F := Ideal) (k1_pay2 x2) (k1_pay8 (tile x3 J)) (k1_pay9 x1 x6 (tile x0 J)) (rowOf x4 J) (rowOf x5 J) (ix2 a b)
      = (dsc Q K V W C L D (512 * J + b.val) (512 * J + a.val) : EReal) := by
  rw [dpay12, probDiag_real Q K C L J x0 x1 x4 x6 h0 h1 h4 h6 hJ, dp_real V W D J x2 x3 x5 h2 h3 h5 J hJ, ← EReal.coe_mul]
  rfl

include h0 h1 h2 h3 h4 h5 h6 in
theorem ds_real (n : ℕ) (hn : n < 8) (hJ : J < n) (a b : Fin 512) :
    k1_pay19 (F := Ideal) (k1_pay1 x1) (k1_pay2 x2) (k1_pay3 x6) (tile x0 n) (tile x3 n) (rowOf x4 n) (rowOf x5 n) (ix2 a b)
      = (dsc Q K V W C L D (512 * n + b.val) (512 * J + a.val) : EReal) := by
  rw [dpay19, prob_real Q K C L J x0 x1 x4 x6 h0 h1 h4 h6 n hn hJ, dp_real V W D J x2 x3 x5 h2 h3 h5 n hn, ← EReal.coe_mul]
  rfl

/-- Adding a tile's sum to the sum before it. -/
theorem add_tile (n : ℕ) (f : ℕ → ℝ) (acc : EReal) (g : Fin 512 → EReal) (ha : acc = ((∑ j ∈ Finset.range (512 * n), f j : ℝ) : EReal))
    (hg : ∀ b, g b = (f (512 * n + b.val) : EReal)) :
    acc + ∑ b, g b = ((∑ j ∈ Finset.range (512 * (n + 1)), f j : ℝ) : EReal) := by
  rw [ha, sum_eq_coe Finset.univ g _ fun b _ => hg b, ← EReal.coe_add, sum_tile]

include h0 h1 h2 h3 h4 h5 h6 in
/-- The loop's state: sums over the queries before tile `J + 1 + n`. -/
theorem dkvSt_real (n : ℕ) (hn : J + 1 + n ≤ 8) (a : Fin 512) :
    (∀ d, (dkvSt (F := Ideal) x0 x1 x2 x3 x4 x5 x6 J n).1 (ix2 a d)
        = ((∑ q ∈ Finset.range (512 * (J + 1 + n)), dsc Q K V W C L D q (512 * J + a.val) * (Q q d * 0.125) : ℝ) : EReal))
    ∧ (∀ d, (dkvSt (F := Ideal) x0 x1 x2 x3 x4 x5 x6 J n).2.1 (ix2 a d)
        = ((∑ q ∈ Finset.range (512 * (J + 1 + n)), prob Q K C L q (512 * J + a.val) * W q d : ℝ) : EReal))
    ∧ ∀ b : Fin 512, (dkvSt (F := Ideal) x0 x1 x2 x3 x4 x5 x6 J n).2.2 (ix2 a b)
        = ((∑ t ∈ Finset.range (J + 1 + n), dsc Q K V W C L D (512 * t + b.val) (512 * J + a.val) : ℝ) : EReal) := by
  induction n with
  | zero =>
    have hJ : J < 8 := by omega
    have z : Ideal.ofBits .f32 0x00000000#32 = ((0 : ℝ) : EReal) := Ideal.ofBits_zero_f32
    refine ⟨fun d => ?_, fun d => ?_, fun b => ?_⟩
    · refine (dpay13 _ _ _ _ _ _ _ a d).trans (add_tile J _ _ _ ?_ fun b => ?_)
      · rw [Finset.sum_eq_zero fun q hq => by rw [dsc_zero _ _ _ _ _ _ _ _ _ (by have := Finset.mem_range.1 hq; omega), zero_mul]]; exact z
      · rw [dsDiag_real Q K V W C L D J x0 x1 x2 x3 x4 x5 x6 h0 h1 h2 h3 h4 h5 h6 hJ, tile_real x0 Q h0 J hJ, ← EReal.coe_mul, ← EReal.coe_mul]
    · refine (dpay11 _ _ _ _ a d).trans (add_tile J _ _ _ ?_ fun b => ?_)
      · rw [Finset.sum_eq_zero fun q hq => by rw [prob_zero _ _ _ _ _ _ (by have := Finset.mem_range.1 hq; omega), zero_mul]]; exact z
      · rw [probDiag_real Q K C L J x0 x1 x4 x6 h0 h1 h4 h6 hJ, tile_real x3 W h3 J hJ, ← EReal.coe_mul]
    · refine (show (dkvSt (F := Ideal) x0 x1 x2 x3 x4 x5 x6 J 0).2.2 (ix2 a b) = Ideal.ofBits .f32 0x00000000#32
        + k1_pay12 (F := Ideal) (k1_pay2 x2) (k1_pay8 (tile x3 J)) (k1_pay9 x1 x6 (tile x0 J)) (rowOf x4 J) (rowOf x5 J) (ix2 a b) from rfl).trans ?_
      rw [dsDiag_real Q K V W C L D J x0 x1 x2 x3 x4 x5 x6 h0 h1 h2 h3 h4 h5 h6 hJ, z, ← EReal.coe_add, Nat.add_zero, Finset.sum_range_succ,
        Finset.sum_eq_zero fun t ht => dsc_zero _ _ _ _ _ _ _ _ _ (by have := Finset.mem_range.1 ht; have := b.isLt; omega)]
  | succ n ih =>
    obtain ⟨i1, i2, i3⟩ := ih (by omega)
    have hn8 : J + 1 + n < 8 := by omega
    have hJ : J < J + 1 + n := by omega
    refine ⟨fun d => ?_, fun d => ?_, fun b => ?_⟩
    · refine (dpay20 _ _ _ _ _ _ _ _ a d).trans (add_tile (J + 1 + n) _ _ _ (i1 d) fun b => ?_)
      rw [ds_real Q K V W C L D J x0 x1 x2 x3 x4 x5 x6 h0 h1 h2 h3 h4 h5 h6 _ hn8 hJ, tile_real x0 Q h0 _ hn8, ← EReal.coe_mul, ← EReal.coe_mul]
    · refine (dpay18 _ _ _ _ _ _ a d).trans (add_tile (J + 1 + n) _ _ _ (i2 d) fun b => ?_)
      rw [prob_real Q K C L J x0 x1 x4 x6 h0 h1 h4 h6 _ hn8 hJ, tile_real x3 W h3 _ hn8, ← EReal.coe_mul]
    · refine (show (dkvSt (F := Ideal) x0 x1 x2 x3 x4 x5 x6 J (n + 1)).2.2 (ix2 a b) = (dkvSt (F := Ideal) x0 x1 x2 x3 x4 x5 x6 J n).2.2 (ix2 a b)
        + k1_pay19 (F := Ideal) (k1_pay1 x1) (k1_pay2 x2) (k1_pay3 x6) (tile x0 (J + 1 + n)) (tile x3 (J + 1 + n)) (rowOf x4 (J + 1 + n)) (rowOf x5 (J + 1 + n)) (ix2 a b) from rfl).trans ?_
      rw [i3, ds_real Q K V W C L D J x0 x1 x2 x3 x4 x5 x6 h0 h1 h2 h3 h4 h5 h6 _ hn8 hJ, ← EReal.coe_add, ← Nat.add_assoc, Finset.sum_range_succ]

include h0 h1 h2 h3 h4 h5 h6 in
/-- The key gradient's block. -/
theorem dk_real (hJ : J < 8) (a : Fin 512) (d : Fin 128) :
    k1_pay30 (F := Ideal) (dkvSt x0 x1 x2 x3 x4 x5 x6 J (7 - J)).1 (ix2 a d)
      = ((∑ q ∈ Finset.range 4096, dsc Q K V W C L D q (512 * J + a.val) * (Q q d * 0.125) : ℝ) : EReal) := by
  have e : J + 1 + (7 - J) = 8 := by omega
  rw [dpay30, (dkvSt_real Q K V W C L D J x0 x1 x2 x3 x4 x5 x6 h0 h1 h2 h3 h4 h5 h6 (7 - J) (by omega) a).1 d, e]

include h0 h1 h2 h3 h4 h5 h6 in
/-- The value gradient's block. -/
theorem dv_real (hJ : J < 8) (a : Fin 512) (d : Fin 128) :
    (dkvSt (F := Ideal) x0 x1 x2 x3 x4 x5 x6 J (7 - J)).2.1 (ix2 a d)
      = ((∑ q ∈ Finset.range 4096, prob Q K C L q (512 * J + a.val) * W q d : ℝ) : EReal) := by
  have e : J + 1 + (7 - J) = 8 := by omega
  rw [(dkvSt_real Q K V W C L D J x0 x1 x2 x3 x4 x5 x6 h0 h1 h2 h3 h4 h5 h6 (7 - J) (by omega) a).2.1 d, e]

include h0 h1 h2 h3 h4 h5 h6 in
/-- The decay gradient's block. -/
theorem dc_real (hJ : J < 8) (a : Fin 512) :
    k1_pay29 (F := Ideal) (dkvSt x0 x1 x2 x3 x4 x5 x6 J (7 - J)).2.2 (ix3 0 a 0)
      = ((-∑ q ∈ Finset.range 4096, dsc Q K V W C L D q (512 * J + a.val) : ℝ) : EReal) := by
  have e : J + 1 + (7 - J) = 8 := by omega
  rw [dpay29, sum_eq_coe Finset.univ _ _ fun b _ => (dkvSt_real Q K V W C L D J x0 x1 x2 x3 x4 x5 x6 h0 h1 h2 h3 h4 h5 h6 (7 - J) (by omega) a).2.2 b, e,
    ← sum_tiles (fun q => dsc Q K V W C L D q (512 * J + a.val)) 8, zero_sub, ← EReal.coe_neg]

end

end Cert.KernelIdeal.Fox

end
-- ==== Proof.Arr1.lean ====
module

public import proofs.«01_k».proof.Proof.Arr0
public import proofs.«01_k».proof.Proof.DkvReal

@[expose] public section

set_option maxRecDepth 16384

noncomputable section

/-! The backward call's result arrays: the gradients of the keys, of the values and of the decay,
    entry by entry, from the entries of the arrays the call reads. -/

namespace Cert.KernelIdeal.Fox

open Idealize.ShloMosaic Idealize.ShloMosaic.ValueIdx Idealize.ShloMosaic.TcCoe Cert.KernelIdeal Cert.KernelIdeal.Gen
open Cert.KernelIdeal.Ops Cert.FoxMath
open Idealize.ShloMosaic.Pipeline (Dat)

/-- The grid point of head `h` and block `i`. -/
def pt1 (h : Fin 4) (i : Fin 8) : Fin cfg1.N := ⟨8 * h.val + i.val, by have := h.isLt; have := i.isLt; show _ < 32; omega⟩

theorem coords1 : ∀ (h : Fin 4) (i : Fin 8), ((grid1.coords (pt1 h i)) 1).val = i.val := by decide +kernel

theorem ix1_0 : ∀ (h : Fin 4) (i : Fin 8), win1_0.index (pt1 h i) 0 = 0 ∧ win1_0.index (pt1 h i) 1 = h.val := by decide +kernel
theorem ix1_1 : ∀ (h : Fin 4) (i : Fin 8), win1_1.index (pt1 h i) 0 = i.val ∧ win1_1.index (pt1 h i) 1 = 4 + h.val := by decide +kernel
theorem ix1_2 : ∀ (h : Fin 4) (i : Fin 8), win1_2.index (pt1 h i) 0 = i.val ∧ win1_2.index (pt1 h i) 1 = 8 + h.val := by decide +kernel
theorem ix1_3 : ∀ (h : Fin 4) (i : Fin 8), win1_3.index (pt1 h i) 0 = 0 ∧ win1_3.index (pt1 h i) 1 = h.val := by decide +kernel
theorem ix1_4 : ∀ (h : Fin 4) (i : Fin 8), win1_4.index (pt1 h i) 0 = h.val ∧ win1_4.index (pt1 h i) 1 = 0 ∧ win1_4.index (pt1 h i) 2 = 0 ∧ win1_4.index (pt1 h i) 3 = 0 := by decide +kernel
theorem ix1_5 : ∀ (h : Fin 4) (i : Fin 8), win1_5.index (pt1 h i) 0 = h.val ∧ win1_5.index (pt1 h i) 1 = 0 ∧ win1_5.index (pt1 h i) 2 = 0 ∧ win1_5.index (pt1 h i) 3 = 0 := by decide +kernel
theorem ix1_6 : ∀ (h : Fin 4) (i : Fin 8), win1_6.index (pt1 h i) 0 = h.val ∧ win1_6.index (pt1 h i) 1 = i.val ∧ win1_6.index (pt1 h i) 2 = 0 := by decide +kernel
theorem ix1_7 : ∀ (h : Fin 4) (i : Fin 8), win1_7.index (pt1 h i) 0 = i.val ∧ win1_7.index (pt1 h i) 1 = h.val := by decide +kernel
theorem ix1_8 : ∀ (h : Fin 4) (i : Fin 8), win1_8.index (pt1 h i) 0 = i.val ∧ win1_8.index (pt1 h i) 1 = h.val := by decide +kernel
theorem ix1_9 : ∀ (h : Fin 4) (i : Fin 8), win1_9.index (pt1 h i) 0 = h.val ∧ win1_9.index (pt1 h i) 1 = i.val ∧ win1_9.index (pt1 h i) 2 = 0 := by decide +kernel
theorem fl1_7 : ∀ t : Fin cfg1.N, (cfg1.win 7).flush t = true := by decide +kernel
theorem inj1_7 : ∀ t t' : Fin cfg1.N, win1_7.index t = win1_7.index t' → t = t' :=
  (by decide +kernel : ∀ t t' : Fin grid1.N, win1_7.index t = win1_7.index t' → t = t')
theorem dj1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (inj1_7 t t' h)
theorem fl1_8 : ∀ t : Fin cfg1.N, (cfg1.win 8).flush t = true := by decide +kernel
theorem inj1_8 : ∀ t t' : Fin cfg1.N, win1_8.index t = win1_8.index t' → t = t' :=
  (by decide +kernel : ∀ t t' : Fin grid1.N, win1_8.index t = win1_8.index t' → t = t')
theorem dj1_8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (inj1_8 t t' h)
theorem fl1_9 : ∀ t : Fin cfg1.N, (cfg1.win 9).flush t = true := by decide +kernel
theorem inj1_9 : ∀ t t' : Fin cfg1.N, win1_9.index t = win1_9.index t' → t = t' :=
  (by decide +kernel : ∀ t t' : Fin grid1.N, win1_9.index t = win1_9.index t' → t = t')
theorem dj1_9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne (inj1_9 t t' h)

section
variable {F : FTy → Type} [FloatOps F] (V : (c : Dev nD) → (b : Ref sig .tc) → Buf (Elt F) ((c : Thread nD τ).loc b)) (c : Dev nD)

/-- The output's cotangent, padded. -/
abbrev wAt : FVec F S4096x512 .f32 := V c main_v8
/-- The row logarithms. -/
abbrev lAt : FVec F S4x8x1x512 .f32 := V c main_v13_2
/-- The row sums of the output with its cotangent. -/
abbrev dAt : FVec F S4x8x1x512 .f32 := V c main_v18
/-- The decay's columns. -/
abbrev kAt : FVec F S4x4096x1 .f32 := V c main_v12

theorem iblk1_0_apply (h : Fin 4) (i : Fin 8) (a : Fin 4096) (d : Fin 128) (e : Fin 1536) (he : e.val = 128 * h.val + d.val) :
    (iblk1 V c 0 (pt1 h i) : FVec F S4096x128 .f32) (ix2 a d) = zAt V c (ix2 a e) := by
  unfold iblk1
  rw [View.read_apply]
  show V c main_v6 _ = V c main_v6 _
  congr 1
  funext x
  apply Fin.ext
  match x with
  | ⟨0, _⟩ => show win1_0.index (pt1 h i) 0 * 4096 + 1 * a.val = a.val; rw [(ix1_0 h i).1]; omega
  | ⟨1, _⟩ => show win1_0.index (pt1 h i) 1 * 128 + 1 * d.val = e.val; rw [(ix1_0 h i).2]; omega

theorem iblk1_1_apply (h : Fin 4) (i : Fin 8) (a : Fin 512) (d : Fin 128) (n : Fin 4096) (e : Fin 1536) (hn : n.val = 512 * i.val + a.val) (he : e.val = 512 + 128 * h.val + d.val) :
    (iblk1 V c 1 (pt1 h i) : FVec F S512x128 .f32) (ix2 a d) = zAt V c (ix2 n e) := by
  unfold iblk1
  rw [View.read_apply]
  show V c main_v6 _ = V c main_v6 _
  congr 1
  funext x
  apply Fin.ext
  match x with
  | ⟨0, _⟩ => show win1_1.index (pt1 h i) 0 * 512 + 1 * a.val = n.val; rw [(ix1_1 h i).1]; omega
  | ⟨1, _⟩ => show win1_1.index (pt1 h i) 1 * 128 + 1 * d.val = e.val; rw [(ix1_1 h i).2]; omega

theorem iblk1_2_apply (h : Fin 4) (i : Fin 8) (a : Fin 512) (d : Fin 128) (n : Fin 4096) (e : Fin 1536) (hn : n.val = 512 * i.val + a.val) (he : e.val = 1024 + 128 * h.val + d.val) :
    (iblk1 V c 2 (pt1 h i) : FVec F S512x128 .f32) (ix2 a d) = zAt V c (ix2 n e) := by
  unfold iblk1
  rw [View.read_apply]
  show V c main_v6 _ = V c main_v6 _
  congr 1
  funext x
  apply Fin.ext
  match x with
  | ⟨0, _⟩ => show win1_2.index (pt1 h i) 0 * 512 + 1 * a.val = n.val; rw [(ix1_2 h i).1]; omega
  | ⟨1, _⟩ => show win1_2.index (pt1 h i) 1 * 128 + 1 * d.val = e.val; rw [(ix1_2 h i).2]; omega

theorem iblk1_3_apply (h : Fin 4) (i : Fin 8) (a : Fin 4096) (d : Fin 128) (e : Fin 512) (he : e.val = 128 * h.val + d.val) :
    (iblk1 V c 3 (pt1 h i) : FVec F S4096x128 .f32) (ix2 a d) = wAt V c (ix2 a e) := by
  unfold iblk1
  rw [View.read_apply]
  show V c main_v8 _ = V c main_v8 _
  congr 1
  funext x
  apply Fin.ext
  match x with
  | ⟨0, _⟩ => show win1_3.index (pt1 h i) 0 * 4096 + 1 * a.val = a.val; rw [(ix1_3 h i).1]; omega
  | ⟨1, _⟩ => show win1_3.index (pt1 h i) 1 * 128 + 1 * d.val = e.val; rw [(ix1_3 h i).2]; omega

theorem iblk1_4_apply (h : Fin 4) (i : Fin 8) (j : Fin 8) (b : Fin 512)  :
    (iblk1 V c 4 (pt1 h i) : FVec F S1x8x1x512 .f32) (ix4 0 j 0 b) = lAt V c (ix4 h j 0 b) := by
  unfold iblk1
  rw [View.read_apply]
  show V c main_v13_2 _ = V c main_v13_2 _
  congr 1
  funext x
  apply Fin.ext
  match x with
  | ⟨0, _⟩ => show win1_4.index (pt1 h i) 0 * 1 + 1 * 0 = h.val; rw [(ix1_4 h i).1]; omega
  | ⟨1, _⟩ => show win1_4.index (pt1 h i) 1 * 8 + 1 * j.val = j.val; rw [(ix1_4 h i).2.1]; omega
  | ⟨2, _⟩ => show win1_4.index (pt1 h i) 2 * 1 + 1 * 0 = 0; rw [(ix1_4 h i).2.2.1]
  | ⟨3, _⟩ => show win1_4.index (pt1 h i) 3 * 512 + 1 * b.val = b.val; rw [(ix1_4 h i).2.2.2]; omega

theorem iblk1_5_apply (h : Fin 4) (i : Fin 8) (j : Fin 8) (b : Fin 512)  :
    (iblk1 V c 5 (pt1 h i) : FVec F S1x8x1x512 .f32) (ix4 0 j 0 b) = dAt V c (ix4 h j 0 b) := by
  unfold iblk1
  rw [View.read_apply]
  show V c main_v18 _ = V c main_v18 _
  congr 1
  funext x
  apply Fin.ext
  match x with
  | ⟨0, _⟩ => show win1_5.index (pt1 h i) 0 * 1 + 1 * 0 = h.val; rw [(ix1_5 h i).1]; omega
  | ⟨1, _⟩ => show win1_5.index (pt1 h i) 1 * 8 + 1 * j.val = j.val; rw [(ix1_5 h i).2.1]; omega
  | ⟨2, _⟩ => show win1_5.index (pt1 h i) 2 * 1 + 1 * 0 = 0; rw [(ix1_5 h i).2.2.1]
  | ⟨3, _⟩ => show win1_5.index (pt1 h i) 3 * 512 + 1 * b.val = b.val; rw [(ix1_5 h i).2.2.2]; omega

theorem iblk1_6_apply (h : Fin 4) (i : Fin 8) (a : Fin 512) (n : Fin 4096) (hn : n.val = 512 * i.val + a.val) :
    (iblk1 V c 6 (pt1 h i) : FVec F S1x512x1 .f32) (ix3 0 a 0) = kAt V c (ix3 h n 0) := by
  unfold iblk1
  rw [View.read_apply]
  show V c main_v12 _ = V c main_v12 _
  congr 1
  funext x
  apply Fin.ext
  match x with
  | ⟨0, _⟩ => show win1_6.index (pt1 h i) 0 * 1 + 1 * 0 = h.val; rw [(ix1_6 h i).1]; omega
  | ⟨1, _⟩ => show win1_6.index (pt1 h i) 1 * 512 + 1 * a.val = n.val; rw [(ix1_6 h i).2.1]; omega
  | ⟨2, _⟩ => show win1_6.index (pt1 h i) 2 * 1 + 1 * 0 = 0; rw [(ix1_6 h i).2.2]

theorem dk_apply (h : Fin 4) (i : Fin 8) (a : Fin 512) (d : Fin 128) (n : Fin 4096) (e : Fin 512) (hn : n.val = 512 * i.val + a.val)
    (he : e.val = 128 * h.val + d.val) :
    ((dat1 V c).arrAt 7 cfg1.N : FVec F S4096x512 .f32) (ix2 n e) = (outsAt1 V c (pt1 h i)).1 (ix2 a d) := by
  have hb := (dat1 V c).read_blk_arrAt_eq_flushed 7 dj1_7 cfg1.N (pt1 h i) (pt1 h i).isLt (fl1_7 _)
  have hb' := congrFun hb (ix2 a d : S512x128.Idx)
  rw [View.read_apply] at hb'
  refine Eq.trans ?_ (hb'.trans ?_)
  · show ((dat1 V c).arrAt 7 cfg1.N : FVec F S4096x512 .f32) _ = ((dat1 V c).arrAt 7 cfg1.N : FVec F S4096x512 .f32) _
    congr 1
    funext x
    apply Fin.ext
    match x with
    | ⟨0, _⟩ => show n.val = win1_7.index (pt1 h i) 0 * 512 + 1 * a.val; rw [(ix1_7 h i).1]; omega
    | ⟨1, _⟩ => show e.val = win1_7.index (pt1 h i) 1 * 128 + 1 * d.val; rw [(ix1_7 h i).2]; omega
  · show (cfg1.win 7).cut (grid1.coords (pt1 h i)) ((dat1 V c).after 7 (pt1 h i)) (ix2 a d : S512x128.Idx) = _
    rw [after1_7]; rfl

theorem dv_apply (h : Fin 4) (i : Fin 8) (a : Fin 512) (d : Fin 128) (n : Fin 4096) (e : Fin 512) (hn : n.val = 512 * i.val + a.val)
    (he : e.val = 128 * h.val + d.val) :
    ((dat1 V c).arrAt 8 cfg1.N : FVec F S4096x512 .f32) (ix2 n e) = (outsAt1 V c (pt1 h i)).2.1 (ix2 a d) := by
  have hb := (dat1 V c).read_blk_arrAt_eq_flushed 8 dj1_8 cfg1.N (pt1 h i) (pt1 h i).isLt (fl1_8 _)
  have hb' := congrFun hb (ix2 a d : S512x128.Idx)
  rw [View.read_apply] at hb'
  refine Eq.trans ?_ (hb'.trans ?_)
  · show ((dat1 V c).arrAt 8 cfg1.N : FVec F S4096x512 .f32) _ = ((dat1 V c).arrAt 8 cfg1.N : FVec F S4096x512 .f32) _
    congr 1
    funext x
    apply Fin.ext
    match x with
    | ⟨0, _⟩ => show n.val = win1_8.index (pt1 h i) 0 * 512 + 1 * a.val; rw [(ix1_8 h i).1]; omega
    | ⟨1, _⟩ => show e.val = win1_8.index (pt1 h i) 1 * 128 + 1 * d.val; rw [(ix1_8 h i).2]; omega
  · show (cfg1.win 8).cut (grid1.coords (pt1 h i)) ((dat1 V c).after 8 (pt1 h i)) (ix2 a d : S512x128.Idx) = _
    rw [after1_8]; rfl

theorem dc_apply (h : Fin 4) (i : Fin 8) (a : Fin 512) (n : Fin 4096) (hn : n.val = 512 * i.val + a.val) :
    ((dat1 V c).arrAt 9 cfg1.N : FVec F S4x4096x1 .f32) (ix3 h n 0) = (outsAt1 V c (pt1 h i)).2.2 (ix3 0 a 0) := by
  have hb := (dat1 V c).read_blk_arrAt_eq_flushed 9 dj1_9 cfg1.N (pt1 h i) (pt1 h i).isLt (fl1_9 _)
  have hb' := congrFun hb (ix3 0 a 0 : S1x512x1.Idx)
  rw [View.read_apply] at hb'
  refine Eq.trans ?_ (hb'.trans ?_)
  · show ((dat1 V c).arrAt 9 cfg1.N : FVec F S4x4096x1 .f32) _ = ((dat1 V c).arrAt 9 cfg1.N : FVec F S4x4096x1 .f32) _
    congr 1
    funext x
    apply Fin.ext
    match x with
    | ⟨0, _⟩ => show h.val = win1_9.index (pt1 h i) 0 * 1 + 1 * 0; rw [(ix1_9 h i).1]; omega
    | ⟨1, _⟩ => show n.val = win1_9.index (pt1 h i) 1 * 512 + 1 * a.val; rw [(ix1_9 h i).2.1]; omega
    | ⟨2, _⟩ => show 0 = win1_9.index (pt1 h i) 2 * 1 + 1 * 0; rw [(ix1_9 h i).2.2]
  · show (cfg1.win 9).cut (grid1.coords (pt1 h i)) ((dat1 V c).after 9 (pt1 h i)) (ix3 0 a 0 : S1x512x1.Idx) = _
    rw [after1_9]; rfl

end

section
variable (V : (c : Dev nD) → (b : Ref sig .tc) → Buf (Elt Ideal) ((c : Thread nD τ).loc b)) (c : Dev nD)
  (Q K W Y : Fin 4 → ℕ → Fin 128 → ℝ) (C L D : Fin 4 → ℕ → ℝ)
  (hq : ∀ (h : Fin 4) (n : Fin 4096) (d : Fin 128) (e : Fin 1536), e.val = 128 * h.val + d.val → zAt V c (ix2 n e) = (Q h n.val d : EReal))
  (hk : ∀ (h : Fin 4) (n : Fin 4096) (d : Fin 128) (e : Fin 1536), e.val = 512 + 128 * h.val + d.val → zAt V c (ix2 n e) = (K h n.val d : EReal))
  (hv : ∀ (h : Fin 4) (n : Fin 4096) (d : Fin 128) (e : Fin 1536), e.val = 1024 + 128 * h.val + d.val → zAt V c (ix2 n e) = (W h n.val d : EReal))
  (hy : ∀ (h : Fin 4) (n : Fin 4096) (d : Fin 128) (e : Fin 512), e.val = 128 * h.val + d.val → wAt V c (ix2 n e) = (Y h n.val d : EReal))
  (hl : ∀ (h : Fin 4) (j : Fin 8) (b : Fin 512), lAt V c (ix4 h j 0 b) = (L h (512 * j.val + b.val) : EReal))
  (hd : ∀ (h : Fin 4) (j : Fin 8) (b : Fin 512), dAt V c (ix4 h j 0 b) = (D h (512 * j.val + b.val) : EReal))
  (hc : ∀ (h : Fin 4) (n : Fin 4096), kAt V c (ix3 h n 0) = (C h n.val : EReal))
include hq hk hv hy hl hd hc

/-- The key gradient. -/
theorem dk_arr_real (h : Fin 4) (n : Fin 4096) (d : Fin 128) (e : Fin 512) (he : e.val = 128 * h.val + d.val) :
    ((dat1 V c).arrAt 7 cfg1.N : FVec Ideal S4096x512 .f32) (ix2 n e)
      = ((∑ q ∈ Finset.range 4096, dsc (Q h) (K h) (W h) (Y h) (C h) (L h) (D h) q n.val * (Q h q d * 0.125) : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [dk_apply V c h i a d n e hia he, hia]
  dsimp only [outsAt1]
  rw [out1_7_eq, coords1]
  exact dk_real (Q h) (K h) (W h) (Y h) (C h) (L h) (D h) i.val _ _ _ _ _ _ _
    (fun a d => iblk1_0_apply V c h i a d ⟨128 * h.val + d.val, by have := h.isLt; have := d.isLt; omega⟩ rfl |>.trans (hq h _ d _ rfl))
    (fun a d => iblk1_1_apply V c h i a d ⟨512 * i.val + a.val, by have := a.isLt; have := i.isLt; omega⟩ ⟨512 + 128 * h.val + d.val, by have := h.isLt; have := d.isLt; omega⟩ rfl rfl
      |>.trans (hk h _ d _ rfl))
    (fun a d => iblk1_2_apply V c h i a d ⟨512 * i.val + a.val, by have := a.isLt; have := i.isLt; omega⟩ ⟨1024 + 128 * h.val + d.val, by have := h.isLt; have := d.isLt; omega⟩ rfl rfl
      |>.trans (hv h _ d _ rfl))
    (fun a d => iblk1_3_apply V c h i a d ⟨128 * h.val + d.val, by have := h.isLt; have := d.isLt; omega⟩ rfl |>.trans (hy h _ d _ rfl))
    (fun j b => iblk1_4_apply V c h i j b |>.trans (hl h j b))
    (fun j b => iblk1_5_apply V c h i j b |>.trans (hd h j b))
    (fun a => iblk1_6_apply V c h i a ⟨512 * i.val + a.val, by have := a.isLt; have := i.isLt; omega⟩ rfl |>.trans (hc h _)) i.isLt a d

/-- The value gradient. -/
theorem dv_arr_real (h : Fin 4) (n : Fin 4096) (d : Fin 128) (e : Fin 512) (he : e.val = 128 * h.val + d.val) :
    ((dat1 V c).arrAt 8 cfg1.N : FVec Ideal S4096x512 .f32) (ix2 n e)
      = ((∑ q ∈ Finset.range 4096, prob (Q h) (K h) (C h) (L h) q n.val * Y h q d : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [dv_apply V c h i a d n e hia he, hia]
  dsimp only [outsAt1]
  rw [out1_8_eq, coords1]
  exact dv_real (Q h) (K h) (W h) (Y h) (C h) (L h) (D h) i.val _ _ _ _ _ _ _
    (fun a d => iblk1_0_apply V c h i a d ⟨128 * h.val + d.val, by have := h.isLt; have := d.isLt; omega⟩ rfl |>.trans (hq h _ d _ rfl))
    (fun a d => iblk1_1_apply V c h i a d ⟨512 * i.val + a.val, by have := a.isLt; have := i.isLt; omega⟩ ⟨512 + 128 * h.val + d.val, by have := h.isLt; have := d.isLt; omega⟩ rfl rfl
      |>.trans (hk h _ d _ rfl))
    (fun a d => iblk1_2_apply V c h i a d ⟨512 * i.val + a.val, by have := a.isLt; have := i.isLt; omega⟩ ⟨1024 + 128 * h.val + d.val, by have := h.isLt; have := d.isLt; omega⟩ rfl rfl
      |>.trans (hv h _ d _ rfl))
    (fun a d => iblk1_3_apply V c h i a d ⟨128 * h.val + d.val, by have := h.isLt; have := d.isLt; omega⟩ rfl |>.trans (hy h _ d _ rfl))
    (fun j b => iblk1_4_apply V c h i j b |>.trans (hl h j b))
    (fun j b => iblk1_5_apply V c h i j b |>.trans (hd h j b))
    (fun a => iblk1_6_apply V c h i a ⟨512 * i.val + a.val, by have := a.isLt; have := i.isLt; omega⟩ rfl |>.trans (hc h _)) i.isLt a d

/-- The decay gradient. -/
theorem dc_arr_real (h : Fin 4) (n : Fin 4096) :
    ((dat1 V c).arrAt 9 cfg1.N : FVec Ideal S4x4096x1 .f32) (ix3 h n 0)
      = ((-∑ q ∈ Finset.range 4096, dsc (Q h) (K h) (W h) (Y h) (C h) (L h) (D h) q n.val : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [dc_apply V c h i a n hia, hia]
  dsimp only [outsAt1]
  rw [out1_9_eq, coords1]
  exact dc_real (Q h) (K h) (W h) (Y h) (C h) (L h) (D h) i.val _ _ _ _ _ _ _
    (fun a d => iblk1_0_apply V c h i a d ⟨128 * h.val + d.val, by have := h.isLt; have := d.isLt; omega⟩ rfl |>.trans (hq h _ d _ rfl))
    (fun a d => iblk1_1_apply V c h i a d ⟨512 * i.val + a.val, by have := a.isLt; have := i.isLt; omega⟩ ⟨512 + 128 * h.val + d.val, by have := h.isLt; have := d.isLt; omega⟩ rfl rfl
      |>.trans (hk h _ d _ rfl))
    (fun a d => iblk1_2_apply V c h i a d ⟨512 * i.val + a.val, by have := a.isLt; have := i.isLt; omega⟩ ⟨1024 + 128 * h.val + d.val, by have := h.isLt; have := d.isLt; omega⟩ rfl rfl
      |>.trans (hv h _ d _ rfl))
    (fun a d => iblk1_3_apply V c h i a d ⟨128 * h.val + d.val, by have := h.isLt; have := d.isLt; omega⟩ rfl |>.trans (hy h _ d _ rfl))
    (fun j b => iblk1_4_apply V c h i j b |>.trans (hl h j b))
    (fun j b => iblk1_5_apply V c h i j b |>.trans (hd h j b))
    (fun a => iblk1_6_apply V c h i a ⟨512 * i.val + a.val, by have := a.isLt; have := i.isLt; omega⟩ rfl |>.trans (hc h _)) i.isLt a

end

end Cert.KernelIdeal.Fox

end
-- ==== Proof.HostRead.lean ====
module

public import proofs.«01_k».proof.Proof.Arr1
public import Idealize.ShloMosaic.Lib.KernelVsHost

@[expose] public section

set_option maxRecDepth 16384

noncomputable section

/-! What the host's operations hand the two calls, entry by entry. -/

namespace Cert.KernelIdeal.Fox

open Idealize.ShloMosaic Idealize.ShloMosaic.ValueIdx Idealize.ShloMosaic.TcCoe Cert.KernelIdeal Cert.KernelIdeal.Gen
open Cert.KernelIdeal.Ops Cert.FoxMath

section
variable {F : FTy → Type} [FloatOps F] (m : (ℓ : Loc nD τ sig) → Buf (Elt F) ℓ) (ρ : Dev nD → PrngReg) (c : Dev nD)

/-- An argument padded to 128 lanes per head. -/
abbrev padded (x : FVec F S4096x4x64 .f32) : FVec F S4096x4x128 .f32 :=
  pad S4096x4x128 ![0, 0, 0] ![0, 0, 64] ![0, 0, 0] x (sitofp .f32 (constantI S_ 32 0#32) : FVec F S_ .f32) pads_S4096x4x64_S4096x4x128_000_000_0640 h_S_
/-- ... with the heads side by side. -/
abbrev flat (x : FVec F S4096x4x64 .f32) : FVec F S4096x512 .f32 := shapeCast S4096x512 (padded x) shapeCasts_S4096x4x128_S4096x512

abbrev a0 : FVec F S4096x4x64 .f32 := m ((c : Thread nD τ).loc main_arg0)
abbrev a1 : FVec F S4096x4x64 .f32 := m ((c : Thread nD τ).loc main_arg1)
abbrev a2 : FVec F S4096x4x64 .f32 := m ((c : Thread nD τ).loc main_arg2)
abbrev a3 : FVec F S4096x4 .f32 := m ((c : Thread nD τ).loc main_arg3)
abbrev a4 : FVec F S4096x4x64 .f32 := m ((c : Thread nD τ).loc main_arg4)

section
variable (V : Valuation τ sig (Elt F))
theorem op1 : (StableHlo.after hostOps0_1 V main_v0 : FVec F S4096x4x128 .f32)
    = pad S4096x4x128 ![0, 0, 0] ![0, 0, 64] ![0, 0, 0] (V main_arg0 : FVec F S4096x4x64 .f32) (sitofp .f32 (V main_c : IVec S_ 32) : FVec F S_ .f32)
      pads_S4096x4x64_S4096x4x128_000_000_0640 h_S_ := rfl
theorem op3 : (StableHlo.after hostOps0_3 V main_v2 : FVec F S4096x4x128 .f32)
    = pad S4096x4x128 ![0, 0, 0] ![0, 0, 64] ![0, 0, 0] (V main_arg1 : FVec F S4096x4x64 .f32) (sitofp .f32 (V main_c_0 : IVec S_ 32) : FVec F S_ .f32)
      pads_S4096x4x64_S4096x4x128_000_000_0640 h_S_ := rfl
theorem op5 : (StableHlo.after hostOps0_5 V main_v4 : FVec F S4096x4x128 .f32)
    = pad S4096x4x128 ![0, 0, 0] ![0, 0, 64] ![0, 0, 0] (V main_arg2 : FVec F S4096x4x64 .f32) (sitofp .f32 (V main_c_1 : IVec S_ 32) : FVec F S_ .f32)
      pads_S4096x4x64_S4096x4x128_000_000_0640 h_S_ := rfl
theorem op7 : (StableHlo.after hostOps0_7 V main_v7 : FVec F S4096x4x128 .f32)
    = pad S4096x4x128 ![0, 0, 0] ![0, 0, 64] ![0, 0, 0] (V main_arg4 : FVec F S4096x4x64 .f32) (sitofp .f32 (V main_c_2 : IVec S_ 32) : FVec F S_ .f32)
      pads_S4096x4x64_S4096x4x128_000_000_0640 h_S_ := rfl
theorem op2 : (StableHlo.after hostOps0_2 V main_v1 : FVec F S4096x512 .f32) = shapeCast S4096x512 (V main_v0 : FVec F S4096x4x128 .f32) shapeCasts_S4096x4x128_S4096x512 := rfl
theorem op4 : (StableHlo.after hostOps0_4 V main_v3 : FVec F S4096x512 .f32) = shapeCast S4096x512 (V main_v2 : FVec F S4096x4x128 .f32) shapeCasts_S4096x4x128_S4096x512 := rfl
theorem op6 : (StableHlo.after hostOps0_6 V main_v6 : FVec F S4096x1536 .f32)
    = concatenate S4096x1536 1 [⟨S4096x512, (V main_v1 : FVec F S4096x512 .f32)⟩, ⟨S4096x512, (V main_v3 : FVec F S4096x512 .f32)⟩,
        ⟨S4096x512, shapeCast S4096x512 (V main_v4 : FVec F S4096x4x128 .f32) shapeCasts_S4096x4x128_S4096x512⟩]
        concatenates_S4096x512_S4096x512_S4096x512_S4096x1536_d1 := rfl
theorem op8 : (StableHlo.after hostOps0_8 V main_v8 : FVec F S4096x512 .f32) = shapeCast S4096x512 (V main_v7 : FVec F S4096x4x128 .f32) shapeCasts_S4096x4x128_S4096x512 := rfl
theorem op8_10 : (StableHlo.after hostOps0_8 V main_v10 : FVec F S4x8x1x512 .f32)
    = shapeCast S4x8x1x512 (transpose S4x4096 [1, 0] (V main_arg3 : FVec F S4096x4 .f32) transposes_S4096x4_S4x4096_1_0) shapeCasts_S4x4096_S4x8x1x512 := rfl
theorem op8_12 : (StableHlo.after hostOps0_8 V main_v12 : FVec F S4x4096x1 .f32)
    = shapeCast S4x4096x1 (transpose S4x4096 [1, 0] (V main_arg3 : FVec F S4096x4 .f32) transposes_S4096x4_S4x4096_1_0) shapeCasts_S4x4096_S4x4096x1 := rfl
theorem op9 : (StableHlo.after hostOps1 V main_v18 : FVec F S4x8x1x512 .f32)
    = shapeCast S4x8x1x512 (transpose S4x4096 [1, 0] (Host.reduceAdd (shapeCast S4096x4x128 (mulf (V main_v8 : FVec F S4096x512 .f32) (V main_v13_0 : FVec F S4096x512 .f32)) shapeCasts_S4096x512_S4096x4x128)
        (constant S_ .f32 0x00000000#32 : FVec F S_ .f32) reducesTo_S4096x4x128_S4096x4_d2 h_S_) transposes_S4096x4_S4x4096_1_0) shapeCasts_S4x4096_S4x8x1x512 := rfl
end

end

end Cert.KernelIdeal.Fox

end
-- ==== Proof.HostReal.lean ====
module

public import proofs.«01_k».proof.Proof.HostRead
public import Idealize.ShloMosaic.Lib.IdealHost

@[expose] public section

set_option maxRecDepth 16384

noncomputable section

/-! The two calls over real arguments: what each result array holds, entry by entry. -/

namespace Cert.KernelIdeal.Fox

open Idealize.ShloMosaic Idealize.ShloMosaic.ValueIdx Idealize.ShloMosaic.TcCoe Cert.KernelIdeal Cert.KernelIdeal.Gen
open Cert.KernelIdeal.Ops Cert.FoxMath

/-- A head's rows with 64 zero lanes after them. -/
def ext (q : Fin 4 → ℕ → Fin 64 → ℝ) (h : Fin 4) (n : ℕ) (d : Fin 128) : ℝ := if hd : d.val < 64 then q h n ⟨d.val, hd⟩ else 0

theorem padded_real (x : FVec Ideal S4096x4x64 .f32) (q : Fin 4 → ℕ → Fin 64 → ℝ)
    (hx : ∀ (n : Fin 4096) (h : Fin 4) (d : Fin 64), x (ix3 n h d) = (q h n.val d : EReal)) (n : Fin 4096) (h : Fin 4) (d : Fin 128) :
    padded x (ix3 n h d) = (ext q h n.val d : EReal) := by
  unfold padded ext
  by_cases hd : d.val < 64
  · rw [dif_pos hd]
    refine (pad_apply_of_inside _ _ _ x _ _ _ _ (ix3 n h ⟨d.val, hd⟩) fun a => ?_).trans (hx n h _)
    match a with
    | ⟨0, _⟩ => show n.val = 0 + n.val * (0 + 1); omega
    | ⟨1, _⟩ => show h.val = 0 + h.val * (0 + 1); omega
    | ⟨2, _⟩ => show d.val = 0 + d.val * (0 + 1); omega
  · rw [dif_neg hd]
    refine (pad_apply_of_not_inside _ _ _ x _ _ _ _ (2 : Fin 3) ?_).trans ?_
    · rintro ⟨-, -, h3⟩
      refine hd ?_
      have : (d.val - 0) / (0 + 1) < 64 := h3
      omega
    · show (((0#32 : BitVec 32).toInt : ℝ) : EReal) = _
      simp

theorem flat_real (x : FVec Ideal S4096x4x64 .f32) (q : Fin 4 → ℕ → Fin 64 → ℝ)
    (hx : ∀ (n : Fin 4096) (h : Fin 4) (d : Fin 64), x (ix3 n h d) = (q h n.val d : EReal)) (n : Fin 4096) (h : Fin 4) (d : Fin 128) (e : Fin 512)
    (he : e.val = 128 * h.val + d.val) : flat x (ix2 n e) = (ext q h n.val d : EReal) := by
  refine (shapeCast_apply _ _ (ix2 n e) (ix3 n h d) ?_).trans (padded_real x q hx n h d)
  rw [Shape.rowMajor_val_two, Shape.rowMajor_val_three]
  show (n.val * 4 + h.val) * 128 + d.val = n.val * 512 + e.val
  omega

theorem trans_real (x : FVec Ideal S4096x4 .f32) (C : Fin 4 → ℕ → ℝ) (hx : ∀ (n : Fin 4096) (h : Fin 4), x (ix2 n h) = (C h n.val : EReal))
    (h : Fin 4) (n : Fin 4096) : transpose S4x4096 [1, 0] x transposes_S4096x4_S4x4096_1_0 (ix2 h n) = (C h n.val : EReal) :=
  (transpose_ix2_apply ..).trans (hx n h)

theorem rows_real (x : FVec Ideal S4x4096 .f32) (C : Fin 4 → ℕ → ℝ) (hx : ∀ (h : Fin 4) (n : Fin 4096), x (ix2 h n) = (C h n.val : EReal))
    (h : Fin 4) (j : Fin 8) (b : Fin 512) : shapeCast S4x8x1x512 x shapeCasts_S4x4096_S4x8x1x512 (ix4 h j 0 b) = (C h (512 * j.val + b.val) : EReal) := by
  refine (shapeCast_apply _ _ (ix4 h j 0 b) (ix2 h ⟨512 * j.val + b.val, by have := j.isLt; have := b.isLt; omega⟩) ?_).trans (hx h _)
  rw [Shape.rowMajor_val_two, Shape.rowMajor_val_four]
  show h.val * 4096 + (512 * j.val + b.val) = ((h.val * 8 + j.val) * 1 + 0) * 512 + b.val
  omega

theorem col_real (x : FVec Ideal S4x4096 .f32) (C : Fin 4 → ℕ → ℝ) (hx : ∀ (h : Fin 4) (n : Fin 4096), x (ix2 h n) = (C h n.val : EReal))
    (h : Fin 4) (n : Fin 4096) : shapeCast S4x4096x1 x shapeCasts_S4x4096_S4x4096x1 (ix3 h n 0) = (C h n.val : EReal) := by
  refine (shapeCast_apply _ _ (ix3 h n 0) (ix2 h n) ?_).trans (hx h _)
  rw [Shape.rowMajor_val_two, Shape.rowMajor_val_three]
  show h.val * 4096 + n.val = (h.val * 4096 + n.val) * 1 + 0
  omega

/-- Three arrays side by side. -/
theorem concat_real (x y z : FVec Ideal S4096x512 .f32) (n : Fin 4096) (e : Fin 512) (e' : Fin 1536) :
    (e'.val = e.val → concatenate S4096x1536 1 [⟨S4096x512, x⟩, ⟨S4096x512, y⟩, ⟨S4096x512, z⟩] concatenates_S4096x512_S4096x512_S4096x512_S4096x1536_d1 (ix2 n e') = x (ix2 n e))
    ∧ (e'.val = 512 + e.val → concatenate S4096x1536 1 [⟨S4096x512, x⟩, ⟨S4096x512, y⟩, ⟨S4096x512, z⟩] concatenates_S4096x512_S4096x512_S4096x512_S4096x1536_d1 (ix2 n e') = y (ix2 n e))
    ∧ (e'.val = 1024 + e.val → concatenate S4096x1536 1 [⟨S4096x512, x⟩, ⟨S4096x512, y⟩, ⟨S4096x512, z⟩] concatenates_S4096x512_S4096x512_S4096x512_S4096x1536_d1 (ix2 n e') = z (ix2 n e)) := by
  have off : ∀ b : Fin S4096x512.rank, b.cast (rfl : S4096x512.rank = S4096x1536.rank) ≠ (1 : Fin 2) →
      ((ix2 n e : S4096x512.Idx) b).val = ((ix2 n e' : S4096x1536.Idx) (b.cast rfl)).val := fun b hb =>
    match b, hb with
    | ⟨0, _⟩, _ => rfl
    | ⟨1, _⟩, hb => absurd rfl hb
  refine ⟨fun h => ?_, fun h => ?_, fun h => ?_⟩
  · exact concatenate_apply_piece (t := S4096x1536) 1 _ _ (ix2 n e') 0 (by show 0 < 3; decide) S4096x512 x rfl rfl 0 rfl (ix2 n e) off (by show 0 + e.val = e'.val; omega)
  · exact concatenate_apply_piece (t := S4096x1536) 1 _ _ (ix2 n e') 1 (by show 1 < 3; decide) S4096x512 y rfl rfl 512 rfl (ix2 n e) off (by show 512 + e.val = e'.val; omega)
  · exact concatenate_apply_piece (t := S4096x1536) 1 _ _ (ix2 n e') 2 (by show 2 < 3; decide) S4096x512 z rfl rfl 1024 rfl (ix2 n e) off (by show 1024 + e.val = e'.val; omega)

/-- The sums along the lanes of the product of two arrays, head by head. -/
theorem rowsum_real (x y : FVec Ideal S4096x512 .f32) (X Y : Fin 4 → ℕ → Fin 128 → ℝ)
    (hx : ∀ (h : Fin 4) (n : Fin 4096) (d : Fin 128) (e : Fin 512), e.val = 128 * h.val + d.val → x (ix2 n e) = (X h n.val d : EReal))
    (hy : ∀ (h : Fin 4) (n : Fin 4096) (d : Fin 128) (e : Fin 512), e.val = 128 * h.val + d.val → y (ix2 n e) = (Y h n.val d : EReal))
    (n : Fin 4096) (h : Fin 4) :
    Host.reduceAdd (shapeCast S4096x4x128 (mulf x y) shapeCasts_S4096x512_S4096x4x128) (constant S_ .f32 0x00000000#32 : FVec Ideal S_ .f32)
      reducesTo_S4096x4x128_S4096x4_d2 h_S_ (ix2 n h) = ((∑ d : Fin 128, X h n.val d * Y h n.val d : ℝ) : EReal) := by
  simp only [Host.reduceAdd, Ideal.hostReduceAdd_def]
  rw [Ideal.hostReduceAdd_single reducesTo_S4096x4x128_S4096x4_d2 (by decide)]
  rw [show (constant S_ .f32 0x00000000#32 : FVec Ideal S_ .f32) (Shape.Idx.first h_S_) = 0 from Ideal.ofBits_zero_f32, zero_add]
  refine sum_eq_coe Finset.univ _ _ fun d _ => ?_
  have hd : d.val < 128 := d.isLt
  refine (shapeCast_apply _ _ _ (ix2 n ⟨128 * h.val + d.val, by have := h.isLt; omega⟩) ?_).trans ?_
  · rw [Shape.rowMajor_val_two, Shape.rowMajor_val_three]
    show n.val * 512 + (128 * h.val + d.val) = (n.val * 4 + h.val) * 128 + d.val
    omega
  · rw [mulf_apply, hx h n d _ rfl, hy h n d _ rfl, ← EReal.coe_mul]

end Cert.KernelIdeal.Fox

end
-- ==== Proof.Run.lean ====
module

public import proofs.«01_k».proof.Proof.Gen.KernelIdeal.Frame

@[expose] public section

noncomputable section

/-! The run with its results named: what the last boundary's contents hold. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- The run: the four results hold the last boundary's contents and the arguments are unchanged. -/
theorem run : θ_run defs (onTc (τ := τ) (main (F := F))) ⟨m, fun _ => 0, ρ⟩ (fun r => ∀ c : Dev nD,
      (r.2.mem ((c.tc : Thread nD τ).loc main_v13_0) = W12 m ρ c main_v13_0
      ∧ r.2.mem ((c.tc : Thread nD τ).loc main_v19_0) = W12 m ρ c main_v19_0
      ∧ r.2.mem ((c.tc : Thread nD τ).loc main_v19_1) = W12 m ρ c main_v19_1
      ∧ r.2.mem ((c.tc : Thread nD τ).loc main_v19_2) = W12 m ρ c main_v19_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨⟨h c _ (mem_uc main_v13_0 (by decide)), h c _ (mem_uc main_v19_0 (by decide)), h c _ (mem_uc main_v19_1 (by decide)),
        h c _ (mem_uc main_v19_2 (by decide))⟩,
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

end Cert.KernelIdeal.Gen

end
-- ==== Proof.KerVal.lean ====
module

public import proofs.«01_k».proof.Proof.HostReal
public import proofs.«01_k».proof.Proof.Run

@[expose] public section

set_option maxRecDepth 16384

noncomputable section

/-! The kernel's four results over real arguments, entry by entry. -/

namespace Cert.KernelIdeal.Fox

open Idealize.ShloMosaic Idealize.ShloMosaic.ValueIdx Idealize.ShloMosaic.TcCoe Cert.KernelIdeal Cert.KernelIdeal.Gen
open Cert.KernelIdeal.Ops Cert.FoxMath

section
variable {F : FTy → Type} [FloatOps F] (m : (ℓ : Loc nD τ sig) → Buf (Elt F) ℓ) (ρ : Dev nD → PrngReg) (c : Dev nD)

theorem arg_at0 : (W0 m ρ c main_arg0 : FVec F S4096x4x64 .f32) = a0 m c := rfl

theorem W2_v0 : (W2 m ρ c main_v0 : FVec F S4096x4x128 .f32) = padded (a0 m c) := by
  refine (op1 (W1 m ρ c)).trans ?_
  rw [W1_args m ρ c main_arg0 (by decide)]; rfl
theorem W4_v2 : (W4 m ρ c main_v2 : FVec F S4096x4x128 .f32) = padded (a1 m c) := by
  refine (op3 (W3 m ρ c)).trans ?_
  rw [W3_args m ρ c main_arg1 (by decide)]; rfl
theorem W6_v4 : (W6 m ρ c main_v4 : FVec F S4096x4x128 .f32) = padded (a2 m c) := by
  refine (op5 (W5 m ρ c)).trans ?_
  rw [W5_args m ρ c main_arg2 (by decide)]; rfl
theorem W8_v7 : (W8 m ρ c main_v7 : FVec F S4096x4x128 .f32) = padded (a4 m c) := by
  refine (op7 (W7 m ρ c)).trans ?_
  rw [W7_args m ρ c main_arg4 (by decide)]; rfl

theorem W6_v1 : (W6 m ρ c main_v1 : FVec F S4096x512 .f32) = flat (a0 m c) := by
  rw [W6_of m ρ c main_v1 (by decide), W5_of m ρ c main_v1 (by decide), W4_of m ρ c main_v1 (by decide)]
  exact (op2 (W2 m ρ c)).trans (by rw [W2_v0])
theorem W6_v3 : (W6 m ρ c main_v3 : FVec F S4096x512 .f32) = flat (a1 m c) := by
  rw [W6_of m ρ c main_v3 (by decide)]
  exact (op4 (W4 m ρ c)).trans (by rw [W4_v2])

theorem W9_v6 : (W9 m ρ c main_v6 : FVec F S4096x1536 .f32)
    = concatenate S4096x1536 1 [⟨S4096x512, flat (a0 m c)⟩, ⟨S4096x512, flat (a1 m c)⟩, ⟨S4096x512, flat (a2 m c)⟩]
        concatenates_S4096x512_S4096x512_S4096x512_S4096x1536_d1 := by
  rw [W9_of m ρ c main_v6 (by decide), W8_of m ρ c main_v6 (by decide)]
  exact (op6 (W6 m ρ c)).trans (by rw [W6_v1, W6_v3, W6_v4])

theorem W9_v8 : (W9 m ρ c main_v8 : FVec F S4096x512 .f32) = flat (a4 m c) :=
  (op8 (W8 m ρ c)).trans (by rw [W8_v7])
theorem W9_v10 : (W9 m ρ c main_v10 : FVec F S4x8x1x512 .f32)
    = shapeCast S4x8x1x512 (transpose S4x4096 [1, 0] (a3 m c) transposes_S4096x4_S4x4096_1_0) shapeCasts_S4x4096_S4x8x1x512 :=
  (op8_10 (W8 m ρ c)).trans (by rw [W8_args m ρ c main_arg3 (by decide)])
theorem W9_v12 : (W9 m ρ c main_v12 : FVec F S4x4096x1 .f32)
    = shapeCast S4x4096x1 (transpose S4x4096 [1, 0] (a3 m c) transposes_S4096x4_S4x4096_1_0) shapeCasts_S4x4096_S4x4096x1 :=
  (op8_12 (W8 m ρ c)).trans (by rw [W8_args m ρ c main_arg3 (by decide)])

theorem W11_v6 : W11 m ρ c main_v6 = W9 m ρ c main_v6 := by
  rw [W11_of m ρ c main_v6 (by decide), W10_of m ρ c main_v6 (by decide +kernel)]
theorem W10_v8 : W10 m ρ c main_v8 = W9 m ρ c main_v8 := W10_of m ρ c main_v8 (by decide +kernel)
theorem W11_v8 : W11 m ρ c main_v8 = W9 m ρ c main_v8 := by
  rw [W11_of m ρ c main_v8 (by decide), W10_v8]
theorem W11_v12 : W11 m ρ c main_v12 = W9 m ρ c main_v12 := by
  rw [W11_of m ρ c main_v12 (by decide), W10_of m ρ c main_v12 (by decide +kernel)]
theorem W10_v13_0 : W10 m ρ c main_v13_0 = (dat0 (V9 m ρ) c).arrAt 4 cfg0.N := W10_arr m ρ c 4
theorem W11_v13_2 : W11 m ρ c main_v13_2 = (dat0 (V9 m ρ) c).arrAt 6 cfg0.N := by
  rw [W11_of m ρ c main_v13_2 (by decide)]; exact W10_arr m ρ c 6
theorem W12_v13_0 : W12 m ρ c main_v13_0 = (dat0 (V9 m ρ) c).arrAt 4 cfg0.N := by
  rw [W12_of m ρ c main_v13_0 (by decide +kernel), W11_of m ρ c main_v13_0 (by decide)]; exact W10_arr m ρ c 4
theorem W12_v19_0 : W12 m ρ c main_v19_0 = (dat1 (V11 m ρ) c).arrAt 7 cfg1.N := W12_arr m ρ c 7
theorem W12_v19_1 : W12 m ρ c main_v19_1 = (dat1 (V11 m ρ) c).arrAt 8 cfg1.N := W12_arr m ρ c 8
theorem W12_v19_2 : W12 m ρ c main_v19_2 = (dat1 (V11 m ρ) c).arrAt 9 cfg1.N := W12_arr m ρ c 9

end

section
variable (m : (ℓ : Loc nD τ sig) → Buf (Elt Ideal) ℓ) (ρ : Dev nD → PrngReg) (c : Dev nD)
  (q k v w : Fin 4 → ℕ → Fin 64 → ℝ) (C : Fin 4 → ℕ → ℝ)
  (hq : ∀ (n : Fin 4096) (h : Fin 4) (d : Fin 64), a0 m c (ix3 n h d) = (q h n.val d : EReal))
  (hk : ∀ (n : Fin 4096) (h : Fin 4) (d : Fin 64), a1 m c (ix3 n h d) = (k h n.val d : EReal))
  (hv : ∀ (n : Fin 4096) (h : Fin 4) (d : Fin 64), a2 m c (ix3 n h d) = (v h n.val d : EReal))
  (hc : ∀ (n : Fin 4096) (h : Fin 4), a3 m c (ix2 n h) = (C h n.val : EReal))
  (hw : ∀ (n : Fin 4096) (h : Fin 4) (d : Fin 64), a4 m c (ix3 n h d) = (w h n.val d : EReal))

include hq hk hv in
theorem z_real (h : Fin 4) (n : Fin 4096) (d : Fin 128) (e : Fin 1536) :
    (e.val = 128 * h.val + d.val → (W9 m ρ c main_v6 : FVec Ideal S4096x1536 .f32) (ix2 n e) = (ext q h n.val d : EReal))
    ∧ (e.val = 512 + 128 * h.val + d.val → (W9 m ρ c main_v6 : FVec Ideal S4096x1536 .f32) (ix2 n e) = (ext k h n.val d : EReal))
    ∧ (e.val = 1024 + 128 * h.val + d.val → (W9 m ρ c main_v6 : FVec Ideal S4096x1536 .f32) (ix2 n e) = (ext v h n.val d : EReal)) := by
  rw [W9_v6]
  have hl : 128 * h.val + d.val < 512 := by have := h.isLt; have := d.isLt; omega
  obtain ⟨c1, c2, c3⟩ := concat_real (flat (a0 m c)) (flat (a1 m c)) (flat (a2 m c)) n ⟨128 * h.val + d.val, hl⟩ e
  refine ⟨fun he => (c1 he).trans (flat_real _ q hq n h d _ rfl), fun he => (c2 (by rw [he]; show _ = 512 + (128 * h.val + d.val); omega)).trans (flat_real _ k hk n h d _ rfl),
    fun he => (c3 (by rw [he]; show _ = 1024 + (128 * h.val + d.val); omega)).trans (flat_real _ v hv n h d _ rfl)⟩

/-- The attention's output for head `h`, query `n`, lane `d`. -/
def outR (h : Fin 4) (n : ℕ) (d : Fin 128) : ℝ :=
  (∑ j ∈ Finset.range 4096, weight (ext q h) (ext k h) (C h) n j * ext v h j d) / total (ext q h) (ext k h) (C h) n
/-- The row's logarithm. -/
def lseR (h : Fin 4) (n : ℕ) : ℝ := Real.log (total (ext q h) (ext k h) (C h) n)
/-- The row's sum of the output with its cotangent. -/
def delR (h : Fin 4) (n : ℕ) : ℝ := ∑ d : Fin 128, ext w h n d * outR q k v C h n d
/-- A score's gradient. -/
def dsR (h : Fin 4) (n j : ℕ) : ℝ := dsc (ext q h) (ext k h) (ext v h) (ext w h) (C h) (lseR q k C h) (delR q k v w C h) n j

include hq hk hv hc in
theorem o_arr (h : Fin 4) (n : Fin 4096) (d : Fin 128) (e : Fin 512) (he : e.val = 128 * h.val + d.val) :
    ((dat0 (V9 m ρ) c).arrAt 4 cfg0.N : FVec Ideal S4096x512 .f32) (ix2 n e) = (outR q k v C h n.val d : EReal) :=
  o_real (V9 m ρ) c (ext q) (ext k) (ext v) C (fun h n d e => (z_real m ρ c q k v hq hk hv h n d e).1) (fun h n d e => (z_real m ρ c q k v hq hk hv h n d e).2.1)
    (fun h n d e => (z_real m ρ c q k v hq hk hv h n d e).2.2)
    (fun h j b => (congrFun (W9_v10 m ρ c) _).trans (rows_real _ C (trans_real _ C hc) h j b)) h n d e he

include hq hk hv hc in
theorem lse_arr (h : Fin 4) (i : Fin 8) (a : Fin 512) :
    ((dat0 (V9 m ρ) c).arrAt 6 cfg0.N : FVec Ideal S4x8x1x512 .f32) (ix4 h i 0 a) = (lseR q k C h (512 * i.val + a.val) : EReal) :=
  lse_real (V9 m ρ) c (ext q) (ext k) (ext v) C (fun h n d e => (z_real m ρ c q k v hq hk hv h n d e).1) (fun h n d e => (z_real m ρ c q k v hq hk hv h n d e).2.1)
    (fun h n d e => (z_real m ρ c q k v hq hk hv h n d e).2.2)
    (fun h j b => (congrFun (W9_v10 m ρ c) _).trans (rows_real _ C (trans_real _ C hc) h j b)) h i a

include hq hk hv hc hw in
theorem del_arr (h : Fin 4) (j : Fin 8) (b : Fin 512) :
    (W11 m ρ c main_v18 : FVec Ideal S4x8x1x512 .f32) (ix4 h j 0 b) = (delR q k v w C h (512 * j.val + b.val) : EReal) := by
  refine (congrFun (op9 (W10 m ρ c)) _).trans (rows_real _ (delR q k v w C) (fun h n => (transpose_ix2_apply ..).trans ?_) h j b)
  refine rowsum_real _ _ (ext w) (outR q k v C) (fun h n d e he => ?_) (fun h n d e he => ?_) n h
  · rw [W10_v8, W9_v8]; exact flat_real _ w hw n h d e he
  · rw [W10_v13_0]; exact o_arr m ρ c q k v C hq hk hv hc h n d e he

include hq hk hv hc in
/-- The first result: the attention's output. -/
theorem res_o (h : Fin 4) (n : Fin 4096) (d : Fin 128) (e : Fin 512) (he : e.val = 128 * h.val + d.val) :
    (W12 m ρ c main_v13_0 : FVec Ideal S4096x512 .f32) (ix2 n e) = (outR q k v C h n.val d : EReal) := by
  rw [W12_v13_0]; exact o_arr m ρ c q k v C hq hk hv hc h n d e he

include hq hk hv hc hw in
/-- The second result: the keys' gradient. -/
theorem res_dk (h : Fin 4) (n : Fin 4096) (d : Fin 128) (e : Fin 512) (he : e.val = 128 * h.val + d.val) :
    (W12 m ρ c main_v19_0 : FVec Ideal S4096x512 .f32) (ix2 n e)
      = ((∑ i ∈ Finset.range 4096, dsR q k v w C h i n.val * (ext q h i d * 0.125) : ℝ) : EReal) := by
  rw [W12_v19_0]
  exact dk_arr_real (V11 m ρ) c (ext q) (ext k) (ext v) (ext w) C (lseR q k C) (delR q k v w C)
    (fun h n d e he => (congrFun (W11_v6 m ρ c) _).trans ((z_real m ρ c q k v hq hk hv h n d e).1 he)) (fun h n d e he => (congrFun (W11_v6 m ρ c) _).trans ((z_real m ρ c q k v hq hk hv h n d e).2.1 he))
    (fun h n d e he => (congrFun (W11_v6 m ρ c) _).trans ((z_real m ρ c q k v hq hk hv h n d e).2.2 he))
    (fun h n d e he => (congrFun ((W11_v8 m ρ c).trans (W9_v8 m ρ c)) _).trans (flat_real _ w hw n h d e he))
    (fun h j b => (congrFun (W11_v13_2 m ρ c) _).trans (lse_arr m ρ c q k v C hq hk hv hc h j b))
    (fun h j b => del_arr m ρ c q k v w C hq hk hv hc hw h j b)
    (fun h n => (congrFun ((W11_v12 m ρ c).trans (W9_v12 m ρ c)) _).trans (col_real _ C (trans_real _ C hc) h n)) h n d e he

include hq hk hv hc hw in
/-- The third result: the values' gradient. -/
theorem res_dv (h : Fin 4) (n : Fin 4096) (d : Fin 128) (e : Fin 512) (he : e.val = 128 * h.val + d.val) :
    (W12 m ρ c main_v19_1 : FVec Ideal S4096x512 .f32) (ix2 n e)
      = ((∑ i ∈ Finset.range 4096, prob (ext q h) (ext k h) (C h) (lseR q k C h) i n.val * ext w h i d : ℝ) : EReal) := by
  rw [W12_v19_1]
  exact dv_arr_real (V11 m ρ) c (ext q) (ext k) (ext v) (ext w) C (lseR q k C) (delR q k v w C)
    (fun h n d e he => (congrFun (W11_v6 m ρ c) _).trans ((z_real m ρ c q k v hq hk hv h n d e).1 he)) (fun h n d e he => (congrFun (W11_v6 m ρ c) _).trans ((z_real m ρ c q k v hq hk hv h n d e).2.1 he))
    (fun h n d e he => (congrFun (W11_v6 m ρ c) _).trans ((z_real m ρ c q k v hq hk hv h n d e).2.2 he))
    (fun h n d e he => (congrFun ((W11_v8 m ρ c).trans (W9_v8 m ρ c)) _).trans (flat_real _ w hw n h d e he))
    (fun h j b => (congrFun (W11_v13_2 m ρ c) _).trans (lse_arr m ρ c q k v C hq hk hv hc h j b))
    (fun h j b => del_arr m ρ c q k v w C hq hk hv hc hw h j b)
    (fun h n => (congrFun ((W11_v12 m ρ c).trans (W9_v12 m ρ c)) _).trans (col_real _ C (trans_real _ C hc) h n)) h n d e he

include hq hk hv hc hw in
/-- The fourth result: the decay's gradient. -/
theorem res_dc (h : Fin 4) (n : Fin 4096) :
    (W12 m ρ c main_v19_2 : FVec Ideal S4x4096x1 .f32) (ix3 h n 0)
      = ((-∑ i ∈ Finset.range 4096, dsR q k v w C h i n.val : ℝ) : EReal) := by
  rw [W12_v19_2]
  exact dc_arr_real (V11 m ρ) c (ext q) (ext k) (ext v) (ext w) C (lseR q k C) (delR q k v w C)
    (fun h n d e he => (congrFun (W11_v6 m ρ c) _).trans ((z_real m ρ c q k v hq hk hv h n d e).1 he)) (fun h n d e he => (congrFun (W11_v6 m ρ c) _).trans ((z_real m ρ c q k v hq hk hv h n d e).2.1 he))
    (fun h n d e he => (congrFun (W11_v6 m ρ c) _).trans ((z_real m ρ c q k v hq hk hv h n d e).2.2 he))
    (fun h n d e he => (congrFun ((W11_v8 m ρ c).trans (W9_v8 m ρ c)) _).trans (flat_real _ w hw n h d e he))
    (fun h j b => (congrFun (W11_v13_2 m ρ c) _).trans (lse_arr m ρ c q k v C hq hk hv hc h j b))
    (fun h j b => del_arr m ρ c q k v w C hq hk hv hc hw h j b)
    (fun h n => (congrFun ((W11_v12 m ρ c).trans (W9_v12 m ρ c)) _).trans (col_real _ C (trans_real _ C hc) h n)) h n

end

end Cert.KernelIdeal.Fox

end
-- ==== Proof.RefReal.lean ====
module

public import proofs.«01_k».proof.Proof.KerVal

@[expose] public section

set_option maxRecDepth 16384

noncomputable section

/-! The kernel's reals in the reference's form: softmax probabilities and the gradients of their scores. -/

namespace Cert.KernelIdeal.Fox

open Idealize.ShloMosaic Cert.FoxMath

/-- A sum over the 128 lanes of a head whose last 64 lanes are zero. -/
theorem sum_ext (a b : Fin 4 → ℕ → Fin 64 → ℝ) (h : Fin 4) (n j : ℕ) :
    ∑ d : Fin 128, ext a h n d * ext b h j d = ∑ d : Fin 64, a h n d * b h j d := by
  refine (Fin.sum_univ_add (a := 64) (b := 64) fun d : Fin (64 + 64) => ext a h n d * ext b h j d).trans ?_
  have h2 : ∑ d : Fin 64, ext a h n (Fin.natAdd 64 d) * ext b h j (Fin.natAdd 64 d) = 0 := by
    refine Finset.sum_eq_zero fun d _ => ?_
    unfold ext
    rw [dif_neg (by show ¬ (64 + d.val < 64); omega), zero_mul]
  rw [h2, add_zero]
  refine Finset.sum_congr rfl fun d _ => ?_
  unfold ext
  rw [dif_pos (show (Fin.castAdd 64 d).val < 64 from d.isLt), dif_pos (show (Fin.castAdd 64 d).val < 64 from d.isLt)]
  rfl

/-- A lane of the first half. -/
theorem ext_lo (a : Fin 4 → ℕ → Fin 64 → ℝ) (h : Fin 4) (n : ℕ) (d : Fin 128) (hd : d.val < 64) : ext a h n d = a h n ⟨d.val, hd⟩ := by
  unfold ext; rw [dif_pos hd]

/-- A lane of the second half. -/
theorem ext_hi (a : Fin 4 → ℕ → Fin 64 → ℝ) (h : Fin 4) (n : ℕ) (d : Fin 128) (hd : ¬ d.val < 64) : ext a h n d = 0 := by
  unfold ext; rw [dif_neg hd]

variable (q k v w : Fin 4 → ℕ → Fin 64 → ℝ) (C : Fin 4 → ℕ → ℝ)

/-- The score without the query's own decay. -/
theorem score_eq (h : Fin 4) (n j : ℕ) : score (ext q h) (ext k h) (C h) n j = (∑ d : Fin 64, q h n d * k h j d) * 0.125 - C h j := by
  unfold score
  rw [← sum_ext, Finset.sum_mul]
  congr 1
  exact Finset.sum_congr rfl fun d _ => by ring

/-- The softmax's weight over the row's total. -/
theorem prob_eq (h : Fin 4) (n j : ℕ) : prob (ext q h) (ext k h) (C h) (lseR q k C h) n j
    = weight (ext q h) (ext k h) (C h) n j / total (ext q h) (ext k h) (C h) n := by
  unfold prob weight wt lseR
  split
  · rw [Real.exp_sub, Real.exp_log (total_pos _ _ _ _)]
  · rw [zero_div]

/-- The probabilities of a row add up to one. -/
theorem sum_prob (h : Fin 4) (n : ℕ) : ∑ j ∈ Finset.range 4096, prob (ext q h) (ext k h) (C h) (lseR q k C h) n j = 1 := by
  simp only [prob_eq]
  rw [← Finset.sum_div]
  exact div_self (total_pos _ _ _ _).ne'

/-- A probability's cotangent. -/
def dpR (h : Fin 4) (n j : ℕ) : ℝ := ∑ d : Fin 64, w h n d * v h j d

/-- The output's row sum with its cotangent is the probabilities' sum with theirs. -/
theorem delR_eq (h : Fin 4) (n : ℕ) : delR q k v w C h n
    = ∑ j ∈ Finset.range 4096, prob (ext q h) (ext k h) (C h) (lseR q k C h) n j * dpR v w h n j := by
  unfold delR outR dpR
  simp only [Finset.sum_div, Finset.mul_sum, prob_eq]
  rw [Finset.sum_comm]
  refine Finset.sum_congr rfl fun j _ => ?_
  rw [← Finset.mul_sum, ← sum_ext, Finset.mul_sum]
  exact Finset.sum_congr rfl fun d _ => by ring

/-- A score's gradient is the probability times its cotangent less the row's mean of cotangents. -/
theorem dsR_eq (h : Fin 4) (n j : ℕ) : dsR q k v w C h n j
    = prob (ext q h) (ext k h) (C h) (lseR q k C h) n j * (dpR v w h n j
      - ∑ i ∈ Finset.range 4096, prob (ext q h) (ext k h) (C h) (lseR q k C h) n i * dpR v w h n i) := by
  unfold dsR dsc
  rw [delR_eq, sum_ext]
  congr 2
  exact Finset.sum_congr rfl fun d _ => mul_comm _ _

/-- A query's score gradients add up to zero. -/
theorem sum_dsR (h : Fin 4) (n : ℕ) : ∑ j ∈ Finset.range 4096, dsR q k v w C h n j = 0 := by
  simp only [dsR_eq, mul_sub]
  rw [Finset.sum_sub_distrib, ← Finset.sum_mul, sum_prob, one_mul, sub_self]

end Cert.KernelIdeal.Fox

end
-- ==== Proof.Ref.lean ====
module

public import proofs.«01_k».proof.Proof.RefReal
public import proofs.«01_k».proof.Proof.Gen.ReferenceIdeal.Read

@[expose] public section

set_option maxRecDepth 16384

noncomputable section

/-! The reference over real arguments: its softmax, its probabilities and its gradients, entry by entry. -/

namespace Cert.ReferenceIdeal.Fox

open Idealize.ShloMosaic Idealize.ShloMosaic.ValueIdx Cert.ReferenceIdeal Cert.ReferenceIdeal.Gen Cert.ReferenceIdeal.Read
open Cert.FoxMath
open Cert.KernelIdeal.Fox (ext score weight total prob lseR dpR dsR outR weight_nonneg total_pos score_eq prob_eq dsR_eq delR_eq sum_dsR sum_prob
  ext_lo ext_hi)

theorem one_f32 : Ideal.ofBits .f32 0x3F800000#32 = ((1 : ℝ) : EReal) := by
  simp [Ideal.ofBits, Ideal.ieee]
  rw [← EReal.coe_mul]
  norm_num

section
variable (x0 x1 x2 : FVec Ideal S4096x4x64 .f32) (x3 : FVec Ideal S4096x4 .f32) (x4 : FVec Ideal S4096x4x64 .f32)
  (q k v w : Fin 4 → ℕ → Fin 64 → ℝ) (C : Fin 4 → ℕ → ℝ)
  (h0 : ∀ (n : Fin 4096) (h : Fin 4) (d : Fin 64), x0 (ix3 n h d) = (q h n.val d : EReal))
  (h1 : ∀ (n : Fin 4096) (h : Fin 4) (d : Fin 64), x1 (ix3 n h d) = (k h n.val d : EReal))
  (h2 : ∀ (n : Fin 4096) (h : Fin 4) (d : Fin 64), x2 (ix3 n h d) = (v h n.val d : EReal))
  (h3 : ∀ (n : Fin 4096) (h : Fin 4), x3 (ix2 n h) = (C h n.val : EReal))
  (h4 : ∀ (n : Fin 4096) (h : Fin 4) (d : Fin 64), x4 (ix3 n h d) = (w h n.val d : EReal))

theorem lidx0 (h : Fin 4) (n j : Fin 4096) (d : Fin 64) : lidx_main_v0 (ix3 h n j) d = ix3 n h d := funext fun a => by
  match a with
  | ⟨0, _⟩ => rfl
  | ⟨1, _⟩ => rfl
  | ⟨2, _⟩ => rfl
theorem ridx0 (h : Fin 4) (n j : Fin 4096) (d : Fin 64) : ridx_main_v0 (ix3 h n j) d = ix3 j h d := funext fun a => by
  match a with
  | ⟨0, _⟩ => rfl
  | ⟨1, _⟩ => rfl
  | ⟨2, _⟩ => rfl

include h0 h1 in
theorem v2_real (h : Fin 4) (n j : Fin 4096) :
    val_main_v2 (F := Ideal) x0 x1 (ix3 h n j) = (((∑ d : Fin 64, q h n.val d * k h j.val d) * 0.125 : ℝ) : EReal) := by
  rw [val_main_v2_apply, val_main_v0_apply, val_main_v1_apply, val_main_cst_apply,
    sum_eq_coe Finset.univ _ (fun d => q h n.val d * k h j.val d) fun d _ => by rw [lidx0, ridx0, h0, h1, ← EReal.coe_mul]]
  show _ * Ideal.ofBits .f32 0x3E000000#32 = _
  rw [Cert.KernelIdeal.Ops.ofBits_eighth, ← EReal.coe_mul]

include h3 in
theorem v5_real (h : Fin 4) (n j : Fin 4096) : val_main_v5 (F := Ideal) x3 (ix3 h n j) = (C h n.val : EReal) := by
  rw [val_main_v5_apply, val_main_v4_apply, val_main_v3_apply, ← h3]
  refine congrArg x3 (funext fun a => ?_)
  match a with
  | ⟨0, _⟩ => rfl
  | ⟨1, _⟩ => rfl

include h3 in
theorem v9_real (h : Fin 4) (n j : Fin 4096) : val_main_v9 (F := Ideal) x3 (ix3 h n j) = (C h j.val : EReal) := by
  rw [val_main_v9_apply, val_main_v8_apply, val_main_v7_apply, ← h3]
  refine congrArg x3 (funext fun a => ?_)
  match a with
  | ⟨0, _⟩ => rfl
  | ⟨1, _⟩ => rfl

/-- The causal mask. -/
theorem mask (h : Fin 4) (n j : Fin 4096) (α : Type) (x y : α) :
    Scalar.select (val_main_v17_1 (F := Ideal) (ix3 h n j)) x y = if j.val ≤ n.val then x else y := by
  have e : val_main_v17_1 (F := Ideal) (ix3 h n j) = IntOp.cmpi .sle (BitVec.ofNat 32 j.val) (BitVec.ofNat 32 n.val) := by
    rw [val_main_v17_1_apply, val_main_v16_apply, val_main_v14_apply, val_main_v15_apply, val_main_v12_apply, val_main_v13_apply,
      val_main_v11_apply, val_main_v11_apply]
  have hj := j.isLt
  have hn := n.isLt
  rw [e, Scalar.select]
  refine if_congr ?_ rfl rfl
  exact WordCmp.cmpi_sle_ofNat_eq_one_iff (by norm_num; omega) (by norm_num; omega)

include h0 h1 h3 in
/-- The masked scores. -/
theorem v17_real (h : Fin 4) (n j : Fin 4096) : val_main_v17_0 (F := Ideal) x0 x1 x3 (ix3 h n j)
    = if j.val ≤ n.val then ((C h n.val + score (ext q h) (ext k h) (C h) n.val j.val : ℝ) : EReal) else ⊥ := by
  rw [val_main_v17_0_apply, mask, val_main_v10_apply, val_main_v6_apply, v2_real x0 x1 q k h0 h1, v5_real x3 C h3, v9_real x3 C h3,
    val_main_call0_v2_apply, val_main_call0_v0_apply, val_main_cst_0_apply]
  show (if _ then (_ + _) - _ else Ideal.ofBits .f32 0xFF800000#32) = _
  rw [Cert.KernelIdeal.Ops.ofBits_bot, ← EReal.coe_add, ← EReal.coe_sub, score_eq]
  congr 2
  ring

include h0 h1 h3 in
/-- A row's largest score is real. -/
theorem v18_real (h : Fin 4) (n : Fin 4096) : ∃ M : ℝ, val_main_v18 (F := Ideal) x0 x1 x3 (ix2 h n) = (M : EReal) := by
  obtain ⟨M, hM⟩ := sup_real (fun j : Fin 4096 => val_main_v17_0 (F := Ideal) x0 x1 x3 (ix3 h n j)) (fun j => j.val ≤ n.val)
    (fun j => C h n.val + score (ext q h) (ext k h) (C h) n.val j.val) (fun j => v17_real x0 x1 x3 q k C h0 h1 h3 h n j) n le_rfl
  refine ⟨M, Eq.trans ?_ hM⟩
  unfold val_main_v18
  rw [Host.reduce_eq_fold_single FloatOps.maximumf _ _ reducesTo_S4x4096x4096_S4x4096_d2 (by decide) h_S_]
  rw [show val_main_cst_1 (F := Ideal) (Shape.Idx.first h_S_) = ⊥ from Cert.KernelIdeal.Ops.ofBits_bot]
  refine Finset.fold_congr fun b _ => congrArg (val_main_v17_0 (F := Ideal) x0 x1 x3) (funext fun ax => ?_)
  match ax with
  | ⟨0, _⟩ => rfl
  | ⟨1, _⟩ => rfl
  | ⟨2, _⟩ => rfl

include h0 h1 h3 in
/-- The exponentials of a row whose largest score is `M`, and their sum. -/
theorem exps_at (h : Fin 4) (n : Fin 4096) (M : ℝ) (hM : val_main_v18 (F := Ideal) x0 x1 x3 (ix2 h n) = (M : EReal)) :
    (∀ j : Fin 4096, val_main_v38 (F := Ideal) x0 x1 x3 (ix3 h n j)
        = ((Real.exp (C h n.val - M) * weight (ext q h) (ext k h) (C h) n.val j.val : ℝ) : EReal))
    ∧ val_main_v39 (F := Ideal) x0 x1 x3 (ix2 h n) = ((Real.exp (C h n.val - M) * total (ext q h) (ext k h) (C h) n.val : ℝ) : EReal) := by
  have hE : ∀ j : Fin 4096, val_main_v38 (F := Ideal) x0 x1 x3 (ix3 h n j)
      = ((Real.exp (C h n.val - M) * weight (ext q h) (ext k h) (C h) n.val j.val : ℝ) : EReal) := fun j => by
    rw [val_main_v38_apply, val_main_v37_apply, val_main_v36_apply, val_main_v35_apply, val_main_v25_apply]
    rw [show idx_main_v35 (idx_main_v36 (ix3 h n j)) = ix2 h n from funext fun a => by
      match a with
      | ⟨0, _⟩ => rfl
      | ⟨1, _⟩ => rfl]
    rw [hM, v17_real x0 x1 x3 q k C h0 h1 h3, val_main_v24_apply, val_main_cst_3_apply]
    show Ideal.exp (_ - max (Ideal.ofBits .f32 0xFF800000#32) _) = _
    rw [Cert.KernelIdeal.Ops.ofBits_bot, max_eq_right bot_le, exp_shift]
    unfold weight wt
    refine congrArg (fun r : ℝ => (r : EReal)) ?_
    split
    · rw [← Real.exp_add, ← Real.exp_add]; exact congrArg Real.exp (by ring)
    · rw [mul_zero, mul_zero]
  refine ⟨hE, ?_⟩
  rw [val_main_v39_apply, show val_main_cst_9 (F := Ideal) (Shape.Idx.first h_S_) = 0 from Ideal.ofBits_zero_f32, zero_add]
  unfold total
  rw [Finset.mul_sum, Finset.sum_range]
  refine sum_eq_coe _ _ _ fun j _ => (congrArg _ (funext fun a => ?_)).trans (hE j)
  match a with
  | ⟨0, _⟩ => rfl
  | ⟨1, _⟩ => rfl
  | ⟨2, _⟩ => rfl

include h0 h1 h3 in
/-- The exponentials of a row are its weights times one positive number, and so is their sum. -/
theorem exps_real (h : Fin 4) (n : Fin 4096) : ∃ E : ℝ, 0 < E
    ∧ (∀ j : Fin 4096, val_main_v38 (F := Ideal) x0 x1 x3 (ix3 h n j) = ((E * weight (ext q h) (ext k h) (C h) n.val j.val : ℝ) : EReal))
    ∧ val_main_v39 (F := Ideal) x0 x1 x3 (ix2 h n) = ((E * total (ext q h) (ext k h) (C h) n.val : ℝ) : EReal) := by
  obtain ⟨M, hM⟩ := v18_real x0 x1 x3 q k C h0 h1 h3 h n
  exact ⟨_, Real.exp_pos _, exps_at x0 x1 x3 q k C h0 h1 h3 h n M hM⟩

theorem idx41 (h : Fin 4) (n j : Fin 4096) : idx_main_v40 (idx_main_v41 (ix3 h n j)) = ix2 h n := funext fun a => by
  match a with
  | ⟨0, _⟩ => rfl
  | ⟨1, _⟩ => rfl

include h0 h1 h3 in
/-- The probabilities. -/
theorem v42_real (h : Fin 4) (n j : Fin 4096) : val_main_v42 (F := Ideal) x0 x1 x3 (ix3 h n j)
    = (prob (ext q h) (ext k h) (C h) (lseR q k C h) n.val j.val : EReal) := by
  obtain ⟨E, hE, he, hs⟩ := exps_real x0 x1 x3 q k C h0 h1 h3 h n
  have hZ := total_pos (ext q h) (ext k h) (C h) n.val
  rw [val_main_v42_apply, he, val_main_v41_apply, val_main_v40_apply, idx41, hs]
  show Ideal.div _ _ = _
  rw [Ideal.div_coe (mul_pos hE hZ).ne', ← EReal.coe_mul, prob_eq]
  congr 1
  field_simp

include h2 h4 in
/-- The probabilities' cotangents. -/
theorem v49_real (h : Fin 4) (n j : Fin 4096) : val_main_v49 (F := Ideal) x2 x4 (ix3 h n j) = (dpR v w h n.val j.val : EReal) := by
  rw [val_main_v49_apply]
  refine sum_eq_coe _ _ _ fun d _ => ?_
  rw [val_main_v48_apply, EReal.coe_mul, ← h2, ← h4]
  refine congrArg₂ (· * ·) (congrArg x4 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

end

end Cert.ReferenceIdeal.Fox

end
-- ==== Proof.RefGrad.lean ====
module

public import proofs.«01_k».proof.Proof.Ref

@[expose] public section

set_option maxRecDepth 16384

noncomputable section

/-! The reference's gradients over real arguments, entry by entry. -/

namespace Cert.ReferenceIdeal.Fox

open Idealize.ShloMosaic Idealize.ShloMosaic.ValueIdx Cert.ReferenceIdeal Cert.ReferenceIdeal.Gen Cert.ReferenceIdeal.Read
open Cert.FoxMath
open Cert.KernelIdeal.Fox (ext score weight total prob lseR dpR dsR outR weight_nonneg total_pos score_eq prob_eq prob_zero dsR_eq delR_eq sum_dsR sum_prob
  ext_lo ext_hi)

section
variable (x0 x1 x2 : FVec Ideal S4096x4x64 .f32) (x3 : FVec Ideal S4096x4 .f32) (x4 : FVec Ideal S4096x4x64 .f32)
  (q k v w : Fin 4 → ℕ → Fin 64 → ℝ) (C : Fin 4 → ℕ → ℝ)
  (h0 : ∀ (n : Fin 4096) (h : Fin 4) (d : Fin 64), x0 (ix3 n h d) = (q h n.val d : EReal))
  (h1 : ∀ (n : Fin 4096) (h : Fin 4) (d : Fin 64), x1 (ix3 n h d) = (k h n.val d : EReal))
  (h2 : ∀ (n : Fin 4096) (h : Fin 4) (d : Fin 64), x2 (ix3 n h d) = (v h n.val d : EReal))
  (h3 : ∀ (n : Fin 4096) (h : Fin 4), x3 (ix2 n h) = (C h n.val : EReal))
  (h4 : ∀ (n : Fin 4096) (h : Fin 4) (d : Fin 64), x4 (ix3 n h d) = (w h n.val d : EReal))

theorem idx52 (h : Fin 4) (n j : Fin 4096) : idx_main_v40 (idx_main_v52 (ix3 h n j)) = ix2 h n := funext fun a => by
  match a with
  | ⟨0, _⟩ => rfl
  | ⟨1, _⟩ => rfl

theorem idx58 (h : Fin 4) (n j : Fin 4096) : idx_main_v40 (idx_main_v58 (ix3 h n j)) = ix2 h n := funext fun a => by
  match a with
  | ⟨0, _⟩ => rfl
  | ⟨1, _⟩ => rfl

/-- A reshape that adds a last axis of one entry. -/
theorem idx56 (h : Fin 4) (n : Fin 4096) : idx_main_v56 (ix3 h n 0) = ix2 h n := funext fun a => Fin.ext (by
  have hn : n.val < 4096 := n.isLt
  match a with
  | ⟨0, _⟩ => show ((h.val * 4096 + n.val) * 1 + 0) / 4096 = h.val; omega
  | ⟨1, _⟩ => show ((h.val * 4096 + n.val) * 1 + 0) % 4096 = n.val; omega)

include h0 h1 h2 h3 h4 in
/-- The scores' gradients. -/
theorem v64_real (h : Fin 4) (n j : Fin 4096) : val_main_v64 (F := Ideal) x0 x1 x2 x3 x4 (ix3 h n j)
    = (dsR q k v w C h n.val j.val : EReal) := by
  obtain ⟨E, hE, he, hs⟩ := exps_real x0 x1 x3 q k C h0 h1 h3 h n
  have hZ := total_pos (ext q h) (ext k h) (C h) n.val
  have hEZ := (mul_pos hE hZ).ne'
  have h54 : ∀ j : Fin 4096, val_main_v54 (F := Ideal) x0 x1 x2 x3 x4 (ix3 h n j)
      = ((prob (ext q h) (ext k h) (C h) (lseR q k C h) n.val j.val * dpR v w h n.val j.val / (E * total (ext q h) (ext k h) (C h) n.val) : ℝ) : EReal) := fun j => by
    rw [val_main_v54_apply, val_main_v53_apply, v49_real x2 x4 v w h2 h4, he, val_main_v52_apply, val_main_v45_apply, val_main_v44_apply,
      val_main_cst_10_apply, val_main_v43_apply, val_main_v40_apply, idx52, hs]
    show _ * Ideal.div (Ideal.ofBits .f32 0x3F800000#32) (_ * _) * _ = _
    rw [one_f32, ← EReal.coe_mul, Ideal.div_coe (mul_ne_zero hEZ hEZ), ← EReal.coe_mul, ← EReal.coe_mul, ← EReal.coe_mul, prob_eq]
    refine congrArg (fun r : ℝ => (r : EReal)) ?_
    field_simp
  have h55 : val_main_v55 (F := Ideal) x0 x1 x2 x3 x4 (ix2 h n)
      = (((∑ i ∈ Finset.range 4096, prob (ext q h) (ext k h) (C h) (lseR q k C h) n.val i * dpR v w h n.val i) / (E * total (ext q h) (ext k h) (C h) n.val) : ℝ) : EReal) := by
    rw [val_main_v55_apply, show val_main_cst_11 (F := Ideal) (Shape.Idx.first h_S_) = 0 from Ideal.ofBits_zero_f32, zero_add, Finset.sum_div, Finset.sum_range]
    refine sum_eq_coe _ _ _ fun j _ => (congrArg _ (funext fun a => ?_)).trans (h54 j)
    match a with
    | ⟨0, _⟩ => rfl
    | ⟨1, _⟩ => rfl
    | ⟨2, _⟩ => rfl
  have h60 : val_main_v60 (F := Ideal) x0 x1 x2 x3 x4 (ix2 h n) = -val_main_v55 (F := Ideal) x0 x1 x2 x3 x4 (ix2 h n) := by
    rw [val_main_v60_apply, show val_main_cst_12 (F := Ideal) (Shape.Idx.first h_S_) = 0 from Ideal.ofBits_zero_f32, zero_add, Fin.sum_univ_one,
      val_main_v57_apply, val_main_v56_apply]
    show -_ = -_
    rw [show idx_main_v60 (ix2 h n) 0 = ix3 h n 0 from funext fun a => by
      match a with
      | ⟨0, _⟩ => rfl
      | ⟨1, _⟩ => rfl
      | ⟨2, _⟩ => rfl, idx56]
  rw [val_main_v64_apply, mask, dsR_eq]
  split
  case isFalse hj =>
    rw [prob_zero _ _ _ _ _ _ (by omega), zero_mul]
    exact Ideal.ofBits_zero_f32
  rw [val_main_v63_apply, val_main_v62_apply, val_main_v59_apply, v49_real x2 x4 v w h2 h4, val_main_v58_apply, val_main_v40_apply, idx58, hs, he,
    val_main_v61_apply, show idx_main_v61 (ix3 h n j) = ix2 h n from funext fun a => by
      match a with
      | ⟨0, _⟩ => rfl
      | ⟨1, _⟩ => rfl, h60, h55]
  show (Ideal.div _ _ + _) * _ = _
  rw [Ideal.div_coe hEZ, ← EReal.coe_mul, ← EReal.coe_neg, ← EReal.coe_add, ← EReal.coe_mul, prob_eq q k C h n.val j.val]
  refine congrArg (fun r : ℝ => (r : EReal)) ?_
  field_simp
  ring

/-- The rows of a head in the first half of its 128 lanes. -/
theorem idx83 (n : Fin 4096) (h : Fin 4) (d : Fin 128) (e : Fin 512) (he : e.val = 128 * h.val + d.val) :
    idx_main_v83 (ix2 n e) = ix3 n h d := funext fun a => Fin.ext (by
  have hn : n.val < 4096 := n.isLt
  have hh : h.val < 4 := h.isLt
  have hd : d.val < 128 := d.isLt
  match a with
  | ⟨0, _⟩ => show (n.val * 512 + e.val) / 512 = n.val; omega
  | ⟨1, _⟩ => show (n.val * 512 + e.val) / 128 % 4 = h.val; omega
  | ⟨2, _⟩ => show (n.val * 512 + e.val) % 128 = d.val; omega)

/-- An array with as many zero lanes after its own. -/
theorem halves (x z : FVec Ideal S4096x4x64 .f32) (hz : ∀ i, z i = 0) (X : ℝ) (n : Fin 4096) (h : Fin 4) (d : Fin 128)
    (hx : ∀ hd : d.val < 64, x (ix3 n h ⟨d.val, hd⟩) = (X : EReal)) (h0 : ¬ d.val < 64 → X = 0) :
    concatenate S4096x4x128 2 [⟨S4096x4x64, x⟩, ⟨S4096x4x64, z⟩] concatenates_S4096x4x64_S4096x4x64_S4096x4x128_d2 (ix3 n h d) = (X : EReal) := by
  have off : ∀ d' : Fin 64, ∀ b : Fin S4096x4x64.rank, b.cast (rfl : S4096x4x64.rank = S4096x4x128.rank) ≠ (2 : Fin 3) →
      ((ix3 n h d' : S4096x4x64.Idx) b).val = ((ix3 n h d : S4096x4x128.Idx) (b.cast rfl)).val := fun d' b hb =>
    match b, hb with
    | ⟨0, _⟩, _ => rfl
    | ⟨1, _⟩, _ => rfl
    | ⟨2, _⟩, hb => absurd rfl hb
  by_cases hd : d.val < 64
  · exact (concatenate_apply_piece (t := S4096x4x128) 2 _ _ (ix3 n h d) 0 (by show 0 < 2; decide) S4096x4x64 x rfl rfl 0 rfl (ix3 n h ⟨d.val, hd⟩) (off _)
      (by show 0 + d.val = d.val; omega)).trans (hx hd)
  · rw [h0 hd]
    exact (concatenate_apply_piece (t := S4096x4x128) 2 _ _ (ix3 n h d) 1 (by show 1 < 2; decide) S4096x4x64 z rfl rfl 64 rfl
      (ix3 n h ⟨d.val - 64, by have := d.isLt; omega⟩) (off _) (by show 64 + (d.val - 64) = d.val; omega)).trans (hz _)

include h0 h1 h2 h3 in
/-- The output, head by head. -/
theorem v47_real (n : Fin 4096) (h : Fin 4) (d : Fin 64) :
    val_main_v47 (F := Ideal) x0 x1 x2 x3 (ix3 n h d) = (outR q k v C h n.val ⟨d.val, by have := d.isLt; omega⟩ : EReal) := by
  rw [val_main_v47_apply, val_main_v46_apply]
  unfold outR
  rw [Finset.sum_div, Finset.sum_range]
  refine sum_eq_coe _ _ _ fun j _ => ?_
  rw [show lidx_main_v46 (idx_main_v47 (ix3 n h d)) j = ix3 j h d from funext fun a => by
      match a with
      | ⟨0, _⟩ => rfl
      | ⟨1, _⟩ => rfl
      | ⟨2, _⟩ => rfl,
    show ridx_main_v46 (idx_main_v47 (ix3 n h d)) j = ix3 h n j from funext fun a => by
      match a with
      | ⟨0, _⟩ => rfl
      | ⟨1, _⟩ => rfl
      | ⟨2, _⟩ => rfl,
    h2, v42_real x0 x1 x3 q k C h0 h1 h3, ← EReal.coe_mul, prob_eq, ext_lo v h j.val ⟨d.val, by have := d.isLt; omega⟩ d.isLt]
  refine congrArg (fun r : ℝ => (r : EReal)) ?_
  ring

include h0 h1 h2 h3 in
/-- The output. -/
theorem ref_o (n : Fin 4096) (h : Fin 4) (d : Fin 128) (e : Fin 512) (he : e.val = 128 * h.val + d.val) :
    val_main_v83 (F := Ideal) x0 x1 x2 x3 (ix2 n e) = (outR q k v C h n.val d : EReal) := by
  rw [val_main_v83_apply, idx83 n h d e he]
  unfold val_main_v82
  refine halves _ _ (fun i => Ideal.ofBits_zero_f32) _ n h d (fun hd => v47_real x0 x1 x2 x3 q k v C h0 h1 h2 h3 n h ⟨d.val, hd⟩) fun hd => ?_
  unfold outR
  rw [Finset.sum_eq_zero fun j _ => by rw [ext_hi _ _ _ _ hd, mul_zero], zero_div]

include h0 h1 h2 h3 h4 in
/-- The keys' gradient. -/
theorem ref_dk (n : Fin 4096) (h : Fin 4) (d : Fin 128) (e : Fin 512) (he : e.val = 128 * h.val + d.val) :
    val_main_v86 (F := Ideal) x0 x1 x2 x3 x4 (ix2 n e)
      = ((∑ i ∈ Finset.range 4096, dsR q k v w C h i n.val * (ext q h i d * 0.125) : ℝ) : EReal) := by
  rw [val_main_v86_apply, show idx_main_v86 (ix2 n e) = ix3 n h d from idx83 n h d e he]
  unfold val_main_v85
  refine halves _ _ (fun i => Ideal.ofBits_zero_f32) _ n h d (fun hd => ?_) fun hd => ?_
  · rw [val_main_v78_apply, val_main_v77_apply, Finset.sum_range]
    refine sum_eq_coe _ _ _ fun i _ => ?_
    rw [show lidx_main_v77 (idx_main_v78 (ix3 n h ⟨d.val, hd⟩)) i = ix3 h i n from funext fun a => by
        match a with
        | ⟨0, _⟩ => rfl
        | ⟨1, _⟩ => rfl
        | ⟨2, _⟩ => rfl,
      show ridx_main_v77 (idx_main_v78 (ix3 n h ⟨d.val, hd⟩)) i = ix3 i h ⟨d.val, hd⟩ from funext fun a => by
        match a with
        | ⟨0, _⟩ => rfl
        | ⟨1, _⟩ => rfl
        | ⟨2, _⟩ => rfl,
      h0, val_main_v76_apply, v64_real x0 x1 x2 x3 x4 q k v w C h0 h1 h2 h3 h4, val_main_v75_apply, val_main_cst_17_apply]
    show _ * Ideal.ofBits .f32 0x3E000000#32 * _ = _
    rw [Cert.KernelIdeal.Ops.ofBits_eighth, ← EReal.coe_mul, ← EReal.coe_mul, ext_lo _ _ _ _ hd]
    refine congrArg (fun r : ℝ => (r : EReal)) ?_
    ring
  · exact Finset.sum_eq_zero fun j _ => by rw [ext_hi _ _ _ _ hd, zero_mul, mul_zero]

include h0 h1 h3 h4 in
/-- The values' gradient. -/
theorem ref_dv (n : Fin 4096) (h : Fin 4) (d : Fin 128) (e : Fin 512) (he : e.val = 128 * h.val + d.val) :
    val_main_v89 (F := Ideal) x0 x1 x3 x4 (ix2 n e)
      = ((∑ i ∈ Finset.range 4096, prob (ext q h) (ext k h) (C h) (lseR q k C h) i n.val * ext w h i d : ℝ) : EReal) := by
  rw [val_main_v89_apply, show idx_main_v89 (ix2 n e) = ix3 n h d from idx83 n h d e he]
  unfold val_main_v88
  refine halves _ _ (fun i => Ideal.ofBits_zero_f32) _ n h d (fun hd => ?_) fun hd => ?_
  · rw [val_main_v51_apply, val_main_v50_apply, Finset.sum_range]
    refine sum_eq_coe _ _ _ fun i _ => ?_
    rw [val_main_v48_apply, show idx_main_v48 (lidx_main_v50 (idx_main_v51 (ix3 n h ⟨d.val, hd⟩)) i) = ix3 i h ⟨d.val, hd⟩ from funext fun a => by
        match a with
        | ⟨0, _⟩ => rfl
        | ⟨1, _⟩ => rfl
        | ⟨2, _⟩ => rfl,
      show ridx_main_v50 (idx_main_v51 (ix3 n h ⟨d.val, hd⟩)) i = ix3 h i n from funext fun a => by
        match a with
        | ⟨0, _⟩ => rfl
        | ⟨1, _⟩ => rfl
        | ⟨2, _⟩ => rfl,
      h4, v42_real x0 x1 x3 q k C h0 h1 h3, ← EReal.coe_mul, ext_lo _ _ _ _ hd, mul_comm]
  · exact Finset.sum_eq_zero fun j _ => by rw [ext_hi _ _ _ _ hd, mul_zero]

include h0 h1 h2 h3 h4 in
/-- The decay's gradient. -/
theorem ref_dc (h : Fin 4) (n : Fin 4096) :
    val_main_v91 (F := Ideal) x0 x1 x2 x3 x4 (ix3 h n 0) = ((-∑ i ∈ Finset.range 4096, dsR q k v w C h i n.val : ℝ) : EReal) := by
  have i69 : idx_main_v69 (ix2 n h) = ix2 h n := funext fun a => by
    match a with
    | ⟨0, _⟩ => rfl
    | ⟨1, _⟩ => rfl
  have i73 : idx_main_v73 (ix2 n h) = ix2 h n := funext fun a => by
    match a with
    | ⟨0, _⟩ => rfl
    | ⟨1, _⟩ => rfl
  have i90 : idx_main_v90 (ix2 h n) = ix2 n h := funext fun a => by
    match a with
    | ⟨0, _⟩ => rfl
    | ⟨1, _⟩ => rfl
  have i67 : idx_main_v67 (ix3 h 0 n) = ix2 h n := funext fun a => Fin.ext (by
    have hn : n.val < 4096 := n.isLt
    match a with
    | ⟨0, _⟩ => show ((h.val * 1 + 0) * 4096 + n.val) / 4096 = h.val; omega
    | ⟨1, _⟩ => show ((h.val * 1 + 0) * 4096 + n.val) % 4096 = n.val; omega)
  have i68 : idx_main_v68 (ix2 h n) 0 = ix3 h 0 n := funext fun a => by
    match a with
    | ⟨0, _⟩ => rfl
    | ⟨1, _⟩ => rfl
    | ⟨2, _⟩ => rfl
  have i72 : idx_main_v72 (ix2 h n) 0 = ix3 h n 0 := funext fun a => by
    match a with
    | ⟨0, _⟩ => rfl
    | ⟨1, _⟩ => rfl
    | ⟨2, _⟩ => rfl
  have e70 : val_main_v70 (F := Ideal) x0 x1 x2 x3 x4 (ix2 h n) = ((0 : ℝ) : EReal) := by
    rw [val_main_v70_apply, show val_main_cst_15 (F := Ideal) (Shape.Idx.first h_S_) = 0 from Ideal.ofBits_zero_f32, zero_add,
      ← sum_dsR q k v w C h n.val, Finset.sum_range]
    refine sum_eq_coe _ _ _ fun j _ => (congrArg _ (funext fun a => ?_)).trans (v64_real x0 x1 x2 x3 x4 q k v w C h0 h1 h2 h3 h4 h n j)
    match a with
    | ⟨0, _⟩ => rfl
    | ⟨1, _⟩ => rfl
    | ⟨2, _⟩ => rfl
  have e66 : val_main_v66 (F := Ideal) x0 x1 x2 x3 x4 (ix2 h n) = ((-∑ i ∈ Finset.range 4096, dsR q k v w C h i n.val : ℝ) : EReal) := by
    rw [val_main_v66_apply, show val_main_cst_13 (F := Ideal) (Shape.Idx.first h_S_) = 0 from Ideal.ofBits_zero_f32, zero_add,
      ← Finset.sum_neg_distrib, Finset.sum_range]
    refine sum_eq_coe _ _ _ fun i _ => ?_
    rw [val_main_v65_apply, show idx_main_v66 (ix2 h n) i = ix3 h i n from funext fun a => by
        match a with
        | ⟨0, _⟩ => rfl
        | ⟨1, _⟩ => rfl
        | ⟨2, _⟩ => rfl, v64_real x0 x1 x2 x3 x4 q k v w C h0 h1 h2 h3 h4, EReal.coe_neg]
    rfl
  rw [val_main_v91_apply, show idx_main_v91 (ix3 h n 0) = ix2 h n from idx56 h n, val_main_v90_apply, i90, val_main_v74_apply, val_main_v69_apply, i69,
    val_main_v68_apply, show val_main_cst_14 (F := Ideal) (Shape.Idx.first h_S_) = 0 from Ideal.ofBits_zero_f32, zero_add, Fin.sum_univ_one, i68,
    val_main_v67_apply, i67, e66, val_main_v73_apply, i73, val_main_v72_apply,
    show val_main_cst_16 (F := Ideal) (Shape.Idx.first h_S_) = 0 from Ideal.ofBits_zero_f32, zero_add, Fin.sum_univ_one, i72,
    val_main_v71_apply, show idx_main_v71 (ix3 h n 0) = ix2 h n from idx56 h n, e70]
  show _ + _ = _
  rw [EReal.coe_zero, add_zero]

end

end Cert.ReferenceIdeal.Fox

end
-- ==== Proof.Finite.lean ====
module

public import proofs.«01_k».proof.Defs
public import proofs.«01_k».proof.Proof.RefGrad

@[expose] public section

set_option maxRecDepth 16384

noncomputable section

/-! The precondition read: every argument is an array of reals. -/

namespace Cert.Fox

open Idealize.ShloMosaic Idealize.ShloMosaic.ValueIdx

/-- The precondition's side conditions. -/
theorem facts : Cert.Pre_finite.Facts where
  bcast_S_S4096x4x64 := by decide
  bcast_S_S4096x4 := by decide

theorem inf_f32 : Ideal.ofBits .f32 0x7F800000#32 = ⊤ := by simp [Ideal.ofBits, Ideal.ieee]

/-- A number whose absolute value is below infinity is real. -/
theorem real_of_lt (x : EReal) (h : Ideal.cmp .olt (max x (-x)) ⊤ = 1#1) : x = ((x.toReal : ℝ) : EReal) := by
  have hlt : max x (-x) < ⊤ := by
    by_contra hn
    have : Ideal.cmp .olt (max x (-x)) ⊤ = 0#1 := by simp [Ideal.cmp, hn]
    rw [this] at h
    exact absurd h (by decide)
  refine (EReal.coe_toReal ?_ ?_).symm
  · rintro rfl; exact absurd hlt (by simp)
  · rintro rfl; exact absurd hlt (by simp)

/-- The entry of an array of rows, heads and features. -/
def val3 (x : FVec Ideal ⟨3, ![4096, 4, 64]⟩ .f32) (h : Fin 4) (n : ℕ) (d : Fin 64) : ℝ :=
  if hn : n < 4096 then (show EReal from x (ix3 ⟨n, hn⟩ h d)).toReal else 0
/-- The entry of an array of rows and heads. -/
def val2 (x : FVec Ideal ⟨2, ![4096, 4]⟩ .f32) (h : Fin 4) (n : ℕ) : ℝ :=
  if hn : n < 4096 then (show EReal from x (ix2 ⟨n, hn⟩ h)).toReal else 0

theorem val3_eq (x : FVec Ideal ⟨3, ![4096, 4, 64]⟩ .f32) (y : FVec Ideal ⟨3, ![4096, 4, 64]⟩ .f32) (hy : ∀ i, y i = (⊤ : EReal))
    (hx : cmpf .olt (Host.absf x) y = fun _ => 1#1) (n : Fin 4096) (h : Fin 4) (d : Fin 64) : x (ix3 n h d) = (val3 x h n.val d : EReal) := by
  unfold val3
  rw [dif_pos n.isLt]
  refine real_of_lt _ ((congrArg (Ideal.cmp .olt _) (hy (ix3 n h d)).symm).trans (congrFun hx (ix3 n h d)))

theorem val2_eq (x : FVec Ideal ⟨2, ![4096, 4]⟩ .f32) (y : FVec Ideal ⟨2, ![4096, 4]⟩ .f32) (hy : ∀ i, y i = (⊤ : EReal))
    (hx : cmpf .olt (Host.absf x) y = fun _ => 1#1) (n : Fin 4096) (h : Fin 4) : x (ix2 n h) = (val2 x h n.val : EReal) := by
  unfold val2
  rw [dif_pos n.isLt]
  refine real_of_lt _ ((congrArg (Ideal.cmp .olt _) (hy (ix2 n h)).symm).trans (congrFun hx (ix2 n h)))

end Cert.Fox

end
-- ==== Proof.MM.lean ====
module

public import Idealize.ShloMosaic.Lib.ValueIdx
public import Idealize.ShloMosaic.Lib.MatmulPlain
public import Idealize.ShloMosaic.PureOps.Ideal.Laws
public import Idealize.ShloMosaic.Lib.Pipeline.FrameBody
public import Idealize.ShloMosaic.Lib.Pipeline.Value

@[expose] public section

noncomputable section

/-! The three shapes of matrix products of the step, read at an index over the extended reals. -/

namespace Cert.MM

open Idealize.ShloMosaic Idealize.ShloMosaic.ValueIdx
open scoped BigOperators

/-- A number below a product as a block's number and a place in the block. -/
theorem split (A B : ℕ) {N : ℕ} (h : N = A * B) (n : Fin N) : ∃ (i : Fin A) (p : Fin B), n.val = B * i.val + p.val := by
  subst h
  have hB : 0 < B := Nat.pos_of_ne_zero fun h => absurd n.isLt (by simp [h])
  exact ⟨⟨n.val / B, Nat.div_lt_of_lt_mul (n.isLt.trans_eq (mul_comm A B))⟩, ⟨n.val % B, Nat.mod_lt _ hB⟩, (Nat.div_add_mod _ _).symm⟩

/-- An index of two axes by its entries' values. -/
theorem eq2 {A B : ℕ} (i : Shape.Idx ⟨2, ![A, B]⟩) (n : Fin A) (e : Fin B) (h0 : (i 0).val = n.val) (h1 : (i 1).val = e.val) : i = ix2 n e :=
  funext fun a => Fin.ext (by
    match a with
    | ⟨0, _⟩ => exact h0
    | ⟨1, _⟩ => exact h1)

/-- The dimension numbers of a product contracting the rows of both operands. -/
def rowsDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

theorem rows_rank (M K N : ℕ) : (rowsDims M K N).contr.rank = 1 := rfl

theorem rows_size (M K N : ℕ) : (rowsDims M K N).contr.size ⟨0, by rw [rows_rank]; exact Nat.one_pos⟩ = K := rfl

/-- The contraction index as its one coordinate. -/
def rowsContr (M K N : ℕ) : (rowsDims M K N).contr.Idx ≃ Fin K := contrEquiv1 _ K (rows_rank M K N) (rows_size M K N)

/-- A product contracting the rows of both operands, at an index. -/
theorem rows_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (rowsDims M K N) prec lhs rhs acc (ix2 r c) = acc (ix2 r c) + ∑ k : Fin K, lhs (ix2 k r) * rhs (ix2 k c) := by
  rw [Ideal.matmul_apply, ← Equiv.sum_comp (rowsContr M K N).symm]
  refine congrArg (acc (ix2 r c) + ·) (Finset.sum_congr rfl fun k _ => ?_)
  have hk := contrEquiv1_symm_val _ K (rows_rank M K N) (rows_size M K N) k
  have el : (rowsDims M K N).lhsIdx (ix2 r c) ((rowsContr M K N).symm k) = ix2 k r := by
    funext a; apply Fin.ext
    match a with
    | ⟨0, _⟩ => exact hk
    | ⟨1, _⟩ => rfl
  have er : (rowsDims M K N).rhsIdx (ix2 r c) ((rowsContr M K N).symm k) = ix2 k c := by
    funext a; apply Fin.ext
    match a with
    | ⟨0, _⟩ => exact hk
    | ⟨1, _⟩ => rfl
  rw [el, er]

section
variable {M K N : ℕ} {φ₁ φ₂ : FTy}

/-- Rows times columns, on a zero accumulator. -/
theorem nn (A : FVec Ideal ⟨2, ![M, K]⟩ φ₁) (B : FVec Ideal ⟨2, ![K, N]⟩ φ₂) (a : Fin M) (b : Fin N) :
    matmul (DotDims.plain M K N) none A B (constant ⟨2, ![M, N]⟩ .f32 0x00000000#32) (ix2 a b) = ∑ d : Fin K, A (ix2 a d) * B (ix2 d b) := by
  refine (Ideal.matmul_plain_apply none A B _ a b).trans ?_
  rw [ValueIdx.constant_apply, Ideal.ofBits_zero_f32, zero_add]

/-- Rows times rows, on a zero accumulator. -/
theorem nt (A : FVec Ideal ⟨2, ![M, K]⟩ φ₁) (B : FVec Ideal ⟨2, ![N, K]⟩ φ₂) (a : Fin M) (b : Fin N) :
    matmul (DotDims.transposedRhs M K N) none A B (constant ⟨2, ![M, N]⟩ .f32 0x00000000#32) (ix2 a b) = ∑ d : Fin K, A (ix2 a d) * B (ix2 b d) := by
  refine (Ideal.matmul_transposedRhs_apply none A B _ a b).trans ?_
  rw [ValueIdx.constant_apply, Ideal.ofBits_zero_f32, zero_add]

/-- Columns times columns, on a zero accumulator. -/
theorem tn (A : FVec Ideal ⟨2, ![K, M]⟩ φ₁) (B : FVec Ideal ⟨2, ![K, N]⟩ φ₂) (a : Fin M) (b : Fin N) :
    matmul (rowsDims M K N) none A B (constant ⟨2, ![M, N]⟩ .f32 0x00000000#32) (ix2 a b) = ∑ d : Fin K, A (ix2 d a) * B (ix2 d b) := by
  refine (rows_apply none A B _ a b).trans ?_
  rw [ValueIdx.constant_apply, Ideal.ofBits_zero_f32, zero_add]

/-- The sum the first shape of product leaves at an entry. -/
abbrev sumNN (M K N : ℕ) (φ₁ φ₂ : FTy) (A : FVec Ideal ⟨2, ![M, K]⟩ φ₁) (B : FVec Ideal ⟨2, ![K, N]⟩ φ₂) (n : Fin M) (e : Fin N) : EReal :=
  ∑ d : Fin K, A (ix2 n d) * B (ix2 d e)

/-- The sum the second shape of product leaves at an entry. -/
abbrev sumNT (M K N : ℕ) (φ₁ φ₂ : FTy) (A : FVec Ideal ⟨2, ![M, K]⟩ φ₁) (B : FVec Ideal ⟨2, ![N, K]⟩ φ₂) (n : Fin M) (e : Fin N) : EReal :=
  ∑ d : Fin K, A (ix2 n d) * B (ix2 e d)

/-- The sum the third shape of product leaves at an entry. -/
abbrev sumTN (M K N : ℕ) (φ₁ φ₂ : FTy) (A : FVec Ideal ⟨2, ![K, M]⟩ φ₁) (B : FVec Ideal ⟨2, ![K, N]⟩ φ₂) (n : Fin M) (e : Fin N) : EReal :=
  ∑ d : Fin K, A (ix2 d n) * B (ix2 d e)

/-- An entry of a matrix. -/
abbrev ent (M N : ℕ) (φ : FTy) (A : FVec Ideal ⟨2, ![M, N]⟩ φ) (n : Fin M) (e : Fin N) : EReal := A (ix2 n e)

end

/-- Two sums of products whose factors are equal. -/
theorem sums {K : ℕ} {f g f' g' : Fin K → EReal} (h : ∀ d, f d = f' d) (h' : ∀ d, g d = g' d) : ∑ d, f d * g d = ∑ d, f' d * g' d :=
  Finset.sum_congr rfl fun d _ => congrArg₂ (· * ·) (h d) (h' d)

/-- A load of a whole staged block reads the block. -/
theorem ld_whole {sig : RefSig} {κ : Kind} {sp : Space} {S : Shape} {e : EltTy} {m : Memref sig κ sp S e} (hm : m.IsWhole) (X : S.Idx → Elt Ideal e)
    {off : Fin S.rank → Nat} (h : off = fun _ => 0) (inb : ∀ a, off a + S.size a ≤ S.size a) :
    View.readAt (Elt Ideal) m.view (Rect.unit off S.size inb).toLoadRect (hm.unread X) = X := by
  rw [View.readAt_eq_ld, hm.read_unread]
  exact View.ld_unit_zero h inb X

end Cert.MM

end
-- ==== Proof.Prod2.lean ====
module

public import proofs.«01_k».proof.Proof.Gen.Kernel2Ideal.Frame
public import proofs.«01_k».proof.Proof.MM
public import Idealize.ShloMosaic.Lib.Pipeline.Value
public import Idealize.ShloMosaic.Lib.ValueLayout
public import Idealize.ShloMosaic.Lib.Pipeline.ValueKit.Tiles

@[expose] public section

set_option maxRecDepth 16384

noncomputable section

/-! The products of the calls, entry by entry of the arrays they leave. -/

namespace Cert.Kernel2Ideal.Prod

open Idealize.ShloMosaic Idealize.ShloMosaic.ValueIdx Idealize.ShloMosaic.TcCoe Cert.Kernel2Ideal Cert.Kernel2Ideal.Gen
open Idealize.ShloMosaic.Pipeline (Dat)
open scoped BigOperators

/-! ## Call 0 -/

/-- The grid point of a row block and a column block of call 0. -/
def pt0 (i : Fin 8) (j : Fin 2) : Fin cfg0.N := ⟨2 * i.val + j.val, by have := i.isLt; have := j.isLt; show _ < 16; omega⟩

theorem ix0_0 : ∀ (i : Fin 8) (j : Fin 2), win0_0.index (pt0 i j) 0 = i.val ∧ win0_0.index (pt0 i j) 1 = 0 := by decide +kernel
theorem ix0_1 : ∀ (i : Fin 8) (j : Fin 2), win0_1.index (pt0 i j) 0 = 0 ∧ win0_1.index (pt0 i j) 1 = j.val := by decide +kernel
theorem ix0_2 : ∀ (i : Fin 8) (j : Fin 2), win0_2.index (pt0 i j) 0 = i.val ∧ win0_2.index (pt0 i j) 1 = j.val := by decide +kernel
theorem fl0 : ∀ t : Fin cfg0.N, (cfg0.win 2).flush t = true := by decide +kernel
theorem dj0 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne
    ((by decide +kernel : ∀ t t' : Fin grid0.N, win0_2.index t = win0_2.index t' → t = t') t t' h)

/-- The stored block at an entry. -/
theorem pay0 (x0 : Vec Ideal S512x1024 .bf16) (x1 : Vec Ideal S1024x2816 .bf16) (a : Fin 512) (b : Fin 2816) :
    (k0_pay1 x0 x1 : FVec Ideal S512x2816 .f32) (ix2 a b) = (∑ d : Fin 1024, x0 (ix2 a d) * x1 (ix2 d b)) := by
  unfold k0_pay1
  simp only [shapeCast_self]
  exact MM.nn (φ₁ := .bf16) (φ₂ := .bf16) x0 x1 a b

section
variable (V : (c : Dev nD) → (b : Ref sig .tc) → Buf (Elt Ideal) ((c : Thread nD τ).loc b)) (c : Dev nD)
/-- The block the body stores. -/
theorem outs0 (t : Fin cfg0.N) : outsAt0 V c t = k0_pay1 (iblk0 V c 0 t) (iblk0 V c 1 t) := by
  unfold outsAt0 out0_A_2
  rw [View.read_writes_eq_canon _ _ _ (cover0_A_2 c _ _ _ _ _ _ _ _ _ _ _ )]
  unfold kernelRun0_A
  refine (View.canon_unit_zero (S := S512x2816) (by decide) inb_S512x2816_S512x2816_0_0 _).trans ?_
  rw [MM.ld_whole _ _ (by decide), MM.ld_whole _ _ (by decide)]

theorem ib0_0 (i : Fin 8) (j : Fin 2) (p : Fin 512) (q : Fin 1024) (n : Fin 4096) (e : Fin 1024) (hn : n.val = 512 * i.val + p.val) (he : e.val = q.val) :
    (iblk0 V c 0 (pt0 i j) : FVec Ideal S512x1024 .bf16) (ix2 p q) = (V c main_v0 : FVec Ideal S4096x1024 .bf16) (ix2 n e) := by
  refine (View.read_apply _ _).trans (congrArg (V c main_v0) (MM.eq2 _ n e ?_ ?_))
  · show win0_0.index (pt0 i j) 0 * 512 + 1 * p.val = n.val; rw [(ix0_0 i j).1]; omega
  · show win0_0.index (pt0 i j) 1 * 1024 + 1 * q.val = e.val; rw [(ix0_0 i j).2]; omega

theorem ib0_1 (i : Fin 8) (j : Fin 2) (p : Fin 1024) (q : Fin 2816) (n : Fin 1024) (e : Fin 5632) (hn : n.val = p.val) (he : e.val = 2816 * j.val + q.val) :
    (iblk0 V c 1 (pt0 i j) : FVec Ideal S1024x2816 .bf16) (ix2 p q) = (V c main_v1 : FVec Ideal S1024x5632 .bf16) (ix2 n e) := by
  refine (View.read_apply _ _).trans (congrArg (V c main_v1) (MM.eq2 _ n e ?_ ?_))
  · show win0_1.index (pt0 i j) 0 * 1024 + 1 * p.val = n.val; rw [(ix0_1 i j).1]; omega
  · show win0_1.index (pt0 i j) 1 * 2816 + 1 * q.val = e.val; rw [(ix0_1 i j).2]; omega

theorem at0 (i : Fin 8) (j : Fin 2) (p : Fin 512) (q : Fin 2816) (n : Fin 4096) (e : Fin 5632) (hn : n.val = 512 * i.val + p.val) (he : e.val = 2816 * j.val + q.val) :
    ((dat0 V c).arrAt 2 cfg0.N : FVec Ideal S4096x5632 .f32) (ix2 n e) = (outsAt0 V c (pt0 i j)) (ix2 p q) := by
  have hb := congrFun ((dat0 V c).read_blk_arrAt_eq_flushed 2 dj0 cfg0.N (pt0 i j) (pt0 i j).isLt (fl0 _)) (ix2 p q : S512x2816.Idx)
  rw [View.read_apply] at hb
  refine Eq.trans ?_ (hb.trans ?_)
  · show ((dat0 V c).arrAt 2 cfg0.N : FVec Ideal S4096x5632 .f32) _ = ((dat0 V c).arrAt 2 cfg0.N : FVec Ideal S4096x5632 .f32) _
    congr 1
    funext x
    apply Fin.ext
    match x with
    | ⟨0, _⟩ => show n.val = win0_2.index (pt0 i j) 0 * 512 + 1 * p.val; rw [(ix0_2 i j).1]; omega
    | ⟨1, _⟩ => show e.val = win0_2.index (pt0 i j) 1 * 2816 + 1 * q.val; rw [(ix0_2 i j).2]; omega
  · show (cfg0.win 2).cut (grid0.coords (pt0 i j)) ((dat0 V c).after 2 (pt0 i j)) (ix2 p q : S512x2816.Idx) = _
    rw [after0_2]; rfl

/-- The array call 0 leaves, as the product of the arrays it finds. -/
theorem prod0 (n : Fin 4096) (e : Fin 5632) :
    ((dat0 V c).arrAt 2 cfg0.N : FVec Ideal S4096x5632 .f32) (ix2 n e)
      = MM.sumNN 4096 1024 5632 .bf16 .bf16 (V c main_v0) (V c main_v1) n e := by
  obtain ⟨i, p, hn⟩ := MM.split 8 512 rfl n
  obtain ⟨j, q, he⟩ := MM.split 2 2816 rfl e
  rw [at0 V c i j p q n e hn he, outs0, pay0]
  exact MM.sums (fun d => ib0_0 V c i j p d n d hn rfl) (fun d => ib0_1 V c i j d q d e rfl he)

/-! ## Call 2 -/

/-- The grid point of a row block and a column block of call 2. -/
def pt2 (i : Fin 8) (j : Fin 1) : Fin cfg2.N := ⟨1 * i.val + j.val, by have := i.isLt; have := j.isLt; show _ < 8; omega⟩

theorem ix2_0 : ∀ (i : Fin 8) (j : Fin 1), win2_0.index (pt2 i j) 0 = i.val ∧ win2_0.index (pt2 i j) 1 = 0 := by decide +kernel
theorem ix2_1 : ∀ (i : Fin 8) (j : Fin 1), win2_1.index (pt2 i j) 0 = 0 ∧ win2_1.index (pt2 i j) 1 = j.val := by decide +kernel
theorem ix2_2 : ∀ (i : Fin 8) (j : Fin 1), win2_2.index (pt2 i j) 0 = i.val ∧ win2_2.index (pt2 i j) 1 = j.val := by decide +kernel
theorem ix2_3 : ∀ (i : Fin 8) (j : Fin 1), win2_3.index (pt2 i j) 0 = i.val ∧ win2_3.index (pt2 i j) 1 = j.val := by decide +kernel
theorem fl2 : ∀ t : Fin cfg2.N, (cfg2.win 3).flush t = true := by decide +kernel
theorem dj2 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne
    ((by decide +kernel : ∀ t t' : Fin grid2.N, win2_3.index t = win2_3.index t' → t = t') t t' h)

/-- The stored block at an entry. -/
theorem pay2 (x0 : Vec Ideal S512x2816 .bf16) (x1 : Vec Ideal S2816x1024 .bf16) (x2 : Vec Ideal S512x1024 .f32) (a : Fin 512) (b : Fin 1024) :
    (k2_pay1 x0 x1 x2 : FVec Ideal S512x1024 .f32) (ix2 a b) = (∑ d : Fin 2816, x0 (ix2 a d) * x1 (ix2 d b)) + x2 (ix2 a b) := by
  unfold k2_pay1
  simp only [shapeCast_self]
  exact congrArg (fun z : EReal => z + x2 (ix2 a b)) (MM.nn (φ₁ := .bf16) (φ₂ := .bf16) x0 x1 a b)

/-- The block the body stores. -/
theorem outs2 (t : Fin cfg2.N) : outsAt2 V c t = k2_pay1 (iblk2 V c 0 t) (iblk2 V c 1 t) (iblk2 V c 2 t) := by
  unfold outsAt2 out2_A_3
  rw [View.read_writes_eq_canon _ _ _ (cover2_A_3 c _ _ _ _ _ _ _ _ _ _ _ _ _ _ )]
  unfold kernelRun2_A
  refine (View.canon_unit_zero (S := S512x1024) (by decide) inb_S512x1024_S512x1024_0_0 _).trans ?_
  rw [MM.ld_whole _ _ (by decide), MM.ld_whole _ _ (by decide), MM.ld_whole _ _ (by decide)]

theorem ib2_0 (i : Fin 8) (j : Fin 1) (p : Fin 512) (q : Fin 2816) (n : Fin 4096) (e : Fin 2816) (hn : n.val = 512 * i.val + p.val) (he : e.val = q.val) :
    (iblk2 V c 0 (pt2 i j) : FVec Ideal S512x2816 .bf16) (ix2 p q) = (V c main_v4 : FVec Ideal S4096x2816 .bf16) (ix2 n e) := by
  refine (View.read_apply _ _).trans (congrArg (V c main_v4) (MM.eq2 _ n e ?_ ?_))
  · show win2_0.index (pt2 i j) 0 * 512 + 1 * p.val = n.val; rw [(ix2_0 i j).1]; omega
  · show win2_0.index (pt2 i j) 1 * 2816 + 1 * q.val = e.val; rw [(ix2_0 i j).2]; omega

theorem ib2_1 (i : Fin 8) (j : Fin 1) (p : Fin 2816) (q : Fin 1024) (n : Fin 2816) (e : Fin 1024) (hn : n.val = p.val) (he : e.val = 1024 * j.val + q.val) :
    (iblk2 V c 1 (pt2 i j) : FVec Ideal S2816x1024 .bf16) (ix2 p q) = (V c main_v5 : FVec Ideal S2816x1024 .bf16) (ix2 n e) := by
  refine (View.read_apply _ _).trans (congrArg (V c main_v5) (MM.eq2 _ n e ?_ ?_))
  · show win2_1.index (pt2 i j) 0 * 2816 + 1 * p.val = n.val; rw [(ix2_1 i j).1]; omega
  · show win2_1.index (pt2 i j) 1 * 1024 + 1 * q.val = e.val; rw [(ix2_1 i j).2]; omega

theorem ib2_2 (i : Fin 8) (j : Fin 1) (p : Fin 512) (q : Fin 1024) (n : Fin 4096) (e : Fin 1024) (hn : n.val = 512 * i.val + p.val) (he : e.val = 1024 * j.val + q.val) :
    (iblk2 V c 2 (pt2 i j) : FVec Ideal S512x1024 .f32) (ix2 p q) = (V c main_arg5 : FVec Ideal S4096x1024 .f32) (ix2 n e) := by
  refine (View.read_apply _ _).trans (congrArg (V c main_arg5) (MM.eq2 _ n e ?_ ?_))
  · show win2_2.index (pt2 i j) 0 * 512 + 1 * p.val = n.val; rw [(ix2_2 i j).1]; omega
  · show win2_2.index (pt2 i j) 1 * 1024 + 1 * q.val = e.val; rw [(ix2_2 i j).2]; omega

theorem at2 (i : Fin 8) (j : Fin 1) (p : Fin 512) (q : Fin 1024) (n : Fin 4096) (e : Fin 1024) (hn : n.val = 512 * i.val + p.val) (he : e.val = 1024 * j.val + q.val) :
    ((dat2 V c).arrAt 3 cfg2.N : FVec Ideal S4096x1024 .f32) (ix2 n e) = (outsAt2 V c (pt2 i j)) (ix2 p q) := by
  have hb := congrFun ((dat2 V c).read_blk_arrAt_eq_flushed 3 dj2 cfg2.N (pt2 i j) (pt2 i j).isLt (fl2 _)) (ix2 p q : S512x1024.Idx)
  rw [View.read_apply] at hb
  refine Eq.trans ?_ (hb.trans ?_)
  · show ((dat2 V c).arrAt 3 cfg2.N : FVec Ideal S4096x1024 .f32) _ = ((dat2 V c).arrAt 3 cfg2.N : FVec Ideal S4096x1024 .f32) _
    congr 1
    funext x
    apply Fin.ext
    match x with
    | ⟨0, _⟩ => show n.val = win2_3.index (pt2 i j) 0 * 512 + 1 * p.val; rw [(ix2_3 i j).1]; omega
    | ⟨1, _⟩ => show e.val = win2_3.index (pt2 i j) 1 * 1024 + 1 * q.val; rw [(ix2_3 i j).2]; omega
  · show (cfg2.win 3).cut (grid2.coords (pt2 i j)) ((dat2 V c).after 3 (pt2 i j)) (ix2 p q : S512x1024.Idx) = _
    rw [after2_3]; rfl

/-- The array call 2 leaves, as the product of the arrays it finds. -/
theorem prod2 (n : Fin 4096) (e : Fin 1024) :
    ((dat2 V c).arrAt 3 cfg2.N : FVec Ideal S4096x1024 .f32) (ix2 n e)
      = MM.sumNN 4096 2816 1024 .bf16 .bf16 (V c main_v4) (V c main_v5) n e + MM.ent 4096 1024 .f32 (V c main_arg5) n e := by
  obtain ⟨i, p, hn⟩ := MM.split 8 512 rfl n
  obtain ⟨j, q, he⟩ := MM.split 1 1024 rfl e
  rw [at2 V c i j p q n e hn he, outs2, pay2]
  exact congrArg₂ (fun y z : EReal => y + z) (MM.sums (fun d => ib2_0 V c i j p d n d hn rfl) (fun d => ib2_1 V c i j d q d e rfl he)) (ib2_2 V c i j p q n e hn he)

end

end Cert.Kernel2Ideal.Prod

end
-- ==== Proof.MMBlk.lean ====
module

public import proofs.«01_k».proof.Proof.MM

@[expose] public section

noncomputable section

/-! A sum over rows as the sum over blocks of rows. -/

namespace Cert.MM

open scoped BigOperators

/-- A row of a block of rows. -/
abbrev blk (nk tk K : ℕ) (h : nk * tk = K) (k : Fin nk) (d : Fin tk) : Fin K :=
  ⟨tk * k.val + d.val, by
    have hd := d.isLt
    have hk : tk * (k.val + 1) ≤ tk * nk := Nat.mul_le_mul_left _ k.isLt
    rw [Nat.mul_add, Nat.mul_one] at hk
    rw [← h, Nat.mul_comm nk tk]; omega⟩

/-- A sum over all rows is the sum over the blocks of the sums in each. -/
theorem sum_blk (nk tk K : ℕ) (h : nk * tk = K) (f : Fin K → EReal) : ∑ d, f d = ∑ k, ∑ d, f (blk nk tk K h k d) := by
  subst h
  rw [← Fintype.sum_prod_type', ← Equiv.sum_comp finProdFinEquiv]
  refine Finset.sum_congr rfl fun x _ => congrArg f (Fin.ext ?_)
  show x.2.val + tk * x.1.val = tk * x.1.val + x.2.val
  exact Nat.add_comm _ _

/-- Two sums of products whose factors are equal the other way round. -/
theorem sumsC {K : ℕ} {f g f' g' : Fin K → EReal} (h : ∀ d, f d = g' d) (h' : ∀ d, g d = f' d) : ∑ d, f d * g d = ∑ d, f' d * g' d :=
  Finset.sum_congr rfl fun d _ => (congrArg₂ (· * ·) (h d) (h' d)).trans (mul_comm _ _)

end Cert.MM

end

end
-- ==== Proof.Cols.lean ====
module

public import proofs.«01_k».proof.Proof.MMBlk
public import Idealize.ShloMosaic.Lib.Pipeline.Value
public import Idealize.ShloMosaic.Lib.ValueLayout

@[expose] public section

set_option maxRecDepth 16384

noncomputable section

/-! Two arrays set side by side along the columns, and an array cut in two along the columns. -/

namespace Cert.MM

open Idealize.ShloMosaic Idealize.ShloMosaic.ValueIdx
open scoped BigOperators

/-- A column of the first half. -/
def lo (k : Fin 2816) : Fin 5632 := ⟨k.val, by have := k.isLt; omega⟩

/-- A column of the second half. -/
def hi (k : Fin 2816) : Fin 5632 := ⟨2816 + k.val, by have := k.isLt; omega⟩

/-- Each column lies in one of the halves. -/
theorem lo_or_hi (e : Fin 5632) : (∃ k, e = lo k) ∨ (∃ k, e = hi k) := by
  by_cases h : e.val < 2816
  · exact .inl ⟨⟨e.val, h⟩, rfl⟩
  · exact .inr ⟨⟨e.val - 2816, by have := e.isLt; omega⟩, Fin.ext (by show e.val = 2816 + (e.val - 2816); omega)⟩

/-- Two arrays of 2816 columns make one of 5632. -/
theorem cats : Shape.Concatenates [⟨2, ![4096, 2816]⟩, ⟨2, ![4096, 2816]⟩] ⟨2, ![4096, 5632]⟩ 1 := by decide

/-- A sum over the columns is the sum over the halves. -/
theorem sum_lohi (f : Fin 5632 → EReal) : ∑ i, f i = (∑ k, f (lo k)) + ∑ k, f (hi k) :=
  Fin.sum_univ_add (a := 2816) (b := 2816) f

section
variable {α : Type} {M : ℕ} (x y : (⟨2, ![M, 2816]⟩ : Shape).Idx → α) (h : Shape.Concatenates [⟨2, ![M, 2816]⟩, ⟨2, ![M, 2816]⟩] ⟨2, ![M, 5632]⟩ 1)

/-- Side by side: an entry of the first half. -/
theorem cat_lo (n : Fin M) (k : Fin 2816) :
    concatenate ⟨2, ![M, 5632]⟩ 1 [⟨⟨2, ![M, 2816]⟩, x⟩, ⟨⟨2, ![M, 2816]⟩, y⟩] h (ix2 n (lo k)) = x (ix2 n k) :=
  concatenate_pair_apply_left _ x y h _ rfl (ix2 n k) fun b => by
    match b with
    | ⟨0, _⟩ => rfl
    | ⟨1, _⟩ => rfl

/-- Side by side: an entry of the second half. -/
theorem cat_hi (n : Fin M) (k : Fin 2816) :
    concatenate ⟨2, ![M, 5632]⟩ 1 [⟨⟨2, ![M, 2816]⟩, x⟩, ⟨⟨2, ![M, 2816]⟩, y⟩] h (ix2 n (hi k)) = y (ix2 n k) :=
  concatenate_pair_apply_right _ x y h _ rfl rfl (ix2 n k) (fun b => by
    match b with
    | ⟨0, _⟩ => exact fun _ => rfl
    | ⟨1, _⟩ => exact fun hb => absurd rfl hb) (by show k.val + 2816 = 2816 + k.val; omega)

end

section
variable {α : Type} {M : ℕ} (x : (⟨2, ![M, 5632]⟩ : Shape).Idx → α)

/-- The first half of the columns, at an entry. -/
theorem cut_lo (h : (⟨2, ![M, 5632]⟩ : Shape).Slices ![0, 0] ⟨2, ![M, 2816]⟩) (n : Fin M) (k : Fin 2816) :
    extractStridedSlice ⟨2, ![M, 2816]⟩ ![0, 0] x h (ix2 n k) = x (ix2 n (lo k)) :=
  extractStridedSlice_apply _ x h _ _ fun a => by
    match a with
    | ⟨0, _⟩ => show n.val = 0 + n.val; omega
    | ⟨1, _⟩ => show k.val = 0 + k.val; omega

/-- The second half of the columns, at an entry. -/
theorem cut_hi (h : (⟨2, ![M, 5632]⟩ : Shape).Slices ![0, 2816] ⟨2, ![M, 2816]⟩) (n : Fin M) (k : Fin 2816) :
    extractStridedSlice ⟨2, ![M, 2816]⟩ ![0, 2816] x h (ix2 n k) = x (ix2 n (hi k)) :=
  extractStridedSlice_apply _ x h _ _ fun a => by
    match a with
    | ⟨0, _⟩ => show n.val = 0 + n.val; omega
    | ⟨1, _⟩ => rfl

end

end Cert.MM

end

end
-- ==== Proof.Ffn.lean ====
module

public import proofs.«01_k».proof.Proof.Cols
public import Idealize.ShloMosaic.Lib.KernelVsHost
public import Idealize.ShloMosaic.Lib.IdealHost

@[expose] public section

set_option maxRecDepth 16384

noncomputable section

/-! The gated activation behind a causal convolution of three taps, entry by entry. -/

namespace Cert.Ffn

open Idealize.ShloMosaic Idealize.ShloMosaic.ValueIdx
open scoped BigOperators

/-- The entry `s` rows above, zero over the first row. -/
def past (s : ℕ) (u : Fin 4096 → EReal) (t : Fin 4096) : EReal := if s ≤ t.val then u ⟨t.val - s, by have := t.isLt; omega⟩ else 0

/-- The convolution at a row and a column. -/
def conv (u : Fin 4096 → Fin 5632 → EReal) (w : Fin 3 → Fin 5632 → EReal) (b : Fin 5632 → EReal) (t : Fin 4096) (e : Fin 5632) : EReal :=
  b e + w 2 e * u t e + w 0 e * past 2 (fun t => u t e) t + w 1 e * past 1 (fun t => u t e) t

/-- The activation at a row and a column. -/
def act (u : Fin 4096 → Fin 5632 → EReal) (w : Fin 3 → Fin 5632 → EReal) (b : Fin 5632 → EReal) (t : Fin 4096) (k : Fin 2816) : EReal :=
  conv u w b t (MM.lo k) * Ideal.logistic (conv u w b t (MM.lo k)) * conv u w b t (MM.hi k)

section
variable (z : FVec Ideal ⟨2, ![8, 256]⟩ .f32) (hz : ∀ i, z i = (0 : EReal)) (x : FVec Ideal ⟨2, ![4096, 256]⟩ .f32)
  (hc : Shape.Concatenates [(⟨2, ![8, 256]⟩ : Shape), ⟨2, ![4096, 256]⟩] ⟨2, ![4104, 256]⟩ 0)
  (hr : (⟨2, ![4104, 256]⟩ : Shape).Rotates 0 none) (hs : (⟨2, ![4104, 256]⟩ : Shape).Slices ![8, 0] ⟨2, ![4096, 256]⟩)

/-- Eight rows of zeros over the rows. -/
abbrev padded : FVec Ideal ⟨2, ![4104, 256]⟩ .f32 := concatenate ⟨2, ![4104, 256]⟩ 0 [⟨⟨2, ![8, 256]⟩, z⟩, ⟨⟨2, ![4096, 256]⟩, x⟩] hc

theorem padded_lo (r : Fin 4104) (q : Fin 256) (h : r.val < 8) : (padded z x hc (ix2 r q) : EReal) = z (ix2 ⟨r.val, h⟩ q) :=
  concatenate_pair_apply_left _ z x hc _ rfl (ix2 ⟨r.val, h⟩ q) fun b => by
    match b with
    | ⟨0, _⟩ => rfl
    | ⟨1, _⟩ => rfl

theorem padded_hi (r : Fin 4104) (q : Fin 256) (t : Fin 4096) (h : t.val + 8 = r.val) : (padded z x hc (ix2 r q) : EReal) = x (ix2 t q) :=
  concatenate_pair_apply_right _ z x hc _ rfl rfl (ix2 t q) (fun b => by
    match b with
    | ⟨0, _⟩ => exact fun hb => absurd rfl hb
    | ⟨1, _⟩ => exact fun _ => rfl) h

/-- The rows themselves, cut off again. -/
theorem cut_zero (t : Fin 4096) (q : Fin 256) :
    (extractStridedSlice ⟨2, ![4096, 256]⟩ ![8, 0] (padded z x hc) hs (ix2 t q) : EReal) = x (ix2 t q) := by
  refine (extractStridedSlice_apply _ _ hs _ (ix2 (⟨8 + t.val, by have := t.isLt; omega⟩ : Fin 4104) q) fun a => ?_).trans
    (padded_hi z x hc _ q t (by show t.val + 8 = 8 + t.val; omega))
  match a with
  | ⟨0, _⟩ => rfl
  | ⟨1, _⟩ => show q.val = 0 + q.val; omega

include hz in
/-- The rows turned down by `s`, cut off: the entries `s` rows above. -/
theorem cut_past (s : ℕ) (sb : BitVec 32) (hsb : sb.toNat = s) (h2 : s ≤ 2) (t : Fin 4096) (q : Fin 256) :
    (extractStridedSlice ⟨2, ![4096, 256]⟩ ![8, 0] (dynamicRotate 0 sb none (padded z x hc) hr) hs (ix2 t q) : EReal)
      = past s (fun t => x (ix2 t q)) t := by
  have ht := t.isLt
  refine (extractStridedSlice_apply _ _ hs _ (ix2 (⟨8 + t.val, by omega⟩ : Fin 4104) q) fun a => ?_).trans ?_
  · match a with
    | ⟨0, _⟩ => rfl
    | ⟨1, _⟩ => show q.val = 0 + q.val; omega
  refine (dynamicRotate_apply (0 : Fin 2) sb _ hr _ (ix2 (⟨8 + t.val - s, by omega⟩ : Fin 4104) q) fun b => ?_).trans ?_
  · match b with
    | ⟨0, _⟩ => show 8 + t.val - s = (8 + t.val + 4104 - sb.toNat % 4104) % 4104; rw [hsb]; omega
    | ⟨1, _⟩ => rfl
  unfold past
  by_cases h : s ≤ t.val
  · rw [if_pos h]
    exact padded_hi z x hc _ q _ (by show t.val - s + 8 = 8 + t.val - s; omega)
  · rw [if_neg h, padded_lo z x hc _ q (by show 8 + t.val - s < 8; omega), hz]

end

end Cert.Ffn

end

end
-- ==== Proof.Act2.lean ====
module

public import proofs.«01_k».proof.Proof.Gen.Kernel2Ideal.Frame
public import proofs.«01_k».proof.Proof.Ffn
public import Idealize.ShloMosaic.Lib.Pipeline.Value
public import Idealize.ShloMosaic.Lib.ValueLayout
public import Idealize.ShloMosaic.Lib.Pipeline.ValueKit.Tiles

@[expose] public section

set_option maxRecDepth 16384

noncomputable section

/-! The activation between the two projections, entry by entry of the array it leaves. -/

namespace Cert.Kernel2Ideal.Prod

open Idealize.ShloMosaic Idealize.ShloMosaic.ValueIdx Idealize.ShloMosaic.TcCoe Cert.Kernel2Ideal Cert.Kernel2Ideal.Gen
open Idealize.ShloMosaic.Pipeline (Dat)
open Cert.Ffn
open scoped BigOperators

/-- The grid point of a block of columns. -/
def pt1 (j : Fin 11) : Fin cfg1.N := ⟨j.val, by have := j.isLt; show _ < 11; omega⟩

theorem ix1_0 : ∀ j : Fin 11, win1_0.index (pt1 j) 0 = 0 ∧ win1_0.index (pt1 j) 1 = j.val := by decide +kernel
theorem ix1_2 : ∀ j : Fin 11, win1_2.index (pt1 j) 0 = 0 ∧ win1_2.index (pt1 j) 1 = 11 + j.val := by decide +kernel
theorem ix1_4 : ∀ j : Fin 11, win1_4.index (pt1 j) 0 = 0 ∧ win1_4.index (pt1 j) 1 = j.val := by decide +kernel
theorem ix1_5 : ∀ j : Fin 11, win1_5.index (pt1 j) 0 = 0 ∧ win1_5.index (pt1 j) 1 = 11 + j.val := by decide +kernel
theorem ix1_6 : ∀ j : Fin 11, win1_6.index (pt1 j) 0 = 0 ∧ win1_6.index (pt1 j) 1 = j.val := by decide +kernel
theorem ix1_7 : ∀ j : Fin 11, win1_7.index (pt1 j) 0 = 0 ∧ win1_7.index (pt1 j) 1 = 11 + j.val := by decide +kernel
theorem ix1_8 : ∀ j : Fin 11, win1_8.index (pt1 j) 0 = 0 ∧ win1_8.index (pt1 j) 1 = j.val := by decide +kernel
theorem co1 : ∀ j : Fin 11, (grid1.coords (pt1 j) 1).val = 0 := by decide +kernel
theorem fl1 : ∀ t : Fin cfg1.N, (cfg1.win 8).flush t = true := by decide +kernel
theorem dj1 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne
    ((by decide +kernel : ∀ t t' : Fin grid1.N, win1_8.index t = win1_8.index t' → t = t') t t' h)

/-- The convolution of a block at an entry, from the loads. -/
def cv (x : FVec Ideal S4096x256 .f32) (b w0 w1 w2 : EReal) (t : Fin 4096) (q : Fin 256) : EReal :=
  b + w2 * x (ix2 t q) + w0 * past 2 (fun t => x (ix2 t q)) t + w1 * past 1 (fun t => x (ix2 t q)) t

/-- The zeros over the first row. -/
theorem zeros (i : grid1.Coords) (h : (i 1).val = 0) (y : FVec Ideal S8x256 .f32) :
    Scalar.select (Scalar.cmpi .eq (BitVec.ofNat 32 (i 1).val) 0#32) (broadcast S8x256 (Scalar.ofBits .f32 0x00000000#32 : Ideal .f32)) y = fun _ => (0 : EReal) := by
  rw [h]
  refine (select_one _ _).trans (funext fun _ => Ideal.ofBits_zero_f32)

/-- The gate's convolution. -/
theorem pay2_1 (i : grid1.Coords) (h : (i 1).val = 0) (v1 : Vec Ideal S8x256 .f32) (v5 : Vec Ideal S4096x256 .f32) (v8 v10 v16 v22 : Vec Ideal S1x256 .f32) (t : Fin 4096) (q : Fin 256) :
    ((k1_pay2 i v1 v5 v8 v10 v16 v22 : FVec Ideal S4096x256 .f32) (ix2 t q) : EReal)
      = cv v5 (v8 (ix2 0 q)) (v16 (ix2 0 q)) (v22 (ix2 0 q)) (v10 (ix2 0 q)) t q := by
  unfold k1_pay2
  simp only [shapeCast_self]
  rw [zeros i h]
  rw [show shapeCast S4096x256 v5 shapeCasts_S4096x256_S4096x256 = v5 from shapeCast_self _ _]
  refine congrArg₂ (fun a b : EReal => a + b) (congrArg₂ (fun a b : EReal => a + b) (congrArg₂ (fun a b : EReal => a + b) ?_
    (congrArg₂ (fun a b : EReal => a * b) ?_ ?_)) (congrArg₂ (fun a b : EReal => a * b) ?_ ?_)) (congrArg₂ (fun a b : EReal => a * b) ?_ ?_)
  · exact broadcastTo_1b_ab_apply _ _ t q
  · exact broadcastTo_1b_ab_apply _ _ t q
  · exact cut_zero _ v5 _ _ t q
  · exact broadcastTo_1b_ab_apply _ _ t q
  · exact cut_past _ (fun _ => rfl) v5 _ _ _ 2 2#32 rfl (by decide) t q
  · exact broadcastTo_1b_ab_apply _ _ t q
  · exact cut_past _ (fun _ => rfl) v5 _ _ _ 1 1#32 rfl (by decide) t q

/-- The stored block at an entry. -/
theorem pay1_1 (i : grid1.Coords) (h : (i 1).val = 0) (g : FVec Ideal S4096x256 .f32) (v28 : Vec Ideal S8x256 .f32) (v32 : Vec Ideal S4096x256 .f32)
    (v35 v37 v43 v49 : Vec Ideal S1x256 .f32) (t : Fin 4096) (q : Fin 256) :
    ((k1_pay1 g (k1_pay3 i v28 v32) v35 v37 v43 v49 : FVec Ideal S4096x256 .bf16) (ix2 t q) : EReal)
      = (g (ix2 t q) : EReal) * Ideal.logistic (g (ix2 t q)) * cv v32 (v35 (ix2 0 q)) (v43 (ix2 0 q)) (v49 (ix2 0 q)) (v37 (ix2 0 q)) t q := by
  unfold k1_pay1 k1_pay3
  simp only [shapeCast_self]
  rw [zeros i h]
  rw [show shapeCast S4096x256 v32 shapeCasts_S4096x256_S4096x256 = v32 from shapeCast_self _ _]
  refine congrArg (fun z : EReal => (g (ix2 t q) : EReal) * Ideal.logistic (g (ix2 t q)) * z) ?_
  refine congrArg₂ (fun a b : EReal => a + b) (congrArg₂ (fun a b : EReal => a + b) (congrArg₂ (fun a b : EReal => a + b) ?_
    (congrArg₂ (fun a b : EReal => a * b) ?_ ?_)) (congrArg₂ (fun a b : EReal => a * b) ?_ ?_)) (congrArg₂ (fun a b : EReal => a * b) ?_ ?_)
  · exact broadcastTo_1b_ab_apply _ _ t q
  · exact broadcastTo_1b_ab_apply _ _ t q
  · exact cut_zero _ v32 _ _ t q
  · exact broadcastTo_1b_ab_apply _ _ t q
  · exact cut_past _ (fun _ => rfl) v32 _ _ _ 2 2#32 rfl (by decide) t q
  · exact broadcastTo_1b_ab_apply _ _ t q
  · exact cut_past _ (fun _ => rfl) v32 _ _ _ 1 1#32 rfl (by decide) t q

section
variable (V : (c : Dev nD) → (b : Ref sig .tc) → Buf (Elt Ideal) ((c : Thread nD τ).loc b)) (c : Dev nD)

theorem ib1_0 (j : Fin 11) (p : Fin 4096) (q : Fin 256) (e : Fin 5632) (he : e.val = 256 * j.val + q.val) :
    (iblk1 V c 0 (pt1 j) : FVec Ideal S4096x256 .f32) (ix2 p q) = (V c main_v2 : FVec Ideal S4096x5632 .f32) (ix2 p e) := by
  unfold iblk1
  rw [View.read_apply]
  show V c main_v2 _ = V c main_v2 _
  congr 1
  funext x
  apply Fin.ext
  match x with
  | ⟨0, _⟩ => show win1_0.index (pt1 j) 0 * 4096 + 1 * p.val = p.val; rw [(ix1_0 j).1]; omega
  | ⟨1, _⟩ => show win1_0.index (pt1 j) 1 * 256 + 1 * q.val = e.val; rw [(ix1_0 j).2]; omega

theorem ib1_2 (j : Fin 11) (p : Fin 4096) (q : Fin 256) (e : Fin 5632) (he : e.val = 2816 + (256 * j.val + q.val)) :
    (iblk1 V c 2 (pt1 j) : FVec Ideal S4096x256 .f32) (ix2 p q) = (V c main_v2 : FVec Ideal S4096x5632 .f32) (ix2 p e) := by
  unfold iblk1
  rw [View.read_apply]
  show V c main_v2 _ = V c main_v2 _
  congr 1
  funext x
  apply Fin.ext
  match x with
  | ⟨0, _⟩ => show win1_2.index (pt1 j) 0 * 4096 + 1 * p.val = p.val; rw [(ix1_2 j).1]; omega
  | ⟨1, _⟩ => show win1_2.index (pt1 j) 1 * 256 + 1 * q.val = e.val; rw [(ix1_2 j).2]; omega

theorem ib1_4 (j : Fin 11) (p : Fin 3) (q : Fin 256) (e : Fin 5632) (he : e.val = 256 * j.val + q.val) :
    (iblk1 V c 4 (pt1 j) : FVec Ideal S3x256 .f32) (ix2 p q) = (V c main_arg2 : FVec Ideal S3x5632 .f32) (ix2 p e) := by
  unfold iblk1
  rw [View.read_apply]
  show V c main_arg2 _ = V c main_arg2 _
  congr 1
  funext x
  apply Fin.ext
  match x with
  | ⟨0, _⟩ => show win1_4.index (pt1 j) 0 * 3 + 1 * p.val = p.val; rw [(ix1_4 j).1]; omega
  | ⟨1, _⟩ => show win1_4.index (pt1 j) 1 * 256 + 1 * q.val = e.val; rw [(ix1_4 j).2]; omega

theorem ib1_5 (j : Fin 11) (p : Fin 3) (q : Fin 256) (e : Fin 5632) (he : e.val = 2816 + (256 * j.val + q.val)) :
    (iblk1 V c 5 (pt1 j) : FVec Ideal S3x256 .f32) (ix2 p q) = (V c main_arg2 : FVec Ideal S3x5632 .f32) (ix2 p e) := by
  unfold iblk1
  rw [View.read_apply]
  show V c main_arg2 _ = V c main_arg2 _
  congr 1
  funext x
  apply Fin.ext
  match x with
  | ⟨0, _⟩ => show win1_5.index (pt1 j) 0 * 3 + 1 * p.val = p.val; rw [(ix1_5 j).1]; omega
  | ⟨1, _⟩ => show win1_5.index (pt1 j) 1 * 256 + 1 * q.val = e.val; rw [(ix1_5 j).2]; omega

theorem ib1_6 (j : Fin 11) (p : Fin 1) (q : Fin 256) (e : Fin 5632) (he : e.val = 256 * j.val + q.val) :
    (iblk1 V c 6 (pt1 j) : FVec Ideal S1x256 .f32) (ix2 p q) = (V c main_v3 : FVec Ideal S1x5632 .f32) (ix2 p e) := by
  unfold iblk1
  rw [View.read_apply]
  show V c main_v3 _ = V c main_v3 _
  congr 1
  funext x
  apply Fin.ext
  match x with
  | ⟨0, _⟩ => show win1_6.index (pt1 j) 0 * 1 + 1 * p.val = p.val; rw [(ix1_6 j).1]; omega
  | ⟨1, _⟩ => show win1_6.index (pt1 j) 1 * 256 + 1 * q.val = e.val; rw [(ix1_6 j).2]; omega

theorem ib1_7 (j : Fin 11) (p : Fin 1) (q : Fin 256) (e : Fin 5632) (he : e.val = 2816 + (256 * j.val + q.val)) :
    (iblk1 V c 7 (pt1 j) : FVec Ideal S1x256 .f32) (ix2 p q) = (V c main_v3 : FVec Ideal S1x5632 .f32) (ix2 p e) := by
  unfold iblk1
  rw [View.read_apply]
  show V c main_v3 _ = V c main_v3 _
  congr 1
  funext x
  apply Fin.ext
  match x with
  | ⟨0, _⟩ => show win1_7.index (pt1 j) 0 * 1 + 1 * p.val = p.val; rw [(ix1_7 j).1]; omega
  | ⟨1, _⟩ => show win1_7.index (pt1 j) 1 * 256 + 1 * q.val = e.val; rw [(ix1_7 j).2]; omega

theorem at1 (j : Fin 11) (t : Fin 4096) (q : Fin 256) (e : Fin 2816) (he : e.val = 256 * j.val + q.val) :
    ((dat1 V c).arrAt 8 cfg1.N : FVec Ideal S4096x2816 .bf16) (ix2 t e)
      = (out1_8 (grid1.coords (pt1 j)) (iblk1 V c 0 (pt1 j)) (iblk1 V c 1 (pt1 j)) (iblk1 V c 2 (pt1 j)) (iblk1 V c 3 (pt1 j)) (iblk1 V c 4 (pt1 j)) (iblk1 V c 5 (pt1 j)) (iblk1 V c 6 (pt1 j)) (iblk1 V c 7 (pt1 j)) : FVec Ideal S4096x256 .bf16) (ix2 t q) := by
  have hb := congrFun ((dat1 V c).read_blk_arrAt_eq_flushed 8 dj1 cfg1.N (pt1 j) (pt1 j).isLt (fl1 _)) (ix2 t q : S4096x256.Idx)
  rw [View.read_apply] at hb
  refine Eq.trans ?_ (hb.trans ?_)
  · show ((dat1 V c).arrAt 8 cfg1.N : FVec Ideal S4096x2816 .bf16) _ = ((dat1 V c).arrAt 8 cfg1.N : FVec Ideal S4096x2816 .bf16) _
    congr 1
    funext x
    apply Fin.ext
    match x with
    | ⟨0, _⟩ => show t.val = win1_8.index (pt1 j) 0 * 4096 + 1 * t.val; rw [(ix1_8 j).1]; omega
    | ⟨1, _⟩ => show e.val = win1_8.index (pt1 j) 1 * 256 + 1 * q.val; rw [(ix1_8 j).2]; omega
  · show (cfg1.win 8).cut (grid1.coords (pt1 j)) ((dat1 V c).after 8 (pt1 j)) (ix2 t q : S4096x256.Idx) = _
    rw [after1_8]; rfl

/-- A load of one row of the taps. -/
theorem row (x : FVec Ideal S3x256 .f32) (s : Fin 3) (off : Fin 2 → ℕ) (h0 : off 0 = s.val) (h1 : off 1 = 0) (inb) (q : Fin 256) :
    View.ld (Val := Elt Ideal) (e' := .f32) x (Rect.unit (s := S3x256) off S1x256.size inb) (ix2 (0 : Fin 1) q : S1x256.Idx) = x (ix2 s q) :=
  View.ld_unit_apply_of (Val := Elt Ideal) (e := .f32) x off S1x256.size inb (ix2 (0 : Fin 1) q : S1x256.Idx) (ix2 s q) fun a => by
    match a with
    | ⟨0, _⟩ => show s.val = off 0 + 0; omega
    | ⟨1, _⟩ => show q.val = off 1 + q.val; omega

/-- The array the activation leaves, from the arrays it finds. -/
theorem prod1 (t : Fin 4096) (k : Fin 2816) :
    ((dat1 V c).arrAt 8 cfg1.N : FVec Ideal S4096x2816 .bf16) (ix2 t k)
      = act (fun t e => MM.ent 4096 5632 .f32 (V c main_v2) t e) (fun s e => MM.ent 3 5632 .f32 (V c main_arg2) s e) (fun e => MM.ent 1 5632 .f32 (V c main_v3) 0 e) t k := by
  obtain ⟨j, q, he⟩ : ∃ (j : Fin 11) (q : Fin 256), k.val = 256 * j.val + q.val :=
    ⟨⟨k.val / 256, by have := k.isLt; omega⟩, ⟨k.val % 256, by omega⟩, by simp only; omega⟩
  have hl : (MM.lo k).val = 256 * j.val + q.val := he
  have hh : (MM.hi k).val = 2816 + (256 * j.val + q.val) := by show 2816 + k.val = _; omega
  rw [at1 V c j t q k he]
  unfold out1_8
  rw [View.canon_unit_zero (S := S4096x256) (by decide) inb_S4096x256_S4096x256_0_0 _]
  refine (pay1_1 _ (co1 j) _ _ _ _ _ _ _ t q).trans ?_
  rw [pay2_1 _ (co1 j)]
  rw [View.ld_unit_zero (S := S4096x256) (by decide) inb_S4096x256_S4096x256_0_0, View.ld_unit_zero (S := S4096x256) (by decide) inb_S4096x256_S4096x256_0_0,
    View.ld_unit_zero (S := S1x256) (by decide) inb_S1x256_S1x256_0_0, View.ld_unit_zero (S := S1x256) (by decide) inb_S1x256_S1x256_0_0]
  have g : ∀ (x : FVec Ideal S4096x256 .f32) (b w0 w1 w2 : EReal) (e : Fin 5632)
      (_ : ∀ t, x (ix2 t q) = MM.ent 4096 5632 .f32 (V c main_v2) t e) (_ : b = MM.ent 1 5632 .f32 (V c main_v3) 0 e)
      (_ : w0 = MM.ent 3 5632 .f32 (V c main_arg2) 0 e) (_ : w1 = MM.ent 3 5632 .f32 (V c main_arg2) 1 e) (_ : w2 = MM.ent 3 5632 .f32 (V c main_arg2) 2 e),
      cv x b w0 w1 w2 t q = conv (fun t e => MM.ent 4096 5632 .f32 (V c main_v2) t e) (fun s e => MM.ent 3 5632 .f32 (V c main_arg2) s e) (fun e => MM.ent 1 5632 .f32 (V c main_v3) 0 e) t e := by
    intro x b w0 w1 w2 e hx hb h0 h1 h2
    unfold cv conv
    rw [hb, h0, h1, h2, hx t, show (fun t => (x (ix2 t q) : EReal)) = fun t => MM.ent 4096 5632 .f32 (V c main_v2) t e from funext hx]
  unfold act
  rw [g _ _ _ _ _ (MM.lo k) (fun t => ib1_0 V c j t q _ hl) (ib1_6 V c j 0 q _ hl)
      ((row _ 0 _ rfl rfl _ q).trans (ib1_4 V c j 0 q _ hl)) ((row _ 1 _ rfl rfl _ q).trans (ib1_4 V c j 1 q _ hl)) ((row _ 2 _ rfl rfl _ q).trans (ib1_4 V c j 2 q _ hl)),
    g _ _ _ _ _ (MM.hi k) (fun t => ib1_2 V c j t q _ hh) (ib1_7 V c j 0 q _ hh)
      ((row _ 0 _ rfl rfl _ q).trans (ib1_5 V c j 0 q _ hh)) ((row _ 1 _ rfl rfl _ q).trans (ib1_5 V c j 1 q _ hh)) ((row _ 2 _ rfl rfl _ q).trans (ib1_5 V c j 2 q _ hh))]

end

end Cert.Kernel2Ideal.Prod

end

end
-- ==== Proof.Val2.lean ====
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Prod2
public import proofs.«01_k».proof.Proof.MMBlk
public import Idealize.ShloMosaic.Adequacy
public import Idealize.ShloMosaic.Init
public import proofs.«01_k».proof.Proof.Act2

@[expose] public section

set_option maxRecDepth 16384

noncomputable section

/-! The calls and their reference end with equal results. -/

namespace Cert.Kernel2Ideal.Prod

open Idealize.ShloMosaic Idealize.ShloMosaic.ValueIdx Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      (r.2.mem ((c.tc : Thread nD τ).loc main_v6) = W6 m ρ c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end

section
variable (m : (ℓ : Loc nD τ sig) → Buf (Elt Ideal) ℓ) (ρ : Dev nD → PrngReg) (c : Dev nD)

/-- The argument 0. -/
abbrev x0 : FVec Ideal S4096x1024 .f32 := m ((c : Thread nD τ).loc main_arg0)
/-- The argument 1. -/
abbrev x1 : FVec Ideal S1024x5632 .f32 := m ((c : Thread nD τ).loc main_arg1)
/-- The argument 2. -/
abbrev x2 : FVec Ideal S3x5632 .f32 := m ((c : Thread nD τ).loc main_arg2)
/-- The argument 3. -/
abbrev x3 : FVec Ideal S5632 .f32 := m ((c : Thread nD τ).loc main_arg3)
/-- The argument 4. -/
abbrev x4 : FVec Ideal S2816x1024 .f32 := m ((c : Thread nD τ).loc main_arg4)
/-- The argument 5. -/
abbrev x5 : FVec Ideal S4096x1024 .f32 := m ((c : Thread nD τ).loc main_arg5)

theorem rd0_0 : (V1 m ρ c main_v0 : FVec Ideal S4096x1024 .bf16) = x0 m c := rfl
theorem rd0_1 : (V1 m ρ c main_v1 : FVec Ideal S1024x5632 .bf16) = x1 m c := rfl
-- TODO rd2_0 main_v4 ('reg', 1, 4) steps ['W5_of m ρ c main_v4 (by decide)']
theorem rd2_1 : (V5 m ρ c main_v5 : FVec Ideal S2816x1024 .bf16) = x4 m c := ((show W5 m ρ c main_v5 = W4 m ρ c main_arg4 from rfl)).trans ((W4_of m ρ c main_arg4 (by decide)).trans ((W3_of m ρ c main_arg4 (by decide)).trans ((W2_of m ρ c main_arg4 (by decide)).trans ((W1_of m ρ c main_arg4 (by decide)).trans (rfl)))))
theorem rd2_2 : (V5 m ρ c main_arg5 : FVec Ideal S4096x1024 .f32) = x5 m c := (W5_of m ρ c main_arg5 (by decide)).trans ((W4_of m ρ c main_arg5 (by decide)).trans ((W3_of m ρ c main_arg5 (by decide)).trans ((W2_of m ρ c main_arg5 (by decide)).trans ((W1_of m ρ c main_arg5 (by decide)).trans (rfl)))))

/-- The bias, as a row. -/
theorem bias (e : Fin 5632) : MM.ent 1 5632 .f32 (V3 m ρ c main_v3) 0 e = x3 m c (ix1 e) := by
  have e1 : (V3 m ρ c main_v3 : FVec Ideal S1x5632 .f32) = shapeCast S1x5632 (W2 m ρ c main_arg3 : FVec Ideal S5632 .f32) shapeCasts_S5632_S1x5632 := rfl
  have e2 : (W2 m ρ c main_arg3 : FVec Ideal S5632 .f32) = x3 m c := (W2_of m ρ c main_arg3 (by decide)).trans ((W1_of m ρ c main_arg3 (by decide)).trans rfl)
  refine (congrFun e1 (ix2 0 e)).trans ((shapeCast_apply _ _ _ (ix1 e) ?_).trans (congrFun e2 _))
  rw [Shape.rowMajor_val_two, Shape.rowMajor_val_one]
  show e.val = 0 * 5632 + e.val
  omega

/-- What the activation finds. -/
theorem rd1_u (t : Fin 4096) (e : Fin 5632) : MM.ent 4096 5632 .f32 (V3 m ρ c main_v2) t e = MM.sumNN 4096 1024 5632 .f32 .f32 (x0 m c) (x1 m c) t e := by
  have h : (V3 m ρ c main_v2 : FVec Ideal S4096x5632 .f32) = ((dat0 (V1 m ρ) c).arrAt 2 cfg0.N : FVec Ideal S4096x5632 .f32) := (W3_of m ρ c main_v2 (by decide)).trans (W2_arr m ρ c 2)
  refine (congrFun h (ix2 t e)).trans ((prod0 (V1 m ρ) c t e).trans ?_)
  rw [rd0_0, rd0_1]

theorem rd1_w : (V3 m ρ c main_arg2 : FVec Ideal S3x5632 .f32) = x2 m c := (W3_of m ρ c main_arg2 (by decide)).trans ((W2_of m ρ c main_arg2 (by decide)).trans ((W1_of m ρ c main_arg2 (by decide)).trans rfl))

/-- The activation, from the arguments. -/
theorem rd2_act (t : Fin 4096) (k : Fin 2816) : MM.ent 4096 2816 .bf16 (V5 m ρ c main_v4) t k = Ffn.act (fun t e => MM.sumNN 4096 1024 5632 .f32 .f32 (x0 m c) (x1 m c) t e) (fun s e => MM.ent 3 5632 .f32 (x2 m c) s e) (fun e => x3 m c (ix1 e)) t k := by
  have h : (V5 m ρ c main_v4 : FVec Ideal S4096x2816 .bf16) = ((dat1 (V3 m ρ) c).arrAt 8 cfg1.N : FVec Ideal S4096x2816 .bf16) := (W5_of m ρ c main_v4 (by decide)).trans (W4_arr m ρ c 8)
  refine (congrFun h (ix2 t k)).trans ((prod1 (V3 m ρ) c t k).trans ?_)
  rw [rd1_w, show (fun t e => MM.ent 4096 5632 .f32 (V3 m ρ c main_v2) t e) = _ from funext fun t => funext fun e => rd1_u m ρ c t e,
    show (fun e => MM.ent 1 5632 .f32 (V3 m ρ c main_v3) 0 e) = _ from funext fun e => bias m ρ c e]

/-- What the forward part leaves, from the arguments. -/
theorem ker_main_v6 (n : Fin 4096) (e : Fin 1024) : MM.ent 4096 1024 .f32 (W6 m ρ c main_v6) n e
    = (∑ k : Fin 2816, Ffn.act (fun t e => MM.sumNN 4096 1024 5632 .f32 .f32 (x0 m c) (x1 m c) t e) (fun s e => MM.ent 3 5632 .f32 (x2 m c) s e) (fun e => x3 m c (ix1 e)) n k * MM.ent 2816 1024 .f32 (x4 m c) k e) + MM.ent 4096 1024 .f32 (x5 m c) n e := by
  have h : (W6 m ρ c main_v6 : FVec Ideal S4096x1024 .f32) = ((dat2 (V5 m ρ) c).arrAt 3 cfg2.N : FVec Ideal S4096x1024 .f32) := W6_arr m ρ c 3
  refine (congrFun h (ix2 n e)).trans ((prod2 (V5 m ρ) c n e).trans ?_)
  rw [rd2_2]
  exact congrArg (fun z : EReal => z + MM.ent 4096 1024 .f32 (x5 m c) n e) (MM.sums (fun k => rd2_act m ρ c n k) (fun k => congrFun (rd2_1 m ρ c) _))

end

end Cert.Kernel2Ideal.Prod

namespace Cert.Reference2Ideal.Prod

open Idealize.ShloMosaic Idealize.ShloMosaic.ValueIdx Idealize.ShloMosaic.TcCoe Cert.Reference2Ideal Cert.Reference2Ideal.Gen Cert.Reference2Ideal.Read
open scoped BigOperators

/-- The first product at an entry. -/
theorem up_ (x0 : FVec Ideal S4096x1024 .f32) (x1 : FVec Ideal S1024x5632 .f32) (t : Fin 4096) (e : Fin 5632) :
    (val_main_v0 (F := Ideal) x0 x1 (ix2 t e) : EReal) = MM.sumNN 4096 1024 5632 .f32 .f32 x0 x1 t e :=
  (val_main_v0_apply x0 x1 (ix2 t e)).trans (MM.sums (fun k => congrArg x0 (funext fun a => by match a with | ⟨0, _⟩ => rfl | ⟨1, _⟩ => rfl)) (fun k => congrArg x1 (funext fun a => by match a with | ⟨0, _⟩ => rfl | ⟨1, _⟩ => rfl)))

/-- The tap 0 at a column. -/
theorem tap0 (x2 : FVec Ideal S3x5632 .f32) (t : Fin 4096) (e : Fin 5632) : (val_main_v7 (F := Ideal) x2 (ix2 t e) : EReal) = MM.ent 3 5632 .f32 x2 0 e := by
  rw [val_main_v7_apply, val_main_v6_apply, val_main_v5_apply, val_main_v4_apply]
  exact congrArg x2 (funext fun a => by
    match a with
    | ⟨0, _⟩ => rfl
    | ⟨1, _⟩ => exact Fin.ext (Nat.mod_eq_of_lt e.isLt))

/-- The tap 1 at a column. -/
theorem tap1 (x2 : FVec Ideal S3x5632 .f32) (t : Fin 4096) (e : Fin 5632) : (val_main_v16 (F := Ideal) x2 (ix2 t e) : EReal) = MM.ent 3 5632 .f32 x2 1 e := by
  rw [val_main_v16_apply, val_main_v15_apply, val_main_v14_apply, val_main_v13_apply]
  exact congrArg x2 (funext fun a => by
    match a with
    | ⟨0, _⟩ => rfl
    | ⟨1, _⟩ => exact Fin.ext (Nat.mod_eq_of_lt e.isLt))

/-- The tap 2 at a column. -/
theorem tap2 (x2 : FVec Ideal S3x5632 .f32) (t : Fin 4096) (e : Fin 5632) : (val_main_v23 (F := Ideal) x2 (ix2 t e) : EReal) = MM.ent 3 5632 .f32 x2 2 e := by
  rw [val_main_v23_apply, val_main_v22_apply, val_main_v21_apply, val_main_v20_apply]
  exact congrArg x2 (funext fun a => by
    match a with
    | ⟨0, _⟩ => rfl
    | ⟨1, _⟩ => exact Fin.ext (Nat.mod_eq_of_lt e.isLt))

/-- The bias at a column. -/
theorem bias (x3 : FVec Ideal S5632 .f32) (t : Fin 4096) (e : Fin 5632) : (val_main_v10 (F := Ideal) x3 (ix2 t e) : EReal) = x3 (ix1 e) := by
  rw [val_main_v10_apply, val_main_v9_apply]
  exact congrArg x3 (funext fun a => by match a with | ⟨0, _⟩ => rfl)

/-- The padded rows, `s` over the row: the entry `s` rows above. -/
theorem above (x0 : FVec Ideal S4096x1024 .f32) (x1 : FVec Ideal S1024x5632 .f32) (s : ℕ) (hs : s ≤ 2) (t : Fin 4096) (e : Fin 5632) (r : Fin 4098) (hr : r.val = 2 - s + t.val) :
    (val_main_v2 (F := Ideal) x0 x1 (ix2 r e) : EReal) = Ffn.past s (fun t => MM.sumNN 4096 1024 5632 .f32 .f32 x0 x1 t e) t := by
  have ht := t.isLt
  unfold val_main_v2 Ffn.past
  by_cases h : s ≤ t.val
  · rw [if_pos h]
    refine (concatenate_pair_apply_right (t := S4098x5632) (s₁ := S2x5632) (s₂ := S4096x5632) 0 _ _ _ (ix2 r e) rfl rfl (ix2 (⟨t.val - s, by omega⟩ : Fin 4096) e) (fun b => ?_) ?_).trans (up_ x0 x1 _ e)
    · match b with
      | ⟨0, _⟩ => exact fun hb => absurd rfl hb
      | ⟨1, _⟩ => exact fun _ => rfl
    · show t.val - s + 2 = r.val; omega
  · rw [if_neg h]
    refine (concatenate_pair_apply_left (t := S4098x5632) (s₁ := S2x5632) (s₂ := S4096x5632) 0 _ _ _ (ix2 r e) rfl (ix2 (⟨r.val, by omega⟩ : Fin 2) e) (fun b => ?_)).trans ?_
    · match b with
      | ⟨0, _⟩ => rfl
      | ⟨1, _⟩ => rfl
    · rw [val_main_v1_apply, val_main_cst_apply]
      exact Ideal.ofBits_zero_f32

section
variable (x0 : FVec Ideal S4096x1024 .f32) (x1 : FVec Ideal S1024x5632 .f32) (x2 : FVec Ideal S3x5632 .f32) (x3 : FVec Ideal S5632 .f32)

/-- The convolution at an entry. -/
theorem conv_ (t : Fin 4096) (e : Fin 5632) : (val_main_v25 (F := Ideal) x0 x1 x2 x3 (ix2 t e) : EReal) = Ffn.conv (fun t e => MM.sumNN 4096 1024 5632 .f32 .f32 x0 x1 t e) (fun s e => MM.ent 3 5632 .f32 x2 s e) (fun e => x3 (ix1 e)) t e := by
  have ht := t.isLt
  rw [val_main_v25_apply, val_main_v18_apply, val_main_v11_apply, val_main_v24_apply, val_main_v17_apply, val_main_v8_apply,
    val_main_v3_apply, val_main_v12_apply, val_main_v19_apply]
  show ((val_main_v10 (F := Ideal) x3 (ix2 t e) : EReal) + val_main_v2 (F := Ideal) x0 x1 (idx_main_v3 (ix2 t e)) * val_main_v7 (F := Ideal) x2 (ix2 t e)
      + val_main_v2 (F := Ideal) x0 x1 (idx_main_v12 (ix2 t e)) * val_main_v16 (F := Ideal) x2 (ix2 t e)
      + val_main_v2 (F := Ideal) x0 x1 (idx_main_v19 (ix2 t e)) * val_main_v23 (F := Ideal) x2 (ix2 t e) : EReal) = _
  have a2 : (val_main_v2 (F := Ideal) x0 x1 (idx_main_v3 (ix2 t e)) : EReal) = _ :=
    (congrArg (val_main_v2 (F := Ideal) x0 x1) (funext fun a => by match a with | ⟨0, _⟩ => rfl | ⟨1, _⟩ => rfl)).trans (above x0 x1 2 (by decide) t e ⟨t.val, by omega⟩ (by show t.val = 2 - 2 + t.val; omega))
  have a1 : (val_main_v2 (F := Ideal) x0 x1 (idx_main_v12 (ix2 t e)) : EReal) = _ :=
    (congrArg (val_main_v2 (F := Ideal) x0 x1) (funext fun a => by match a with | ⟨0, _⟩ => rfl | ⟨1, _⟩ => rfl)).trans (above x0 x1 1 (by decide) t e ⟨1 + t.val, by omega⟩ rfl)
  have a0 : (val_main_v2 (F := Ideal) x0 x1 (idx_main_v19 (ix2 t e)) : EReal) = _ :=
    (congrArg (val_main_v2 (F := Ideal) x0 x1) (funext fun a => by match a with | ⟨0, _⟩ => rfl | ⟨1, _⟩ => rfl)).trans (above x0 x1 0 (by decide) t e ⟨2 + t.val, by omega⟩ rfl)
  have p0 : Ffn.past 0 (fun t => MM.sumNN 4096 1024 5632 .f32 .f32 x0 x1 t e) t = MM.sumNN 4096 1024 5632 .f32 .f32 x0 x1 t e := if_pos (Nat.zero_le _)
  rw [a2, a1, a0, p0, bias, tap0, tap1, tap2]
  unfold Ffn.conv
  rw [mul_comm (MM.ent 3 5632 .f32 x2 2 e), mul_comm (MM.ent 3 5632 .f32 x2 0 e), mul_comm (MM.ent 3 5632 .f32 x2 1 e)]
  exact (add_right_comm _ _ _).trans ((congrArg (fun z : EReal => z + _) (add_right_comm _ _ _)).trans (add_right_comm _ _ _)) |>.trans (add_right_comm _ _ _)

/-- The activation at an entry. -/
theorem act_ (t : Fin 4096) (k : Fin 2816) : (val_main_v29 (F := Ideal) x0 x1 x2 x3 (ix2 t k) : EReal) = Ffn.act (fun t e => MM.sumNN 4096 1024 5632 .f32 .f32 x0 x1 t e) (fun s e => MM.ent 3 5632 .f32 x2 s e) (fun e => x3 (ix1 e)) t k := by
  have g : (val_main_v26 (F := Ideal) x0 x1 x2 x3 (ix2 t k) : EReal) = Ffn.conv (fun t e => MM.sumNN 4096 1024 5632 .f32 .f32 x0 x1 t e) (fun s e => MM.ent 3 5632 .f32 x2 s e) (fun e => x3 (ix1 e)) t (MM.lo k) :=
    (val_main_v26_apply (F := Ideal) x0 x1 x2 x3 (ix2 t k)).trans ((congrArg (val_main_v25 (F := Ideal) x0 x1 x2 x3) (funext fun a => by match a with | ⟨0, _⟩ => rfl | ⟨1, _⟩ => rfl)).trans (conv_ x0 x1 x2 x3 t (MM.lo k)))
  have v : (val_main_v27 (F := Ideal) x0 x1 x2 x3 (ix2 t k) : EReal) = Ffn.conv (fun t e => MM.sumNN 4096 1024 5632 .f32 .f32 x0 x1 t e) (fun s e => MM.ent 3 5632 .f32 x2 s e) (fun e => x3 (ix1 e)) t (MM.hi k) :=
    (val_main_v27_apply (F := Ideal) x0 x1 x2 x3 (ix2 t k)).trans ((congrArg (val_main_v25 (F := Ideal) x0 x1 x2 x3) (funext fun a => by match a with | ⟨0, _⟩ => rfl | ⟨1, _⟩ => rfl)).trans (conv_ x0 x1 x2 x3 t (MM.hi k)))
  have l : (val_main_call0_v5 (F := Ideal) x0 x1 x2 x3 (ix2 t k) : EReal) = Ideal.logistic (val_main_v26 (F := Ideal) x0 x1 x2 x3 (ix2 t k)) := by
    rw [val_main_call0_v5_apply, val_main_call0_v4_apply, val_main_call0_cst_0_apply, val_main_call0_v3_apply, val_main_call0_v2_apply, val_main_call0_cst_apply, val_main_call0_v1_apply, val_main_call0_v0_apply]
    show Ideal.div (Ideal.ofBits .f32 0x3F800000#32) (Ideal.ofBits .f32 0x3F800000#32 + Ideal.exp (-(val_main_v26 (F := Ideal) x0 x1 x2 x3 (ix2 t k)))) = _
    rw [Ideal.ofBits_one_f32]
    rfl
  rw [val_main_v29_apply, val_main_v28_apply]
  show (val_main_v26 (F := Ideal) x0 x1 x2 x3 (ix2 t k) : EReal) * val_main_call0_v5 (F := Ideal) x0 x1 x2 x3 (ix2 t k) * val_main_v27 (F := Ideal) x0 x1 x2 x3 (ix2 t k) = _
  rw [l, g, v]
  rfl

/-- The reference's result at an entry. -/
theorem ref_main_v31 (x4 : FVec Ideal S2816x1024 .f32) (x5 : FVec Ideal S4096x1024 .f32) (n : Fin 4096) (e : Fin 1024) :
    MM.ent 4096 1024 .f32 (val_main_v31 (F := Ideal) x0 x1 x2 x3 x4 x5) n e
      = (∑ k : Fin 2816, Ffn.act (fun t e => MM.sumNN 4096 1024 5632 .f32 .f32 x0 x1 t e) (fun s e => MM.ent 3 5632 .f32 x2 s e) (fun e => x3 (ix1 e)) n k * MM.ent 2816 1024 .f32 x4 k e) + MM.ent 4096 1024 .f32 x5 n e := by
  refine (add_comm (MM.ent 4096 1024 .f32 x5 n e) (MM.ent 4096 1024 .f32 (val_main_v30 (F := Ideal) x0 x1 x2 x3 x4) n e)).trans ?_
  refine congrArg (fun z : EReal => z + MM.ent 4096 1024 .f32 x5 n e) ?_
  refine (val_main_v30_apply x0 x1 x2 x3 x4 (ix2 n e)).trans ?_
  exact MM.sums (fun k => (congrArg (val_main_v29 (F := Ideal) x0 x1 x2 x3) (funext fun a => by match a with | ⟨0, _⟩ => rfl | ⟨1, _⟩ => rfl)).trans (act_ x0 x1 x2 x3 n k)) (fun k => congrArg x4 (funext fun a => by match a with | ⟨0, _⟩ => rfl | ⟨1, _⟩ => rfl))

end

end Cert.Reference2Ideal.Prod

namespace Cert.Prod2

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

section
variable (m : (ℓ : Loc Cert.Kernel2Ideal.nD Cert.Kernel2Ideal.τ Cert.Kernel2Ideal.sig) → Buf (Elt Ideal) ℓ) (ρ : Dev Cert.Kernel2Ideal.nD → PrngReg) (c : Dev Cert.Kernel2Ideal.nD)
open Cert.Kernel2Ideal.Prod

/-- The kernel's result 6 is the reference's. -/
theorem agree_main_v6 : (Cert.Reference2Ideal.Read.val_main_v31 (F := Ideal) (x0 m c) (x1 m c) (x2 m c) (x3 m c) (x4 m c) (x5 m c) : FVec Ideal ⟨2, ![4096, 1024]⟩ .f32) = Cert.Kernel2Ideal.Gen.W6 m ρ c Cert.Kernel2Ideal.main_v6 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference2Ideal.Prod.ref_main_v31 _ _ _ _ _ _ n e).trans (Cert.Kernel2Ideal.Prod.ker_main_v6 m ρ c n e).symm

end

/-- The kernel and the reference end with equal results. -/
theorem value : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Gen.W6 m ρ c Cert.Kernel2Ideal.main_v6,
    (θ_run Cert.Kernel2Ideal.defs _ _).mono (fun _ h c => ⟨(h c).1, (h c).2⟩) (Cert.Kernel2Ideal.Prod.run (F := Ideal) m ρ),
    (θ_run Cert.Reference2Ideal.defs _ _).mono (fun _ h c => by
      obtain ⟨g0, g1, g2, g3, g4, g5⟩ := hag c
      obtain ⟨r0, rest⟩ := h c
      refine ⟨r0.trans ?_, rest⟩
      · rw [Cert.Reference2Ideal.Read.val_main_v31_eq, g0, g1, g2, g3, g4, g5]; exact agree_main_v6 m ρ c)
      (Cert.Reference2Ideal.Value.run (F := Ideal) m' ρ')⟩

end Cert.Prod2

end

end
-- ==== Proof.Prod3.lean ====
module

public import proofs.«01_k».proof.Proof.Gen.Kernel3Ideal.Frame
public import proofs.«01_k».proof.Proof.MMBlk
public import Idealize.ShloMosaic.Lib.Pipeline.Value
public import Idealize.ShloMosaic.Lib.ValueLayout
public import Idealize.ShloMosaic.Lib.Pipeline.ValueKit.Tiles

@[expose] public section

set_option maxRecDepth 16384

noncomputable section

/-! The gradient of the weight of the down projection: the blocks of rows are summed in the scratch. -/

namespace Cert.Kernel3Ideal.Prod

open Idealize.ShloMosaic Idealize.ShloMosaic.ValueIdx Idealize.ShloMosaic.TcCoe Cert.Kernel3Ideal Cert.Kernel3Ideal.Gen
open Idealize.ShloMosaic.Pipeline (Dat)
open scoped BigOperators

/-- The grid point of a block of the result and a block of rows. -/
def pt (i : Fin 2) (k : Fin 4) : Fin cfg0.N := ⟨4 * i.val + k.val, by have := i.isLt; have := k.isLt; show _ < 8; omega⟩

theorem ix0 : ∀ (i : Fin 2) (k : Fin 4), win0_0.index (pt i k) 0 = k.val ∧ win0_0.index (pt i k) 1 = i.val := by decide +kernel
theorem ix1 : ∀ (i : Fin 2) (k : Fin 4), win0_1.index (pt i k) 0 = k.val ∧ win0_1.index (pt i k) 1 = 0 := by decide +kernel
theorem ix2' : ∀ (i : Fin 2) (k : Fin 4), win0_2.index (pt i k) 0 = i.val ∧ win0_2.index (pt i k) 1 = 0 := by decide +kernel
theorem fl : ∀ i : Fin 2, (cfg0.win 2).flush (pt i 3) = true := by decide +kernel
theorem dj : ∀ t t' : Fin cfg0.N, (cfg0.win 2).flush t = true → (cfg0.win 2).flush t' = true → t ≠ t' →
    Disjoint ((cfg0.win 2).blk t).view.set ((cfg0.win 2).blk t').view.set :=
  fun t t' h h' hne => (cfg0.win 2).disjoint_blk fun e => hne
    ((by decide +kernel : ∀ t t' : Fin grid0.N, (cfg0.win 2).flush t = true → (cfg0.win 2).flush t' = true → win0_2.index t = win0_2.index t' → t = t') t t' h h' e)

/-- The product of two blocks of rows at an entry. -/
theorem pay1 (x0 : Vec Ideal S1024x1408 .bf16) (x1 : Vec Ideal S1024x1024 .f32) (a : Fin 1408) (b : Fin 1024) :
    (k0_pay1 x0 x1 : FVec Ideal S1408x1024 .f32) (ix2 a b) = (∑ d : Fin 1024, x0 (ix2 d a) * x1 (ix2 d b)) := by
  unfold k0_pay1
  simp only [shapeCast_self]
  exact MM.tn (φ₁ := .bf16) (φ₂ := .f32) x0 x1 a b

section
variable (m : (ℓ : Loc nD τ sig) → Buf (Elt Ideal) ℓ) (ρ : Dev nD → PrngReg) (c : Dev nD)

/-- What the first point of a block leaves in the scratch. -/
theorem scrA (t : Fin cfg0.N) (h0 : t.val % 4 = 0) : (outsAt0 m c t.val t.isLt).2 = k0_pay1 (iblk m c 0 t) (iblk m c 1 t) := by
  refine (congrArg Prod.snd (outsAt0_A m c t h0 (by omega) (by omega))).trans ?_
  dsimp only
  unfold sout0_A_0
  rw [View.read_writes_eq_canon _ _ _ (scover0_A_0 c _ _ _ _ _ _ _ _ _ _ _ _ _ _)]
  unfold kernelRun0_A
  refine (View.canon_unit_zero (S := S1408x1024) (by decide) inb_S1408x1024_S1408x1024_0_0 _).trans ?_
  rw [MM.ld_whole _ _ (by decide), MM.ld_whole _ _ (by decide)]
  unfold k0_pay2
  exact shapeCast_self _ _

/-- What a middle point leaves in the scratch. -/
theorem scrB (t : Fin cfg0.N) (h1 : 1 ≤ t.val % 4 ∧ t.val % 4 ≤ 2) :
    (outsAt0 m c t.val t.isLt).2 = addf (outsAt0 m c (t.val - 1) (Nat.lt_of_le_of_lt (Nat.sub_le _ _) t.isLt)).2 (k0_pay1 (iblk m c 0 t) (iblk m c 1 t)) := by
  refine (congrArg Prod.snd (outsAt0_B m c t (by omega) h1 (by omega))).trans ?_
  dsimp only
  unfold sout0_B_0
  rw [View.read_writes_eq_canon _ _ _ (scover0_B_0 c _ _ _ _ _ _ _ _ _ _ _ _ _ _ _)]
  unfold kernelRun0_B
  refine (View.canon_unit_zero (S := S1408x1024) (by decide) inb_S1408x1024_S1408x1024_0_0 _).trans ?_
  rw [MM.ld_whole _ _ (by decide), MM.ld_whole _ _ (by decide), MM.ld_whole _ _ (by decide)]
  unfold k0_pay3
  exact shapeCast_self _ _

/-- What the last point stores. -/
theorem outL (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  refine (congrArg Prod.fst (outsAt0_C m c t (by omega) (by omega) h)).trans ?_
  dsimp only
  unfold out0_C_2
  rw [View.read_writes_eq_canon _ _ _ (cover0_C_2 c _ _ _ _ _ _ _ _ _ _ _ _ _ _ _)]
  unfold kernelRun0_C
  refine (View.canon_unit_zero (S := S1408x1024) (by decide) inb_S1408x1024_S1408x1024_0_0 _).trans ?_
  rw [MM.ld_whole _ _ (by decide), MM.ld_whole _ _ (by decide), MM.ld_whole _ _ (by decide)]

theorem ib0 (i : Fin 2) (k : Fin 4) (p : Fin 1024) (q : Fin 1408) (n : Fin 4096) (e : Fin 2816) (hn : n.val = 1024 * k.val + p.val) (he : e.val = 1408 * i.val + q.val) :
    (iblk m c 0 (pt i k) : FVec Ideal S1024x1408 .bf16) (ix2 p q) = (V m c main_v0 : FVec Ideal S4096x2816 .bf16) (ix2 n e) := by
  unfold iblk
  rw [View.read_apply]
  show V m c main_v0 _ = V m c main_v0 _
  congr 1
  funext x
  apply Fin.ext
  match x with
  | ⟨0, _⟩ => show win0_0.index (pt i k) 0 * 1024 + 1 * p.val = n.val; rw [(ix0 i k).1]; omega
  | ⟨1, _⟩ => show win0_0.index (pt i k) 1 * 1408 + 1 * q.val = e.val; rw [(ix0 i k).2]; omega

theorem ib1 (i : Fin 2) (k : Fin 4) (p : Fin 1024) (q : Fin 1024) (n : Fin 4096) (hn : n.val = 1024 * k.val + p.val) :
    (iblk m c 1 (pt i k) : FVec Ideal S1024x1024 .f32) (ix2 p q) = (V m c main_arg1 : FVec Ideal S4096x1024 .f32) (ix2 n q) := by
  unfold iblk
  rw [View.read_apply]
  show V m c main_arg1 _ = V m c main_arg1 _
  congr 1
  funext x
  apply Fin.ext
  match x with
  | ⟨0, _⟩ => show win0_1.index (pt i k) 0 * 1024 + 1 * p.val = n.val; rw [(ix1 i k).1]; omega
  | ⟨1, _⟩ => show win0_1.index (pt i k) 1 * 1024 + 1 * q.val = q.val; rw [(ix1 i k).2]; omega

theorem at_ (i : Fin 2) (p : Fin 1408) (q : Fin 1024) (n : Fin 2816) (hn : n.val = 1408 * i.val + p.val) :
    ((dats m 0 c).arrAt 2 cfg0.N : FVec Ideal S2816x1024 .bf16) (ix2 n q) = (outsAt0 m c (pt i 3).val (pt i 3).isLt).1 (ix2 p q) := by
  have hb := congrFun ((dats m 0 c).read_blk_arrAt_eq_flushed 2 dj cfg0.N (pt i 3) (pt i 3).isLt (fl _)) (ix2 p q : S1408x1024.Idx)
  rw [View.read_apply] at hb
  refine Eq.trans ?_ (hb.trans ?_)
  · show ((dats m 0 c).arrAt 2 cfg0.N : FVec Ideal S2816x1024 .bf16) _ = ((dats m 0 c).arrAt 2 cfg0.N : FVec Ideal S2816x1024 .bf16) _
    congr 1
    funext x
    apply Fin.ext
    match x with
    | ⟨0, _⟩ => show n.val = win0_2.index (pt i 3) 0 * 1408 + 1 * p.val; rw [(ix2' i 3).1]; omega
    | ⟨1, _⟩ => show q.val = win0_2.index (pt i 3) 1 * 1024 + 1 * q.val; rw [(ix2' i 3).2]; omega
  · show (cfg0.win 2).cut (grid0.coords (pt i 3)) ((dats m 0 c).after 2 (pt i 3)) (ix2 p q : S1408x1024.Idx) = _
    rw [after0_2]; rfl

/-- The product of one block of rows, from the whole arrays. -/
theorem part (i : Fin 2) (k : Fin 4) (p : Fin 1408) (q : Fin 1024) (n : Fin 2816) (hn : n.val = 1408 * i.val + p.val) :
    (k0_pay1 (iblk m c 0 (pt i k)) (iblk m c 1 (pt i k)) : FVec Ideal S1408x1024 .f32) (ix2 p q)
      = ∑ d : Fin 1024, MM.ent 4096 2816 .bf16 (V m c main_v0) (MM.blk 4 1024 4096 rfl k d) n * MM.ent 4096 1024 .f32 (V m c main_arg1) (MM.blk 4 1024 4096 rfl k d) q := by
  rw [pay1]
  exact MM.sums (fun d => ib0 m c i k d p _ n rfl hn) (fun d => ib1 m c i k d q _ rfl)

/-- The array left, as the product of the arrays found. -/
theorem prod (n : Fin 2816) (q : Fin 1024) :
    ((dats m 0 c).arrAt 2 cfg0.N : FVec Ideal S2816x1024 .bf16) (ix2 n q) = MM.sumTN 2816 4096 1024 .bf16 .f32 (V m c main_v0) (V m c main_arg1) n q := by
  obtain ⟨i, p, hn⟩ := MM.split 2 1408 rfl n
  rw [at_ m c i p q n hn, outL m c (pt i 3) (by show (4 * i.val + 3) % 4 = 3; omega)]
  refine Eq.trans ?_ (MM.sum_blk 4 1024 4096 rfl (fun d => MM.ent 4096 2816 .bf16 (V m c main_v0) d n * MM.ent 4096 1024 .f32 (V m c main_arg1) d q)).symm
  have e2 : (outsAt0 m c ((pt i 3).val - 1) (Nat.lt_of_le_of_lt (Nat.sub_le _ _) (pt i 3).isLt)).2 = addf (outsAt0 m c ((pt i 2).val - 1) (Nat.lt_of_le_of_lt (Nat.sub_le _ _) (pt i 2).isLt)).2 (k0_pay1 (iblk m c 0 (pt i 2)) (iblk m c 1 (pt i 2))) :=
    scrB m c (pt i 2) ⟨by show 1 ≤ (4 * i.val + 2) % 4; omega, by show (4 * i.val + 2) % 4 ≤ 2; omega⟩
  have e1 : (outsAt0 m c ((pt i 2).val - 1) (Nat.lt_of_le_of_lt (Nat.sub_le _ _) (pt i 2).isLt)).2 = addf (outsAt0 m c ((pt i 1).val - 1) (Nat.lt_of_le_of_lt (Nat.sub_le _ _) (pt i 1).isLt)).2 (k0_pay1 (iblk m c 0 (pt i 1)) (iblk m c 1 (pt i 1))) :=
    scrB m c (pt i 1) ⟨by show 1 ≤ (4 * i.val + 1) % 4; omega, by show (4 * i.val + 1) % 4 ≤ 2; omega⟩
  have e0 : (outsAt0 m c ((pt i 1).val - 1) (Nat.lt_of_le_of_lt (Nat.sub_le _ _) (pt i 1).isLt)).2 = k0_pay1 (iblk m c 0 (pt i 0)) (iblk m c 1 (pt i 0)) :=
    scrA m c (pt i 0) (by show (4 * i.val + 0) % 4 = 0; omega)
  rw [e2, e1, e0]
  have h0 := part m c i 0 p q n hn
  have h1 := part m c i 1 p q n hn
  have h2 := part m c i 2 p q n hn
  have h3 := part m c i 3 p q n hn
  rw [Fin.sum_univ_four, ← h0, ← h1, ← h2, ← h3]
  rfl

/-- The rows the call takes are the argument's. -/
theorem V0 : (V m c main_v0 : FVec Ideal S4096x2816 .bf16) = (m ((c : Thread nD τ).loc main_arg0) : FVec Ideal S4096x2816 .f32) := by
  show StableHlo.after hostOps0 (fun b => m (c, b)) main_v0 = _
  rfl

theorem V1 : (V m c main_arg1 : FVec Ideal S4096x1024 .f32) = (m ((c : Thread nD τ).loc main_arg1) : FVec Ideal S4096x1024 .f32) := V_main_arg1 m c

/-- The run leaves the product of the arguments in the result, and the arguments as they were. -/
theorem run : θ_run (defs (F := Ideal)) (onTc (τ := τ) (main (F := Ideal))) ⟨m, fun _ => 0, ρ⟩ (fun r => ∀ c : Dev nD,
      (∀ (n : Fin 2816) (q : Fin 1024), (r.2.mem ((c.tc : Thread nD τ).loc main_v1) : FVec Ideal S2816x1024 .bf16) (ix2 n q)
        = MM.sumTN 2816 4096 1024 .f32 .f32 (m ((c : Thread nD τ).loc main_arg0)) (m ((c : Thread nD τ).loc main_arg1)) n q)) :=
  (θ_run defs _ _).mono (fun r h c n q => by
    have e : (r.2.mem ((c.tc : Thread nD τ).loc main_v1) : FVec Ideal S2816x1024 .bf16) = ((dats m 0 c).arrAt 2 cfg0.N : FVec Ideal S2816x1024 .bf16) := (h c).1 2
    rw [e, prod m c n q, V0 m c]
    rw [V1 m c]) (run_main m ρ)

end

end Cert.Kernel3Ideal.Prod

end

end
-- ==== Proof.Val3.lean ====
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Prod3
public import proofs.«01_k».proof.Proof.MMBlk
public import Idealize.ShloMosaic.Adequacy
public import Idealize.ShloMosaic.Init

@[expose] public section

set_option maxRecDepth 16384

noncomputable section

/-! The call and its reference end with equal results. -/

namespace Cert.Reference3Ideal.Prod

open Idealize.ShloMosaic Idealize.ShloMosaic.ValueIdx Idealize.ShloMosaic.TcCoe Cert.Reference3Ideal Cert.Reference3Ideal.Gen Cert.Reference3Ideal.Read
open scoped BigOperators

/-- The reference's result at an entry. -/
theorem ref_main_v5 (x0 : FVec Ideal S4096x2816 .f32) (x1 : FVec Ideal S4096x1024 .f32) (n : Fin 2816) (e : Fin 1024) : MM.ent 2816 1024 .bf16 (val_main_v5 (F := Ideal) x0 x1) n e = MM.sumTN 2816 4096 1024 .f32 .f32 x0 x1 n e := by
  show (val_main_v3 (F := Ideal) x0 x1 (ix2 n e) : EReal) = _
  refine (val_main_v3_apply (F := Ideal) x0 x1 (ix2 n e)).trans ?_
  refine (val_main_v2_apply x0 x1 _).trans ?_
  exact MM.sumsC (fun k => congrArg x1 (funext fun a => by match a with | ⟨0, _⟩ => rfl | ⟨1, _⟩ => rfl)) (fun k => congrArg x0 (funext fun a => by match a with | ⟨0, _⟩ => rfl | ⟨1, _⟩ => rfl))

end Cert.Reference3Ideal.Prod

namespace Cert.Kernel3Ideal.Prod

open Idealize.ShloMosaic Idealize.ShloMosaic.ValueIdx Idealize.ShloMosaic.TcCoe Cert.Kernel3Ideal Cert.Kernel3Ideal.Gen
open Idealize.SL.Sem

section
variable (m : (ℓ : Loc nD τ sig) → Buf (Elt Ideal) ℓ) (ρ : Dev nD → PrngReg) (c : Dev nD)

/-- The first argument. -/
abbrev x0 : FVec Ideal S4096x2816 .f32 := m ((c : Thread nD τ).loc main_arg0)
/-- The second argument. -/
abbrev x1 : FVec Ideal S4096x1024 .f32 := m ((c : Thread nD τ).loc main_arg1)

/-- What the call leaves, from the arguments. -/
theorem ker_main_v1 (n : Fin 2816) (e : Fin 1024) : MM.ent 2816 1024 .bf16 ((dats m 0 c).arrAt 2 cfg0.N) n e = MM.sumTN 2816 4096 1024 .f32 .f32 (x0 m c) (x1 m c) n e := by
  refine (prod m c n e).trans ?_
  rw [V0 m c]
  rw [V1 m c]

/-- The run: the result holds what the pipeline leaves and the arguments are unchanged. -/
theorem run' : θ_run (defs (F := Ideal)) (onTc (τ := τ) (main (F := Ideal))) ⟨m, fun _ => 0, ρ⟩ (fun r => ∀ c : Dev nD,
      r.2.mem ((c.tc : Thread nD τ).loc main_v1) = ((dats m 0 c).arrAt 2 cfg0.N : FVec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2 c⟩) (θ_run_and (run_main m ρ) (unchanged m ρ))

end

end Cert.Kernel3Ideal.Prod

namespace Cert.Prod3

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

section
variable (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD)
open Cert.Kernel3Ideal.Prod

/-- The kernel's result 1 is the reference's. -/
theorem agree_main_v1 : (Cert.Reference3Ideal.Read.val_main_v5 (F := Ideal) (x0 m c) (x1 m c) : FVec Ideal ⟨2, ![2816, 1024]⟩ .bf16) = ((Cert.Kernel3Ideal.Gen.dats m 0 c).arrAt 2 Cert.Kernel3Ideal.cfg0.N : FVec Ideal ⟨2, ![2816, 1024]⟩ .bf16) := funext fun i => by
  obtain ⟨n, e, rfl⟩ : ∃ (n : Fin 2816) (e : Fin 1024), i = ix2 n e := ⟨i 0, i 1, funext fun a => by match a with | ⟨0, _⟩ => rfl | ⟨1, _⟩ => rfl⟩
  exact (Cert.Reference3Ideal.Prod.ref_main_v5 _ _ n e).trans (Cert.Kernel3Ideal.Prod.ker_main_v1 m c n e).symm

end

/-- The kernel and the reference end with equal results. -/
theorem value : Cert.algebraic_Kernel3Ideal_Reference3Ideal (hKernel3Ideal := Cert.Kernel3Ideal.Gen.facts)
    (hReference3Ideal := Cert.Reference3Ideal.Gen.facts) := fun m ρ m' ρ' _ hag =>
  ⟨fun c => ((Cert.Kernel3Ideal.Gen.dats m 0 c).arrAt 2 Cert.Kernel3Ideal.cfg0.N : FVec Ideal ⟨2, ![2816, 1024]⟩ .bf16),
    (θ_run Cert.Kernel3Ideal.defs _ _).mono (fun _ h c => ⟨(h c).1, (h c).2⟩) (Cert.Kernel3Ideal.Prod.run' m ρ),
    (θ_run Cert.Reference3Ideal.defs _ _).mono (fun _ h c => by
      obtain ⟨g0, g1⟩ := hag c
      obtain ⟨r0, rest⟩ := h c
      refine ⟨r0.trans ?_, rest⟩
      · rw [Cert.Reference3Ideal.Read.val_main_v5_eq, g0, g1]; exact agree_main_v1 m c)
      (Cert.Reference3Ideal.Value.run (F := Ideal) m' ρ')⟩

end Cert.Prod3

end

end
-- ==== Proof.Prod4.lean ====
module

public import proofs.«01_k».proof.Proof.Gen.Kernel4Ideal.Frame
public import proofs.«01_k».proof.Proof.MM
public import Idealize.ShloMosaic.Lib.Pipeline.Value
public import Idealize.ShloMosaic.Lib.ValueLayout
public import Idealize.ShloMosaic.Lib.Pipeline.ValueKit.Tiles

@[expose] public section

set_option maxRecDepth 16384

noncomputable section

/-! The products of the calls, entry by entry of the arrays they leave. -/

namespace Cert.Kernel4Ideal.Prod

open Idealize.ShloMosaic Idealize.ShloMosaic.ValueIdx Idealize.ShloMosaic.TcCoe Cert.Kernel4Ideal Cert.Kernel4Ideal.Gen
open Idealize.ShloMosaic.Pipeline (Dat)
open scoped BigOperators

/-! ## Call 0 -/

/-- The grid point of a row block and a column block of call 0. -/
def pt0 (i : Fin 8) (j : Fin 1) : Fin cfg0.N := ⟨1 * i.val + j.val, by have := i.isLt; have := j.isLt; show _ < 8; omega⟩

theorem ix0_0 : ∀ (i : Fin 8) (j : Fin 1), win0_0.index (pt0 i j) 0 = i.val ∧ win0_0.index (pt0 i j) 1 = 0 := by decide +kernel
theorem ix0_1 : ∀ (i : Fin 8) (j : Fin 1), win0_1.index (pt0 i j) 0 = j.val ∧ win0_1.index (pt0 i j) 1 = 0 := by decide +kernel
theorem ix0_2 : ∀ (i : Fin 8) (j : Fin 1), win0_2.index (pt0 i j) 0 = i.val ∧ win0_2.index (pt0 i j) 1 = j.val := by decide +kernel
theorem fl0 : ∀ t : Fin cfg0.N, (cfg0.win 2).flush t = true := by decide +kernel
theorem dj0 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne
    ((by decide +kernel : ∀ t t' : Fin grid0.N, win0_2.index t = win0_2.index t' → t = t') t t' h)

/-- The stored block at an entry. -/
theorem pay0 (x0 : Vec Ideal S512x1024 .f32) (x1 : Vec Ideal S2816x1024 .bf16) (a : Fin 512) (b : Fin 2816) :
    (k0_pay1 x0 x1 : FVec Ideal S512x2816 .f32) (ix2 a b) = (∑ d : Fin 1024, x0 (ix2 a d) * x1 (ix2 b d)) := by
  unfold k0_pay1
  simp only [shapeCast_self]
  exact MM.nt (φ₁ := .bf16) (φ₂ := .bf16) x0 x1 a b

section
variable (V : (c : Dev nD) → (b : Ref sig .tc) → Buf (Elt Ideal) ((c : Thread nD τ).loc b)) (c : Dev nD)
/-- The block the body stores. -/
theorem outs0 (t : Fin cfg0.N) : outsAt0 V c t = k0_pay1 (iblk0 V c 0 t) (iblk0 V c 1 t) := by
  unfold outsAt0 out0_A_2
  rw [View.read_writes_eq_canon _ _ _ (cover0_A_2 c _ _ _ _ _ _ _ _ _ _ _ )]
  unfold kernelRun0_A
  refine (View.canon_unit_zero (S := S512x2816) (by decide) inb_S512x2816_S512x2816_0_0 _).trans ?_
  rw [MM.ld_whole _ _ (by decide), MM.ld_whole _ _ (by decide)]

theorem ib0_0 (i : Fin 8) (j : Fin 1) (p : Fin 512) (q : Fin 1024) (n : Fin 4096) (e : Fin 1024) (hn : n.val = 512 * i.val + p.val) (he : e.val = q.val) :
    (iblk0 V c 0 (pt0 i j) : FVec Ideal S512x1024 .f32) (ix2 p q) = (V c main_arg5 : FVec Ideal S4096x1024 .f32) (ix2 n e) := by
  refine (View.read_apply _ _).trans (congrArg (V c main_arg5) (MM.eq2 _ n e ?_ ?_))
  · show win0_0.index (pt0 i j) 0 * 512 + 1 * p.val = n.val; rw [(ix0_0 i j).1]; omega
  · show win0_0.index (pt0 i j) 1 * 1024 + 1 * q.val = e.val; rw [(ix0_0 i j).2]; omega

theorem ib0_1 (i : Fin 8) (j : Fin 1) (p : Fin 2816) (q : Fin 1024) (n : Fin 2816) (e : Fin 1024) (hn : n.val = 2816 * j.val + p.val) (he : e.val = q.val) :
    (iblk0 V c 1 (pt0 i j) : FVec Ideal S2816x1024 .bf16) (ix2 p q) = (V c main_v2 : FVec Ideal S2816x1024 .bf16) (ix2 n e) := by
  refine (View.read_apply _ _).trans (congrArg (V c main_v2) (MM.eq2 _ n e ?_ ?_))
  · show win0_1.index (pt0 i j) 0 * 2816 + 1 * p.val = n.val; rw [(ix0_1 i j).1]; omega
  · show win0_1.index (pt0 i j) 1 * 1024 + 1 * q.val = e.val; rw [(ix0_1 i j).2]; omega

theorem at0 (i : Fin 8) (j : Fin 1) (p : Fin 512) (q : Fin 2816) (n : Fin 4096) (e : Fin 2816) (hn : n.val = 512 * i.val + p.val) (he : e.val = 2816 * j.val + q.val) :
    ((dat0 V c).arrAt 2 cfg0.N : FVec Ideal S4096x2816 .f32) (ix2 n e) = (outsAt0 V c (pt0 i j)) (ix2 p q) := by
  have hb := congrFun ((dat0 V c).read_blk_arrAt_eq_flushed 2 dj0 cfg0.N (pt0 i j) (pt0 i j).isLt (fl0 _)) (ix2 p q : S512x2816.Idx)
  rw [View.read_apply] at hb
  refine Eq.trans ?_ (hb.trans ?_)
  · show ((dat0 V c).arrAt 2 cfg0.N : FVec Ideal S4096x2816 .f32) _ = ((dat0 V c).arrAt 2 cfg0.N : FVec Ideal S4096x2816 .f32) _
    congr 1
    funext x
    apply Fin.ext
    match x with
    | ⟨0, _⟩ => show n.val = win0_2.index (pt0 i j) 0 * 512 + 1 * p.val; rw [(ix0_2 i j).1]; omega
    | ⟨1, _⟩ => show e.val = win0_2.index (pt0 i j) 1 * 2816 + 1 * q.val; rw [(ix0_2 i j).2]; omega
  · show (cfg0.win 2).cut (grid0.coords (pt0 i j)) ((dat0 V c).after 2 (pt0 i j)) (ix2 p q : S512x2816.Idx) = _
    rw [after0_2]; rfl

/-- The array call 0 leaves, as the product of the arrays it finds. -/
theorem prod0 (n : Fin 4096) (e : Fin 2816) :
    ((dat0 V c).arrAt 2 cfg0.N : FVec Ideal S4096x2816 .f32) (ix2 n e)
      = MM.sumNT 4096 1024 2816 .f32 .bf16 (V c main_arg5) (V c main_v2) n e := by
  obtain ⟨i, p, hn⟩ := MM.split 8 512 rfl n
  obtain ⟨j, q, he⟩ := MM.split 1 2816 rfl e
  rw [at0 V c i j p q n e hn he, outs0, pay0]
  exact MM.sums (fun d => ib0_0 V c i j p d n d hn rfl) (fun d => ib0_1 V c i j q d e d he rfl)

/-! ## Call 1 -/

/-- The grid point of a row block and a column block of call 1. -/
def pt1 (i : Fin 4) (j : Fin 1) : Fin cfg1.N := ⟨1 * i.val + j.val, by have := i.isLt; have := j.isLt; show _ < 4; omega⟩

theorem ix1_0 : ∀ (i : Fin 4) (j : Fin 1), win1_0.index (pt1 i j) 0 = i.val ∧ win1_0.index (pt1 i j) 1 = 0 := by decide +kernel
theorem ix1_1 : ∀ (i : Fin 4) (j : Fin 1), win1_1.index (pt1 i j) 0 = j.val ∧ win1_1.index (pt1 i j) 1 = 0 := by decide +kernel
theorem ix1_2 : ∀ (i : Fin 4) (j : Fin 1), win1_2.index (pt1 i j) 0 = i.val ∧ win1_2.index (pt1 i j) 1 = j.val := by decide +kernel
theorem fl1 : ∀ t : Fin cfg1.N, (cfg1.win 2).flush t = true := by decide +kernel
theorem dj1 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne
    ((by decide +kernel : ∀ t t' : Fin grid1.N, win1_2.index t = win1_2.index t' → t = t') t t' h)

/-- The stored block at an entry. -/
theorem pay1 (x0 : Vec Ideal S1024x2816 .bf16) (x1 : Vec Ideal S1024x2816 .bf16) (a : Fin 1024) (b : Fin 1024) :
    (k1_pay1 x0 x1 : FVec Ideal S1024x1024 .f32) (ix2 a b) = (∑ d : Fin 2816, x0 (ix2 a d) * x1 (ix2 b d)) := by
  unfold k1_pay1
  simp only [shapeCast_self]
  exact MM.nt (φ₁ := .bf16) (φ₂ := .bf16) x0 x1 a b

/-- The block the body stores. -/
theorem outs1 (t : Fin cfg1.N) : outsAt1 V c t = k1_pay1 (iblk1 V c 0 t) (iblk1 V c 1 t) := by
  unfold outsAt1 out1_A_2
  rw [View.read_writes_eq_canon _ _ _ (cover1_A_2 c _ _ _ _ _ _ _ _ _ _ _ )]
  unfold kernelRun1_A
  refine (View.canon_unit_zero (S := S1024x1024) (by decide) inb_S1024x1024_S1024x1024_0_0 _).trans ?_
  rw [MM.ld_whole _ _ (by decide), MM.ld_whole _ _ (by decide)]

theorem ib1_0 (i : Fin 4) (j : Fin 1) (p : Fin 1024) (q : Fin 2816) (n : Fin 4096) (e : Fin 2816) (hn : n.val = 1024 * i.val + p.val) (he : e.val = q.val) :
    (iblk1 V c 0 (pt1 i j) : FVec Ideal S1024x2816 .bf16) (ix2 p q) = (V c main_v3 : FVec Ideal S4096x2816 .bf16) (ix2 n e) := by
  refine (View.read_apply _ _).trans (congrArg (V c main_v3) (MM.eq2 _ n e ?_ ?_))
  · show win1_0.index (pt1 i j) 0 * 1024 + 1 * p.val = n.val; rw [(ix1_0 i j).1]; omega
  · show win1_0.index (pt1 i j) 1 * 2816 + 1 * q.val = e.val; rw [(ix1_0 i j).2]; omega

theorem ib1_1 (i : Fin 4) (j : Fin 1) (p : Fin 1024) (q : Fin 2816) (n : Fin 1024) (e : Fin 2816) (hn : n.val = 1024 * j.val + p.val) (he : e.val = q.val) :
    (iblk1 V c 1 (pt1 i j) : FVec Ideal S1024x2816 .bf16) (ix2 p q) = (V c main_v7 : FVec Ideal S1024x2816 .bf16) (ix2 n e) := by
  refine (View.read_apply _ _).trans (congrArg (V c main_v7) (MM.eq2 _ n e ?_ ?_))
  · show win1_1.index (pt1 i j) 0 * 1024 + 1 * p.val = n.val; rw [(ix1_1 i j).1]; omega
  · show win1_1.index (pt1 i j) 1 * 2816 + 1 * q.val = e.val; rw [(ix1_1 i j).2]; omega

theorem at1 (i : Fin 4) (j : Fin 1) (p : Fin 1024) (q : Fin 1024) (n : Fin 4096) (e : Fin 1024) (hn : n.val = 1024 * i.val + p.val) (he : e.val = 1024 * j.val + q.val) :
    ((dat1 V c).arrAt 2 cfg1.N : FVec Ideal S4096x1024 .f32) (ix2 n e) = (outsAt1 V c (pt1 i j)) (ix2 p q) := by
  have hb := congrFun ((dat1 V c).read_blk_arrAt_eq_flushed 2 dj1 cfg1.N (pt1 i j) (pt1 i j).isLt (fl1 _)) (ix2 p q : S1024x1024.Idx)
  rw [View.read_apply] at hb
  refine Eq.trans ?_ (hb.trans ?_)
  · show ((dat1 V c).arrAt 2 cfg1.N : FVec Ideal S4096x1024 .f32) _ = ((dat1 V c).arrAt 2 cfg1.N : FVec Ideal S4096x1024 .f32) _
    congr 1
    funext x
    apply Fin.ext
    match x with
    | ⟨0, _⟩ => show n.val = win1_2.index (pt1 i j) 0 * 1024 + 1 * p.val; rw [(ix1_2 i j).1]; omega
    | ⟨1, _⟩ => show e.val = win1_2.index (pt1 i j) 1 * 1024 + 1 * q.val; rw [(ix1_2 i j).2]; omega
  · show (cfg1.win 2).cut (grid1.coords (pt1 i j)) ((dat1 V c).after 2 (pt1 i j)) (ix2 p q : S1024x1024.Idx) = _
    rw [after1_2]; rfl

/-- The array call 1 leaves, as the product of the arrays it finds. -/
theorem prod1 (n : Fin 4096) (e : Fin 1024) :
    ((dat1 V c).arrAt 2 cfg1.N : FVec Ideal S4096x1024 .f32) (ix2 n e)
      = MM.sumNT 4096 2816 1024 .bf16 .bf16 (V c main_v3) (V c main_v7) n e := by
  obtain ⟨i, p, hn⟩ := MM.split 4 1024 rfl n
  obtain ⟨j, q, he⟩ := MM.split 1 1024 rfl e
  rw [at1 V c i j p q n e hn he, outs1, pay1]
  exact MM.sums (fun d => ib1_0 V c i j p d n d hn rfl) (fun d => ib1_1 V c i j q d e d he rfl)

/-! ## Call 2 -/

/-- The grid point of a row block and a column block of call 2. -/
def pt2 (i : Fin 8) (j : Fin 1) : Fin cfg2.N := ⟨1 * i.val + j.val, by have := i.isLt; have := j.isLt; show _ < 8; omega⟩

theorem ix2_0 : ∀ (i : Fin 8) (j : Fin 1), win2_0.index (pt2 i j) 0 = i.val ∧ win2_0.index (pt2 i j) 1 = 0 := by decide +kernel
theorem ix2_1 : ∀ (i : Fin 8) (j : Fin 1), win2_1.index (pt2 i j) 0 = j.val ∧ win2_1.index (pt2 i j) 1 = 0 := by decide +kernel
theorem ix2_2 : ∀ (i : Fin 8) (j : Fin 1), win2_2.index (pt2 i j) 0 = i.val ∧ win2_2.index (pt2 i j) 1 = j.val := by decide +kernel
theorem ix2_3 : ∀ (i : Fin 8) (j : Fin 1), win2_3.index (pt2 i j) 0 = i.val ∧ win2_3.index (pt2 i j) 1 = j.val := by decide +kernel
theorem fl2 : ∀ t : Fin cfg2.N, (cfg2.win 3).flush t = true := by decide +kernel
theorem dj2 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne
    ((by decide +kernel : ∀ t t' : Fin grid2.N, win2_3.index t = win2_3.index t' → t = t') t t' h)

/-- The stored block at an entry. -/
theorem pay2 (x0 : Vec Ideal S512x2816 .bf16) (x1 : Vec Ideal S1024x2816 .bf16) (x2 : Vec Ideal S512x1024 .f32) (a : Fin 512) (b : Fin 1024) :
    (k2_pay1 x0 x1 x2 : FVec Ideal S512x1024 .f32) (ix2 a b) = (∑ d : Fin 2816, x0 (ix2 a d) * x1 (ix2 b d)) + x2 (ix2 a b) := by
  unfold k2_pay1
  simp only [shapeCast_self]
  exact congrArg (fun z : EReal => z + x2 (ix2 a b)) (MM.nt (φ₁ := .bf16) (φ₂ := .bf16) x0 x1 a b)

/-- The block the body stores. -/
theorem outs2 (t : Fin cfg2.N) : outsAt2 V c t = k2_pay1 (iblk2 V c 0 t) (iblk2 V c 1 t) (iblk2 V c 2 t) := by
  unfold outsAt2 out2_A_3
  rw [View.read_writes_eq_canon _ _ _ (cover2_A_3 c _ _ _ _ _ _ _ _ _ _ _ _ _ _ )]
  unfold kernelRun2_A
  refine (View.canon_unit_zero (S := S512x1024) (by decide) inb_S512x1024_S512x1024_0_0 _).trans ?_
  rw [MM.ld_whole _ _ (by decide), MM.ld_whole _ _ (by decide), MM.ld_whole _ _ (by decide)]

theorem ib2_0 (i : Fin 8) (j : Fin 1) (p : Fin 512) (q : Fin 2816) (n : Fin 4096) (e : Fin 2816) (hn : n.val = 512 * i.val + p.val) (he : e.val = q.val) :
    (iblk2 V c 0 (pt2 i j) : FVec Ideal S512x2816 .bf16) (ix2 p q) = (V c main_v4 : FVec Ideal S4096x2816 .bf16) (ix2 n e) := by
  refine (View.read_apply _ _).trans (congrArg (V c main_v4) (MM.eq2 _ n e ?_ ?_))
  · show win2_0.index (pt2 i j) 0 * 512 + 1 * p.val = n.val; rw [(ix2_0 i j).1]; omega
  · show win2_0.index (pt2 i j) 1 * 2816 + 1 * q.val = e.val; rw [(ix2_0 i j).2]; omega

theorem ib2_1 (i : Fin 8) (j : Fin 1) (p : Fin 1024) (q : Fin 2816) (n : Fin 1024) (e : Fin 2816) (hn : n.val = 1024 * j.val + p.val) (he : e.val = q.val) :
    (iblk2 V c 1 (pt2 i j) : FVec Ideal S1024x2816 .bf16) (ix2 p q) = (V c main_v6 : FVec Ideal S1024x2816 .bf16) (ix2 n e) := by
  refine (View.read_apply _ _).trans (congrArg (V c main_v6) (MM.eq2 _ n e ?_ ?_))
  · show win2_1.index (pt2 i j) 0 * 1024 + 1 * p.val = n.val; rw [(ix2_1 i j).1]; omega
  · show win2_1.index (pt2 i j) 1 * 2816 + 1 * q.val = e.val; rw [(ix2_1 i j).2]; omega

theorem ib2_2 (i : Fin 8) (j : Fin 1) (p : Fin 512) (q : Fin 1024) (n : Fin 4096) (e : Fin 1024) (hn : n.val = 512 * i.val + p.val) (he : e.val = 1024 * j.val + q.val) :
    (iblk2 V c 2 (pt2 i j) : FVec Ideal S512x1024 .f32) (ix2 p q) = (V c main_v8 : FVec Ideal S4096x1024 .f32) (ix2 n e) := by
  refine (View.read_apply _ _).trans (congrArg (V c main_v8) (MM.eq2 _ n e ?_ ?_))
  · show win2_2.index (pt2 i j) 0 * 512 + 1 * p.val = n.val; rw [(ix2_2 i j).1]; omega
  · show win2_2.index (pt2 i j) 1 * 1024 + 1 * q.val = e.val; rw [(ix2_2 i j).2]; omega

theorem at2 (i : Fin 8) (j : Fin 1) (p : Fin 512) (q : Fin 1024) (n : Fin 4096) (e : Fin 1024) (hn : n.val = 512 * i.val + p.val) (he : e.val = 1024 * j.val + q.val) :
    ((dat2 V c).arrAt 3 cfg2.N : FVec Ideal S4096x1024 .f32) (ix2 n e) = (outsAt2 V c (pt2 i j)) (ix2 p q) := by
  have hb := congrFun ((dat2 V c).read_blk_arrAt_eq_flushed 3 dj2 cfg2.N (pt2 i j) (pt2 i j).isLt (fl2 _)) (ix2 p q : S512x1024.Idx)
  rw [View.read_apply] at hb
  refine Eq.trans ?_ (hb.trans ?_)
  · show ((dat2 V c).arrAt 3 cfg2.N : FVec Ideal S4096x1024 .f32) _ = ((dat2 V c).arrAt 3 cfg2.N : FVec Ideal S4096x1024 .f32) _
    congr 1
    funext x
    apply Fin.ext
    match x with
    | ⟨0, _⟩ => show n.val = win2_3.index (pt2 i j) 0 * 512 + 1 * p.val; rw [(ix2_3 i j).1]; omega
    | ⟨1, _⟩ => show e.val = win2_3.index (pt2 i j) 1 * 1024 + 1 * q.val; rw [(ix2_3 i j).2]; omega
  · show (cfg2.win 3).cut (grid2.coords (pt2 i j)) ((dat2 V c).after 3 (pt2 i j)) (ix2 p q : S512x1024.Idx) = _
    rw [after2_3]; rfl

/-- The array call 2 leaves, as the product of the arrays it finds. -/
theorem prod2 (n : Fin 4096) (e : Fin 1024) :
    ((dat2 V c).arrAt 3 cfg2.N : FVec Ideal S4096x1024 .f32) (ix2 n e)
      = MM.sumNT 4096 2816 1024 .bf16 .bf16 (V c main_v4) (V c main_v6) n e + MM.ent 4096 1024 .f32 (V c main_v8) n e := by
  obtain ⟨i, p, hn⟩ := MM.split 8 512 rfl n
  obtain ⟨j, q, he⟩ := MM.split 1 1024 rfl e
  rw [at2 V c i j p q n e hn he, outs2, pay2]
  exact congrArg₂ (fun y z : EReal => y + z) (MM.sums (fun d => ib2_0 V c i j p d n d hn rfl) (fun d => ib2_1 V c i j q d e d he rfl)) (ib2_2 V c i j p q n e hn he)

/-! ## Call 3 -/

/-- The grid point of a row block and a column block of call 3. -/
def pt3 (i : Fin 2) (j : Fin 2) : Fin cfg3.N := ⟨2 * i.val + j.val, by have := i.isLt; have := j.isLt; show _ < 4; omega⟩

theorem ix3_0 : ∀ (i : Fin 2) (j : Fin 2), win3_0.index (pt3 i j) 0 = 0 ∧ win3_0.index (pt3 i j) 1 = i.val := by decide +kernel
theorem ix3_1 : ∀ (i : Fin 2) (j : Fin 2), win3_1.index (pt3 i j) 0 = 0 ∧ win3_1.index (pt3 i j) 1 = j.val := by decide +kernel
theorem ix3_2 : ∀ (i : Fin 2) (j : Fin 2), win3_2.index (pt3 i j) 0 = i.val ∧ win3_2.index (pt3 i j) 1 = j.val := by decide +kernel
theorem fl3 : ∀ t : Fin cfg3.N, (cfg3.win 2).flush t = true := by decide +kernel
theorem dj3 : ∀ t t' : Fin cfg3.N, (cfg3.win 2).flush t = true → (cfg3.win 2).flush t' = true → t ≠ t' →
    Disjoint ((cfg3.win 2).blk t).view.set ((cfg3.win 2).blk t').view.set :=
  fun t t' _ _ hne => (cfg3.win 2).disjoint_blk fun h => hne
    ((by decide +kernel : ∀ t t' : Fin grid3.N, win3_2.index t = win3_2.index t' → t = t') t t' h)

/-- The stored block at an entry. -/
theorem pay3 (x0 : Vec Ideal S4096x512 .bf16) (x1 : Vec Ideal S4096x1408 .bf16) (a : Fin 512) (b : Fin 1408) :
    (k3_pay1 x0 x1 : FVec Ideal S512x1408 .bf16) (ix2 a b) = (∑ d : Fin 4096, x0 (ix2 d a) * x1 (ix2 d b)) := by
  unfold k3_pay1
  simp only [shapeCast_self]
  exact MM.tn (φ₁ := .bf16) (φ₂ := .bf16) x0 x1 a b

/-- The block the body stores. -/
theorem outs3 (t : Fin cfg3.N) : outsAt3 V c t = k3_pay1 (iblk3 V c 0 t) (iblk3 V c 1 t) := by
  unfold outsAt3 out3_A_2
  rw [View.read_writes_eq_canon _ _ _ (cover3_A_2 c _ _ _ _ _ _ _ _ _ _ _ )]
  unfold kernelRun3_A
  refine (View.canon_unit_zero (S := S512x1408) (by decide) inb_S512x1408_S512x1408_0_0 _).trans ?_
  rw [MM.ld_whole _ _ (by decide), MM.ld_whole _ _ (by decide)]

theorem ib3_0 (i : Fin 2) (j : Fin 2) (p : Fin 4096) (q : Fin 512) (n : Fin 4096) (e : Fin 1024) (hn : n.val = p.val) (he : e.val = 512 * i.val + q.val) :
    (iblk3 V c 0 (pt3 i j) : FVec Ideal S4096x512 .bf16) (ix2 p q) = (V c main_v0 : FVec Ideal S4096x1024 .bf16) (ix2 n e) := by
  refine (View.read_apply _ _).trans (congrArg (V c main_v0) (MM.eq2 _ n e ?_ ?_))
  · show win3_0.index (pt3 i j) 0 * 4096 + 1 * p.val = n.val; rw [(ix3_0 i j).1]; omega
  · show win3_0.index (pt3 i j) 1 * 512 + 1 * q.val = e.val; rw [(ix3_0 i j).2]; omega

theorem ib3_1 (i : Fin 2) (j : Fin 2) (p : Fin 4096) (q : Fin 1408) (n : Fin 4096) (e : Fin 2816) (hn : n.val = p.val) (he : e.val = 1408 * j.val + q.val) :
    (iblk3 V c 1 (pt3 i j) : FVec Ideal S4096x1408 .bf16) (ix2 p q) = (V c main_v3 : FVec Ideal S4096x2816 .bf16) (ix2 n e) := by
  refine (View.read_apply _ _).trans (congrArg (V c main_v3) (MM.eq2 _ n e ?_ ?_))
  · show win3_1.index (pt3 i j) 0 * 4096 + 1 * p.val = n.val; rw [(ix3_1 i j).1]; omega
  · show win3_1.index (pt3 i j) 1 * 1408 + 1 * q.val = e.val; rw [(ix3_1 i j).2]; omega

theorem at3 (i : Fin 2) (j : Fin 2) (p : Fin 512) (q : Fin 1408) (n : Fin 1024) (e : Fin 2816) (hn : n.val = 512 * i.val + p.val) (he : e.val = 1408 * j.val + q.val) :
    ((dat3 V c).arrAt 2 cfg3.N : FVec Ideal S1024x2816 .bf16) (ix2 n e) = (outsAt3 V c (pt3 i j)) (ix2 p q) := by
  have hb := congrFun ((dat3 V c).read_blk_arrAt_eq_flushed 2 dj3 cfg3.N (pt3 i j) (pt3 i j).isLt (fl3 _)) (ix2 p q : S512x1408.Idx)
  rw [View.read_apply] at hb
  refine Eq.trans ?_ (hb.trans ?_)
  · show ((dat3 V c).arrAt 2 cfg3.N : FVec Ideal S1024x2816 .bf16) _ = ((dat3 V c).arrAt 2 cfg3.N : FVec Ideal S1024x2816 .bf16) _
    congr 1
    funext x
    apply Fin.ext
    match x with
    | ⟨0, _⟩ => show n.val = win3_2.index (pt3 i j) 0 * 512 + 1 * p.val; rw [(ix3_2 i j).1]; omega
    | ⟨1, _⟩ => show e.val = win3_2.index (pt3 i j) 1 * 1408 + 1 * q.val; rw [(ix3_2 i j).2]; omega
  · show (cfg3.win 2).cut (grid3.coords (pt3 i j)) ((dat3 V c).after 2 (pt3 i j)) (ix2 p q : S512x1408.Idx) = _
    rw [after3_2]; rfl

/-- The array call 3 leaves, as the product of the arrays it finds. -/
theorem prod3 (n : Fin 1024) (e : Fin 2816) :
    ((dat3 V c).arrAt 2 cfg3.N : FVec Ideal S1024x2816 .bf16) (ix2 n e)
      = MM.sumTN 1024 4096 2816 .bf16 .bf16 (V c main_v0) (V c main_v3) n e := by
  obtain ⟨i, p, hn⟩ := MM.split 2 512 rfl n
  obtain ⟨j, q, he⟩ := MM.split 2 1408 rfl e
  rw [at3 V c i j p q n e hn he, outs3, pay3]
  exact MM.sums (fun d => ib3_0 V c i j d p d n rfl hn) (fun d => ib3_1 V c i j d q d e rfl he)

/-! ## Call 4 -/

/-- The grid point of a row block and a column block of call 4. -/
def pt4 (i : Fin 2) (j : Fin 2) : Fin cfg4.N := ⟨2 * i.val + j.val, by have := i.isLt; have := j.isLt; show _ < 4; omega⟩

theorem ix4_0 : ∀ (i : Fin 2) (j : Fin 2), win4_0.index (pt4 i j) 0 = 0 ∧ win4_0.index (pt4 i j) 1 = i.val := by decide +kernel
theorem ix4_1 : ∀ (i : Fin 2) (j : Fin 2), win4_1.index (pt4 i j) 0 = 0 ∧ win4_1.index (pt4 i j) 1 = j.val := by decide +kernel
theorem ix4_2 : ∀ (i : Fin 2) (j : Fin 2), win4_2.index (pt4 i j) 0 = i.val ∧ win4_2.index (pt4 i j) 1 = j.val := by decide +kernel
theorem fl4 : ∀ t : Fin cfg4.N, (cfg4.win 2).flush t = true := by decide +kernel
theorem dj4 : ∀ t t' : Fin cfg4.N, (cfg4.win 2).flush t = true → (cfg4.win 2).flush t' = true → t ≠ t' →
    Disjoint ((cfg4.win 2).blk t).view.set ((cfg4.win 2).blk t').view.set :=
  fun t t' _ _ hne => (cfg4.win 2).disjoint_blk fun h => hne
    ((by decide +kernel : ∀ t t' : Fin grid4.N, win4_2.index t = win4_2.index t' → t = t') t t' h)

/-- The stored block at an entry. -/
theorem pay4 (x0 : Vec Ideal S4096x512 .bf16) (x1 : Vec Ideal S4096x1408 .bf16) (a : Fin 512) (b : Fin 1408) :
    (k4_pay1 x0 x1 : FVec Ideal S512x1408 .bf16) (ix2 a b) = (∑ d : Fin 4096, x0 (ix2 d a) * x1 (ix2 d b)) := by
  unfold k4_pay1
  simp only [shapeCast_self]
  exact MM.tn (φ₁ := .bf16) (φ₂ := .bf16) x0 x1 a b

/-- The block the body stores. -/
theorem outs4 (t : Fin cfg4.N) : outsAt4 V c t = k4_pay1 (iblk4 V c 0 t) (iblk4 V c 1 t) := by
  unfold outsAt4 out4_A_2
  rw [View.read_writes_eq_canon _ _ _ (cover4_A_2 c _ _ _ _ _ _ _ _ _ _ _ )]
  unfold kernelRun4_A
  refine (View.canon_unit_zero (S := S512x1408) (by decide) inb_S512x1408_S512x1408_0_0 _).trans ?_
  rw [MM.ld_whole _ _ (by decide), MM.ld_whole _ _ (by decide)]

theorem ib4_0 (i : Fin 2) (j : Fin 2) (p : Fin 4096) (q : Fin 512) (n : Fin 4096) (e : Fin 1024) (hn : n.val = p.val) (he : e.val = 512 * i.val + q.val) :
    (iblk4 V c 0 (pt4 i j) : FVec Ideal S4096x512 .bf16) (ix2 p q) = (V c main_v0 : FVec Ideal S4096x1024 .bf16) (ix2 n e) := by
  refine (View.read_apply _ _).trans (congrArg (V c main_v0) (MM.eq2 _ n e ?_ ?_))
  · show win4_0.index (pt4 i j) 0 * 4096 + 1 * p.val = n.val; rw [(ix4_0 i j).1]; omega
  · show win4_0.index (pt4 i j) 1 * 512 + 1 * q.val = e.val; rw [(ix4_0 i j).2]; omega

theorem ib4_1 (i : Fin 2) (j : Fin 2) (p : Fin 4096) (q : Fin 1408) (n : Fin 4096) (e : Fin 2816) (hn : n.val = p.val) (he : e.val = 1408 * j.val + q.val) :
    (iblk4 V c 1 (pt4 i j) : FVec Ideal S4096x1408 .bf16) (ix2 p q) = (V c main_v4 : FVec Ideal S4096x2816 .bf16) (ix2 n e) := by
  refine (View.read_apply _ _).trans (congrArg (V c main_v4) (MM.eq2 _ n e ?_ ?_))
  · show win4_1.index (pt4 i j) 0 * 4096 + 1 * p.val = n.val; rw [(ix4_1 i j).1]; omega
  · show win4_1.index (pt4 i j) 1 * 1408 + 1 * q.val = e.val; rw [(ix4_1 i j).2]; omega

theorem at4 (i : Fin 2) (j : Fin 2) (p : Fin 512) (q : Fin 1408) (n : Fin 1024) (e : Fin 2816) (hn : n.val = 512 * i.val + p.val) (he : e.val = 1408 * j.val + q.val) :
    ((dat4 V c).arrAt 2 cfg4.N : FVec Ideal S1024x2816 .bf16) (ix2 n e) = (outsAt4 V c (pt4 i j)) (ix2 p q) := by
  have hb := congrFun ((dat4 V c).read_blk_arrAt_eq_flushed 2 dj4 cfg4.N (pt4 i j) (pt4 i j).isLt (fl4 _)) (ix2 p q : S512x1408.Idx)
  rw [View.read_apply] at hb
  refine Eq.trans ?_ (hb.trans ?_)
  · show ((dat4 V c).arrAt 2 cfg4.N : FVec Ideal S1024x2816 .bf16) _ = ((dat4 V c).arrAt 2 cfg4.N : FVec Ideal S1024x2816 .bf16) _
    congr 1
    funext x
    apply Fin.ext
    match x with
    | ⟨0, _⟩ => show n.val = win4_2.index (pt4 i j) 0 * 512 + 1 * p.val; rw [(ix4_2 i j).1]; omega
    | ⟨1, _⟩ => show e.val = win4_2.index (pt4 i j) 1 * 1408 + 1 * q.val; rw [(ix4_2 i j).2]; omega
  · show (cfg4.win 2).cut (grid4.coords (pt4 i j)) ((dat4 V c).after 2 (pt4 i j)) (ix2 p q : S512x1408.Idx) = _
    rw [after4_2]; rfl

/-- The array call 4 leaves, as the product of the arrays it finds. -/
theorem prod4 (n : Fin 1024) (e : Fin 2816) :
    ((dat4 V c).arrAt 2 cfg4.N : FVec Ideal S1024x2816 .bf16) (ix2 n e)
      = MM.sumTN 1024 4096 2816 .bf16 .bf16 (V c main_v0) (V c main_v4) n e := by
  obtain ⟨i, p, hn⟩ := MM.split 2 512 rfl n
  obtain ⟨j, q, he⟩ := MM.split 2 1408 rfl e
  rw [at4 V c i j p q n e hn he, outs4, pay4]
  exact MM.sums (fun d => ib4_0 V c i j d p d n rfl hn) (fun d => ib4_1 V c i j d q d e rfl he)

end

end Cert.Kernel4Ideal.Prod

end
-- ==== Proof.Val4.lean ====
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Prod4
public import proofs.«01_k».proof.Proof.MMBlk
public import Idealize.ShloMosaic.Adequacy
public import Idealize.ShloMosaic.Init
public import proofs.«01_k».proof.Proof.Cols

@[expose] public section

set_option maxRecDepth 16384

noncomputable section

/-! The calls and their reference end with equal results. -/

namespace Cert.Kernel4Ideal.Prod

open Idealize.ShloMosaic Idealize.ShloMosaic.ValueIdx Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      (r.2.mem ((c.tc : Thread nD τ).loc main_v5) = W8 m ρ c main_v5
      ∧ r.2.mem ((c.tc : Thread nD τ).loc main_v9) = W8 m ρ c main_v9
      ∧ r.2.mem ((c.tc : Thread nD τ).loc main_v12) = W8 m ρ c main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨⟨h c _ (mem_uc main_v5 (by decide)), h c _ (mem_uc main_v9 (by decide)), h c _ (mem_uc main_v12 (by decide))⟩,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end

section
variable (m : (ℓ : Loc nD τ sig) → Buf (Elt Ideal) ℓ) (ρ : Dev nD → PrngReg) (c : Dev nD)

/-- The argument 0. -/
abbrev x0 : FVec Ideal S4096x1024 .f32 := m ((c : Thread nD τ).loc main_arg0)
/-- The argument 1. -/
abbrev x1 : FVec Ideal S1024x5632 .f32 := m ((c : Thread nD τ).loc main_arg1)
/-- The argument 2. -/
abbrev x2 : FVec Ideal S2816x1024 .f32 := m ((c : Thread nD τ).loc main_arg2)
/-- The argument 3. -/
abbrev x3 : FVec Ideal S4096x2816 .f32 := m ((c : Thread nD τ).loc main_arg3)
/-- The argument 4. -/
abbrev x4 : FVec Ideal S4096x2816 .f32 := m ((c : Thread nD τ).loc main_arg4)
/-- The argument 5. -/
abbrev x5 : FVec Ideal S4096x1024 .f32 := m ((c : Thread nD τ).loc main_arg5)

theorem rd0_0 : (V1 m ρ c main_arg5 : FVec Ideal S4096x1024 .f32) = x5 m c := (W1_of m ρ c main_arg5 (by decide)).trans (rfl)
theorem rd0_1 : (V1 m ρ c main_v2 : FVec Ideal S2816x1024 .bf16) = x2 m c := rfl
theorem rd1_0 : (V3 m ρ c main_v3 : FVec Ideal S4096x2816 .bf16) = x3 m c := (W3_of m ρ c main_v3 (by decide)).trans ((W2_of m ρ c main_v3 (by decide)).trans (rfl))
-- TODO rd1_1 main_v7 ('host', 'hostOps1', 3, 'unary', ['main_v1']) steps []
theorem rd2_0 : (V4 m ρ c main_v4 : FVec Ideal S4096x2816 .bf16) = x4 m c := (W4_of m ρ c main_v4 (by decide)).trans ((W3_of m ρ c main_v4 (by decide)).trans ((W2_of m ρ c main_v4 (by decide)).trans (rfl)))
-- TODO rd2_1 main_v6 ('host', 'hostOps1', 3, 'unary', ['main_v1']) steps ['W4_of m ρ c main_v6 (by decide)']
-- TODO rd2_2 main_v8 ('reg', 1, 4) steps []
theorem rd3_0 : (V5 m ρ c main_v0 : FVec Ideal S4096x1024 .bf16) = x0 m c := (W5_of m ρ c main_v0 (by decide)).trans ((W4_of m ρ c main_v0 (by decide)).trans ((W3_of m ρ c main_v0 (by decide)).trans ((W2_of m ρ c main_v0 (by decide)).trans (rfl))))
theorem rd3_1 : (V5 m ρ c main_v3 : FVec Ideal S4096x2816 .bf16) = x3 m c := (W5_of m ρ c main_v3 (by decide)).trans ((W4_of m ρ c main_v3 (by decide)).trans ((W3_of m ρ c main_v3 (by decide)).trans ((W2_of m ρ c main_v3 (by decide)).trans (rfl))))
theorem rd4_0 : (V6 m ρ c main_v0 : FVec Ideal S4096x1024 .bf16) = x0 m c := (W6_of m ρ c main_v0 (by decide)).trans ((W5_of m ρ c main_v0 (by decide)).trans ((W4_of m ρ c main_v0 (by decide)).trans ((W3_of m ρ c main_v0 (by decide)).trans ((W2_of m ρ c main_v0 (by decide)).trans (rfl)))))
theorem rd4_1 : (V6 m ρ c main_v4 : FVec Ideal S4096x2816 .bf16) = x4 m c := (W6_of m ρ c main_v4 (by decide)).trans ((W5_of m ρ c main_v4 (by decide)).trans ((W4_of m ρ c main_v4 (by decide)).trans ((W3_of m ρ c main_v4 (by decide)).trans ((W2_of m ρ c main_v4 (by decide)).trans (rfl)))))

/-- What call 0 leaves, from the arguments. -/
theorem ker_main_v5 (n : Fin 4096) (e : Fin 2816) : MM.ent 4096 2816 .f32 (W8 m ρ c main_v5) n e = MM.sumNT 4096 1024 2816 .f32 .f32 (x5 m c) (x2 m c) n e := by
  have h : (W8 m ρ c main_v5 : FVec Ideal S4096x2816 .f32) = ((dat0 (V1 m ρ) c).arrAt 2 cfg0.N : FVec Ideal S4096x2816 .f32) := (W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_arr m ρ c 2))))))
  refine (congrFun h (ix2 n e)).trans ((prod0 (V1 m ρ) c n e).trans ?_)
  rw [rd0_0, rd0_1]

/-- The weight's second half, as the call takes it. -/
theorem w_hi (n : Fin 1024) (k : Fin 2816) : MM.ent 1024 2816 .bf16 (V4 m ρ c main_v6) n k = MM.ent 1024 5632 .f32 (x1 m c) n (MM.hi k) := by
  have e1 : (V4 m ρ c main_v6 : FVec Ideal S1024x2816 .bf16) = extractStridedSlice S1024x2816 ![0, 2816] (W2 m ρ c main_v1 : FVec Ideal S1024x5632 .bf16) slices_S1024x5632_S1024x2816_0_2816 := (W4_of m ρ c main_v6 (by decide)).trans rfl
  have e2 : (W2 m ρ c main_v1 : FVec Ideal S1024x5632 .bf16) = x1 m c := (W2_of m ρ c main_v1 (by decide)).trans rfl
  refine (congrFun e1 (ix2 n k)).trans ((MM.cut_hi _ _ n k).trans (congrFun e2 _))

/-- The weight's first half, as the call takes it. -/
theorem w_lo (n : Fin 1024) (k : Fin 2816) : MM.ent 1024 2816 .bf16 (V3 m ρ c main_v7) n k = MM.ent 1024 5632 .f32 (x1 m c) n (MM.lo k) := by
  have e1 : (V3 m ρ c main_v7 : FVec Ideal S1024x2816 .bf16) = extractStridedSlice S1024x2816 ![0, 0] (W2 m ρ c main_v1 : FVec Ideal S1024x5632 .bf16) slices_S1024x5632_S1024x2816_0_0 := rfl
  have e2 : (W2 m ρ c main_v1 : FVec Ideal S1024x5632 .bf16) = x1 m c := (W2_of m ρ c main_v1 (by decide)).trans rfl
  refine (congrFun e1 (ix2 n k)).trans ((MM.cut_lo _ _ n k).trans (congrFun e2 _))

/-- The gradient of the rows: the products of the two halves, summed. -/
theorem ker_main_v9 (n : Fin 4096) (e : Fin 1024) : MM.ent 4096 1024 .f32 (W8 m ρ c main_v9) n e
    = (∑ k : Fin 2816, MM.ent 4096 2816 .f32 (x4 m c) n k * MM.ent 1024 5632 .f32 (x1 m c) e (MM.hi k))
      + ∑ k : Fin 2816, MM.ent 4096 2816 .f32 (x3 m c) n k * MM.ent 1024 5632 .f32 (x1 m c) e (MM.lo k) := by
  have h : (W8 m ρ c main_v9 : FVec Ideal S4096x1024 .f32) = ((dat2 (V4 m ρ) c).arrAt 3 cfg2.N : FVec Ideal S4096x1024 .f32) := (W8_of m ρ c main_v9 (by decide)).trans ((W7_of m ρ c main_v9 (by decide)).trans ((W6_of m ρ c main_v9 (by decide)).trans (W5_arr m ρ c 3)))
  refine (congrFun h (ix2 n e)).trans ((prod2 (V4 m ρ) c n e).trans ?_)
  have h8 : (V4 m ρ c main_v8 : FVec Ideal S4096x1024 .f32) = ((dat1 (V3 m ρ) c).arrAt 2 cfg1.N : FVec Ideal S4096x1024 .f32) := W4_arr m ρ c 2
  have a2 : MM.ent 4096 1024 .f32 (V4 m ρ c main_v8) n e = _ := (congrFun h8 (ix2 n e)).trans (prod1 (V3 m ρ) c n e)
  rw [a2]
  refine congrArg₂ (fun a b : EReal => a + b) (MM.sums (fun k => congrFun (rd2_0 m ρ c) _) (fun k => w_hi m ρ c e k)) (MM.sums (fun k => congrFun (rd1_0 m ρ c) _) (fun k => w_lo m ρ c e k))

/-- The weight's gradient: the products with the two gradients, side by side. -/
theorem ker_main_v12 (n : Fin 1024) (e : Fin 5632) : MM.ent 1024 5632 .bf16 (W8 m ρ c main_v12) n e
    = ∑ k : Fin 4096, MM.ent 4096 1024 .f32 (x0 m c) k n * MM.ent 4096 5632 .f32 (concatenate ⟨2, ![4096, 5632]⟩ 1 [⟨⟨2, ![4096, 2816]⟩, x3 m c⟩, ⟨⟨2, ![4096, 2816]⟩, x4 m c⟩] MM.cats) k e := by
  have h : (W8 m ρ c main_v12 : FVec Ideal S1024x5632 .bf16) = concatenate S1024x5632 1 [⟨S1024x2816, (W7 m ρ c main_v10 : FVec Ideal S1024x2816 .bf16)⟩, ⟨S1024x2816, (W7 m ρ c main_v11 : FVec Ideal S1024x2816 .bf16)⟩] concatenates_S1024x2816_S1024x2816_S1024x5632_d1 := rfl
  have h0 : (W7 m ρ c main_v10 : FVec Ideal S1024x2816 .bf16) = ((dat3 (V5 m ρ) c).arrAt 2 cfg3.N : FVec Ideal S1024x2816 .bf16) := (W7_of m ρ c main_v10 (by decide)).trans (W6_arr m ρ c 2)
  have h1 : (W7 m ρ c main_v11 : FVec Ideal S1024x2816 .bf16) = ((dat4 (V6 m ρ) c).arrAt 2 cfg4.N : FVec Ideal S1024x2816 .bf16) := W7_arr m ρ c 2
  rcases MM.lo_or_hi e with ⟨k, rfl⟩ | ⟨k, rfl⟩
  · refine (congrFun h _).trans ((MM.cat_lo _ _ _ n k).trans ((congrFun h0 _).trans ((prod3 (V5 m ρ) c n k).trans ?_)))
    exact MM.sums (fun d => congrFun (rd3_0 m ρ c) _) (fun d => (congrFun (rd3_1 m ρ c) _).trans (MM.cat_lo _ _ _ d k).symm)
  · refine (congrFun h _).trans ((MM.cat_hi _ _ _ n k).trans ((congrFun h1 _).trans ((prod4 (V6 m ρ) c n k).trans ?_)))
    exact MM.sums (fun d => congrFun (rd4_0 m ρ c) _) (fun d => (congrFun (rd4_1 m ρ c) _).trans (MM.cat_hi _ _ _ d k).symm)

end

end Cert.Kernel4Ideal.Prod

namespace Cert.Reference4Ideal.Prod

open Idealize.ShloMosaic Idealize.ShloMosaic.ValueIdx Idealize.ShloMosaic.TcCoe Cert.Reference4Ideal Cert.Reference4Ideal.Gen Cert.Reference4Ideal.Read
open scoped BigOperators

/-- The reference's result 4 at an entry. -/
theorem ref_main_v4 (x2 : FVec Ideal S2816x1024 .f32) (x5 : FVec Ideal S4096x1024 .f32) (n : Fin 4096) (e : Fin 2816) : MM.ent 4096 2816 .f32 (val_main_v4 (F := Ideal) x2 x5) n e = MM.sumNT 4096 1024 2816 .f32 .f32 x5 x2 n e := by
  refine (val_main_v4_apply x2 x5 (ix2 n e)).trans ?_
  exact MM.sums (fun k => congrArg x5 (funext fun a => by match a with | ⟨0, _⟩ => rfl | ⟨1, _⟩ => rfl)) (fun k => congrArg x2 (funext fun a => by match a with | ⟨0, _⟩ => rfl | ⟨1, _⟩ => rfl))

/-- The reference's gradient of the rows at an entry. -/
theorem ref_main_v9 (x1 : FVec Ideal S1024x5632 .f32) (x3 x4 : FVec Ideal S4096x2816 .f32) (n : Fin 4096) (e : Fin 1024) :
    MM.ent 4096 1024 .f32 (val_main_v9 (F := Ideal) x1 x3 x4) n e
    = (∑ k : Fin 2816, MM.ent 4096 2816 .f32 x4 n k * MM.ent 1024 5632 .f32 x1 e (MM.hi k))
      + ∑ k : Fin 2816, MM.ent 4096 2816 .f32 x3 n k * MM.ent 1024 5632 .f32 x1 e (MM.lo k) := by
  refine (val_main_v9_apply x1 x3 x4 (ix2 n e)).trans ?_
  refine (MM.sums (f' := fun k => MM.ent 4096 5632 .f32 (val_main_v5 (F := Ideal) x3 x4) n k) (g' := fun k => MM.ent 1024 5632 .f32 x1 e k)
    (fun k => congrArg (val_main_v5 (F := Ideal) x3 x4) (funext fun a => by match a with | ⟨0, _⟩ => rfl | ⟨1, _⟩ => rfl)) (fun k => congrArg x1 (funext fun a => by match a with | ⟨0, _⟩ => rfl | ⟨1, _⟩ => rfl))).trans ?_
  refine (MM.sum_lohi _).trans ((add_comm _ _).trans ?_)
  exact congrArg₂ (fun a b : EReal => a + b) (MM.sums (fun k => MM.cat_hi x3 x4 _ n k) (fun k => rfl)) (MM.sums (fun k => MM.cat_lo x3 x4 _ n k) (fun k => rfl))

/-- The reference's gradient of the weight at an entry. -/
theorem ref_main_v10 (x0 : FVec Ideal S4096x1024 .f32) (x3 x4 : FVec Ideal S4096x2816 .f32) (n : Fin 1024) (e : Fin 5632) :
    MM.ent 1024 5632 .bf16 (val_main_v10 (F := Ideal) x0 x3 x4) n e
    = ∑ k : Fin 4096, MM.ent 4096 1024 .f32 x0 k n * MM.ent 4096 5632 .f32 (concatenate ⟨2, ![4096, 5632]⟩ 1 [⟨⟨2, ![4096, 2816]⟩, x3⟩, ⟨⟨2, ![4096, 2816]⟩, x4⟩] MM.cats) k e := by
  show (val_main_v8 (F := Ideal) x0 x3 x4 (ix2 n e) : EReal) = _
  refine (val_main_v8_apply (F := Ideal) x0 x3 x4 (ix2 n e)).trans ?_
  refine (val_main_v7_apply x0 x3 x4 _).trans ?_
  exact MM.sumsC (fun k => congrArg (val_main_v5 (F := Ideal) x3 x4) (funext fun a => by match a with | ⟨0, _⟩ => rfl | ⟨1, _⟩ => rfl)) (fun k => congrArg x0 (funext fun a => by match a with | ⟨0, _⟩ => rfl | ⟨1, _⟩ => rfl))

end Cert.Reference4Ideal.Prod

namespace Cert.Prod4

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

section
variable (m : (ℓ : Loc Cert.Kernel4Ideal.nD Cert.Kernel4Ideal.τ Cert.Kernel4Ideal.sig) → Buf (Elt Ideal) ℓ) (ρ : Dev Cert.Kernel4Ideal.nD → PrngReg) (c : Dev Cert.Kernel4Ideal.nD)
open Cert.Kernel4Ideal.Prod

/-- The kernel's result 5 is the reference's. -/
theorem agree_main_v5 : (Cert.Reference4Ideal.Read.val_main_v4 (F := Ideal) (x2 m c) (x5 m c) : FVec Ideal ⟨2, ![4096, 2816]⟩ .f32) = Cert.Kernel4Ideal.Gen.W8 m ρ c Cert.Kernel4Ideal.main_v5 := funext fun i => by
  obtain ⟨n, e, rfl⟩ : ∃ (n : Fin 4096) (e : Fin 2816), i = ix2 n e := ⟨i 0, i 1, funext fun a => by match a with | ⟨0, _⟩ => rfl | ⟨1, _⟩ => rfl⟩
  exact (Cert.Reference4Ideal.Prod.ref_main_v4 _ _ n e).trans (Cert.Kernel4Ideal.Prod.ker_main_v5 m ρ c n e).symm

/-- The kernel's result 9 is the reference's. -/
theorem agree_main_v9 : (Cert.Reference4Ideal.Read.val_main_v9 (F := Ideal) (x1 m c) (x3 m c) (x4 m c) : FVec Ideal ⟨2, ![4096, 1024]⟩ .f32) = Cert.Kernel4Ideal.Gen.W8 m ρ c Cert.Kernel4Ideal.main_v9 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference4Ideal.Prod.ref_main_v9 _ _ _ n e).trans (Cert.Kernel4Ideal.Prod.ker_main_v9 m ρ c n e).symm

/-- The kernel's result 12 is the reference's. -/
theorem agree_main_v12 : (Cert.Reference4Ideal.Read.val_main_v10 (F := Ideal) (x0 m c) (x3 m c) (x4 m c) : FVec Ideal ⟨2, ![1024, 5632]⟩ .bf16) = Cert.Kernel4Ideal.Gen.W8 m ρ c Cert.Kernel4Ideal.main_v12 := funext fun i => by
  obtain ⟨n, e, rfl⟩ : ∃ (n : Fin 1024) (e : Fin 5632), i = ix2 n e := ⟨i 0, i 1, funext fun a => by match a with | ⟨0, _⟩ => rfl | ⟨1, _⟩ => rfl⟩
  exact (Cert.Reference4Ideal.Prod.ref_main_v10 _ _ _ n e).trans (Cert.Kernel4Ideal.Prod.ker_main_v12 m ρ c n e).symm

end

/-- The kernel and the reference end with equal results. -/
theorem value : Cert.algebraic_Kernel4Ideal_Reference4Ideal (hKernel4Ideal := Cert.Kernel4Ideal.Gen.facts)
    (hReference4Ideal := Cert.Reference4Ideal.Gen.facts) := fun m ρ m' ρ' _ hag =>
  ⟨fun c => Cert.Kernel4Ideal.Gen.W8 m ρ c Cert.Kernel4Ideal.main_v5,
    fun c => Cert.Kernel4Ideal.Gen.W8 m ρ c Cert.Kernel4Ideal.main_v9,
    fun c => Cert.Kernel4Ideal.Gen.W8 m ρ c Cert.Kernel4Ideal.main_v12,
    (θ_run Cert.Kernel4Ideal.defs _ _).mono (fun _ h c => ⟨(h c).1.1, (h c).1.2.1, (h c).1.2.2, (h c).2⟩) (Cert.Kernel4Ideal.Prod.run (F := Ideal) m ρ),
    (θ_run Cert.Reference4Ideal.defs _ _).mono (fun _ h c => by
      obtain ⟨g0, g1, g2, g3, g4, g5⟩ := hag c
      obtain ⟨r0, r1, r2, rest⟩ := h c
      refine ⟨r0.trans ?_, r1.trans ?_, r2.trans ?_, rest⟩
      · rw [Cert.Reference4Ideal.Read.val_main_v4_eq, g2, g5]; exact agree_main_v5 m ρ c
      · rw [Cert.Reference4Ideal.Read.val_main_v9_eq, g1, g3, g4]; exact agree_main_v9 m ρ c
      · rw [Cert.Reference4Ideal.Read.val_main_v10_eq, g0, g3, g4]; exact agree_main_v12 m ρ c)
      (Cert.Reference4Ideal.Value.run (F := Ideal) m' ρ')⟩

end Cert.Prod4

end

end
-- ==== Proof.Prod5.lean ====
module

public import proofs.«01_k».proof.Proof.Gen.Kernel5Ideal.Frame
public import proofs.«01_k».proof.Proof.MM
public import Idealize.ShloMosaic.Lib.Pipeline.Value
public import Idealize.ShloMosaic.Lib.ValueLayout
public import Idealize.ShloMosaic.Lib.Pipeline.ValueKit.Tiles

@[expose] public section

set_option maxRecDepth 16384

noncomputable section

/-! The products of the calls, entry by entry of the arrays they leave. -/

namespace Cert.Kernel5Ideal.Prod

open Idealize.ShloMosaic Idealize.ShloMosaic.ValueIdx Idealize.ShloMosaic.TcCoe Cert.Kernel5Ideal Cert.Kernel5Ideal.Gen
open Idealize.ShloMosaic.Pipeline (Dat)
open scoped BigOperators

/-! ## Call 0 -/

/-- The grid point of a row block and a column block of call 0. -/
def pt0 (i : Fin 8) (j : Fin 1) : Fin cfg0.N := ⟨1 * i.val + j.val, by have := i.isLt; have := j.isLt; show _ < 8; omega⟩

theorem ix0_0 : ∀ (i : Fin 8) (j : Fin 1), win0_0.index (pt0 i j) 0 = i.val ∧ win0_0.index (pt0 i j) 1 = 0 := by decide +kernel
theorem ix0_1 : ∀ (i : Fin 8) (j : Fin 1), win0_1.index (pt0 i j) 0 = 0 ∧ win0_1.index (pt0 i j) 1 = j.val := by decide +kernel
theorem ix0_2 : ∀ (i : Fin 8) (j : Fin 1), win0_2.index (pt0 i j) 0 = i.val ∧ win0_2.index (pt0 i j) 1 = j.val := by decide +kernel
theorem fl0 : ∀ t : Fin cfg0.N, (cfg0.win 2).flush t = true := by decide +kernel
theorem dj0 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne
    ((by decide +kernel : ∀ t t' : Fin grid0.N, win0_2.index t = win0_2.index t' → t = t') t t' h)

/-- The stored block at an entry. -/
theorem pay0 (x0 : Vec Ideal S512x1024 .bf16) (x1 : Vec Ideal S1024x3200 .bf16) (a : Fin 512) (b : Fin 3200) :
    (k0_pay1 x0 x1 : FVec Ideal S512x3200 .f32) (ix2 a b) = (∑ d : Fin 1024, x0 (ix2 a d) * x1 (ix2 d b)) := by
  unfold k0_pay1
  simp only [shapeCast_self]
  exact MM.nn (φ₁ := .bf16) (φ₂ := .bf16) x0 x1 a b

section
variable (V : (c : Dev nD) → (b : Ref sig .tc) → Buf (Elt Ideal) ((c : Thread nD τ).loc b)) (c : Dev nD)
/-- The block the body stores. -/
theorem outs0 (t : Fin cfg0.N) : outsAt0 V c t = k0_pay1 (iblk0 V c 0 t) (iblk0 V c 1 t) := by
  unfold outsAt0 out0_A_2
  rw [View.read_writes_eq_canon _ _ _ (cover0_A_2 c _ _ _ _ _ _ _ _ _ _ _ )]
  unfold kernelRun0_A
  refine (View.canon_unit_zero (S := S512x3200) (by decide) inb_S512x3200_S512x3200_0_0 _).trans ?_
  rw [MM.ld_whole _ _ (by decide), MM.ld_whole _ _ (by decide)]

theorem ib0_0 (i : Fin 8) (j : Fin 1) (p : Fin 512) (q : Fin 1024) (n : Fin 4096) (e : Fin 1024) (hn : n.val = 512 * i.val + p.val) (he : e.val = q.val) :
    (iblk0 V c 0 (pt0 i j) : FVec Ideal S512x1024 .bf16) (ix2 p q) = (V c main_v0 : FVec Ideal S4096x1024 .bf16) (ix2 n e) := by
  refine (View.read_apply _ _).trans (congrArg (V c main_v0) (MM.eq2 _ n e ?_ ?_))
  · show win0_0.index (pt0 i j) 0 * 512 + 1 * p.val = n.val; rw [(ix0_0 i j).1]; omega
  · show win0_0.index (pt0 i j) 1 * 1024 + 1 * q.val = e.val; rw [(ix0_0 i j).2]; omega

theorem ib0_1 (i : Fin 8) (j : Fin 1) (p : Fin 1024) (q : Fin 3200) (n : Fin 1024) (e : Fin 3200) (hn : n.val = p.val) (he : e.val = 3200 * j.val + q.val) :
    (iblk0 V c 1 (pt0 i j) : FVec Ideal S1024x3200 .bf16) (ix2 p q) = (V c main_v1 : FVec Ideal S1024x3200 .bf16) (ix2 n e) := by
  refine (View.read_apply _ _).trans (congrArg (V c main_v1) (MM.eq2 _ n e ?_ ?_))
  · show win0_1.index (pt0 i j) 0 * 1024 + 1 * p.val = n.val; rw [(ix0_1 i j).1]; omega
  · show win0_1.index (pt0 i j) 1 * 3200 + 1 * q.val = e.val; rw [(ix0_1 i j).2]; omega

theorem at0 (i : Fin 8) (j : Fin 1) (p : Fin 512) (q : Fin 3200) (n : Fin 4096) (e : Fin 3200) (hn : n.val = 512 * i.val + p.val) (he : e.val = 3200 * j.val + q.val) :
    ((dat0 V c).arrAt 2 cfg0.N : FVec Ideal S4096x3200 .f32) (ix2 n e) = (outsAt0 V c (pt0 i j)) (ix2 p q) := by
  have hb := congrFun ((dat0 V c).read_blk_arrAt_eq_flushed 2 dj0 cfg0.N (pt0 i j) (pt0 i j).isLt (fl0 _)) (ix2 p q : S512x3200.Idx)
  rw [View.read_apply] at hb
  refine Eq.trans ?_ (hb.trans ?_)
  · show ((dat0 V c).arrAt 2 cfg0.N : FVec Ideal S4096x3200 .f32) _ = ((dat0 V c).arrAt 2 cfg0.N : FVec Ideal S4096x3200 .f32) _
    congr 1
    funext x
    apply Fin.ext
    match x with
    | ⟨0, _⟩ => show n.val = win0_2.index (pt0 i j) 0 * 512 + 1 * p.val; rw [(ix0_2 i j).1]; omega
    | ⟨1, _⟩ => show e.val = win0_2.index (pt0 i j) 1 * 3200 + 1 * q.val; rw [(ix0_2 i j).2]; omega
  · show (cfg0.win 2).cut (grid0.coords (pt0 i j)) ((dat0 V c).after 2 (pt0 i j)) (ix2 p q : S512x3200.Idx) = _
    rw [after0_2]; rfl

/-- The array call 0 leaves, as the product of the arrays it finds. -/
theorem prod0 (n : Fin 4096) (e : Fin 3200) :
    ((dat0 V c).arrAt 2 cfg0.N : FVec Ideal S4096x3200 .f32) (ix2 n e)
      = MM.sumNN 4096 1024 3200 .bf16 .bf16 (V c main_v0) (V c main_v1) n e := by
  obtain ⟨i, p, hn⟩ := MM.split 8 512 rfl n
  obtain ⟨j, q, he⟩ := MM.split 1 3200 rfl e
  rw [at0 V c i j p q n e hn he, outs0, pay0]
  exact MM.sums (fun d => ib0_0 V c i j p d n d hn rfl) (fun d => ib0_1 V c i j d q d e rfl he)

/-! ## Call 1 -/

/-- The grid point of a row block and a column block of call 1. -/
def pt1 (i : Fin 4) (j : Fin 1) : Fin cfg1.N := ⟨1 * i.val + j.val, by have := i.isLt; have := j.isLt; show _ < 4; omega⟩

theorem ix1_0 : ∀ (i : Fin 4) (j : Fin 1), win1_0.index (pt1 i j) 0 = i.val ∧ win1_0.index (pt1 i j) 1 = 0 := by decide +kernel
theorem ix1_1 : ∀ (i : Fin 4) (j : Fin 1), win1_1.index (pt1 i j) 0 = 0 ∧ win1_1.index (pt1 i j) 1 = j.val := by decide +kernel
theorem ix1_2 : ∀ (i : Fin 4) (j : Fin 1), win1_2.index (pt1 i j) 0 = i.val ∧ win1_2.index (pt1 i j) 1 = j.val := by decide +kernel
theorem fl1 : ∀ t : Fin cfg1.N, (cfg1.win 2).flush t = true := by decide +kernel
theorem dj1 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne
    ((by decide +kernel : ∀ t t' : Fin grid1.N, win1_2.index t = win1_2.index t' → t = t') t t' h)

/-- The stored block at an entry. -/
theorem pay1 (x0 : Vec Ideal S1024x256 .bf16) (x1 : Vec Ideal S256x512 .bf16) (a : Fin 1024) (b : Fin 512) :
    (k1_pay1 x0 x1 : FVec Ideal S1024x512 .f32) (ix2 a b) = (∑ d : Fin 256, x0 (ix2 a d) * x1 (ix2 d b)) := by
  unfold k1_pay1
  simp only [shapeCast_self]
  exact MM.nn (φ₁ := .bf16) (φ₂ := .bf16) x0 x1 a b

/-- The block the body stores. -/
theorem outs1 (t : Fin cfg1.N) : outsAt1 V c t = k1_pay1 (iblk1 V c 0 t) (iblk1 V c 1 t) := by
  unfold outsAt1 out1_A_2
  rw [View.read_writes_eq_canon _ _ _ (cover1_A_2 c _ _ _ _ _ _ _ _ _ _ _ )]
  unfold kernelRun1_A
  refine (View.canon_unit_zero (S := S1024x512) (by decide) inb_S1024x512_S1024x512_0_0 _).trans ?_
  rw [MM.ld_whole _ _ (by decide), MM.ld_whole _ _ (by decide)]

theorem ib1_0 (i : Fin 4) (j : Fin 1) (p : Fin 1024) (q : Fin 256) (n : Fin 4096) (e : Fin 256) (hn : n.val = 1024 * i.val + p.val) (he : e.val = q.val) :
    (iblk1 V c 0 (pt1 i j) : FVec Ideal S1024x256 .bf16) (ix2 p q) = (V c main_v2 : FVec Ideal S4096x256 .bf16) (ix2 n e) := by
  refine (View.read_apply _ _).trans (congrArg (V c main_v2) (MM.eq2 _ n e ?_ ?_))
  · show win1_0.index (pt1 i j) 0 * 1024 + 1 * p.val = n.val; rw [(ix1_0 i j).1]; omega
  · show win1_0.index (pt1 i j) 1 * 256 + 1 * q.val = e.val; rw [(ix1_0 i j).2]; omega

theorem ib1_1 (i : Fin 4) (j : Fin 1) (p : Fin 256) (q : Fin 512) (n : Fin 256) (e : Fin 512) (hn : n.val = p.val) (he : e.val = 512 * j.val + q.val) :
    (iblk1 V c 1 (pt1 i j) : FVec Ideal S256x512 .bf16) (ix2 p q) = (V c main_v3 : FVec Ideal S256x512 .bf16) (ix2 n e) := by
  refine (View.read_apply _ _).trans (congrArg (V c main_v3) (MM.eq2 _ n e ?_ ?_))
  · show win1_1.index (pt1 i j) 0 * 256 + 1 * p.val = n.val; rw [(ix1_1 i j).1]; omega
  · show win1_1.index (pt1 i j) 1 * 512 + 1 * q.val = e.val; rw [(ix1_1 i j).2]; omega

theorem at1 (i : Fin 4) (j : Fin 1) (p : Fin 1024) (q : Fin 512) (n : Fin 4096) (e : Fin 512) (hn : n.val = 1024 * i.val + p.val) (he : e.val = 512 * j.val + q.val) :
    ((dat1 V c).arrAt 2 cfg1.N : FVec Ideal S4096x512 .f32) (ix2 n e) = (outsAt1 V c (pt1 i j)) (ix2 p q) := by
  have hb := congrFun ((dat1 V c).read_blk_arrAt_eq_flushed 2 dj1 cfg1.N (pt1 i j) (pt1 i j).isLt (fl1 _)) (ix2 p q : S1024x512.Idx)
  rw [View.read_apply] at hb
  refine Eq.trans ?_ (hb.trans ?_)
  · show ((dat1 V c).arrAt 2 cfg1.N : FVec Ideal S4096x512 .f32) _ = ((dat1 V c).arrAt 2 cfg1.N : FVec Ideal S4096x512 .f32) _
    congr 1
    funext x
    apply Fin.ext
    match x with
    | ⟨0, _⟩ => show n.val = win1_2.index (pt1 i j) 0 * 1024 + 1 * p.val; rw [(ix1_2 i j).1]; omega
    | ⟨1, _⟩ => show e.val = win1_2.index (pt1 i j) 1 * 512 + 1 * q.val; rw [(ix1_2 i j).2]; omega
  · show (cfg1.win 2).cut (grid1.coords (pt1 i j)) ((dat1 V c).after 2 (pt1 i j)) (ix2 p q : S1024x512.Idx) = _
    rw [after1_2]; rfl

/-- The array call 1 leaves, as the product of the arrays it finds. -/
theorem prod1 (n : Fin 4096) (e : Fin 512) :
    ((dat1 V c).arrAt 2 cfg1.N : FVec Ideal S4096x512 .f32) (ix2 n e)
      = MM.sumNN 4096 256 512 .bf16 .bf16 (V c main_v2) (V c main_v3) n e := by
  obtain ⟨i, p, hn⟩ := MM.split 4 1024 rfl n
  obtain ⟨j, q, he⟩ := MM.split 1 512 rfl e
  rw [at1 V c i j p q n e hn he, outs1, pay1]
  exact MM.sums (fun d => ib1_0 V c i j p d n d hn rfl) (fun d => ib1_1 V c i j d q d e rfl he)

/-! ## Call 2 -/

/-- The grid point of a row block and a column block of call 2. -/
def pt2 (i : Fin 4) (j : Fin 1) : Fin cfg2.N := ⟨1 * i.val + j.val, by have := i.isLt; have := j.isLt; show _ < 4; omega⟩

theorem ix2_0 : ∀ (i : Fin 4) (j : Fin 1), win2_0.index (pt2 i j) 0 = i.val ∧ win2_0.index (pt2 i j) 1 = 0 := by decide +kernel
theorem ix2_1 : ∀ (i : Fin 4) (j : Fin 1), win2_1.index (pt2 i j) 0 = 0 ∧ win2_1.index (pt2 i j) 1 = j.val := by decide +kernel
theorem ix2_2 : ∀ (i : Fin 4) (j : Fin 1), win2_2.index (pt2 i j) 0 = i.val ∧ win2_2.index (pt2 i j) 1 = j.val := by decide +kernel
theorem fl2 : ∀ t : Fin cfg2.N, (cfg2.win 2).flush t = true := by decide +kernel
theorem dj2 : ∀ t t' : Fin cfg2.N, (cfg2.win 2).flush t = true → (cfg2.win 2).flush t' = true → t ≠ t' →
    Disjoint ((cfg2.win 2).blk t).view.set ((cfg2.win 2).blk t').view.set :=
  fun t t' _ _ hne => (cfg2.win 2).disjoint_blk fun h => hne
    ((by decide +kernel : ∀ t t' : Fin grid2.N, win2_2.index t = win2_2.index t' → t = t') t t' h)

/-- The stored block at an entry. -/
theorem pay2 (x0 : Vec Ideal S1024x128 .bf16) (x1 : Vec Ideal S128x1024 .bf16) (a : Fin 1024) (b : Fin 1024) :
    (k2_pay1 x0 x1 : FVec Ideal S1024x1024 .f32) (ix2 a b) = (∑ d : Fin 128, x0 (ix2 a d) * x1 (ix2 d b)) := by
  unfold k2_pay1
  simp only [shapeCast_self]
  exact MM.nn (φ₁ := .bf16) (φ₂ := .bf16) x0 x1 a b

/-- The block the body stores. -/
theorem outs2 (t : Fin cfg2.N) : outsAt2 V c t = k2_pay1 (iblk2 V c 0 t) (iblk2 V c 1 t) := by
  unfold outsAt2 out2_A_2
  rw [View.read_writes_eq_canon _ _ _ (cover2_A_2 c _ _ _ _ _ _ _ _ _ _ _ )]
  unfold kernelRun2_A
  refine (View.canon_unit_zero (S := S1024x1024) (by decide) inb_S1024x1024_S1024x1024_0_0 _).trans ?_
  rw [MM.ld_whole _ _ (by decide), MM.ld_whole _ _ (by decide)]

theorem ib2_0 (i : Fin 4) (j : Fin 1) (p : Fin 1024) (q : Fin 128) (n : Fin 4096) (e : Fin 128) (hn : n.val = 1024 * i.val + p.val) (he : e.val = q.val) :
    (iblk2 V c 0 (pt2 i j) : FVec Ideal S1024x128 .bf16) (ix2 p q) = (V c main_v4 : FVec Ideal S4096x128 .bf16) (ix2 n e) := by
  refine (View.read_apply _ _).trans (congrArg (V c main_v4) (MM.eq2 _ n e ?_ ?_))
  · show win2_0.index (pt2 i j) 0 * 1024 + 1 * p.val = n.val; rw [(ix2_0 i j).1]; omega
  · show win2_0.index (pt2 i j) 1 * 128 + 1 * q.val = e.val; rw [(ix2_0 i j).2]; omega

theorem ib2_1 (i : Fin 4) (j : Fin 1) (p : Fin 128) (q : Fin 1024) (n : Fin 128) (e : Fin 1024) (hn : n.val = p.val) (he : e.val = 1024 * j.val + q.val) :
    (iblk2 V c 1 (pt2 i j) : FVec Ideal S128x1024 .bf16) (ix2 p q) = (V c main_v5 : FVec Ideal S128x1024 .bf16) (ix2 n e) := by
  refine (View.read_apply _ _).trans (congrArg (V c main_v5) (MM.eq2 _ n e ?_ ?_))
  · show win2_1.index (pt2 i j) 0 * 128 + 1 * p.val = n.val; rw [(ix2_1 i j).1]; omega
  · show win2_1.index (pt2 i j) 1 * 1024 + 1 * q.val = e.val; rw [(ix2_1 i j).2]; omega

theorem at2 (i : Fin 4) (j : Fin 1) (p : Fin 1024) (q : Fin 1024) (n : Fin 4096) (e : Fin 1024) (hn : n.val = 1024 * i.val + p.val) (he : e.val = 1024 * j.val + q.val) :
    ((dat2 V c).arrAt 2 cfg2.N : FVec Ideal S4096x1024 .f32) (ix2 n e) = (outsAt2 V c (pt2 i j)) (ix2 p q) := by
  have hb := congrFun ((dat2 V c).read_blk_arrAt_eq_flushed 2 dj2 cfg2.N (pt2 i j) (pt2 i j).isLt (fl2 _)) (ix2 p q : S1024x1024.Idx)
  rw [View.read_apply] at hb
  refine Eq.trans ?_ (hb.trans ?_)
  · show ((dat2 V c).arrAt 2 cfg2.N : FVec Ideal S4096x1024 .f32) _ = ((dat2 V c).arrAt 2 cfg2.N : FVec Ideal S4096x1024 .f32) _
    congr 1
    funext x
    apply Fin.ext
    match x with
    | ⟨0, _⟩ => show n.val = win2_2.index (pt2 i j) 0 * 1024 + 1 * p.val; rw [(ix2_2 i j).1]; omega
    | ⟨1, _⟩ => show e.val = win2_2.index (pt2 i j) 1 * 1024 + 1 * q.val; rw [(ix2_2 i j).2]; omega
  · show (cfg2.win 2).cut (grid2.coords (pt2 i j)) ((dat2 V c).after 2 (pt2 i j)) (ix2 p q : S1024x1024.Idx) = _
    rw [after2_2]; rfl

/-- The array call 2 leaves, as the product of the arrays it finds. -/
theorem prod2 (n : Fin 4096) (e : Fin 1024) :
    ((dat2 V c).arrAt 2 cfg2.N : FVec Ideal S4096x1024 .f32) (ix2 n e)
      = MM.sumNN 4096 128 1024 .bf16 .bf16 (V c main_v4) (V c main_v5) n e := by
  obtain ⟨i, p, hn⟩ := MM.split 4 1024 rfl n
  obtain ⟨j, q, he⟩ := MM.split 1 1024 rfl e
  rw [at2 V c i j p q n e hn he, outs2, pay2]
  exact MM.sums (fun d => ib2_0 V c i j p d n d hn rfl) (fun d => ib2_1 V c i j d q d e rfl he)

/-! ## Call 3 -/

/-- The grid point of a row block and a column block of call 3. -/
def pt3 (i : Fin 4) (j : Fin 1) : Fin cfg3.N := ⟨1 * i.val + j.val, by have := i.isLt; have := j.isLt; show _ < 4; omega⟩

theorem ix3_0 : ∀ (i : Fin 4) (j : Fin 1), win3_0.index (pt3 i j) 0 = i.val ∧ win3_0.index (pt3 i j) 1 = 0 := by decide +kernel
theorem ix3_1 : ∀ (i : Fin 4) (j : Fin 1), win3_1.index (pt3 i j) 0 = 0 ∧ win3_1.index (pt3 i j) 1 = j.val := by decide +kernel
theorem ix3_2 : ∀ (i : Fin 4) (j : Fin 1), win3_2.index (pt3 i j) 0 = i.val ∧ win3_2.index (pt3 i j) 1 = j.val := by decide +kernel
theorem fl3 : ∀ t : Fin cfg3.N, (cfg3.win 2).flush t = true := by decide +kernel
theorem dj3 : ∀ t t' : Fin cfg3.N, (cfg3.win 2).flush t = true → (cfg3.win 2).flush t' = true → t ≠ t' →
    Disjoint ((cfg3.win 2).blk t).view.set ((cfg3.win 2).blk t').view.set :=
  fun t t' _ _ hne => (cfg3.win 2).disjoint_blk fun h => hne
    ((by decide +kernel : ∀ t t' : Fin grid3.N, win3_2.index t = win3_2.index t' → t = t') t t' h)

/-- The stored block at an entry. -/
theorem pay3 (x0 : Vec Ideal S1024x512 .f32) (x1 : Vec Ideal S512x1024 .bf16) (a : Fin 1024) (b : Fin 1024) :
    (k3_pay1 x0 x1 : FVec Ideal S1024x1024 .f32) (ix2 a b) = (∑ d : Fin 512, x0 (ix2 a d) * x1 (ix2 d b)) := by
  unfold k3_pay1
  simp only [shapeCast_self]
  exact MM.nn (φ₁ := .bf16) (φ₂ := .bf16) x0 x1 a b

/-- The block the body stores. -/
theorem outs3 (t : Fin cfg3.N) : outsAt3 V c t = k3_pay1 (iblk3 V c 0 t) (iblk3 V c 1 t) := by
  unfold outsAt3 out3_A_2
  rw [View.read_writes_eq_canon _ _ _ (cover3_A_2 c _ _ _ _ _ _ _ _ _ _ _ )]
  unfold kernelRun3_A
  refine (View.canon_unit_zero (S := S1024x1024) (by decide) inb_S1024x1024_S1024x1024_0_0 _).trans ?_
  rw [MM.ld_whole _ _ (by decide), MM.ld_whole _ _ (by decide)]

theorem ib3_0 (i : Fin 4) (j : Fin 1) (p : Fin 1024) (q : Fin 512) (n : Fin 4096) (e : Fin 512) (hn : n.val = 1024 * i.val + p.val) (he : e.val = q.val) :
    (iblk3 V c 0 (pt3 i j) : FVec Ideal S1024x512 .f32) (ix2 p q) = (V c main_arg6 : FVec Ideal S4096x512 .f32) (ix2 n e) := by
  refine (View.read_apply _ _).trans (congrArg (V c main_arg6) (MM.eq2 _ n e ?_ ?_))
  · show win3_0.index (pt3 i j) 0 * 1024 + 1 * p.val = n.val; rw [(ix3_0 i j).1]; omega
  · show win3_0.index (pt3 i j) 1 * 512 + 1 * q.val = e.val; rw [(ix3_0 i j).2]; omega

theorem ib3_1 (i : Fin 4) (j : Fin 1) (p : Fin 512) (q : Fin 1024) (n : Fin 512) (e : Fin 1024) (hn : n.val = p.val) (he : e.val = 1024 * j.val + q.val) :
    (iblk3 V c 1 (pt3 i j) : FVec Ideal S512x1024 .bf16) (ix2 p q) = (V c main_v6 : FVec Ideal S512x1024 .bf16) (ix2 n e) := by
  refine (View.read_apply _ _).trans (congrArg (V c main_v6) (MM.eq2 _ n e ?_ ?_))
  · show win3_1.index (pt3 i j) 0 * 512 + 1 * p.val = n.val; rw [(ix3_1 i j).1]; omega
  · show win3_1.index (pt3 i j) 1 * 1024 + 1 * q.val = e.val; rw [(ix3_1 i j).2]; omega

theorem at3 (i : Fin 4) (j : Fin 1) (p : Fin 1024) (q : Fin 1024) (n : Fin 4096) (e : Fin 1024) (hn : n.val = 1024 * i.val + p.val) (he : e.val = 1024 * j.val + q.val) :
    ((dat3 V c).arrAt 2 cfg3.N : FVec Ideal S4096x1024 .f32) (ix2 n e) = (outsAt3 V c (pt3 i j)) (ix2 p q) := by
  have hb := congrFun ((dat3 V c).read_blk_arrAt_eq_flushed 2 dj3 cfg3.N (pt3 i j) (pt3 i j).isLt (fl3 _)) (ix2 p q : S1024x1024.Idx)
  rw [View.read_apply] at hb
  refine Eq.trans ?_ (hb.trans ?_)
  · show ((dat3 V c).arrAt 2 cfg3.N : FVec Ideal S4096x1024 .f32) _ = ((dat3 V c).arrAt 2 cfg3.N : FVec Ideal S4096x1024 .f32) _
    congr 1
    funext x
    apply Fin.ext
    match x with
    | ⟨0, _⟩ => show n.val = win3_2.index (pt3 i j) 0 * 1024 + 1 * p.val; rw [(ix3_2 i j).1]; omega
    | ⟨1, _⟩ => show e.val = win3_2.index (pt3 i j) 1 * 1024 + 1 * q.val; rw [(ix3_2 i j).2]; omega
  · show (cfg3.win 2).cut (grid3.coords (pt3 i j)) ((dat3 V c).after 2 (pt3 i j)) (ix2 p q : S1024x1024.Idx) = _
    rw [after3_2]; rfl

/-- The array call 3 leaves, as the product of the arrays it finds. -/
theorem prod3 (n : Fin 4096) (e : Fin 1024) :
    ((dat3 V c).arrAt 2 cfg3.N : FVec Ideal S4096x1024 .f32) (ix2 n e)
      = MM.sumNN 4096 512 1024 .f32 .bf16 (V c main_arg6) (V c main_v6) n e := by
  obtain ⟨i, p, hn⟩ := MM.split 4 1024 rfl n
  obtain ⟨j, q, he⟩ := MM.split 1 1024 rfl e
  rw [at3 V c i j p q n e hn he, outs3, pay3]
  exact MM.sums (fun d => ib3_0 V c i j p d n d hn rfl) (fun d => ib3_1 V c i j d q d e rfl he)

/-! ## Call 4 -/

/-- The grid point of a row block and a column block of call 4. -/
def pt4 (i : Fin 4) (j : Fin 1) : Fin cfg4.N := ⟨1 * i.val + j.val, by have := i.isLt; have := j.isLt; show _ < 4; omega⟩

theorem ix4_0 : ∀ (i : Fin 4) (j : Fin 1), win4_0.index (pt4 i j) 0 = i.val ∧ win4_0.index (pt4 i j) 1 = 0 := by decide +kernel
theorem ix4_1 : ∀ (i : Fin 4) (j : Fin 1), win4_1.index (pt4 i j) 0 = 0 ∧ win4_1.index (pt4 i j) 1 = j.val := by decide +kernel
theorem ix4_2 : ∀ (i : Fin 4) (j : Fin 1), win4_2.index (pt4 i j) 0 = i.val ∧ win4_2.index (pt4 i j) 1 = j.val := by decide +kernel
theorem ix4_3 : ∀ (i : Fin 4) (j : Fin 1), win4_3.index (pt4 i j) 0 = i.val ∧ win4_3.index (pt4 i j) 1 = j.val := by decide +kernel
theorem fl4 : ∀ t : Fin cfg4.N, (cfg4.win 3).flush t = true := by decide +kernel
theorem dj4 : ∀ t t' : Fin cfg4.N, (cfg4.win 3).flush t = true → (cfg4.win 3).flush t' = true → t ≠ t' →
    Disjoint ((cfg4.win 3).blk t).view.set ((cfg4.win 3).blk t').view.set :=
  fun t t' _ _ hne => (cfg4.win 3).disjoint_blk fun h => hne
    ((by decide +kernel : ∀ t t' : Fin grid4.N, win4_3.index t = win4_3.index t' → t = t') t t' h)

/-- The stored block at an entry. -/
theorem pay4 (x0 : Vec Ideal S1024x1536 .bf16) (x1 : Vec Ideal S1536x1024 .bf16) (x2 : Vec Ideal S1024x1024 .f32) (a : Fin 1024) (b : Fin 1024) :
    (k4_pay1 x0 x1 x2 : FVec Ideal S1024x1024 .f32) (ix2 a b) = (∑ d : Fin 1536, x0 (ix2 a d) * x1 (ix2 d b)) + x2 (ix2 a b) := by
  unfold k4_pay1
  simp only [shapeCast_self]
  exact congrArg (fun z : EReal => z + x2 (ix2 a b)) (MM.nn (φ₁ := .bf16) (φ₂ := .bf16) x0 x1 a b)

/-- The block the body stores. -/
theorem outs4 (t : Fin cfg4.N) : outsAt4 V c t = k4_pay1 (iblk4 V c 0 t) (iblk4 V c 1 t) (iblk4 V c 2 t) := by
  unfold outsAt4 out4_A_3
  rw [View.read_writes_eq_canon _ _ _ (cover4_A_3 c _ _ _ _ _ _ _ _ _ _ _ _ _ _ )]
  unfold kernelRun4_A
  refine (View.canon_unit_zero (S := S1024x1024) (by decide) inb_S1024x1024_S1024x1024_0_0 _).trans ?_
  rw [MM.ld_whole _ _ (by decide), MM.ld_whole _ _ (by decide), MM.ld_whole _ _ (by decide)]

theorem ib4_0 (i : Fin 4) (j : Fin 1) (p : Fin 1024) (q : Fin 1536) (n : Fin 4096) (e : Fin 1536) (hn : n.val = 1024 * i.val + p.val) (he : e.val = q.val) :
    (iblk4 V c 0 (pt4 i j) : FVec Ideal S1024x1536 .bf16) (ix2 p q) = (V c main_v7 : FVec Ideal S4096x1536 .bf16) (ix2 n e) := by
  refine (View.read_apply _ _).trans (congrArg (V c main_v7) (MM.eq2 _ n e ?_ ?_))
  · show win4_0.index (pt4 i j) 0 * 1024 + 1 * p.val = n.val; rw [(ix4_0 i j).1]; omega
  · show win4_0.index (pt4 i j) 1 * 1536 + 1 * q.val = e.val; rw [(ix4_0 i j).2]; omega

theorem ib4_1 (i : Fin 4) (j : Fin 1) (p : Fin 1536) (q : Fin 1024) (n : Fin 1536) (e : Fin 1024) (hn : n.val = p.val) (he : e.val = 1024 * j.val + q.val) :
    (iblk4 V c 1 (pt4 i j) : FVec Ideal S1536x1024 .bf16) (ix2 p q) = (V c main_v8 : FVec Ideal S1536x1024 .bf16) (ix2 n e) := by
  refine (View.read_apply _ _).trans (congrArg (V c main_v8) (MM.eq2 _ n e ?_ ?_))
  · show win4_1.index (pt4 i j) 0 * 1536 + 1 * p.val = n.val; rw [(ix4_1 i j).1]; omega
  · show win4_1.index (pt4 i j) 1 * 1024 + 1 * q.val = e.val; rw [(ix4_1 i j).2]; omega

theorem ib4_2 (i : Fin 4) (j : Fin 1) (p : Fin 1024) (q : Fin 1024) (n : Fin 4096) (e : Fin 1024) (hn : n.val = 1024 * i.val + p.val) (he : e.val = 1024 * j.val + q.val) :
    (iblk4 V c 2 (pt4 i j) : FVec Ideal S1024x1024 .f32) (ix2 p q) = (V c main_arg10 : FVec Ideal S4096x1024 .f32) (ix2 n e) := by
  refine (View.read_apply _ _).trans (congrArg (V c main_arg10) (MM.eq2 _ n e ?_ ?_))
  · show win4_2.index (pt4 i j) 0 * 1024 + 1 * p.val = n.val; rw [(ix4_2 i j).1]; omega
  · show win4_2.index (pt4 i j) 1 * 1024 + 1 * q.val = e.val; rw [(ix4_2 i j).2]; omega

theorem at4 (i : Fin 4) (j : Fin 1) (p : Fin 1024) (q : Fin 1024) (n : Fin 4096) (e : Fin 1024) (hn : n.val = 1024 * i.val + p.val) (he : e.val = 1024 * j.val + q.val) :
    ((dat4 V c).arrAt 3 cfg4.N : FVec Ideal S4096x1024 .f32) (ix2 n e) = (outsAt4 V c (pt4 i j)) (ix2 p q) := by
  have hb := congrFun ((dat4 V c).read_blk_arrAt_eq_flushed 3 dj4 cfg4.N (pt4 i j) (pt4 i j).isLt (fl4 _)) (ix2 p q : S1024x1024.Idx)
  rw [View.read_apply] at hb
  refine Eq.trans ?_ (hb.trans ?_)
  · show ((dat4 V c).arrAt 3 cfg4.N : FVec Ideal S4096x1024 .f32) _ = ((dat4 V c).arrAt 3 cfg4.N : FVec Ideal S4096x1024 .f32) _
    congr 1
    funext x
    apply Fin.ext
    match x with
    | ⟨0, _⟩ => show n.val = win4_3.index (pt4 i j) 0 * 1024 + 1 * p.val; rw [(ix4_3 i j).1]; omega
    | ⟨1, _⟩ => show e.val = win4_3.index (pt4 i j) 1 * 1024 + 1 * q.val; rw [(ix4_3 i j).2]; omega
  · show (cfg4.win 3).cut (grid4.coords (pt4 i j)) ((dat4 V c).after 3 (pt4 i j)) (ix2 p q : S1024x1024.Idx) = _
    rw [after4_3]; rfl

/-- The array call 4 leaves, as the product of the arrays it finds. -/
theorem prod4 (n : Fin 4096) (e : Fin 1024) :
    ((dat4 V c).arrAt 3 cfg4.N : FVec Ideal S4096x1024 .f32) (ix2 n e)
      = MM.sumNN 4096 1536 1024 .bf16 .bf16 (V c main_v7) (V c main_v8) n e + MM.ent 4096 1024 .f32 (V c main_arg10) n e := by
  obtain ⟨i, p, hn⟩ := MM.split 4 1024 rfl n
  obtain ⟨j, q, he⟩ := MM.split 1 1024 rfl e
  rw [at4 V c i j p q n e hn he, outs4, pay4]
  exact congrArg₂ (fun y z : EReal => y + z) (MM.sums (fun d => ib4_0 V c i j p d n d hn rfl) (fun d => ib4_1 V c i j d q d e rfl he)) (ib4_2 V c i j p q n e hn he)

/-! ## Call 5 -/

/-- The grid point of a row block and a column block of call 5. -/
def pt5 (i : Fin 4) (j : Fin 1) : Fin cfg5.N := ⟨1 * i.val + j.val, by have := i.isLt; have := j.isLt; show _ < 4; omega⟩

theorem ix5_0 : ∀ (i : Fin 4) (j : Fin 1), win5_0.index (pt5 i j) 0 = i.val ∧ win5_0.index (pt5 i j) 1 = 0 := by decide +kernel
theorem ix5_1 : ∀ (i : Fin 4) (j : Fin 1), win5_1.index (pt5 i j) 0 = 0 ∧ win5_1.index (pt5 i j) 1 = j.val := by decide +kernel
theorem ix5_2 : ∀ (i : Fin 4) (j : Fin 1), win5_2.index (pt5 i j) 0 = i.val ∧ win5_2.index (pt5 i j) 1 = j.val := by decide +kernel
theorem fl5 : ∀ t : Fin cfg5.N, (cfg5.win 2).flush t = true := by decide +kernel
theorem dj5 : ∀ t t' : Fin cfg5.N, (cfg5.win 2).flush t = true → (cfg5.win 2).flush t' = true → t ≠ t' →
    Disjoint ((cfg5.win 2).blk t).view.set ((cfg5.win 2).blk t').view.set :=
  fun t t' _ _ hne => (cfg5.win 2).disjoint_blk fun h => hne
    ((by decide +kernel : ∀ t t' : Fin grid5.N, win5_2.index t = win5_2.index t' → t = t') t t' h)

/-- The stored block at an entry. -/
theorem pay5 (x0 : Vec Ideal S1024x1024 .bf16) (x1 : Vec Ideal S1024x1024 .bf16) (a : Fin 1024) (b : Fin 1024) :
    (k5_pay1 x0 x1 : FVec Ideal S1024x1024 .f32) (ix2 a b) = (∑ d : Fin 1024, x0 (ix2 a d) * x1 (ix2 d b)) := by
  unfold k5_pay1
  simp only [shapeCast_self]
  exact MM.nn (φ₁ := .bf16) (φ₂ := .bf16) x0 x1 a b

/-- The block the body stores. -/
theorem outs5 (t : Fin cfg5.N) : outsAt5 V c t = k5_pay1 (iblk5 V c 0 t) (iblk5 V c 1 t) := by
  unfold outsAt5 out5_A_2
  rw [View.read_writes_eq_canon _ _ _ (cover5_A_2 c _ _ _ _ _ _ _ _ _ _ _ )]
  unfold kernelRun5_A
  refine (View.canon_unit_zero (S := S1024x1024) (by decide) inb_S1024x1024_S1024x1024_0_0 _).trans ?_
  rw [MM.ld_whole _ _ (by decide), MM.ld_whole _ _ (by decide)]

theorem ib5_0 (i : Fin 4) (j : Fin 1) (p : Fin 1024) (q : Fin 1024) (n : Fin 4096) (e : Fin 1024) (hn : n.val = 1024 * i.val + p.val) (he : e.val = q.val) :
    (iblk5 V c 0 (pt5 i j) : FVec Ideal S1024x1024 .bf16) (ix2 p q) = (V c main_v9 : FVec Ideal S4096x1024 .bf16) (ix2 n e) := by
  refine (View.read_apply _ _).trans (congrArg (V c main_v9) (MM.eq2 _ n e ?_ ?_))
  · show win5_0.index (pt5 i j) 0 * 1024 + 1 * p.val = n.val; rw [(ix5_0 i j).1]; omega
  · show win5_0.index (pt5 i j) 1 * 1024 + 1 * q.val = e.val; rw [(ix5_0 i j).2]; omega

theorem ib5_1 (i : Fin 4) (j : Fin 1) (p : Fin 1024) (q : Fin 1024) (n : Fin 1024) (e : Fin 1024) (hn : n.val = p.val) (he : e.val = 1024 * j.val + q.val) :
    (iblk5 V c 1 (pt5 i j) : FVec Ideal S1024x1024 .bf16) (ix2 p q) = (V c main_v10 : FVec Ideal S1024x1024 .bf16) (ix2 n e) := by
  refine (View.read_apply _ _).trans (congrArg (V c main_v10) (MM.eq2 _ n e ?_ ?_))
  · show win5_1.index (pt5 i j) 0 * 1024 + 1 * p.val = n.val; rw [(ix5_1 i j).1]; omega
  · show win5_1.index (pt5 i j) 1 * 1024 + 1 * q.val = e.val; rw [(ix5_1 i j).2]; omega

theorem at5 (i : Fin 4) (j : Fin 1) (p : Fin 1024) (q : Fin 1024) (n : Fin 4096) (e : Fin 1024) (hn : n.val = 1024 * i.val + p.val) (he : e.val = 1024 * j.val + q.val) :
    ((dat5 V c).arrAt 2 cfg5.N : FVec Ideal S4096x1024 .f32) (ix2 n e) = (outsAt5 V c (pt5 i j)) (ix2 p q) := by
  have hb := congrFun ((dat5 V c).read_blk_arrAt_eq_flushed 2 dj5 cfg5.N (pt5 i j) (pt5 i j).isLt (fl5 _)) (ix2 p q : S1024x1024.Idx)
  rw [View.read_apply] at hb
  refine Eq.trans ?_ (hb.trans ?_)
  · show ((dat5 V c).arrAt 2 cfg5.N : FVec Ideal S4096x1024 .f32) _ = ((dat5 V c).arrAt 2 cfg5.N : FVec Ideal S4096x1024 .f32) _
    congr 1
    funext x
    apply Fin.ext
    match x with
    | ⟨0, _⟩ => show n.val = win5_2.index (pt5 i j) 0 * 1024 + 1 * p.val; rw [(ix5_2 i j).1]; omega
    | ⟨1, _⟩ => show e.val = win5_2.index (pt5 i j) 1 * 1024 + 1 * q.val; rw [(ix5_2 i j).2]; omega
  · show (cfg5.win 2).cut (grid5.coords (pt5 i j)) ((dat5 V c).after 2 (pt5 i j)) (ix2 p q : S1024x1024.Idx) = _
    rw [after5_2]; rfl

/-- The array call 5 leaves, as the product of the arrays it finds. -/
theorem prod5 (n : Fin 4096) (e : Fin 1024) :
    ((dat5 V c).arrAt 2 cfg5.N : FVec Ideal S4096x1024 .f32) (ix2 n e)
      = MM.sumNN 4096 1024 1024 .bf16 .bf16 (V c main_v9) (V c main_v10) n e := by
  obtain ⟨i, p, hn⟩ := MM.split 4 1024 rfl n
  obtain ⟨j, q, he⟩ := MM.split 1 1024 rfl e
  rw [at5 V c i j p q n e hn he, outs5, pay5]
  exact MM.sums (fun d => ib5_0 V c i j p d n d hn rfl) (fun d => ib5_1 V c i j d q d e rfl he)

/-! ## Call 6 -/

/-- The grid point of a row block and a column block of call 6. -/
def pt6 (i : Fin 4) (j : Fin 1) : Fin cfg6.N := ⟨1 * i.val + j.val, by have := i.isLt; have := j.isLt; show _ < 4; omega⟩

theorem ix6_0 : ∀ (i : Fin 4) (j : Fin 1), win6_0.index (pt6 i j) 0 = i.val ∧ win6_0.index (pt6 i j) 1 = 0 := by decide +kernel
theorem ix6_1 : ∀ (i : Fin 4) (j : Fin 1), win6_1.index (pt6 i j) 0 = 0 ∧ win6_1.index (pt6 i j) 1 = j.val := by decide +kernel
theorem ix6_2 : ∀ (i : Fin 4) (j : Fin 1), win6_2.index (pt6 i j) 0 = i.val ∧ win6_2.index (pt6 i j) 1 = j.val := by decide +kernel
theorem fl6 : ∀ t : Fin cfg6.N, (cfg6.win 2).flush t = true := by decide +kernel
theorem dj6 : ∀ t t' : Fin cfg6.N, (cfg6.win 2).flush t = true → (cfg6.win 2).flush t' = true → t ≠ t' →
    Disjoint ((cfg6.win 2).blk t).view.set ((cfg6.win 2).blk t').view.set :=
  fun t t' _ _ hne => (cfg6.win 2).disjoint_blk fun h => hne
    ((by decide +kernel : ∀ t t' : Fin grid6.N, win6_2.index t = win6_2.index t' → t = t') t t' h)

/-- The stored block at an entry. -/
theorem pay6 (x0 : Vec Ideal S1024x256 .f32) (x1 : Vec Ideal S256x1024 .bf16) (a : Fin 1024) (b : Fin 1024) :
    (k6_pay1 x0 x1 : FVec Ideal S1024x1024 .f32) (ix2 a b) = (∑ d : Fin 256, x0 (ix2 a d) * x1 (ix2 d b)) := by
  unfold k6_pay1
  simp only [shapeCast_self]
  exact MM.nn (φ₁ := .bf16) (φ₂ := .bf16) x0 x1 a b

/-- The block the body stores. -/
theorem outs6 (t : Fin cfg6.N) : outsAt6 V c t = k6_pay1 (iblk6 V c 0 t) (iblk6 V c 1 t) := by
  unfold outsAt6 out6_A_2
  rw [View.read_writes_eq_canon _ _ _ (cover6_A_2 c _ _ _ _ _ _ _ _ _ _ _ )]
  unfold kernelRun6_A
  refine (View.canon_unit_zero (S := S1024x1024) (by decide) inb_S1024x1024_S1024x1024_0_0 _).trans ?_
  rw [MM.ld_whole _ _ (by decide), MM.ld_whole _ _ (by decide)]

theorem ib6_0 (i : Fin 4) (j : Fin 1) (p : Fin 1024) (q : Fin 256) (n : Fin 4096) (e : Fin 256) (hn : n.val = 1024 * i.val + p.val) (he : e.val = q.val) :
    (iblk6 V c 0 (pt6 i j) : FVec Ideal S1024x256 .f32) (ix2 p q) = (V c main_arg13 : FVec Ideal S4096x256 .f32) (ix2 n e) := by
  refine (View.read_apply _ _).trans (congrArg (V c main_arg13) (MM.eq2 _ n e ?_ ?_))
  · show win6_0.index (pt6 i j) 0 * 1024 + 1 * p.val = n.val; rw [(ix6_0 i j).1]; omega
  · show win6_0.index (pt6 i j) 1 * 256 + 1 * q.val = e.val; rw [(ix6_0 i j).2]; omega

theorem ib6_1 (i : Fin 4) (j : Fin 1) (p : Fin 256) (q : Fin 1024) (n : Fin 256) (e : Fin 1024) (hn : n.val = p.val) (he : e.val = 1024 * j.val + q.val) :
    (iblk6 V c 1 (pt6 i j) : FVec Ideal S256x1024 .bf16) (ix2 p q) = (V c main_v11 : FVec Ideal S256x1024 .bf16) (ix2 n e) := by
  refine (View.read_apply _ _).trans (congrArg (V c main_v11) (MM.eq2 _ n e ?_ ?_))
  · show win6_1.index (pt6 i j) 0 * 256 + 1 * p.val = n.val; rw [(ix6_1 i j).1]; omega
  · show win6_1.index (pt6 i j) 1 * 1024 + 1 * q.val = e.val; rw [(ix6_1 i j).2]; omega

theorem at6 (i : Fin 4) (j : Fin 1) (p : Fin 1024) (q : Fin 1024) (n : Fin 4096) (e : Fin 1024) (hn : n.val = 1024 * i.val + p.val) (he : e.val = 1024 * j.val + q.val) :
    ((dat6 V c).arrAt 2 cfg6.N : FVec Ideal S4096x1024 .f32) (ix2 n e) = (outsAt6 V c (pt6 i j)) (ix2 p q) := by
  have hb := congrFun ((dat6 V c).read_blk_arrAt_eq_flushed 2 dj6 cfg6.N (pt6 i j) (pt6 i j).isLt (fl6 _)) (ix2 p q : S1024x1024.Idx)
  rw [View.read_apply] at hb
  refine Eq.trans ?_ (hb.trans ?_)
  · show ((dat6 V c).arrAt 2 cfg6.N : FVec Ideal S4096x1024 .f32) _ = ((dat6 V c).arrAt 2 cfg6.N : FVec Ideal S4096x1024 .f32) _
    congr 1
    funext x
    apply Fin.ext
    match x with
    | ⟨0, _⟩ => show n.val = win6_2.index (pt6 i j) 0 * 1024 + 1 * p.val; rw [(ix6_2 i j).1]; omega
    | ⟨1, _⟩ => show e.val = win6_2.index (pt6 i j) 1 * 1024 + 1 * q.val; rw [(ix6_2 i j).2]; omega
  · show (cfg6.win 2).cut (grid6.coords (pt6 i j)) ((dat6 V c).after 2 (pt6 i j)) (ix2 p q : S1024x1024.Idx) = _
    rw [after6_2]; rfl

/-- The array call 6 leaves, as the product of the arrays it finds. -/
theorem prod6 (n : Fin 4096) (e : Fin 1024) :
    ((dat6 V c).arrAt 2 cfg6.N : FVec Ideal S4096x1024 .f32) (ix2 n e)
      = MM.sumNN 4096 256 1024 .f32 .bf16 (V c main_arg13) (V c main_v11) n e := by
  obtain ⟨i, p, hn⟩ := MM.split 4 1024 rfl n
  obtain ⟨j, q, he⟩ := MM.split 1 1024 rfl e
  rw [at6 V c i j p q n e hn he, outs6, pay6]
  exact MM.sums (fun d => ib6_0 V c i j p d n d hn rfl) (fun d => ib6_1 V c i j d q d e rfl he)

end

end Cert.Kernel5Ideal.Prod

end
-- ==== Proof.Val5.lean ====
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Prod5
public import proofs.«01_k».proof.Proof.MMBlk
public import Idealize.ShloMosaic.Adequacy
public import Idealize.ShloMosaic.Init

@[expose] public section

set_option maxRecDepth 16384

noncomputable section

/-! The calls and their reference end with equal results. -/

namespace Cert.Kernel5Ideal.Prod

open Idealize.ShloMosaic Idealize.ShloMosaic.ValueIdx Idealize.ShloMosaic.TcCoe Idealize.ShloMosaic.Tactic Cert.Kernel5Ideal Cert.Kernel5Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      (r.2.mem ((c.tc : Thread nD τ).loc main_v12) = W8 m ρ c main_v12
      ∧ r.2.mem ((c.tc : Thread nD τ).loc main_v13) = W8 m ρ c main_v13
      ∧ r.2.mem ((c.tc : Thread nD τ).loc main_v14) = W8 m ρ c main_v14
      ∧ r.2.mem ((c.tc : Thread nD τ).loc main_v15) = W8 m ρ c main_v15
      ∧ r.2.mem ((c.tc : Thread nD τ).loc main_v16) = W8 m ρ c main_v16
      ∧ r.2.mem ((c.tc : Thread nD τ).loc main_v17) = W8 m ρ c main_v17
      ∧ r.2.mem ((c.tc : Thread nD τ).loc main_v18) = W8 m ρ c main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨⟨h c _ (mem_uc main_v12 (by decide)), h c _ (mem_uc main_v13 (by decide)), h c _ (mem_uc main_v14 (by decide)), h c _ (mem_uc main_v15 (by decide)), h c _ (mem_uc main_v16 (by decide)), h c _ (mem_uc main_v17 (by decide)), h c _ (mem_uc main_v18 (by decide))⟩,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end

section
variable (m : (ℓ : Loc nD τ sig) → Buf (Elt Ideal) ℓ) (ρ : Dev nD → PrngReg) (c : Dev nD)

/-- The argument 0. -/
abbrev x0 : FVec Ideal S4096x1024 .f32 := m ((c : Thread nD τ).loc main_arg0)
/-- The argument 1. -/
abbrev x1 : FVec Ideal S1024x3200 .f32 := m ((c : Thread nD τ).loc main_arg1)
/-- The argument 2. -/
abbrev x2 : FVec Ideal S4096x256 .f32 := m ((c : Thread nD τ).loc main_arg2)
/-- The argument 3. -/
abbrev x3 : FVec Ideal S256x512 .f32 := m ((c : Thread nD τ).loc main_arg3)
/-- The argument 4. -/
abbrev x4 : FVec Ideal S4096x128 .f32 := m ((c : Thread nD τ).loc main_arg4)
/-- The argument 5. -/
abbrev x5 : FVec Ideal S128x1024 .f32 := m ((c : Thread nD τ).loc main_arg5)
/-- The argument 6. -/
abbrev x6 : FVec Ideal S4096x512 .f32 := m ((c : Thread nD τ).loc main_arg6)
/-- The argument 7. -/
abbrev x7 : FVec Ideal S512x1024 .f32 := m ((c : Thread nD τ).loc main_arg7)
/-- The argument 8. -/
abbrev x8 : FVec Ideal S4096x1536 .f32 := m ((c : Thread nD τ).loc main_arg8)
/-- The argument 9. -/
abbrev x9 : FVec Ideal S1536x1024 .f32 := m ((c : Thread nD τ).loc main_arg9)
/-- The argument 10. -/
abbrev x10 : FVec Ideal S4096x1024 .f32 := m ((c : Thread nD τ).loc main_arg10)
/-- The argument 11. -/
abbrev x11 : FVec Ideal S4096x1024 .f32 := m ((c : Thread nD τ).loc main_arg11)
/-- The argument 12. -/
abbrev x12 : FVec Ideal S1024x1024 .f32 := m ((c : Thread nD τ).loc main_arg12)
/-- The argument 13. -/
abbrev x13 : FVec Ideal S4096x256 .f32 := m ((c : Thread nD τ).loc main_arg13)
/-- The argument 14. -/
abbrev x14 : FVec Ideal S256x1024 .f32 := m ((c : Thread nD τ).loc main_arg14)

/-! What a call leaves alone. -/
variable {m ρ c}
theorem d1 {r : Ref sig .tc} {x} (e : W0 m ρ c (Proc.devRef .tc r) = x) (h : r ∉ hostOps0_W := by decide) : W1 m ρ c (Proc.devRef .tc r) = x := (W1_of m ρ c r h).trans e
theorem d2 {r : Ref sig .tc} {x} (e : W1 m ρ c (Proc.devRef .tc r) = x) (h : ∀ w : Fin cfg0.W, Pipeline.arrRef spec0 w = r → (cfg0.win w).isOut = false := by decide) : W2 m ρ c (Proc.devRef .tc r) = x := (W2_of m ρ c r h).trans e
theorem d3 {r : Ref sig .tc} {x} (e : W2 m ρ c (Proc.devRef .tc r) = x) (h : ∀ w : Fin cfg1.W, Pipeline.arrRef spec1 w = r → (cfg1.win w).isOut = false := by decide) : W3 m ρ c (Proc.devRef .tc r) = x := (W3_of m ρ c r h).trans e
theorem d4 {r : Ref sig .tc} {x} (e : W3 m ρ c (Proc.devRef .tc r) = x) (h : ∀ w : Fin cfg2.W, Pipeline.arrRef spec2 w = r → (cfg2.win w).isOut = false := by decide) : W4 m ρ c (Proc.devRef .tc r) = x := (W4_of m ρ c r h).trans e
theorem d5 {r : Ref sig .tc} {x} (e : W4 m ρ c (Proc.devRef .tc r) = x) (h : ∀ w : Fin cfg3.W, Pipeline.arrRef spec3 w = r → (cfg3.win w).isOut = false := by decide) : W5 m ρ c (Proc.devRef .tc r) = x := (W5_of m ρ c r h).trans e
theorem d6 {r : Ref sig .tc} {x} (e : W5 m ρ c (Proc.devRef .tc r) = x) (h : ∀ w : Fin cfg4.W, Pipeline.arrRef spec4 w = r → (cfg4.win w).isOut = false := by decide) : W6 m ρ c (Proc.devRef .tc r) = x := (W6_of m ρ c r h).trans e
theorem d7 {r : Ref sig .tc} {x} (e : W6 m ρ c (Proc.devRef .tc r) = x) (h : ∀ w : Fin cfg5.W, Pipeline.arrRef spec5 w = r → (cfg5.win w).isOut = false := by decide) : W7 m ρ c (Proc.devRef .tc r) = x := (W7_of m ρ c r h).trans e
theorem d8 {r : Ref sig .tc} {x} (e : W7 m ρ c (Proc.devRef .tc r) = x) (h : ∀ w : Fin cfg6.W, Pipeline.arrRef spec6 w = r → (cfg6.win w).isOut = false := by decide) : W8 m ρ c (Proc.devRef .tc r) = x := (W8_of m ρ c r h).trans e
variable (m ρ c)

theorem rd0_0 : (V1 m ρ c main_v0 : FVec Ideal S4096x1024 .bf16) = x0 m c := rfl
theorem rd0_1 : (V1 m ρ c main_v1 : FVec Ideal S1024x3200 .bf16) = x1 m c := rfl
theorem rd1_0 : (V2 m ρ c main_v2 : FVec Ideal S4096x256 .bf16) = x2 m c := d2 rfl
theorem rd1_1 : (V2 m ρ c main_v3 : FVec Ideal S256x512 .bf16) = x3 m c := d2 rfl
theorem rd2_0 : (V3 m ρ c main_v4 : FVec Ideal S4096x128 .bf16) = x4 m c := d3 (d2 rfl)
theorem rd2_1 : (V3 m ρ c main_v5 : FVec Ideal S128x1024 .bf16) = x5 m c := d3 (d2 rfl)
theorem rd3_0 : (V4 m ρ c main_arg6 : FVec Ideal S4096x512 .f32) = x6 m c := d4 (d3 (d2 (d1 rfl)))
theorem rd3_1 : (V4 m ρ c main_v6 : FVec Ideal S512x1024 .bf16) = x7 m c := d4 (d3 (d2 rfl))
theorem rd4_0 : (V5 m ρ c main_v7 : FVec Ideal S4096x1536 .bf16) = x8 m c := d5 (d4 (d3 (d2 rfl)))
theorem rd4_1 : (V5 m ρ c main_v8 : FVec Ideal S1536x1024 .bf16) = x9 m c := d5 (d4 (d3 (d2 rfl)))
theorem rd4_2 : (V5 m ρ c main_arg10 : FVec Ideal S4096x1024 .f32) = x10 m c := d5 (d4 (d3 (d2 (d1 rfl))))
theorem rd5_0 : (V6 m ρ c main_v9 : FVec Ideal S4096x1024 .bf16) = x11 m c := d6 (d5 (d4 (d3 (d2 rfl))))
theorem rd5_1 : (V6 m ρ c main_v10 : FVec Ideal S1024x1024 .bf16) = x12 m c := d6 (d5 (d4 (d3 (d2 rfl))))
theorem rd6_0 : (V7 m ρ c main_arg13 : FVec Ideal S4096x256 .f32) = x13 m c := d7 (d6 (d5 (d4 (d3 (d2 (d1 rfl))))))
theorem rd6_1 : (V7 m ρ c main_v11 : FVec Ideal S256x1024 .bf16) = x14 m c := d7 (d6 (d5 (d4 (d3 (d2 rfl)))))

/-- What call 0 leaves, from the arguments. -/
theorem ker_main_v12 (n : Fin 4096) (e : Fin 3200) : MM.ent 4096 3200 .f32 (W8 m ρ c main_v12) n e = MM.sumNN 4096 1024 3200 .f32 .f32 (x0 m c) (x1 m c) n e := by
  have h : (W8 m ρ c main_v12 : FVec Ideal S4096x3200 .f32) = ((dat0 (V1 m ρ) c).arrAt 2 cfg0.N : FVec Ideal S4096x3200 .f32) := d8 (d7 (d6 (d5 (d4 (d3 (W2_arr m ρ c 2))))))
  refine (congrFun h (ix2 n e)).trans ((prod0 (V1 m ρ) c n e).trans ?_)
  rw [rd0_0, rd0_1]

/-- What call 1 leaves, from the arguments. -/
theorem ker_main_v13 (n : Fin 4096) (e : Fin 512) : MM.ent 4096 512 .f32 (W8 m ρ c main_v13) n e = MM.sumNN 4096 256 512 .f32 .f32 (x2 m c) (x3 m c) n e := by
  have h : (W8 m ρ c main_v13 : FVec Ideal S4096x512 .f32) = ((dat1 (V2 m ρ) c).arrAt 2 cfg1.N : FVec Ideal S4096x512 .f32) := d8 (d7 (d6 (d5 (d4 (W3_arr m ρ c 2)))))
  refine (congrFun h (ix2 n e)).trans ((prod1 (V2 m ρ) c n e).trans ?_)
  rw [rd1_0, rd1_1]

/-- What call 2 leaves, from the arguments. -/
theorem ker_main_v14 (n : Fin 4096) (e : Fin 1024) : MM.ent 4096 1024 .f32 (W8 m ρ c main_v14) n e = MM.sumNN 4096 128 1024 .f32 .f32 (x4 m c) (x5 m c) n e := by
  have h : (W8 m ρ c main_v14 : FVec Ideal S4096x1024 .f32) = ((dat2 (V3 m ρ) c).arrAt 2 cfg2.N : FVec Ideal S4096x1024 .f32) := d8 (d7 (d6 (d5 (W4_arr m ρ c 2))))
  refine (congrFun h (ix2 n e)).trans ((prod2 (V3 m ρ) c n e).trans ?_)
  rw [rd2_0, rd2_1]

/-- What call 3 leaves, from the arguments. -/
theorem ker_main_v15 (n : Fin 4096) (e : Fin 1024) : MM.ent 4096 1024 .f32 (W8 m ρ c main_v15) n e = MM.sumNN 4096 512 1024 .f32 .f32 (x6 m c) (x7 m c) n e := by
  have h : (W8 m ρ c main_v15 : FVec Ideal S4096x1024 .f32) = ((dat3 (V4 m ρ) c).arrAt 2 cfg3.N : FVec Ideal S4096x1024 .f32) := d8 (d7 (d6 (W5_arr m ρ c 2)))
  refine (congrFun h (ix2 n e)).trans ((prod3 (V4 m ρ) c n e).trans ?_)
  rw [rd3_0, rd3_1]

/-- What call 4 leaves, from the arguments. -/
theorem ker_main_v16 (n : Fin 4096) (e : Fin 1024) : MM.ent 4096 1024 .f32 (W8 m ρ c main_v16) n e = MM.sumNN 4096 1536 1024 .f32 .f32 (x8 m c) (x9 m c) n e + MM.ent 4096 1024 .f32 (x10 m c) n e := by
  have h : (W8 m ρ c main_v16 : FVec Ideal S4096x1024 .f32) = ((dat4 (V5 m ρ) c).arrAt 3 cfg4.N : FVec Ideal S4096x1024 .f32) := d8 (d7 (W6_arr m ρ c 3))
  refine (congrFun h (ix2 n e)).trans ((prod4 (V5 m ρ) c n e).trans ?_)
  rw [rd4_0, rd4_1, rd4_2]

/-- What call 5 leaves, from the arguments. -/
theorem ker_main_v17 (n : Fin 4096) (e : Fin 1024) : MM.ent 4096 1024 .f32 (W8 m ρ c main_v17) n e = MM.sumNN 4096 1024 1024 .f32 .f32 (x11 m c) (x12 m c) n e := by
  have h : (W8 m ρ c main_v17 : FVec Ideal S4096x1024 .f32) = ((dat5 (V6 m ρ) c).arrAt 2 cfg5.N : FVec Ideal S4096x1024 .f32) := d8 (W7_arr m ρ c 2)
  refine (congrFun h (ix2 n e)).trans ((prod5 (V6 m ρ) c n e).trans ?_)
  rw [rd5_0, rd5_1]

/-- What call 6 leaves, from the arguments. -/
theorem ker_main_v18 (n : Fin 4096) (e : Fin 1024) : MM.ent 4096 1024 .f32 (W8 m ρ c main_v18) n e = MM.sumNN 4096 256 1024 .f32 .f32 (x13 m c) (x14 m c) n e := by
  have h : (W8 m ρ c main_v18 : FVec Ideal S4096x1024 .f32) = ((dat6 (V7 m ρ) c).arrAt 2 cfg6.N : FVec Ideal S4096x1024 .f32) := W8_arr m ρ c 2
  refine (congrFun h (ix2 n e)).trans ((prod6 (V7 m ρ) c n e).trans ?_)
  rw [rd6_0, rd6_1]

end

end Cert.Kernel5Ideal.Prod

namespace Cert.Reference5Ideal.Prod

open Idealize.ShloMosaic Idealize.ShloMosaic.ValueIdx Idealize.ShloMosaic.TcCoe Cert.Reference5Ideal Cert.Reference5Ideal.Gen Cert.Reference5Ideal.Read
open scoped BigOperators

/-- The reference's result 0 at an entry. -/
theorem ref_main_v0 (x0 : FVec Ideal S4096x1024 .f32) (x1 : FVec Ideal S1024x3200 .f32) (n : Fin 4096) (e : Fin 3200) : MM.ent 4096 3200 .f32 (val_main_v0 (F := Ideal) x0 x1) n e = MM.sumNN 4096 1024 3200 .f32 .f32 x0 x1 n e := by
  refine (val_main_v0_apply x0 x1 (ix2 n e)).trans ?_
  exact MM.sums (fun k => congrArg x0 (funext fun a => by match a with | ⟨0, _⟩ => rfl | ⟨1, _⟩ => rfl)) (fun k => congrArg x1 (funext fun a => by match a with | ⟨0, _⟩ => rfl | ⟨1, _⟩ => rfl))

/-- The reference's result 1 at an entry. -/
theorem ref_main_v1 (x2 : FVec Ideal S4096x256 .f32) (x3 : FVec Ideal S256x512 .f32) (n : Fin 4096) (e : Fin 512) : MM.ent 4096 512 .f32 (val_main_v1 (F := Ideal) x2 x3) n e = MM.sumNN 4096 256 512 .f32 .f32 x2 x3 n e := by
  refine (val_main_v1_apply x2 x3 (ix2 n e)).trans ?_
  exact MM.sums (fun k => congrArg x2 (funext fun a => by match a with | ⟨0, _⟩ => rfl | ⟨1, _⟩ => rfl)) (fun k => congrArg x3 (funext fun a => by match a with | ⟨0, _⟩ => rfl | ⟨1, _⟩ => rfl))

/-- The reference's result 2 at an entry. -/
theorem ref_main_v2 (x4 : FVec Ideal S4096x128 .f32) (x5 : FVec Ideal S128x1024 .f32) (n : Fin 4096) (e : Fin 1024) : MM.ent 4096 1024 .f32 (val_main_v2 (F := Ideal) x4 x5) n e = MM.sumNN 4096 128 1024 .f32 .f32 x4 x5 n e := by
  refine (val_main_v2_apply x4 x5 (ix2 n e)).trans ?_
  exact MM.sums (fun k => congrArg x4 (funext fun a => by match a with | ⟨0, _⟩ => rfl | ⟨1, _⟩ => rfl)) (fun k => congrArg x5 (funext fun a => by match a with | ⟨0, _⟩ => rfl | ⟨1, _⟩ => rfl))

/-- The reference's result 3 at an entry. -/
theorem ref_main_v3 (x6 : FVec Ideal S4096x512 .f32) (x7 : FVec Ideal S512x1024 .f32) (n : Fin 4096) (e : Fin 1024) : MM.ent 4096 1024 .f32 (val_main_v3 (F := Ideal) x6 x7) n e = MM.sumNN 4096 512 1024 .f32 .f32 x6 x7 n e := by
  refine (val_main_v3_apply x6 x7 (ix2 n e)).trans ?_
  exact MM.sums (fun k => congrArg x6 (funext fun a => by match a with | ⟨0, _⟩ => rfl | ⟨1, _⟩ => rfl)) (fun k => congrArg x7 (funext fun a => by match a with | ⟨0, _⟩ => rfl | ⟨1, _⟩ => rfl))

/-- The reference's result 5 at an entry. -/
theorem ref_main_v5 (x8 : FVec Ideal S4096x1536 .f32) (x9 : FVec Ideal S1536x1024 .f32) (x10 : FVec Ideal S4096x1024 .f32) (n : Fin 4096) (e : Fin 1024) : MM.ent 4096 1024 .f32 (val_main_v5 (F := Ideal) x8 x9 x10) n e = MM.sumNN 4096 1536 1024 .f32 .f32 x8 x9 n e + MM.ent 4096 1024 .f32 x10 n e := by
  refine (add_comm (MM.ent 4096 1024 .f32 x10 n e) (MM.ent 4096 1024 .f32 (val_main_v4 (F := Ideal) x8 x9) n e)).trans ?_
  refine congrArg (fun z : EReal => z + MM.ent 4096 1024 .f32 x10 n e) ?_
  refine (val_main_v4_apply x8 x9 (ix2 n e)).trans ?_
  exact MM.sums (fun k => congrArg x8 (funext fun a => by match a with | ⟨0, _⟩ => rfl | ⟨1, _⟩ => rfl)) (fun k => congrArg x9 (funext fun a => by match a with | ⟨0, _⟩ => rfl | ⟨1, _⟩ => rfl))

/-- The reference's result 6 at an entry. -/
theorem ref_main_v6 (x11 : FVec Ideal S4096x1024 .f32) (x12 : FVec Ideal S1024x1024 .f32) (n : Fin 4096) (e : Fin 1024) : MM.ent 4096 1024 .f32 (val_main_v6 (F := Ideal) x11 x12) n e = MM.sumNN 4096 1024 1024 .f32 .f32 x11 x12 n e := by
  refine (val_main_v6_apply x11 x12 (ix2 n e)).trans ?_
  exact MM.sums (fun k => congrArg x11 (funext fun a => by match a with | ⟨0, _⟩ => rfl | ⟨1, _⟩ => rfl)) (fun k => congrArg x12 (funext fun a => by match a with | ⟨0, _⟩ => rfl | ⟨1, _⟩ => rfl))

/-- The reference's result 7 at an entry. -/
theorem ref_main_v7 (x13 : FVec Ideal S4096x256 .f32) (x14 : FVec Ideal S256x1024 .f32) (n : Fin 4096) (e : Fin 1024) : MM.ent 4096 1024 .f32 (val_main_v7 (F := Ideal) x13 x14) n e = MM.sumNN 4096 256 1024 .f32 .f32 x13 x14 n e := by
  refine (val_main_v7_apply x13 x14 (ix2 n e)).trans ?_
  exact MM.sums (fun k => congrArg x13 (funext fun a => by match a with | ⟨0, _⟩ => rfl | ⟨1, _⟩ => rfl)) (fun k => congrArg x14 (funext fun a => by match a with | ⟨0, _⟩ => rfl | ⟨1, _⟩ => rfl))

end Cert.Reference5Ideal.Prod

namespace Cert.Prod5

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference5Ideal (hReference5Ideal := Cert.Reference5Ideal.Gen.facts) := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

section
variable (m : (ℓ : Loc Cert.Kernel5Ideal.nD Cert.Kernel5Ideal.τ Cert.Kernel5Ideal.sig) → Buf (Elt Ideal) ℓ) (ρ : Dev Cert.Kernel5Ideal.nD → PrngReg) (c : Dev Cert.Kernel5Ideal.nD)
open Cert.Kernel5Ideal.Prod

/-- The kernel's result 12 is the reference's. -/
theorem agree_main_v12 : (Cert.Reference5Ideal.Read.val_main_v0 (F := Ideal) (x0 m c) (x1 m c) : FVec Ideal ⟨2, ![4096, 3200]⟩ .f32) = Cert.Kernel5Ideal.Gen.W8 m ρ c Cert.Kernel5Ideal.main_v12 := funext fun i => by
  obtain ⟨n, e, rfl⟩ : ∃ (n : Fin 4096) (e : Fin 3200), i = ix2 n e := ⟨i 0, i 1, funext fun a => by match a with | ⟨0, _⟩ => rfl | ⟨1, _⟩ => rfl⟩
  exact (Cert.Reference5Ideal.Prod.ref_main_v0 _ _ n e).trans (Cert.Kernel5Ideal.Prod.ker_main_v12 m ρ c n e).symm

/-- The kernel's result 13 is the reference's. -/
theorem agree_main_v13 : (Cert.Reference5Ideal.Read.val_main_v1 (F := Ideal) (x2 m c) (x3 m c) : FVec Ideal ⟨2, ![4096, 512]⟩ .f32) = Cert.Kernel5Ideal.Gen.W8 m ρ c Cert.Kernel5Ideal.main_v13 := funext fun i => by
  obtain ⟨n, e, rfl⟩ : ∃ (n : Fin 4096) (e : Fin 512), i = ix2 n e := ⟨i 0, i 1, funext fun a => by match a with | ⟨0, _⟩ => rfl | ⟨1, _⟩ => rfl⟩
  exact (Cert.Reference5Ideal.Prod.ref_main_v1 _ _ n e).trans (Cert.Kernel5Ideal.Prod.ker_main_v13 m ρ c n e).symm

/-- The kernel's result 14 is the reference's. -/
theorem agree_main_v14 : (Cert.Reference5Ideal.Read.val_main_v2 (F := Ideal) (x4 m c) (x5 m c) : FVec Ideal ⟨2, ![4096, 1024]⟩ .f32) = Cert.Kernel5Ideal.Gen.W8 m ρ c Cert.Kernel5Ideal.main_v14 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference5Ideal.Prod.ref_main_v2 _ _ n e).trans (Cert.Kernel5Ideal.Prod.ker_main_v14 m ρ c n e).symm

/-- The kernel's result 15 is the reference's. -/
theorem agree_main_v15 : (Cert.Reference5Ideal.Read.val_main_v3 (F := Ideal) (x6 m c) (x7 m c) : FVec Ideal ⟨2, ![4096, 1024]⟩ .f32) = Cert.Kernel5Ideal.Gen.W8 m ρ c Cert.Kernel5Ideal.main_v15 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference5Ideal.Prod.ref_main_v3 _ _ n e).trans (Cert.Kernel5Ideal.Prod.ker_main_v15 m ρ c n e).symm

/-- The kernel's result 16 is the reference's. -/
theorem agree_main_v16 : (Cert.Reference5Ideal.Read.val_main_v5 (F := Ideal) (x8 m c) (x9 m c) (x10 m c) : FVec Ideal ⟨2, ![4096, 1024]⟩ .f32) = Cert.Kernel5Ideal.Gen.W8 m ρ c Cert.Kernel5Ideal.main_v16 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference5Ideal.Prod.ref_main_v5 _ _ _ n e).trans (Cert.Kernel5Ideal.Prod.ker_main_v16 m ρ c n e).symm

/-- The kernel's result 17 is the reference's. -/
theorem agree_main_v17 : (Cert.Reference5Ideal.Read.val_main_v6 (F := Ideal) (x11 m c) (x12 m c) : FVec Ideal ⟨2, ![4096, 1024]⟩ .f32) = Cert.Kernel5Ideal.Gen.W8 m ρ c Cert.Kernel5Ideal.main_v17 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference5Ideal.Prod.ref_main_v6 _ _ n e).trans (Cert.Kernel5Ideal.Prod.ker_main_v17 m ρ c n e).symm

/-- The kernel's result 18 is the reference's. -/
theorem agree_main_v18 : (Cert.Reference5Ideal.Read.val_main_v7 (F := Ideal) (x13 m c) (x14 m c) : FVec Ideal ⟨2, ![4096, 1024]⟩ .f32) = Cert.Kernel5Ideal.Gen.W8 m ρ c Cert.Kernel5Ideal.main_v18 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference5Ideal.Prod.ref_main_v7 _ _ n e).trans (Cert.Kernel5Ideal.Prod.ker_main_v18 m ρ c n e).symm

end

/-- The kernel and the reference end with equal results. -/
theorem value : Cert.algebraic_Kernel5Ideal_Reference5Ideal (hKernel5Ideal := Cert.Kernel5Ideal.Gen.facts)
    (hReference5Ideal := Cert.Reference5Ideal.Gen.facts) := fun m ρ m' ρ' _ hag =>
  ⟨fun c => Cert.Kernel5Ideal.Gen.W8 m ρ c Cert.Kernel5Ideal.main_v12,
    fun c => Cert.Kernel5Ideal.Gen.W8 m ρ c Cert.Kernel5Ideal.main_v13,
    fun c => Cert.Kernel5Ideal.Gen.W8 m ρ c Cert.Kernel5Ideal.main_v14,
    fun c => Cert.Kernel5Ideal.Gen.W8 m ρ c Cert.Kernel5Ideal.main_v15,
    fun c => Cert.Kernel5Ideal.Gen.W8 m ρ c Cert.Kernel5Ideal.main_v16,
    fun c => Cert.Kernel5Ideal.Gen.W8 m ρ c Cert.Kernel5Ideal.main_v17,
    fun c => Cert.Kernel5Ideal.Gen.W8 m ρ c Cert.Kernel5Ideal.main_v18,
    (θ_run Cert.Kernel5Ideal.defs _ _).mono (fun _ h c => ⟨(h c).1.1, (h c).1.2.1, (h c).1.2.2.1, (h c).1.2.2.2.1, (h c).1.2.2.2.2.1, (h c).1.2.2.2.2.2.1, (h c).1.2.2.2.2.2.2, (h c).2⟩) (Cert.Kernel5Ideal.Prod.run (F := Ideal) m ρ),
    (θ_run Cert.Reference5Ideal.defs _ _).mono (fun _ h c => by
      obtain ⟨g0, g1, g2, g3, g4, g5, g6, g7, g8, g9, g10, g11, g12, g13, g14⟩ := hag c
      obtain ⟨r0, r1, r2, r3, r4, r5, r6, rest⟩ := h c
      refine ⟨r0.trans ?_, r1.trans ?_, r2.trans ?_, r3.trans ?_, r4.trans ?_, r5.trans ?_, r6.trans ?_, rest⟩
      · rw [Cert.Reference5Ideal.Read.val_main_v0_eq, g0, g1]; exact agree_main_v12 m ρ c
      · rw [Cert.Reference5Ideal.Read.val_main_v1_eq, g2, g3]; exact agree_main_v13 m ρ c
      · rw [Cert.Reference5Ideal.Read.val_main_v2_eq, g4, g5]; exact agree_main_v14 m ρ c
      · rw [Cert.Reference5Ideal.Read.val_main_v3_eq, g6, g7]; exact agree_main_v15 m ρ c
      · rw [Cert.Reference5Ideal.Read.val_main_v5_eq, g8, g9, g10]; exact agree_main_v16 m ρ c
      · rw [Cert.Reference5Ideal.Read.val_main_v6_eq, g11, g12]; exact agree_main_v17 m ρ c
      · rw [Cert.Reference5Ideal.Read.val_main_v7_eq, g13, g14]; exact agree_main_v18 m ρ c)
      (Cert.Reference5Ideal.Value.run (F := Ideal) m' ρ')⟩

end Cert.Prod5

end

end
-- ==== Proof.Prod6.lean ====
module

public import proofs.«01_k».proof.Proof.Gen.Kernel6Ideal.Frame
public import proofs.«01_k».proof.Proof.MM
public import Idealize.ShloMosaic.Lib.Pipeline.Value
public import Idealize.ShloMosaic.Lib.ValueLayout
public import Idealize.ShloMosaic.Lib.Pipeline.ValueKit.Tiles

@[expose] public section

set_option maxRecDepth 16384

noncomputable section

/-! The products of the calls, entry by entry of the arrays they leave. -/

namespace Cert.Kernel6Ideal.Prod

open Idealize.ShloMosaic Idealize.ShloMosaic.ValueIdx Idealize.ShloMosaic.TcCoe Cert.Kernel6Ideal Cert.Kernel6Ideal.Gen
open Idealize.ShloMosaic.Pipeline (Dat)
open scoped BigOperators

/-! ## Call 0 -/

/-- The grid point of a row block and a column block of call 0. -/
def pt0 (i : Fin 1) (j : Fin 1) : Fin cfg0.N := ⟨1 * i.val + j.val, by have := i.isLt; have := j.isLt; show _ < 1; omega⟩

theorem ix0_0 : ∀ (i : Fin 1) (j : Fin 1), win0_0.index (pt0 i j) 0 = 0 ∧ win0_0.index (pt0 i j) 1 = i.val := by decide +kernel
theorem ix0_1 : ∀ (i : Fin 1) (j : Fin 1), win0_1.index (pt0 i j) 0 = 0 ∧ win0_1.index (pt0 i j) 1 = j.val := by decide +kernel
theorem ix0_2 : ∀ (i : Fin 1) (j : Fin 1), win0_2.index (pt0 i j) 0 = i.val ∧ win0_2.index (pt0 i j) 1 = j.val := by decide +kernel
theorem fl0 : ∀ t : Fin cfg0.N, (cfg0.win 2).flush t = true := by decide +kernel
theorem dj0 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne
    ((by decide +kernel : ∀ t t' : Fin grid0.N, win0_2.index t = win0_2.index t' → t = t') t t' h)

/-- The stored block at an entry. -/
theorem pay0 (x0 : Vec Ideal S4096x256 .f32) (x1 : Vec Ideal S4096x1024 .bf16) (a : Fin 256) (b : Fin 1024) :
    (k0_pay1 x0 x1 : FVec Ideal S256x1024 .bf16) (ix2 a b) = (∑ d : Fin 4096, x0 (ix2 d a) * x1 (ix2 d b)) := by
  unfold k0_pay1
  simp only [shapeCast_self]
  exact MM.tn (φ₁ := .bf16) (φ₂ := .bf16) x0 x1 a b

section
variable (V : (c : Dev nD) → (b : Ref sig .tc) → Buf (Elt Ideal) ((c : Thread nD τ).loc b)) (c : Dev nD)
/-- The block the body stores. -/
theorem outs0 (t : Fin cfg0.N) : outsAt0 V c t = k0_pay1 (iblk0 V c 0 t) (iblk0 V c 1 t) := by
  unfold outsAt0 out0_A_2
  rw [View.read_writes_eq_canon _ _ _ (cover0_A_2 c _ _ _ _ _ _ _ _ _ _ _ )]
  unfold kernelRun0_A
  refine (View.canon_unit_zero (S := S256x1024) (by decide) inb_S256x1024_S256x1024_0_0 _).trans ?_
  rw [MM.ld_whole _ _ (by decide), MM.ld_whole _ _ (by decide)]

theorem ib0_0 (i : Fin 1) (j : Fin 1) (p : Fin 4096) (q : Fin 256) (n : Fin 4096) (e : Fin 256) (hn : n.val = p.val) (he : e.val = 256 * i.val + q.val) :
    (iblk0 V c 0 (pt0 i j) : FVec Ideal S4096x256 .f32) (ix2 p q) = (V c main_arg16 : FVec Ideal S4096x256 .f32) (ix2 n e) := by
  refine (View.read_apply _ _).trans (congrArg (V c main_arg16) (MM.eq2 _ n e ?_ ?_))
  · show win0_0.index (pt0 i j) 0 * 4096 + 1 * p.val = n.val; rw [(ix0_0 i j).1]; omega
  · show win0_0.index (pt0 i j) 1 * 256 + 1 * q.val = e.val; rw [(ix0_0 i j).2]; omega

theorem ib0_1 (i : Fin 1) (j : Fin 1) (p : Fin 4096) (q : Fin 1024) (n : Fin 4096) (e : Fin 1024) (hn : n.val = p.val) (he : e.val = 1024 * j.val + q.val) :
    (iblk0 V c 1 (pt0 i j) : FVec Ideal S4096x1024 .bf16) (ix2 p q) = (V c main_v14 : FVec Ideal S4096x1024 .bf16) (ix2 n e) := by
  refine (View.read_apply _ _).trans (congrArg (V c main_v14) (MM.eq2 _ n e ?_ ?_))
  · show win0_1.index (pt0 i j) 0 * 4096 + 1 * p.val = n.val; rw [(ix0_1 i j).1]; omega
  · show win0_1.index (pt0 i j) 1 * 1024 + 1 * q.val = e.val; rw [(ix0_1 i j).2]; omega

theorem at0 (i : Fin 1) (j : Fin 1) (p : Fin 256) (q : Fin 1024) (n : Fin 256) (e : Fin 1024) (hn : n.val = 256 * i.val + p.val) (he : e.val = 1024 * j.val + q.val) :
    ((dat0 V c).arrAt 2 cfg0.N : FVec Ideal S256x1024 .bf16) (ix2 n e) = (outsAt0 V c (pt0 i j)) (ix2 p q) := by
  have hb := congrFun ((dat0 V c).read_blk_arrAt_eq_flushed 2 dj0 cfg0.N (pt0 i j) (pt0 i j).isLt (fl0 _)) (ix2 p q : S256x1024.Idx)
  rw [View.read_apply] at hb
  refine Eq.trans ?_ (hb.trans ?_)
  · show ((dat0 V c).arrAt 2 cfg0.N : FVec Ideal S256x1024 .bf16) _ = ((dat0 V c).arrAt 2 cfg0.N : FVec Ideal S256x1024 .bf16) _
    congr 1
    funext x
    apply Fin.ext
    match x with
    | ⟨0, _⟩ => show n.val = win0_2.index (pt0 i j) 0 * 256 + 1 * p.val; rw [(ix0_2 i j).1]; omega
    | ⟨1, _⟩ => show e.val = win0_2.index (pt0 i j) 1 * 1024 + 1 * q.val; rw [(ix0_2 i j).2]; omega
  · show (cfg0.win 2).cut (grid0.coords (pt0 i j)) ((dat0 V c).after 2 (pt0 i j)) (ix2 p q : S256x1024.Idx) = _
    rw [after0_2]; rfl

/-- The array call 0 leaves, as the product of the arrays it finds. -/
theorem prod0 (n : Fin 256) (e : Fin 1024) :
    ((dat0 V c).arrAt 2 cfg0.N : FVec Ideal S256x1024 .bf16) (ix2 n e)
      = MM.sumTN 256 4096 1024 .f32 .bf16 (V c main_arg16) (V c main_v14) n e := by
  obtain ⟨i, p, hn⟩ := MM.split 1 256 rfl n
  obtain ⟨j, q, he⟩ := MM.split 1 1024 rfl e
  rw [at0 V c i j p q n e hn he, outs0, pay0]
  exact MM.sums (fun d => ib0_0 V c i j d p d n rfl hn) (fun d => ib0_1 V c i j d q d e rfl he)

/-! ## Call 1 -/

/-- The grid point of a row block and a column block of call 1. -/
def pt1 (i : Fin 4) (j : Fin 1) : Fin cfg1.N := ⟨1 * i.val + j.val, by have := i.isLt; have := j.isLt; show _ < 4; omega⟩

theorem ix1_0 : ∀ (i : Fin 4) (j : Fin 1), win1_0.index (pt1 i j) 0 = i.val ∧ win1_0.index (pt1 i j) 1 = 0 := by decide +kernel
theorem ix1_1 : ∀ (i : Fin 4) (j : Fin 1), win1_1.index (pt1 i j) 0 = j.val ∧ win1_1.index (pt1 i j) 1 = 0 := by decide +kernel
theorem ix1_2 : ∀ (i : Fin 4) (j : Fin 1), win1_2.index (pt1 i j) 0 = i.val ∧ win1_2.index (pt1 i j) 1 = j.val := by decide +kernel
theorem fl1 : ∀ t : Fin cfg1.N, (cfg1.win 2).flush t = true := by decide +kernel
theorem dj1 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne
    ((by decide +kernel : ∀ t t' : Fin grid1.N, win1_2.index t = win1_2.index t' → t = t') t t' h)

/-- The stored block at an entry. -/
theorem pay1 (x0 : Vec Ideal S1024x1024 .bf16) (x1 : Vec Ideal S1024x1024 .bf16) (a : Fin 1024) (b : Fin 1024) :
    (k1_pay1 x0 x1 : FVec Ideal S1024x1024 .f32) (ix2 a b) = (∑ d : Fin 1024, x0 (ix2 a d) * x1 (ix2 b d)) := by
  unfold k1_pay1
  simp only [shapeCast_self]
  exact MM.nt (φ₁ := .bf16) (φ₂ := .bf16) x0 x1 a b

/-- The block the body stores. -/
theorem outs1 (t : Fin cfg1.N) : outsAt1 V c t = k1_pay1 (iblk1 V c 0 t) (iblk1 V c 1 t) := by
  unfold outsAt1 out1_A_2
  rw [View.read_writes_eq_canon _ _ _ (cover1_A_2 c _ _ _ _ _ _ _ _ _ _ _ )]
  unfold kernelRun1_A
  refine (View.canon_unit_zero (S := S1024x1024) (by decide) inb_S1024x1024_S1024x1024_0_0 _).trans ?_
  rw [MM.ld_whole _ _ (by decide), MM.ld_whole _ _ (by decide)]

theorem ib1_0 (i : Fin 4) (j : Fin 1) (p : Fin 1024) (q : Fin 1024) (n : Fin 4096) (e : Fin 1024) (hn : n.val = 1024 * i.val + p.val) (he : e.val = q.val) :
    (iblk1 V c 0 (pt1 i j) : FVec Ideal S1024x1024 .bf16) (ix2 p q) = (V c main_v13 : FVec Ideal S4096x1024 .bf16) (ix2 n e) := by
  refine (View.read_apply _ _).trans (congrArg (V c main_v13) (MM.eq2 _ n e ?_ ?_))
  · show win1_0.index (pt1 i j) 0 * 1024 + 1 * p.val = n.val; rw [(ix1_0 i j).1]; omega
  · show win1_0.index (pt1 i j) 1 * 1024 + 1 * q.val = e.val; rw [(ix1_0 i j).2]; omega

theorem ib1_1 (i : Fin 4) (j : Fin 1) (p : Fin 1024) (q : Fin 1024) (n : Fin 1024) (e : Fin 1024) (hn : n.val = 1024 * j.val + p.val) (he : e.val = q.val) :
    (iblk1 V c 1 (pt1 i j) : FVec Ideal S1024x1024 .bf16) (ix2 p q) = (V c main_v12 : FVec Ideal S1024x1024 .bf16) (ix2 n e) := by
  refine (View.read_apply _ _).trans (congrArg (V c main_v12) (MM.eq2 _ n e ?_ ?_))
  · show win1_1.index (pt1 i j) 0 * 1024 + 1 * p.val = n.val; rw [(ix1_1 i j).1]; omega
  · show win1_1.index (pt1 i j) 1 * 1024 + 1 * q.val = e.val; rw [(ix1_1 i j).2]; omega

theorem at1 (i : Fin 4) (j : Fin 1) (p : Fin 1024) (q : Fin 1024) (n : Fin 4096) (e : Fin 1024) (hn : n.val = 1024 * i.val + p.val) (he : e.val = 1024 * j.val + q.val) :
    ((dat1 V c).arrAt 2 cfg1.N : FVec Ideal S4096x1024 .f32) (ix2 n e) = (outsAt1 V c (pt1 i j)) (ix2 p q) := by
  have hb := congrFun ((dat1 V c).read_blk_arrAt_eq_flushed 2 dj1 cfg1.N (pt1 i j) (pt1 i j).isLt (fl1 _)) (ix2 p q : S1024x1024.Idx)
  rw [View.read_apply] at hb
  refine Eq.trans ?_ (hb.trans ?_)
  · show ((dat1 V c).arrAt 2 cfg1.N : FVec Ideal S4096x1024 .f32) _ = ((dat1 V c).arrAt 2 cfg1.N : FVec Ideal S4096x1024 .f32) _
    congr 1
    funext x
    apply Fin.ext
    match x with
    | ⟨0, _⟩ => show n.val = win1_2.index (pt1 i j) 0 * 1024 + 1 * p.val; rw [(ix1_2 i j).1]; omega
    | ⟨1, _⟩ => show e.val = win1_2.index (pt1 i j) 1 * 1024 + 1 * q.val; rw [(ix1_2 i j).2]; omega
  · show (cfg1.win 2).cut (grid1.coords (pt1 i j)) ((dat1 V c).after 2 (pt1 i j)) (ix2 p q : S1024x1024.Idx) = _
    rw [after1_2]; rfl

/-- The array call 1 leaves, as the product of the arrays it finds. -/
theorem prod1 (n : Fin 4096) (e : Fin 1024) :
    ((dat1 V c).arrAt 2 cfg1.N : FVec Ideal S4096x1024 .f32) (ix2 n e)
      = MM.sumNT 4096 1024 1024 .bf16 .bf16 (V c main_v13) (V c main_v12) n e := by
  obtain ⟨i, p, hn⟩ := MM.split 4 1024 rfl n
  obtain ⟨j, q, he⟩ := MM.split 1 1024 rfl e
  rw [at1 V c i j p q n e hn he, outs1, pay1]
  exact MM.sums (fun d => ib1_0 V c i j p d n d hn rfl) (fun d => ib1_1 V c i j q d e d he rfl)

/-! ## Call 2 -/

/-- The grid point of a row block and a column block of call 2. -/
def pt2 (i : Fin 2) (j : Fin 1) : Fin cfg2.N := ⟨1 * i.val + j.val, by have := i.isLt; have := j.isLt; show _ < 2; omega⟩

theorem ix2_0 : ∀ (i : Fin 2) (j : Fin 1), win2_0.index (pt2 i j) 0 = 0 ∧ win2_0.index (pt2 i j) 1 = i.val := by decide +kernel
theorem ix2_1 : ∀ (i : Fin 2) (j : Fin 1), win2_1.index (pt2 i j) 0 = 0 ∧ win2_1.index (pt2 i j) 1 = j.val := by decide +kernel
theorem ix2_2 : ∀ (i : Fin 2) (j : Fin 1), win2_2.index (pt2 i j) 0 = i.val ∧ win2_2.index (pt2 i j) 1 = j.val := by decide +kernel
theorem fl2 : ∀ t : Fin cfg2.N, (cfg2.win 2).flush t = true := by decide +kernel
theorem dj2 : ∀ t t' : Fin cfg2.N, (cfg2.win 2).flush t = true → (cfg2.win 2).flush t' = true → t ≠ t' →
    Disjoint ((cfg2.win 2).blk t).view.set ((cfg2.win 2).blk t').view.set :=
  fun t t' _ _ hne => (cfg2.win 2).disjoint_blk fun h => hne
    ((by decide +kernel : ∀ t t' : Fin grid2.N, win2_2.index t = win2_2.index t' → t = t') t t' h)

/-- The stored block at an entry. -/
theorem pay2 (x0 : Vec Ideal S4096x512 .bf16) (x1 : Vec Ideal S4096x1024 .bf16) (a : Fin 512) (b : Fin 1024) :
    (k2_pay1 x0 x1 : FVec Ideal S512x1024 .bf16) (ix2 a b) = (∑ d : Fin 4096, x0 (ix2 d a) * x1 (ix2 d b)) := by
  unfold k2_pay1
  simp only [shapeCast_self]
  exact MM.tn (φ₁ := .bf16) (φ₂ := .bf16) x0 x1 a b

/-- The block the body stores. -/
theorem outs2 (t : Fin cfg2.N) : outsAt2 V c t = k2_pay1 (iblk2 V c 0 t) (iblk2 V c 1 t) := by
  unfold outsAt2 out2_A_2
  rw [View.read_writes_eq_canon _ _ _ (cover2_A_2 c _ _ _ _ _ _ _ _ _ _ _ )]
  unfold kernelRun2_A
  refine (View.canon_unit_zero (S := S512x1024) (by decide) inb_S512x1024_S512x1024_0_0 _).trans ?_
  rw [MM.ld_whole _ _ (by decide), MM.ld_whole _ _ (by decide)]

theorem ib2_0 (i : Fin 2) (j : Fin 1) (p : Fin 4096) (q : Fin 512) (n : Fin 4096) (e : Fin 1024) (hn : n.val = p.val) (he : e.val = 512 * i.val + q.val) :
    (iblk2 V c 0 (pt2 i j) : FVec Ideal S4096x512 .bf16) (ix2 p q) = (V c main_v11 : FVec Ideal S4096x1024 .bf16) (ix2 n e) := by
  refine (View.read_apply _ _).trans (congrArg (V c main_v11) (MM.eq2 _ n e ?_ ?_))
  · show win2_0.index (pt2 i j) 0 * 4096 + 1 * p.val = n.val; rw [(ix2_0 i j).1]; omega
  · show win2_0.index (pt2 i j) 1 * 512 + 1 * q.val = e.val; rw [(ix2_0 i j).2]; omega

theorem ib2_1 (i : Fin 2) (j : Fin 1) (p : Fin 4096) (q : Fin 1024) (n : Fin 4096) (e : Fin 1024) (hn : n.val = p.val) (he : e.val = 1024 * j.val + q.val) :
    (iblk2 V c 1 (pt2 i j) : FVec Ideal S4096x1024 .bf16) (ix2 p q) = (V c main_v13 : FVec Ideal S4096x1024 .bf16) (ix2 n e) := by
  refine (View.read_apply _ _).trans (congrArg (V c main_v13) (MM.eq2 _ n e ?_ ?_))
  · show win2_1.index (pt2 i j) 0 * 4096 + 1 * p.val = n.val; rw [(ix2_1 i j).1]; omega
  · show win2_1.index (pt2 i j) 1 * 1024 + 1 * q.val = e.val; rw [(ix2_1 i j).2]; omega

theorem at2 (i : Fin 2) (j : Fin 1) (p : Fin 512) (q : Fin 1024) (n : Fin 1024) (e : Fin 1024) (hn : n.val = 512 * i.val + p.val) (he : e.val = 1024 * j.val + q.val) :
    ((dat2 V c).arrAt 2 cfg2.N : FVec Ideal S1024x1024 .bf16) (ix2 n e) = (outsAt2 V c (pt2 i j)) (ix2 p q) := by
  have hb := congrFun ((dat2 V c).read_blk_arrAt_eq_flushed 2 dj2 cfg2.N (pt2 i j) (pt2 i j).isLt (fl2 _)) (ix2 p q : S512x1024.Idx)
  rw [View.read_apply] at hb
  refine Eq.trans ?_ (hb.trans ?_)
  · show ((dat2 V c).arrAt 2 cfg2.N : FVec Ideal S1024x1024 .bf16) _ = ((dat2 V c).arrAt 2 cfg2.N : FVec Ideal S1024x1024 .bf16) _
    congr 1
    funext x
    apply Fin.ext
    match x with
    | ⟨0, _⟩ => show n.val = win2_2.index (pt2 i j) 0 * 512 + 1 * p.val; rw [(ix2_2 i j).1]; omega
    | ⟨1, _⟩ => show e.val = win2_2.index (pt2 i j) 1 * 1024 + 1 * q.val; rw [(ix2_2 i j).2]; omega
  · show (cfg2.win 2).cut (grid2.coords (pt2 i j)) ((dat2 V c).after 2 (pt2 i j)) (ix2 p q : S512x1024.Idx) = _
    rw [after2_2]; rfl

/-- The array call 2 leaves, as the product of the arrays it finds. -/
theorem prod2 (n : Fin 1024) (e : Fin 1024) :
    ((dat2 V c).arrAt 2 cfg2.N : FVec Ideal S1024x1024 .bf16) (ix2 n e)
      = MM.sumTN 1024 4096 1024 .bf16 .bf16 (V c main_v11) (V c main_v13) n e := by
  obtain ⟨i, p, hn⟩ := MM.split 2 512 rfl n
  obtain ⟨j, q, he⟩ := MM.split 1 1024 rfl e
  rw [at2 V c i j p q n e hn he, outs2, pay2]
  exact MM.sums (fun d => ib2_0 V c i j d p d n rfl hn) (fun d => ib2_1 V c i j d q d e rfl he)

/-! ## Call 3 -/

/-- The grid point of a row block and a column block of call 3. -/
def pt3 (i : Fin 4) (j : Fin 1) : Fin cfg3.N := ⟨1 * i.val + j.val, by have := i.isLt; have := j.isLt; show _ < 4; omega⟩

theorem ix3_0 : ∀ (i : Fin 4) (j : Fin 1), win3_0.index (pt3 i j) 0 = i.val ∧ win3_0.index (pt3 i j) 1 = 0 := by decide +kernel
theorem ix3_1 : ∀ (i : Fin 4) (j : Fin 1), win3_1.index (pt3 i j) 0 = j.val ∧ win3_1.index (pt3 i j) 1 = 0 := by decide +kernel
theorem ix3_2 : ∀ (i : Fin 4) (j : Fin 1), win3_2.index (pt3 i j) 0 = i.val ∧ win3_2.index (pt3 i j) 1 = j.val := by decide +kernel
theorem fl3 : ∀ t : Fin cfg3.N, (cfg3.win 2).flush t = true := by decide +kernel
theorem dj3 : ∀ t t' : Fin cfg3.N, (cfg3.win 2).flush t = true → (cfg3.win 2).flush t' = true → t ≠ t' →
    Disjoint ((cfg3.win 2).blk t).view.set ((cfg3.win 2).blk t').view.set :=
  fun t t' _ _ hne => (cfg3.win 2).disjoint_blk fun h => hne
    ((by decide +kernel : ∀ t t' : Fin grid3.N, win3_2.index t = win3_2.index t' → t = t') t t' h)

/-- The stored block at an entry. -/
theorem pay3 (x0 : Vec Ideal S1024x1024 .f32) (x1 : Vec Ideal S1536x1024 .bf16) (a : Fin 1024) (b : Fin 1536) :
    (k3_pay1 x0 x1 : FVec Ideal S1024x1536 .f32) (ix2 a b) = (∑ d : Fin 1024, x0 (ix2 a d) * x1 (ix2 b d)) := by
  unfold k3_pay1
  simp only [shapeCast_self]
  exact MM.nt (φ₁ := .bf16) (φ₂ := .bf16) x0 x1 a b

/-- The block the body stores. -/
theorem outs3 (t : Fin cfg3.N) : outsAt3 V c t = k3_pay1 (iblk3 V c 0 t) (iblk3 V c 1 t) := by
  unfold outsAt3 out3_A_2
  rw [View.read_writes_eq_canon _ _ _ (cover3_A_2 c _ _ _ _ _ _ _ _ _ _ _ )]
  unfold kernelRun3_A
  refine (View.canon_unit_zero (S := S1024x1536) (by decide) inb_S1024x1536_S1024x1536_0_0 _).trans ?_
  rw [MM.ld_whole _ _ (by decide), MM.ld_whole _ _ (by decide)]

theorem ib3_0 (i : Fin 4) (j : Fin 1) (p : Fin 1024) (q : Fin 1024) (n : Fin 4096) (e : Fin 1024) (hn : n.val = 1024 * i.val + p.val) (he : e.val = q.val) :
    (iblk3 V c 0 (pt3 i j) : FVec Ideal S1024x1024 .f32) (ix2 p q) = (V c main_arg12 : FVec Ideal S4096x1024 .f32) (ix2 n e) := by
  refine (View.read_apply _ _).trans (congrArg (V c main_arg12) (MM.eq2 _ n e ?_ ?_))
  · show win3_0.index (pt3 i j) 0 * 1024 + 1 * p.val = n.val; rw [(ix3_0 i j).1]; omega
  · show win3_0.index (pt3 i j) 1 * 1024 + 1 * q.val = e.val; rw [(ix3_0 i j).2]; omega

theorem ib3_1 (i : Fin 4) (j : Fin 1) (p : Fin 1536) (q : Fin 1024) (n : Fin 1536) (e : Fin 1024) (hn : n.val = 1536 * j.val + p.val) (he : e.val = q.val) :
    (iblk3 V c 1 (pt3 i j) : FVec Ideal S1536x1024 .bf16) (ix2 p q) = (V c main_v10 : FVec Ideal S1536x1024 .bf16) (ix2 n e) := by
  refine (View.read_apply _ _).trans (congrArg (V c main_v10) (MM.eq2 _ n e ?_ ?_))
  · show win3_1.index (pt3 i j) 0 * 1536 + 1 * p.val = n.val; rw [(ix3_1 i j).1]; omega
  · show win3_1.index (pt3 i j) 1 * 1024 + 1 * q.val = e.val; rw [(ix3_1 i j).2]; omega

theorem at3 (i : Fin 4) (j : Fin 1) (p : Fin 1024) (q : Fin 1536) (n : Fin 4096) (e : Fin 1536) (hn : n.val = 1024 * i.val + p.val) (he : e.val = 1536 * j.val + q.val) :
    ((dat3 V c).arrAt 2 cfg3.N : FVec Ideal S4096x1536 .f32) (ix2 n e) = (outsAt3 V c (pt3 i j)) (ix2 p q) := by
  have hb := congrFun ((dat3 V c).read_blk_arrAt_eq_flushed 2 dj3 cfg3.N (pt3 i j) (pt3 i j).isLt (fl3 _)) (ix2 p q : S1024x1536.Idx)
  rw [View.read_apply] at hb
  refine Eq.trans ?_ (hb.trans ?_)
  · show ((dat3 V c).arrAt 2 cfg3.N : FVec Ideal S4096x1536 .f32) _ = ((dat3 V c).arrAt 2 cfg3.N : FVec Ideal S4096x1536 .f32) _
    congr 1
    funext x
    apply Fin.ext
    match x with
    | ⟨0, _⟩ => show n.val = win3_2.index (pt3 i j) 0 * 1024 + 1 * p.val; rw [(ix3_2 i j).1]; omega
    | ⟨1, _⟩ => show e.val = win3_2.index (pt3 i j) 1 * 1536 + 1 * q.val; rw [(ix3_2 i j).2]; omega
  · show (cfg3.win 2).cut (grid3.coords (pt3 i j)) ((dat3 V c).after 2 (pt3 i j)) (ix2 p q : S1024x1536.Idx) = _
    rw [after3_2]; rfl

/-- The array call 3 leaves, as the product of the arrays it finds. -/
theorem prod3 (n : Fin 4096) (e : Fin 1536) :
    ((dat3 V c).arrAt 2 cfg3.N : FVec Ideal S4096x1536 .f32) (ix2 n e)
      = MM.sumNT 4096 1024 1536 .f32 .bf16 (V c main_arg12) (V c main_v10) n e := by
  obtain ⟨i, p, hn⟩ := MM.split 4 1024 rfl n
  obtain ⟨j, q, he⟩ := MM.split 1 1536 rfl e
  rw [at3 V c i j p q n e hn he, outs3, pay3]
  exact MM.sums (fun d => ib3_0 V c i j p d n d hn rfl) (fun d => ib3_1 V c i j q d e d he rfl)

/-! ## Call 4 -/

/-- The grid point of a row block and a column block of call 4. -/
def pt4 (i : Fin 4) (j : Fin 1) : Fin cfg4.N := ⟨1 * i.val + j.val, by have := i.isLt; have := j.isLt; show _ < 4; omega⟩

theorem ix4_0 : ∀ (i : Fin 4) (j : Fin 1), win4_0.index (pt4 i j) 0 = i.val ∧ win4_0.index (pt4 i j) 1 = 0 := by decide +kernel
theorem ix4_1 : ∀ (i : Fin 4) (j : Fin 1), win4_1.index (pt4 i j) 0 = j.val ∧ win4_1.index (pt4 i j) 1 = 0 := by decide +kernel
theorem ix4_2 : ∀ (i : Fin 4) (j : Fin 1), win4_2.index (pt4 i j) 0 = i.val ∧ win4_2.index (pt4 i j) 1 = j.val := by decide +kernel
theorem fl4 : ∀ t : Fin cfg4.N, (cfg4.win 2).flush t = true := by decide +kernel
theorem dj4 : ∀ t t' : Fin cfg4.N, (cfg4.win 2).flush t = true → (cfg4.win 2).flush t' = true → t ≠ t' →
    Disjoint ((cfg4.win 2).blk t).view.set ((cfg4.win 2).blk t').view.set :=
  fun t t' _ _ hne => (cfg4.win 2).disjoint_blk fun h => hne
    ((by decide +kernel : ∀ t t' : Fin grid4.N, win4_2.index t = win4_2.index t' → t = t') t t' h)

/-- The stored block at an entry. -/
theorem pay4 (x0 : Vec Ideal S1024x1024 .bf16) (x1 : Vec Ideal S512x1024 .bf16) (a : Fin 1024) (b : Fin 512) :
    (k4_pay1 x0 x1 : FVec Ideal S1024x512 .f32) (ix2 a b) = (∑ d : Fin 1024, x0 (ix2 a d) * x1 (ix2 b d)) := by
  unfold k4_pay1
  simp only [shapeCast_self]
  exact MM.nt (φ₁ := .bf16) (φ₂ := .bf16) x0 x1 a b

/-- The block the body stores. -/
theorem outs4 (t : Fin cfg4.N) : outsAt4 V c t = k4_pay1 (iblk4 V c 0 t) (iblk4 V c 1 t) := by
  unfold outsAt4 out4_A_2
  rw [View.read_writes_eq_canon _ _ _ (cover4_A_2 c _ _ _ _ _ _ _ _ _ _ _ )]
  unfold kernelRun4_A
  refine (View.canon_unit_zero (S := S1024x512) (by decide) inb_S1024x512_S1024x512_0_0 _).trans ?_
  rw [MM.ld_whole _ _ (by decide), MM.ld_whole _ _ (by decide)]

theorem ib4_0 (i : Fin 4) (j : Fin 1) (p : Fin 1024) (q : Fin 1024) (n : Fin 4096) (e : Fin 1024) (hn : n.val = 1024 * i.val + p.val) (he : e.val = q.val) :
    (iblk4 V c 0 (pt4 i j) : FVec Ideal S1024x1024 .bf16) (ix2 p q) = (V c main_v9 : FVec Ideal S4096x1024 .bf16) (ix2 n e) := by
  refine (View.read_apply _ _).trans (congrArg (V c main_v9) (MM.eq2 _ n e ?_ ?_))
  · show win4_0.index (pt4 i j) 0 * 1024 + 1 * p.val = n.val; rw [(ix4_0 i j).1]; omega
  · show win4_0.index (pt4 i j) 1 * 1024 + 1 * q.val = e.val; rw [(ix4_0 i j).2]; omega

theorem ib4_1 (i : Fin 4) (j : Fin 1) (p : Fin 512) (q : Fin 1024) (n : Fin 512) (e : Fin 1024) (hn : n.val = 512 * j.val + p.val) (he : e.val = q.val) :
    (iblk4 V c 1 (pt4 i j) : FVec Ideal S512x1024 .bf16) (ix2 p q) = (V c main_v8 : FVec Ideal S512x1024 .bf16) (ix2 n e) := by
  refine (View.read_apply _ _).trans (congrArg (V c main_v8) (MM.eq2 _ n e ?_ ?_))
  · show win4_1.index (pt4 i j) 0 * 512 + 1 * p.val = n.val; rw [(ix4_1 i j).1]; omega
  · show win4_1.index (pt4 i j) 1 * 1024 + 1 * q.val = e.val; rw [(ix4_1 i j).2]; omega

theorem at4 (i : Fin 4) (j : Fin 1) (p : Fin 1024) (q : Fin 512) (n : Fin 4096) (e : Fin 512) (hn : n.val = 1024 * i.val + p.val) (he : e.val = 512 * j.val + q.val) :
    ((dat4 V c).arrAt 2 cfg4.N : FVec Ideal S4096x512 .f32) (ix2 n e) = (outsAt4 V c (pt4 i j)) (ix2 p q) := by
  have hb := congrFun ((dat4 V c).read_blk_arrAt_eq_flushed 2 dj4 cfg4.N (pt4 i j) (pt4 i j).isLt (fl4 _)) (ix2 p q : S1024x512.Idx)
  rw [View.read_apply] at hb
  refine Eq.trans ?_ (hb.trans ?_)
  · show ((dat4 V c).arrAt 2 cfg4.N : FVec Ideal S4096x512 .f32) _ = ((dat4 V c).arrAt 2 cfg4.N : FVec Ideal S4096x512 .f32) _
    congr 1
    funext x
    apply Fin.ext
    match x with
    | ⟨0, _⟩ => show n.val = win4_2.index (pt4 i j) 0 * 1024 + 1 * p.val; rw [(ix4_2 i j).1]; omega
    | ⟨1, _⟩ => show e.val = win4_2.index (pt4 i j) 1 * 512 + 1 * q.val; rw [(ix4_2 i j).2]; omega
  · show (cfg4.win 2).cut (grid4.coords (pt4 i j)) ((dat4 V c).after 2 (pt4 i j)) (ix2 p q : S1024x512.Idx) = _
    rw [after4_2]; rfl

/-- The array call 4 leaves, as the product of the arrays it finds. -/
theorem prod4 (n : Fin 4096) (e : Fin 512) :
    ((dat4 V c).arrAt 2 cfg4.N : FVec Ideal S4096x512 .f32) (ix2 n e)
      = MM.sumNT 4096 1024 512 .bf16 .bf16 (V c main_v9) (V c main_v8) n e := by
  obtain ⟨i, p, hn⟩ := MM.split 4 1024 rfl n
  obtain ⟨j, q, he⟩ := MM.split 1 512 rfl e
  rw [at4 V c i j p q n e hn he, outs4, pay4]
  exact MM.sums (fun d => ib4_0 V c i j p d n d hn rfl) (fun d => ib4_1 V c i j q d e d he rfl)

/-! ## Call 5 -/

/-- The grid point of a row block and a column block of call 5. -/
def pt5 (i : Fin 2) (j : Fin 1) : Fin cfg5.N := ⟨1 * i.val + j.val, by have := i.isLt; have := j.isLt; show _ < 2; omega⟩

theorem ix5_0 : ∀ (i : Fin 2) (j : Fin 1), win5_0.index (pt5 i j) 0 = 0 ∧ win5_0.index (pt5 i j) 1 = i.val := by decide +kernel
theorem ix5_1 : ∀ (i : Fin 2) (j : Fin 1), win5_1.index (pt5 i j) 0 = 0 ∧ win5_1.index (pt5 i j) 1 = j.val := by decide +kernel
theorem ix5_2 : ∀ (i : Fin 2) (j : Fin 1), win5_2.index (pt5 i j) 0 = i.val ∧ win5_2.index (pt5 i j) 1 = j.val := by decide +kernel
theorem fl5 : ∀ t : Fin cfg5.N, (cfg5.win 2).flush t = true := by decide +kernel
theorem dj5 : ∀ t t' : Fin cfg5.N, (cfg5.win 2).flush t = true → (cfg5.win 2).flush t' = true → t ≠ t' →
    Disjoint ((cfg5.win 2).blk t).view.set ((cfg5.win 2).blk t').view.set :=
  fun t t' _ _ hne => (cfg5.win 2).disjoint_blk fun h => hne
    ((by decide +kernel : ∀ t t' : Fin grid5.N, win5_2.index t = win5_2.index t' → t = t') t t' h)

/-- The stored block at an entry. -/
theorem pay5 (x0 : Vec Ideal S4096x256 .f32) (x1 : Vec Ideal S4096x1024 .bf16) (a : Fin 256) (b : Fin 1024) :
    (k5_pay1 x0 x1 : FVec Ideal S256x1024 .f32) (ix2 a b) = (∑ d : Fin 4096, x0 (ix2 d a) * x1 (ix2 d b)) := by
  unfold k5_pay1
  simp only [shapeCast_self]
  exact MM.tn (φ₁ := .bf16) (φ₂ := .bf16) x0 x1 a b

/-- The block the body stores. -/
theorem outs5 (t : Fin cfg5.N) : outsAt5 V c t = k5_pay1 (iblk5 V c 0 t) (iblk5 V c 1 t) := by
  unfold outsAt5 out5_A_2
  rw [View.read_writes_eq_canon _ _ _ (cover5_A_2 c _ _ _ _ _ _ _ _ _ _ _ )]
  unfold kernelRun5_A
  refine (View.canon_unit_zero (S := S256x1024) (by decide) inb_S256x1024_S256x1024_0_0 _).trans ?_
  rw [MM.ld_whole _ _ (by decide), MM.ld_whole _ _ (by decide)]

theorem ib5_0 (i : Fin 2) (j : Fin 1) (p : Fin 4096) (q : Fin 256) (n : Fin 4096) (e : Fin 512) (hn : n.val = p.val) (he : e.val = 256 * i.val + q.val) :
    (iblk5 V c 0 (pt5 i j) : FVec Ideal S4096x256 .f32) (ix2 p q) = (V c main_arg8 : FVec Ideal S4096x512 .f32) (ix2 n e) := by
  refine (View.read_apply _ _).trans (congrArg (V c main_arg8) (MM.eq2 _ n e ?_ ?_))
  · show win5_0.index (pt5 i j) 0 * 4096 + 1 * p.val = n.val; rw [(ix5_0 i j).1]; omega
  · show win5_0.index (pt5 i j) 1 * 256 + 1 * q.val = e.val; rw [(ix5_0 i j).2]; omega

theorem ib5_1 (i : Fin 2) (j : Fin 1) (p : Fin 4096) (q : Fin 1024) (n : Fin 4096) (e : Fin 1024) (hn : n.val = p.val) (he : e.val = 1024 * j.val + q.val) :
    (iblk5 V c 1 (pt5 i j) : FVec Ideal S4096x1024 .bf16) (ix2 p q) = (V c main_v9 : FVec Ideal S4096x1024 .bf16) (ix2 n e) := by
  refine (View.read_apply _ _).trans (congrArg (V c main_v9) (MM.eq2 _ n e ?_ ?_))
  · show win5_1.index (pt5 i j) 0 * 4096 + 1 * p.val = n.val; rw [(ix5_1 i j).1]; omega
  · show win5_1.index (pt5 i j) 1 * 1024 + 1 * q.val = e.val; rw [(ix5_1 i j).2]; omega

theorem at5 (i : Fin 2) (j : Fin 1) (p : Fin 256) (q : Fin 1024) (n : Fin 512) (e : Fin 1024) (hn : n.val = 256 * i.val + p.val) (he : e.val = 1024 * j.val + q.val) :
    ((dat5 V c).arrAt 2 cfg5.N : FVec Ideal S512x1024 .f32) (ix2 n e) = (outsAt5 V c (pt5 i j)) (ix2 p q) := by
  have hb := congrFun ((dat5 V c).read_blk_arrAt_eq_flushed 2 dj5 cfg5.N (pt5 i j) (pt5 i j).isLt (fl5 _)) (ix2 p q : S256x1024.Idx)
  rw [View.read_apply] at hb
  refine Eq.trans ?_ (hb.trans ?_)
  · show ((dat5 V c).arrAt 2 cfg5.N : FVec Ideal S512x1024 .f32) _ = ((dat5 V c).arrAt 2 cfg5.N : FVec Ideal S512x1024 .f32) _
    congr 1
    funext x
    apply Fin.ext
    match x with
    | ⟨0, _⟩ => show n.val = win5_2.index (pt5 i j) 0 * 256 + 1 * p.val; rw [(ix5_2 i j).1]; omega
    | ⟨1, _⟩ => show e.val = win5_2.index (pt5 i j) 1 * 1024 + 1 * q.val; rw [(ix5_2 i j).2]; omega
  · show (cfg5.win 2).cut (grid5.coords (pt5 i j)) ((dat5 V c).after 2 (pt5 i j)) (ix2 p q : S256x1024.Idx) = _
    rw [after5_2]; rfl

/-- The array call 5 leaves, as the product of the arrays it finds. -/
theorem prod5 (n : Fin 512) (e : Fin 1024) :
    ((dat5 V c).arrAt 2 cfg5.N : FVec Ideal S512x1024 .f32) (ix2 n e)
      = MM.sumTN 512 4096 1024 .f32 .bf16 (V c main_arg8) (V c main_v9) n e := by
  obtain ⟨i, p, hn⟩ := MM.split 2 256 rfl n
  obtain ⟨j, q, he⟩ := MM.split 1 1024 rfl e
  rw [at5 V c i j p q n e hn he, outs5, pay5]
  exact MM.sums (fun d => ib5_0 V c i j d p d n rfl hn) (fun d => ib5_1 V c i j d q d e rfl he)

/-! ## Call 6 -/

/-- The grid point of a row block and a column block of call 6. -/
def pt6 (i : Fin 4) (j : Fin 1) : Fin cfg6.N := ⟨1 * i.val + j.val, by have := i.isLt; have := j.isLt; show _ < 4; omega⟩

theorem ix6_0 : ∀ (i : Fin 4) (j : Fin 1), win6_0.index (pt6 i j) 0 = i.val ∧ win6_0.index (pt6 i j) 1 = 0 := by decide +kernel
theorem ix6_1 : ∀ (i : Fin 4) (j : Fin 1), win6_1.index (pt6 i j) 0 = j.val ∧ win6_1.index (pt6 i j) 1 = 0 := by decide +kernel
theorem ix6_2 : ∀ (i : Fin 4) (j : Fin 1), win6_2.index (pt6 i j) 0 = i.val ∧ win6_2.index (pt6 i j) 1 = j.val := by decide +kernel
theorem fl6 : ∀ t : Fin cfg6.N, (cfg6.win 2).flush t = true := by decide +kernel
theorem dj6 : ∀ t t' : Fin cfg6.N, (cfg6.win 2).flush t = true → (cfg6.win 2).flush t' = true → t ≠ t' →
    Disjoint ((cfg6.win 2).blk t).view.set ((cfg6.win 2).blk t').view.set :=
  fun t t' _ _ hne => (cfg6.win 2).disjoint_blk fun h => hne
    ((by decide +kernel : ∀ t t' : Fin grid6.N, win6_2.index t = win6_2.index t' → t = t') t t' h)

/-- The stored block at an entry. -/
theorem pay6 (x0 : Vec Ideal S1024x1024 .bf16) (x1 : Vec Ideal S128x1024 .bf16) (a : Fin 1024) (b : Fin 128) :
    (k6_pay1 x0 x1 : FVec Ideal S1024x128 .f32) (ix2 a b) = (∑ d : Fin 1024, x0 (ix2 a d) * x1 (ix2 b d)) := by
  unfold k6_pay1
  simp only [shapeCast_self]
  exact MM.nt (φ₁ := .bf16) (φ₂ := .bf16) x0 x1 a b

/-- The block the body stores. -/
theorem outs6 (t : Fin cfg6.N) : outsAt6 V c t = k6_pay1 (iblk6 V c 0 t) (iblk6 V c 1 t) := by
  unfold outsAt6 out6_A_2
  rw [View.read_writes_eq_canon _ _ _ (cover6_A_2 c _ _ _ _ _ _ _ _ _ _ _ )]
  unfold kernelRun6_A
  refine (View.canon_unit_zero (S := S1024x128) (by decide) inb_S1024x128_S1024x128_0_0 _).trans ?_
  rw [MM.ld_whole _ _ (by decide), MM.ld_whole _ _ (by decide)]

theorem ib6_0 (i : Fin 4) (j : Fin 1) (p : Fin 1024) (q : Fin 1024) (n : Fin 4096) (e : Fin 1024) (hn : n.val = 1024 * i.val + p.val) (he : e.val = q.val) :
    (iblk6 V c 0 (pt6 i j) : FVec Ideal S1024x1024 .bf16) (ix2 p q) = (V c main_v7 : FVec Ideal S4096x1024 .bf16) (ix2 n e) := by
  refine (View.read_apply _ _).trans (congrArg (V c main_v7) (MM.eq2 _ n e ?_ ?_))
  · show win6_0.index (pt6 i j) 0 * 1024 + 1 * p.val = n.val; rw [(ix6_0 i j).1]; omega
  · show win6_0.index (pt6 i j) 1 * 1024 + 1 * q.val = e.val; rw [(ix6_0 i j).2]; omega

theorem ib6_1 (i : Fin 4) (j : Fin 1) (p : Fin 128) (q : Fin 1024) (n : Fin 128) (e : Fin 1024) (hn : n.val = 128 * j.val + p.val) (he : e.val = q.val) :
    (iblk6 V c 1 (pt6 i j) : FVec Ideal S128x1024 .bf16) (ix2 p q) = (V c main_v6 : FVec Ideal S128x1024 .bf16) (ix2 n e) := by
  refine (View.read_apply _ _).trans (congrArg (V c main_v6) (MM.eq2 _ n e ?_ ?_))
  · show win6_1.index (pt6 i j) 0 * 128 + 1 * p.val = n.val; rw [(ix6_1 i j).1]; omega
  · show win6_1.index (pt6 i j) 1 * 1024 + 1 * q.val = e.val; rw [(ix6_1 i j).2]; omega

theorem at6 (i : Fin 4) (j : Fin 1) (p : Fin 1024) (q : Fin 128) (n : Fin 4096) (e : Fin 128) (hn : n.val = 1024 * i.val + p.val) (he : e.val = 128 * j.val + q.val) :
    ((dat6 V c).arrAt 2 cfg6.N : FVec Ideal S4096x128 .f32) (ix2 n e) = (outsAt6 V c (pt6 i j)) (ix2 p q) := by
  have hb := congrFun ((dat6 V c).read_blk_arrAt_eq_flushed 2 dj6 cfg6.N (pt6 i j) (pt6 i j).isLt (fl6 _)) (ix2 p q : S1024x128.Idx)
  rw [View.read_apply] at hb
  refine Eq.trans ?_ (hb.trans ?_)
  · show ((dat6 V c).arrAt 2 cfg6.N : FVec Ideal S4096x128 .f32) _ = ((dat6 V c).arrAt 2 cfg6.N : FVec Ideal S4096x128 .f32) _
    congr 1
    funext x
    apply Fin.ext
    match x with
    | ⟨0, _⟩ => show n.val = win6_2.index (pt6 i j) 0 * 1024 + 1 * p.val; rw [(ix6_2 i j).1]; omega
    | ⟨1, _⟩ => show e.val = win6_2.index (pt6 i j) 1 * 128 + 1 * q.val; rw [(ix6_2 i j).2]; omega
  · show (cfg6.win 2).cut (grid6.coords (pt6 i j)) ((dat6 V c).after 2 (pt6 i j)) (ix2 p q : S1024x128.Idx) = _
    rw [after6_2]; rfl

/-- The array call 6 leaves, as the product of the arrays it finds. -/
theorem prod6 (n : Fin 4096) (e : Fin 128) :
    ((dat6 V c).arrAt 2 cfg6.N : FVec Ideal S4096x128 .f32) (ix2 n e)
      = MM.sumNT 4096 1024 128 .bf16 .bf16 (V c main_v7) (V c main_v6) n e := by
  obtain ⟨i, p, hn⟩ := MM.split 4 1024 rfl n
  obtain ⟨j, q, he⟩ := MM.split 1 128 rfl e
  rw [at6 V c i j p q n e hn he, outs6, pay6]
  exact MM.sums (fun d => ib6_0 V c i j p d n d hn rfl) (fun d => ib6_1 V c i j q d e d he rfl)

/-! ## Call 7 -/

/-- The grid point of a row block and a column block of call 7. -/
def pt7 (i : Fin 1) (j : Fin 1) : Fin cfg7.N := ⟨1 * i.val + j.val, by have := i.isLt; have := j.isLt; show _ < 1; omega⟩

theorem ix7_0 : ∀ (i : Fin 1) (j : Fin 1), win7_0.index (pt7 i j) 0 = 0 ∧ win7_0.index (pt7 i j) 1 = i.val := by decide +kernel
theorem ix7_1 : ∀ (i : Fin 1) (j : Fin 1), win7_1.index (pt7 i j) 0 = 0 ∧ win7_1.index (pt7 i j) 1 = j.val := by decide +kernel
theorem ix7_2 : ∀ (i : Fin 1) (j : Fin 1), win7_2.index (pt7 i j) 0 = i.val ∧ win7_2.index (pt7 i j) 1 = j.val := by decide +kernel
theorem fl7 : ∀ t : Fin cfg7.N, (cfg7.win 2).flush t = true := by decide +kernel
theorem dj7 : ∀ t t' : Fin cfg7.N, (cfg7.win 2).flush t = true → (cfg7.win 2).flush t' = true → t ≠ t' →
    Disjoint ((cfg7.win 2).blk t).view.set ((cfg7.win 2).blk t').view.set :=
  fun t t' _ _ hne => (cfg7.win 2).disjoint_blk fun h => hne
    ((by decide +kernel : ∀ t t' : Fin grid7.N, win7_2.index t = win7_2.index t' → t = t') t t' h)

/-- The stored block at an entry. -/
theorem pay7 (x0 : Vec Ideal S4096x128 .bf16) (x1 : Vec Ideal S4096x1024 .bf16) (a : Fin 128) (b : Fin 1024) :
    (k7_pay1 x0 x1 : FVec Ideal S128x1024 .bf16) (ix2 a b) = (∑ d : Fin 4096, x0 (ix2 d a) * x1 (ix2 d b)) := by
  unfold k7_pay1
  simp only [shapeCast_self]
  exact MM.tn (φ₁ := .bf16) (φ₂ := .bf16) x0 x1 a b

/-- The block the body stores. -/
theorem outs7 (t : Fin cfg7.N) : outsAt7 V c t = k7_pay1 (iblk7 V c 0 t) (iblk7 V c 1 t) := by
  unfold outsAt7 out7_A_2
  rw [View.read_writes_eq_canon _ _ _ (cover7_A_2 c _ _ _ _ _ _ _ _ _ _ _ )]
  unfold kernelRun7_A
  refine (View.canon_unit_zero (S := S128x1024) (by decide) inb_S128x1024_S128x1024_0_0 _).trans ?_
  rw [MM.ld_whole _ _ (by decide), MM.ld_whole _ _ (by decide)]

theorem ib7_0 (i : Fin 1) (j : Fin 1) (p : Fin 4096) (q : Fin 128) (n : Fin 4096) (e : Fin 128) (hn : n.val = p.val) (he : e.val = 128 * i.val + q.val) :
    (iblk7 V c 0 (pt7 i j) : FVec Ideal S4096x128 .bf16) (ix2 p q) = (V c main_v5 : FVec Ideal S4096x128 .bf16) (ix2 n e) := by
  refine (View.read_apply _ _).trans (congrArg (V c main_v5) (MM.eq2 _ n e ?_ ?_))
  · show win7_0.index (pt7 i j) 0 * 4096 + 1 * p.val = n.val; rw [(ix7_0 i j).1]; omega
  · show win7_0.index (pt7 i j) 1 * 128 + 1 * q.val = e.val; rw [(ix7_0 i j).2]; omega

theorem ib7_1 (i : Fin 1) (j : Fin 1) (p : Fin 4096) (q : Fin 1024) (n : Fin 4096) (e : Fin 1024) (hn : n.val = p.val) (he : e.val = 1024 * j.val + q.val) :
    (iblk7 V c 1 (pt7 i j) : FVec Ideal S4096x1024 .bf16) (ix2 p q) = (V c main_v7 : FVec Ideal S4096x1024 .bf16) (ix2 n e) := by
  refine (View.read_apply _ _).trans (congrArg (V c main_v7) (MM.eq2 _ n e ?_ ?_))
  · show win7_1.index (pt7 i j) 0 * 4096 + 1 * p.val = n.val; rw [(ix7_1 i j).1]; omega
  · show win7_1.index (pt7 i j) 1 * 1024 + 1 * q.val = e.val; rw [(ix7_1 i j).2]; omega

theorem at7 (i : Fin 1) (j : Fin 1) (p : Fin 128) (q : Fin 1024) (n : Fin 128) (e : Fin 1024) (hn : n.val = 128 * i.val + p.val) (he : e.val = 1024 * j.val + q.val) :
    ((dat7 V c).arrAt 2 cfg7.N : FVec Ideal S128x1024 .bf16) (ix2 n e) = (outsAt7 V c (pt7 i j)) (ix2 p q) := by
  have hb := congrFun ((dat7 V c).read_blk_arrAt_eq_flushed 2 dj7 cfg7.N (pt7 i j) (pt7 i j).isLt (fl7 _)) (ix2 p q : S128x1024.Idx)
  rw [View.read_apply] at hb
  refine Eq.trans ?_ (hb.trans ?_)
  · show ((dat7 V c).arrAt 2 cfg7.N : FVec Ideal S128x1024 .bf16) _ = ((dat7 V c).arrAt 2 cfg7.N : FVec Ideal S128x1024 .bf16) _
    congr 1
    funext x
    apply Fin.ext
    match x with
    | ⟨0, _⟩ => show n.val = win7_2.index (pt7 i j) 0 * 128 + 1 * p.val; rw [(ix7_2 i j).1]; omega
    | ⟨1, _⟩ => show e.val = win7_2.index (pt7 i j) 1 * 1024 + 1 * q.val; rw [(ix7_2 i j).2]; omega
  · show (cfg7.win 2).cut (grid7.coords (pt7 i j)) ((dat7 V c).after 2 (pt7 i j)) (ix2 p q : S128x1024.Idx) = _
    rw [after7_2]; rfl

/-- The array call 7 leaves, as the product of the arrays it finds. -/
theorem prod7 (n : Fin 128) (e : Fin 1024) :
    ((dat7 V c).arrAt 2 cfg7.N : FVec Ideal S128x1024 .bf16) (ix2 n e)
      = MM.sumTN 128 4096 1024 .bf16 .bf16 (V c main_v5) (V c main_v7) n e := by
  obtain ⟨i, p, hn⟩ := MM.split 1 128 rfl n
  obtain ⟨j, q, he⟩ := MM.split 1 1024 rfl e
  rw [at7 V c i j p q n e hn he, outs7, pay7]
  exact MM.sums (fun d => ib7_0 V c i j d p d n rfl hn) (fun d => ib7_1 V c i j d q d e rfl he)

/-! ## Call 8 -/

/-- The grid point of a row block and a column block of call 8. -/
def pt8 (i : Fin 4) (j : Fin 1) : Fin cfg8.N := ⟨1 * i.val + j.val, by have := i.isLt; have := j.isLt; show _ < 4; omega⟩

theorem ix8_0 : ∀ (i : Fin 4) (j : Fin 1), win8_0.index (pt8 i j) 0 = i.val ∧ win8_0.index (pt8 i j) 1 = 0 := by decide +kernel
theorem ix8_1 : ∀ (i : Fin 4) (j : Fin 1), win8_1.index (pt8 i j) 0 = j.val ∧ win8_1.index (pt8 i j) 1 = 0 := by decide +kernel
theorem ix8_2 : ∀ (i : Fin 4) (j : Fin 1), win8_2.index (pt8 i j) 0 = i.val ∧ win8_2.index (pt8 i j) 1 = j.val := by decide +kernel
theorem fl8 : ∀ t : Fin cfg8.N, (cfg8.win 2).flush t = true := by decide +kernel
theorem dj8 : ∀ t t' : Fin cfg8.N, (cfg8.win 2).flush t = true → (cfg8.win 2).flush t' = true → t ≠ t' →
    Disjoint ((cfg8.win 2).blk t).view.set ((cfg8.win 2).blk t').view.set :=
  fun t t' _ _ hne => (cfg8.win 2).disjoint_blk fun h => hne
    ((by decide +kernel : ∀ t t' : Fin grid8.N, win8_2.index t = win8_2.index t' → t = t') t t' h)

/-- The stored block at an entry. -/
theorem pay8 (x0 : Vec Ideal S1024x512 .bf16) (x1 : Vec Ideal S256x512 .bf16) (a : Fin 1024) (b : Fin 256) :
    (k8_pay1 x0 x1 : FVec Ideal S1024x256 .f32) (ix2 a b) = (∑ d : Fin 512, x0 (ix2 a d) * x1 (ix2 b d)) := by
  unfold k8_pay1
  simp only [shapeCast_self]
  exact MM.nt (φ₁ := .bf16) (φ₂ := .bf16) x0 x1 a b

/-- The block the body stores. -/
theorem outs8 (t : Fin cfg8.N) : outsAt8 V c t = k8_pay1 (iblk8 V c 0 t) (iblk8 V c 1 t) := by
  unfold outsAt8 out8_A_2
  rw [View.read_writes_eq_canon _ _ _ (cover8_A_2 c _ _ _ _ _ _ _ _ _ _ _ )]
  unfold kernelRun8_A
  refine (View.canon_unit_zero (S := S1024x256) (by decide) inb_S1024x256_S1024x256_0_0 _).trans ?_
  rw [MM.ld_whole _ _ (by decide), MM.ld_whole _ _ (by decide)]

theorem ib8_0 (i : Fin 4) (j : Fin 1) (p : Fin 1024) (q : Fin 512) (n : Fin 4096) (e : Fin 512) (hn : n.val = 1024 * i.val + p.val) (he : e.val = q.val) :
    (iblk8 V c 0 (pt8 i j) : FVec Ideal S1024x512 .bf16) (ix2 p q) = (V c main_v4 : FVec Ideal S4096x512 .bf16) (ix2 n e) := by
  refine (View.read_apply _ _).trans (congrArg (V c main_v4) (MM.eq2 _ n e ?_ ?_))
  · show win8_0.index (pt8 i j) 0 * 1024 + 1 * p.val = n.val; rw [(ix8_0 i j).1]; omega
  · show win8_0.index (pt8 i j) 1 * 512 + 1 * q.val = e.val; rw [(ix8_0 i j).2]; omega

theorem ib8_1 (i : Fin 4) (j : Fin 1) (p : Fin 256) (q : Fin 512) (n : Fin 256) (e : Fin 512) (hn : n.val = 256 * j.val + p.val) (he : e.val = q.val) :
    (iblk8 V c 1 (pt8 i j) : FVec Ideal S256x512 .bf16) (ix2 p q) = (V c main_v3 : FVec Ideal S256x512 .bf16) (ix2 n e) := by
  refine (View.read_apply _ _).trans (congrArg (V c main_v3) (MM.eq2 _ n e ?_ ?_))
  · show win8_1.index (pt8 i j) 0 * 256 + 1 * p.val = n.val; rw [(ix8_1 i j).1]; omega
  · show win8_1.index (pt8 i j) 1 * 512 + 1 * q.val = e.val; rw [(ix8_1 i j).2]; omega

theorem at8 (i : Fin 4) (j : Fin 1) (p : Fin 1024) (q : Fin 256) (n : Fin 4096) (e : Fin 256) (hn : n.val = 1024 * i.val + p.val) (he : e.val = 256 * j.val + q.val) :
    ((dat8 V c).arrAt 2 cfg8.N : FVec Ideal S4096x256 .f32) (ix2 n e) = (outsAt8 V c (pt8 i j)) (ix2 p q) := by
  have hb := congrFun ((dat8 V c).read_blk_arrAt_eq_flushed 2 dj8 cfg8.N (pt8 i j) (pt8 i j).isLt (fl8 _)) (ix2 p q : S1024x256.Idx)
  rw [View.read_apply] at hb
  refine Eq.trans ?_ (hb.trans ?_)
  · show ((dat8 V c).arrAt 2 cfg8.N : FVec Ideal S4096x256 .f32) _ = ((dat8 V c).arrAt 2 cfg8.N : FVec Ideal S4096x256 .f32) _
    congr 1
    funext x
    apply Fin.ext
    match x with
    | ⟨0, _⟩ => show n.val = win8_2.index (pt8 i j) 0 * 1024 + 1 * p.val; rw [(ix8_2 i j).1]; omega
    | ⟨1, _⟩ => show e.val = win8_2.index (pt8 i j) 1 * 256 + 1 * q.val; rw [(ix8_2 i j).2]; omega
  · show (cfg8.win 2).cut (grid8.coords (pt8 i j)) ((dat8 V c).after 2 (pt8 i j)) (ix2 p q : S1024x256.Idx) = _
    rw [after8_2]; rfl

/-- The array call 8 leaves, as the product of the arrays it finds. -/
theorem prod8 (n : Fin 4096) (e : Fin 256) :
    ((dat8 V c).arrAt 2 cfg8.N : FVec Ideal S4096x256 .f32) (ix2 n e)
      = MM.sumNT 4096 512 256 .bf16 .bf16 (V c main_v4) (V c main_v3) n e := by
  obtain ⟨i, p, hn⟩ := MM.split 4 1024 rfl n
  obtain ⟨j, q, he⟩ := MM.split 1 256 rfl e
  rw [at8 V c i j p q n e hn he, outs8, pay8]
  exact MM.sums (fun d => ib8_0 V c i j p d n d hn rfl) (fun d => ib8_1 V c i j q d e d he rfl)

/-! ## Call 9 -/

/-- The grid point of a row block and a column block of call 9. -/
def pt9 (i : Fin 1) (j : Fin 1) : Fin cfg9.N := ⟨1 * i.val + j.val, by have := i.isLt; have := j.isLt; show _ < 1; omega⟩

theorem ix9_0 : ∀ (i : Fin 1) (j : Fin 1), win9_0.index (pt9 i j) 0 = 0 ∧ win9_0.index (pt9 i j) 1 = i.val := by decide +kernel
theorem ix9_1 : ∀ (i : Fin 1) (j : Fin 1), win9_1.index (pt9 i j) 0 = 0 ∧ win9_1.index (pt9 i j) 1 = j.val := by decide +kernel
theorem ix9_2 : ∀ (i : Fin 1) (j : Fin 1), win9_2.index (pt9 i j) 0 = i.val ∧ win9_2.index (pt9 i j) 1 = j.val := by decide +kernel
theorem fl9 : ∀ t : Fin cfg9.N, (cfg9.win 2).flush t = true := by decide +kernel
theorem dj9 : ∀ t t' : Fin cfg9.N, (cfg9.win 2).flush t = true → (cfg9.win 2).flush t' = true → t ≠ t' →
    Disjoint ((cfg9.win 2).blk t).view.set ((cfg9.win 2).blk t').view.set :=
  fun t t' _ _ hne => (cfg9.win 2).disjoint_blk fun h => hne
    ((by decide +kernel : ∀ t t' : Fin grid9.N, win9_2.index t = win9_2.index t' → t = t') t t' h)

/-- The stored block at an entry. -/
theorem pay9 (x0 : Vec Ideal S4096x256 .bf16) (x1 : Vec Ideal S4096x512 .bf16) (a : Fin 256) (b : Fin 512) :
    (k9_pay1 x0 x1 : FVec Ideal S256x512 .bf16) (ix2 a b) = (∑ d : Fin 4096, x0 (ix2 d a) * x1 (ix2 d b)) := by
  unfold k9_pay1
  simp only [shapeCast_self]
  exact MM.tn (φ₁ := .bf16) (φ₂ := .bf16) x0 x1 a b

/-- The block the body stores. -/
theorem outs9 (t : Fin cfg9.N) : outsAt9 V c t = k9_pay1 (iblk9 V c 0 t) (iblk9 V c 1 t) := by
  unfold outsAt9 out9_A_2
  rw [View.read_writes_eq_canon _ _ _ (cover9_A_2 c _ _ _ _ _ _ _ _ _ _ _ )]
  unfold kernelRun9_A
  refine (View.canon_unit_zero (S := S256x512) (by decide) inb_S256x512_S256x512_0_0 _).trans ?_
  rw [MM.ld_whole _ _ (by decide), MM.ld_whole _ _ (by decide)]

theorem ib9_0 (i : Fin 1) (j : Fin 1) (p : Fin 4096) (q : Fin 256) (n : Fin 4096) (e : Fin 256) (hn : n.val = p.val) (he : e.val = 256 * i.val + q.val) :
    (iblk9 V c 0 (pt9 i j) : FVec Ideal S4096x256 .bf16) (ix2 p q) = (V c main_v2 : FVec Ideal S4096x256 .bf16) (ix2 n e) := by
  refine (View.read_apply _ _).trans (congrArg (V c main_v2) (MM.eq2 _ n e ?_ ?_))
  · show win9_0.index (pt9 i j) 0 * 4096 + 1 * p.val = n.val; rw [(ix9_0 i j).1]; omega
  · show win9_0.index (pt9 i j) 1 * 256 + 1 * q.val = e.val; rw [(ix9_0 i j).2]; omega

theorem ib9_1 (i : Fin 1) (j : Fin 1) (p : Fin 4096) (q : Fin 512) (n : Fin 4096) (e : Fin 512) (hn : n.val = p.val) (he : e.val = 512 * j.val + q.val) :
    (iblk9 V c 1 (pt9 i j) : FVec Ideal S4096x512 .bf16) (ix2 p q) = (V c main_v4 : FVec Ideal S4096x512 .bf16) (ix2 n e) := by
  refine (View.read_apply _ _).trans (congrArg (V c main_v4) (MM.eq2 _ n e ?_ ?_))
  · show win9_1.index (pt9 i j) 0 * 4096 + 1 * p.val = n.val; rw [(ix9_1 i j).1]; omega
  · show win9_1.index (pt9 i j) 1 * 512 + 1 * q.val = e.val; rw [(ix9_1 i j).2]; omega

theorem at9 (i : Fin 1) (j : Fin 1) (p : Fin 256) (q : Fin 512) (n : Fin 256) (e : Fin 512) (hn : n.val = 256 * i.val + p.val) (he : e.val = 512 * j.val + q.val) :
    ((dat9 V c).arrAt 2 cfg9.N : FVec Ideal S256x512 .bf16) (ix2 n e) = (outsAt9 V c (pt9 i j)) (ix2 p q) := by
  have hb := congrFun ((dat9 V c).read_blk_arrAt_eq_flushed 2 dj9 cfg9.N (pt9 i j) (pt9 i j).isLt (fl9 _)) (ix2 p q : S256x512.Idx)
  rw [View.read_apply] at hb
  refine Eq.trans ?_ (hb.trans ?_)
  · show ((dat9 V c).arrAt 2 cfg9.N : FVec Ideal S256x512 .bf16) _ = ((dat9 V c).arrAt 2 cfg9.N : FVec Ideal S256x512 .bf16) _
    congr 1
    funext x
    apply Fin.ext
    match x with
    | ⟨0, _⟩ => show n.val = win9_2.index (pt9 i j) 0 * 256 + 1 * p.val; rw [(ix9_2 i j).1]; omega
    | ⟨1, _⟩ => show e.val = win9_2.index (pt9 i j) 1 * 512 + 1 * q.val; rw [(ix9_2 i j).2]; omega
  · show (cfg9.win 2).cut (grid9.coords (pt9 i j)) ((dat9 V c).after 2 (pt9 i j)) (ix2 p q : S256x512.Idx) = _
    rw [after9_2]; rfl

/-- The array call 9 leaves, as the product of the arrays it finds. -/
theorem prod9 (n : Fin 256) (e : Fin 512) :
    ((dat9 V c).arrAt 2 cfg9.N : FVec Ideal S256x512 .bf16) (ix2 n e)
      = MM.sumTN 256 4096 512 .bf16 .bf16 (V c main_v2) (V c main_v4) n e := by
  obtain ⟨i, p, hn⟩ := MM.split 1 256 rfl n
  obtain ⟨j, q, he⟩ := MM.split 1 512 rfl e
  rw [at9 V c i j p q n e hn he, outs9, pay9]
  exact MM.sums (fun d => ib9_0 V c i j d p d n rfl hn) (fun d => ib9_1 V c i j d q d e rfl he)

/-! ## Call 10 -/

/-- The grid point of a row block and a column block of call 10. -/
def pt10 (i : Fin 8) (j : Fin 1) : Fin cfg10.N := ⟨1 * i.val + j.val, by have := i.isLt; have := j.isLt; show _ < 8; omega⟩

theorem ix10_0 : ∀ (i : Fin 8) (j : Fin 1), win10_0.index (pt10 i j) 0 = i.val ∧ win10_0.index (pt10 i j) 1 = 0 := by decide +kernel
theorem ix10_1 : ∀ (i : Fin 8) (j : Fin 1), win10_1.index (pt10 i j) 0 = j.val ∧ win10_1.index (pt10 i j) 1 = 0 := by decide +kernel
theorem ix10_2 : ∀ (i : Fin 8) (j : Fin 1), win10_2.index (pt10 i j) 0 = i.val ∧ win10_2.index (pt10 i j) 1 = j.val := by decide +kernel
theorem fl10 : ∀ t : Fin cfg10.N, (cfg10.win 2).flush t = true := by decide +kernel
theorem dj10 : ∀ t t' : Fin cfg10.N, (cfg10.win 2).flush t = true → (cfg10.win 2).flush t' = true → t ≠ t' →
    Disjoint ((cfg10.win 2).blk t).view.set ((cfg10.win 2).blk t').view.set :=
  fun t t' _ _ hne => (cfg10.win 2).disjoint_blk fun h => hne
    ((by decide +kernel : ∀ t t' : Fin grid10.N, win10_2.index t = win10_2.index t' → t = t') t t' h)

/-- The stored block at an entry. -/
theorem pay10 (x0 : Vec Ideal S512x3200 .bf16) (x1 : Vec Ideal S1024x3200 .bf16) (a : Fin 512) (b : Fin 1024) :
    (k10_pay1 x0 x1 : FVec Ideal S512x1024 .f32) (ix2 a b) = (∑ d : Fin 3200, x0 (ix2 a d) * x1 (ix2 b d)) := by
  unfold k10_pay1
  simp only [shapeCast_self]
  exact MM.nt (φ₁ := .bf16) (φ₂ := .bf16) x0 x1 a b

/-- The block the body stores. -/
theorem outs10 (t : Fin cfg10.N) : outsAt10 V c t = k10_pay1 (iblk10 V c 0 t) (iblk10 V c 1 t) := by
  unfold outsAt10 out10_A_2
  rw [View.read_writes_eq_canon _ _ _ (cover10_A_2 c _ _ _ _ _ _ _ _ _ _ _ )]
  unfold kernelRun10_A
  refine (View.canon_unit_zero (S := S512x1024) (by decide) inb_S512x1024_S512x1024_0_0 _).trans ?_
  rw [MM.ld_whole _ _ (by decide), MM.ld_whole _ _ (by decide)]

theorem ib10_0 (i : Fin 8) (j : Fin 1) (p : Fin 512) (q : Fin 3200) (n : Fin 4096) (e : Fin 3200) (hn : n.val = 512 * i.val + p.val) (he : e.val = q.val) :
    (iblk10 V c 0 (pt10 i j) : FVec Ideal S512x3200 .bf16) (ix2 p q) = (V c main_v1 : FVec Ideal S4096x3200 .bf16) (ix2 n e) := by
  refine (View.read_apply _ _).trans (congrArg (V c main_v1) (MM.eq2 _ n e ?_ ?_))
  · show win10_0.index (pt10 i j) 0 * 512 + 1 * p.val = n.val; rw [(ix10_0 i j).1]; omega
  · show win10_0.index (pt10 i j) 1 * 3200 + 1 * q.val = e.val; rw [(ix10_0 i j).2]; omega

theorem ib10_1 (i : Fin 8) (j : Fin 1) (p : Fin 1024) (q : Fin 3200) (n : Fin 1024) (e : Fin 3200) (hn : n.val = 1024 * j.val + p.val) (he : e.val = q.val) :
    (iblk10 V c 1 (pt10 i j) : FVec Ideal S1024x3200 .bf16) (ix2 p q) = (V c main_v0 : FVec Ideal S1024x3200 .bf16) (ix2 n e) := by
  refine (View.read_apply _ _).trans (congrArg (V c main_v0) (MM.eq2 _ n e ?_ ?_))
  · show win10_1.index (pt10 i j) 0 * 1024 + 1 * p.val = n.val; rw [(ix10_1 i j).1]; omega
  · show win10_1.index (pt10 i j) 1 * 3200 + 1 * q.val = e.val; rw [(ix10_1 i j).2]; omega

theorem at10 (i : Fin 8) (j : Fin 1) (p : Fin 512) (q : Fin 1024) (n : Fin 4096) (e : Fin 1024) (hn : n.val = 512 * i.val + p.val) (he : e.val = 1024 * j.val + q.val) :
    ((dat10 V c).arrAt 2 cfg10.N : FVec Ideal S4096x1024 .f32) (ix2 n e) = (outsAt10 V c (pt10 i j)) (ix2 p q) := by
  have hb := congrFun ((dat10 V c).read_blk_arrAt_eq_flushed 2 dj10 cfg10.N (pt10 i j) (pt10 i j).isLt (fl10 _)) (ix2 p q : S512x1024.Idx)
  rw [View.read_apply] at hb
  refine Eq.trans ?_ (hb.trans ?_)
  · show ((dat10 V c).arrAt 2 cfg10.N : FVec Ideal S4096x1024 .f32) _ = ((dat10 V c).arrAt 2 cfg10.N : FVec Ideal S4096x1024 .f32) _
    congr 1
    funext x
    apply Fin.ext
    match x with
    | ⟨0, _⟩ => show n.val = win10_2.index (pt10 i j) 0 * 512 + 1 * p.val; rw [(ix10_2 i j).1]; omega
    | ⟨1, _⟩ => show e.val = win10_2.index (pt10 i j) 1 * 1024 + 1 * q.val; rw [(ix10_2 i j).2]; omega
  · show (cfg10.win 2).cut (grid10.coords (pt10 i j)) ((dat10 V c).after 2 (pt10 i j)) (ix2 p q : S512x1024.Idx) = _
    rw [after10_2]; rfl

/-- The array call 10 leaves, as the product of the arrays it finds. -/
theorem prod10 (n : Fin 4096) (e : Fin 1024) :
    ((dat10 V c).arrAt 2 cfg10.N : FVec Ideal S4096x1024 .f32) (ix2 n e)
      = MM.sumNT 4096 3200 1024 .bf16 .bf16 (V c main_v1) (V c main_v0) n e := by
  obtain ⟨i, p, hn⟩ := MM.split 8 512 rfl n
  obtain ⟨j, q, he⟩ := MM.split 1 1024 rfl e
  rw [at10 V c i j p q n e hn he, outs10, pay10]
  exact MM.sums (fun d => ib10_0 V c i j p d n d hn rfl) (fun d => ib10_1 V c i j q d e d he rfl)

end

end Cert.Kernel6Ideal.Prod

end
-- ==== Proof.Val6.lean ====
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Prod6
public import proofs.«01_k».proof.Proof.MMBlk
public import Idealize.ShloMosaic.Adequacy
public import Idealize.ShloMosaic.Init

@[expose] public section

set_option maxRecDepth 16384

noncomputable section

/-! The calls and their reference end with equal results. -/

namespace Cert.Kernel6Ideal.Prod

open Idealize.ShloMosaic Idealize.ShloMosaic.ValueIdx Idealize.ShloMosaic.TcCoe Idealize.ShloMosaic.Tactic Cert.Kernel6Ideal Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      (r.2.mem ((c.tc : Thread nD τ).loc main_v15) = W12 m ρ c main_v15
      ∧ r.2.mem ((c.tc : Thread nD τ).loc main_v16) = W12 m ρ c main_v16
      ∧ r.2.mem ((c.tc : Thread nD τ).loc main_v17) = W12 m ρ c main_v17
      ∧ r.2.mem ((c.tc : Thread nD τ).loc main_v18) = W12 m ρ c main_v18
      ∧ r.2.mem ((c.tc : Thread nD τ).loc main_v19) = W12 m ρ c main_v19
      ∧ r.2.mem ((c.tc : Thread nD τ).loc main_v20) = W12 m ρ c main_v20
      ∧ r.2.mem ((c.tc : Thread nD τ).loc main_v21) = W12 m ρ c main_v21
      ∧ r.2.mem ((c.tc : Thread nD τ).loc main_v22) = W12 m ρ c main_v22
      ∧ r.2.mem ((c.tc : Thread nD τ).loc main_v23) = W12 m ρ c main_v23
      ∧ r.2.mem ((c.tc : Thread nD τ).loc main_v24) = W12 m ρ c main_v24
      ∧ r.2.mem ((c.tc : Thread nD τ).loc main_v25) = W12 m ρ c main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨⟨h c _ (mem_uc main_v15 (by decide)), h c _ (mem_uc main_v16 (by decide)), h c _ (mem_uc main_v17 (by decide)), h c _ (mem_uc main_v18 (by decide)), h c _ (mem_uc main_v19 (by decide)), h c _ (mem_uc main_v20 (by decide)), h c _ (mem_uc main_v21 (by decide)), h c _ (mem_uc main_v22 (by decide)), h c _ (mem_uc main_v23 (by decide)), h c _ (mem_uc main_v24 (by decide)), h c _ (mem_uc main_v25 (by decide))⟩,
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end

section
variable (m : (ℓ : Loc nD τ sig) → Buf (Elt Ideal) ℓ) (ρ : Dev nD → PrngReg) (c : Dev nD)

/-- The argument 0. -/
abbrev x0 : FVec Ideal S1024x3200 .f32 := m ((c : Thread nD τ).loc main_arg0)
/-- The argument 1. -/
abbrev x1 : FVec Ideal S4096x3200 .f32 := m ((c : Thread nD τ).loc main_arg1)
/-- The argument 2. -/
abbrev x2 : FVec Ideal S4096x256 .f32 := m ((c : Thread nD τ).loc main_arg2)
/-- The argument 3. -/
abbrev x3 : FVec Ideal S256x512 .f32 := m ((c : Thread nD τ).loc main_arg3)
/-- The argument 4. -/
abbrev x4 : FVec Ideal S4096x512 .f32 := m ((c : Thread nD τ).loc main_arg4)
/-- The argument 5. -/
abbrev x5 : FVec Ideal S4096x128 .f32 := m ((c : Thread nD τ).loc main_arg5)
/-- The argument 6. -/
abbrev x6 : FVec Ideal S128x1024 .f32 := m ((c : Thread nD τ).loc main_arg6)
/-- The argument 7. -/
abbrev x7 : FVec Ideal S4096x1024 .f32 := m ((c : Thread nD τ).loc main_arg7)
/-- The argument 8. -/
abbrev x8 : FVec Ideal S4096x512 .f32 := m ((c : Thread nD τ).loc main_arg8)
/-- The argument 9. -/
abbrev x9 : FVec Ideal S512x1024 .f32 := m ((c : Thread nD τ).loc main_arg9)
/-- The argument 10. -/
abbrev x10 : FVec Ideal S4096x1024 .f32 := m ((c : Thread nD τ).loc main_arg10)
/-- The argument 11. -/
abbrev x11 : FVec Ideal S1536x1024 .f32 := m ((c : Thread nD τ).loc main_arg11)
/-- The argument 12. -/
abbrev x12 : FVec Ideal S4096x1024 .f32 := m ((c : Thread nD τ).loc main_arg12)
/-- The argument 13. -/
abbrev x13 : FVec Ideal S4096x1024 .f32 := m ((c : Thread nD τ).loc main_arg13)
/-- The argument 14. -/
abbrev x14 : FVec Ideal S1024x1024 .f32 := m ((c : Thread nD τ).loc main_arg14)
/-- The argument 15. -/
abbrev x15 : FVec Ideal S4096x1024 .f32 := m ((c : Thread nD τ).loc main_arg15)
/-- The argument 16. -/
abbrev x16 : FVec Ideal S4096x256 .f32 := m ((c : Thread nD τ).loc main_arg16)
/-- The argument 17. -/
abbrev x17 : FVec Ideal S4096x1024 .f32 := m ((c : Thread nD τ).loc main_arg17)

/-! What a call leaves alone. -/
variable {m ρ c}
theorem d1 {r : Ref sig .tc} {x} (e : W0 m ρ c (Proc.devRef .tc r) = x) (h : r ∉ hostOps0_W := by decide) : W1 m ρ c (Proc.devRef .tc r) = x := (W1_of m ρ c r h).trans e
theorem d2 {r : Ref sig .tc} {x} (e : W1 m ρ c (Proc.devRef .tc r) = x) (h : ∀ w : Fin cfg0.W, Pipeline.arrRef spec0 w = r → (cfg0.win w).isOut = false := by decide) : W2 m ρ c (Proc.devRef .tc r) = x := (W2_of m ρ c r h).trans e
theorem d3 {r : Ref sig .tc} {x} (e : W2 m ρ c (Proc.devRef .tc r) = x) (h : ∀ w : Fin cfg1.W, Pipeline.arrRef spec1 w = r → (cfg1.win w).isOut = false := by decide) : W3 m ρ c (Proc.devRef .tc r) = x := (W3_of m ρ c r h).trans e
theorem d4 {r : Ref sig .tc} {x} (e : W3 m ρ c (Proc.devRef .tc r) = x) (h : ∀ w : Fin cfg2.W, Pipeline.arrRef spec2 w = r → (cfg2.win w).isOut = false := by decide) : W4 m ρ c (Proc.devRef .tc r) = x := (W4_of m ρ c r h).trans e
theorem d5 {r : Ref sig .tc} {x} (e : W4 m ρ c (Proc.devRef .tc r) = x) (h : ∀ w : Fin cfg3.W, Pipeline.arrRef spec3 w = r → (cfg3.win w).isOut = false := by decide) : W5 m ρ c (Proc.devRef .tc r) = x := (W5_of m ρ c r h).trans e
theorem d6 {r : Ref sig .tc} {x} (e : W5 m ρ c (Proc.devRef .tc r) = x) (h : ∀ w : Fin cfg4.W, Pipeline.arrRef spec4 w = r → (cfg4.win w).isOut = false := by decide) : W6 m ρ c (Proc.devRef .tc r) = x := (W6_of m ρ c r h).trans e
theorem d7 {r : Ref sig .tc} {x} (e : W6 m ρ c (Proc.devRef .tc r) = x) (h : ∀ w : Fin cfg5.W, Pipeline.arrRef spec5 w = r → (cfg5.win w).isOut = false := by decide) : W7 m ρ c (Proc.devRef .tc r) = x := (W7_of m ρ c r h).trans e
theorem d8 {r : Ref sig .tc} {x} (e : W7 m ρ c (Proc.devRef .tc r) = x) (h : ∀ w : Fin cfg6.W, Pipeline.arrRef spec6 w = r → (cfg6.win w).isOut = false := by decide) : W8 m ρ c (Proc.devRef .tc r) = x := (W8_of m ρ c r h).trans e
theorem d9 {r : Ref sig .tc} {x} (e : W8 m ρ c (Proc.devRef .tc r) = x) (h : ∀ w : Fin cfg7.W, Pipeline.arrRef spec7 w = r → (cfg7.win w).isOut = false := by decide) : W9 m ρ c (Proc.devRef .tc r) = x := (W9_of m ρ c r h).trans e
theorem d10 {r : Ref sig .tc} {x} (e : W9 m ρ c (Proc.devRef .tc r) = x) (h : ∀ w : Fin cfg8.W, Pipeline.arrRef spec8 w = r → (cfg8.win w).isOut = false := by decide) : W10 m ρ c (Proc.devRef .tc r) = x := (W10_of m ρ c r h).trans e
theorem d11 {r : Ref sig .tc} {x} (e : W10 m ρ c (Proc.devRef .tc r) = x) (h : ∀ w : Fin cfg9.W, Pipeline.arrRef spec9 w = r → (cfg9.win w).isOut = false := by decide) : W11 m ρ c (Proc.devRef .tc r) = x := (W11_of m ρ c r h).trans e
theorem d12 {r : Ref sig .tc} {x} (e : W11 m ρ c (Proc.devRef .tc r) = x) (h : ∀ w : Fin cfg10.W, Pipeline.arrRef spec10 w = r → (cfg10.win w).isOut = false := by decide) : W12 m ρ c (Proc.devRef .tc r) = x := (W12_of m ρ c r h).trans e
variable (m ρ c)

theorem rd0_0 : (V1 m ρ c main_arg16 : FVec Ideal S4096x256 .f32) = x16 m c := d1 rfl
theorem rd0_1 : (V1 m ρ c main_v14 : FVec Ideal S4096x1024 .bf16) = x17 m c := rfl
theorem rd1_0 : (V2 m ρ c main_v13 : FVec Ideal S4096x1024 .bf16) = x15 m c := d2 rfl
theorem rd1_1 : (V2 m ρ c main_v12 : FVec Ideal S1024x1024 .bf16) = x14 m c := d2 rfl
theorem rd2_0 : (V3 m ρ c main_v11 : FVec Ideal S4096x1024 .bf16) = x13 m c := d3 (d2 rfl)
theorem rd2_1 : (V3 m ρ c main_v13 : FVec Ideal S4096x1024 .bf16) = x15 m c := d3 (d2 rfl)
theorem rd3_0 : (V4 m ρ c main_arg12 : FVec Ideal S4096x1024 .f32) = x12 m c := d4 (d3 (d2 (d1 rfl)))
theorem rd3_1 : (V4 m ρ c main_v10 : FVec Ideal S1536x1024 .bf16) = x11 m c := d4 (d3 (d2 rfl))
theorem rd4_0 : (V5 m ρ c main_v9 : FVec Ideal S4096x1024 .bf16) = x10 m c := d5 (d4 (d3 (d2 rfl)))
theorem rd4_1 : (V5 m ρ c main_v8 : FVec Ideal S512x1024 .bf16) = x9 m c := d5 (d4 (d3 (d2 rfl)))
theorem rd5_0 : (V6 m ρ c main_arg8 : FVec Ideal S4096x512 .f32) = x8 m c := d6 (d5 (d4 (d3 (d2 (d1 rfl)))))
theorem rd5_1 : (V6 m ρ c main_v9 : FVec Ideal S4096x1024 .bf16) = x10 m c := d6 (d5 (d4 (d3 (d2 rfl))))
theorem rd6_0 : (V7 m ρ c main_v7 : FVec Ideal S4096x1024 .bf16) = x7 m c := d7 (d6 (d5 (d4 (d3 (d2 rfl)))))
theorem rd6_1 : (V7 m ρ c main_v6 : FVec Ideal S128x1024 .bf16) = x6 m c := d7 (d6 (d5 (d4 (d3 (d2 rfl)))))
theorem rd7_0 : (V8 m ρ c main_v5 : FVec Ideal S4096x128 .bf16) = x5 m c := d8 (d7 (d6 (d5 (d4 (d3 (d2 rfl))))))
theorem rd7_1 : (V8 m ρ c main_v7 : FVec Ideal S4096x1024 .bf16) = x7 m c := d8 (d7 (d6 (d5 (d4 (d3 (d2 rfl))))))
theorem rd8_0 : (V9 m ρ c main_v4 : FVec Ideal S4096x512 .bf16) = x4 m c := d9 (d8 (d7 (d6 (d5 (d4 (d3 (d2 rfl)))))))
theorem rd8_1 : (V9 m ρ c main_v3 : FVec Ideal S256x512 .bf16) = x3 m c := d9 (d8 (d7 (d6 (d5 (d4 (d3 (d2 rfl)))))))
theorem rd9_0 : (V10 m ρ c main_v2 : FVec Ideal S4096x256 .bf16) = x2 m c := d10 (d9 (d8 (d7 (d6 (d5 (d4 (d3 (d2 rfl))))))))
theorem rd9_1 : (V10 m ρ c main_v4 : FVec Ideal S4096x512 .bf16) = x4 m c := d10 (d9 (d8 (d7 (d6 (d5 (d4 (d3 (d2 rfl))))))))
theorem rd10_0 : (V11 m ρ c main_v1 : FVec Ideal S4096x3200 .bf16) = x1 m c := d11 (d10 (d9 (d8 (d7 (d6 (d5 (d4 (d3 (d2 rfl)))))))))
theorem rd10_1 : (V11 m ρ c main_v0 : FVec Ideal S1024x3200 .bf16) = x0 m c := d11 (d10 (d9 (d8 (d7 (d6 (d5 (d4 (d3 (d2 rfl)))))))))

/-- What call 0 leaves, from the arguments. -/
theorem ker_main_v15 (n : Fin 256) (e : Fin 1024) : MM.ent 256 1024 .bf16 (W12 m ρ c main_v15) n e = MM.sumTN 256 4096 1024 .f32 .f32 (x16 m c) (x17 m c) n e := by
  have h : (W12 m ρ c main_v15 : FVec Ideal S256x1024 .bf16) = ((dat0 (V1 m ρ) c).arrAt 2 cfg0.N : FVec Ideal S256x1024 .bf16) := d12 (d11 (d10 (d9 (d8 (d7 (d6 (d5 (d4 (d3 (W2_arr m ρ c 2))))))))))
  refine (congrFun h (ix2 n e)).trans ((prod0 (V1 m ρ) c n e).trans ?_)
  rw [rd0_0, rd0_1]

/-- What call 1 leaves, from the arguments. -/
theorem ker_main_v16 (n : Fin 4096) (e : Fin 1024) : MM.ent 4096 1024 .f32 (W12 m ρ c main_v16) n e = MM.sumNT 4096 1024 1024 .f32 .f32 (x15 m c) (x14 m c) n e := by
  have h : (W12 m ρ c main_v16 : FVec Ideal S4096x1024 .f32) = ((dat1 (V2 m ρ) c).arrAt 2 cfg1.N : FVec Ideal S4096x1024 .f32) := d12 (d11 (d10 (d9 (d8 (d7 (d6 (d5 (d4 (W3_arr m ρ c 2)))))))))
  refine (congrFun h (ix2 n e)).trans ((prod1 (V2 m ρ) c n e).trans ?_)
  rw [rd1_0, rd1_1]

/-- What call 2 leaves, from the arguments. -/
theorem ker_main_v17 (n : Fin 1024) (e : Fin 1024) : MM.ent 1024 1024 .bf16 (W12 m ρ c main_v17) n e = MM.sumTN 1024 4096 1024 .f32 .f32 (x13 m c) (x15 m c) n e := by
  have h : (W12 m ρ c main_v17 : FVec Ideal S1024x1024 .bf16) = ((dat2 (V3 m ρ) c).arrAt 2 cfg2.N : FVec Ideal S1024x1024 .bf16) := d12 (d11 (d10 (d9 (d8 (d7 (d6 (d5 (W4_arr m ρ c 2))))))))
  refine (congrFun h (ix2 n e)).trans ((prod2 (V3 m ρ) c n e).trans ?_)
  rw [rd2_0, rd2_1]

/-- What call 3 leaves, from the arguments. -/
theorem ker_main_v18 (n : Fin 4096) (e : Fin 1536) : MM.ent 4096 1536 .f32 (W12 m ρ c main_v18) n e = MM.sumNT 4096 1024 1536 .f32 .f32 (x12 m c) (x11 m c) n e := by
  have h : (W12 m ρ c main_v18 : FVec Ideal S4096x1536 .f32) = ((dat3 (V4 m ρ) c).arrAt 2 cfg3.N : FVec Ideal S4096x1536 .f32) := d12 (d11 (d10 (d9 (d8 (d7 (d6 (W5_arr m ρ c 2)))))))
  refine (congrFun h (ix2 n e)).trans ((prod3 (V4 m ρ) c n e).trans ?_)
  rw [rd3_0, rd3_1]

/-- What call 4 leaves, from the arguments. -/
theorem ker_main_v19 (n : Fin 4096) (e : Fin 512) : MM.ent 4096 512 .f32 (W12 m ρ c main_v19) n e = MM.sumNT 4096 1024 512 .f32 .f32 (x10 m c) (x9 m c) n e := by
  have h : (W12 m ρ c main_v19 : FVec Ideal S4096x512 .f32) = ((dat4 (V5 m ρ) c).arrAt 2 cfg4.N : FVec Ideal S4096x512 .f32) := d12 (d11 (d10 (d9 (d8 (d7 (W6_arr m ρ c 2))))))
  refine (congrFun h (ix2 n e)).trans ((prod4 (V5 m ρ) c n e).trans ?_)
  rw [rd4_0, rd4_1]

/-- What call 5 leaves, from the arguments. -/
theorem ker_main_v20 (n : Fin 512) (e : Fin 1024) : MM.ent 512 1024 .f32 (W12 m ρ c main_v20) n e = MM.sumTN 512 4096 1024 .f32 .f32 (x8 m c) (x10 m c) n e := by
  have h : (W12 m ρ c main_v20 : FVec Ideal S512x1024 .f32) = ((dat5 (V6 m ρ) c).arrAt 2 cfg5.N : FVec Ideal S512x1024 .f32) := d12 (d11 (d10 (d9 (d8 (W7_arr m ρ c 2)))))
  refine (congrFun h (ix2 n e)).trans ((prod5 (V6 m ρ) c n e).trans ?_)
  rw [rd5_0, rd5_1]

/-- What call 6 leaves, from the arguments. -/
theorem ker_main_v21 (n : Fin 4096) (e : Fin 128) : MM.ent 4096 128 .f32 (W12 m ρ c main_v21) n e = MM.sumNT 4096 1024 128 .f32 .f32 (x7 m c) (x6 m c) n e := by
  have h : (W12 m ρ c main_v21 : FVec Ideal S4096x128 .f32) = ((dat6 (V7 m ρ) c).arrAt 2 cfg6.N : FVec Ideal S4096x128 .f32) := d12 (d11 (d10 (d9 (W8_arr m ρ c 2))))
  refine (congrFun h (ix2 n e)).trans ((prod6 (V7 m ρ) c n e).trans ?_)
  rw [rd6_0, rd6_1]

/-- What call 7 leaves, from the arguments. -/
theorem ker_main_v22 (n : Fin 128) (e : Fin 1024) : MM.ent 128 1024 .bf16 (W12 m ρ c main_v22) n e = MM.sumTN 128 4096 1024 .f32 .f32 (x5 m c) (x7 m c) n e := by
  have h : (W12 m ρ c main_v22 : FVec Ideal S128x1024 .bf16) = ((dat7 (V8 m ρ) c).arrAt 2 cfg7.N : FVec Ideal S128x1024 .bf16) := d12 (d11 (d10 (W9_arr m ρ c 2)))
  refine (congrFun h (ix2 n e)).trans ((prod7 (V8 m ρ) c n e).trans ?_)
  rw [rd7_0, rd7_1]

/-- What call 8 leaves, from the arguments. -/
theorem ker_main_v23 (n : Fin 4096) (e : Fin 256) : MM.ent 4096 256 .f32 (W12 m ρ c main_v23) n e = MM.sumNT 4096 512 256 .f32 .f32 (x4 m c) (x3 m c) n e := by
  have h : (W12 m ρ c main_v23 : FVec Ideal S4096x256 .f32) = ((dat8 (V9 m ρ) c).arrAt 2 cfg8.N : FVec Ideal S4096x256 .f32) := d12 (d11 (W10_arr m ρ c 2))
  refine (congrFun h (ix2 n e)).trans ((prod8 (V9 m ρ) c n e).trans ?_)
  rw [rd8_0, rd8_1]

/-- What call 9 leaves, from the arguments. -/
theorem ker_main_v24 (n : Fin 256) (e : Fin 512) : MM.ent 256 512 .bf16 (W12 m ρ c main_v24) n e = MM.sumTN 256 4096 512 .f32 .f32 (x2 m c) (x4 m c) n e := by
  have h : (W12 m ρ c main_v24 : FVec Ideal S256x512 .bf16) = ((dat9 (V10 m ρ) c).arrAt 2 cfg9.N : FVec Ideal S256x512 .bf16) := d12 (W11_arr m ρ c 2)
  refine (congrFun h (ix2 n e)).trans ((prod9 (V10 m ρ) c n e).trans ?_)
  rw [rd9_0, rd9_1]

/-- What call 10 leaves, from the arguments. -/
theorem ker_main_v25 (n : Fin 4096) (e : Fin 1024) : MM.ent 4096 1024 .f32 (W12 m ρ c main_v25) n e = MM.sumNT 4096 3200 1024 .f32 .f32 (x1 m c) (x0 m c) n e := by
  have h : (W12 m ρ c main_v25 : FVec Ideal S4096x1024 .f32) = ((dat10 (V11 m ρ) c).arrAt 2 cfg10.N : FVec Ideal S4096x1024 .f32) := W12_arr m ρ c 2
  refine (congrFun h (ix2 n e)).trans ((prod10 (V11 m ρ) c n e).trans ?_)
  rw [rd10_0, rd10_1]

end

end Cert.Kernel6Ideal.Prod

namespace Cert.Reference6Ideal.Prod

open Idealize.ShloMosaic Idealize.ShloMosaic.ValueIdx Idealize.ShloMosaic.TcCoe Cert.Reference6Ideal Cert.Reference6Ideal.Gen Cert.Reference6Ideal.Read
open scoped BigOperators

/-- The reference's result 31 at an entry. -/
theorem ref_main_v31 (x16 : FVec Ideal S4096x256 .f32) (x17 : FVec Ideal S4096x1024 .f32) (n : Fin 256) (e : Fin 1024) : MM.ent 256 1024 .bf16 (val_main_v31 (F := Ideal) x16 x17) n e = MM.sumTN 256 4096 1024 .f32 .f32 x16 x17 n e := by
  show (val_main_v3 (F := Ideal) x16 x17 (ix2 n e) : EReal) = _
  refine (val_main_v3_apply (F := Ideal) x16 x17 (ix2 n e)).trans ?_
  refine (val_main_v2_apply x16 x17 _).trans ?_
  exact MM.sumsC (fun k => congrArg x17 (funext fun a => by match a with | ⟨0, _⟩ => rfl | ⟨1, _⟩ => rfl)) (fun k => congrArg x16 (funext fun a => by match a with | ⟨0, _⟩ => rfl | ⟨1, _⟩ => rfl))

/-- The reference's result 8 at an entry. -/
theorem ref_main_v8 (x14 : FVec Ideal S1024x1024 .f32) (x15 : FVec Ideal S4096x1024 .f32) (n : Fin 4096) (e : Fin 1024) : MM.ent 4096 1024 .f32 (val_main_v8 (F := Ideal) x14 x15) n e = MM.sumNT 4096 1024 1024 .f32 .f32 x15 x14 n e := by
  refine (val_main_v8_apply x14 x15 (ix2 n e)).trans ?_
  exact MM.sums (fun k => congrArg x15 (funext fun a => by match a with | ⟨0, _⟩ => rfl | ⟨1, _⟩ => rfl)) (fun k => congrArg x14 (funext fun a => by match a with | ⟨0, _⟩ => rfl | ⟨1, _⟩ => rfl))

/-- The reference's result 32 at an entry. -/
theorem ref_main_v32 (x13 : FVec Ideal S4096x1024 .f32) (x15 : FVec Ideal S4096x1024 .f32) (n : Fin 1024) (e : Fin 1024) : MM.ent 1024 1024 .bf16 (val_main_v32 (F := Ideal) x13 x15) n e = MM.sumTN 1024 4096 1024 .f32 .f32 x13 x15 n e := by
  show (val_main_v7 (F := Ideal) x13 x15 (ix2 n e) : EReal) = _
  refine (val_main_v7_apply (F := Ideal) x13 x15 (ix2 n e)).trans ?_
  refine (val_main_v6_apply x13 x15 _).trans ?_
  exact MM.sumsC (fun k => congrArg x15 (funext fun a => by match a with | ⟨0, _⟩ => rfl | ⟨1, _⟩ => rfl)) (fun k => congrArg x13 (funext fun a => by match a with | ⟨0, _⟩ => rfl | ⟨1, _⟩ => rfl))

/-- The reference's result 13 at an entry. -/
theorem ref_main_v13 (x11 : FVec Ideal S1536x1024 .f32) (x12 : FVec Ideal S4096x1024 .f32) (n : Fin 4096) (e : Fin 1536) : MM.ent 4096 1536 .f32 (val_main_v13 (F := Ideal) x11 x12) n e = MM.sumNT 4096 1024 1536 .f32 .f32 x12 x11 n e := by
  refine (val_main_v13_apply x11 x12 (ix2 n e)).trans ?_
  exact MM.sums (fun k => congrArg x12 (funext fun a => by match a with | ⟨0, _⟩ => rfl | ⟨1, _⟩ => rfl)) (fun k => congrArg x11 (funext fun a => by match a with | ⟨0, _⟩ => rfl | ⟨1, _⟩ => rfl))

/-- The reference's result 17 at an entry. -/
theorem ref_main_v17 (x9 : FVec Ideal S512x1024 .f32) (x10 : FVec Ideal S4096x1024 .f32) (n : Fin 4096) (e : Fin 512) : MM.ent 4096 512 .f32 (val_main_v17 (F := Ideal) x9 x10) n e = MM.sumNT 4096 1024 512 .f32 .f32 x10 x9 n e := by
  refine (val_main_v17_apply x9 x10 (ix2 n e)).trans ?_
  exact MM.sums (fun k => congrArg x10 (funext fun a => by match a with | ⟨0, _⟩ => rfl | ⟨1, _⟩ => rfl)) (fun k => congrArg x9 (funext fun a => by match a with | ⟨0, _⟩ => rfl | ⟨1, _⟩ => rfl))

/-- The reference's result 16 at an entry. -/
theorem ref_main_v16 (x8 : FVec Ideal S4096x512 .f32) (x10 : FVec Ideal S4096x1024 .f32) (n : Fin 512) (e : Fin 1024) : MM.ent 512 1024 .f32 (val_main_v16 (F := Ideal) x8 x10) n e = MM.sumTN 512 4096 1024 .f32 .f32 x8 x10 n e := by
  refine (val_main_v16_apply (F := Ideal) x8 x10 (ix2 n e)).trans ?_
  refine (val_main_v15_apply x8 x10 _).trans ?_
  exact MM.sumsC (fun k => congrArg x10 (funext fun a => by match a with | ⟨0, _⟩ => rfl | ⟨1, _⟩ => rfl)) (fun k => congrArg x8 (funext fun a => by match a with | ⟨0, _⟩ => rfl | ⟨1, _⟩ => rfl))

/-- The reference's result 21 at an entry. -/
theorem ref_main_v21 (x6 : FVec Ideal S128x1024 .f32) (x7 : FVec Ideal S4096x1024 .f32) (n : Fin 4096) (e : Fin 128) : MM.ent 4096 128 .f32 (val_main_v21 (F := Ideal) x6 x7) n e = MM.sumNT 4096 1024 128 .f32 .f32 x7 x6 n e := by
  refine (val_main_v21_apply x6 x7 (ix2 n e)).trans ?_
  exact MM.sums (fun k => congrArg x7 (funext fun a => by match a with | ⟨0, _⟩ => rfl | ⟨1, _⟩ => rfl)) (fun k => congrArg x6 (funext fun a => by match a with | ⟨0, _⟩ => rfl | ⟨1, _⟩ => rfl))

/-- The reference's result 33 at an entry. -/
theorem ref_main_v33 (x5 : FVec Ideal S4096x128 .f32) (x7 : FVec Ideal S4096x1024 .f32) (n : Fin 128) (e : Fin 1024) : MM.ent 128 1024 .bf16 (val_main_v33 (F := Ideal) x5 x7) n e = MM.sumTN 128 4096 1024 .f32 .f32 x5 x7 n e := by
  show (val_main_v20 (F := Ideal) x5 x7 (ix2 n e) : EReal) = _
  refine (val_main_v20_apply (F := Ideal) x5 x7 (ix2 n e)).trans ?_
  refine (val_main_v19_apply x5 x7 _).trans ?_
  exact MM.sumsC (fun k => congrArg x7 (funext fun a => by match a with | ⟨0, _⟩ => rfl | ⟨1, _⟩ => rfl)) (fun k => congrArg x5 (funext fun a => by match a with | ⟨0, _⟩ => rfl | ⟨1, _⟩ => rfl))

/-- The reference's result 25 at an entry. -/
theorem ref_main_v25 (x3 : FVec Ideal S256x512 .f32) (x4 : FVec Ideal S4096x512 .f32) (n : Fin 4096) (e : Fin 256) : MM.ent 4096 256 .f32 (val_main_v25 (F := Ideal) x3 x4) n e = MM.sumNT 4096 512 256 .f32 .f32 x4 x3 n e := by
  refine (val_main_v25_apply x3 x4 (ix2 n e)).trans ?_
  exact MM.sums (fun k => congrArg x4 (funext fun a => by match a with | ⟨0, _⟩ => rfl | ⟨1, _⟩ => rfl)) (fun k => congrArg x3 (funext fun a => by match a with | ⟨0, _⟩ => rfl | ⟨1, _⟩ => rfl))

/-- The reference's result 34 at an entry. -/
theorem ref_main_v34 (x2 : FVec Ideal S4096x256 .f32) (x4 : FVec Ideal S4096x512 .f32) (n : Fin 256) (e : Fin 512) : MM.ent 256 512 .bf16 (val_main_v34 (F := Ideal) x2 x4) n e = MM.sumTN 256 4096 512 .f32 .f32 x2 x4 n e := by
  show (val_main_v24 (F := Ideal) x2 x4 (ix2 n e) : EReal) = _
  refine (val_main_v24_apply (F := Ideal) x2 x4 (ix2 n e)).trans ?_
  refine (val_main_v23_apply x2 x4 _).trans ?_
  exact MM.sumsC (fun k => congrArg x4 (funext fun a => by match a with | ⟨0, _⟩ => rfl | ⟨1, _⟩ => rfl)) (fun k => congrArg x2 (funext fun a => by match a with | ⟨0, _⟩ => rfl | ⟨1, _⟩ => rfl))

/-- The reference's result 30 at an entry. -/
theorem ref_main_v30 (x0 : FVec Ideal S1024x3200 .f32) (x1 : FVec Ideal S4096x3200 .f32) (n : Fin 4096) (e : Fin 1024) : MM.ent 4096 1024 .f32 (val_main_v30 (F := Ideal) x0 x1) n e = MM.sumNT 4096 3200 1024 .f32 .f32 x1 x0 n e := by
  refine (val_main_v30_apply x0 x1 (ix2 n e)).trans ?_
  exact MM.sums (fun k => congrArg x1 (funext fun a => by match a with | ⟨0, _⟩ => rfl | ⟨1, _⟩ => rfl)) (fun k => congrArg x0 (funext fun a => by match a with | ⟨0, _⟩ => rfl | ⟨1, _⟩ => rfl))

end Cert.Reference6Ideal.Prod

namespace Cert.Prod6

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference6Ideal (hReference6Ideal := Cert.Reference6Ideal.Gen.facts) := fun m ρ _ =>
  (θ_run Cert.Reference6Ideal.defs _ _).mono (fun r h => ⟨fun c => (h c).2.2.2.2.2.2.2.2.2.2.2, sem_eq_zero_of_no_sems (by decide) r.2⟩)
    (Cert.Reference6Ideal.Value.run (F := Ideal) m ρ)

section
variable (m : (ℓ : Loc Cert.Kernel6Ideal.nD Cert.Kernel6Ideal.τ Cert.Kernel6Ideal.sig) → Buf (Elt Ideal) ℓ) (ρ : Dev Cert.Kernel6Ideal.nD → PrngReg) (c : Dev Cert.Kernel6Ideal.nD)
open Cert.Kernel6Ideal.Prod

/-- The kernel's result 15 is the reference's. -/
theorem agree_main_v15 : (Cert.Reference6Ideal.Read.val_main_v31 (F := Ideal) (x16 m c) (x17 m c) : FVec Ideal ⟨2, ![256, 1024]⟩ .bf16) = Cert.Kernel6Ideal.Gen.W12 m ρ c Cert.Kernel6Ideal.main_v15 := funext fun i => by
  obtain ⟨n, e, rfl⟩ : ∃ (n : Fin 256) (e : Fin 1024), i = ix2 n e := ⟨i 0, i 1, funext fun a => by match a with | ⟨0, _⟩ => rfl | ⟨1, _⟩ => rfl⟩
  exact (Cert.Reference6Ideal.Prod.ref_main_v31 _ _ n e).trans (Cert.Kernel6Ideal.Prod.ker_main_v15 m ρ c n e).symm

/-- The kernel's result 16 is the reference's. -/
theorem agree_main_v16 : (Cert.Reference6Ideal.Read.val_main_v8 (F := Ideal) (x14 m c) (x15 m c) : FVec Ideal ⟨2, ![4096, 1024]⟩ .f32) = Cert.Kernel6Ideal.Gen.W12 m ρ c Cert.Kernel6Ideal.main_v16 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference6Ideal.Prod.ref_main_v8 _ _ n e).trans (Cert.Kernel6Ideal.Prod.ker_main_v16 m ρ c n e).symm

/-- The kernel's result 17 is the reference's. -/
theorem agree_main_v17 : (Cert.Reference6Ideal.Read.val_main_v32 (F := Ideal) (x13 m c) (x15 m c) : FVec Ideal ⟨2, ![1024, 1024]⟩ .bf16) = Cert.Kernel6Ideal.Gen.W12 m ρ c Cert.Kernel6Ideal.main_v17 := funext fun i => by
  obtain ⟨n, e, rfl⟩ : ∃ (n : Fin 1024) (e : Fin 1024), i = ix2 n e := ⟨i 0, i 1, funext fun a => by match a with | ⟨0, _⟩ => rfl | ⟨1, _⟩ => rfl⟩
  exact (Cert.Reference6Ideal.Prod.ref_main_v32 _ _ n e).trans (Cert.Kernel6Ideal.Prod.ker_main_v17 m ρ c n e).symm

/-- The kernel's result 18 is the reference's. -/
theorem agree_main_v18 : (Cert.Reference6Ideal.Read.val_main_v13 (F := Ideal) (x11 m c) (x12 m c) : FVec Ideal ⟨2, ![4096, 1536]⟩ .f32) = Cert.Kernel6Ideal.Gen.W12 m ρ c Cert.Kernel6Ideal.main_v18 := funext fun i => by
  obtain ⟨n, e, rfl⟩ : ∃ (n : Fin 4096) (e : Fin 1536), i = ix2 n e := ⟨i 0, i 1, funext fun a => by match a with | ⟨0, _⟩ => rfl | ⟨1, _⟩ => rfl⟩
  exact (Cert.Reference6Ideal.Prod.ref_main_v13 _ _ n e).trans (Cert.Kernel6Ideal.Prod.ker_main_v18 m ρ c n e).symm

/-- The kernel's result 19 is the reference's. -/
theorem agree_main_v19 : (Cert.Reference6Ideal.Read.val_main_v17 (F := Ideal) (x9 m c) (x10 m c) : FVec Ideal ⟨2, ![4096, 512]⟩ .f32) = Cert.Kernel6Ideal.Gen.W12 m ρ c Cert.Kernel6Ideal.main_v19 := funext fun i => by
  obtain ⟨n, e, rfl⟩ : ∃ (n : Fin 4096) (e : Fin 512), i = ix2 n e := ⟨i 0, i 1, funext fun a => by match a with | ⟨0, _⟩ => rfl | ⟨1, _⟩ => rfl⟩
  exact (Cert.Reference6Ideal.Prod.ref_main_v17 _ _ n e).trans (Cert.Kernel6Ideal.Prod.ker_main_v19 m ρ c n e).symm

/-- The kernel's result 20 is the reference's. -/
theorem agree_main_v20 : (Cert.Reference6Ideal.Read.val_main_v16 (F := Ideal) (x8 m c) (x10 m c) : FVec Ideal ⟨2, ![512, 1024]⟩ .f32) = Cert.Kernel6Ideal.Gen.W12 m ρ c Cert.Kernel6Ideal.main_v20 := funext fun i => by
  obtain ⟨n, e, rfl⟩ : ∃ (n : Fin 512) (e : Fin 1024), i = ix2 n e := ⟨i 0, i 1, funext fun a => by match a with | ⟨0, _⟩ => rfl | ⟨1, _⟩ => rfl⟩
  exact (Cert.Reference6Ideal.Prod.ref_main_v16 _ _ n e).trans (Cert.Kernel6Ideal.Prod.ker_main_v20 m ρ c n e).symm

/-- The kernel's result 21 is the reference's. -/
theorem agree_main_v21 : (Cert.Reference6Ideal.Read.val_main_v21 (F := Ideal) (x6 m c) (x7 m c) : FVec Ideal ⟨2, ![4096, 128]⟩ .f32) = Cert.Kernel6Ideal.Gen.W12 m ρ c Cert.Kernel6Ideal.main_v21 := funext fun i => by
  obtain ⟨n, e, rfl⟩ : ∃ (n : Fin 4096) (e : Fin 128), i = ix2 n e := ⟨i 0, i 1, funext fun a => by match a with | ⟨0, _⟩ => rfl | ⟨1, _⟩ => rfl⟩
  exact (Cert.Reference6Ideal.Prod.ref_main_v21 _ _ n e).trans (Cert.Kernel6Ideal.Prod.ker_main_v21 m ρ c n e).symm

/-- The kernel's result 22 is the reference's. -/
theorem agree_main_v22 : (Cert.Reference6Ideal.Read.val_main_v33 (F := Ideal) (x5 m c) (x7 m c) : FVec Ideal ⟨2, ![128, 1024]⟩ .bf16) = Cert.Kernel6Ideal.Gen.W12 m ρ c Cert.Kernel6Ideal.main_v22 := funext fun i => by
  obtain ⟨n, e, rfl⟩ : ∃ (n : Fin 128) (e : Fin 1024), i = ix2 n e := ⟨i 0, i 1, funext fun a => by match a with | ⟨0, _⟩ => rfl | ⟨1, _⟩ => rfl⟩
  exact (Cert.Reference6Ideal.Prod.ref_main_v33 _ _ n e).trans (Cert.Kernel6Ideal.Prod.ker_main_v22 m ρ c n e).symm

/-- The kernel's result 23 is the reference's. -/
theorem agree_main_v23 : (Cert.Reference6Ideal.Read.val_main_v25 (F := Ideal) (x3 m c) (x4 m c) : FVec Ideal ⟨2, ![4096, 256]⟩ .f32) = Cert.Kernel6Ideal.Gen.W12 m ρ c Cert.Kernel6Ideal.main_v23 := funext fun i => by
  obtain ⟨n, e, rfl⟩ : ∃ (n : Fin 4096) (e : Fin 256), i = ix2 n e := ⟨i 0, i 1, funext fun a => by match a with | ⟨0, _⟩ => rfl | ⟨1, _⟩ => rfl⟩
  exact (Cert.Reference6Ideal.Prod.ref_main_v25 _ _ n e).trans (Cert.Kernel6Ideal.Prod.ker_main_v23 m ρ c n e).symm

/-- The kernel's result 24 is the reference's. -/
theorem agree_main_v24 : (Cert.Reference6Ideal.Read.val_main_v34 (F := Ideal) (x2 m c) (x4 m c) : FVec Ideal ⟨2, ![256, 512]⟩ .bf16) = Cert.Kernel6Ideal.Gen.W12 m ρ c Cert.Kernel6Ideal.main_v24 := funext fun i => by
  obtain ⟨n, e, rfl⟩ : ∃ (n : Fin 256) (e : Fin 512), i = ix2 n e := ⟨i 0, i 1, funext fun a => by match a with | ⟨0, _⟩ => rfl | ⟨1, _⟩ => rfl⟩
  exact (Cert.Reference6Ideal.Prod.ref_main_v34 _ _ n e).trans (Cert.Kernel6Ideal.Prod.ker_main_v24 m ρ c n e).symm

/-- The kernel's result 25 is the reference's. -/
theorem agree_main_v25 : (Cert.Reference6Ideal.Read.val_main_v30 (F := Ideal) (x0 m c) (x1 m c) : FVec Ideal ⟨2, ![4096, 1024]⟩ .f32) = Cert.Kernel6Ideal.Gen.W12 m ρ c Cert.Kernel6Ideal.main_v25 := funext fun i => by
  obtain ⟨n, e, rfl⟩ : ∃ (n : Fin 4096) (e : Fin 1024), i = ix2 n e := ⟨i 0, i 1, funext fun a => by match a with | ⟨0, _⟩ => rfl | ⟨1, _⟩ => rfl⟩
  exact (Cert.Reference6Ideal.Prod.ref_main_v30 _ _ n e).trans (Cert.Kernel6Ideal.Prod.ker_main_v25 m ρ c n e).symm

end

/-- The kernel and the reference end with equal results. -/
theorem value : Cert.algebraic_Kernel6Ideal_Reference6Ideal (hKernel6Ideal := Cert.Kernel6Ideal.Gen.facts)
    (hReference6Ideal := Cert.Reference6Ideal.Gen.facts) := fun m ρ m' ρ' _ hag =>
  ⟨fun c => Cert.Kernel6Ideal.Gen.W12 m ρ c Cert.Kernel6Ideal.main_v15,
    fun c => Cert.Kernel6Ideal.Gen.W12 m ρ c Cert.Kernel6Ideal.main_v16,
    fun c => Cert.Kernel6Ideal.Gen.W12 m ρ c Cert.Kernel6Ideal.main_v17,
    fun c => Cert.Kernel6Ideal.Gen.W12 m ρ c Cert.Kernel6Ideal.main_v18,
    fun c => Cert.Kernel6Ideal.Gen.W12 m ρ c Cert.Kernel6Ideal.main_v19,
    fun c => Cert.Kernel6Ideal.Gen.W12 m ρ c Cert.Kernel6Ideal.main_v20,
    fun c => Cert.Kernel6Ideal.Gen.W12 m ρ c Cert.Kernel6Ideal.main_v21,
    fun c => Cert.Kernel6Ideal.Gen.W12 m ρ c Cert.Kernel6Ideal.main_v22,
    fun c => Cert.Kernel6Ideal.Gen.W12 m ρ c Cert.Kernel6Ideal.main_v23,
    fun c => Cert.Kernel6Ideal.Gen.W12 m ρ c Cert.Kernel6Ideal.main_v24,
    fun c => Cert.Kernel6Ideal.Gen.W12 m ρ c Cert.Kernel6Ideal.main_v25,
    (θ_run Cert.Kernel6Ideal.defs _ _).mono (fun _ h c => ⟨(h c).1.1, (h c).1.2.1, (h c).1.2.2.1, (h c).1.2.2.2.1, (h c).1.2.2.2.2.1, (h c).1.2.2.2.2.2.1, (h c).1.2.2.2.2.2.2.1, (h c).1.2.2.2.2.2.2.2.1, (h c).1.2.2.2.2.2.2.2.2.1, (h c).1.2.2.2.2.2.2.2.2.2.1, (h c).1.2.2.2.2.2.2.2.2.2.2, (h c).2⟩) (Cert.Kernel6Ideal.Prod.run (F := Ideal) m ρ),
    (θ_run Cert.Reference6Ideal.defs _ _).mono (fun _ h c => by
      obtain ⟨g0, g1, g2, g3, g4, g5, g6, g7, g8, g9, g10, g11, g12, g13, g14, g15, g16, g17⟩ := hag c
      obtain ⟨r0, r1, r2, r3, r4, r5, r6, r7, r8, r9, r10, rest⟩ := h c
      refine ⟨r0.trans ?_, r1.trans ?_, r2.trans ?_, r3.trans ?_, r4.trans ?_, r5.trans ?_, r6.trans ?_, r7.trans ?_, r8.trans ?_, r9.trans ?_, r10.trans ?_, rest⟩
      · rw [Cert.Reference6Ideal.Read.val_main_v31_eq, g16, g17]; exact agree_main_v15 m ρ c
      · rw [Cert.Reference6Ideal.Read.val_main_v8_eq, g14, g15]; exact agree_main_v16 m ρ c
      · rw [Cert.Reference6Ideal.Read.val_main_v32_eq, g13, g15]; exact agree_main_v17 m ρ c
      · rw [Cert.Reference6Ideal.Read.val_main_v13_eq, g11, g12]; exact agree_main_v18 m ρ c
      · rw [Cert.Reference6Ideal.Read.val_main_v17_eq, g9, g10]; exact agree_main_v19 m ρ c
      · rw [Cert.Reference6Ideal.Read.val_main_v16_eq, g8, g10]; exact agree_main_v20 m ρ c
      · rw [Cert.Reference6Ideal.Read.val_main_v21_eq, g6, g7]; exact agree_main_v21 m ρ c
      · rw [Cert.Reference6Ideal.Read.val_main_v33_eq, g5, g7]; exact agree_main_v22 m ρ c
      · rw [Cert.Reference6Ideal.Read.val_main_v25_eq, g3, g4]; exact agree_main_v23 m ρ c
      · rw [Cert.Reference6Ideal.Read.val_main_v34_eq, g2, g4]; exact agree_main_v24 m ρ c
      · rw [Cert.Reference6Ideal.Read.val_main_v30_eq, g0, g1]; exact agree_main_v25 m ρ c)
      (Cert.Reference6Ideal.Value.run (F := Ideal) m' ρ')⟩

end Cert.Prod6

end

end
-- ==== Proof.Prod7.lean ====
module

public import proofs.«01_k».proof.Proof.Gen.Kernel7Ideal.Frame
public import proofs.«01_k».proof.Proof.MMBlk
public import Idealize.ShloMosaic.Lib.Pipeline.Value
public import Idealize.ShloMosaic.Lib.ValueLayout
public import Idealize.ShloMosaic.Lib.Pipeline.ValueKit.Tiles

@[expose] public section

set_option maxRecDepth 16384

noncomputable section

/-! The gradient of the weight of the output projection: the blocks of rows are summed in the scratch. -/

namespace Cert.Kernel7Ideal.Prod

open Idealize.ShloMosaic Idealize.ShloMosaic.ValueIdx Idealize.ShloMosaic.TcCoe Cert.Kernel7Ideal Cert.Kernel7Ideal.Gen
open Idealize.ShloMosaic.Pipeline (Dat)
open scoped BigOperators

/-- The grid point of a block of the result and a block of rows. -/
def pt (i : Fin 2) (k : Fin 2) : Fin cfg0.N := ⟨2 * i.val + k.val, by have := i.isLt; have := k.isLt; show _ < 4; omega⟩

theorem ix0 : ∀ (i : Fin 2) (k : Fin 2), win0_0.index (pt i k) 0 = k.val ∧ win0_0.index (pt i k) 1 = i.val := by decide +kernel
theorem ix1 : ∀ (i : Fin 2) (k : Fin 2), win0_1.index (pt i k) 0 = k.val ∧ win0_1.index (pt i k) 1 = 0 := by decide +kernel
theorem ix2' : ∀ (i : Fin 2) (k : Fin 2), win0_2.index (pt i k) 0 = i.val ∧ win0_2.index (pt i k) 1 = 0 := by decide +kernel
theorem fl : ∀ i : Fin 2, (cfg0.win 2).flush (pt i 1) = true := by decide +kernel
theorem dj : ∀ t t' : Fin cfg0.N, (cfg0.win 2).flush t = true → (cfg0.win 2).flush t' = true → t ≠ t' →
    Disjoint ((cfg0.win 2).blk t).view.set ((cfg0.win 2).blk t').view.set :=
  fun t t' h h' hne => (cfg0.win 2).disjoint_blk fun e => hne
    ((by decide +kernel : ∀ t t' : Fin grid0.N, (cfg0.win 2).flush t = true → (cfg0.win 2).flush t' = true → win0_2.index t = win0_2.index t' → t = t') t t' h h' e)

/-- The product of two blocks of rows at an entry. -/
theorem pay1 (x0 : Vec Ideal S2048x768 .bf16) (x1 : Vec Ideal S2048x1024 .f32) (a : Fin 768) (b : Fin 1024) :
    (k0_pay1 x0 x1 : FVec Ideal S768x1024 .f32) (ix2 a b) = (∑ d : Fin 2048, x0 (ix2 d a) * x1 (ix2 d b)) := by
  unfold k0_pay1
  simp only [shapeCast_self]
  exact MM.tn (φ₁ := .bf16) (φ₂ := .f32) x0 x1 a b

section
variable (m : (ℓ : Loc nD τ sig) → Buf (Elt Ideal) ℓ) (ρ : Dev nD → PrngReg) (c : Dev nD)

/-- What the first point of a block leaves in the scratch. -/
theorem scrA (t : Fin cfg0.N) (h0 : t.val % 2 = 0) : (outsAt0 m c t.val t.isLt).2 = k0_pay1 (iblk m c 0 t) (iblk m c 1 t) := by
  refine (congrArg Prod.snd (outsAt0_A m c t h0 (by omega))).trans ?_
  dsimp only
  unfold sout0_A_0
  rw [View.read_writes_eq_canon _ _ _ (scover0_A_0 c _ _ _ _ _ _ _ _ _ _ _ _ _ _)]
  unfold kernelRun0_A
  refine (View.canon_unit_zero (S := S768x1024) (by decide) inb_S768x1024_S768x1024_0_0 _).trans ?_
  rw [MM.ld_whole _ _ (by decide), MM.ld_whole _ _ (by decide)]
  unfold k0_pay2
  exact shapeCast_self _ _

/-- What the last point stores. -/
theorem outL (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  refine (congrArg Prod.fst (outsAt0_B m c t (by omega) h)).trans ?_
  dsimp only
  unfold out0_B_2
  rw [View.read_writes_eq_canon _ _ _ (cover0_B_2 c _ _ _ _ _ _ _ _ _ _ _ _ _ _ _)]
  unfold kernelRun0_B
  refine (View.canon_unit_zero (S := S768x1024) (by decide) inb_S768x1024_S768x1024_0_0 _).trans ?_
  rw [MM.ld_whole _ _ (by decide), MM.ld_whole _ _ (by decide), MM.ld_whole _ _ (by decide)]

theorem ib0 (i : Fin 2) (k : Fin 2) (p : Fin 2048) (q : Fin 768) (n : Fin 4096) (e : Fin 1536) (hn : n.val = 2048 * k.val + p.val) (he : e.val = 768 * i.val + q.val) :
    (iblk m c 0 (pt i k) : FVec Ideal S2048x768 .bf16) (ix2 p q) = (V m c main_v0 : FVec Ideal S4096x1536 .bf16) (ix2 n e) := by
  unfold iblk
  rw [View.read_apply]
  show V m c main_v0 _ = V m c main_v0 _
  congr 1
  funext x
  apply Fin.ext
  match x with
  | ⟨0, _⟩ => show win0_0.index (pt i k) 0 * 2048 + 1 * p.val = n.val; rw [(ix0 i k).1]; omega
  | ⟨1, _⟩ => show win0_0.index (pt i k) 1 * 768 + 1 * q.val = e.val; rw [(ix0 i k).2]; omega

theorem ib1 (i : Fin 2) (k : Fin 2) (p : Fin 2048) (q : Fin 1024) (n : Fin 4096) (hn : n.val = 2048 * k.val + p.val) :
    (iblk m c 1 (pt i k) : FVec Ideal S2048x1024 .f32) (ix2 p q) = (V m c main_arg1 : FVec Ideal S4096x1024 .f32) (ix2 n q) := by
  unfold iblk
  rw [View.read_apply]
  show V m c main_arg1 _ = V m c main_arg1 _
  congr 1
  funext x
  apply Fin.ext
  match x with
  | ⟨0, _⟩ => show win0_1.index (pt i k) 0 * 2048 + 1 * p.val = n.val; rw [(ix1 i k).1]; omega
  | ⟨1, _⟩ => show win0_1.index (pt i k) 1 * 1024 + 1 * q.val = q.val; rw [(ix1 i k).2]; omega

theorem at_ (i : Fin 2) (p : Fin 768) (q : Fin 1024) (n : Fin 1536) (hn : n.val = 768 * i.val + p.val) :
    ((dats m 0 c).arrAt 2 cfg0.N : FVec Ideal S1536x1024 .bf16) (ix2 n q) = (outsAt0 m c (pt i 1).val (pt i 1).isLt).1 (ix2 p q) := by
  have hb := congrFun ((dats m 0 c).read_blk_arrAt_eq_flushed 2 dj cfg0.N (pt i 1) (pt i 1).isLt (fl _)) (ix2 p q : S768x1024.Idx)
  rw [View.read_apply] at hb
  refine Eq.trans ?_ (hb.trans ?_)
  · show ((dats m 0 c).arrAt 2 cfg0.N : FVec Ideal S1536x1024 .bf16) _ = ((dats m 0 c).arrAt 2 cfg0.N : FVec Ideal S1536x1024 .bf16) _
    congr 1
    funext x
    apply Fin.ext
    match x with
    | ⟨0, _⟩ => show n.val = win0_2.index (pt i 1) 0 * 768 + 1 * p.val; rw [(ix2' i 1).1]; omega
    | ⟨1, _⟩ => show q.val = win0_2.index (pt i 1) 1 * 1024 + 1 * q.val; rw [(ix2' i 1).2]; omega
  · show (cfg0.win 2).cut (grid0.coords (pt i 1)) ((dats m 0 c).after 2 (pt i 1)) (ix2 p q : S768x1024.Idx) = _
    rw [after0_2]; rfl

/-- The product of one block of rows, from the whole arrays. -/
theorem part (i : Fin 2) (k : Fin 2) (p : Fin 768) (q : Fin 1024) (n : Fin 1536) (hn : n.val = 768 * i.val + p.val) :
    (k0_pay1 (iblk m c 0 (pt i k)) (iblk m c 1 (pt i k)) : FVec Ideal S768x1024 .f32) (ix2 p q)
      = ∑ d : Fin 2048, MM.ent 4096 1536 .bf16 (V m c main_v0) (MM.blk 2 2048 4096 rfl k d) n * MM.ent 4096 1024 .f32 (V m c main_arg1) (MM.blk 2 2048 4096 rfl k d) q := by
  rw [pay1]
  exact MM.sums (fun d => ib0 m c i k d p _ n rfl hn) (fun d => ib1 m c i k d q _ rfl)

/-- The array left, as the product of the arrays found. -/
theorem prod (n : Fin 1536) (q : Fin 1024) :
    ((dats m 0 c).arrAt 2 cfg0.N : FVec Ideal S1536x1024 .bf16) (ix2 n q) = MM.sumTN 1536 4096 1024 .bf16 .f32 (V m c main_v0) (V m c main_arg1) n q := by
  obtain ⟨i, p, hn⟩ := MM.split 2 768 rfl n
  rw [at_ m c i p q n hn, outL m c (pt i 1) (by show (2 * i.val + 1) % 2 = 1; omega)]
  refine Eq.trans ?_ (MM.sum_blk 2 2048 4096 rfl (fun d => MM.ent 4096 1536 .bf16 (V m c main_v0) d n * MM.ent 4096 1024 .f32 (V m c main_arg1) d q)).symm
  have e0 : (outsAt0 m c ((pt i 1).val - 1) (Nat.lt_of_le_of_lt (Nat.sub_le _ _) (pt i 1).isLt)).2 = k0_pay1 (iblk m c 0 (pt i 0)) (iblk m c 1 (pt i 0)) :=
    scrA m c (pt i 0) (by show (2 * i.val + 0) % 2 = 0; omega)
  rw [e0]
  have h0 := part m c i 0 p q n hn
  have h1 := part m c i 1 p q n hn
  rw [Fin.sum_univ_two, ← h0, ← h1]
  rfl

/-- The rows the call takes are the argument's. -/
theorem V0 : (V m c main_v0 : FVec Ideal S4096x1536 .bf16) = (m ((c : Thread nD τ).loc main_arg0) : FVec Ideal S4096x1536 .f32) := by
  show StableHlo.after hostOps0 (fun b => m (c, b)) main_v0 = _
  rfl

theorem V1 : (V m c main_arg1 : FVec Ideal S4096x1024 .f32) = (m ((c : Thread nD τ).loc main_arg1) : FVec Ideal S4096x1024 .f32) := V_main_arg1 m c

/-- The run leaves the product of the arguments in the result, and the arguments as they were. -/
theorem run : θ_run (defs (F := Ideal)) (onTc (τ := τ) (main (F := Ideal))) ⟨m, fun _ => 0, ρ⟩ (fun r => ∀ c : Dev nD,
      (∀ (n : Fin 1536) (q : Fin 1024), (r.2.mem ((c.tc : Thread nD τ).loc main_v1) : FVec Ideal S1536x1024 .bf16) (ix2 n q)
        = MM.sumTN 1536 4096 1024 .f32 .f32 (m ((c : Thread nD τ).loc main_arg0)) (m ((c : Thread nD τ).loc main_arg1)) n q)) :=
  (θ_run defs _ _).mono (fun r h c n q => by
    have e : (r.2.mem ((c.tc : Thread nD τ).loc main_v1) : FVec Ideal S1536x1024 .bf16) = ((dats m 0 c).arrAt 2 cfg0.N : FVec Ideal S1536x1024 .bf16) := (h c).1 2
    rw [e, prod m c n q, V0 m c]
    rw [V1 m c]) (run_main m ρ)

end

end Cert.Kernel7Ideal.Prod

end

end
-- ==== Proof.Val7.lean ====
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Prod7
public import proofs.«01_k».proof.Proof.MMBlk
public import Idealize.ShloMosaic.Adequacy
public import Idealize.ShloMosaic.Init

@[expose] public section

set_option maxRecDepth 16384

noncomputable section

/-! The call and its reference end with equal results. -/

namespace Cert.Reference7Ideal.Prod

open Idealize.ShloMosaic Idealize.ShloMosaic.ValueIdx Idealize.ShloMosaic.TcCoe Cert.Reference7Ideal Cert.Reference7Ideal.Gen Cert.Reference7Ideal.Read
open scoped BigOperators

/-- The reference's result at an entry. -/
theorem ref_main_v5 (x0 : FVec Ideal S4096x1536 .f32) (x1 : FVec Ideal S4096x1024 .f32) (n : Fin 1536) (e : Fin 1024) : MM.ent 1536 1024 .bf16 (val_main_v5 (F := Ideal) x0 x1) n e = MM.sumTN 1536 4096 1024 .f32 .f32 x0 x1 n e := by
  show (val_main_v3 (F := Ideal) x0 x1 (ix2 n e) : EReal) = _
  refine (val_main_v3_apply (F := Ideal) x0 x1 (ix2 n e)).trans ?_
  refine (val_main_v2_apply x0 x1 _).trans ?_
  exact MM.sumsC (fun k => congrArg x1 (funext fun a => by match a with | ⟨0, _⟩ => rfl | ⟨1, _⟩ => rfl)) (fun k => congrArg x0 (funext fun a => by match a with | ⟨0, _⟩ => rfl | ⟨1, _⟩ => rfl))

end Cert.Reference7Ideal.Prod

namespace Cert.Kernel7Ideal.Prod

open Idealize.ShloMosaic Idealize.ShloMosaic.ValueIdx Idealize.ShloMosaic.TcCoe Cert.Kernel7Ideal Cert.Kernel7Ideal.Gen
open Idealize.SL.Sem

section
variable (m : (ℓ : Loc nD τ sig) → Buf (Elt Ideal) ℓ) (ρ : Dev nD → PrngReg) (c : Dev nD)

/-- The first argument. -/
abbrev x0 : FVec Ideal S4096x1536 .f32 := m ((c : Thread nD τ).loc main_arg0)
/-- The second argument. -/
abbrev x1 : FVec Ideal S4096x1024 .f32 := m ((c : Thread nD τ).loc main_arg1)

/-- What the call leaves, from the arguments. -/
theorem ker_main_v1 (n : Fin 1536) (e : Fin 1024) : MM.ent 1536 1024 .bf16 ((dats m 0 c).arrAt 2 cfg0.N) n e = MM.sumTN 1536 4096 1024 .f32 .f32 (x0 m c) (x1 m c) n e := by
  refine (prod m c n e).trans ?_
  rw [V0 m c]
  rw [V1 m c]

/-- The run: the result holds what the pipeline leaves and the arguments are unchanged. -/
theorem run' : θ_run (defs (F := Ideal)) (onTc (τ := τ) (main (F := Ideal))) ⟨m, fun _ => 0, ρ⟩ (fun r => ∀ c : Dev nD,
      r.2.mem ((c.tc : Thread nD τ).loc main_v1) = ((dats m 0 c).arrAt 2 cfg0.N : FVec Ideal S1536x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2 c⟩) (θ_run_and (run_main m ρ) (unchanged m ρ))

end

end Cert.Kernel7Ideal.Prod

namespace Cert.Prod7

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

section
variable (m : (ℓ : Loc Cert.Kernel7Ideal.nD Cert.Kernel7Ideal.τ Cert.Kernel7Ideal.sig) → Buf (Elt Ideal) ℓ) (ρ : Dev Cert.Kernel7Ideal.nD → PrngReg) (c : Dev Cert.Kernel7Ideal.nD)
open Cert.Kernel7Ideal.Prod

/-- The kernel's result 1 is the reference's. -/
theorem agree_main_v1 : (Cert.Reference7Ideal.Read.val_main_v5 (F := Ideal) (x0 m c) (x1 m c) : FVec Ideal ⟨2, ![1536, 1024]⟩ .bf16) = ((Cert.Kernel7Ideal.Gen.dats m 0 c).arrAt 2 Cert.Kernel7Ideal.cfg0.N : FVec Ideal ⟨2, ![1536, 1024]⟩ .bf16) := funext fun i => by
  obtain ⟨n, e, rfl⟩ : ∃ (n : Fin 1536) (e : Fin 1024), i = ix2 n e := ⟨i 0, i 1, funext fun a => by match a with | ⟨0, _⟩ => rfl | ⟨1, _⟩ => rfl⟩
  exact (Cert.Reference7Ideal.Prod.ref_main_v5 _ _ n e).trans (Cert.Kernel7Ideal.Prod.ker_main_v1 m c n e).symm

end

/-- The kernel and the reference end with equal results. -/
theorem value : Cert.algebraic_Kernel7Ideal_Reference7Ideal (hKernel7Ideal := Cert.Kernel7Ideal.Gen.facts)
    (hReference7Ideal := Cert.Reference7Ideal.Gen.facts) := fun m ρ m' ρ' _ hag =>
  ⟨fun c => ((Cert.Kernel7Ideal.Gen.dats m 0 c).arrAt 2 Cert.Kernel7Ideal.cfg0.N : FVec Ideal ⟨2, ![1536, 1024]⟩ .bf16),
    (θ_run Cert.Kernel7Ideal.defs _ _).mono (fun _ h c => ⟨(h c).1, (h c).2⟩) (Cert.Kernel7Ideal.Prod.run' m ρ),
    (θ_run Cert.Reference7Ideal.defs _ _).mono (fun _ h c => by
      obtain ⟨g0, g1⟩ := hag c
      obtain ⟨r0, rest⟩ := h c
      refine ⟨r0.trans ?_, rest⟩
      · rw [Cert.Reference7Ideal.Read.val_main_v5_eq, g0, g1]; exact agree_main_v1 m c)
      (Cert.Reference7Ideal.Value.run (F := Ideal) m' ρ')⟩

end Cert.Prod7

end

end
-- ==== Proof.Prod8.lean ====
module

public import proofs.«01_k».proof.Proof.Gen.Kernel8Ideal.Frame
public import proofs.«01_k».proof.Proof.MMBlk
public import Idealize.ShloMosaic.Lib.Pipeline.Value
public import Idealize.ShloMosaic.Lib.ValueLayout
public import Idealize.ShloMosaic.Lib.Pipeline.ValueKit.Tiles

@[expose] public section

set_option maxRecDepth 16384

noncomputable section

/-! The gradient of the weight of the input projection: the blocks of rows are summed in the scratch. -/

namespace Cert.Kernel8Ideal.Prod

open Idealize.ShloMosaic Idealize.ShloMosaic.ValueIdx Idealize.ShloMosaic.TcCoe Cert.Kernel8Ideal Cert.Kernel8Ideal.Gen
open Idealize.ShloMosaic.Pipeline (Dat)
open scoped BigOperators

/-- The grid point of a block of the result and a block of rows. -/
def pt (i : Fin 2) (k : Fin 4) : Fin cfg0.N := ⟨4 * i.val + k.val, by have := i.isLt; have := k.isLt; show _ < 8; omega⟩

theorem ix0 : ∀ (i : Fin 2) (k : Fin 4), win0_0.index (pt i k) 0 = k.val ∧ win0_0.index (pt i k) 1 = i.val := by decide +kernel
theorem ix1 : ∀ (i : Fin 2) (k : Fin 4), win0_1.index (pt i k) 0 = k.val ∧ win0_1.index (pt i k) 1 = 0 := by decide +kernel
theorem ix2' : ∀ (i : Fin 2) (k : Fin 4), win0_2.index (pt i k) 0 = i.val ∧ win0_2.index (pt i k) 1 = 0 := by decide +kernel
theorem fl : ∀ i : Fin 2, (cfg0.win 2).flush (pt i 3) = true := by decide +kernel
theorem dj : ∀ t t' : Fin cfg0.N, (cfg0.win 2).flush t = true → (cfg0.win 2).flush t' = true → t ≠ t' →
    Disjoint ((cfg0.win 2).blk t).view.set ((cfg0.win 2).blk t').view.set :=
  fun t t' h h' hne => (cfg0.win 2).disjoint_blk fun e => hne
    ((by decide +kernel : ∀ t t' : Fin grid0.N, (cfg0.win 2).flush t = true → (cfg0.win 2).flush t' = true → win0_2.index t = win0_2.index t' → t = t') t t' h h' e)

/-- The product of two blocks of rows at an entry. -/
theorem pay1 (x0 : Vec Ideal S1024x512 .bf16) (x1 : Vec Ideal S1024x3200 .bf16) (a : Fin 512) (b : Fin 3200) :
    (k0_pay1 x0 x1 : FVec Ideal S512x3200 .f32) (ix2 a b) = (∑ d : Fin 1024, x0 (ix2 d a) * x1 (ix2 d b)) := by
  unfold k0_pay1
  simp only [shapeCast_self]
  exact MM.tn (φ₁ := .bf16) (φ₂ := .bf16) x0 x1 a b

section
variable (m : (ℓ : Loc nD τ sig) → Buf (Elt Ideal) ℓ) (ρ : Dev nD → PrngReg) (c : Dev nD)

/-- What the first point of a block leaves in the scratch. -/
theorem scrA (t : Fin cfg0.N) (h0 : t.val % 4 = 0) : (outsAt0 m c t.val t.isLt).2 = k0_pay1 (iblk m c 0 t) (iblk m c 1 t) := by
  refine (congrArg Prod.snd (outsAt0_A m c t h0 (by omega) (by omega))).trans ?_
  dsimp only
  unfold sout0_A_0
  rw [View.read_writes_eq_canon _ _ _ (scover0_A_0 c _ _ _ _ _ _ _ _ _ _ _ _ _ _)]
  unfold kernelRun0_A
  refine (View.canon_unit_zero (S := S512x3200) (by decide) inb_S512x3200_S512x3200_0_0 _).trans ?_
  rw [MM.ld_whole _ _ (by decide), MM.ld_whole _ _ (by decide)]
  unfold k0_pay2
  exact shapeCast_self _ _

/-- What a middle point leaves in the scratch. -/
theorem scrB (t : Fin cfg0.N) (h1 : 1 ≤ t.val % 4 ∧ t.val % 4 ≤ 2) :
    (outsAt0 m c t.val t.isLt).2 = addf (outsAt0 m c (t.val - 1) (Nat.lt_of_le_of_lt (Nat.sub_le _ _) t.isLt)).2 (k0_pay1 (iblk m c 0 t) (iblk m c 1 t)) := by
  refine (congrArg Prod.snd (outsAt0_B m c t (by omega) h1 (by omega))).trans ?_
  dsimp only
  unfold sout0_B_0
  rw [View.read_writes_eq_canon _ _ _ (scover0_B_0 c _ _ _ _ _ _ _ _ _ _ _ _ _ _ _)]
  unfold kernelRun0_B
  refine (View.canon_unit_zero (S := S512x3200) (by decide) inb_S512x3200_S512x3200_0_0 _).trans ?_
  rw [MM.ld_whole _ _ (by decide), MM.ld_whole _ _ (by decide), MM.ld_whole _ _ (by decide)]
  unfold k0_pay3
  exact shapeCast_self _ _

/-- What the last point stores. -/
theorem outL (t : Fin cfg0.N) (h : t.val % 4 = 3) :
    (outsAt0 m c t.val t.isLt).1 = k0_pay4 (iblk m c 0 t) (iblk m c 1 t) (outsAt0 m c (t.val - 1) (Nat.lt_of_le_of_lt (Nat.sub_le _ _) t.isLt)).2 := by
  refine (congrArg Prod.fst (outsAt0_C m c t (by omega) (by omega) h)).trans ?_
  dsimp only
  unfold out0_C_2
  rw [View.read_writes_eq_canon _ _ _ (cover0_C_2 c _ _ _ _ _ _ _ _ _ _ _ _ _ _ _)]
  unfold kernelRun0_C
  refine (View.canon_unit_zero (S := S512x3200) (by decide) inb_S512x3200_S512x3200_0_0 _).trans ?_
  rw [MM.ld_whole _ _ (by decide), MM.ld_whole _ _ (by decide), MM.ld_whole _ _ (by decide)]

theorem ib0 (i : Fin 2) (k : Fin 4) (p : Fin 1024) (q : Fin 512) (n : Fin 4096) (e : Fin 1024) (hn : n.val = 1024 * k.val + p.val) (he : e.val = 512 * i.val + q.val) :
    (iblk m c 0 (pt i k) : FVec Ideal S1024x512 .bf16) (ix2 p q) = (V m c main_v0 : FVec Ideal S4096x1024 .bf16) (ix2 n e) := by
  unfold iblk
  rw [View.read_apply]
  show V m c main_v0 _ = V m c main_v0 _
  congr 1
  funext x
  apply Fin.ext
  match x with
  | ⟨0, _⟩ => show win0_0.index (pt i k) 0 * 1024 + 1 * p.val = n.val; rw [(ix0 i k).1]; omega
  | ⟨1, _⟩ => show win0_0.index (pt i k) 1 * 512 + 1 * q.val = e.val; rw [(ix0 i k).2]; omega

theorem ib1 (i : Fin 2) (k : Fin 4) (p : Fin 1024) (q : Fin 3200) (n : Fin 4096) (hn : n.val = 1024 * k.val + p.val) :
    (iblk m c 1 (pt i k) : FVec Ideal S1024x3200 .bf16) (ix2 p q) = (V m c main_v1 : FVec Ideal S4096x3200 .bf16) (ix2 n q) := by
  unfold iblk
  rw [View.read_apply]
  show V m c main_v1 _ = V m c main_v1 _
  congr 1
  funext x
  apply Fin.ext
  match x with
  | ⟨0, _⟩ => show win0_1.index (pt i k) 0 * 1024 + 1 * p.val = n.val; rw [(ix1 i k).1]; omega
  | ⟨1, _⟩ => show win0_1.index (pt i k) 1 * 3200 + 1 * q.val = q.val; rw [(ix1 i k).2]; omega

theorem at_ (i : Fin 2) (p : Fin 512) (q : Fin 3200) (n : Fin 1024) (hn : n.val = 512 * i.val + p.val) :
    ((dats m 0 c).arrAt 2 cfg0.N : FVec Ideal S1024x3200 .bf16) (ix2 n q) = (outsAt0 m c (pt i 3).val (pt i 3).isLt).1 (ix2 p q) := by
  have hb := congrFun ((dats m 0 c).read_blk_arrAt_eq_flushed 2 dj cfg0.N (pt i 3) (pt i 3).isLt (fl _)) (ix2 p q : S512x3200.Idx)
  rw [View.read_apply] at hb
  refine Eq.trans ?_ (hb.trans ?_)
  · show ((dats m 0 c).arrAt 2 cfg0.N : FVec Ideal S1024x3200 .bf16) _ = ((dats m 0 c).arrAt 2 cfg0.N : FVec Ideal S1024x3200 .bf16) _
    congr 1
    funext x
    apply Fin.ext
    match x with
    | ⟨0, _⟩ => show n.val = win0_2.index (pt i 3) 0 * 512 + 1 * p.val; rw [(ix2' i 3).1]; omega
    | ⟨1, _⟩ => show q.val = win0_2.index (pt i 3) 1 * 3200 + 1 * q.val; rw [(ix2' i 3).2]; omega
  · show (cfg0.win 2).cut (grid0.coords (pt i 3)) ((dats m 0 c).after 2 (pt i 3)) (ix2 p q : S512x3200.Idx) = _
    rw [after0_2]; rfl

/-- The product of one block of rows, from the whole arrays. -/
theorem part (i : Fin 2) (k : Fin 4) (p : Fin 512) (q : Fin 3200) (n : Fin 1024) (hn : n.val = 512 * i.val + p.val) :
    (k0_pay1 (iblk m c 0 (pt i k)) (iblk m c 1 (pt i k)) : FVec Ideal S512x3200 .f32) (ix2 p q)
      = ∑ d : Fin 1024, MM.ent 4096 1024 .bf16 (V m c main_v0) (MM.blk 4 1024 4096 rfl k d) n * MM.ent 4096 3200 .bf16 (V m c main_v1) (MM.blk 4 1024 4096 rfl k d) q := by
  rw [pay1]
  exact MM.sums (fun d => ib0 m c i k d p _ n rfl hn) (fun d => ib1 m c i k d q _ rfl)

/-- The array left, as the product of the arrays found. -/
theorem prod (n : Fin 1024) (q : Fin 3200) :
    ((dats m 0 c).arrAt 2 cfg0.N : FVec Ideal S1024x3200 .bf16) (ix2 n q) = MM.sumTN 1024 4096 3200 .bf16 .bf16 (V m c main_v0) (V m c main_v1) n q := by
  obtain ⟨i, p, hn⟩ := MM.split 2 512 rfl n
  rw [at_ m c i p q n hn, outL m c (pt i 3) (by show (4 * i.val + 3) % 4 = 3; omega)]
  refine Eq.trans ?_ (MM.sum_blk 4 1024 4096 rfl (fun d => MM.ent 4096 1024 .bf16 (V m c main_v0) d n * MM.ent 4096 3200 .bf16 (V m c main_v1) d q)).symm
  have e2 : (outsAt0 m c ((pt i 3).val - 1) (Nat.lt_of_le_of_lt (Nat.sub_le _ _) (pt i 3).isLt)).2 = addf (outsAt0 m c ((pt i 2).val - 1) (Nat.lt_of_le_of_lt (Nat.sub_le _ _) (pt i 2).isLt)).2 (k0_pay1 (iblk m c 0 (pt i 2)) (iblk m c 1 (pt i 2))) :=
    scrB m c (pt i 2) ⟨by show 1 ≤ (4 * i.val + 2) % 4; omega, by show (4 * i.val + 2) % 4 ≤ 2; omega⟩
  have e1 : (outsAt0 m c ((pt i 2).val - 1) (Nat.lt_of_le_of_lt (Nat.sub_le _ _) (pt i 2).isLt)).2 = addf (outsAt0 m c ((pt i 1).val - 1) (Nat.lt_of_le_of_lt (Nat.sub_le _ _) (pt i 1).isLt)).2 (k0_pay1 (iblk m c 0 (pt i 1)) (iblk m c 1 (pt i 1))) :=
    scrB m c (pt i 1) ⟨by show 1 ≤ (4 * i.val + 1) % 4; omega, by show (4 * i.val + 1) % 4 ≤ 2; omega⟩
  have e0 : (outsAt0 m c ((pt i 1).val - 1) (Nat.lt_of_le_of_lt (Nat.sub_le _ _) (pt i 1).isLt)).2 = k0_pay1 (iblk m c 0 (pt i 0)) (iblk m c 1 (pt i 0)) :=
    scrA m c (pt i 0) (by show (4 * i.val + 0) % 4 = 0; omega)
  rw [e2, e1, e0]
  have h0 := part m c i 0 p q n hn
  have h1 := part m c i 1 p q n hn
  have h2 := part m c i 2 p q n hn
  have h3 := part m c i 3 p q n hn
  rw [Fin.sum_univ_four, ← h0, ← h1, ← h2, ← h3]
  rfl

/-- The rows the call takes are the argument's. -/
theorem V0 : (V m c main_v0 : FVec Ideal S4096x1024 .bf16) = (m ((c : Thread nD τ).loc main_arg0) : FVec Ideal S4096x1024 .f32) := by
  show StableHlo.after hostOps0 (fun b => m (c, b)) main_v0 = _
  rfl

theorem V1 : (V m c main_v1 : FVec Ideal S4096x3200 .bf16) = (m ((c : Thread nD τ).loc main_arg1) : FVec Ideal S4096x3200 .f32) := by
  show StableHlo.after hostOps0 (fun b => m (c, b)) main_v1 = _
  rfl

/-- The run leaves the product of the arguments in the result, and the arguments as they were. -/
theorem run : θ_run (defs (F := Ideal)) (onTc (τ := τ) (main (F := Ideal))) ⟨m, fun _ => 0, ρ⟩ (fun r => ∀ c : Dev nD,
      (∀ (n : Fin 1024) (q : Fin 3200), (r.2.mem ((c.tc : Thread nD τ).loc main_v2) : FVec Ideal S1024x3200 .bf16) (ix2 n q)
        = MM.sumTN 1024 4096 3200 .f32 .f32 (m ((c : Thread nD τ).loc main_arg0)) (m ((c : Thread nD τ).loc main_arg1)) n q)) :=
  (θ_run defs _ _).mono (fun r h c n q => by
    have e : (r.2.mem ((c.tc : Thread nD τ).loc main_v2) : FVec Ideal S1024x3200 .bf16) = ((dats m 0 c).arrAt 2 cfg0.N : FVec Ideal S1024x3200 .bf16) := (h c).1 2
    rw [e, prod m c n q, V0 m c]
    rw [V1 m c]) (run_main m ρ)

end

end Cert.Kernel8Ideal.Prod

end

end
-- ==== Proof.Val8.lean ====
module

public import proofs.«01_k».proof.Defs
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Prod8
public import proofs.«01_k».proof.Proof.MMBlk
public import Idealize.ShloMosaic.Adequacy
public import Idealize.ShloMosaic.Init

@[expose] public section

set_option maxRecDepth 16384

noncomputable section

/-! The call and its reference end with equal results. -/

namespace Cert.Reference8Ideal.Prod

open Idealize.ShloMosaic Idealize.ShloMosaic.ValueIdx Idealize.ShloMosaic.TcCoe Cert.Reference8Ideal Cert.Reference8Ideal.Gen Cert.Reference8Ideal.Read
open scoped BigOperators

/-- The reference's result at an entry. -/
theorem ref_main_v5 (x0 : FVec Ideal S4096x1024 .f32) (x1 : FVec Ideal S4096x3200 .f32) (n : Fin 1024) (e : Fin 3200) : MM.ent 1024 3200 .bf16 (val_main_v5 (F := Ideal) x0 x1) n e = MM.sumTN 1024 4096 3200 .f32 .f32 x0 x1 n e := by
  show (val_main_v3 (F := Ideal) x0 x1 (ix2 n e) : EReal) = _
  refine (val_main_v3_apply (F := Ideal) x0 x1 (ix2 n e)).trans ?_
  refine (val_main_v2_apply x0 x1 _).trans ?_
  exact MM.sumsC (fun k => congrArg x1 (funext fun a => by match a with | ⟨0, _⟩ => rfl | ⟨1, _⟩ => rfl)) (fun k => congrArg x0 (funext fun a => by match a with | ⟨0, _⟩ => rfl | ⟨1, _⟩ => rfl))

end Cert.Reference8Ideal.Prod

namespace Cert.Kernel8Ideal.Prod

open Idealize.ShloMosaic Idealize.ShloMosaic.ValueIdx Idealize.ShloMosaic.TcCoe Cert.Kernel8Ideal Cert.Kernel8Ideal.Gen
open Idealize.SL.Sem

section
variable (m : (ℓ : Loc nD τ sig) → Buf (Elt Ideal) ℓ) (ρ : Dev nD → PrngReg) (c : Dev nD)

/-- The first argument. -/
abbrev x0 : FVec Ideal S4096x1024 .f32 := m ((c : Thread nD τ).loc main_arg0)
/-- The second argument. -/
abbrev x1 : FVec Ideal S4096x3200 .f32 := m ((c : Thread nD τ).loc main_arg1)

/-- What the call leaves, from the arguments. -/
theorem ker_main_v2 (n : Fin 1024) (e : Fin 3200) : MM.ent 1024 3200 .bf16 ((dats m 0 c).arrAt 2 cfg0.N) n e = MM.sumTN 1024 4096 3200 .f32 .f32 (x0 m c) (x1 m c) n e := by
  refine (prod m c n e).trans ?_
  rw [V0 m c]
  rw [V1 m c]

/-- The run: the result holds what the pipeline leaves and the arguments are unchanged. -/
theorem run' : θ_run (defs (F := Ideal)) (onTc (τ := τ) (main (F := Ideal))) ⟨m, fun _ => 0, ρ⟩ (fun r => ∀ c : Dev nD,
      r.2.mem ((c.tc : Thread nD τ).loc main_v2) = ((dats m 0 c).arrAt 2 cfg0.N : FVec Ideal S1024x3200 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2 c⟩) (θ_run_and (run_main m ρ) (unchanged m ρ))

end

end Cert.Kernel8Ideal.Prod

namespace Cert.Prod8

open Idealize.ShloMosaic Idealize.ShloMosaic.ValueIdx Idealize.ShloMosaic.TcCoe Idealize.SL.Sem

/-- The reference runs and leaves its arguments unchanged: its generated run, read at the arguments; it declares no semaphore. -/
theorem frame_ref : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

section
variable (m : (ℓ : Loc Cert.Kernel8Ideal.nD Cert.Kernel8Ideal.τ Cert.Kernel8Ideal.sig) → Buf (Elt Ideal) ℓ) (ρ : Dev Cert.Kernel8Ideal.nD → PrngReg) (c : Dev Cert.Kernel8Ideal.nD)
open Cert.Kernel8Ideal.Prod

/-- The kernel's result 2 is the reference's. -/
theorem agree_main_v2 : (Cert.Reference8Ideal.Read.val_main_v5 (F := Ideal) (x0 m c) (x1 m c) : FVec Ideal ⟨2, ![1024, 3200]⟩ .bf16) = ((Cert.Kernel8Ideal.Gen.dats m 0 c).arrAt 2 Cert.Kernel8Ideal.cfg0.N : FVec Ideal ⟨2, ![1024, 3200]⟩ .bf16) := funext fun i => by
  obtain ⟨n, e, rfl⟩ : ∃ (n : Fin 1024) (e : Fin 3200), i = ix2 n e := ⟨i 0, i 1, funext fun a => by match a with | ⟨0, _⟩ => rfl | ⟨1, _⟩ => rfl⟩
  exact (Cert.Reference8Ideal.Prod.ref_main_v5 _ _ n e).trans (Cert.Kernel8Ideal.Prod.ker_main_v2 m c n e).symm

end

/-- The kernel and the reference end with equal results. -/
theorem value : Cert.algebraic_Kernel8Ideal_Reference8Ideal (hKernel8Ideal := Cert.Kernel8Ideal.Gen.facts)
    (hReference8Ideal := Cert.Reference8Ideal.Gen.facts) := fun m ρ m' ρ' _ hag =>
  ⟨fun c => ((Cert.Kernel8Ideal.Gen.dats m 0 c).arrAt 2 Cert.Kernel8Ideal.cfg0.N : FVec Ideal ⟨2, ![1024, 3200]⟩ .bf16),
    (θ_run Cert.Kernel8Ideal.defs _ _).mono (fun _ h c => ⟨(h c).1, (h c).2⟩) (Cert.Kernel8Ideal.Prod.run' m ρ),
    (θ_run Cert.Reference8Ideal.defs _ _).mono (fun _ h c => by
      obtain ⟨g0, g1⟩ := hag c
      obtain ⟨r0, rest⟩ := h c
      refine ⟨r0.trans ?_, rest⟩
      · rw [Cert.Reference8Ideal.Read.val_main_v5_eq, g0, g1]; exact agree_main_v2 m c)
      (Cert.Reference8Ideal.Value.run (F := Ideal) m' ρ')⟩

end Cert.Prod8

end

end
-- ==== Proof.MFwd.lean ====
module

public import proofs.«01_k».proof.Proof.Gen.Kernel9Ideal.Frame
public import Idealize.ShloMosaic.Lib.ValueIdx
public import Idealize.ShloMosaic.Lib.Pipeline.ValueKit.Tiles

@[expose] public section

set_option maxRecDepth 16384

noncomputable section

/-! The blocks of the second attention's forward body: the tiles its loop reads, the loop's state
    after `n` key tiles, and the stored blocks as the last step's payloads of that state. -/

namespace Cert.Kernel9Ideal.Gen

open Idealize.ShloMosaic Idealize.ShloMosaic.ValueIdx Idealize.SL.Sem

variable {F : FTy → Type} [FloatOps F] [Cert.Kernel9Ideal.Facts]

/-- Rows `512 j …` of a whole array. -/
def tile {e : EltTy} (x : Vec F S4096x128 e) (j : ℕ) : Vec F S512x128 e :=
  fun l => x (ix2 ⟨(512 * j + (l 0).val) % 4096, Nat.mod_lt _ (by decide)⟩ (l 1))

/-- The forward loop's state: row maxima, row sums, weighted value rows. -/
abbrev FSt (F : FTy → Type) := FVec F S512x1 .f32 × FVec F S512x1 .f32 × FVec F S512x128 .f32

/-- One trip of the forward loop, on key tile `j`. -/
def fwdStep (x0 : Vec F S512x128 .bf16) (x1 : Vec F S4096x128 .bf16) (x2 : Vec F S4096x128 .f32) (j : ℕ) (a : FSt F) : FSt F :=
  (k0_pay12 x0 a.1 (tile x1 j), k0_pay15 x0 a.1 a.2.1 (tile x1 j), k0_pay16 x0 a.1 a.2.2 (tile x1 j) (tile x2 j))

/-- The forward loop's state after `n` key tiles. -/
def fwdSt (x0 : Vec F S512x128 .bf16) (x1 : Vec F S4096x128 .bf16) (x2 : Vec F S4096x128 .f32) : ℕ → FSt F
  | 0 => (k0_pay8, k0_pay9, k0_pay10)
  | n + 1 => fwdStep x0 x1 x2 n (fwdSt x0 x1 x2 n)

theorem trips0_1 : ∀ i : grid0.Coords, (k0_t1_loop i).trips = (i 1).val := by decide +kernel

theorem trips0_2 : ∀ i : grid0.Coords, (k0_t2_loop i).trips = 0 := by decide +kernel

/-- A load of 512 rows from row `512 j` on reads the tile. -/
theorem ld_tile {e : EltTy} (x : Vec F S4096x128 e) (off : Fin 2 → ℕ) (h : ∀ a, off a + S512x128.size a ≤ S4096x128.size a) (j : ℕ)
    (ho : off = ![512 * j, 0]) : View.ld x (Rect.unit (s := S4096x128) off S512x128.size h) = tile x j := by
  subst ho
  funext l
  have h0' : 512 * j + 512 ≤ 4096 := h 0
  have hl : (l 0).val < 512 := (l 0).isLt
  refine View.ld_unit_apply_of x _ _ h l _ fun a => ?_
  match a with
  | ⟨0, _⟩ => show (512 * j + (l 0).val) % 4096 = 512 * j + (l 0).val; exact Nat.mod_eq_of_lt (by omega)
  | ⟨1, _⟩ => show (l 1).val = 0 + (l 1).val; omega

section
variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S512x128 .f32) (harg5 : arg5.IsWhole) (arg6 : Memref sig .tc .vmem S1x512x1 .f32) (harg6 : arg6.IsWhole) (arg7 : Memref sig .tc .vmem S1x1x1x512 .f32) (harg7 : arg7.IsWhole)
  (x0 : Vec F S512x128 .bf16) (x1 : Vec F S4096x128 .bf16) (x2 : Vec F S4096x128 .f32)

theorem trip0_eq (k : Fin (k0_t1_loop i).trips) (acc : FSt F) :
    tripR_k0_t1 (F := F) 𝒱 c bd i arg2 harg2 arg3 harg3 arg4 harg4 arg5 harg5 arg6 harg6 arg7 harg7 x0 (harg3.unread x1) (harg4.unread x2) k acc
      = fwdStep x0 x1 x2 k.val acc := by
  unfold tripR_k0_t1 trip_k0_t1
  simp only [View.readAt_eq_ld, harg3.read_unread, harg4.read_unread]
  rw [ld_tile x1 _ _ k.val (k0_off1_eq i k), ld_tile x2 _ _ k.val (k0_off1_eq i k)]
  rfl

theorem st0_eq (n : ℕ) (hn : n ≤ (k0_t1_loop i).trips) :
    st_k0_t1 (F := F) 𝒱 c bd i arg2 harg2 arg3 harg3 arg4 harg4 arg5 harg5 arg6 harg6 arg7 harg7 x0 (harg3.unread x1) (harg4.unread x2) (k0_pay8, k0_pay9, k0_pay10) n
      = fwdSt x0 x1 x2 n := by
  induction n with
  | zero => rfl
  | succ n ih =>
    rw [st_k0_t1_succ (F := F) 𝒱 c bd i arg2 harg2 arg3 harg3 arg4 harg4 arg5 harg5 arg6 harg6 arg7 harg7 x0 (harg3.unread x1) (harg4.unread x2) (k0_pay8, k0_pay9, k0_pay10) ⟨n, hn⟩,
      trip0_eq, ih (Nat.le_of_succ_le hn)]
    rfl

theorem stEnd0_eq :
    st_k0_t2 (F := F) 𝒱 c bd i arg2 harg2 arg3 harg3 arg4 harg4 arg5 harg5 arg6 harg6 arg7 harg7 x0 (harg3.unread x1) (harg4.unread x2)
        (st_k0_t1 (F := F) 𝒱 c bd i arg2 harg2 arg3 harg3 arg4 harg4 arg5 harg5 arg6 harg6 arg7 harg7 x0 (harg3.unread x1) (harg4.unread x2) (k0_pay8, k0_pay9, k0_pay10) (k0_t1_loop i).trips)
        (k0_t2_loop i).trips
      = fwdSt x0 x1 x2 (i 1).val := by
  rw [trips0_2, st_k0_t2_zero, st0_eq (hn := le_rfl), trips0_1]

theorem ld_x0 : View.readAt (Elt F) arg2.view (Rect.unit ![0, 0] ![512, 128] inb_S512x128_S512x128_0_0).toLoadRect (harg2.unread x0) = x0 := by
  rw [View.readAt_eq_ld, harg2.read_unread]
  exact View.ld_unit_zero (S := S512x128) (by decide) inb_S512x128_S512x128_0_0 x0

theorem r0_eq : kernelRun0_A.sl.r c i arg2 harg2 arg3 harg3 arg4 harg4 arg5 harg5 arg6 harg6 arg7 harg7 x0 x1 x2 = (fwdSt x0 x1 x2 (i 1).val).2.1 := by
  unfold kernelRun0_A.sl.r
  rw [ld_x0]
  exact congrArg (·.2.1) (stEnd0_eq Variants.none c none i arg2 harg2 arg3 harg3 arg4 harg4 arg5 harg5 arg6 harg6 arg7 harg7 x0 x1 x2)

theorem r0_1_eq : kernelRun0_A.sl.r_1 c i arg2 harg2 arg3 harg3 arg4 harg4 arg5 harg5 arg6 harg6 arg7 harg7 x0 x1 x2 = (fwdSt x0 x1 x2 (i 1).val).2.2 := by
  unfold kernelRun0_A.sl.r_1
  rw [ld_x0]
  exact congrArg (·.2.2) (stEnd0_eq Variants.none c none i arg2 harg2 arg3 harg3 arg4 harg4 arg5 harg5 arg6 harg6 arg7 harg7 x0 x1 x2)

theorem r0_2_eq : kernelRun0_A.sl.r_2 i arg4 harg4 x2 = k0_pay23 (tile x2 (i 1).val) := by
  unfold kernelRun0_A.sl.r_2
  rw [View.readAt_eq_ld, harg4.read_unread]
  exact congrArg k0_pay23 (ld_tile x2 _ _ (i 1).val (k0_off3_eq i))

theorem r0_3_eq : kernelRun0_A.sl.r_3 c i arg2 harg2 arg3 harg3 arg4 harg4 arg5 harg5 arg6 harg6 arg7 harg7 x0 x1 x2 = k0_pay25 x0 (fwdSt x0 x1 x2 (i 1).val).1 (tile x1 (i 1).val) := by
  unfold kernelRun0_A.sl.r_3
  rw [ld_x0, View.readAt_eq_ld, harg3.read_unread]
  exact congrArg₂ (k0_pay25 x0) (congrArg (·.1) (stEnd0_eq Variants.none c none i arg2 harg2 arg3 harg3 arg4 harg4 arg5 harg5 arg6 harg6 arg7 harg7 x0 x1 x2)) (ld_tile x1 _ _ (i 1).val (k0_off3_eq i))

theorem r0_4_eq : kernelRun0_A.sl.r_4 c i arg2 harg2 arg3 harg3 arg4 harg4 arg5 harg5 arg6 harg6 arg7 harg7 x0 x1 x2 = k0_pay26 x0 (fwdSt x0 x1 x2 (i 1).val).1 (tile x1 (i 1).val) := by
  unfold kernelRun0_A.sl.r_4
  rw [ld_x0, View.readAt_eq_ld, harg3.read_unread]
  exact congrArg₂ (k0_pay26 x0) (congrArg (·.1) (stEnd0_eq Variants.none c none i arg2 harg2 arg3 harg3 arg4 harg4 arg5 harg5 arg6 harg6 arg7 harg7 x0 x1 x2)) (ld_tile x1 _ _ (i 1).val (k0_off3_eq i))

theorem r0_5_eq : kernelRun0_A.sl.r_5 c i arg2 harg2 arg3 harg3 arg4 harg4 arg5 harg5 arg6 harg6 arg7 harg7 x0 x1 x2 = k0_pay27 x0 (fwdSt x0 x1 x2 (i 1).val).1 (tile x1 (i 1).val) := by
  unfold kernelRun0_A.sl.r_5
  rw [ld_x0, View.readAt_eq_ld, harg3.read_unread]
  exact congrArg₂ (k0_pay27 x0) (congrArg (·.1) (stEnd0_eq Variants.none c none i arg2 harg2 arg3 harg3 arg4 harg4 arg5 harg5 arg6 harg6 arg7 harg7 x0 x1 x2)) (ld_tile x1 _ _ (i 1).val (k0_off3_eq i))

/-- The output block the forward body stores. -/
theorem out0_3_eq :
    out0_A_3 c i arg2 harg2 arg3 harg3 arg4 harg4 arg5 harg5 arg6 harg6 arg7 harg7 x0 x1 x2
      = k0_pay3 (fwdSt x0 x1 x2 (i 1).val).2.1 (fwdSt x0 x1 x2 (i 1).val).2.2 (k0_pay23 (tile x2 (i 1).val))
          (k0_pay26 x0 (fwdSt x0 x1 x2 (i 1).val).1 (tile x1 (i 1).val)) (k0_pay27 x0 (fwdSt x0 x1 x2 (i 1).val).1 (tile x1 (i 1).val)) := by
  unfold out0_A_3
  rw [View.read_writes_eq_canon _ _ _ (cover0_A_3 c i arg2 harg2 arg3 harg3 arg4 harg4 arg5 harg5 arg6 harg6 arg7 harg7 x0 x1 x2)]
  unfold kernelRun0_A
  refine (View.canon_unit_zero (S := S512x128) (by decide) inb_S512x128_S512x128_0_0 _).trans ?_
  rw [r0_eq, r0_1_eq, r0_2_eq, r0_4_eq, r0_5_eq]

/-- The row of logarithms the forward body stores for the backward call. -/
theorem out0_5_eq :
    out0_A_5 c i arg2 harg2 arg3 harg3 arg4 harg4 arg5 harg5 arg6 harg6 arg7 harg7 x0 x1 x2
      = k0_pay6 (fwdSt x0 x1 x2 (i 1).val).2.1 (k0_pay25 x0 (fwdSt x0 x1 x2 (i 1).val).1 (tile x1 (i 1).val))
          (k0_pay26 x0 (fwdSt x0 x1 x2 (i 1).val).1 (tile x1 (i 1).val)) (k0_pay27 x0 (fwdSt x0 x1 x2 (i 1).val).1 (tile x1 (i 1).val)) := by
  unfold out0_A_5
  rw [View.read_writes_eq_canon _ _ _ (cover0_A_5 c i arg2 harg2 arg3 harg3 arg4 harg4 arg5 harg5 arg6 harg6 arg7 harg7 x0 x1 x2)]
  unfold kernelRun0_A
  refine (View.canon_unit_zero (S := S1x1x1x512) (by decide) inb_S1x1x1x512_S1x1x1x512_0_0_0_0 _).trans ?_
  rw [r0_eq, r0_3_eq, r0_4_eq, r0_5_eq]
end

end Cert.Kernel9Ideal.Gen

end
-- ==== Proof.MDkv.lean ====
module

public import proofs.«01_k».proof.Proof.MFwd

@[expose] public section

set_option maxRecDepth 16384

noncomputable section

/-! The second attention's key and value gradients: the loop's state after `n` query tiles past the
    diagonal one, and the two blocks it stores as the last payloads of that state. -/

namespace Cert.Kernel9Ideal.Gen

open Idealize.ShloMosaic Idealize.ShloMosaic.ValueIdx Idealize.SL.Sem

variable {F : FTy → Type} [FloatOps F] [Cert.Kernel9Ideal.Facts]

/-- Entry `j` of a head's eight rows. -/
def rowOf (x : Vec F S1x8x1x512 .f32) (j : ℕ) : Vec F S1x1x1x512 .f32 :=
  fun l => x (ix4 (l 0) ⟨j % 8, Nat.mod_lt _ (by decide)⟩ (l 2) (l 3))

/-- A load of one of the eight rows. -/
theorem ld_row (x : Vec F S1x8x1x512 .f32) (off : Fin 4 → ℕ) (h : ∀ a, off a + S1x1x1x512.size a ≤ S1x8x1x512.size a) (j : ℕ)
    (ho : off = ![0, j, 0, 0]) : View.ld x (Rect.unit (s := S1x8x1x512) off S1x1x1x512.size h) = rowOf x j := by
  subst ho
  funext l
  have h1' : j + 1 ≤ 8 := h 1
  have hl : (l 1).val < 1 := (l 1).isLt
  refine View.ld_unit_apply_of x _ _ h l _ fun a => ?_
  match a with
  | ⟨0, _⟩ => show (l 0).val = 0 + (l 0).val; omega
  | ⟨1, _⟩ => show j % 8 = j + (l 1).val; rw [Nat.mod_eq_of_lt (by omega)]; omega
  | ⟨2, _⟩ => show (l 2).val = 0 + (l 2).val; omega
  | ⟨3, _⟩ => show (l 3).val = 0 + (l 3).val; omega

/-- The loop's state: the key gradient and the value gradient. -/
abbrev DSt (F : FTy → Type) := FVec F S512x128 .f32 × FVec F S512x128 .f32

section
variable (x0 : Vec F S4096x128 .bf16) (x1 : Vec F S512x128 .bf16) (x2 : Vec F S512x128 .f32) (x3 : Vec F S4096x128 .f32) (x4 x5 : Vec F S1x8x1x512 .f32)

/-- The diagonal step, on query tile `j`. -/
def dkvInit (j : ℕ) : DSt F :=
  (k1_pay3 (k1_pay16 x2) k1_pay17 (k1_pay19 (tile x0 j)) (k1_pay20 (tile x3 j)) (k1_pay21 x1 (tile x0 j)) (k1_pay22 (rowOf x4 j)) (rowOf x5 j),
    k1_pay2 k1_pay18 (k1_pay20 (tile x3 j)) (k1_pay21 x1 (tile x0 j)) (k1_pay22 (rowOf x4 j)))

/-- One trip of the loop, on query tile `n`. -/
def dkvStep (n : ℕ) (a : DSt F) : DSt F :=
  (k1_pay8 (k1_pay15 x1) (k1_pay16 x2) a.1 (tile x0 n) (tile x3 n) (rowOf x4 n) (rowOf x5 n),
    k1_pay7 (k1_pay15 x1) a.2 (tile x0 n) (tile x3 n) (rowOf x4 n))

/-- The loop's state after the diagonal tile `j` and `n` further ones. -/
def dkvSt (j : ℕ) : ℕ → DSt F
  | 0 => dkvInit x0 x1 x2 x3 x4 x5 j
  | n + 1 => dkvStep x0 x1 x2 x3 x4 x5 (j + 1 + n) (dkvSt j n)

end

theorem trips1_1 : ∀ i : grid1.Coords, (k1_t1_loop i).trips = 7 - (i 1).val := by decide +kernel

theorem trips1_2 : ∀ i : grid1.Coords, (k1_t2_loop i).trips = 0 := by decide +kernel

theorem off1_3 : ∀ (i : grid1.Coords) (k : Fin (k1_t1_loop i).trips), k1_off3 i k = ![512 * ((i 1).val + 1 + k.val), 0] := by decide +kernel

theorem off1_4 : ∀ (i : grid1.Coords) (k : Fin (k1_t1_loop i).trips), k1_off4 i k = ![0, (i 1).val + 1 + k.val, 0, 0] := by decide +kernel

section
variable (𝒱 : Variants) (c : Dev nD) (bd : Option 𝒱.V) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S4096x128 .f32) (harg5 : arg5.IsWhole) (arg6 : Memref sig .tc .vmem S1x8x1x512 .f32) (harg6 : arg6.IsWhole) (arg7 : Memref sig .tc .vmem S1x8x1x512 .f32) (harg7 : arg7.IsWhole) (arg8 : Memref sig .tc .vmem S512x128 .f32) (harg8 : arg8.IsWhole) (arg9 : Memref sig .tc .vmem S512x128 .f32) (harg9 : arg9.IsWhole)
  (x0 : Vec F S4096x128 .bf16) (x1 : Vec F S512x128 .bf16) (x2 : Vec F S512x128 .f32) (x3 : Vec F S4096x128 .f32) (x4 x5 : Vec F S1x8x1x512 .f32)

theorem trip1_eq (k : Fin (k1_t1_loop i).trips) (acc : DSt F) :
    tripR_k1_t1 (F := F) 𝒱 c bd i arg2 harg2 arg3 harg3 arg4 harg4 arg5 harg5 arg6 harg6 arg7 harg7 arg8 harg8 arg9 harg9 (k1_pay15 x1) (k1_pay16 x2) (harg2.unread x0) (harg5.unread x3) (harg6.unread x4) (harg7.unread x5) k acc
      = dkvStep x0 x1 x2 x3 x4 x5 ((i 1).val + 1 + k.val) acc := by
  unfold tripR_k1_t1 trip_k1_t1
  simp only [View.readAt_eq_ld, harg2.read_unread, harg5.read_unread, harg6.read_unread, harg7.read_unread]
  rw [ld_tile x0 _ _ _ (off1_3 i k), ld_tile x3 _ _ _ (off1_3 i k), ld_row x4 _ _ _ (off1_4 i k), ld_row x5 _ _ _ (off1_4 i k)]
  rfl

theorem st1_eq (n : ℕ) (hn : n ≤ (k1_t1_loop i).trips) :
    st_k1_t1 (F := F) 𝒱 c bd i arg2 harg2 arg3 harg3 arg4 harg4 arg5 harg5 arg6 harg6 arg7 harg7 arg8 harg8 arg9 harg9 (k1_pay15 x1) (k1_pay16 x2) (harg2.unread x0) (harg5.unread x3) (harg6.unread x4) (harg7.unread x5) (dkvInit x0 x1 x2 x3 x4 x5 (i 1).val) n
      = dkvSt x0 x1 x2 x3 x4 x5 (i 1).val n := by
  induction n with
  | zero => rfl
  | succ n ih =>
    rw [st_k1_t1_succ (F := F) 𝒱 c bd i arg2 harg2 arg3 harg3 arg4 harg4 arg5 harg5 arg6 harg6 arg7 harg7 arg8 harg8 arg9 harg9 (k1_pay15 x1) (k1_pay16 x2) (harg2.unread x0) (harg5.unread x3) (harg6.unread x4) (harg7.unread x5) (dkvInit x0 x1 x2 x3 x4 x5 (i 1).val) ⟨n, hn⟩,
      trip1_eq, ih (Nat.le_of_succ_le hn)]
    rfl

theorem stEnd1_eq :
    st_k1_t2 (F := F) 𝒱 c bd i arg2 harg2 arg3 harg3 arg4 harg4 arg5 harg5 arg6 harg6 arg7 harg7 arg8 harg8 arg9 harg9 (k1_pay15 x1) (k1_pay16 x2) (harg2.unread x0) (harg5.unread x3) (harg6.unread x4) (harg7.unread x5)
        (st_k1_t1 (F := F) 𝒱 c bd i arg2 harg2 arg3 harg3 arg4 harg4 arg5 harg5 arg6 harg6 arg7 harg7 arg8 harg8 arg9 harg9 (k1_pay15 x1) (k1_pay16 x2) (harg2.unread x0) (harg5.unread x3) (harg6.unread x4) (harg7.unread x5) (dkvInit x0 x1 x2 x3 x4 x5 (i 1).val) (k1_t1_loop i).trips)
        (k1_t2_loop i).trips
      = dkvSt x0 x1 x2 x3 x4 x5 (i 1).val (7 - (i 1).val) := by
  rw [trips1_2, st_k1_t2_zero, st1_eq (hn := le_rfl), trips1_1]

theorem r1_eq : kernelRun1_A.sl.r c arg3 harg3 x1 = k1_pay15 x1 := by
  unfold kernelRun1_A.sl.r
  rw [View.readAt_eq_ld, harg3.read_unread]
  exact congrArg k1_pay15 (View.ld_unit_zero (S := S512x128) (by decide) inb_S512x128_S512x128_0_0 x1)

theorem r1_1_eq : kernelRun1_A.sl.r_1 c arg4 harg4 x2 = k1_pay16 x2 := by
  unfold kernelRun1_A.sl.r_1
  rw [View.readAt_eq_ld, harg4.read_unread]
  exact congrArg k1_pay16 (View.ld_unit_zero (S := S512x128) (by decide) inb_S512x128_S512x128_0_0 x2)

theorem r1_2_eq : kernelRun1_A.sl.r_2 c i arg2 harg2 x0 = k1_pay19 (tile x0 (i 1).val) := by
  unfold kernelRun1_A.sl.r_2
  rw [View.readAt_eq_ld, harg2.read_unread]
  exact congrArg k1_pay19 (ld_tile x0 _ _ _ (k1_off1_eq i))

theorem r1_3_eq : kernelRun1_A.sl.r_3 c i arg5 harg5 x3 = k1_pay20 (tile x3 (i 1).val) := by
  unfold kernelRun1_A.sl.r_3
  rw [View.readAt_eq_ld, harg5.read_unread]
  exact congrArg k1_pay20 (ld_tile x3 _ _ _ (k1_off1_eq i))

theorem r1_4_eq : kernelRun1_A.sl.r_4 c i arg2 harg2 arg3 harg3 x0 x1 = k1_pay21 x1 (tile x0 (i 1).val) := by
  unfold kernelRun1_A.sl.r_4
  simp only [View.readAt_eq_ld, harg2.read_unread, harg3.read_unread]
  rw [View.ld_unit_zero (S := S512x128) (by decide) inb_S512x128_S512x128_0_0 x1]
  exact congrArg (k1_pay21 x1) (ld_tile x0 _ _ _ (k1_off1_eq i))

theorem r1_5_eq : kernelRun1_A.sl.r_5 c i arg6 harg6 x4 = k1_pay22 (rowOf x4 (i 1).val) := by
  unfold kernelRun1_A.sl.r_5
  rw [View.readAt_eq_ld, harg6.read_unread]
  exact congrArg k1_pay22 (ld_row x4 _ _ _ (k1_off2_eq i))

theorem ld_x5 : View.readAt (Elt F) arg7.view (Rect.unit (k1_off2 i) ![1, 1, 1, 512] (k1_off2_inb i)).toLoadRect (harg7.unread x5) = rowOf x5 (i 1).val := by
  rw [View.readAt_eq_ld, harg7.read_unread]; exact ld_row x5 _ _ _ (k1_off2_eq i)

/-- The key gradient's block. -/
theorem out1_6_eq :
    out1_A_6 c i arg2 harg2 arg3 harg3 arg4 harg4 arg5 harg5 arg6 harg6 arg7 harg7 arg8 harg8 arg9 harg9 x0 x1 x2 x3 x4 x5 = k1_pay14 (dkvSt x0 x1 x2 x3 x4 x5 (i 1).val (7 - (i 1).val)).1 := by
  unfold out1_A_6
  rw [View.read_writes_eq_canon _ _ _ (cover1_A_6 c i arg2 harg2 arg3 harg3 arg4 harg4 arg5 harg5 arg6 harg6 arg7 harg7 arg8 harg8 arg9 harg9 x0 x1 x2 x3 x4 x5)]
  unfold kernelRun1_A
  refine (View.canon_unit_zero (S := S512x128) (by decide) inb_S512x128_S512x128_0_0 _).trans ?_
  rw [r1_eq, r1_1_eq, r1_2_eq, r1_3_eq, r1_4_eq, r1_5_eq, ld_x5]
  exact congrArg (fun s : DSt F => k1_pay14 s.1) (stEnd1_eq ..)

/-- The value gradient's block. -/
theorem out1_7_eq :
    out1_A_7 c i arg2 harg2 arg3 harg3 arg4 harg4 arg5 harg5 arg6 harg6 arg7 harg7 arg8 harg8 arg9 harg9 x0 x1 x2 x3 x4 x5 = (dkvSt x0 x1 x2 x3 x4 x5 (i 1).val (7 - (i 1).val)).2 := by
  unfold out1_A_7
  rw [View.read_writes_eq_canon _ _ _ (cover1_A_7 c i arg2 harg2 arg3 harg3 arg4 harg4 arg5 harg5 arg6 harg6 arg7 harg7 arg8 harg8 arg9 harg9 x0 x1 x2 x3 x4 x5)]
  unfold kernelRun1_A
  refine (View.canon_unit_zero (S := S512x128) (by decide) inb_S512x128_S512x128_0_0 _).trans ?_
  rw [r1_eq, r1_1_eq, r1_2_eq, r1_3_eq, r1_4_eq, r1_5_eq, ld_x5]
  exact congrArg (fun s : DSt F => s.2) (stEnd1_eq ..)

end

end Cert.Kernel9Ideal.Gen

end
-- ==== Proof.MOps.lean ====
module

public import proofs.«01_k».proof.Proof.Gen.Kernel9Ideal
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

/-! The block operations of the second attention, read at an index over the extended reals. -/

namespace Cert.Kernel9Ideal.Ops

open Idealize.ShloMosaic Idealize.ShloMosaic.ValueIdx

variable {α : Type}

/-- The product of a block with the transpose of another, at an index. -/
theorem mm_nt {φ₁ φ₂ : FTy} (A : FVec Ideal S512x128 φ₁) (B : FVec Ideal S512x128 φ₂) (a b : Fin 512) :
    matmul dot_S512x128_S512x128_S512x512_1_1_0_0_n_n none A B (constant S512x512 .f32 0x00000000#32) (ix2 a b)
      = ∑ d : Fin 128, A (ix2 a d) * B (ix2 b d) := by
  refine (Ideal.matmul_transposedRhs_apply (M := 512) (K := 128) (N := 512) none A B _ a b).trans ?_
  rw [ValueIdx.constant_apply, Ideal.ofBits_zero_f32, zero_add]

/-- The product of a key block with a transposed query block, at an index. -/
theorem mm_nn {φ₁ φ₂ : FTy} (A : FVec Ideal S512x128 φ₁) (B : FVec Ideal S128x512 φ₂) (a b : Fin 512) :
    matmul dot_S512x128_S128x512_S512x512_1_0_0_1_n_n none A B (constant S512x512 .f32 0x00000000#32) (ix2 a b)
      = ∑ d : Fin 128, A (ix2 a d) * B (ix2 d b) := by
  refine (Ideal.matmul_plain_apply (M := 512) (K := 128) (N := 512) none A B _ a b).trans ?_
  rw [ValueIdx.constant_apply, Ideal.ofBits_zero_f32, zero_add]

/-- The product of a score block with a block of rows, at an index. -/
theorem mm_pv {φ₁ φ₂ : FTy} (A : FVec Ideal S512x512 φ₁) (B : FVec Ideal S512x128 φ₂) (a : Fin 512) (d : Fin 128) :
    matmul dot_S512x512_S512x128_S512x128_1_0_0_1_n_n none A B (constant S512x128 .f32 0x00000000#32) (ix2 a d)
      = ∑ b : Fin 512, A (ix2 a b) * B (ix2 b d) := by
  refine (Ideal.matmul_plain_apply (M := 512) (K := 512) (N := 128) none A B _ a d).trans ?_
  rw [ValueIdx.constant_apply, Ideal.ofBits_zero_f32, zero_add]

/-- A vector cast to a column. -/
theorem cast_col (x : S512.Idx → α) (h : S512.ShapeCasts S512x1) (a : Fin 512) (u : Fin 1) :
    shapeCast S512x1 x h (ix2 a u) = x (ix1 a) :=
  shapeCast_apply x h _ _ (by
    rw [Shape.rowMajor_val_two, Shape.rowMajor_val_one]
    show a.val = a.val * 1 + u.val
    omega)

/-- A vector cast to a row. -/
theorem cast_row (x : S512.Idx → α) (h : S512.ShapeCasts S1x512) (u : Fin 1) (a : Fin 512) :
    shapeCast S1x512 x h (ix2 u a) = x (ix1 a) := shapeCast_a_1a_apply x h u a

/-- A row cast to a row with two leading unit axes. -/
theorem cast_row4 (x : S1x512.Idx → α) (h : S1x512.ShapeCasts S1x1x1x512) (u v w : Fin 1) (a : Fin 512) :
    shapeCast S1x1x1x512 x h (ix4 u v w a) = x (ix2 0 a) :=
  shapeCast_apply x h _ _ (by
    rw [Shape.rowMajor_val_two, Shape.rowMajor_val_four]
    show 0 * 512 + a.val = ((u.val * 1 + v.val) * 1 + w.val) * 512 + a.val
    omega)

/-- A row with two leading unit axes cast to a row. -/
theorem cast_row4' (x : S1x1x1x512.Idx → α) (h : S1x1x1x512.ShapeCasts S1x512) (u : Fin 1) (a : Fin 512) :
    shapeCast S1x512 x h (ix2 u a) = x (ix4 0 0 0 a) :=
  shapeCast_apply x h _ _ (by
    rw [Shape.rowMajor_val_two, Shape.rowMajor_val_four]
    show ((0 * 1 + 0) * 1 + 0) * 512 + a.val = u.val * 512 + a.val
    omega)

/-- A column repeated over 512 columns. -/
theorem bc_col512 (x : S512x1.Idx → α) (h : S512x1.Broadcasts S512x512) (a b : Fin 512) :
    broadcastTo S512x512 x h (ix2 a b) = x (ix2 a 0) := by
  refine broadcastTo_apply x h (ix2 a b) (ix2 a (0 : Fin 1)) fun ax => ?_
  match ax with
  | ⟨0, _⟩ => rfl
  | ⟨1, _⟩ => rfl

/-- A column repeated over 128 columns. -/
theorem bc_col128 (x : S512x1.Idx → α) (h : S512x1.Broadcasts S512x128) (a : Fin 512) (d : Fin 128) :
    broadcastTo S512x128 x h (ix2 a d) = x (ix2 a 0) := by
  refine broadcastTo_apply x h (ix2 a d) (ix2 a (0 : Fin 1)) fun ax => ?_
  match ax with
  | ⟨0, _⟩ => rfl
  | ⟨1, _⟩ => rfl

/-- A row repeated over 512 rows. -/
theorem bc_row (x : S1x512.Idx → α) (h : S1x512.Broadcasts S512x512) (a b : Fin 512) :
    broadcastTo S512x512 x h (ix2 a b) = x (ix2 0 b) := broadcastTo_1b_ab_apply x h a b

/-- A row's sum. -/
theorem sum_row (x : FVec Ideal S512x512 .f32) (a : Fin 512) (h : S512x512.Reduces [1] S512) (h1) (h2) :
    multiReduction .add [1] S512 x 0x00000000#32 h h1 h2 (ix1 a) = ∑ b : Fin 512, x (ix2 a b) := by
  rw [Ideal.multiReduction_add_single]
  refine Finset.sum_congr rfl fun b _ => congrArg x (funext fun ax => ?_)
  match ax with
  | ⟨0, _⟩ => rfl
  | ⟨1, _⟩ => rfl

theorem ofBits_bot : Ideal.ofBits .f32 0xFF800000#32 = ⊥ := by simp [Ideal.ofBits, Ideal.ieee]

/-- A row's maximum. -/
theorem max_row (x : FVec Ideal S512x512 .f32) (a : Fin 512) (h : S512x512.Reduces [1] S512) (h1) (h2) :
    multiReduction .maximumf [1] S512 x 0xFF800000#32 h h1 h2 (ix1 a) = (Finset.univ : Finset (Fin 512)).sup fun b => x (ix2 a b) := by
  rw [Ideal.multiReduction_maximumf_single, Ideal.ofBits_def, ofBits_bot]
  refine Finset.fold_congr fun b _ => congrArg x (funext fun ax => ?_)
  match ax with
  | ⟨0, _⟩ => rfl
  | ⟨1, _⟩ => rfl

/-- The maximum over eight equal rows. -/
theorem max_col8 (x : FVec Ideal S8x512 .f32) (a : Fin 512) (h : S8x512.Reduces [0] S512) (h1) (h2) :
    multiReduction .maximumf [0] S512 x 0xFF800000#32 h h1 h2 (ix1 a) = (Finset.univ : Finset (Fin 8)).sup fun b => x (ix2 b a) := by
  rw [Ideal.multiReduction_maximumf_single, Ideal.ofBits_def, ofBits_bot]
  refine Finset.fold_congr fun b _ => congrArg x (funext fun ax => ?_)
  match ax with
  | ⟨0, _⟩ => rfl
  | ⟨1, _⟩ => rfl

/-- The scale: one over the root of 96, rounded. -/
def sg : ℝ := 13698540 / 134217728

theorem ofBits_sg : Ideal.ofBits .f32 0x3DD105EC#32 = (sg : EReal) := by
  simp [Ideal.ofBits, Ideal.ieee]
  rw [← EReal.coe_mul]
  unfold sg
  norm_num

theorem ofBits_one16 : Ideal.ofBits .bf16 0x3F80#16 = 1 := by
  simp [Ideal.ofBits, Ideal.ieee]
  rw [← EReal.coe_mul]
  norm_num

end Cert.Kernel9Ideal.Ops

end
-- ==== Proof.MScore.lean ====
module

public import proofs.«01_k».proof.Proof.Math

@[expose] public section

set_option maxRecDepth 16384

noncomputable section

/-! Causal softmax attention on the reals: a head's scores, weights, probabilities and their gradients. -/

namespace Cert.Mla

open Cert.FoxMath

/-- A score: the product of a query's row and a key's row, scaled. -/
def score (g : ℝ) (Q K : ℕ → Fin 128 → ℝ) (q j : ℕ) : ℝ := (∑ d : Fin 128, Q q d * K j d) * g

/-- A score's weight, nought past the diagonal. -/
def weight (g : ℝ) (Q K : ℕ → Fin 128 → ℝ) (q j : ℕ) : ℝ := wt (j ≤ q) (score g Q K q j)

/-- A row's sum of weights. -/
def total (g : ℝ) (Q K : ℕ → Fin 128 → ℝ) (q : ℕ) : ℝ := ∑ j ∈ Finset.range 4096, weight g Q K q j

/-- A probability, from the row's logarithm `L`. -/
def prob (g : ℝ) (Q K : ℕ → Fin 128 → ℝ) (L : ℕ → ℝ) (n j : ℕ) : ℝ := wt (j ≤ n) (score g Q K n j - L n)

/-- A score's gradient, from the rows' logarithms `L` and row sums `D`. -/
def dsc (g : ℝ) (Q K V W : ℕ → Fin 128 → ℝ) (L D : ℕ → ℝ) (n j : ℕ) : ℝ :=
  prob g Q K L n j * ((∑ d : Fin 128, V j d * W n d) - D n)

variable (g : ℝ) (Q K : ℕ → Fin 128 → ℝ)

theorem weight_nonneg (q j : ℕ) : 0 ≤ weight g Q K q j := by
  unfold weight wt; split
  · exact (Real.exp_pos _).le
  · exact le_rfl

theorem total_pos (q : ℕ) : 0 < total g Q K q := by
  refine Finset.sum_pos' (fun j _ => weight_nonneg g Q K q j) ⟨0, by simp, ?_⟩
  unfold weight wt; rw [if_pos (Nat.zero_le _)]; exact Real.exp_pos _

/-- Past the last key tile of a query tile the weights are nought. -/
theorem sum_weights (q n : ℕ) (hq : q < 512 * n) (hn : 512 * n ≤ 4096) (f : ℕ → ℝ) :
    ∑ j ∈ Finset.range (512 * n), weight g Q K q j * f j = ∑ j ∈ Finset.range 4096, weight g Q K q j * f j := by
  refine Finset.sum_subset (Finset.range_subset_range.2 hn) fun j _ hj => ?_
  have : ¬ j ≤ q := by have := Finset.mem_range.not.1 hj; omega
  unfold weight wt; rw [if_neg this, zero_mul]

theorem sum_tile (f : ℕ → ℝ) (n : ℕ) :
    ∑ j ∈ Finset.range (512 * (n + 1)), f j = ∑ j ∈ Finset.range (512 * n), f j + ∑ b : Fin 512, f (512 * n + b.val) := by
  rw [Nat.mul_succ, Finset.sum_range_add, ← Fin.sum_univ_eq_sum_range (fun b => f (512 * n + b))]

/-- Adding a tile's sum to the sum before it. -/
theorem add_tile (n : ℕ) (f : ℕ → ℝ) (acc : EReal) (y : Fin 512 → EReal) (ha : acc = ((∑ j ∈ Finset.range (512 * n), f j : ℝ) : EReal))
    (hy : ∀ b, y b = (f (512 * n + b.val) : EReal)) :
    acc + ∑ b, y b = ((∑ j ∈ Finset.range (512 * (n + 1)), f j : ℝ) : EReal) := by
  rw [ha, sum_eq_coe Finset.univ y _ fun b _ => hy b, ← EReal.coe_add, sum_tile]

theorem prob_zero (L : ℕ → ℝ) (n j : ℕ) (h : n < j) : prob g Q K L n j = 0 := by
  unfold prob wt; rw [if_neg (by omega)]

theorem dsc_zero (V W : ℕ → Fin 128 → ℝ) (L D : ℕ → ℝ) (n j : ℕ) (h : n < j) : dsc g Q K V W L D n j = 0 := by
  unfold dsc; rw [prob_zero g Q K L n j h, zero_mul]

/-- The probability of a row's own logarithm is its weight over the row's total. -/
theorem prob_eq (n j : ℕ) : prob g Q K (fun n => Real.log (total g Q K n)) n j = weight g Q K n j / total g Q K n := by
  unfold prob weight wt
  split
  · rw [Real.exp_sub, Real.exp_log (total_pos g Q K n)]
  · rw [zero_div]

end Cert.Mla

end
-- ==== Proof.MFwdIdeal.lean ====
module

public import proofs.«01_k».proof.Proof.MFwd
public import proofs.«01_k».proof.Proof.MOps
public import proofs.«01_k».proof.Proof.MScore
public import Idealize.ShloMosaic.Lib.WordCmp

@[expose] public section

set_option maxRecDepth 16384

noncomputable section

/-! The second attention's forward body over real inputs: the running softmax of each query's row,
    tile by tile, and the blocks stored. -/

namespace Cert.Kernel9Ideal.Mla

open Idealize.ShloMosaic Idealize.ShloMosaic.ValueIdx Cert.Kernel9Ideal.Gen Cert.Kernel9Ideal.Ops Cert.FoxMath Cert.Mla

variable [Cert.Kernel9Ideal.Facts]

/-! ## The payloads at an index -/

theorem pay7_apply (x : FVec Ideal S512x128 .bf16) (a : Fin 512) (d : Fin 128) : k0_pay7 (F := Ideal) x (ix2 a d) = x (ix2 a d) := by
  unfold k0_pay7
  simp only [shapeCast_self]
  show x (ix2 a d) * Ideal.ofBits .bf16 0x3F80#16 = _
  rw [ofBits_one16, mul_one]

/-- The scores of a tile. -/
theorem sc_apply (x k : FVec Ideal S512x128 .bf16) (a b : Fin 512) :
    k0_pay11 (F := Ideal) x k (ix2 a b) = (∑ d : Fin 128, x (ix2 a d) * k (ix2 b d)) * (sg : EReal) := by
  unfold k0_pay11
  simp only [shapeCast_self]
  rw [mulf_apply, mm_nt]
  simp only [pay7_apply]
  exact congrArg (_ * ·) ofBits_sg

theorem pay12_apply (x k : FVec Ideal S512x128 .bf16) (m : FVec Ideal S512x1 .f32) (a : Fin 512) :
    k0_pay12 (F := Ideal) x m k (ix2 a 0) = max (m (ix2 a 0)) (Finset.univ.sup fun b : Fin 512 => k0_pay11 (F := Ideal) x k (ix2 a b)) := by
  unfold k0_pay12
  rw [maximumf_apply, cast_col]
  exact congrArg (max _) (max_row _ a _ _ _)

theorem pay13_apply (x k : FVec Ideal S512x128 .bf16) (m : FVec Ideal S512x1 .f32) (a : Fin 512) :
    k0_pay13 (F := Ideal) x m k (ix2 a 0) = Ideal.exp (m (ix2 a 0) - k0_pay12 (F := Ideal) x m k (ix2 a 0)) := rfl

theorem pay14_apply (x k : FVec Ideal S512x128 .bf16) (m : FVec Ideal S512x1 .f32) (a b : Fin 512) :
    k0_pay14 (F := Ideal) x m k (ix2 a b) = Ideal.exp (k0_pay11 (F := Ideal) x k (ix2 a b) - k0_pay12 (F := Ideal) x m k (ix2 a 0)) := by
  show Ideal.exp (k0_pay11 (F := Ideal) x k (ix2 a b) - broadcastTo S512x512 (k0_pay12 (F := Ideal) x m k) _ (ix2 a b)) = _
  rw [bc_col512]

theorem pay15_apply (x k : FVec Ideal S512x128 .bf16) (m l : FVec Ideal S512x1 .f32) (a : Fin 512) :
    k0_pay15 (F := Ideal) x m l k (ix2 a 0)
      = k0_pay13 (F := Ideal) x m k (ix2 a 0) * l (ix2 a 0) + ∑ b : Fin 512, k0_pay14 (F := Ideal) x m k (ix2 a b) := by
  unfold k0_pay15
  rw [addf_apply, mulf_apply, cast_col]
  exact congrArg (_ + ·) (sum_row _ a _ _ _)

/-- The weighted value rows of a step. -/
theorem num_apply (al : FVec Ideal S512x1 .f32) (acc : FVec Ideal S512x128 .f32) (w : FVec Ideal S512x512 .f32) (v : FVec Ideal S512x128 .bf16) (hb) (a : Fin 512) (d : Fin 128) :
    addf (mulf (broadcastTo S512x128 al broadcasts_S512x1_S512x128) acc)
        (matmul dot_S512x512_S512x128_S512x128_1_0_0_1_n_n none (truncf .bf16 w hb) v (constant S512x128 .f32 0x00000000#32)) (ix2 a d)
      = al (ix2 a 0) * acc (ix2 a d) + ∑ b : Fin 512, w (ix2 a b) * v (ix2 b d) := by
  rw [addf_apply, mulf_apply, bc_col128, mm_pv]; rfl

theorem pay16_apply (x k : FVec Ideal S512x128 .bf16) (m : FVec Ideal S512x1 .f32) (acc v : FVec Ideal S512x128 .f32) (a : Fin 512) (d : Fin 128) :
    k0_pay16 (F := Ideal) x m acc k v (ix2 a d)
      = k0_pay13 (F := Ideal) x m k (ix2 a 0) * acc (ix2 a d) + ∑ b : Fin 512, k0_pay14 (F := Ideal) x m k (ix2 a b) * v (ix2 b d) := by
  unfold k0_pay16
  simp only [shapeCast_self]
  exact num_apply _ acc _ (truncf .bf16 v bitsLt_bf16_f32) _ a d

/-- The masked scores of the diagonal tile. -/
theorem pay24_apply (x k : FVec Ideal S512x128 .bf16) (a b : Fin 512) :
    k0_pay24 (F := Ideal) x k (ix2 a b) = if b.val ≤ a.val then k0_pay11 (F := Ideal) x k (ix2 a b) else ⊥ := by
  have hm : cmpi .sle (iota .tc S512x512 32 [1] iota_S512x512_d1_w32) (addi (iota .tc S512x512 32 [0] iota_S512x512_d0_w32) (broadcast S512x512 0#32)) (ix2 a b)
      = BitVec.ofBool (decide (b.val ≤ a.val)) := by
    show IntOp.cmpi .sle (iota .tc S512x512 32 [1] iota_S512x512_d1_w32 (ix2 a b)) (iota .tc S512x512 32 [0] iota_S512x512_d0_w32 (ix2 a b) + 0#32) = _
    rw [BitVec.add_zero]
    show IntOp.cmpi .sle (BitVec.ofNat 32 (0 * 512 + b.val)) (BitVec.ofNat 32 (0 * 512 + a.val)) = _
    simp only [Nat.zero_mul, Nat.zero_add]
    exact WordCmp.cmpi_sle_ofNat (by omega) (by omega)
  show select (cmpi .sle (iota .tc S512x512 32 [1] iota_S512x512_d1_w32) (addi (iota .tc S512x512 32 [0] iota_S512x512_d0_w32) (broadcast S512x512 0#32))) (k0_pay11 (F := Ideal) x k) (broadcast S512x512 (Scalar.ofBits .f32 0xFF800000#32)) (ix2 a b) = _
  rw [select_apply, hm]
  by_cases h : b.val ≤ a.val
  · rw [if_pos h, decide_eq_true h]; rfl
  · rw [if_neg h, decide_eq_false h]; exact ofBits_bot

theorem pay25_apply (x k : FVec Ideal S512x128 .bf16) (m : FVec Ideal S512x1 .f32) (a : Fin 512) :
    k0_pay25 (F := Ideal) x m k (ix2 a 0) = max (m (ix2 a 0)) (Finset.univ.sup fun b : Fin 512 => k0_pay24 (F := Ideal) x k (ix2 a b)) := by
  unfold k0_pay25
  rw [maximumf_apply, cast_col]
  exact congrArg (max _) (max_row _ a _ _ _)

theorem pay26_apply (x k : FVec Ideal S512x128 .bf16) (m : FVec Ideal S512x1 .f32) (a : Fin 512) :
    k0_pay26 (F := Ideal) x m k (ix2 a 0) = Ideal.exp (m (ix2 a 0) - k0_pay25 (F := Ideal) x m k (ix2 a 0)) := rfl

theorem pay1_apply (x k : FVec Ideal S512x128 .bf16) (m : FVec Ideal S512x1 .f32) (a b : Fin 512) :
    k0_pay1 (k0_pay27 (F := Ideal) x m k) (ix2 a b) = Ideal.exp (k0_pay24 (F := Ideal) x k (ix2 a b) - k0_pay25 (F := Ideal) x m k (ix2 a 0)) := by
  show Ideal.exp (k0_pay24 (F := Ideal) x k (ix2 a b) - broadcastTo S512x512 (k0_pay25 (F := Ideal) x m k) _ (ix2 a b)) = _
  rw [bc_col512]

theorem pay2_apply (l al : FVec Ideal S512x1 .f32) (s : FVec Ideal S512x512 .f32) (a : Fin 512) :
    k0_pay2 (F := Ideal) l al s (ix2 a 0) = al (ix2 a 0) * l (ix2 a 0) + ∑ b : Fin 512, k0_pay1 (F := Ideal) s (ix2 a b) := by
  unfold k0_pay2
  rw [addf_apply, mulf_apply, cast_col]
  exact congrArg (_ + ·) (sum_row _ a _ _ _)

theorem pay3_apply (l al : FVec Ideal S512x1 .f32) (acc v : FVec Ideal S512x128 .f32) (s : FVec Ideal S512x512 .f32) (a : Fin 512) (d : Fin 128) :
    k0_pay3 (F := Ideal) l acc (k0_pay23 (F := Ideal) v) al s (ix2 a d)
      = Ideal.div (al (ix2 a 0) * acc (ix2 a d) + ∑ b : Fin 512, k0_pay1 (F := Ideal) s (ix2 a b) * v (ix2 b d)) (k0_pay2 (F := Ideal) l al s (ix2 a 0)) := by
  unfold k0_pay3 k0_pay23
  simp only [shapeCast_self]
  rw [divf_apply, num_apply, bc_col128]; rfl

theorem pay6_apply (l m al : FVec Ideal S512x1 .f32) (s : FVec Ideal S512x512 .f32) (a : Fin 512) :
    k0_pay6 (F := Ideal) l m al s (ix4 0 0 0 a) = m (ix2 a 0) + Ideal.log (k0_pay2 (F := Ideal) l al s (ix2 a 0)) := by
  unfold k0_pay6
  simp only [shapeCast_self]
  rw [cast_row4, cast_row]
  refine (max_col8 _ a _ _ _).trans ?_
  have h : ∀ b : Fin 8, extractStridedSlice S8x512 ![0, 0] (transpose S128x512 [1, 0] (broadcastTo S512x128 (k0_pay4 (F := Ideal) l m al s) broadcasts_S512x1_S512x128) transposes_S512x128_p1_0_S128x512) slices_S128x512_o0_0_S8x512 (ix2 b a)
      = k0_pay4 (F := Ideal) l m al s (ix2 a 0) := fun b => by
    refine (slice2_axis0_apply (n0 := 128) (n1 := 512) (m := 8) 0 _ slices_S128x512_o0_0_S8x512 b a ⟨b.val, by omega⟩ (Nat.zero_add _).symm).trans ?_
    rw [transpose_ix2_apply, bc_col128]
  simp only [h]
  rw [Finset.sup_const ⟨0, Finset.mem_univ _⟩]; rfl

/-! ## The running softmax over real inputs -/

theorem tile_real16 (x : FVec Ideal S4096x128 .bf16) (X : ℕ → Fin 128 → ℝ) (h : ∀ (n : Fin 4096) d, x (ix2 n d) = (X n.val d : EReal))
    (n : ℕ) (hn : n < 8) (b : Fin 512) (d : Fin 128) : tile (F := Ideal) (e := .bf16) x n (ix2 b d) = (X (512 * n + b.val) d : EReal) := by
  refine (h _ _).trans ?_
  have : (512 * n + b.val) % 4096 = 512 * n + b.val := Nat.mod_eq_of_lt (by have := b.isLt; omega)
  show (X ((512 * n + b.val) % 4096) d : EReal) = _
  rw [this]

theorem tile_real (x : FVec Ideal S4096x128 .f32) (X : ℕ → Fin 128 → ℝ) (h : ∀ (n : Fin 4096) d, x (ix2 n d) = (X n.val d : EReal))
    (n : ℕ) (hn : n < 8) (b : Fin 512) (d : Fin 128) : tile (F := Ideal) (e := .f32) x n (ix2 b d) = (X (512 * n + b.val) d : EReal) := by
  refine (h _ _).trans ?_
  have : (512 * n + b.val) % 4096 = 512 * n + b.val := Nat.mod_eq_of_lt (by have := b.isLt; omega)
  show (X ((512 * n + b.val) % 4096) d : EReal) = _
  rw [this]

section
variable (Q K V : ℕ → Fin 128 → ℝ) (i : ℕ) (hi : i < 8)
  (x0 : FVec Ideal S512x128 .bf16) (x1 : FVec Ideal S4096x128 .bf16) (x2 : FVec Ideal S4096x128 .f32)
  (h0 : ∀ a d, x0 (ix2 a d) = (Q (512 * i + a.val) d : EReal))
  (h1 : ∀ (n : Fin 4096) d, x1 (ix2 n d) = (K n.val d : EReal))
  (h2 : ∀ (n : Fin 4096) d, x2 (ix2 n d) = (V n.val d : EReal))

include h0 h1 in
theorem scores_real (n : ℕ) (hn : n < 8) (a b : Fin 512) :
    k0_pay11 (F := Ideal) x0 (tile x1 n) (ix2 a b) = (score sg Q K (512 * i + a.val) (512 * n + b.val) : EReal) := by
  rw [sc_apply, sum_eq_coe Finset.univ _ (fun d => Q (512 * i + a.val) d * K (512 * n + b.val) d), ← EReal.coe_mul]
  · rfl
  · intro d _
    rw [h0, tile_real16 x1 K h1 n hn, ← EReal.coe_mul]

include h0 h1 h2 in
/-- The loop's state of a row after `n` key tiles, all on or under the diagonal. -/
theorem fwdSt_real (n : ℕ) (hn : n ≤ i) (hi : i < 8) (a : Fin 512) :
    St ((fwdSt (F := Ideal) x0 x1 x2 n).1 (ix2 a 0)) ((fwdSt (F := Ideal) x0 x1 x2 n).2.1 (ix2 a 0))
      (fun d => (fwdSt (F := Ideal) x0 x1 x2 n).2.2 (ix2 a d))
      (∑ j ∈ Finset.range (512 * n), weight sg Q K (512 * i + a.val) j)
      (fun d => ∑ j ∈ Finset.range (512 * n), weight sg Q K (512 * i + a.val) j * V j d) := by
  induction n with
  | zero => exact Or.inl ⟨ofBits_bot, Ideal.ofBits_zero_f32, fun d => Ideal.ofBits_zero_f32, by simp, fun d => by simp⟩
  | succ n ih =>
    have ih := ih (by omega)
    have hle : ∀ b : Fin 512, 512 * n + b.val ≤ 512 * i + a.val := fun b => by have := b.isLt; omega
    obtain ⟨M, hm, hl, hacc⟩ := St_step _ _ _ _ _ ih
      (fun b : Fin 512 => k0_pay11 (F := Ideal) x0 (tile x1 n) (ix2 a b))
      (fun b => 512 * n + b.val ≤ 512 * i + a.val) (fun b => score sg Q K (512 * i + a.val) (512 * n + b.val))
      (fun b => by rw [scores_real Q K i x0 x1 h0 h1 n (by omega), if_pos (hle b)]) 0 (hle 0)
      (fun b d => tile (F := Ideal) (e := .f32) x2 n (ix2 b d)) (fun b d => V (512 * n + b.val) d) (fun b d => tile_real x2 V h2 n (by omega) b d)
    refine Or.inr ⟨M, ?_, ?_, fun d => ?_⟩
    · exact (pay12_apply _ _ _ a).trans hm
    · rw [sum_tile]
      refine Eq.trans (pay15_apply _ _ _ _ a) ?_
      simp only [pay14_apply, pay13_apply, pay12_apply]
      exact hl
    · beta_reduce
      rw [sum_tile]
      refine Eq.trans (pay16_apply _ _ _ _ _ a d) ?_
      simp only [pay14_apply, pay13_apply, pay12_apply]
      exact hacc d

include h0 h1 h2 in
/-- The last step of a row, on the diagonal tile. -/
theorem fwdEnd_real (hi : i < 8) (a : Fin 512) :
    ∃ M : ℝ, k0_pay25 (F := Ideal) x0 (fwdSt x0 x1 x2 i).1 (tile x1 i) (ix2 a 0) = (M : EReal)
      ∧ k0_pay2 (F := Ideal) (fwdSt x0 x1 x2 i).2.1 (k0_pay26 x0 (fwdSt x0 x1 x2 i).1 (tile x1 i)) (k0_pay27 x0 (fwdSt x0 x1 x2 i).1 (tile x1 i)) (ix2 a 0)
          = ((Real.exp (-M) * total sg Q K (512 * i + a.val) : ℝ) : EReal)
      ∧ ∀ d, k0_pay26 (F := Ideal) x0 (fwdSt x0 x1 x2 i).1 (tile x1 i) (ix2 a 0) * (fwdSt (F := Ideal) x0 x1 x2 i).2.2 (ix2 a d)
            + ∑ b : Fin 512, k0_pay1 (k0_pay27 (F := Ideal) x0 (fwdSt x0 x1 x2 i).1 (tile x1 i)) (ix2 a b) * tile (F := Ideal) (e := .f32) x2 i (ix2 b d)
          = ((Real.exp (-M) * ∑ j ∈ Finset.range 4096, weight sg Q K (512 * i + a.val) j * V j d : ℝ) : EReal) := by
  obtain ⟨M, hm, hl, hacc⟩ := St_step _ _ _ _ _ (fwdSt_real Q K V i x0 x1 x2 h0 h1 h2 i le_rfl hi a)
      (fun b : Fin 512 => k0_pay24 (F := Ideal) x0 (tile x1 i) (ix2 a b))
      (fun b => 512 * i + b.val ≤ 512 * i + a.val) (fun b => score sg Q K (512 * i + a.val) (512 * i + b.val))
      (fun b => by
        rw [pay24_apply, scores_real Q K i x0 x1 h0 h1 i hi]
        exact if_congr (by omega) rfl rfl) a le_rfl
      (fun b d => tile (F := Ideal) (e := .f32) x2 i (ix2 b d)) (fun b d => V (512 * i + b.val) d) (fun b d => tile_real x2 V h2 i hi b d)
  have hlt : 512 * i + a.val < 512 * (i + 1) := by have := a.isLt; omega
  refine ⟨M, (pay25_apply _ _ _ a).trans hm, ?_, fun d => ?_⟩
  · have h := sum_weights sg Q K (512 * i + a.val) (i + 1) hlt (by omega) fun _ => 1
    simp only [mul_one] at h
    rw [total, ← h, sum_tile, pay2_apply]
    simp only [pay1_apply, pay26_apply, pay25_apply]
    exact hl
  · rw [← sum_weights sg Q K (512 * i + a.val) (i + 1) hlt (by omega) fun j => V j d, sum_tile]
    simp only [pay1_apply, pay26_apply, pay25_apply]
    exact hacc d

include h0 h1 h2 in
/-- The block of outputs: the mean of the value rows under the weights. -/
theorem fwd_out_real (hi : i < 8) (a : Fin 512) (d : Fin 128) :
    k0_pay3 (F := Ideal) (fwdSt x0 x1 x2 i).2.1 (fwdSt x0 x1 x2 i).2.2 (k0_pay23 (tile x2 i))
        (k0_pay26 x0 (fwdSt x0 x1 x2 i).1 (tile x1 i)) (k0_pay27 x0 (fwdSt x0 x1 x2 i).1 (tile x1 i)) (ix2 a d)
      = (((∑ j ∈ Finset.range 4096, weight sg Q K (512 * i + a.val) j * V j d) / total sg Q K (512 * i + a.val) : ℝ) : EReal) := by
  obtain ⟨M, _, hl, hacc⟩ := fwdEnd_real Q K V i x0 x1 x2 h0 h1 h2 hi a
  rw [pay3_apply, hl, hacc d, St_out _ _ _ (total_pos sg Q K _).ne']

include h0 h1 h2 in
/-- The row of logarithms of the weights' sums. -/
theorem fwd_lse_real (hi : i < 8) (a : Fin 512) :
    k0_pay6 (F := Ideal) (fwdSt x0 x1 x2 i).2.1 (k0_pay25 x0 (fwdSt x0 x1 x2 i).1 (tile x1 i))
        (k0_pay26 x0 (fwdSt x0 x1 x2 i).1 (tile x1 i)) (k0_pay27 x0 (fwdSt x0 x1 x2 i).1 (tile x1 i)) (ix4 0 0 0 a)
      = ((Real.log (total sg Q K (512 * i + a.val)) : ℝ) : EReal) := by
  obtain ⟨M, hm, hl, _⟩ := fwdEnd_real Q K V i x0 x1 x2 h0 h1 h2 hi a
  rw [pay6_apply, hm, hl, St_lse _ _ (total_pos sg Q K _)]

end

end Cert.Kernel9Ideal.Mla

end
-- ==== Proof.MDkvReal.lean ====
module

public import proofs.«01_k».proof.Proof.MDkv
public import proofs.«01_k».proof.Proof.MFwdIdeal

@[expose] public section

set_option maxRecDepth 16384

noncomputable section

/-! The second attention's key and value gradients over real inputs: the loop's state as sums over the
    queries seen so far, and the stored blocks as sums over all of them. -/

namespace Cert.Kernel9Ideal.Mla

open Idealize.ShloMosaic Idealize.ShloMosaic.ValueIdx Cert.Kernel9Ideal.Gen Cert.Kernel9Ideal.Ops Cert.FoxMath Cert.Mla

variable [Cert.Kernel9Ideal.Facts]

/-! ## The payloads at an index -/

theorem dpay15 (x : FVec Ideal S512x128 .bf16) : k1_pay15 (F := Ideal) x = x := by
  unfold k1_pay15; simp only [shapeCast_self]

theorem dpay16 (x : FVec Ideal S512x128 .f32) (a : Fin 512) (d : Fin 128) : k1_pay16 (F := Ideal) x (ix2 a d) = x (ix2 a d) := by
  unfold k1_pay16; simp only [shapeCast_self]; rfl

theorem dpay4 (x : FVec Ideal S512x128 .bf16) (a : Fin 512) (d : Fin 128) : k1_pay4 (F := Ideal) x (ix2 a d) = x (ix2 a d) := pay7_apply x a d

theorem dpay19 (x : FVec Ideal S512x128 .bf16) (a : Fin 512) (d : Fin 128) : k1_pay19 (F := Ideal) x (ix2 a d) = x (ix2 a d) := pay7_apply x a d

theorem dpay5 (x : FVec Ideal S512x128 .f32) (a : Fin 512) (d : Fin 128) : k1_pay5 (F := Ideal) x (ix2 a d) = x (ix2 a d) := by
  unfold k1_pay5; simp only [shapeCast_self]; rfl

theorem dpay20 (x : FVec Ideal S512x128 .f32) (a : Fin 512) (d : Fin 128) : k1_pay20 (F := Ideal) x (ix2 a d) = x (ix2 a d) := dpay5 x a d

/-- A product with a transposed block of rows. -/
theorem mm_t {φ : FTy} (A B : FVec Ideal S512x128 φ) (a b : Fin 512) :
    matmul dot_S512x128_S128x512_S512x512_1_0_0_1_n_n none A (transpose S128x512 [1, 0] B transposes_S512x128_p1_0_S128x512)
        (constant S512x512 .f32 0x00000000#32) (ix2 a b)
      = ∑ d : Fin 128, A (ix2 a d) * B (ix2 b d) := by
  rw [mm_nn]
  exact Finset.sum_congr rfl fun d _ => by rw [transpose_ix2_apply]

/-- The scores of a tile, keys by queries. -/
def sT (k q : FVec Ideal S512x128 .bf16) (a b : Fin 512) : EReal := (∑ d : Fin 128, k (ix2 a d) * q (ix2 b d)) * (sg : EReal)

theorem sT_apply (k q q' : FVec Ideal S512x128 .bf16) (hq : ∀ a d, q' (ix2 a d) = q (ix2 a d)) (a b : Fin 512) :
    mulf (matmul dot_S512x128_S128x512_S512x512_1_0_0_1_n_n none k (transpose S128x512 [1, 0] q' transposes_S512x128_p1_0_S128x512)
        (constant S512x512 .f32 0x00000000#32)) (broadcast S512x512 (Scalar.ofBits .f32 0x3DD105EC#32)) (ix2 a b) = sT k q a b := by
  rw [mulf_apply, mm_t]
  simp only [hq]
  exact congrArg (_ * ·) ofBits_sg

theorem dpay21 (k q : FVec Ideal S512x128 .bf16) (a b : Fin 512) :
    k1_pay21 (F := Ideal) k q (ix2 a b) = if a.val ≤ b.val then sT k q a b else ⊥ := by
  have hm : cmpi .sle (iota .tc S512x512 32 [0] iota_S512x512_d0_w32) (addi (iota .tc S512x512 32 [1] iota_S512x512_d1_w32) (broadcast S512x512 0#32)) (ix2 a b)
      = BitVec.ofBool (decide (a.val ≤ b.val)) := by
    show IntOp.cmpi .sle (iota .tc S512x512 32 [0] iota_S512x512_d0_w32 (ix2 a b)) (iota .tc S512x512 32 [1] iota_S512x512_d1_w32 (ix2 a b) + 0#32) = _
    rw [BitVec.add_zero]
    show IntOp.cmpi .sle (BitVec.ofNat 32 (0 * 512 + a.val)) (BitVec.ofNat 32 (0 * 512 + b.val)) = _
    simp only [Nat.zero_mul, Nat.zero_add]
    exact WordCmp.cmpi_sle_ofNat (by omega) (by omega)
  unfold k1_pay21
  simp only [dpay15]
  rw [select_apply, hm]
  by_cases h : a.val ≤ b.val
  · rw [if_pos h, decide_eq_true h]; exact sT_apply k q _ (dpay19 q) a b
  · rw [if_neg h, decide_eq_false h]; exact ofBits_bot

theorem dpay1 (s : FVec Ideal S512x512 .f32) (l : FVec Ideal S1x1x1x512 .f32) (a b : Fin 512) :
    k1_pay1 (F := Ideal) s (k1_pay22 l) (ix2 a b) = Ideal.exp (s (ix2 a b) - l (ix4 0 0 0 b)) := by
  show Ideal.exp (s (ix2 a b) - broadcastTo S512x512 (shapeCast S1x512 l shapeCasts_S1x1x1x512_S1x512) broadcasts_S1x512_S512x512 (ix2 a b)) = _
  rw [bc_row, cast_row4']

theorem dpay6 (k q : FVec Ideal S512x128 .bf16) (l : FVec Ideal S1x1x1x512 .f32) (a b : Fin 512) :
    k1_pay6 (F := Ideal) k q l (ix2 a b) = Ideal.exp (sT k q a b - l (ix4 0 0 0 b)) := by
  rw [← sT_apply k q (k1_pay4 (F := Ideal) q) (dpay4 q) a b]
  unfold k1_pay6
  show Ideal.exp ((mulf (_ : FVec Ideal S512x512 .f32) _ : FVec Ideal S512x512 .f32) (ix2 a b) - broadcastTo S512x512 (shapeCast S1x512 l _) _ (ix2 a b)) = _
  rw [bc_row, cast_row4']

/-- A tile's score gradients, from its probabilities. -/
theorem ds_apply (P : FVec Ideal S512x512 .f32) (v : FVec Ideal S512x128 .f32) (do' : FVec Ideal S512x128 .bf16) (D : FVec Ideal S1x1x1x512 .f32) (a b : Fin 512) :
    mulf P (subf (matmul dot_S512x128_S128x512_S512x512_1_0_0_1_n_n none (k1_pay16 (F := Ideal) v) (transpose S128x512 [1, 0] do' transposes_S512x128_p1_0_S128x512)
        (constant S512x512 .f32 0x00000000#32)) (broadcastTo S512x512 (shapeCast S1x512 D shapeCasts_S1x1x1x512_S1x512) broadcasts_S1x512_S512x512)) (ix2 a b)
      = P (ix2 a b) * ((∑ d : Fin 128, v (ix2 a d) * do' (ix2 b d)) - D (ix4 0 0 0 b)) := by
  rw [mulf_apply, subf_apply, mm_t, bc_row, cast_row4']
  simp only [dpay16]

/-- A step's addition to the value gradient. -/
theorem pv_apply (acc : FVec Ideal S512x128 .f32) (P : FVec Ideal S512x512 .f32) (hb) (w : FVec Ideal S512x128 .bf16) (a : Fin 512) (d : Fin 128) :
    addf acc (matmul dot_S512x512_S512x128_S512x128_1_0_0_1_n_n none (truncf .bf16 P hb) w (constant S512x128 .f32 0x00000000#32)) (ix2 a d)
      = acc (ix2 a d) + ∑ b : Fin 512, P (ix2 a b) * w (ix2 b d) := by
  rw [addf_apply, mm_pv]; rfl

theorem dpay2 (acc w : FVec Ideal S512x128 .f32) (s l : FVec Ideal S512x512 .f32) (a : Fin 512) (d : Fin 128) :
    k1_pay2 (F := Ideal) acc (k1_pay20 (F := Ideal) w) s l (ix2 a d) = acc (ix2 a d) + ∑ b : Fin 512, k1_pay1 (F := Ideal) s l (ix2 a b) * w (ix2 b d) := by
  unfold k1_pay2
  rw [pv_apply]
  simp only [dpay20]

theorem dpay7 (v1 : FVec Ideal S512x128 .bf16) (acc w : FVec Ideal S512x128 .f32) (q : FVec Ideal S512x128 .bf16) (l : FVec Ideal S1x1x1x512 .f32) (a : Fin 512) (d : Fin 128) :
    k1_pay7 (F := Ideal) v1 acc q w l (ix2 a d) = acc (ix2 a d) + ∑ b : Fin 512, k1_pay6 (F := Ideal) v1 q l (ix2 a b) * w (ix2 b d) := by
  unfold k1_pay7
  rw [pv_apply]
  simp only [dpay5]

theorem dpay3 (v w acc : FVec Ideal S512x128 .f32) (q : FVec Ideal S512x128 .bf16) (s l : FVec Ideal S512x512 .f32) (D : FVec Ideal S1x1x1x512 .f32) (a : Fin 512) (d : Fin 128) :
    k1_pay3 (F := Ideal) (k1_pay16 (F := Ideal) v) acc (k1_pay19 (F := Ideal) q) (k1_pay20 (F := Ideal) w) s l D (ix2 a d)
      = acc (ix2 a d) + ∑ b : Fin 512, k1_pay1 (F := Ideal) s l (ix2 a b) * ((∑ d : Fin 128, v (ix2 a d) * w (ix2 b d)) - D (ix4 0 0 0 b)) * q (ix2 b d) := by
  unfold k1_pay3
  rw [pv_apply]
  refine congrArg (_ + ·) (Finset.sum_congr rfl fun b _ => congrArg₂ (· * ·) ((ds_apply _ v _ D a b).trans ?_) (dpay19 ..))
  simp only [dpay20]

theorem dpay8 (v1 : FVec Ideal S512x128 .bf16) (v w acc : FVec Ideal S512x128 .f32) (q : FVec Ideal S512x128 .bf16) (l D : FVec Ideal S1x1x1x512 .f32) (a : Fin 512) (d : Fin 128) :
    k1_pay8 (F := Ideal) v1 (k1_pay16 (F := Ideal) v) acc q w l D (ix2 a d)
      = acc (ix2 a d) + ∑ b : Fin 512, k1_pay6 (F := Ideal) v1 q l (ix2 a b) * ((∑ d : Fin 128, v (ix2 a d) * w (ix2 b d)) - D (ix4 0 0 0 b)) * q (ix2 b d) := by
  unfold k1_pay8
  rw [pv_apply]
  refine congrArg (_ + ·) (Finset.sum_congr rfl fun b _ => congrArg₂ (· * ·) ((ds_apply _ v _ D a b).trans ?_) (dpay4 ..))
  simp only [dpay5]

theorem dpay14 (x : FVec Ideal S512x128 .f32) (a : Fin 512) (d : Fin 128) : k1_pay14 (F := Ideal) x (ix2 a d) = x (ix2 a d) * (sg : EReal) := by
  unfold k1_pay14
  exact congrArg (x (ix2 a d) * ·) ofBits_sg

theorem exp_sub' (T : Prop) [Decidable T] (σ L : ℝ) :
    Ideal.exp ((if T then (σ : EReal) else ⊥) - (L : EReal)) = ((wt T (σ - L) : ℝ) : EReal) := by
  unfold wt
  split
  · rw [← EReal.coe_sub, Ideal.exp_coe]
  · rw [show (⊥ : EReal) - (L : EReal) = ⊥ from EReal.bot_sub _, Ideal.exp_bot, EReal.coe_zero]

theorem rowOf_real (x : FVec Ideal S1x8x1x512 .f32) (X : ℕ → ℝ) (h : ∀ (j : Fin 8) (b : Fin 512), x (ix4 0 j 0 b) = (X (512 * j.val + b.val) : EReal))
    (n : ℕ) (hn : n < 8) (b : Fin 512) : rowOf (F := Ideal) x n (ix4 0 0 0 b) = (X (512 * n + b.val) : EReal) := by
  refine (h ⟨n % 8, Nat.mod_lt _ (by decide)⟩ b).trans ?_
  show (X (512 * (n % 8) + b.val) : EReal) = _
  rw [Nat.mod_eq_of_lt hn]

section
variable (Q K V W : ℕ → Fin 128 → ℝ) (L D : ℕ → ℝ) (J : ℕ)
  (x0 : FVec Ideal S4096x128 .bf16) (x1 : FVec Ideal S512x128 .bf16) (x2 : FVec Ideal S512x128 .f32) (x3 : FVec Ideal S4096x128 .f32)
  (x4 x5 : FVec Ideal S1x8x1x512 .f32)
  (h0 : ∀ (n : Fin 4096) d, x0 (ix2 n d) = (Q n.val d : EReal))
  (h1 : ∀ a d, x1 (ix2 a d) = (K (512 * J + a.val) d : EReal))
  (h2 : ∀ a d, x2 (ix2 a d) = (V (512 * J + a.val) d : EReal))
  (h3 : ∀ (n : Fin 4096) d, x3 (ix2 n d) = (W n.val d : EReal))
  (h4 : ∀ (j : Fin 8) (b : Fin 512), x4 (ix4 0 j 0 b) = (L (512 * j.val + b.val) : EReal))
  (h5 : ∀ (j : Fin 8) (b : Fin 512), x5 (ix4 0 j 0 b) = (D (512 * j.val + b.val) : EReal))

include h0 h1 in
theorem sT_real (n : ℕ) (hn : n < 8) (a b : Fin 512) :
    sT x1 (tile (F := Ideal) (e := .bf16) x0 n) a b = (score sg Q K (512 * n + b.val) (512 * J + a.val) : EReal) := by
  unfold sT
  rw [sum_eq_coe Finset.univ _ (fun d => Q (512 * n + b.val) d * K (512 * J + a.val) d), ← EReal.coe_mul]
  · rfl
  · intro d _
    rw [h1, tile_real16 x0 Q h0 n hn, ← EReal.coe_mul, mul_comm]

include h0 h1 h4 in
theorem probDiag_real (hJ : J < 8) (a b : Fin 512) :
    k1_pay1 (F := Ideal) (k1_pay21 x1 (tile x0 J)) (k1_pay22 (rowOf x4 J)) (ix2 a b)
      = (prob sg Q K L (512 * J + b.val) (512 * J + a.val) : EReal) := by
  rw [dpay1, dpay21, sT_real Q K J x0 x1 h0 h1 J hJ, rowOf_real x4 L h4 J hJ, exp_sub']
  unfold prob wt
  exact congrArg _ (if_congr (by omega) rfl rfl)

include h0 h1 h4 in
theorem prob_real (n : ℕ) (hn : n < 8) (hJ : J < n) (a b : Fin 512) :
    k1_pay6 (F := Ideal) (k1_pay15 x1) (tile x0 n) (rowOf x4 n) (ix2 a b)
      = (prob sg Q K L (512 * n + b.val) (512 * J + a.val) : EReal) := by
  rw [dpay15, dpay6, sT_real Q K J x0 x1 h0 h1 n hn, rowOf_real x4 L h4 n hn, ← EReal.coe_sub, Ideal.exp_coe]
  unfold prob wt
  rw [if_pos (by have := a.isLt; omega)]

include h2 h3 h5 in
theorem dp_real (n : ℕ) (hn : n < 8) (a b : Fin 512) :
    (∑ d : Fin 128, x2 (ix2 a d) * tile (F := Ideal) (e := .f32) x3 n (ix2 b d)) - rowOf (F := Ideal) x5 n (ix4 0 0 0 b)
      = (((∑ d : Fin 128, V (512 * J + a.val) d * W (512 * n + b.val) d) - D (512 * n + b.val) : ℝ) : EReal) := by
  rw [rowOf_real x5 D h5 n hn, sum_eq_coe Finset.univ _ (fun d => V (512 * J + a.val) d * W (512 * n + b.val) d), ← EReal.coe_sub]
  intro d _
  rw [h2, tile_real x3 W h3 n hn, ← EReal.coe_mul]

include h0 h1 h2 h3 h4 h5 in
/-- The loop's state: sums over the queries before tile `J + 1 + n`. -/
theorem dkvSt_real (n : ℕ) (hn : J + 1 + n ≤ 8) (a : Fin 512) :
    (∀ d, (dkvSt (F := Ideal) x0 x1 x2 x3 x4 x5 J n).1 (ix2 a d)
        = ((∑ q ∈ Finset.range (512 * (J + 1 + n)), dsc sg Q K V W L D q (512 * J + a.val) * Q q d : ℝ) : EReal))
    ∧ ∀ d, (dkvSt (F := Ideal) x0 x1 x2 x3 x4 x5 J n).2 (ix2 a d)
        = ((∑ q ∈ Finset.range (512 * (J + 1 + n)), prob sg Q K L q (512 * J + a.val) * W q d : ℝ) : EReal) := by
  induction n with
  | zero =>
    have hJ : J < 8 := by omega
    have z : Ideal.ofBits .f32 0x00000000#32 = ((0 : ℝ) : EReal) := Ideal.ofBits_zero_f32
    refine ⟨fun d => ?_, fun d => ?_⟩
    · refine (dpay3 _ _ _ _ _ _ _ a d).trans (add_tile J _ _ _ ?_ fun b => ?_)
      · rw [Finset.sum_eq_zero fun q hq => by rw [dsc_zero _ _ _ _ _ _ _ _ _ (by have := Finset.mem_range.1 hq; omega), zero_mul]]; exact z
      · rw [probDiag_real Q K L J x0 x1 x4 h0 h1 h4 hJ, dp_real V W D J x2 x3 x5 h2 h3 h5 J hJ, tile_real16 x0 Q h0 J hJ, ← EReal.coe_mul, ← EReal.coe_mul]; rfl
    · refine (dpay2 _ _ _ _ a d).trans (add_tile J _ _ _ ?_ fun b => ?_)
      · rw [Finset.sum_eq_zero fun q hq => by rw [prob_zero _ _ _ _ _ _ (by have := Finset.mem_range.1 hq; omega), zero_mul]]; exact z
      · rw [probDiag_real Q K L J x0 x1 x4 h0 h1 h4 hJ, tile_real x3 W h3 J hJ, ← EReal.coe_mul]
  | succ n ih =>
    obtain ⟨i1, i2⟩ := ih (by omega)
    have hn8 : J + 1 + n < 8 := by omega
    have hJ : J < J + 1 + n := by omega
    refine ⟨fun d => ?_, fun d => ?_⟩
    · refine (dpay8 _ _ _ _ _ _ _ a d).trans (add_tile (J + 1 + n) _ _ _ (i1 d) fun b => ?_)
      rw [prob_real Q K L J x0 x1 x4 h0 h1 h4 _ hn8 hJ, dp_real V W D J x2 x3 x5 h2 h3 h5 _ hn8, tile_real16 x0 Q h0 _ hn8, ← EReal.coe_mul, ← EReal.coe_mul]; rfl
    · refine (dpay7 _ _ _ _ _ a d).trans (add_tile (J + 1 + n) _ _ _ (i2 d) fun b => ?_)
      rw [prob_real Q K L J x0 x1 x4 h0 h1 h4 _ hn8 hJ, tile_real x3 W h3 _ hn8, ← EReal.coe_mul]

include h0 h1 h2 h3 h4 h5 in
/-- The key gradient's block. -/
theorem dk_real (hJ : J < 8) (a : Fin 512) (d : Fin 128) :
    k1_pay14 (F := Ideal) (dkvSt x0 x1 x2 x3 x4 x5 J (7 - J)).1 (ix2 a d)
      = (((∑ q ∈ Finset.range 4096, dsc sg Q K V W L D q (512 * J + a.val) * Q q d) * sg : ℝ) : EReal) := by
  have e : J + 1 + (7 - J) = 8 := by omega
  rw [dpay14, (dkvSt_real Q K V W L D J x0 x1 x2 x3 x4 x5 h0 h1 h2 h3 h4 h5 (7 - J) (by omega) a).1 d, e, ← EReal.coe_mul]

include h0 h1 h2 h3 h4 h5 in
/-- The value gradient's block. -/
theorem dv_real (hJ : J < 8) (a : Fin 512) (d : Fin 128) :
    (dkvSt (F := Ideal) x0 x1 x2 x3 x4 x5 J (7 - J)).2 (ix2 a d)
      = ((∑ q ∈ Finset.range 4096, prob sg Q K L q (512 * J + a.val) * W q d : ℝ) : EReal) := by
  have e : J + 1 + (7 - J) = 8 := by omega
  rw [(dkvSt_real Q K V W L D J x0 x1 x2 x3 x4 x5 h0 h1 h2 h3 h4 h5 (7 - J) (by omega) a).2 d, e]

end

end Cert.Kernel9Ideal.Mla

end
-- ==== Proof.MArr.lean ====
module

public import proofs.«01_k».proof.Proof.MDkvReal
public import Idealize.ShloMosaic.Lib.Pipeline.Value

@[expose] public section

set_option maxRecDepth 16384

noncomputable section

/-! The second attention's result arrays, entry by entry, from the entries of the arrays its two calls read. -/

namespace Cert.Kernel9Ideal.Mla

open Idealize.ShloMosaic Idealize.ShloMosaic.ValueIdx Idealize.ShloMosaic.TcCoe Cert.Kernel9Ideal Cert.Kernel9Ideal.Gen
open Cert.Kernel9Ideal.Ops Cert.FoxMath Cert.Mla
open Idealize.ShloMosaic.Pipeline (Dat)

/-- The grid point of head `h` and block `i`. -/
def pt0 (h : Fin 4) (i : Fin 8) : Fin cfg0.N := ⟨8 * h.val + i.val, by have := h.isLt; have := i.isLt; show _ < 32; omega⟩

theorem coords0 : ∀ (h : Fin 4) (i : Fin 8), ((grid0.coords (pt0 h i)) 1).val = i.val := by decide +kernel

theorem ix0_0 : ∀ (h : Fin 4) (i : Fin 8), win0_0.index (pt0 h i) 0 = i.val ∧ win0_0.index (pt0 h i) 1 = h.val := by decide +kernel
theorem ix0_1 : ∀ (h : Fin 4) (i : Fin 8), win0_1.index (pt0 h i) 0 = 0 ∧ win0_1.index (pt0 h i) 1 = h.val := by decide +kernel
theorem ix0_2 : ∀ (h : Fin 4) (i : Fin 8), win0_2.index (pt0 h i) 0 = 0 ∧ win0_2.index (pt0 h i) 1 = 4 + h.val := by decide +kernel
theorem ix0_3 : ∀ (h : Fin 4) (i : Fin 8), win0_3.index (pt0 h i) 0 = i.val ∧ win0_3.index (pt0 h i) 1 = h.val := by decide +kernel
theorem ix0_5 : ∀ (h : Fin 4) (i : Fin 8), win0_5.index (pt0 h i) 0 = h.val ∧ win0_5.index (pt0 h i) 1 = i.val ∧ win0_5.index (pt0 h i) 2 = 0 ∧ win0_5.index (pt0 h i) 3 = 0 := by decide +kernel
theorem fl0_3 : ∀ t : Fin cfg0.N, (cfg0.win 3).flush t = true := by decide +kernel
theorem inj0_3 : ∀ t t' : Fin cfg0.N, win0_3.index t = win0_3.index t' → t = t' :=
  (by decide +kernel : ∀ t t' : Fin grid0.N, win0_3.index t = win0_3.index t' → t = t')
theorem dj0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (inj0_3 t t' h)
theorem fl0_5 : ∀ t : Fin cfg0.N, (cfg0.win 5).flush t = true := by decide +kernel
theorem inj0_5 : ∀ t t' : Fin cfg0.N, win0_5.index t = win0_5.index t' → t = t' :=
  (by decide +kernel : ∀ t t' : Fin grid0.N, win0_5.index t = win0_5.index t' → t = t')
theorem dj0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (inj0_5 t t' h)

/-- The grid point of head `h` and block `i`. -/
def pt1 (h : Fin 4) (i : Fin 8) : Fin cfg1.N := ⟨8 * h.val + i.val, by have := h.isLt; have := i.isLt; show _ < 32; omega⟩

theorem coords1 : ∀ (h : Fin 4) (i : Fin 8), ((grid1.coords (pt1 h i)) 1).val = i.val := by decide +kernel

theorem ix1_0 : ∀ (h : Fin 4) (i : Fin 8), win1_0.index (pt1 h i) 0 = 0 ∧ win1_0.index (pt1 h i) 1 = h.val := by decide +kernel
theorem ix1_1 : ∀ (h : Fin 4) (i : Fin 8), win1_1.index (pt1 h i) 0 = i.val ∧ win1_1.index (pt1 h i) 1 = h.val := by decide +kernel
theorem ix1_2 : ∀ (h : Fin 4) (i : Fin 8), win1_2.index (pt1 h i) 0 = i.val ∧ win1_2.index (pt1 h i) 1 = 4 + h.val := by decide +kernel
theorem ix1_3 : ∀ (h : Fin 4) (i : Fin 8), win1_3.index (pt1 h i) 0 = 0 ∧ win1_3.index (pt1 h i) 1 = h.val := by decide +kernel
theorem ix1_4 : ∀ (h : Fin 4) (i : Fin 8), win1_4.index (pt1 h i) 0 = h.val ∧ win1_4.index (pt1 h i) 1 = 0 ∧ win1_4.index (pt1 h i) 2 = 0 ∧ win1_4.index (pt1 h i) 3 = 0 := by decide +kernel
theorem ix1_5 : ∀ (h : Fin 4) (i : Fin 8), win1_5.index (pt1 h i) 0 = h.val ∧ win1_5.index (pt1 h i) 1 = 0 ∧ win1_5.index (pt1 h i) 2 = 0 ∧ win1_5.index (pt1 h i) 3 = 0 := by decide +kernel
theorem ix1_6 : ∀ (h : Fin 4) (i : Fin 8), win1_6.index (pt1 h i) 0 = i.val ∧ win1_6.index (pt1 h i) 1 = h.val := by decide +kernel
theorem ix1_7 : ∀ (h : Fin 4) (i : Fin 8), win1_7.index (pt1 h i) 0 = i.val ∧ win1_7.index (pt1 h i) 1 = h.val := by decide +kernel
theorem fl1_6 : ∀ t : Fin cfg1.N, (cfg1.win 6).flush t = true := by decide +kernel
theorem inj1_6 : ∀ t t' : Fin cfg1.N, win1_6.index t = win1_6.index t' → t = t' :=
  (by decide +kernel : ∀ t t' : Fin grid1.N, win1_6.index t = win1_6.index t' → t = t')
theorem dj1_6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (inj1_6 t t' h)
theorem fl1_7 : ∀ t : Fin cfg1.N, (cfg1.win 7).flush t = true := by decide +kernel
theorem inj1_7 : ∀ t t' : Fin cfg1.N, win1_7.index t = win1_7.index t' → t = t' :=
  (by decide +kernel : ∀ t t' : Fin grid1.N, win1_7.index t = win1_7.index t' → t = t')
theorem dj1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (inj1_7 t t' h)

section
variable {F : FTy → Type} [FloatOps F] (V : (c : Dev nD) → (b : Ref sig .tc) → Buf (Elt F) ((c : Thread nD τ).loc b)) (c : Dev nD)

/-- The queries as the calls find them. -/
abbrev qAt : FVec F S4096x512 .bf16 := V c main_v2
/-- The keys. -/
abbrev kAt : FVec F S4096x512 .bf16 := V c main_v5
/-- The keys' first features and the values, side by side. -/
abbrev vAt : FVec F S4096x1024 .f32 := V c main_v11
/-- The output's cotangent. -/
abbrev wAt : FVec F S4096x512 .f32 := V c main_v13
/-- The row logarithms. -/
abbrev lAt : FVec F S4x8x1x512 .f32 := V c main_v14_2
/-- The row sums of the output with its cotangent. -/
abbrev dAt : FVec F S4x8x1x512 .f32 := V c main_v19

theorem iblk0_0_apply (h : Fin 4) (i : Fin 8) (a : Fin 512) (d : Fin 128) (n : Fin 4096) (e : Fin 512) (hn : n.val = 512 * i.val + a.val) (he : e.val = 128 * h.val + d.val) :
    (iblk0 V c 0 (pt0 h i) : FVec F S512x128 .bf16) (ix2 a d) = qAt V c (ix2 n e) := by
  unfold iblk0
  rw [View.read_apply]
  show V c main_v2 _ = V c main_v2 _
  congr 1
  funext x
  apply Fin.ext
  match x with
  | ⟨0, _⟩ => show win0_0.index (pt0 h i) 0 * 512 + 1 * a.val = n.val; rw [(ix0_0 h i).1]; omega
  | ⟨1, _⟩ => show win0_0.index (pt0 h i) 1 * 128 + 1 * d.val = e.val; rw [(ix0_0 h i).2]; omega

theorem iblk0_1_apply (h : Fin 4) (i : Fin 8) (a : Fin 4096) (d : Fin 128) (e : Fin 512) (he : e.val = 128 * h.val + d.val) :
    (iblk0 V c 1 (pt0 h i) : FVec F S4096x128 .bf16) (ix2 a d) = kAt V c (ix2 a e) := by
  unfold iblk0
  rw [View.read_apply]
  show V c main_v5 _ = V c main_v5 _
  congr 1
  funext x
  apply Fin.ext
  match x with
  | ⟨0, _⟩ => show win0_1.index (pt0 h i) 0 * 4096 + 1 * a.val = a.val; rw [(ix0_1 h i).1]; omega
  | ⟨1, _⟩ => show win0_1.index (pt0 h i) 1 * 128 + 1 * d.val = e.val; rw [(ix0_1 h i).2]; omega

theorem iblk0_2_apply (h : Fin 4) (i : Fin 8) (a : Fin 4096) (d : Fin 128) (e : Fin 1024) (he : e.val = 512 + 128 * h.val + d.val) :
    (iblk0 V c 2 (pt0 h i) : FVec F S4096x128 .f32) (ix2 a d) = vAt V c (ix2 a e) := by
  unfold iblk0
  rw [View.read_apply]
  show V c main_v11 _ = V c main_v11 _
  congr 1
  funext x
  apply Fin.ext
  match x with
  | ⟨0, _⟩ => show win0_2.index (pt0 h i) 0 * 4096 + 1 * a.val = a.val; rw [(ix0_2 h i).1]; omega
  | ⟨1, _⟩ => show win0_2.index (pt0 h i) 1 * 128 + 1 * d.val = e.val; rw [(ix0_2 h i).2]; omega

theorem o_apply (h : Fin 4) (i : Fin 8) (a : Fin 512) (d : Fin 128) (n : Fin 4096) (e : Fin 512) (hn : n.val = 512 * i.val + a.val)
    (he : e.val = 128 * h.val + d.val) :
    ((dat0 V c).arrAt 3 cfg0.N : FVec F S4096x512 .f32) (ix2 n e) = (outsAt0 V c (pt0 h i)).1 (ix2 a d) := by
  have hb := (dat0 V c).read_blk_arrAt_eq_flushed 3 dj0_3 cfg0.N (pt0 h i) (pt0 h i).isLt (fl0_3 _)
  have hb' := congrFun hb (ix2 a d : S512x128.Idx)
  rw [View.read_apply] at hb'
  refine Eq.trans ?_ (hb'.trans ?_)
  · show ((dat0 V c).arrAt 3 cfg0.N : FVec F S4096x512 .f32) _ = ((dat0 V c).arrAt 3 cfg0.N : FVec F S4096x512 .f32) _
    congr 1
    funext x
    apply Fin.ext
    match x with
    | ⟨0, _⟩ => show n.val = win0_3.index (pt0 h i) 0 * 512 + 1 * a.val; rw [(ix0_3 h i).1]; omega
    | ⟨1, _⟩ => show e.val = win0_3.index (pt0 h i) 1 * 128 + 1 * d.val; rw [(ix0_3 h i).2]; omega
  · show (cfg0.win 3).cut (grid0.coords (pt0 h i)) ((dat0 V c).after 3 (pt0 h i)) (ix2 a d : S512x128.Idx) = _
    rw [after0_3]; rfl

theorem lse_apply (h : Fin 4) (i : Fin 8) (a : Fin 512) :
    ((dat0 V c).arrAt 5 cfg0.N : FVec F S4x8x1x512 .f32) (ix4 h i 0 a) = (outsAt0 V c (pt0 h i)).2.2 (ix4 0 0 0 a) := by
  have hb := (dat0 V c).read_blk_arrAt_eq_flushed 5 dj0_5 cfg0.N (pt0 h i) (pt0 h i).isLt (fl0_5 _)
  have hb' := congrFun hb (ix4 0 0 0 a : S1x1x1x512.Idx)
  rw [View.read_apply] at hb'
  refine Eq.trans ?_ (hb'.trans ?_)
  · show ((dat0 V c).arrAt 5 cfg0.N : FVec F S4x8x1x512 .f32) _ = ((dat0 V c).arrAt 5 cfg0.N : FVec F S4x8x1x512 .f32) _
    congr 1
    funext x
    apply Fin.ext
    match x with
    | ⟨0, _⟩ => show h.val = win0_5.index (pt0 h i) 0 * 1 + 1 * 0; rw [(ix0_5 h i).1]; omega
    | ⟨1, _⟩ => show i.val = win0_5.index (pt0 h i) 1 * 1 + 1 * 0; rw [(ix0_5 h i).2.1]; omega
    | ⟨2, _⟩ => show 0 = win0_5.index (pt0 h i) 2 * 1 + 1 * 0; rw [(ix0_5 h i).2.2.1]
    | ⟨3, _⟩ => show a.val = win0_5.index (pt0 h i) 3 * 512 + 1 * a.val; rw [(ix0_5 h i).2.2.2]; omega
  · show (cfg0.win 5).cut (grid0.coords (pt0 h i)) ((dat0 V c).after 5 (pt0 h i)) (ix4 0 0 0 a : S1x1x1x512.Idx) = _
    rw [after0_5]; rfl

theorem iblk1_0_apply (h : Fin 4) (i : Fin 8) (a : Fin 4096) (d : Fin 128) (e : Fin 512) (he : e.val = 128 * h.val + d.val) :
    (iblk1 V c 0 (pt1 h i) : FVec F S4096x128 .bf16) (ix2 a d) = qAt V c (ix2 a e) := by
  unfold iblk1
  rw [View.read_apply]
  show V c main_v2 _ = V c main_v2 _
  congr 1
  funext x
  apply Fin.ext
  match x with
  | ⟨0, _⟩ => show win1_0.index (pt1 h i) 0 * 4096 + 1 * a.val = a.val; rw [(ix1_0 h i).1]; omega
  | ⟨1, _⟩ => show win1_0.index (pt1 h i) 1 * 128 + 1 * d.val = e.val; rw [(ix1_0 h i).2]; omega

theorem iblk1_1_apply (h : Fin 4) (i : Fin 8) (a : Fin 512) (d : Fin 128) (n : Fin 4096) (e : Fin 512) (hn : n.val = 512 * i.val + a.val) (he : e.val = 128 * h.val + d.val) :
    (iblk1 V c 1 (pt1 h i) : FVec F S512x128 .bf16) (ix2 a d) = kAt V c (ix2 n e) := by
  unfold iblk1
  rw [View.read_apply]
  show V c main_v5 _ = V c main_v5 _
  congr 1
  funext x
  apply Fin.ext
  match x with
  | ⟨0, _⟩ => show win1_1.index (pt1 h i) 0 * 512 + 1 * a.val = n.val; rw [(ix1_1 h i).1]; omega
  | ⟨1, _⟩ => show win1_1.index (pt1 h i) 1 * 128 + 1 * d.val = e.val; rw [(ix1_1 h i).2]; omega

theorem iblk1_2_apply (h : Fin 4) (i : Fin 8) (a : Fin 512) (d : Fin 128) (n : Fin 4096) (e : Fin 1024) (hn : n.val = 512 * i.val + a.val) (he : e.val = 512 + 128 * h.val + d.val) :
    (iblk1 V c 2 (pt1 h i) : FVec F S512x128 .f32) (ix2 a d) = vAt V c (ix2 n e) := by
  unfold iblk1
  rw [View.read_apply]
  show V c main_v11 _ = V c main_v11 _
  congr 1
  funext x
  apply Fin.ext
  match x with
  | ⟨0, _⟩ => show win1_2.index (pt1 h i) 0 * 512 + 1 * a.val = n.val; rw [(ix1_2 h i).1]; omega
  | ⟨1, _⟩ => show win1_2.index (pt1 h i) 1 * 128 + 1 * d.val = e.val; rw [(ix1_2 h i).2]; omega

theorem iblk1_3_apply (h : Fin 4) (i : Fin 8) (a : Fin 4096) (d : Fin 128) (e : Fin 512) (he : e.val = 128 * h.val + d.val) :
    (iblk1 V c 3 (pt1 h i) : FVec F S4096x128 .f32) (ix2 a d) = wAt V c (ix2 a e) := by
  unfold iblk1
  rw [View.read_apply]
  show V c main_v13 _ = V c main_v13 _
  congr 1
  funext x
  apply Fin.ext
  match x with
  | ⟨0, _⟩ => show win1_3.index (pt1 h i) 0 * 4096 + 1 * a.val = a.val; rw [(ix1_3 h i).1]; omega
  | ⟨1, _⟩ => show win1_3.index (pt1 h i) 1 * 128 + 1 * d.val = e.val; rw [(ix1_3 h i).2]; omega

theorem iblk1_4_apply (h : Fin 4) (i : Fin 8) (j : Fin 8) (b : Fin 512) :
    (iblk1 V c 4 (pt1 h i) : FVec F S1x8x1x512 .f32) (ix4 0 j 0 b) = lAt V c (ix4 h j 0 b) := by
  unfold iblk1
  rw [View.read_apply]
  show V c main_v14_2 _ = V c main_v14_2 _
  congr 1
  funext x
  apply Fin.ext
  match x with
  | ⟨0, _⟩ => show win1_4.index (pt1 h i) 0 * 1 + 1 * 0 = h.val; rw [(ix1_4 h i).1]; omega
  | ⟨1, _⟩ => show win1_4.index (pt1 h i) 1 * 8 + 1 * j.val = j.val; rw [(ix1_4 h i).2.1]; omega
  | ⟨2, _⟩ => show win1_4.index (pt1 h i) 2 * 1 + 1 * 0 = 0; rw [(ix1_4 h i).2.2.1]
  | ⟨3, _⟩ => show win1_4.index (pt1 h i) 3 * 512 + 1 * b.val = b.val; rw [(ix1_4 h i).2.2.2]; omega

theorem iblk1_5_apply (h : Fin 4) (i : Fin 8) (j : Fin 8) (b : Fin 512) :
    (iblk1 V c 5 (pt1 h i) : FVec F S1x8x1x512 .f32) (ix4 0 j 0 b) = dAt V c (ix4 h j 0 b) := by
  unfold iblk1
  rw [View.read_apply]
  show V c main_v19 _ = V c main_v19 _
  congr 1
  funext x
  apply Fin.ext
  match x with
  | ⟨0, _⟩ => show win1_5.index (pt1 h i) 0 * 1 + 1 * 0 = h.val; rw [(ix1_5 h i).1]; omega
  | ⟨1, _⟩ => show win1_5.index (pt1 h i) 1 * 8 + 1 * j.val = j.val; rw [(ix1_5 h i).2.1]; omega
  | ⟨2, _⟩ => show win1_5.index (pt1 h i) 2 * 1 + 1 * 0 = 0; rw [(ix1_5 h i).2.2.1]
  | ⟨3, _⟩ => show win1_5.index (pt1 h i) 3 * 512 + 1 * b.val = b.val; rw [(ix1_5 h i).2.2.2]; omega

theorem dk_apply (h : Fin 4) (i : Fin 8) (a : Fin 512) (d : Fin 128) (n : Fin 4096) (e : Fin 512) (hn : n.val = 512 * i.val + a.val)
    (he : e.val = 128 * h.val + d.val) :
    ((dat1 V c).arrAt 6 cfg1.N : FVec F S4096x512 .f32) (ix2 n e) = (outsAt1 V c (pt1 h i)).1 (ix2 a d) := by
  have hb := (dat1 V c).read_blk_arrAt_eq_flushed 6 dj1_6 cfg1.N (pt1 h i) (pt1 h i).isLt (fl1_6 _)
  have hb' := congrFun hb (ix2 a d : S512x128.Idx)
  rw [View.read_apply] at hb'
  refine Eq.trans ?_ (hb'.trans ?_)
  · show ((dat1 V c).arrAt 6 cfg1.N : FVec F S4096x512 .f32) _ = ((dat1 V c).arrAt 6 cfg1.N : FVec F S4096x512 .f32) _
    congr 1
    funext x
    apply Fin.ext
    match x with
    | ⟨0, _⟩ => show n.val = win1_6.index (pt1 h i) 0 * 512 + 1 * a.val; rw [(ix1_6 h i).1]; omega
    | ⟨1, _⟩ => show e.val = win1_6.index (pt1 h i) 1 * 128 + 1 * d.val; rw [(ix1_6 h i).2]; omega
  · show (cfg1.win 6).cut (grid1.coords (pt1 h i)) ((dat1 V c).after 6 (pt1 h i)) (ix2 a d : S512x128.Idx) = _
    rw [after1_6]; rfl

theorem dv_apply (h : Fin 4) (i : Fin 8) (a : Fin 512) (d : Fin 128) (n : Fin 4096) (e : Fin 512) (hn : n.val = 512 * i.val + a.val)
    (he : e.val = 128 * h.val + d.val) :
    ((dat1 V c).arrAt 7 cfg1.N : FVec F S4096x512 .f32) (ix2 n e) = (outsAt1 V c (pt1 h i)).2 (ix2 a d) := by
  have hb := (dat1 V c).read_blk_arrAt_eq_flushed 7 dj1_7 cfg1.N (pt1 h i) (pt1 h i).isLt (fl1_7 _)
  have hb' := congrFun hb (ix2 a d : S512x128.Idx)
  rw [View.read_apply] at hb'
  refine Eq.trans ?_ (hb'.trans ?_)
  · show ((dat1 V c).arrAt 7 cfg1.N : FVec F S4096x512 .f32) _ = ((dat1 V c).arrAt 7 cfg1.N : FVec F S4096x512 .f32) _
    congr 1
    funext x
    apply Fin.ext
    match x with
    | ⟨0, _⟩ => show n.val = win1_7.index (pt1 h i) 0 * 512 + 1 * a.val; rw [(ix1_7 h i).1]; omega
    | ⟨1, _⟩ => show e.val = win1_7.index (pt1 h i) 1 * 128 + 1 * d.val; rw [(ix1_7 h i).2]; omega
  · show (cfg1.win 7).cut (grid1.coords (pt1 h i)) ((dat1 V c).after 7 (pt1 h i)) (ix2 a d : S512x128.Idx) = _
    rw [after1_7]; rfl

end

section
variable (V : (c : Dev nD) → (b : Ref sig .tc) → Buf (Elt Ideal) ((c : Thread nD τ).loc b)) (c : Dev nD)
  (Q K W : Fin 4 → ℕ → Fin 128 → ℝ)
  (hq : ∀ (h : Fin 4) (n : Fin 4096) (d : Fin 128) (e : Fin 512), e.val = 128 * h.val + d.val → qAt V c (ix2 n e) = (Q h n.val d : EReal))
  (hk : ∀ (h : Fin 4) (n : Fin 4096) (d : Fin 128) (e : Fin 512), e.val = 128 * h.val + d.val → kAt V c (ix2 n e) = (K h n.val d : EReal))
  (hv : ∀ (h : Fin 4) (n : Fin 4096) (d : Fin 128) (e : Fin 1024), e.val = 512 + 128 * h.val + d.val → vAt V c (ix2 n e) = (W h n.val d : EReal))
include hq hk hv

/-- The forward call's output. -/
theorem o_real (h : Fin 4) (n : Fin 4096) (d : Fin 128) (e : Fin 512) (he : e.val = 128 * h.val + d.val) :
    ((dat0 V c).arrAt 3 cfg0.N : FVec Ideal S4096x512 .f32) (ix2 n e)
      = (((∑ j ∈ Finset.range 4096, weight sg (Q h) (K h) n.val j * W h j d) / total sg (Q h) (K h) n.val : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [o_apply V c h i a d n e hia he, hia]
  dsimp only [outsAt0]
  rw [out0_3_eq, coords0]
  exact fwd_out_real (Q h) (K h) (W h) i.val _ _ _
    (fun a d => iblk0_0_apply V c h i a d ⟨512 * i.val + a.val, by have := a.isLt; have := i.isLt; omega⟩ ⟨128 * h.val + d.val, by have := h.isLt; have := d.isLt; omega⟩ rfl rfl |>.trans (hq h _ d _ rfl))
    (fun a d => iblk0_1_apply V c h i a d ⟨128 * h.val + d.val, by have := h.isLt; have := d.isLt; omega⟩ rfl |>.trans (hk h _ d _ rfl))
    (fun a d => iblk0_2_apply V c h i a d ⟨512 + 128 * h.val + d.val, by have := h.isLt; have := d.isLt; omega⟩ rfl |>.trans (hv h _ d _ rfl)) i.isLt a d

/-- The forward call's row logarithms. -/
theorem lse_real (h : Fin 4) (i : Fin 8) (a : Fin 512) :
    ((dat0 V c).arrAt 5 cfg0.N : FVec Ideal S4x8x1x512 .f32) (ix4 h i 0 a)
      = ((Real.log (total sg (Q h) (K h) (512 * i.val + a.val)) : ℝ) : EReal) := by
  rw [lse_apply V c h i a]
  dsimp only [outsAt0]
  rw [out0_5_eq, coords0]
  exact fwd_lse_real (Q h) (K h) (W h) i.val _ _ _
    (fun a d => iblk0_0_apply V c h i a d ⟨512 * i.val + a.val, by have := a.isLt; have := i.isLt; omega⟩ ⟨128 * h.val + d.val, by have := h.isLt; have := d.isLt; omega⟩ rfl rfl |>.trans (hq h _ d _ rfl))
    (fun a d => iblk0_1_apply V c h i a d ⟨128 * h.val + d.val, by have := h.isLt; have := d.isLt; omega⟩ rfl |>.trans (hk h _ d _ rfl))
    (fun a d => iblk0_2_apply V c h i a d ⟨512 + 128 * h.val + d.val, by have := h.isLt; have := d.isLt; omega⟩ rfl |>.trans (hv h _ d _ rfl)) i.isLt a

end

section
variable (V : (c : Dev nD) → (b : Ref sig .tc) → Buf (Elt Ideal) ((c : Thread nD τ).loc b)) (c : Dev nD)
  (Q K W Y : Fin 4 → ℕ → Fin 128 → ℝ) (L D : Fin 4 → ℕ → ℝ)
  (hq : ∀ (h : Fin 4) (n : Fin 4096) (d : Fin 128) (e : Fin 512), e.val = 128 * h.val + d.val → qAt V c (ix2 n e) = (Q h n.val d : EReal))
  (hk : ∀ (h : Fin 4) (n : Fin 4096) (d : Fin 128) (e : Fin 512), e.val = 128 * h.val + d.val → kAt V c (ix2 n e) = (K h n.val d : EReal))
  (hv : ∀ (h : Fin 4) (n : Fin 4096) (d : Fin 128) (e : Fin 1024), e.val = 512 + 128 * h.val + d.val → vAt V c (ix2 n e) = (W h n.val d : EReal))
  (hy : ∀ (h : Fin 4) (n : Fin 4096) (d : Fin 128) (e : Fin 512), e.val = 128 * h.val + d.val → wAt V c (ix2 n e) = (Y h n.val d : EReal))
  (hl : ∀ (h : Fin 4) (j : Fin 8) (b : Fin 512), lAt V c (ix4 h j 0 b) = (L h (512 * j.val + b.val) : EReal))
  (hd : ∀ (h : Fin 4) (j : Fin 8) (b : Fin 512), dAt V c (ix4 h j 0 b) = (D h (512 * j.val + b.val) : EReal))
include hq hk hv hy hl hd

/-- The key gradient. -/
theorem dk_arr_real (h : Fin 4) (n : Fin 4096) (d : Fin 128) (e : Fin 512) (he : e.val = 128 * h.val + d.val) :
    ((dat1 V c).arrAt 6 cfg1.N : FVec Ideal S4096x512 .f32) (ix2 n e)
      = (((∑ q ∈ Finset.range 4096, dsc sg (Q h) (K h) (W h) (Y h) (L h) (D h) q n.val * Q h q d) * sg : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [dk_apply V c h i a d n e hia he, hia]
  dsimp only [outsAt1]
  rw [out1_6_eq, coords1]
  exact dk_real (Q h) (K h) (W h) (Y h) (L h) (D h) i.val _ _ _ _ _ _
    (fun a d => iblk1_0_apply V c h i a d ⟨128 * h.val + d.val, by have := h.isLt; have := d.isLt; omega⟩ rfl |>.trans (hq h _ d _ rfl))
    (fun a d => iblk1_1_apply V c h i a d ⟨512 * i.val + a.val, by have := a.isLt; have := i.isLt; omega⟩ ⟨128 * h.val + d.val, by have := h.isLt; have := d.isLt; omega⟩ rfl rfl |>.trans (hk h _ d _ rfl))
    (fun a d => iblk1_2_apply V c h i a d ⟨512 * i.val + a.val, by have := a.isLt; have := i.isLt; omega⟩ ⟨512 + 128 * h.val + d.val, by have := h.isLt; have := d.isLt; omega⟩ rfl rfl |>.trans (hv h _ d _ rfl))
    (fun a d => iblk1_3_apply V c h i a d ⟨128 * h.val + d.val, by have := h.isLt; have := d.isLt; omega⟩ rfl |>.trans (hy h _ d _ rfl))
    (fun j b => iblk1_4_apply V c h i j b |>.trans (hl h j b))
    (fun j b => iblk1_5_apply V c h i j b |>.trans (hd h j b)) i.isLt a d

/-- The value gradient. -/
theorem dv_arr_real (h : Fin 4) (n : Fin 4096) (d : Fin 128) (e : Fin 512) (he : e.val = 128 * h.val + d.val) :
    ((dat1 V c).arrAt 7 cfg1.N : FVec Ideal S4096x512 .f32) (ix2 n e)
      = ((∑ q ∈ Finset.range 4096, prob sg (Q h) (K h) (L h) q n.val * Y h q d : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  rw [dv_apply V c h i a d n e hia he, hia]
  dsimp only [outsAt1]
  rw [out1_7_eq, coords1]
  exact dv_real (Q h) (K h) (W h) (Y h) (L h) (D h) i.val _ _ _ _ _ _
    (fun a d => iblk1_0_apply V c h i a d ⟨128 * h.val + d.val, by have := h.isLt; have := d.isLt; omega⟩ rfl |>.trans (hq h _ d _ rfl))
    (fun a d => iblk1_1_apply V c h i a d ⟨512 * i.val + a.val, by have := a.isLt; have := i.isLt; omega⟩ ⟨128 * h.val + d.val, by have := h.isLt; have := d.isLt; omega⟩ rfl rfl |>.trans (hk h _ d _ rfl))
    (fun a d => iblk1_2_apply V c h i a d ⟨512 * i.val + a.val, by have := a.isLt; have := i.isLt; omega⟩ ⟨512 + 128 * h.val + d.val, by have := h.isLt; have := d.isLt; omega⟩ rfl rfl |>.trans (hv h _ d _ rfl))
    (fun a d => iblk1_3_apply V c h i a d ⟨128 * h.val + d.val, by have := h.isLt; have := d.isLt; omega⟩ rfl |>.trans (hy h _ d _ rfl))
    (fun j b => iblk1_4_apply V c h i j b |>.trans (hl h j b))
    (fun j b => iblk1_5_apply V c h i j b |>.trans (hd h j b)) i.isLt a d

end

end Cert.Kernel9Ideal.Mla

end
-- ==== Proof.MReal.lean ====
module

public import proofs.«01_k».proof.Proof.MScore

@[expose] public section

set_option maxRecDepth 16384

noncomputable section

/-! The second attention's real numbers: rows extended by zero lanes, the output, the row logarithms, the row sums and the
    gradients of the scores, and the scores' gradients in the softmax's form. -/

namespace Cert.Mla

open Idealize.ShloMosaic Cert.FoxMath

/-- A head's rows with zero lanes after them. -/
def ext {m : ℕ} (N : ℕ) (q : Fin 4 → ℕ → Fin m → ℝ) (h : Fin 4) (n : ℕ) (d : Fin N) : ℝ := if hd : d.val < m then q h n ⟨d.val, hd⟩ else 0

/-- A lane among a head's own. -/
theorem ext_lo {m N : ℕ} (a : Fin 4 → ℕ → Fin m → ℝ) (h : Fin 4) (n : ℕ) (d : Fin N) (hd : d.val < m) : ext N a h n d = a h n ⟨d.val, hd⟩ := by
  unfold ext; rw [dif_pos hd]

/-- A lane past a head's own. -/
theorem ext_hi {m N : ℕ} (a : Fin 4 → ℕ → Fin m → ℝ) (h : Fin 4) (n : ℕ) (d : Fin N) (hd : ¬ d.val < m) : ext N a h n d = 0 := by
  unfold ext; rw [dif_neg hd]

/-- A sum over the lanes of two rows whose last lanes are zero. -/
theorem sum_ext {m k : ℕ} (a b : Fin 4 → ℕ → Fin m → ℝ) (h : Fin 4) (n j : ℕ) :
    ∑ d : Fin (m + k), ext (m + k) a h n d * ext (m + k) b h j d = ∑ d : Fin m, a h n d * b h j d := by
  rw [Fin.sum_univ_add]
  have h2 : ∑ d : Fin k, ext (m + k) a h n (Fin.natAdd m d) * ext (m + k) b h j (Fin.natAdd m d) = 0 :=
    Finset.sum_eq_zero fun d _ => by rw [ext_hi _ _ _ _ (by show ¬ (m + d.val < m); omega), zero_mul]
  rw [h2, add_zero]
  refine Finset.sum_congr rfl fun d _ => ?_
  rw [ext_lo _ _ _ _ (show (Fin.castAdd k d).val < m from d.isLt), ext_lo _ _ _ _ (show (Fin.castAdd k d).val < m from d.isLt)]
  rfl

variable (g : ℝ) (q k : Fin 4 → ℕ → Fin 96 → ℝ) (v w : Fin 4 → ℕ → Fin 64 → ℝ)

/-- The output for head `h`, query `n`, lane `d`. -/
def outR (h : Fin 4) (n : ℕ) (d : Fin 128) : ℝ :=
  (∑ j ∈ Finset.range 4096, weight g (ext 128 q h) (ext 128 k h) n j * ext 128 v h j d) / total g (ext 128 q h) (ext 128 k h) n
/-- The row's logarithm. -/
def lseR (h : Fin 4) (n : ℕ) : ℝ := Real.log (total g (ext 128 q h) (ext 128 k h) n)
/-- The row's sum of the output with its cotangent. -/
def delR (h : Fin 4) (n : ℕ) : ℝ := ∑ d : Fin 128, ext 128 w h n d * outR g q k v h n d
/-- A probability. -/
def prR (h : Fin 4) (n j : ℕ) : ℝ := prob g (ext 128 q h) (ext 128 k h) (lseR g q k h) n j
/-- A score's gradient. -/
def dsR (h : Fin 4) (n j : ℕ) : ℝ := dsc g (ext 128 q h) (ext 128 k h) (ext 128 v h) (ext 128 w h) (lseR g q k h) (delR g q k v w h) n j
/-- A probability's cotangent. -/
def dpR (h : Fin 4) (n j : ℕ) : ℝ := ∑ d : Fin 64, w h n d * v h j d

/-- The score over a head's own lanes. -/
theorem score_eq (h : Fin 4) (n j : ℕ) : score g (ext 128 q h) (ext 128 k h) n j = (∑ d : Fin 96, q h n d * k h j d) * g :=
  congrArg (· * g) (sum_ext (m := 96) (k := 32) q k h n j)

/-- The probability is the weight over the row's total. -/
theorem prR_eq (h : Fin 4) (n j : ℕ) : prR g q k h n j = weight g (ext 128 q h) (ext 128 k h) n j / total g (ext 128 q h) (ext 128 k h) n :=
  prob_eq g _ _ n j

/-- The output's row sum with its cotangent is the probabilities' sum with theirs. -/
theorem delR_eq (h : Fin 4) (n : ℕ) : delR g q k v w h n = ∑ j ∈ Finset.range 4096, prR g q k h n j * dpR v w h n j := by
  have e : ∀ j, dpR v w h n j = ∑ d : Fin 128, ext 128 w h n d * ext 128 v h j d := fun j => (sum_ext (m := 64) (k := 64) w v h n j).symm
  simp only [e]
  unfold delR outR
  simp only [Finset.sum_div, Finset.mul_sum, prR_eq]
  rw [Finset.sum_comm]
  exact Finset.sum_congr rfl fun j _ => Finset.sum_congr rfl fun d _ => by ring

/-- A score's gradient is the probability times its cotangent less the row's mean of cotangents. -/
theorem dsR_eq (h : Fin 4) (n j : ℕ) : dsR g q k v w h n j
    = prR g q k h n j * (dpR v w h n j - ∑ i ∈ Finset.range 4096, prR g q k h n i * dpR v w h n i) := by
  unfold dsR dsc
  rw [delR_eq, show (∑ d : Fin 128, ext 128 v h j d * ext 128 w h n d) = ∑ d : Fin 64, v h j d * w h n d from sum_ext (m := 64) (k := 64) v w h j n]
  exact congrArg (fun r => prR g q k h n j * (r - _)) (Finset.sum_congr rfl fun d _ => mul_comm _ _)

end Cert.Mla

end
-- ==== Proof.MHost.lean ====
module

public import proofs.«01_k».proof.Proof.MArr
public import proofs.«01_k».proof.Proof.MReal
public import Idealize.ShloMosaic.Lib.KernelVsHost
public import Idealize.ShloMosaic.Lib.IdealHost

@[expose] public section

set_option maxRecDepth 16384

noncomputable section

/-! What the host's operations hand the second attention's two calls, over real arguments, entry by entry. -/

namespace Cert.Kernel9Ideal.Mla

open Idealize.ShloMosaic Idealize.ShloMosaic.ValueIdx Idealize.ShloMosaic.TcCoe Cert.Kernel9Ideal Cert.Kernel9Ideal.Gen
open Cert.Kernel9Ideal.Ops Cert.FoxMath Cert.Mla

section
variable {F : FTy → Type} [FloatOps F]

/-- An argument of 96 lanes per head padded to 128. -/
abbrev padded96 (x : FVec F S4096x4x96 .f32) : FVec F S4096x4x128 .f32 :=
  pad S4096x4x128 ![0, 0, 0] ![0, 0, 32] ![0, 0, 0] x (sitofp .f32 (constantI S_ 32 0#32) : FVec F S_ .f32) pads_S4096x4x96_S4096x4x128_000_000_0320 h_S_
/-- An argument of 64 lanes per head padded to 128. -/
abbrev padded64 (x : FVec F S4096x4x64 .f32) : FVec F S4096x4x128 .f32 :=
  pad S4096x4x128 ![0, 0, 0] ![0, 0, 64] ![0, 0, 0] x (sitofp .f32 (constantI S_ 32 0#32) : FVec F S_ .f32) pads_S4096x4x64_S4096x4x128_000_000_0640 h_S_
/-- The heads side by side. -/
abbrev flat (x : FVec F S4096x4x128 .f32) : FVec F S4096x512 .f32 := shapeCast S4096x512 x shapeCasts_S4096x4x128_S4096x512

section
variable (V : Valuation τ sig (Elt F))
theorem op1 : (StableHlo.after hostOps0_1 V main_v0 : FVec F S4096x4x128 .f32)
    = pad S4096x4x128 ![0, 0, 0] ![0, 0, 32] ![0, 0, 0] (V main_arg0 : FVec F S4096x4x96 .f32) (sitofp .f32 (V main_c : IVec S_ 32) : FVec F S_ .f32)
      pads_S4096x4x96_S4096x4x128_000_000_0320 h_S_ := rfl
theorem op3 : (StableHlo.after hostOps0_3 V main_v3 : FVec F S4096x4x128 .f32)
    = pad S4096x4x128 ![0, 0, 0] ![0, 0, 32] ![0, 0, 0] (V main_arg1 : FVec F S4096x4x96 .f32) (sitofp .f32 (V main_c_0 : IVec S_ 32) : FVec F S_ .f32)
      pads_S4096x4x96_S4096x4x128_000_000_0320 h_S_ := rfl
theorem op7 : (StableHlo.after hostOps0_7 V main_v9 : FVec F S4096x4x128 .f32)
    = pad S4096x4x128 ![0, 0, 0] ![0, 0, 64] ![0, 0, 0] (V main_arg2 : FVec F S4096x4x64 .f32) (sitofp .f32 (V main_c_2 : IVec S_ 32) : FVec F S_ .f32)
      pads_S4096x4x64_S4096x4x128_000_000_0640 h_S_ := rfl
theorem op9 : (StableHlo.after hostOps0_9 V main_v12 : FVec F S4096x4x128 .f32)
    = pad S4096x4x128 ![0, 0, 0] ![0, 0, 64] ![0, 0, 0] (V main_arg3 : FVec F S4096x4x64 .f32) (sitofp .f32 (V main_c_3 : IVec S_ 32) : FVec F S_ .f32)
      pads_S4096x4x64_S4096x4x128_000_000_0640 h_S_ := rfl
theorem op2 : (StableHlo.after hostOps0_2 V main_v2 : FVec F S4096x512 .bf16) = truncf .bf16 (flat (V main_v0 : FVec F S4096x4x128 .f32)) bitsLt_bf16_f32 := rfl
theorem op4 : (StableHlo.after hostOps0_4 V main_v5 : FVec F S4096x512 .bf16) = truncf .bf16 (flat (V main_v3 : FVec F S4096x4x128 .f32)) bitsLt_bf16_f32 := rfl
theorem op8 : (StableHlo.after hostOps0_8 V main_v11 : FVec F S4096x1024 .f32)
    = concatenate S4096x1024 1 [⟨S4096x512, (V main_v8 : FVec F S4096x512 .f32)⟩, ⟨S4096x512, flat (V main_v9 : FVec F S4096x4x128 .f32)⟩]
        concatenates_S4096x512_S4096x512_S4096x1024_d1 := rfl
theorem op10 : (StableHlo.after hostOps0_10 V main_v13 : FVec F S4096x512 .f32) = flat (V main_v12 : FVec F S4096x4x128 .f32) := rfl
theorem op11 : (StableHlo.after hostOps1 V main_v19 : FVec F S4x8x1x512 .f32)
    = shapeCast S4x8x1x512 (transpose S4x4096 [1, 0] (Host.reduceAdd (shapeCast S4096x4x128 (mulf (V main_v13 : FVec F S4096x512 .f32) (V main_v14_0 : FVec F S4096x512 .f32)) shapeCasts_S4096x512_S4096x4x128)
        (constant S_ .f32 0x00000000#32 : FVec F S_ .f32) reducesTo_S4096x4x128_S4096x4_d2 h_S_) transposes_S4096x4_S4x4096_1_0) shapeCasts_S4x4096_S4x8x1x512 := rfl
end

end

theorem flat96_real (x : FVec Ideal S4096x4x96 .f32) (q : Fin 4 → ℕ → Fin 96 → ℝ)
    (hx : ∀ (n : Fin 4096) (h : Fin 4) (d : Fin 96), x (ix3 n h d) = (q h n.val d : EReal)) (n : Fin 4096) (h : Fin 4) (d : Fin 128) (e : Fin 512)
    (he : e.val = 128 * h.val + d.val) : flat (padded96 x) (ix2 n e) = (ext 128 q h n.val d : EReal) := by
  refine (shapeCast_apply _ _ (ix2 n e) (ix3 n h d) ?_).trans ?_
  · rw [Shape.rowMajor_val_two, Shape.rowMajor_val_three]
    show (n.val * 4 + h.val) * 128 + d.val = n.val * 512 + e.val
    omega
  unfold padded96 ext
  by_cases hd : d.val < 96
  · rw [dif_pos hd]
    refine (pad_apply_of_inside _ _ _ x _ _ _ _ (ix3 n h ⟨d.val, hd⟩) fun a => ?_).trans (hx n h _)
    match a with
    | ⟨0, _⟩ => show n.val = 0 + n.val * (0 + 1); omega
    | ⟨1, _⟩ => show h.val = 0 + h.val * (0 + 1); omega
    | ⟨2, _⟩ => show d.val = 0 + d.val * (0 + 1); omega
  · rw [dif_neg hd]
    refine (pad_apply_of_not_inside _ _ _ x _ _ _ _ (2 : Fin 3) ?_).trans ?_
    · rintro ⟨-, -, h3⟩
      refine hd ?_
      have : (d.val - 0) / (0 + 1) < 96 := h3
      omega
    · show (((0#32 : BitVec 32).toInt : ℝ) : EReal) = _
      simp

theorem flat64_real (x : FVec Ideal S4096x4x64 .f32) (q : Fin 4 → ℕ → Fin 64 → ℝ)
    (hx : ∀ (n : Fin 4096) (h : Fin 4) (d : Fin 64), x (ix3 n h d) = (q h n.val d : EReal)) (n : Fin 4096) (h : Fin 4) (d : Fin 128) (e : Fin 512)
    (he : e.val = 128 * h.val + d.val) : flat (padded64 x) (ix2 n e) = (ext 128 q h n.val d : EReal) := by
  refine (shapeCast_apply _ _ (ix2 n e) (ix3 n h d) ?_).trans ?_
  · rw [Shape.rowMajor_val_two, Shape.rowMajor_val_three]
    show (n.val * 4 + h.val) * 128 + d.val = n.val * 512 + e.val
    omega
  unfold padded64 ext
  by_cases hd : d.val < 64
  · rw [dif_pos hd]
    refine (pad_apply_of_inside _ _ _ x _ _ _ _ (ix3 n h ⟨d.val, hd⟩) fun a => ?_).trans (hx n h _)
    match a with
    | ⟨0, _⟩ => show n.val = 0 + n.val * (0 + 1); omega
    | ⟨1, _⟩ => show h.val = 0 + h.val * (0 + 1); omega
    | ⟨2, _⟩ => show d.val = 0 + d.val * (0 + 1); omega
  · rw [dif_neg hd]
    refine (pad_apply_of_not_inside _ _ _ x _ _ _ _ (2 : Fin 3) ?_).trans ?_
    · rintro ⟨-, -, h3⟩
      refine hd ?_
      have : (d.val - 0) / (0 + 1) < 64 := h3
      omega
    · show (((0#32 : BitVec 32).toInt : ℝ) : EReal) = _
      simp

theorem rows_real (x : FVec Ideal S4x4096 .f32) (C : Fin 4 → ℕ → ℝ) (hx : ∀ (h : Fin 4) (n : Fin 4096), x (ix2 h n) = (C h n.val : EReal))
    (h : Fin 4) (j : Fin 8) (b : Fin 512) : shapeCast S4x8x1x512 x shapeCasts_S4x4096_S4x8x1x512 (ix4 h j 0 b) = (C h (512 * j.val + b.val) : EReal) := by
  refine (shapeCast_apply _ _ (ix4 h j 0 b) (ix2 h ⟨512 * j.val + b.val, by have := j.isLt; have := b.isLt; omega⟩) ?_).trans (hx h _)
  rw [Shape.rowMajor_val_two, Shape.rowMajor_val_four]
  show h.val * 4096 + (512 * j.val + b.val) = ((h.val * 8 + j.val) * 1 + 0) * 512 + b.val
  omega

/-- The second of two arrays side by side. -/
theorem concat_real (x y : FVec Ideal S4096x512 .f32) (n : Fin 4096) (e : Fin 512) (e' : Fin 1024) (h : e'.val = 512 + e.val) :
    concatenate S4096x1024 1 [⟨S4096x512, x⟩, ⟨S4096x512, y⟩] concatenates_S4096x512_S4096x512_S4096x1024_d1 (ix2 n e') = y (ix2 n e) := by
  have off : ∀ b : Fin S4096x512.rank, b.cast (rfl : S4096x512.rank = S4096x1024.rank) ≠ (1 : Fin 2) →
      ((ix2 n e : S4096x512.Idx) b).val = ((ix2 n e' : S4096x1024.Idx) (b.cast rfl)).val := fun b hb =>
    match b, hb with
    | ⟨0, _⟩, _ => rfl
    | ⟨1, _⟩, hb => absurd rfl hb
  exact concatenate_apply_piece (t := S4096x1024) 1 _ _ (ix2 n e') 1 (by show 1 < 2; decide) S4096x512 y rfl rfl 512 rfl (ix2 n e) off (by show 512 + e.val = e'.val; omega)

/-- The sums along the lanes of the product of two arrays, head by head. -/
theorem rowsum_real (x y : FVec Ideal S4096x512 .f32) (X Y : Fin 4 → ℕ → Fin 128 → ℝ)
    (hx : ∀ (h : Fin 4) (n : Fin 4096) (d : Fin 128) (e : Fin 512), e.val = 128 * h.val + d.val → x (ix2 n e) = (X h n.val d : EReal))
    (hy : ∀ (h : Fin 4) (n : Fin 4096) (d : Fin 128) (e : Fin 512), e.val = 128 * h.val + d.val → y (ix2 n e) = (Y h n.val d : EReal))
    (n : Fin 4096) (h : Fin 4) :
    Host.reduceAdd (shapeCast S4096x4x128 (mulf x y) shapeCasts_S4096x512_S4096x4x128) (constant S_ .f32 0x00000000#32 : FVec Ideal S_ .f32)
      reducesTo_S4096x4x128_S4096x4_d2 h_S_ (ix2 n h) = ((∑ d : Fin 128, X h n.val d * Y h n.val d : ℝ) : EReal) := by
  simp only [Host.reduceAdd, Ideal.hostReduceAdd_def]
  rw [Ideal.hostReduceAdd_single reducesTo_S4096x4x128_S4096x4_d2 (by decide)]
  rw [show (constant S_ .f32 0x00000000#32 : FVec Ideal S_ .f32) (Shape.Idx.first h_S_) = 0 from Ideal.ofBits_zero_f32, zero_add]
  refine sum_eq_coe Finset.univ _ _ fun d _ => ?_
  have hd : d.val < 128 := d.isLt
  refine (shapeCast_apply _ _ _ (ix2 n ⟨128 * h.val + d.val, by have := h.isLt; omega⟩) ?_).trans ?_
  · rw [Shape.rowMajor_val_two, Shape.rowMajor_val_three]
    show n.val * 512 + (128 * h.val + d.val) = (n.val * 4 + h.val) * 128 + d.val
    omega
  · rw [mulf_apply, hx h n d _ rfl, hy h n d _ rfl, ← EReal.coe_mul]

end Cert.Kernel9Ideal.Mla

end
-- ==== Proof.MRun.lean ====
module

public import proofs.«01_k».proof.Proof.Gen.Kernel9Ideal.Frame

@[expose] public section

noncomputable section

/-! The run with its results named: what the last boundary's contents hold. -/

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- The run: the three results hold the last boundary's contents and the arguments are unchanged. -/
theorem run : θ_run defs (onTc (τ := τ) (main (F := F))) ⟨m, fun _ => 0, ρ⟩ (fun r => ∀ c : Dev nD,
      (r.2.mem ((c.tc : Thread nD τ).loc main_v14_0) = W14 m ρ c main_v14_0
      ∧ r.2.mem ((c.tc : Thread nD τ).loc main_v20_0) = W14 m ρ c main_v20_0
      ∧ r.2.mem ((c.tc : Thread nD τ).loc main_v20_1) = W14 m ρ c main_v20_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => fun c =>
      ⟨⟨h c _ (mem_uc main_v14_0 (by decide)), h c _ (mem_uc main_v20_0 (by decide)), h c _ (mem_uc main_v20_1 (by decide))⟩,
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.Kernel9Ideal.Gen

end
-- ==== Proof.MVal.lean ====
module

public import proofs.«01_k».proof.Proof.MHost
public import proofs.«01_k».proof.Proof.MRun

@[expose] public section

set_option maxRecDepth 16384

noncomputable section

/-! The second attention's three results over real arguments, entry by entry. -/

namespace Cert.Kernel9Ideal.Mla

open Idealize.ShloMosaic Idealize.ShloMosaic.ValueIdx Idealize.ShloMosaic.TcCoe Cert.Kernel9Ideal Cert.Kernel9Ideal.Gen
open Cert.Kernel9Ideal.Ops Cert.FoxMath Cert.Mla

section
variable {F : FTy → Type} [FloatOps F] (m : (ℓ : Loc nD τ sig) → Buf (Elt F) ℓ) (ρ : Dev nD → PrngReg) (c : Dev nD)

abbrev a0 : FVec F S4096x4x96 .f32 := m ((c : Thread nD τ).loc main_arg0)
abbrev a1 : FVec F S4096x4x96 .f32 := m ((c : Thread nD τ).loc main_arg1)
abbrev a2 : FVec F S4096x4x64 .f32 := m ((c : Thread nD τ).loc main_arg2)
abbrev a3 : FVec F S4096x4x64 .f32 := m ((c : Thread nD τ).loc main_arg3)

theorem W2_v0 : (W2 m ρ c main_v0 : FVec F S4096x4x128 .f32) = padded96 (a0 m c) := by
  refine (op1 (W1 m ρ c)).trans ?_
  rw [W1_args m ρ c main_arg0 (by decide)]; rfl
theorem W4_v3 : (W4 m ρ c main_v3 : FVec F S4096x4x128 .f32) = padded96 (a1 m c) := by
  refine (op3 (W3 m ρ c)).trans ?_
  rw [W3_args m ρ c main_arg1 (by decide)]; rfl
theorem W8_v9 : (W8 m ρ c main_v9 : FVec F S4096x4x128 .f32) = padded64 (a2 m c) := by
  refine (op7 (W7 m ρ c)).trans ?_
  rw [W7_args m ρ c main_arg2 (by decide)]; rfl
theorem W10_v12 : (W10 m ρ c main_v12 : FVec F S4096x4x128 .f32) = padded64 (a3 m c) := by
  refine (op9 (W9 m ρ c)).trans ?_
  rw [W9_args m ρ c main_arg3 (by decide)]; rfl

theorem W11_v2 : (W11 m ρ c main_v2 : FVec F S4096x512 .bf16) = truncf .bf16 (flat (padded96 (a0 m c))) bitsLt_bf16_f32 := by
  rw [W11_of m ρ c main_v2 (by decide), W10_of m ρ c main_v2 (by decide), W9_of m ρ c main_v2 (by decide), W8_of m ρ c main_v2 (by decide), W7_of m ρ c main_v2 (by decide), W6_of m ρ c main_v2 (by decide), W5_of m ρ c main_v2 (by decide), W4_of m ρ c main_v2 (by decide)]
  exact (op2 (W2 m ρ c)).trans (by rw [W2_v0])
theorem W11_v5 : (W11 m ρ c main_v5 : FVec F S4096x512 .bf16) = truncf .bf16 (flat (padded96 (a1 m c))) bitsLt_bf16_f32 := by
  rw [W11_of m ρ c main_v5 (by decide), W10_of m ρ c main_v5 (by decide), W9_of m ρ c main_v5 (by decide), W8_of m ρ c main_v5 (by decide), W7_of m ρ c main_v5 (by decide), W6_of m ρ c main_v5 (by decide)]
  exact (op4 (W4 m ρ c)).trans (by rw [W4_v3])
theorem W11_v11 : (W11 m ρ c main_v11 : FVec F S4096x1024 .f32)
    = concatenate S4096x1024 1 [⟨S4096x512, (W8 m ρ c main_v8 : FVec F S4096x512 .f32)⟩, ⟨S4096x512, flat (padded64 (a2 m c))⟩]
        concatenates_S4096x512_S4096x512_S4096x1024_d1 := by
  rw [W11_of m ρ c main_v11 (by decide), W10_of m ρ c main_v11 (by decide)]
  exact (op8 (W8 m ρ c)).trans (by rw [W8_v9])
theorem W11_v13 : (W11 m ρ c main_v13 : FVec F S4096x512 .f32) = flat (padded64 (a3 m c)) :=
  (op10 (W10 m ρ c)).trans (by rw [W10_v12])

theorem W13_v2 : W13 m ρ c main_v2 = W11 m ρ c main_v2 := by
  rw [W13_of m ρ c main_v2 (by decide), W12_of m ρ c main_v2 (by decide +kernel)]
theorem W13_v5 : W13 m ρ c main_v5 = W11 m ρ c main_v5 := by
  rw [W13_of m ρ c main_v5 (by decide), W12_of m ρ c main_v5 (by decide +kernel)]
theorem W13_v11 : W13 m ρ c main_v11 = W11 m ρ c main_v11 := by
  rw [W13_of m ρ c main_v11 (by decide), W12_of m ρ c main_v11 (by decide +kernel)]
theorem W13_v13 : W13 m ρ c main_v13 = W11 m ρ c main_v13 := by
  rw [W13_of m ρ c main_v13 (by decide), W12_of m ρ c main_v13 (by decide +kernel)]
theorem W12_v13 : W12 m ρ c main_v13 = W11 m ρ c main_v13 := W12_of m ρ c main_v13 (by decide +kernel)
theorem W12_v14_0 : W12 m ρ c main_v14_0 = (dat0 (V11 m ρ) c).arrAt 3 cfg0.N := W12_arr m ρ c 3
theorem W13_v14_2 : W13 m ρ c main_v14_2 = (dat0 (V11 m ρ) c).arrAt 5 cfg0.N := by
  rw [W13_of m ρ c main_v14_2 (by decide)]; exact W12_arr m ρ c 5
theorem W14_v14_0 : W14 m ρ c main_v14_0 = (dat0 (V11 m ρ) c).arrAt 3 cfg0.N := by
  rw [W14_of m ρ c main_v14_0 (by decide +kernel), W13_of m ρ c main_v14_0 (by decide)]; exact W12_arr m ρ c 3
theorem W14_v20_0 : W14 m ρ c main_v20_0 = (dat1 (V13 m ρ) c).arrAt 6 cfg1.N := W14_arr m ρ c 6
theorem W14_v20_1 : W14 m ρ c main_v20_1 = (dat1 (V13 m ρ) c).arrAt 7 cfg1.N := W14_arr m ρ c 7

end

section
variable (m : (ℓ : Loc nD τ sig) → Buf (Elt Ideal) ℓ) (ρ : Dev nD → PrngReg) (c : Dev nD)
  (q k : Fin 4 → ℕ → Fin 96 → ℝ) (v w : Fin 4 → ℕ → Fin 64 → ℝ)
  (hq : ∀ (n : Fin 4096) (h : Fin 4) (d : Fin 96), a0 m c (ix3 n h d) = (q h n.val d : EReal))
  (hk : ∀ (n : Fin 4096) (h : Fin 4) (d : Fin 96), a1 m c (ix3 n h d) = (k h n.val d : EReal))
  (hv : ∀ (n : Fin 4096) (h : Fin 4) (d : Fin 64), a2 m c (ix3 n h d) = (v h n.val d : EReal))
  (hw : ∀ (n : Fin 4096) (h : Fin 4) (d : Fin 64), a3 m c (ix3 n h d) = (w h n.val d : EReal))

include hq in
theorem q_arr (h : Fin 4) (n : Fin 4096) (d : Fin 128) (e : Fin 512) (he : e.val = 128 * h.val + d.val) :
    (W11 m ρ c main_v2 : FVec Ideal S4096x512 .bf16) (ix2 n e) = (ext 128 q h n.val d : EReal) := by
  rw [W11_v2]; exact flat96_real _ q hq n h d e he

include hk in
theorem k_arr (h : Fin 4) (n : Fin 4096) (d : Fin 128) (e : Fin 512) (he : e.val = 128 * h.val + d.val) :
    (W11 m ρ c main_v5 : FVec Ideal S4096x512 .bf16) (ix2 n e) = (ext 128 k h n.val d : EReal) := by
  rw [W11_v5]; exact flat96_real _ k hk n h d e he

include hv in
theorem v_arr (h : Fin 4) (n : Fin 4096) (d : Fin 128) (e : Fin 1024) (he : e.val = 512 + 128 * h.val + d.val) :
    (W11 m ρ c main_v11 : FVec Ideal S4096x1024 .f32) (ix2 n e) = (ext 128 v h n.val d : EReal) := by
  rw [W11_v11]
  exact (concat_real _ _ n ⟨128 * h.val + d.val, by have := h.isLt; have := d.isLt; omega⟩ e (by rw [he]; show _ = 512 + (128 * h.val + d.val); omega)).trans
    (flat64_real _ v hv n h d _ rfl)

include hq hk hv in
theorem o_arr (h : Fin 4) (n : Fin 4096) (d : Fin 128) (e : Fin 512) (he : e.val = 128 * h.val + d.val) :
    ((dat0 (V11 m ρ) c).arrAt 3 cfg0.N : FVec Ideal S4096x512 .f32) (ix2 n e) = (outR sg q k v h n.val d : EReal) :=
  o_real (V11 m ρ) c (ext 128 q) (ext 128 k) (ext 128 v) (q_arr m ρ c q hq) (k_arr m ρ c k hk) (v_arr m ρ c v hv) h n d e he

include hq hk hv in
theorem lse_arr (h : Fin 4) (i : Fin 8) (a : Fin 512) :
    ((dat0 (V11 m ρ) c).arrAt 5 cfg0.N : FVec Ideal S4x8x1x512 .f32) (ix4 h i 0 a) = (lseR sg q k h (512 * i.val + a.val) : EReal) :=
  lse_real (V11 m ρ) c (ext 128 q) (ext 128 k) (ext 128 v) (q_arr m ρ c q hq) (k_arr m ρ c k hk) (v_arr m ρ c v hv) h i a

include hq hk hv hw in
theorem del_arr (h : Fin 4) (j : Fin 8) (b : Fin 512) :
    (W13 m ρ c main_v19 : FVec Ideal S4x8x1x512 .f32) (ix4 h j 0 b) = (delR sg q k v w h (512 * j.val + b.val) : EReal) := by
  refine (congrFun (op11 (W12 m ρ c)) _).trans (rows_real _ (delR sg q k v w) (fun h n => (transpose_ix2_apply ..).trans ?_) h j b)
  refine rowsum_real _ _ (ext 128 w) (outR sg q k v) (fun h n d e he => ?_) (fun h n d e he => ?_) n h
  · rw [W12_v13, W11_v13]; exact flat64_real _ w hw n h d e he
  · rw [W12_v14_0]; exact o_arr m ρ c q k v hq hk hv h n d e he

include hq hk hv in
/-- The first result: the attention's output. -/
theorem res_o (h : Fin 4) (n : Fin 4096) (d : Fin 128) (e : Fin 512) (he : e.val = 128 * h.val + d.val) :
    (W14 m ρ c main_v14_0 : FVec Ideal S4096x512 .f32) (ix2 n e) = (outR sg q k v h n.val d : EReal) := by
  rw [W14_v14_0]; exact o_arr m ρ c q k v hq hk hv h n d e he

include hq hk hv hw in
/-- The second result: the keys' gradient. -/
theorem res_dk (h : Fin 4) (n : Fin 4096) (d : Fin 128) (e : Fin 512) (he : e.val = 128 * h.val + d.val) :
    (W14 m ρ c main_v20_0 : FVec Ideal S4096x512 .f32) (ix2 n e)
      = (((∑ i ∈ Finset.range 4096, dsR sg q k v w h i n.val * ext 128 q h i d) * sg : ℝ) : EReal) := by
  rw [W14_v20_0]
  exact dk_arr_real (V13 m ρ) c (ext 128 q) (ext 128 k) (ext 128 v) (ext 128 w) (lseR sg q k) (delR sg q k v w)
    (fun h n d e he => (congrFun (W13_v2 m ρ c) _).trans (q_arr m ρ c q hq h n d e he)) (fun h n d e he => (congrFun (W13_v5 m ρ c) _).trans (k_arr m ρ c k hk h n d e he))
    (fun h n d e he => (congrFun (W13_v11 m ρ c) _).trans (v_arr m ρ c v hv h n d e he))
    (fun h n d e he => (congrFun ((W13_v13 m ρ c).trans (W11_v13 m ρ c)) _).trans (flat64_real _ w hw n h d e he))
    (fun h j b => (congrFun (W13_v14_2 m ρ c) _).trans (lse_arr m ρ c q k v hq hk hv h j b))
    (fun h j b => del_arr m ρ c q k v w hq hk hv hw h j b) h n d e he

include hq hk hv hw in
/-- The third result: the values' gradient. -/
theorem res_dv (h : Fin 4) (n : Fin 4096) (d : Fin 128) (e : Fin 512) (he : e.val = 128 * h.val + d.val) :
    (W14 m ρ c main_v20_1 : FVec Ideal S4096x512 .f32) (ix2 n e)
      = ((∑ i ∈ Finset.range 4096, prR sg q k h i n.val * ext 128 w h i d : ℝ) : EReal) := by
  rw [W14_v20_1]
  exact dv_arr_real (V13 m ρ) c (ext 128 q) (ext 128 k) (ext 128 v) (ext 128 w) (lseR sg q k) (delR sg q k v w)
    (fun h n d e he => (congrFun (W13_v2 m ρ c) _).trans (q_arr m ρ c q hq h n d e he)) (fun h n d e he => (congrFun (W13_v5 m ρ c) _).trans (k_arr m ρ c k hk h n d e he))
    (fun h n d e he => (congrFun (W13_v11 m ρ c) _).trans (v_arr m ρ c v hv h n d e he))
    (fun h n d e he => (congrFun ((W13_v13 m ρ c).trans (W11_v13 m ρ c)) _).trans (flat64_real _ w hw n h d e he))
    (fun h j b => (congrFun (W13_v14_2 m ρ c) _).trans (lse_arr m ρ c q k v hq hk hv h j b))
    (fun h j b => del_arr m ρ c q k v w hq hk hv hw h j b) h n d e he

end

end Cert.Kernel9Ideal.Mla

end
-- ==== Proof.MRef.lean ====
module

public import proofs.«01_k».proof.Proof.MVal
public import proofs.«01_k».proof.Proof.Gen.Reference9Ideal.Read
public import proofs.«01_k».proof.Proof.Ref

@[expose] public section

set_option maxRecDepth 16384

noncomputable section

/-! The second attention's reference over real arguments: its softmax and its probabilities, entry by entry. -/

namespace Cert.Reference9Ideal.Mla

open Idealize.ShloMosaic Idealize.ShloMosaic.ValueIdx Cert.Reference9Ideal Cert.Reference9Ideal.Gen Cert.Reference9Ideal.Read
open Cert.FoxMath Cert.Mla
open Cert.Kernel9Ideal.Ops (sg ofBits_sg ofBits_bot)
open Cert.ReferenceIdeal.Fox (one_f32)

/-- An index of two axes by its entries. -/
theorem eq2 {a b : ℕ} (i : Shape.Idx ⟨2, ![a, b]⟩) (x : Fin a) (y : Fin b) (e0 : i 0 = x) (e1 : i 1 = y) : i = ix2 x y := funext fun j => by
  match j with
  | ⟨0, _⟩ => exact e0
  | ⟨1, _⟩ => exact e1

/-- An index of three axes by its entries. -/
theorem eq3 {a b c : ℕ} (i : Shape.Idx ⟨3, ![a, b, c]⟩) (x : Fin a) (y : Fin b) (z : Fin c) (e0 : i 0 = x) (e1 : i 1 = y) (e2 : i 2 = z) :
    i = ix3 x y z := funext fun j => by
  match j with
  | ⟨0, _⟩ => exact e0
  | ⟨1, _⟩ => exact e1
  | ⟨2, _⟩ => exact e2

section
variable (x0 x1 : FVec Ideal S4096x4x96 .f32) (x2 x3 : FVec Ideal S4096x4x64 .f32)
  (q k : Fin 4 → ℕ → Fin 96 → ℝ) (v w : Fin 4 → ℕ → Fin 64 → ℝ)
  (h0 : ∀ (n : Fin 4096) (h : Fin 4) (d : Fin 96), x0 (ix3 n h d) = (q h n.val d : EReal))
  (h1 : ∀ (n : Fin 4096) (h : Fin 4) (d : Fin 96), x1 (ix3 n h d) = (k h n.val d : EReal))
  (h2 : ∀ (n : Fin 4096) (h : Fin 4) (d : Fin 64), x2 (ix3 n h d) = (v h n.val d : EReal))
  (h3 : ∀ (n : Fin 4096) (h : Fin 4) (d : Fin 64), x3 (ix3 n h d) = (w h n.val d : EReal))

include h0 h1 in
theorem v2_real (h : Fin 4) (n j : Fin 4096) :
    val_main_v2 (F := Ideal) x0 x1 (ix3 h n j) = (score sg (ext 128 q h) (ext 128 k h) n.val j.val : EReal) := by
  rw [val_main_v2_apply, val_main_v0_apply, val_main_v1_apply, val_main_cst_apply,
    sum_eq_coe Finset.univ _ (fun d => q h n.val d * k h j.val d) fun d _ => by
      rw [eq3 (lidx_main_v0 (ix3 h n j) d) n h d rfl rfl rfl, eq3 (ridx_main_v0 (ix3 h n j) d) j h d rfl rfl rfl, h0, h1, ← EReal.coe_mul], score_eq]
  show _ * Ideal.ofBits .f32 0x3DD105EC#32 = _
  rw [ofBits_sg, ← EReal.coe_mul]

/-- The causal mask. -/
theorem mask (h : Fin 4) (n j : Fin 4096) (α : Type) (x y : α) :
    Scalar.select (val_main_v9_1 (F := Ideal) (ix3 h n j)) x y = if j.val ≤ n.val then x else y := by
  have e : val_main_v9_1 (F := Ideal) (ix3 h n j) = IntOp.cmpi .sle (BitVec.ofNat 32 j.val) (BitVec.ofNat 32 n.val) := by
    rw [val_main_v9_1_apply, val_main_v8_apply, val_main_v6_apply, val_main_v7_apply, val_main_v4_apply, val_main_v5_apply,
      val_main_v3_apply, val_main_v3_apply]
  have hj := j.isLt
  have hn := n.isLt
  rw [e, Scalar.select]
  refine if_congr ?_ rfl rfl
  exact WordCmp.cmpi_sle_ofNat_eq_one_iff (by norm_num; omega) (by norm_num; omega)

include h0 h1 in
/-- The masked scores. -/
theorem v9_real (h : Fin 4) (n j : Fin 4096) : val_main_v9_0 (F := Ideal) x0 x1 (ix3 h n j)
    = if j.val ≤ n.val then (score sg (ext 128 q h) (ext 128 k h) n.val j.val : EReal) else ⊥ := by
  rw [val_main_v9_0_apply, mask, v2_real x0 x1 q k h0 h1, val_main_call0_v2_apply, val_main_call0_v0_apply, val_main_cst_0_apply]
  show (if _ then _ else Ideal.ofBits .f32 0xFF800000#32) = _
  rw [ofBits_bot]

include h0 h1 in
/-- A row's largest score is real. -/
theorem v10_real (h : Fin 4) (n : Fin 4096) : ∃ M : ℝ, val_main_v10 (F := Ideal) x0 x1 (ix2 h n) = (M : EReal) := by
  obtain ⟨M, hM⟩ := sup_real (fun j : Fin 4096 => val_main_v9_0 (F := Ideal) x0 x1 (ix3 h n j)) (fun j => j.val ≤ n.val)
    (fun j => score sg (ext 128 q h) (ext 128 k h) n.val j.val) (fun j => v9_real x0 x1 q k h0 h1 h n j) n le_rfl
  refine ⟨M, Eq.trans ?_ hM⟩
  unfold val_main_v10
  rw [Host.reduce_eq_fold_single FloatOps.maximumf _ _ reducesTo_S4x4096x4096_S4x4096_d2 (by decide) h_S_]
  rw [show val_main_cst_1 (F := Ideal) (Shape.Idx.first h_S_) = ⊥ from ofBits_bot]
  exact Finset.fold_congr fun b _ => congrArg (val_main_v9_0 (F := Ideal) x0 x1) (eq3 _ h n b rfl rfl rfl)

include h0 h1 in
/-- The exponentials of a row whose largest score is `M` are its weights times the exponential of `-M`, and so is their sum. -/
theorem exps_at (h : Fin 4) (n : Fin 4096) (M : ℝ) (hM : val_main_v10 (F := Ideal) x0 x1 (ix2 h n) = (M : EReal)) :
    (∀ j : Fin 4096, val_main_v30 (F := Ideal) x0 x1 (ix3 h n j) = ((Real.exp (-M) * weight sg (ext 128 q h) (ext 128 k h) n.val j.val : ℝ) : EReal))
    ∧ val_main_v31 (F := Ideal) x0 x1 (ix2 h n) = ((Real.exp (-M) * total sg (ext 128 q h) (ext 128 k h) n.val : ℝ) : EReal) := by
  have hE : ∀ j : Fin 4096, val_main_v30 (F := Ideal) x0 x1 (ix3 h n j)
      = ((Real.exp (-M) * weight sg (ext 128 q h) (ext 128 k h) n.val j.val : ℝ) : EReal) := fun j => by
    rw [val_main_v30_apply, val_main_v29_apply, val_main_v28_apply, val_main_v27_apply, val_main_v17_apply,
      eq2 (idx_main_v27 (idx_main_v28 (ix3 h n j))) h n rfl rfl, hM, v9_real x0 x1 q k h0 h1, val_main_v16_apply, val_main_cst_3_apply]
    show Ideal.exp (_ - max (Ideal.ofBits .f32 0xFF800000#32) _) = _
    rw [ofBits_bot, max_eq_right bot_le, exp_shift]
    unfold weight wt
    refine congrArg (fun r : ℝ => (r : EReal)) ?_
    split
    · rw [← Real.exp_add]
    · rw [mul_zero]
  refine ⟨hE, ?_⟩
  rw [val_main_v31_apply, show val_main_cst_9 (F := Ideal) (Shape.Idx.first h_S_) = 0 from Ideal.ofBits_zero_f32, zero_add]
  unfold total
  rw [Finset.mul_sum, Finset.sum_range]
  exact sum_eq_coe _ _ _ fun j _ => (congrArg _ (eq3 _ h n j rfl rfl rfl)).trans (hE j)

include h0 h1 in
/-- The exponentials of a row are its weights times one positive number, and so is their sum. -/
theorem exps_real (h : Fin 4) (n : Fin 4096) : ∃ E : ℝ, 0 < E
    ∧ (∀ j : Fin 4096, val_main_v30 (F := Ideal) x0 x1 (ix3 h n j) = ((E * weight sg (ext 128 q h) (ext 128 k h) n.val j.val : ℝ) : EReal))
    ∧ val_main_v31 (F := Ideal) x0 x1 (ix2 h n) = ((E * total sg (ext 128 q h) (ext 128 k h) n.val : ℝ) : EReal) := by
  obtain ⟨M, hM⟩ := v10_real x0 x1 q k h0 h1 h n
  exact ⟨Real.exp (-M), Real.exp_pos _, exps_at x0 x1 q k h0 h1 h n M hM⟩

include h0 h1 in
/-- The probabilities. -/
theorem v34_real (h : Fin 4) (n j : Fin 4096) : val_main_v34 (F := Ideal) x0 x1 (ix3 h n j) = (prR sg q k h n.val j.val : EReal) := by
  obtain ⟨E, hE, he, hs⟩ := exps_real x0 x1 q k h0 h1 h n
  have hZ := total_pos sg (ext 128 q h) (ext 128 k h) n.val
  rw [val_main_v34_apply, he, val_main_v33_apply, val_main_v32_apply, eq2 (idx_main_v32 (idx_main_v33 (ix3 h n j))) h n rfl rfl, hs]
  show Ideal.div _ _ = _
  rw [Ideal.div_coe (mul_pos hE hZ).ne', ← EReal.coe_mul, prR_eq]
  congr 1
  field_simp

include h2 h3 in
/-- The probabilities' cotangents. -/
theorem v41_real (h : Fin 4) (n j : Fin 4096) : val_main_v41 (F := Ideal) x2 x3 (ix3 h n j) = (dpR v w h n.val j.val : EReal) := by
  rw [val_main_v41_apply]
  refine sum_eq_coe _ _ _ fun d _ => ?_
  rw [val_main_v40_apply, EReal.coe_mul, ← h2, ← h3]
  exact congrArg₂ (· * ·) (congrArg x3 (eq3 _ n h d rfl rfl rfl)) (congrArg x2 (eq3 _ j h d rfl rfl rfl))

end

end Cert.Reference9Ideal.Mla

end
-- ==== Proof.MGrad.lean ====
module

public import proofs.«01_k».proof.Proof.MRef

@[expose] public section

set_option maxRecDepth 16384

noncomputable section

/-! The second attention's reference's results over real arguments, entry by entry. -/

namespace Cert.Reference9Ideal.Mla

open Idealize.ShloMosaic Idealize.ShloMosaic.ValueIdx Cert.Reference9Ideal Cert.Reference9Ideal.Gen Cert.Reference9Ideal.Read
open Cert.FoxMath Cert.Mla
open Cert.Kernel9Ideal.Ops (sg ofBits_sg ofBits_bot)
open Cert.ReferenceIdeal.Fox (one_f32)

/-- An array of 64 lanes with 64 zero lanes after its own. -/
theorem lanes64 (x : FVec Ideal S4096x4x64 .f32) (z : FVec Ideal S4096x4x64 .f32) (hz : ∀ i, z i = 0) (X : ℝ) (n : Fin 4096) (h : Fin 4) (d : Fin 128)
    (hx : ∀ hd : d.val < 64, x (ix3 n h ⟨d.val, hd⟩) = (X : EReal)) (h0 : ¬ d.val < 64 → X = 0) :
    concatenate S4096x4x128 2 [⟨S4096x4x64, x⟩, ⟨S4096x4x64, z⟩] concatenates_S4096x4x64_S4096x4x64_S4096x4x128_d2 (ix3 n h d) = (X : EReal) := by
  have off : ∀ (N : ℕ) (d' : Fin N) (b : Fin 3), b ≠ 2 → ((ix3 n h d' : Shape.Idx ⟨3, ![4096, 4, N]⟩) b).val = ((ix3 n h d : S4096x4x128.Idx) b).val := fun N d' b hb =>
    match b, hb with
    | ⟨0, _⟩, _ => rfl
    | ⟨1, _⟩, _ => rfl
    | ⟨2, _⟩, hb => absurd rfl hb
  by_cases hd : d.val < 64
  · exact (concatenate_apply_piece (t := S4096x4x128) 2 _ _ (ix3 n h d) 0 (by show 0 < 2; decide) S4096x4x64 x rfl rfl 0 rfl (ix3 n h ⟨d.val, hd⟩) (off _ _)
      (by show 0 + d.val = d.val; omega)).trans (hx hd)
  · rw [h0 hd]
    exact (concatenate_apply_piece (t := S4096x4x128) 2 _ _ (ix3 n h d) 1 (by show 1 < 2; decide) S4096x4x64 z rfl rfl 64 rfl
      (ix3 n h ⟨d.val - 64, by have := d.isLt; omega⟩) (off _ _) (by show 64 + (d.val - 64) = d.val; omega)).trans (hz _)

/-- An array of 96 lanes with 32 zero lanes after its own. -/
theorem lanes96 (x : FVec Ideal S4096x4x96 .f32) (z : FVec Ideal S4096x4x32 .f32) (hz : ∀ i, z i = 0) (X : ℝ) (n : Fin 4096) (h : Fin 4) (d : Fin 128)
    (hx : ∀ hd : d.val < 96, x (ix3 n h ⟨d.val, hd⟩) = (X : EReal)) (h0 : ¬ d.val < 96 → X = 0) :
    concatenate S4096x4x128 2 [⟨S4096x4x96, x⟩, ⟨S4096x4x32, z⟩] concatenates_S4096x4x96_S4096x4x32_S4096x4x128_d2 (ix3 n h d) = (X : EReal) := by
  have off : ∀ (N : ℕ) (d' : Fin N) (b : Fin 3), b ≠ 2 → ((ix3 n h d' : Shape.Idx ⟨3, ![4096, 4, N]⟩) b).val = ((ix3 n h d : S4096x4x128.Idx) b).val := fun N d' b hb =>
    match b, hb with
    | ⟨0, _⟩, _ => rfl
    | ⟨1, _⟩, _ => rfl
    | ⟨2, _⟩, hb => absurd rfl hb
  by_cases hd : d.val < 96
  · exact (concatenate_apply_piece (t := S4096x4x128) 2 _ _ (ix3 n h d) 0 (by show 0 < 2; decide) S4096x4x96 x rfl rfl 0 rfl (ix3 n h ⟨d.val, hd⟩) (off _ _)
      (by show 0 + d.val = d.val; omega)).trans (hx hd)
  · rw [h0 hd]
    exact (concatenate_apply_piece (t := S4096x4x128) 2 _ _ (ix3 n h d) 1 (by show 1 < 2; decide) S4096x4x32 z rfl rfl 96 rfl
      (ix3 n h ⟨d.val - 96, by have := d.isLt; omega⟩) (off _ _) (by show 96 + (d.val - 96) = d.val; omega)).trans (hz _)

/-- A head's lanes in a row of 512. -/
theorem idx65 (n : Fin 4096) (h : Fin 4) (d : Fin 128) (e : Fin 512) (he : e.val = 128 * h.val + d.val) :
    idx_main_v65 (ix2 n e) = ix3 n h d := by
  have hh : h.val < 4 := h.isLt
  have hd : d.val < 128 := d.isLt
  refine eq3 _ _ _ _ (Fin.ext ?_) (Fin.ext ?_) (Fin.ext ?_)
  · show (n.val * 512 + e.val) / 512 = n.val; omega
  · show (n.val * 512 + e.val) / 128 % 4 = h.val; omega
  · show (n.val * 512 + e.val) % 128 = d.val; omega

/-- A reshape that adds a last axis of one entry. -/
theorem idx48 (h : Fin 4) (n : Fin 4096) : idx_main_v48 (ix3 h n 0) = ix2 h n := by
  have hn : n.val < 4096 := n.isLt
  refine eq2 _ _ _ (Fin.ext ?_) (Fin.ext ?_)
  · show ((h.val * 4096 + n.val) * 1 + 0) / 4096 = h.val; omega
  · show ((h.val * 4096 + n.val) * 1 + 0) % 4096 = n.val; omega

section
variable (x0 x1 : FVec Ideal S4096x4x96 .f32) (x2 x3 : FVec Ideal S4096x4x64 .f32)
  (q k : Fin 4 → ℕ → Fin 96 → ℝ) (v w : Fin 4 → ℕ → Fin 64 → ℝ)
  (h0 : ∀ (n : Fin 4096) (h : Fin 4) (d : Fin 96), x0 (ix3 n h d) = (q h n.val d : EReal))
  (h1 : ∀ (n : Fin 4096) (h : Fin 4) (d : Fin 96), x1 (ix3 n h d) = (k h n.val d : EReal))
  (h2 : ∀ (n : Fin 4096) (h : Fin 4) (d : Fin 64), x2 (ix3 n h d) = (v h n.val d : EReal))
  (h3 : ∀ (n : Fin 4096) (h : Fin 4) (d : Fin 64), x3 (ix3 n h d) = (w h n.val d : EReal))

include h0 h1 h2 h3 in
/-- The scores' gradients. -/
theorem v56_real (h : Fin 4) (n j : Fin 4096) : val_main_v56 (F := Ideal) x0 x1 x2 x3 (ix3 h n j)
    = (dsR sg q k v w h n.val j.val : EReal) := by
  obtain ⟨E, hE, he, hs⟩ := exps_real x0 x1 q k h0 h1 h n
  have hZ := total_pos sg (ext 128 q h) (ext 128 k h) n.val
  have hEZ := (mul_pos hE hZ).ne'
  have h46 : ∀ j : Fin 4096, val_main_v46 (F := Ideal) x0 x1 x2 x3 (ix3 h n j)
      = ((prR sg q k h n.val j.val * dpR v w h n.val j.val / (E * total sg (ext 128 q h) (ext 128 k h) n.val) : ℝ) : EReal) := fun j => by
    rw [val_main_v46_apply, val_main_v45_apply, v41_real x2 x3 v w h2 h3, he, val_main_v44_apply, val_main_v37_apply, val_main_v36_apply,
      val_main_cst_10_apply, val_main_v35_apply, val_main_v32_apply, eq2 (idx_main_v32 (idx_main_v44 (ix3 h n j))) h n rfl rfl, hs]
    show _ * Ideal.div (Ideal.ofBits .f32 0x3F800000#32) (_ * _) * _ = _
    rw [one_f32, ← EReal.coe_mul, Ideal.div_coe (mul_ne_zero hEZ hEZ), ← EReal.coe_mul, ← EReal.coe_mul, ← EReal.coe_mul, prR_eq]
    refine congrArg (fun r : ℝ => (r : EReal)) ?_
    field_simp
  have h47 : val_main_v47 (F := Ideal) x0 x1 x2 x3 (ix2 h n)
      = (((∑ i ∈ Finset.range 4096, prR sg q k h n.val i * dpR v w h n.val i) / (E * total sg (ext 128 q h) (ext 128 k h) n.val) : ℝ) : EReal) := by
    rw [val_main_v47_apply, show val_main_cst_11 (F := Ideal) (Shape.Idx.first h_S_) = 0 from Ideal.ofBits_zero_f32, zero_add, Finset.sum_div, Finset.sum_range]
    exact sum_eq_coe _ _ _ fun j _ => (congrArg _ (eq3 _ h n j rfl rfl rfl)).trans (h46 j)
  have h52 : val_main_v52 (F := Ideal) x0 x1 x2 x3 (ix2 h n) = -val_main_v47 (F := Ideal) x0 x1 x2 x3 (ix2 h n) := by
    rw [val_main_v52_apply, show val_main_cst_12 (F := Ideal) (Shape.Idx.first h_S_) = 0 from Ideal.ofBits_zero_f32, zero_add, Fin.sum_univ_one,
      val_main_v49_apply, val_main_v48_apply]
    show -_ = -_
    rw [eq3 (idx_main_v52 (ix2 h n) 0) h n 0 rfl rfl rfl, idx48]
  rw [val_main_v56_apply, mask, dsR_eq]
  split
  case isFalse hj =>
    rw [prR, prob_zero _ _ _ _ _ _ (by omega), zero_mul]
    exact Ideal.ofBits_zero_f32
  rw [val_main_v55_apply, val_main_v54_apply, val_main_v51_apply, v41_real x2 x3 v w h2 h3, val_main_v50_apply, val_main_v32_apply,
    eq2 (idx_main_v32 (idx_main_v50 (ix3 h n j))) h n rfl rfl, hs, he, val_main_v53_apply, eq2 (idx_main_v53 (ix3 h n j)) h n rfl rfl, h52, h47]
  show (Ideal.div _ _ + _) * _ = _
  rw [Ideal.div_coe hEZ, ← EReal.coe_mul, ← EReal.coe_neg, ← EReal.coe_add, ← EReal.coe_mul, prR_eq sg q k h n.val j.val]
  refine congrArg (fun r : ℝ => (r : EReal)) ?_
  field_simp
  ring

include h0 h1 h2 in
/-- The output's own lanes. -/
theorem v39_real (n : Fin 4096) (h : Fin 4) (d : Fin 64) :
    val_main_v39 (F := Ideal) x0 x1 x2 (ix3 n h d) = (outR sg q k v h n.val ⟨d.val, by have := d.isLt; omega⟩ : EReal) := by
  rw [val_main_v39_apply, val_main_v38_apply]
  unfold outR
  rw [Finset.sum_div, Finset.sum_range]
  refine sum_eq_coe _ _ _ fun j _ => ?_
  rw [eq3 (lidx_main_v38 (idx_main_v39 (ix3 n h d)) j) j h d rfl rfl rfl, eq3 (ridx_main_v38 (idx_main_v39 (ix3 n h d)) j) h n j rfl rfl rfl,
    h2, v34_real x0 x1 q k h0 h1, ← EReal.coe_mul, prR_eq, ext_lo (N := 128) _ _ _ _ (show (⟨d.val, by have := d.isLt; omega⟩ : Fin 128).val < 64 from d.isLt)]
  refine congrArg (fun r : ℝ => (r : EReal)) ?_
  ring

include h0 h1 h2 in
/-- The output. -/
theorem ref_o (n : Fin 4096) (h : Fin 4) (d : Fin 128) (e : Fin 512) (he : e.val = 128 * h.val + d.val) :
    val_main_v65 (F := Ideal) x0 x1 x2 (ix2 n e) = (outR sg q k v h n.val d : EReal) := by
  rw [val_main_v65_apply, idx65 n h d e he]
  unfold val_main_v64
  refine lanes64 _ _ (fun i => Ideal.ofBits_zero_f32) _ n h d (fun hd => ?_) fun hd => ?_
  · exact v39_real x0 x1 x2 q k v h0 h1 h2 n h ⟨d.val, hd⟩
  · unfold outR
    rw [Finset.sum_eq_zero fun j _ => by rw [ext_hi _ _ _ _ hd, mul_zero], zero_div]

include h0 h1 h2 h3 in
/-- The keys' gradient. -/
theorem ref_dk (n : Fin 4096) (h : Fin 4) (d : Fin 128) (e : Fin 512) (he : e.val = 128 * h.val + d.val) :
    val_main_v68 (F := Ideal) x0 x1 x2 x3 (ix2 n e)
      = (((∑ i ∈ Finset.range 4096, dsR sg q k v w h i n.val * ext 128 q h i d) * sg : ℝ) : EReal) := by
  rw [val_main_v68_apply, show idx_main_v68 (ix2 n e) = ix3 n h d from idx65 n h d e he]
  unfold val_main_v67
  refine lanes96 _ _ (fun i => Ideal.ofBits_zero_f32) _ n h d (fun hd => ?_) fun hd => ?_
  · rw [val_main_v60_apply, val_main_v59_apply, Finset.sum_mul, Finset.sum_range]
    refine sum_eq_coe _ _ _ fun i _ => ?_
    rw [eq3 (lidx_main_v59 (idx_main_v60 (ix3 n h ⟨d.val, hd⟩)) i) h i n rfl rfl rfl,
      eq3 (ridx_main_v59 (idx_main_v60 (ix3 n h ⟨d.val, hd⟩)) i) i h ⟨d.val, hd⟩ rfl rfl rfl,
      h0, val_main_v58_apply, v56_real x0 x1 x2 x3 q k v w h0 h1 h2 h3, val_main_v57_apply, val_main_cst_13_apply]
    show _ * Ideal.ofBits .f32 0x3DD105EC#32 * _ = _
    rw [ofBits_sg, ← EReal.coe_mul, ← EReal.coe_mul, ext_lo _ _ _ _ hd]
    refine congrArg (fun r : ℝ => (r : EReal)) ?_
    ring
  · rw [Finset.sum_eq_zero fun j _ => by rw [ext_hi _ _ _ _ hd, mul_zero], zero_mul]

include h0 h1 h3 in
/-- The values' gradient. -/
theorem ref_dv (n : Fin 4096) (h : Fin 4) (d : Fin 128) (e : Fin 512) (he : e.val = 128 * h.val + d.val) :
    val_main_v71 (F := Ideal) x0 x1 x3 (ix2 n e)
      = ((∑ i ∈ Finset.range 4096, prR sg q k h i n.val * ext 128 w h i d : ℝ) : EReal) := by
  rw [val_main_v71_apply, show idx_main_v71 (ix2 n e) = ix3 n h d from idx65 n h d e he]
  unfold val_main_v70
  refine lanes64 _ _ (fun i => Ideal.ofBits_zero_f32) _ n h d (fun hd => ?_) fun hd => ?_
  · rw [val_main_v43_apply, val_main_v42_apply, Finset.sum_range]
    refine sum_eq_coe _ _ _ fun i _ => ?_
    rw [val_main_v40_apply, eq3 (idx_main_v40 (lidx_main_v42 (idx_main_v43 (ix3 n h ⟨d.val, hd⟩)) i)) i h ⟨d.val, hd⟩ rfl rfl rfl,
      eq3 (ridx_main_v42 (idx_main_v43 (ix3 n h ⟨d.val, hd⟩)) i) h i n rfl rfl rfl,
      h3, v34_real x0 x1 q k h0 h1, ← EReal.coe_mul, ext_lo _ _ _ _ hd, mul_comm]
  · exact Finset.sum_eq_zero fun j _ => by rw [ext_hi _ _ _ _ hd, mul_zero]

end

end Cert.Reference9Ideal.Mla

end
-- ==== Proof.Prod9.lean ====
module

public import proofs.«01_k».proof.Defs
public import proofs.«01_k».proof.Proof.MGrad
public import proofs.«01_k».proof.Proof.Gen.Reference9Ideal.Run
public import Idealize.ShloMosaic.Adequacy
public import Idealize.ShloMosaic.Init
public import proofs.«01_k».proof.Proof.Finite

@[expose] public section

set_option maxRecDepth 16384

noncomputable section

/-! The second attention: the precondition read, and the kernel's three results are the reference's. -/

namespace Cert.Mla

open Idealize.ShloMosaic Idealize.SL.Sem Idealize.ShloMosaic.TcCoe Idealize.ShloMosaic.ValueIdx Cert.FoxMath
open Cert.Fox (inf_f32 real_of_lt val3 val3_eq)
open Cert.Kernel9Ideal.Mla (a0 a1 a2 a3)

/-- The precondition's side conditions. -/
theorem facts : Cert.Pre_finite9.Facts where
  bcast_S_S4096x4x96 := by decide
  bcast_S_S4096x4x64 := by decide

/-- The entry of an array of rows, heads and 96 features. -/
def val96 (x : FVec Ideal ⟨3, ![4096, 4, 96]⟩ .f32) (h : Fin 4) (n : ℕ) (d : Fin 96) : ℝ :=
  if hn : n < 4096 then (show EReal from x (ix3 ⟨n, hn⟩ h d)).toReal else 0

theorem val96_eq (x : FVec Ideal ⟨3, ![4096, 4, 96]⟩ .f32) (y : FVec Ideal ⟨3, ![4096, 4, 96]⟩ .f32) (hy : ∀ i, y i = (⊤ : EReal))
    (hx : cmpf .olt (Host.absf x) y = fun _ => 1#1) (n : Fin 4096) (h : Fin 4) (d : Fin 96) : x (ix3 n h d) = (val96 x h n.val d : EReal) := by
  unfold val96
  rw [dif_pos n.isLt]
  exact real_of_lt _ ((congrArg (Ideal.cmp .olt _) (hy (ix3 n h d)).symm).trans (congrFun hx (ix3 n h d)))

/-- The reference runs and leaves its arguments unchanged: its generated run, read at the arguments; it declares no semaphore. -/
theorem frame_ref : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The head's and the lane's numbers of a column of 512. -/
theorem column (e : Fin 512) : ∃ (h : Fin 4) (d : Fin 128), e.val = 128 * h.val + d.val := by
  have he := e.isLt
  exact ⟨⟨e.val / 128, by omega⟩, ⟨e.val % 128, by omega⟩, by show e.val = 128 * (e.val / 128) + e.val % 128; omega⟩

/-- The kernel's three results and the reference's are the same arrays, of arguments that are real. -/
theorem agree (m : (ℓ : Loc Cert.Kernel9Ideal.nD Cert.Kernel9Ideal.τ Cert.Kernel9Ideal.sig) → Buf (Elt Ideal) ℓ) (ρ : Dev Cert.Kernel9Ideal.nD → PrngReg)
    (hpre : Cert.Pre_Kernel9Ideal_finite9 (hPre_finite9 := facts) m) (c : Dev Cert.Kernel9Ideal.nD) :
    Cert.Reference9Ideal.Read.val_main_v65 (F := Ideal) (a0 m c) (a1 m c) (a2 m c) = Cert.Kernel9Ideal.Gen.W14 m ρ c Cert.Kernel9Ideal.main_v14_0
    ∧ Cert.Reference9Ideal.Read.val_main_v68 (F := Ideal) (a0 m c) (a1 m c) (a2 m c) (a3 m c) = Cert.Kernel9Ideal.Gen.W14 m ρ c Cert.Kernel9Ideal.main_v20_0
    ∧ Cert.Reference9Ideal.Read.val_main_v71 (F := Ideal) (a0 m c) (a1 m c) (a3 m c) = Cert.Kernel9Ideal.Gen.W14 m ρ c Cert.Kernel9Ideal.main_v20_1 := by
  obtain ⟨p0, p1, p2, p3⟩ := hpre c
  have h0 := val96_eq (a0 m c) _ (fun _ => inf_f32) p0
  have h1 := val96_eq (a1 m c) _ (fun _ => inf_f32) p1
  have h2 := val3_eq (a2 m c) _ (fun _ => inf_f32) p2
  have h3 := val3_eq (a3 m c) _ (fun _ => inf_f32) p3
  refine ⟨funext fun i => ?_, funext fun i => ?_, funext fun i => ?_⟩
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.Reference9Ideal.Mla.ref_o _ _ _ _ _ _ h0 h1 h2 n h d e he).trans (Cert.Kernel9Ideal.Mla.res_o m ρ c _ _ _ h0 h1 h2 h n d e he).symm
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.Reference9Ideal.Mla.ref_dk _ _ _ _ _ _ _ _ h0 h1 h2 h3 n h d e he).trans (Cert.Kernel9Ideal.Mla.res_dk m ρ c _ _ _ _ h0 h1 h2 h3 h n d e he).symm
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.Reference9Ideal.Mla.ref_dv _ _ _ _ _ _ h0 h1 h3 n h d e he).trans (Cert.Kernel9Ideal.Mla.res_dv m ρ c _ _ _ _ h0 h1 h2 h3 h n d e he).symm

/-- The kernel and the reference end with equal results. -/
theorem value : Cert.algebraic_Kernel9Ideal_Reference9Ideal_pre_finite9 (hKernel9Ideal := Cert.Kernel9Ideal.Gen.facts)
    (hReference9Ideal := Cert.Reference9Ideal.Gen.facts) (hPre_finite9 := facts) := fun m ρ m' ρ' hpre hag =>
  ⟨fun c => Cert.Kernel9Ideal.Gen.W14 m ρ c Cert.Kernel9Ideal.main_v14_0, fun c => Cert.Kernel9Ideal.Gen.W14 m ρ c Cert.Kernel9Ideal.main_v20_0,
    fun c => Cert.Kernel9Ideal.Gen.W14 m ρ c Cert.Kernel9Ideal.main_v20_1,
    (θ_run Cert.Kernel9Ideal.defs _ _).mono (fun _ h c => ⟨(h c).1.1, (h c).1.2.1, (h c).1.2.2, (h c).2⟩) (Cert.Kernel9Ideal.Gen.run (F := Ideal) m ρ),
    (θ_run Cert.Reference9Ideal.defs _ _).mono (fun _ h c => by
      obtain ⟨g0, g1, g2, g3⟩ := hag c
      obtain ⟨e0, e1, e2⟩ := agree m ρ hpre c
      obtain ⟨r0, r1, r2, rest⟩ := h c
      refine ⟨r0.trans ?_, r1.trans ?_, r2.trans ?_, rest⟩
      · rw [Cert.Reference9Ideal.Read.val_main_v65_eq, g0, g1, g2]; exact e0
      · rw [Cert.Reference9Ideal.Read.val_main_v68_eq, g0, g1, g2, g3]; exact e1
      · rw [Cert.Reference9Ideal.Read.val_main_v71_eq, g0, g1, g3]; exact e2)
      (Cert.Reference9Ideal.Value.run (F := Ideal) m' ρ')⟩

end Cert.Mla

end
-- ==== Proof.Dq.lean ====
module

public import proofs.«01_k».proof.Proof.Gen.Kernel10Ideal.Frame
public import proofs.«01_k».proof.Proof.MFwd

@[expose] public section

set_option maxRecDepth 16384

noncomputable section

/-! The block of the second attention's query gradient: its loop's state after `n` key tiles, and the stored block as the
    last step's payload of that state. -/

namespace Cert.Kernel10Ideal.Gen

open Idealize.ShloMosaic Idealize.ShloMosaic.ValueIdx Idealize.SL.Sem
open Cert.Kernel9Ideal.Gen (tile ld_tile)

variable {F : FTy → Type} [FloatOps F]

/-- The loop's state: the query gradient's rows and the score gradients' row sums. -/
abbrev QSt (F : FTy → Type) := FVec F S512x128 .f32 × FVec F S512x1 .f32

/-- The loop's state after `n` key tiles. -/
def dqSt (x0 : Vec F S512x128 .bf16) (x1 : Vec F S4096x128 .bf16) (x2 : Vec F S4096x128 .f32) (x3 x4 : Vec F S512x128 .f32) (x5 : Vec F S1x512x1 .f32) : ℕ → QSt F
  | 0 => (k0_pay10, k0_pay11)
  | n + 1 => (k0_pay14 x0 x4 x3 x5 (dqSt x0 x1 x2 x3 x4 x5 n).1 (tile x1 n) (tile x2 n),
      k0_pay15 x0 x4 x3 x5 (dqSt x0 x1 x2 x3 x4 x5 n).2 (tile x1 n) (tile x2 n))

theorem trips0_1 : ∀ i : grid0.Coords, (k0_t1_loop i).trips = (i 1).val := by decide +kernel

theorem trips0_2 : ∀ i : grid0.Coords, (k0_t2_loop i).trips = 0 := by decide +kernel

section
variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S1x512x1 .f32) (harg9 : arg9.IsWhole) (arg10 : Memref sig .tc .vmem S1x512x1 .f32) (harg10 : arg10.IsWhole)
  (x0 : Vec F S512x128 .bf16) (x1 : Vec F S4096x128 .bf16) (x2 : Vec F S4096x128 .f32) (x3 x4 : Vec F S512x128 .f32) (x5 : Vec F S1x512x1 .f32)

theorem trip0_eq (k : Fin (k0_t1_loop i).trips) (acc : QSt F) :
    tripR_k0_t1 (F := F) 𝒱 c bd i arg2 harg2 arg3 harg3 arg4 harg4 arg5 harg5 arg6 harg6 arg7 harg7 arg8 harg8 arg9 harg9 arg10 harg10 x0 x4 x3 x5 (harg3.unread x1) (harg4.unread x2) k acc
      = (k0_pay14 x0 x4 x3 x5 acc.1 (tile x1 k.val) (tile x2 k.val), k0_pay15 x0 x4 x3 x5 acc.2 (tile x1 k.val) (tile x2 k.val)) := by
  unfold tripR_k0_t1 trip_k0_t1
  simp only [View.readAt_eq_ld, harg3.read_unread, harg4.read_unread]
  rw [ld_tile x1 _ _ k.val (k0_off1_eq i k), ld_tile x2 _ _ k.val (k0_off1_eq i k)]

theorem st0_eq (n : ℕ) (hn : n ≤ (k0_t1_loop i).trips) :
    st_k0_t1 (F := F) 𝒱 c bd i arg2 harg2 arg3 harg3 arg4 harg4 arg5 harg5 arg6 harg6 arg7 harg7 arg8 harg8 arg9 harg9 arg10 harg10 x0 x4 x3 x5 (harg3.unread x1) (harg4.unread x2) (k0_pay10, k0_pay11) n
      = dqSt x0 x1 x2 x3 x4 x5 n := by
  induction n with
  | zero => rfl
  | succ n ih =>
    rw [st_k0_t1_succ (F := F) 𝒱 c bd i arg2 harg2 arg3 harg3 arg4 harg4 arg5 harg5 arg6 harg6 arg7 harg7 arg8 harg8 arg9 harg9 arg10 harg10 x0 x4 x3 x5 (harg3.unread x1) (harg4.unread x2) (k0_pay10, k0_pay11) ⟨n, hn⟩,
      trip0_eq, ih (Nat.le_of_succ_le hn)]
    rfl

theorem stEnd0_eq :
    st_k0_t2 (F := F) 𝒱 c bd i arg2 harg2 arg3 harg3 arg4 harg4 arg5 harg5 arg6 harg6 arg7 harg7 arg8 harg8 arg9 harg9 arg10 harg10 x0 x4 x3 x5 (harg3.unread x1) (harg4.unread x2)
        (st_k0_t1 (F := F) 𝒱 c bd i arg2 harg2 arg3 harg3 arg4 harg4 arg5 harg5 arg6 harg6 arg7 harg7 arg8 harg8 arg9 harg9 arg10 harg10 x0 x4 x3 x5 (harg3.unread x1) (harg4.unread x2) (k0_pay10, k0_pay11) (k0_t1_loop i).trips)
        (k0_t2_loop i).trips
      = dqSt x0 x1 x2 x3 x4 x5 (i 1).val := by
  rw [trips0_2, st_k0_t2_zero, st0_eq (hn := le_rfl), trips0_1]

theorem ld_x {e : EltTy} (a : Memref sig .tc .vmem S512x128 e) (ha : a.IsWhole) (x : Vec F S512x128 e) :
    View.readAt (Elt F) a.view (Rect.unit ![0, 0] ![512, 128] inb_S512x128_S512x128_0_0).toLoadRect (ha.unread x) = x := by
  rw [View.readAt_eq_ld, ha.read_unread]
  exact View.ld_unit_zero (S := S512x128) (by decide) inb_S512x128_S512x128_0_0 x

theorem ld_x5 : View.readAt (Elt F) arg7.view (Rect.unit ![0, 0, 0] ![1, 512, 1] inb_S1x512x1_S1x512x1_0_0_0).toLoadRect (harg7.unread x5) = x5 := by
  rw [View.readAt_eq_ld, harg7.read_unread]
  exact View.ld_unit_zero (S := S1x512x1) (by decide) inb_S1x512x1_S1x512x1_0_0_0 x5

theorem r0_3_eq : kernelRun0_A.sl.r_3 c i arg2 harg2 arg3 harg3 arg4 harg4 arg5 harg5 arg6 harg6 arg7 harg7 arg8 harg8 arg9 harg9 arg10 harg10 x0 x1 x2 x3 x4 x5 = (dqSt x0 x1 x2 x3 x4 x5 (i 1).val).1 := by
  unfold kernelRun0_A.sl.r_3
  rw [ld_x, ld_x, ld_x, ld_x5]
  exact congrArg (·.1) (stEnd0_eq Variants.none c none i arg2 harg2 arg3 harg3 arg4 harg4 arg5 harg5 arg6 harg6 arg7 harg7 arg8 harg8 arg9 harg9 arg10 harg10 x0 x1 x2 x3 x4 x5)

theorem r0_5_eq : kernelRun0_A.sl.r_5 i arg3 harg3 x1 = k0_pay20 (tile x1 (i 1).val) := by
  unfold kernelRun0_A.sl.r_5
  rw [View.readAt_eq_ld, harg3.read_unread]
  exact congrArg k0_pay20 (ld_tile x1 _ _ (i 1).val (k0_off3_eq i))

theorem r0_6_eq : kernelRun0_A.sl.r_6 i arg4 harg4 x2 = k0_pay21 (tile x2 (i 1).val) := by
  unfold kernelRun0_A.sl.r_6
  rw [View.readAt_eq_ld, harg4.read_unread]
  exact congrArg k0_pay21 (ld_tile x2 _ _ (i 1).val (k0_off3_eq i))

theorem r0_7_eq : kernelRun0_A.sl.r_7 c i arg2 harg2 arg3 harg3 x0 x1 = k0_pay22 x0 (tile x1 (i 1).val) := by
  unfold kernelRun0_A.sl.r_7
  rw [ld_x, View.readAt_eq_ld, harg3.read_unread]
  exact congrArg (k0_pay22 x0) (ld_tile x1 _ _ (i 1).val (k0_off3_eq i))

/-- The query gradient's block the body stores. -/
theorem out0_6_eq :
    out0_A_6 c i arg2 harg2 arg3 harg3 arg4 harg4 arg5 harg5 arg6 harg6 arg7 harg7 arg8 harg8 arg9 harg9 arg10 harg10 x0 x1 x2 x3 x4 x5
      = k0_pay2 (k0_pay7 x4 x3) (k0_pay8 x4) (k0_pay9 x5) (dqSt x0 x1 x2 x3 x4 x5 (i 1).val).1 (k0_pay20 (tile x1 (i 1).val))
          (k0_pay21 (tile x2 (i 1).val)) (k0_pay22 x0 (tile x1 (i 1).val))
          (iota .tc S512x512 32 [0] iota_S512x512_d0_w32) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  refine (View.canon_unit_zero (S := S512x128) (by decide) inb_S512x128_S512x128_0_0 _).trans ?_
  rw [r0_3_eq, r0_5_eq, r0_6_eq, r0_7_eq]
  unfold kernelRun0_A.sl.r kernelRun0_A.sl.r_1 kernelRun0_A.sl.r_2 kernelRun0_A.sl.v35
  simp only [ld_x, ld_x5]
end

end Cert.Kernel10Ideal.Gen

end
-- ==== Proof.DqReal.lean ====
module

public import proofs.«01_k».proof.Proof.Dq
public import proofs.«01_k».proof.Proof.MDkvReal

@[expose] public section

set_option maxRecDepth 16384

noncomputable section

/-! The second attention's query gradient over real inputs: the loop's state as sums over the keys seen so far, and the
    stored block as sums over all of them. -/

namespace Cert.Kernel10Ideal.Dq

open Idealize.ShloMosaic Idealize.ShloMosaic.ValueIdx Cert.Kernel10Ideal Cert.Kernel10Ideal.Gen Cert.FoxMath Cert.Mla
open Cert.Kernel9Ideal.Gen (tile)
open Cert.Kernel9Ideal.Ops (sg ofBits_sg ofBits_bot mm_nt mm_pv cast_col bc_col512)
open Cert.Kernel9Ideal.Mla (exp_sub' tile_real tile_real16)

theorem pay5_apply (x : FVec Ideal S512x128 .bf16) (a : Fin 512) (d : Fin 128) : k0_pay5 (F := Ideal) x (ix2 a d) = x (ix2 a d) :=
  Cert.Kernel9Ideal.Mla.pay7_apply x a d

/-- A row's sum of 128 entries. -/
theorem sum_row128 (x : FVec Ideal S512x128 .f32) (a : Fin 512) (h : S512x128.Reduces [1] S512) (h1) (h2) :
    multiReduction .add [1] S512 x 0x00000000#32 h h1 h2 (ix1 a) = ∑ d : Fin 128, x (ix2 a d) := by
  rw [Ideal.multiReduction_add_single]
  refine Finset.sum_congr rfl fun b _ => congrArg x (funext fun ax => ?_)
  match ax with
  | ⟨0, _⟩ => rfl
  | ⟨1, _⟩ => rfl

/-- The row sums of the output with its cotangent. -/
theorem pay7_apply (w o : FVec Ideal S512x128 .f32) (a : Fin 512) :
    k0_pay7 (F := Ideal) w o (ix2 a 0) = ∑ d : Fin 128, w (ix2 a d) * o (ix2 a d) := by
  unfold k0_pay7 k0_pay6
  simp only [shapeCast_self]
  exact (cast_col ..).trans (sum_row128 ..)

theorem pay8_apply (w : FVec Ideal S512x128 .f32) (a : Fin 512) (d : Fin 128) : k0_pay8 (F := Ideal) w (ix2 a d) = w (ix2 a d) := by
  unfold k0_pay8 k0_pay6; simp only [shapeCast_self]; rfl

theorem pay9_apply (l : FVec Ideal S1x512x1 .f32) (a : Fin 512) : k0_pay9 (F := Ideal) l (ix2 a 0) = l (ix3 0 a 0) :=
  shapeCast_apply l _ _ _ (by
    rw [Shape.rowMajor_val_two, Shape.rowMajor_val_three]
    show (0 * 512 + a.val) * 1 + 0 = a.val * 1 + 0
    omega)

/-- The scores of a tile. -/
theorem sc_apply (x k : FVec Ideal S512x128 .bf16) (a b : Fin 512) :
    mulf (matmul dot_S512x128_S512x128_S512x512_1_1_0_0_n_n none (k0_pay5 (F := Ideal) x) k (constant S512x512 .f32 0x00000000#32))
        (broadcast S512x512 (Scalar.ofBits .f32 0x3DD105EC#32)) (ix2 a b)
      = (∑ d : Fin 128, x (ix2 a d) * k (ix2 b d)) * (sg : EReal) := by
  refine congrArg₂ (· * ·) ((mm_nt _ _ a b).trans ?_) ofBits_sg
  simp only [pay5_apply]

/-- A tile's score gradients, from its probabilities. -/
theorem ds_apply (P : FVec Ideal S512x512 .f32) (w : FVec Ideal S512x128 .f32) (v : FVec Ideal S512x128 .bf16) (D : FVec Ideal S512x1 .f32) (a b : Fin 512) :
    mulf P (subf (matmul dot_S512x128_S512x128_S512x512_1_1_0_0_n_n none (k0_pay8 (F := Ideal) w) v (constant S512x512 .f32 0x00000000#32))
        (broadcastTo S512x512 D broadcasts_S512x1_S512x512)) (ix2 a b)
      = P (ix2 a b) * ((∑ d : Fin 128, w (ix2 a d) * v (ix2 b d)) - D (ix2 a 0)) := by
  refine congrArg (P (ix2 a b) * ·) (congrArg₂ (· - ·) ((mm_nt _ _ a b).trans ?_) (bc_col512 ..))
  simp only [pay8_apply]

/-- A step's addition to the query gradient. -/
theorem pv_apply (acc : FVec Ideal S512x128 .f32) (P : FVec Ideal S512x512 .f32) (hb) (k : FVec Ideal S512x128 .bf16) (a : Fin 512) (d : Fin 128) :
    addf acc (matmul dot_S512x512_S512x128_S512x128_1_0_0_1_n_n none (truncf .bf16 P hb) k (constant S512x128 .f32 0x00000000#32)) (ix2 a d)
      = acc (ix2 a d) + ∑ b : Fin 512, P (ix2 a b) * k (ix2 b d) := congrArg (acc (ix2 a d) + ·) (mm_pv ..)

theorem pay13_apply (x : FVec Ideal S512x128 .bf16) (w o : FVec Ideal S512x128 .f32) (l : FVec Ideal S1x512x1 .f32) (k : FVec Ideal S512x128 .bf16)
    (v : FVec Ideal S512x128 .f32) (a b : Fin 512) :
    k0_pay13 (F := Ideal) x w o l k v (ix2 a b)
      = Ideal.exp ((∑ d : Fin 128, x (ix2 a d) * k (ix2 b d)) * (sg : EReal) - l (ix3 0 a 0))
          * ((∑ d : Fin 128, w (ix2 a d) * v (ix2 b d)) - ∑ d : Fin 128, w (ix2 a d) * o (ix2 a d)) := by
  unfold k0_pay13 k0_pay12
  simp only [shapeCast_self]
  refine (ds_apply _ w (truncf .bf16 v bitsLt_bf16_f32) _ a b).trans ?_
  rw [pay7_apply]
  refine congrArg (· * _) (congrArg Ideal.exp (congrArg₂ (· - ·) (sc_apply x k a b) ?_))
  exact (bc_col512 ..).trans (pay9_apply l a)

theorem pay14_apply (x : FVec Ideal S512x128 .bf16) (w o : FVec Ideal S512x128 .f32) (l : FVec Ideal S1x512x1 .f32) (acc : FVec Ideal S512x128 .f32)
    (k : FVec Ideal S512x128 .bf16) (v : FVec Ideal S512x128 .f32) (a : Fin 512) (d : Fin 128) :
    k0_pay14 (F := Ideal) x w o l acc k v (ix2 a d)
      = acc (ix2 a d) + ∑ b : Fin 512, k0_pay13 (F := Ideal) x w o l k v (ix2 a b) * k (ix2 b d) := by
  unfold k0_pay14 k0_pay12
  simp only [shapeCast_self]
  exact pv_apply ..

/-- The queries' numbers within a tile. -/
abbrev rows : IVec S512x512 32 := iota .tc S512x512 32 [0] iota_S512x512_d0_w32

/-- The score gradients of the diagonal tile. -/
theorem pay1_apply (x : FVec Ideal S512x128 .bf16) (w o : FVec Ideal S512x128 .f32) (l : FVec Ideal S1x512x1 .f32) (k : FVec Ideal S512x128 .bf16)
    (v : FVec Ideal S512x128 .f32) (a b : Fin 512) :
    k0_pay1 (F := Ideal) (k0_pay7 w o) (k0_pay8 w) (k0_pay9 l) (k0_pay21 v) (k0_pay22 x k) rows (ix2 a b)
      = Ideal.exp ((if b.val ≤ a.val then (∑ d : Fin 128, x (ix2 a d) * k (ix2 b d)) * (sg : EReal) else ⊥) - l (ix3 0 a 0))
          * ((∑ d : Fin 128, w (ix2 a d) * v (ix2 b d)) - ∑ d : Fin 128, w (ix2 a d) * o (ix2 a d)) := by
  have hm : cmpi .sle (iota .tc S512x512 32 [1] iota_S512x512_d1_w32) rows (ix2 a b) = BitVec.ofBool (decide (b.val ≤ a.val)) := by
    show IntOp.cmpi .sle (BitVec.ofNat 32 (0 * 512 + b.val)) (BitVec.ofNat 32 (0 * 512 + a.val)) = _
    simp only [Nat.zero_mul, Nat.zero_add]
    exact WordCmp.cmpi_sle_ofNat (by omega) (by omega)
  unfold k0_pay1 k0_pay21 k0_pay22 k0_pay20
  simp only [shapeCast_self]
  refine (ds_apply _ w (truncf .bf16 v bitsLt_bf16_f32) _ a b).trans ?_
  rw [pay7_apply]
  refine congrArg (· * _) (congrArg Ideal.exp (congrArg₂ (· - ·) ?_ ((bc_col512 ..).trans (pay9_apply l a))))
  rw [select_apply, hm]
  by_cases h : b.val ≤ a.val
  · rw [if_pos h, decide_eq_true h]; exact sc_apply x k a b
  · rw [if_neg h, decide_eq_false h]; exact ofBits_bot

section
variable (Q K V W : ℕ → Fin 128 → ℝ) (O : ℕ → Fin 128 → ℝ) (L D : ℕ → ℝ) (i : ℕ)
  (x0 : FVec Ideal S512x128 .bf16) (x1 : FVec Ideal S4096x128 .bf16) (x2 : FVec Ideal S4096x128 .f32) (x3 x4 : FVec Ideal S512x128 .f32)
  (x5 : FVec Ideal S1x512x1 .f32)
  (h0 : ∀ a d, x0 (ix2 a d) = (Q (512 * i + a.val) d : EReal))
  (h1 : ∀ (n : Fin 4096) d, x1 (ix2 n d) = (K n.val d : EReal))
  (h2 : ∀ (n : Fin 4096) d, x2 (ix2 n d) = (V n.val d : EReal))
  (h3 : ∀ a d, x3 (ix2 a d) = (O (512 * i + a.val) d : EReal))
  (h4 : ∀ a d, x4 (ix2 a d) = (W (512 * i + a.val) d : EReal))
  (h5 : ∀ a, x5 (ix3 0 a 0) = (L (512 * i + a.val) : EReal))
  (hD : ∀ n, D n = ∑ d : Fin 128, W n d * O n d)

include h0 h1 in
theorem score_real (n : ℕ) (hn : n < 8) (a b : Fin 512) :
    (∑ d : Fin 128, x0 (ix2 a d) * tile (F := Ideal) (e := .bf16) x1 n (ix2 b d)) * (sg : EReal)
      = (score sg Q K (512 * i + a.val) (512 * n + b.val) : EReal) := by
  rw [sum_eq_coe Finset.univ _ (fun d => Q (512 * i + a.val) d * K (512 * n + b.val) d), ← EReal.coe_mul]
  · rfl
  · intro d _
    rw [h0, tile_real16 x1 K h1 n hn, ← EReal.coe_mul]

include h2 h3 h4 hD in
theorem dp_real (n : ℕ) (hn : n < 8) (a b : Fin 512) :
    (∑ d : Fin 128, x4 (ix2 a d) * tile (F := Ideal) (e := .f32) x2 n (ix2 b d)) - ∑ d : Fin 128, x4 (ix2 a d) * x3 (ix2 a d)
      = (((∑ d : Fin 128, V (512 * n + b.val) d * W (512 * i + a.val) d) - D (512 * i + a.val) : ℝ) : EReal) := by
  rw [sum_eq_coe Finset.univ _ (fun d => V (512 * n + b.val) d * W (512 * i + a.val) d),
    sum_eq_coe Finset.univ (fun d : Fin 128 => x4 (ix2 a d) * x3 (ix2 a d)) (fun d => W (512 * i + a.val) d * O (512 * i + a.val) d), ← EReal.coe_sub, hD]
  · intro d _
    rw [h4, h3, ← EReal.coe_mul]
  · intro d _
    rw [h4, tile_real x2 V h2 n hn, ← EReal.coe_mul, mul_comm]

include h0 h1 h2 h3 h4 h5 hD in
/-- The loop's query gradients: sums over the keys before tile `n`. -/
theorem dqSt_real (n : ℕ) (hn : n ≤ i) (hi : i < 8) (a : Fin 512) (d : Fin 128) :
    (dqSt (F := Ideal) x0 x1 x2 x3 x4 x5 n).1 (ix2 a d)
      = ((∑ j ∈ Finset.range (512 * n), dsc sg Q K V W L D (512 * i + a.val) j * K j d : ℝ) : EReal) := by
  induction n with
  | zero => exact Ideal.ofBits_zero_f32.trans (by simp)
  | succ n ih =>
    refine (pay14_apply _ _ _ _ _ _ _ a d).trans (add_tile n _ _ _ (ih (by omega)) fun b => ?_)
    rw [pay13_apply, score_real Q K i x0 x1 h0 h1 n (by omega), dp_real V W O D i x2 x3 x4 h2 h3 h4 hD n (by omega), h5, ← EReal.coe_sub, Ideal.exp_coe,
      tile_real16 x1 K h1 n (by omega), ← EReal.coe_mul, ← EReal.coe_mul]
    unfold dsc prob wt
    rw [if_pos (by have := b.isLt; omega)]

include h0 h1 h2 h3 h4 h5 hD in
/-- The stored block of query gradients. -/
theorem dq_real (hi : i < 8) (a : Fin 512) (d : Fin 128) :
    k0_pay2 (F := Ideal) (k0_pay7 x4 x3) (k0_pay8 x4) (k0_pay9 x5) (dqSt x0 x1 x2 x3 x4 x5 i).1 (k0_pay20 (tile x1 i)) (k0_pay21 (tile x2 i))
        (k0_pay22 x0 (tile x1 i)) rows (ix2 a d)
      = (((∑ j ∈ Finset.range 4096, dsc sg Q K V W L D (512 * i + a.val) j * K j d) * sg : ℝ) : EReal) := by
  have hs : ∑ j ∈ Finset.range 4096, dsc sg Q K V W L D (512 * i + a.val) j * K j d
      = ∑ j ∈ Finset.range (512 * (i + 1)), dsc sg Q K V W L D (512 * i + a.val) j * K j d :=
    (Finset.sum_subset (Finset.range_subset_range.2 (by omega)) fun j _ hj => by
      rw [dsc_zero _ _ _ _ _ _ _ _ _ (by have := Finset.mem_range.not.1 hj; have := a.isLt; omega), zero_mul]).symm
  have hk : k0_pay20 (F := Ideal) (tile (F := Ideal) (e := .bf16) x1 i) = tile (F := Ideal) (e := .bf16) x1 i := by
    unfold k0_pay20; simp only [shapeCast_self]
  rw [EReal.coe_mul, hs, hk]
  unfold k0_pay2
  refine congrArg₂ (· * ·) ((pv_apply _ _ _ _ a d).trans (add_tile i _ _ _ (dqSt_real Q K V W O L D i x0 x1 x2 x3 x4 x5 h0 h1 h2 h3 h4 h5 hD i le_rfl hi a d) fun b => ?_)) ofBits_sg
  rw [pay1_apply, score_real Q K i x0 x1 h0 h1 i hi, dp_real V W O D i x2 x3 x4 h2 h3 h4 hD i hi, h5, exp_sub', tile_real16 x1 K h1 i hi,
    ← EReal.coe_mul, ← EReal.coe_mul]
  unfold dsc prob
  refine congrArg (fun r : ℝ => (r : EReal)) (congrArg (· * _) (congrArg (· * _) ?_))
  exact if_congr (by omega) rfl rfl

end

end Cert.Kernel10Ideal.Dq

end
-- ==== Proof.DqHost.lean ====
module

public import proofs.«01_k».proof.Proof.DqReal
public import proofs.«01_k».proof.Proof.MGrad
public import proofs.«01_k».proof.Proof.Gen.Kernel10Ideal.Value
public import Idealize.ShloMosaic.Lib.StableHlo.RunRead

@[expose] public section

set_option maxRecDepth 16384

noncomputable section

/-! The second attention's query gradient: what its call's operands hold. -/

namespace Cert.Kernel10Ideal.Dq

open Idealize.ShloMosaic Idealize.ShloMosaic.ValueIdx Idealize.ShloMosaic.TcCoe Cert.Kernel10Ideal Cert.Kernel10Ideal.Gen
open Cert.FoxMath Cert.Mla
open Cert.Kernel9Ideal.Ops (sg)
open Cert.Kernel9Ideal.Mla (padded96 padded64 flat flat96_real flat64_real concat_real)
open Cert.Reference9Ideal.Read

section
variable {F : FTy → Type} [FloatOps F] (m : (ℓ : Loc nD τ sig) → Buf (Elt F) ℓ) (c : Dev nD)

abbrev a0 : FVec F S4096x4x96 .f32 := m ((c : Thread nD τ).loc main_arg0)
abbrev a1 : FVec F S4096x4x96 .f32 := m ((c : Thread nD τ).loc main_arg1)
abbrev a2 : FVec F S4096x4x64 .f32 := m ((c : Thread nD τ).loc main_arg2)
abbrev a3 : FVec F S4096x4x64 .f32 := m ((c : Thread nD τ).loc main_arg3)

theorem V_q : (V m c main_v2 : FVec F S4096x512 .bf16) = truncf .bf16 (flat (padded96 (a0 m c))) bitsLt_bf16_f32 := by
  after_reads_simp
  rfl
theorem V_k : (V m c main_v5 : FVec F S4096x512 .bf16) = truncf .bf16 (flat (padded96 (a1 m c))) bitsLt_bf16_f32 := by
  after_reads_simp
  rfl
theorem V_v : (V m c main_v11 : FVec F S4096x1024 .f32)
    = concatenate S4096x1024 1 [⟨S4096x512, flat (padded64 (extractStridedSlice S4096x4x64 ![0, 0, 0] (a1 m c) slices_S4096x4x96_S4096x4x64_0_0_0))⟩,
        ⟨S4096x512, flat (padded64 (a2 m c))⟩] concatenates_S4096x512_S4096x512_S4096x1024_d1 := by
  after_reads_simp
  rfl
theorem V_w : (V m c main_v57 : FVec F S4096x512 .f32) = flat (padded64 (a3 m c)) := by
  after_reads_simp
  rfl
theorem V_o : (V m c main_v36 : FVec F S4096x512 .f32) = flat (padded64 (val_main_v39 (a0 m c) (a1 m c) (a2 m c))) := by
  after_reads_simp
  rfl

theorem V_l : (V m c main_v55 : FVec F S4x4096x1 .f32)
    = addf (broadcastInDim S4x4096x1 ![0, 1] bcast_S4x4096_S4x4096x1_0_1 (val_main_v10 (a0 m c) (a1 m c)))
        (Host.log (broadcastInDim S4x4096x1 ![0, 1] bcast_S4x4096_S4x4096x1_0_1 (Host.reduceAdd (Host.exp (subf (val_main_v9_0 (a0 m c) (a1 m c))
          (broadcastInDim S4x4096x4096 ![0, 1, 2] bcast_S4x4096x1_S4x4096x4096_0_1_2 (broadcastInDim S4x4096x1 ![0, 1] bcast_S4x4096_S4x4096x1_0_1 (val_main_v10 (a0 m c) (a1 m c))))))
          (constant S_ .f32 0x00000000#32 : FVec F S_ .f32) reducesTo_S4x4096x4096_S4x4096_d2 h_S_))) := by
  after_reads_simp
  rfl

end

/-- The largest score of a row, compared once more with negative infinity. -/
theorem v17_eq (x0 x1 : FVec Ideal S4096x4x96 .f32) : val_main_v17 (F := Ideal) x0 x1 = val_main_v10 (F := Ideal) x0 x1 := funext fun i => by
  rw [val_main_v17_apply, val_main_v16_apply, val_main_cst_3_apply]
  show max (Ideal.ofBits .f32 0xFF800000#32) _ = _
  rw [Cert.Kernel9Ideal.Ops.ofBits_bot, max_eq_right bot_le]

/-- A row's entry repeated along a last axis of one. -/
theorem bc_last (z : FVec Ideal S4x4096 .f32) (h : Fin 4) (n : Fin 4096) :
    broadcastInDim S4x4096x1 ![0, 1] bcast_S4x4096_S4x4096x1_0_1 z (ix3 h n 0) = z (ix2 h n) := by
  unfold broadcastInDim
  exact congrArg z (Cert.Reference9Ideal.Mla.eq2 _ h n rfl rfl)

theorem l_entry (z y : FVec Ideal S4x4096 .f32) (h : Fin 4) (n : Fin 4096) :
    addf (broadcastInDim S4x4096x1 ![0, 1] bcast_S4x4096_S4x4096x1_0_1 z)
      (Host.log (broadcastInDim S4x4096x1 ![0, 1] bcast_S4x4096_S4x4096x1_0_1 y)) (ix3 h n 0) = z (ix2 h n) + Ideal.log (y (ix2 h n)) :=
  congrArg₂ (· + ·) (bc_last z h n) (congrArg Ideal.log (bc_last y h n))

section
variable (m : (ℓ : Loc nD τ sig) → Buf (Elt Ideal) ℓ) (c : Dev nD)
  (q k : Fin 4 → ℕ → Fin 96 → ℝ) (v w : Fin 4 → ℕ → Fin 64 → ℝ)
  (hq : ∀ (n : Fin 4096) (h : Fin 4) (d : Fin 96), a0 m c (ix3 n h d) = (q h n.val d : EReal))
  (hk : ∀ (n : Fin 4096) (h : Fin 4) (d : Fin 96), a1 m c (ix3 n h d) = (k h n.val d : EReal))
  (hv : ∀ (n : Fin 4096) (h : Fin 4) (d : Fin 64), a2 m c (ix3 n h d) = (v h n.val d : EReal))
  (hw : ∀ (n : Fin 4096) (h : Fin 4) (d : Fin 64), a3 m c (ix3 n h d) = (w h n.val d : EReal))

include hq in
theorem q_arr (h : Fin 4) (n : Fin 4096) (d : Fin 128) (e : Fin 512) (he : e.val = 128 * h.val + d.val) :
    (V m c main_v2 : FVec Ideal S4096x512 .bf16) (ix2 n e) = (ext 128 q h n.val d : EReal) :=
  (congrFun (V_q m c) _).trans (flat96_real _ q hq n h d e he)

include hk in
theorem k_arr (h : Fin 4) (n : Fin 4096) (d : Fin 128) (e : Fin 512) (he : e.val = 128 * h.val + d.val) :
    (V m c main_v5 : FVec Ideal S4096x512 .bf16) (ix2 n e) = (ext 128 k h n.val d : EReal) :=
  (congrFun (V_k m c) _).trans (flat96_real _ k hk n h d e he)

include hv in
theorem v_arr (h : Fin 4) (n : Fin 4096) (d : Fin 128) (e : Fin 1024) (he : e.val = 512 + 128 * h.val + d.val) :
    (V m c main_v11 : FVec Ideal S4096x1024 .f32) (ix2 n e) = (ext 128 v h n.val d : EReal) :=
  (congrFun (V_v m c) _).trans ((concat_real _ _ n ⟨128 * h.val + d.val, by have := h.isLt; have := d.isLt; omega⟩ e
    (by rw [he]; show _ = 512 + (128 * h.val + d.val); omega)).trans (flat64_real _ v hv n h d _ rfl))

include hw in
theorem w_arr (h : Fin 4) (n : Fin 4096) (d : Fin 128) (e : Fin 512) (he : e.val = 128 * h.val + d.val) :
    (V m c main_v57 : FVec Ideal S4096x512 .f32) (ix2 n e) = (ext 128 w h n.val d : EReal) :=
  (congrFun (V_w m c) _).trans (flat64_real _ w hw n h d e he)

include hq hk hv in
theorem o_arr (h : Fin 4) (n : Fin 4096) (d : Fin 128) (e : Fin 512) (he : e.val = 128 * h.val + d.val) :
    (V m c main_v36 : FVec Ideal S4096x512 .f32) (ix2 n e) = (outR sg q k v h n.val d : EReal) := by
  refine (congrFun (V_o m c) _).trans ((flat64_real _ (fun h n d => outR sg q k v h n ⟨d.val, by have := d.isLt; omega⟩)
    (fun n h d => Cert.Reference9Ideal.Mla.v39_real _ _ _ q k v hq hk hv n h d) n h d e he).trans (congrArg (fun r : ℝ => (r : EReal)) ?_))
  by_cases hd : d.val < 64
  · exact ext_lo _ _ _ _ hd
  · rw [ext_hi _ _ _ _ hd]
    unfold outR
    rw [Finset.sum_eq_zero fun j _ => by rw [ext_hi _ _ _ _ hd, mul_zero], zero_div]

include hq hk in
theorem l_arr (h : Fin 4) (n : Fin 4096) : (V m c main_v55 : FVec Ideal S4x4096x1 .f32) (ix3 h n 0) = (lseR sg q k h n.val : EReal) := by
  obtain ⟨M, hM⟩ := Cert.Reference9Ideal.Mla.v10_real _ _ q k hq hk h n
  have hs := (Cert.Reference9Ideal.Mla.exps_at _ _ q k hq hk h n M hM).2
  unfold val_main_v31 val_main_v30 val_main_v29 val_main_v28 val_main_v27 at hs
  rw [v17_eq] at hs
  refine (congrFun (V_l m c) _).trans ((l_entry _ _ h n).trans ?_)
  rw [hM]
  exact (congrArg (fun r : EReal => (M : EReal) + Ideal.log r) hs).trans (St_lse M _ (total_pos sg (ext 128 q h) (ext 128 k h) n.val))

end

end Cert.Kernel10Ideal.Dq

end
-- ==== Proof.DqArr.lean ====
module

public import proofs.«01_k».proof.Proof.DqHost

@[expose] public section

set_option maxRecDepth 16384

noncomputable section

/-! The second attention's query gradient, entry by entry. -/

namespace Cert.Kernel10Ideal.Dq

open Idealize.ShloMosaic Idealize.ShloMosaic.ValueIdx Idealize.ShloMosaic.TcCoe Cert.Kernel10Ideal Cert.Kernel10Ideal.Gen
open Cert.FoxMath Cert.Mla
open Cert.Kernel9Ideal.Ops (sg)

/-- The grid point of head `h` and block `i`. -/
def pt (h : Fin 4) (i : Fin 8) : Fin cfg0.N := ⟨8 * h.val + i.val, by have := h.isLt; have := i.isLt; show _ < 32; omega⟩

theorem coords : ∀ (h : Fin 4) (i : Fin 8), ((grid0.coords (pt h i)) 1).val = i.val := by decide +kernel
theorem ix_5 : ∀ (h : Fin 4) (i : Fin 8), win0_5.index (pt h i) 0 = h.val ∧ win0_5.index (pt h i) 1 = i.val ∧ win0_5.index (pt h i) 2 = 0 := by decide +kernel
theorem fl_6 : ∀ t : Fin cfg0.N, (cfg0.win 6).flush t = true := by decide +kernel
theorem ix_0 : ∀ (h : Fin 4) (i : Fin 8), win0_0.index (pt h i) 0 = i.val ∧ win0_0.index (pt h i) 1 = h.val := by decide +kernel
theorem ix_1 : ∀ (h : Fin 4) (i : Fin 8), win0_1.index (pt h i) 0 = 0 ∧ win0_1.index (pt h i) 1 = h.val := by decide +kernel
theorem ix_3 : ∀ (h : Fin 4) (i : Fin 8), win0_3.index (pt h i) 0 = i.val ∧ win0_3.index (pt h i) 1 = h.val := by decide +kernel
theorem ix_4 : ∀ (h : Fin 4) (i : Fin 8), win0_4.index (pt h i) 0 = i.val ∧ win0_4.index (pt h i) 1 = h.val := by decide +kernel
theorem ix_6 : ∀ (h : Fin 4) (i : Fin 8), win0_6.index (pt h i) 0 = i.val ∧ win0_6.index (pt h i) 1 = h.val := by decide +kernel
theorem ix_2 : ∀ (h : Fin 4) (i : Fin 8), win0_2.index (pt h i) 0 = 0 ∧ win0_2.index (pt h i) 1 = 4 + h.val := by decide +kernel

section
variable {F : FTy → Type} [FloatOps F] (m : (ℓ : Loc nD τ sig) → Buf (Elt F) ℓ) (c : Dev nD)

theorem iblk_0 (h : Fin 4) (i : Fin 8) (a : Fin 512) (d : Fin 128) (n : Fin 4096) (e : Fin 512) (hn : n.val = 512 * i.val + a.val) (he : e.val = 128 * h.val + d.val) :
    (iblk m c 0 (pt h i) : FVec F S512x128 .bf16) (ix2 a d) = (V m c main_v2 : FVec F S4096x512 .bf16) (ix2 n e) := by
  unfold iblk
  rw [View.read_apply]
  show V m c main_v2 _ = V m c main_v2 _
  congr 1
  funext x
  apply Fin.ext
  match x with
  | ⟨0, _⟩ => show win0_0.index (pt h i) 0 * 512 + 1 * a.val = n.val; rw [(ix_0 h i).1]; omega
  | ⟨1, _⟩ => show win0_0.index (pt h i) 1 * 128 + 1 * d.val = e.val; rw [(ix_0 h i).2]; omega

theorem iblk_3 (h : Fin 4) (i : Fin 8) (a : Fin 512) (d : Fin 128) (n : Fin 4096) (e : Fin 512) (hn : n.val = 512 * i.val + a.val) (he : e.val = 128 * h.val + d.val) :
    (iblk m c 3 (pt h i) : FVec F S512x128 .f32) (ix2 a d) = (V m c main_v36 : FVec F S4096x512 .f32) (ix2 n e) := by
  unfold iblk
  rw [View.read_apply]
  show V m c main_v36 _ = V m c main_v36 _
  congr 1
  funext x
  apply Fin.ext
  match x with
  | ⟨0, _⟩ => show win0_3.index (pt h i) 0 * 512 + 1 * a.val = n.val; rw [(ix_3 h i).1]; omega
  | ⟨1, _⟩ => show win0_3.index (pt h i) 1 * 128 + 1 * d.val = e.val; rw [(ix_3 h i).2]; omega

theorem iblk_4 (h : Fin 4) (i : Fin 8) (a : Fin 512) (d : Fin 128) (n : Fin 4096) (e : Fin 512) (hn : n.val = 512 * i.val + a.val) (he : e.val = 128 * h.val + d.val) :
    (iblk m c 4 (pt h i) : FVec F S512x128 .f32) (ix2 a d) = (V m c main_v57 : FVec F S4096x512 .f32) (ix2 n e) := by
  unfold iblk
  rw [View.read_apply]
  show V m c main_v57 _ = V m c main_v57 _
  congr 1
  funext x
  apply Fin.ext
  match x with
  | ⟨0, _⟩ => show win0_4.index (pt h i) 0 * 512 + 1 * a.val = n.val; rw [(ix_4 h i).1]; omega
  | ⟨1, _⟩ => show win0_4.index (pt h i) 1 * 128 + 1 * d.val = e.val; rw [(ix_4 h i).2]; omega

theorem iblk_1 (h : Fin 4) (i : Fin 8) (a : Fin 4096) (d : Fin 128) (e : Fin 512) (he : e.val = 128 * h.val + d.val) :
    (iblk m c 1 (pt h i) : FVec F S4096x128 .bf16) (ix2 a d) = (V m c main_v5 : FVec F S4096x512 .bf16) (ix2 a e) := by
  unfold iblk
  rw [View.read_apply]
  show V m c main_v5 _ = V m c main_v5 _
  congr 1
  funext x
  apply Fin.ext
  match x with
  | ⟨0, _⟩ => show win0_1.index (pt h i) 0 * 4096 + 1 * a.val = a.val; rw [(ix_1 h i).1]; omega
  | ⟨1, _⟩ => show win0_1.index (pt h i) 1 * 128 + 1 * d.val = e.val; rw [(ix_1 h i).2]; omega

theorem iblk_2 (h : Fin 4) (i : Fin 8) (a : Fin 4096) (d : Fin 128) (e : Fin 1024) (he : e.val = 512 + 128 * h.val + d.val) :
    (iblk m c 2 (pt h i) : FVec F S4096x128 .f32) (ix2 a d) = (V m c main_v11 : FVec F S4096x1024 .f32) (ix2 a e) := by
  unfold iblk
  rw [View.read_apply]
  show V m c main_v11 _ = V m c main_v11 _
  congr 1
  funext x
  apply Fin.ext
  match x with
  | ⟨0, _⟩ => show win0_2.index (pt h i) 0 * 4096 + 1 * a.val = a.val; rw [(ix_2 h i).1]; omega
  | ⟨1, _⟩ => show win0_2.index (pt h i) 1 * 128 + 1 * d.val = e.val; rw [(ix_2 h i).2]; omega

theorem iblk_5 (h : Fin 4) (i : Fin 8) (a : Fin 512) (n : Fin 4096) (hn : n.val = 512 * i.val + a.val) :
    (iblk m c 5 (pt h i) : FVec F S1x512x1 .f32) (ix3 0 a 0) = (V m c main_v55 : FVec F S4x4096x1 .f32) (ix3 h n 0) := by
  unfold iblk
  rw [View.read_apply]
  show V m c main_v55 _ = V m c main_v55 _
  congr 1
  funext x
  apply Fin.ext
  match x with
  | ⟨0, _⟩ => show win0_5.index (pt h i) 0 * 1 + 1 * 0 = h.val; rw [(ix_5 h i).1]; omega
  | ⟨1, _⟩ => show win0_5.index (pt h i) 1 * 512 + 1 * a.val = n.val; rw [(ix_5 h i).2.1]; omega
  | ⟨2, _⟩ => show win0_5.index (pt h i) 2 * 1 + 1 * 0 = 0; rw [(ix_5 h i).2.2]

/-- An entry of the result is its block's. -/
theorem dq_apply (h : Fin 4) (i : Fin 8) (a : Fin 512) (d : Fin 128) (n : Fin 4096) (e : Fin 512) (hn : n.val = 512 * i.val + a.val)
    (he : e.val = 128 * h.val + d.val) :
    ((dats m 0 c).arrAt 6 cfg0.N : FVec F S4096x512 .f32) (ix2 n e) = (outsAt0 m c (pt h i)).1 (ix2 a d) := by
  have hb := congrFun (Cert.Kernel10Ideal.Value.blocks6 m c (pt h i) (fl_6 _)) (ix2 a d : S512x128.Idx)
  rw [View.read_apply] at hb
  refine Eq.trans ?_ (hb.trans ?_)
  · show ((dats m 0 c).arrAt 6 cfg0.N : FVec F S4096x512 .f32) _ = ((dats m 0 c).arrAt 6 cfg0.N : FVec F S4096x512 .f32) _
    congr 1
    funext x
    apply Fin.ext
    match x with
    | ⟨0, _⟩ => show n.val = win0_6.index (pt h i) 0 * 512 + 1 * a.val; rw [(ix_6 h i).1]; omega
    | ⟨1, _⟩ => show e.val = win0_6.index (pt h i) 1 * 128 + 1 * d.val; rw [(ix_6 h i).2]; omega
  · rw [Cert.Kernel10Ideal.Value.flushed6]; rfl

end

section
variable (m : (ℓ : Loc nD τ sig) → Buf (Elt Ideal) ℓ) (c : Dev nD)
  (q k : Fin 4 → ℕ → Fin 96 → ℝ) (v w : Fin 4 → ℕ → Fin 64 → ℝ)
  (hq : ∀ (n : Fin 4096) (h : Fin 4) (d : Fin 96), a0 m c (ix3 n h d) = (q h n.val d : EReal))
  (hk : ∀ (n : Fin 4096) (h : Fin 4) (d : Fin 96), a1 m c (ix3 n h d) = (k h n.val d : EReal))
  (hv : ∀ (n : Fin 4096) (h : Fin 4) (d : Fin 64), a2 m c (ix3 n h d) = (v h n.val d : EReal))
  (hw : ∀ (n : Fin 4096) (h : Fin 4) (d : Fin 64), a3 m c (ix3 n h d) = (w h n.val d : EReal))

include hq hk hv hw in
/-- The queries' gradient. -/
theorem res_dq (h : Fin 4) (n : Fin 4096) (d : Fin 128) (e : Fin 512) (he : e.val = 128 * h.val + d.val) :
    ((dats m 0 c).arrAt 6 cfg0.N : FVec Ideal S4096x512 .f32) (ix2 n e)
      = (((∑ j ∈ Finset.range 4096, dsR sg q k v w h n.val j * ext 128 k h j d) * sg : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  have row : ∀ a : Fin 512, 512 * i.val + a.val < 4096 := fun a => by have := a.isLt; have := i.isLt; omega
  have col : ∀ d : Fin 128, 128 * h.val + d.val < 512 := fun d => by have := h.isLt; have := d.isLt; omega
  have col' : ∀ d : Fin 128, 512 + 128 * h.val + d.val < 1024 := fun d => by have := col d; omega
  rw [dq_apply m c h i a d n e hia he, hia]
  dsimp only [outsAt0]
  rw [out0_6_eq, coords]
  exact dq_real (ext 128 q h) (ext 128 k h) (ext 128 v h) (ext 128 w h) (outR sg q k v h) (lseR sg q k h) (delR sg q k v w h) i.val _ _ _ _ _ _
    (fun a d => (iblk_0 m c h i a d ⟨_, row a⟩ ⟨_, col d⟩ rfl rfl).trans (q_arr m c q hq h _ d _ rfl))
    (fun a d => (iblk_1 m c h i a d ⟨_, col d⟩ rfl).trans (k_arr m c k hk h _ d _ rfl))
    (fun a d => (iblk_2 m c h i a d ⟨_, col' d⟩ rfl).trans (v_arr m c v hv h _ d _ rfl))
    (fun a d => (iblk_3 m c h i a d ⟨_, row a⟩ ⟨_, col d⟩ rfl rfl).trans (o_arr m c q k v hq hk hv h _ d _ rfl))
    (fun a d => (iblk_4 m c h i a d ⟨_, row a⟩ ⟨_, col d⟩ rfl rfl).trans (w_arr m c w hw h _ d _ rfl))
    (fun a => (iblk_5 m c h i a ⟨_, row a⟩ rfl).trans (l_arr m c q k hq hk h _))
    (fun _ => rfl) i.isLt a d

end

end Cert.Kernel10Ideal.Dq

end
-- ==== Proof.Prod10.lean ====
module

public import proofs.«01_k».proof.Proof.Prod9
public import proofs.«01_k».proof.Proof.DqArr
public import proofs.«01_k».proof.Proof.Gen.Reference10Ideal.Run
public import proofs.«01_k».proof.Proof.Gen.Reference10Ideal.Read

@[expose] public section

set_option maxRecDepth 16384

noncomputable section

/-! The second attention's query gradient: the kernel's result is the reference's. -/

namespace Cert.Dq

open Idealize.ShloMosaic Idealize.SL.Sem Idealize.ShloMosaic.TcCoe Idealize.ShloMosaic.ValueIdx Cert.FoxMath Cert.Mla
open Cert.Fox (inf_f32 val3 val3_eq)
open Cert.Kernel10Ideal.Dq (a0 a1 a2 a3)
open Cert.Kernel9Ideal.Ops (sg ofBits_sg)
open Cert.Reference9Ideal.Mla (eq3 idx65 lanes96 v56_real)
open Cert.Reference10Ideal Cert.Reference10Ideal.Read

/-- The reference runs and leaves its arguments unchanged: its generated run, read at the arguments; it declares no semaphore. -/
theorem frame_ref : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

section
variable (x0 x1 : FVec Ideal S4096x4x96 .f32) (x2 x3 : FVec Ideal S4096x4x64 .f32)
  (q k : Fin 4 → ℕ → Fin 96 → ℝ) (v w : Fin 4 → ℕ → Fin 64 → ℝ)
  (h0 : ∀ (n : Fin 4096) (h : Fin 4) (d : Fin 96), x0 (ix3 n h d) = (q h n.val d : EReal))
  (h1 : ∀ (n : Fin 4096) (h : Fin 4) (d : Fin 96), x1 (ix3 n h d) = (k h n.val d : EReal))
  (h2 : ∀ (n : Fin 4096) (h : Fin 4) (d : Fin 64), x2 (ix3 n h d) = (v h n.val d : EReal))
  (h3 : ∀ (n : Fin 4096) (h : Fin 4) (d : Fin 64), x3 (ix3 n h d) = (w h n.val d : EReal))

/-- The scores' gradients are the ones the other two gradients are taken from. -/
theorem v56_eq : val_main_v56 (F := Ideal) x0 x1 x2 x3 = Cert.Reference9Ideal.Read.val_main_v56 (F := Ideal) x0 x1 x2 x3 := rfl

include h0 h1 h2 h3 in
/-- The queries' gradient. -/
theorem ref_dq (n : Fin 4096) (h : Fin 4) (d : Fin 128) (e : Fin 512) (he : e.val = 128 * h.val + d.val) :
    val_main_v65 (F := Ideal) x0 x1 x2 x3 (ix2 n e)
      = (((∑ j ∈ Finset.range 4096, dsR sg q k v w h n.val j * ext 128 k h j d) * sg : ℝ) : EReal) := by
  rw [val_main_v65_apply, show idx_main_v65 (ix2 n e) = ix3 n h d from idx65 n h d e he]
  unfold val_main_v64
  refine lanes96 _ _ (fun i => Ideal.ofBits_zero_f32) _ n h d (fun hd => ?_) fun hd => ?_
  · rw [val_main_v62_apply, val_main_v61_apply, Finset.sum_mul, Finset.sum_range]
    refine sum_eq_coe _ _ _ fun j _ => ?_
    rw [eq3 (lidx_main_v61 (idx_main_v62 (ix3 n h ⟨d.val, hd⟩)) j) h n j rfl rfl rfl,
      eq3 (ridx_main_v61 (idx_main_v62 (ix3 n h ⟨d.val, hd⟩)) j) j h ⟨d.val, hd⟩ rfl rfl rfl,
      h1, val_main_v58_apply, v56_eq, v56_real x0 x1 x2 x3 q k v w h0 h1 h2 h3, val_main_v57_apply, val_main_cst_13_apply]
    show _ * Ideal.ofBits .f32 0x3DD105EC#32 * _ = _
    rw [ofBits_sg, ← EReal.coe_mul, ← EReal.coe_mul, ext_lo _ _ _ _ hd]
    refine congrArg (fun r : ℝ => (r : EReal)) ?_
    ring
  · rw [Finset.sum_eq_zero fun j _ => by rw [ext_hi _ _ _ _ hd, mul_zero], zero_mul]

end

/-- The kernel's result and the reference's are the same array, of arguments that are real. -/
theorem agree (m : (ℓ : Loc Cert.Kernel10Ideal.nD Cert.Kernel10Ideal.τ Cert.Kernel10Ideal.sig) → Buf (Elt Ideal) ℓ)
    (hpre : Cert.Pre_Kernel10Ideal_finite9 (hPre_finite9 := Cert.Mla.facts) m) (c : Dev Cert.Kernel10Ideal.nD) :
    val_main_v65 (F := Ideal) (a0 m c) (a1 m c) (a2 m c) (a3 m c)
      = (Cert.Kernel10Ideal.Gen.dats m 0 c).arrAt 6 Cert.Kernel10Ideal.cfg0.N := by
  obtain ⟨p0, p1, p2, p3⟩ := hpre c
  have h0 := val96_eq (a0 m c) _ (fun _ => inf_f32) p0
  have h1 := val96_eq (a1 m c) _ (fun _ => inf_f32) p1
  have h2 := val3_eq (a2 m c) _ (fun _ => inf_f32) p2
  have h3 := val3_eq (a3 m c) _ (fun _ => inf_f32) p3
  refine funext fun i => ?_
  obtain ⟨n, e, rfl⟩ : ∃ n e, i = ix2 n e := ⟨i 0, i 1, funext fun a => by match a with | ⟨0, _⟩ => rfl | ⟨1, _⟩ => rfl⟩
  obtain ⟨h, d, he⟩ := column e
  exact (ref_dq _ _ _ _ _ _ _ _ h0 h1 h2 h3 n h d e he).trans (Cert.Kernel10Ideal.Dq.res_dq m c _ _ _ _ h0 h1 h2 h3 h n d e he).symm

/-- The kernel and the reference end with equal results. -/
theorem value : Cert.algebraic_Kernel10Ideal_Reference10Ideal_pre_finite9 (hKernel10Ideal := Cert.Kernel10Ideal.Gen.facts)
    (hReference10Ideal := Cert.Reference10Ideal.Gen.facts) (hPre_finite9 := Cert.Mla.facts) := fun m ρ m' ρ' hpre hag =>
  ⟨fun c => (Cert.Kernel10Ideal.Gen.dats m 0 c).arrAt 6 Cert.Kernel10Ideal.cfg0.N,
    (θ_run Cert.Kernel10Ideal.defs _ _).mono (fun _ h c => ⟨(h c).1, (h c).2.2.2⟩) (Cert.Kernel10Ideal.Value.run_blocks (F := Ideal) m ρ),
    (θ_run Cert.Reference10Ideal.defs _ _).mono (fun _ h c => by
      obtain ⟨g0, g1, g2, g3⟩ := hag c
      refine ⟨(h c).1.trans ?_, (h c).2⟩
      rw [val_main_v65_eq, g0, g1, g2, g3]
      exact agree m hpre c)
      (Cert.Reference10Ideal.Value.run (F := Ideal) m' ρ')⟩

end Cert.Dq

end
-- ==== Proof.DqFox.lean ====
module

public import proofs.«01_k».proof.Proof.Gen.Kernel11Ideal.Frame
public import proofs.«01_k».proof.Proof.Fwd

@[expose] public section

set_option maxRecDepth 16384

noncomputable section

/-! The block of the forgetting attention's query gradient: its loop's state after `n` key tiles, and the stored block as
    the last step's payload of that state. -/

namespace Cert.Kernel11Ideal.Gen

open Idealize.ShloMosaic Idealize.ShloMosaic.ValueIdx Idealize.SL.Sem
open Cert.KernelIdeal.Gen (tile rowOf ld_tile ld_row)

variable {F : FTy → Type} [FloatOps F]

/-- The loop's state: the query gradient's rows and the score gradients' row sums. -/
abbrev QSt (F : FTy → Type) := FVec F S512x128 .f32 × FVec F S512x1 .f32

/-- One trip of the loop, on key tile `n`. -/
def dqStep (x0 : Vec F S512x128 .f32) (x1 x2 : Vec F S4096x128 .f32) (x3 x4 : Vec F S512x128 .f32) (x5 : Vec F S1x512x1 .f32) (x6 : Vec F S1x8x1x512 .f32) (n : ℕ) (a : QSt F) : QSt F :=
  (k0_pay14 x0 x4 x3 x5 a.1 (tile x1 n) (tile x2 n) (rowOf x6 n), k0_pay15 x0 x4 x3 x5 a.2 (tile x1 n) (tile x2 n) (rowOf x6 n))

/-- The loop's state after `n` key tiles. -/
def dqSt (x0 : Vec F S512x128 .f32) (x1 x2 : Vec F S4096x128 .f32) (x3 x4 : Vec F S512x128 .f32) (x5 : Vec F S1x512x1 .f32) (x6 : Vec F S1x8x1x512 .f32) : ℕ → QSt F
  | 0 => (k0_pay10, k0_pay11)
  | n + 1 => dqStep x0 x1 x2 x3 x4 x5 x6 n (dqSt x0 x1 x2 x3 x4 x5 x6 n)

theorem trips0_1 : ∀ i : grid0.Coords, (k0_t1_loop i).trips = (i 1).val := by decide +kernel

theorem trips0_2 : ∀ i : grid0.Coords, (k0_t2_loop i).trips = 0 := by decide +kernel

section
variable (𝒱 : Variants) (c : Dev nD) (bd : Option 𝒱.V) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512x1 .f32) (harg7 : arg7.IsWhole) (arg8 : Memref sig .tc .vmem S1x8x1x512 .f32) (harg8 : arg8.IsWhole) (arg9 : Memref sig .tc .vmem S512x128 .f32) (harg9 : arg9.IsWhole) (arg10 : Memref sig .tc .vmem S1x512x1 .f32) (harg10 : arg10.IsWhole) (arg11 : Memref sig .tc .vmem S1x512x1 .f32) (harg11 : arg11.IsWhole)
  (x0 : Vec F S512x128 .f32) (x1 x2 : Vec F S4096x128 .f32) (x3 x4 : Vec F S512x128 .f32) (x5 : Vec F S1x512x1 .f32) (x6 : Vec F S1x8x1x512 .f32)

theorem trip0_eq (k : Fin (k0_t1_loop i).trips) (acc : QSt F) :
    tripR_k0_t1 (F := F) 𝒱 c bd i arg2 harg2 arg3 harg3 arg4 harg4 arg5 harg5 arg6 harg6 arg7 harg7 arg8 harg8 arg9 harg9 arg10 harg10 arg11 harg11 x0 x4 x3 x5 (harg3.unread x1) (harg4.unread x2) (harg8.unread x6) k acc = dqStep x0 x1 x2 x3 x4 x5 x6 k.val acc := by
  unfold tripR_k0_t1 trip_k0_t1
  simp only [View.readAt_eq_ld, harg3.read_unread, harg4.read_unread, harg8.read_unread]
  rw [ld_tile x1 _ _ k.val (k0_off1_eq i k), ld_tile x2 _ _ k.val (k0_off1_eq i k), ld_row x6 _ _ k.val (k0_off2_eq i k)]
  rfl

theorem st0_eq (n : ℕ) (hn : n ≤ (k0_t1_loop i).trips) :
    st_k0_t1 (F := F) 𝒱 c bd i arg2 harg2 arg3 harg3 arg4 harg4 arg5 harg5 arg6 harg6 arg7 harg7 arg8 harg8 arg9 harg9 arg10 harg10 arg11 harg11 x0 x4 x3 x5 (harg3.unread x1) (harg4.unread x2) (harg8.unread x6) (k0_pay10, k0_pay11) n = dqSt x0 x1 x2 x3 x4 x5 x6 n := by
  induction n with
  | zero => rfl
  | succ n ih =>
    rw [st_k0_t1_succ (F := F) 𝒱 c bd i arg2 harg2 arg3 harg3 arg4 harg4 arg5 harg5 arg6 harg6 arg7 harg7 arg8 harg8 arg9 harg9 arg10 harg10 arg11 harg11 x0 x4 x3 x5 (harg3.unread x1) (harg4.unread x2) (harg8.unread x6) (k0_pay10, k0_pay11) ⟨n, hn⟩,
      trip0_eq, ih (Nat.le_of_succ_le hn)]
    rfl

theorem stEnd0_eq :
    st_k0_t2 (F := F) 𝒱 c bd i arg2 harg2 arg3 harg3 arg4 harg4 arg5 harg5 arg6 harg6 arg7 harg7 arg8 harg8 arg9 harg9 arg10 harg10 arg11 harg11 x0 x4 x3 x5 (harg3.unread x1) (harg4.unread x2) (harg8.unread x6)
        (st_k0_t1 (F := F) 𝒱 c bd i arg2 harg2 arg3 harg3 arg4 harg4 arg5 harg5 arg6 harg6 arg7 harg7 arg8 harg8 arg9 harg9 arg10 harg10 arg11 harg11 x0 x4 x3 x5 (harg3.unread x1) (harg4.unread x2) (harg8.unread x6) (k0_pay10, k0_pay11) (k0_t1_loop i).trips)
        (k0_t2_loop i).trips
      = dqSt x0 x1 x2 x3 x4 x5 x6 (i 1).val := by
  rw [trips0_2, st_k0_t2_zero, st0_eq (hn := le_rfl), trips0_1]

theorem ld_x (a : Memref sig .tc .vmem S512x128 .f32) (ha : a.IsWhole) (x : Vec F S512x128 .f32) :
    View.readAt (Elt F) a.view (Rect.unit ![0, 0] ![512, 128] inb_S512x128_S512x128_0_0).toLoadRect (ha.unread x) = x := by
  rw [View.readAt_eq_ld, ha.read_unread]
  exact View.ld_unit_zero (S := S512x128) (by decide) inb_S512x128_S512x128_0_0 x

theorem ld_x5 : View.readAt (Elt F) arg7.view (Rect.unit ![0, 0, 0] ![1, 512, 1] inb_S1x512x1_S1x512x1_0_0_0).toLoadRect (harg7.unread x5) = x5 := by
  rw [View.readAt_eq_ld, harg7.read_unread]
  exact View.ld_unit_zero (S := S1x512x1) (by decide) inb_S1x512x1_S1x512x1_0_0_0 x5

theorem ld_x6 : View.readAt (Elt F) arg8.view (Rect.unit (k0_off6 i) ![1, 1, 1, 512] (k0_off6_inb i)).toLoadRect (harg8.unread x6) = rowOf x6 (i 1).val := by
  rw [View.readAt_eq_ld, harg8.read_unread]; exact ld_row x6 _ _ _ (k0_off6_eq i)

theorem r0_4_eq : kernelRun0_A.sl.r_4 c i arg2 harg2 arg3 harg3 arg4 harg4 arg5 harg5 arg6 harg6 arg7 harg7 arg8 harg8 arg9 harg9 arg10 harg10 arg11 harg11 x0 x1 x2 x3 x4 x5 x6 = (dqSt x0 x1 x2 x3 x4 x5 x6 (i 1).val).1 := by
  unfold kernelRun0_A.sl.r_4
  rw [ld_x, ld_x, ld_x, ld_x5]
  exact congrArg (·.1) (stEnd0_eq Variants.none c none i arg2 harg2 arg3 harg3 arg4 harg4 arg5 harg5 arg6 harg6 arg7 harg7 arg8 harg8 arg9 harg9 arg10 harg10 arg11 harg11 x0 x1 x2 x3 x4 x5 x6)

theorem r0_6_eq : kernelRun0_A.sl.r_6 i arg3 harg3 x1 = k0_pay20 (tile x1 (i 1).val) := by
  unfold kernelRun0_A.sl.r_6
  rw [View.readAt_eq_ld, harg3.read_unread]
  exact congrArg k0_pay20 (ld_tile x1 _ _ (i 1).val (k0_off5_eq i))

theorem r0_7_eq : kernelRun0_A.sl.r_7 i arg4 harg4 x2 = k0_pay21 (tile x2 (i 1).val) := by
  unfold kernelRun0_A.sl.r_7
  rw [View.readAt_eq_ld, harg4.read_unread]
  exact congrArg k0_pay21 (ld_tile x2 _ _ (i 1).val (k0_off5_eq i))

/-- The query gradient's block the body stores. -/
theorem out0_7_eq :
    out0_A_7 c i arg2 harg2 arg3 harg3 arg4 harg4 arg5 harg5 arg6 harg6 arg7 harg7 arg8 harg8 arg9 harg9 arg10 harg10 arg11 harg11 x0 x1 x2 x3 x4 x5 x6
      = k0_pay2 (k0_pay5 x0) (k0_pay7 x4 x3) (k0_pay8 x4) (k0_pay9 x5) (dqSt x0 x1 x2 x3 x4 x5 x6 (i 1).val).1 (k0_pay20 (tile x1 (i 1).val))
          (k0_pay21 (tile x2 (i 1).val)) (rowOf x6 (i 1).val) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  refine (View.canon_unit_zero (S := S512x128) (by decide) inb_S512x128_S512x128_0_0 _).trans ?_
  rw [r0_4_eq, r0_6_eq, r0_7_eq]
  unfold kernelRun0_A.sl.r kernelRun0_A.sl.r_1 kernelRun0_A.sl.r_2 kernelRun0_A.sl.r_3
  simp only [ld_x, ld_x5, ld_x6]
end

end Cert.Kernel11Ideal.Gen

end
-- ==== Proof.DqFoxReal.lean ====
module

public import proofs.«01_k».proof.Proof.DqFox
public import proofs.«01_k».proof.Proof.DkvReal
public import proofs.«01_k».proof.Proof.DqReal

@[expose] public section

set_option maxRecDepth 16384

noncomputable section

/-! The first attention's query gradient over real inputs: the loop's state as sums over the keys seen so far, and the
    stored block as sums over all of them. -/

namespace Cert.Kernel11Ideal.Dq

open Idealize.ShloMosaic Idealize.ShloMosaic.ValueIdx Cert.Kernel11Ideal Cert.Kernel11Ideal.Gen Cert.FoxMath
open Cert.KernelIdeal.Gen (tile rowOf)
open Cert.KernelIdeal.Ops (ofBits_eighth ofBits_bot mm_nt mm_pv bc_col512 bc_row cast_row4')
open Cert.KernelIdeal.Fox (score prob dsc dsc_zero exp_sub' add_tile tile_real rowOf_real)

theorem pay5_apply (x : FVec Ideal S512x128 .f32) (a : Fin 512) (d : Fin 128) :
    k0_pay5 (F := Ideal) x (ix2 a d) = x (ix2 a d) * ((0.125 : ℝ) : EReal) := by
  unfold k0_pay5
  simp only [shapeCast_self]
  exact congrArg (x (ix2 a d) * ·) ofBits_eighth

/-- The row sums of the output with its cotangent. -/
theorem pay7_apply (w o : FVec Ideal S512x128 .f32) (a : Fin 512) :
    k0_pay7 (F := Ideal) w o (ix2 a 0) = ∑ d : Fin 128, w (ix2 a d) * o (ix2 a d) := Cert.Kernel10Ideal.Dq.pay7_apply w o a

theorem pay8_apply (w : FVec Ideal S512x128 .f32) (a : Fin 512) (d : Fin 128) : k0_pay8 (F := Ideal) w (ix2 a d) = w (ix2 a d) :=
  Cert.Kernel10Ideal.Dq.pay8_apply w a d

theorem pay9_apply (l : FVec Ideal S1x512x1 .f32) (a : Fin 512) : k0_pay9 (F := Ideal) l (ix2 a 0) = l (ix3 0 a 0) :=
  Cert.Kernel10Ideal.Dq.pay9_apply l a

/-- The scores of a tile. -/
theorem sc_apply (x : FVec Ideal S512x128 .f32) (k : FVec Ideal S512x128 .bf16) (c : FVec Ideal S1x1x1x512 .f32) (a b : Fin 512) :
    subf (matmul dot_S512x128_S512x128_S512x512_1_1_0_0_n_n none (k0_pay5 (F := Ideal) x) k (constant S512x512 .f32 0x00000000#32))
        (broadcastTo S512x512 (shapeCast S1x512 c shapeCasts_S1x1x1x512_S1x512) broadcasts_S1x512_S512x512) (ix2 a b)
      = (∑ d : Fin 128, x (ix2 a d) * ((0.125 : ℝ) : EReal) * k (ix2 b d)) - c (ix4 0 0 0 b) := by
  refine congrArg₂ (· - ·) ((mm_nt _ _ a b).trans ?_) ((bc_row ..).trans (cast_row4' ..))
  simp only [pay5_apply]

/-- A tile's score gradients, from its probabilities. -/
theorem ds_apply (P : FVec Ideal S512x512 .f32) (w : FVec Ideal S512x128 .f32) (v : FVec Ideal S512x128 .bf16) (D : FVec Ideal S512x1 .f32) (a b : Fin 512) :
    mulf P (subf (matmul dot_S512x128_S512x128_S512x512_1_1_0_0_n_n none (k0_pay8 (F := Ideal) w) v (constant S512x512 .f32 0x00000000#32))
        (broadcastTo S512x512 D broadcasts_S512x1_S512x512)) (ix2 a b)
      = P (ix2 a b) * ((∑ d : Fin 128, w (ix2 a d) * v (ix2 b d)) - D (ix2 a 0)) := by
  refine congrArg (P (ix2 a b) * ·) (congrArg₂ (· - ·) ((mm_nt _ _ a b).trans ?_) (bc_col512 ..))
  simp only [pay8_apply]

/-- A step's addition to the query gradient. -/
theorem pv_apply (acc : FVec Ideal S512x128 .f32) (P : FVec Ideal S512x512 .f32) (hb) (k : FVec Ideal S512x128 .bf16) (a : Fin 512) (d : Fin 128) :
    addf acc (matmul dot_S512x512_S512x128_S512x128_1_0_0_1_n_n none (truncf .bf16 P hb) k (constant S512x128 .f32 0x00000000#32)) (ix2 a d)
      = acc (ix2 a d) + ∑ b : Fin 512, P (ix2 a b) * k (ix2 b d) := congrArg (acc (ix2 a d) + ·) (mm_pv ..)

theorem pay13_apply (x w o : FVec Ideal S512x128 .f32) (l : FVec Ideal S1x512x1 .f32) (k v : FVec Ideal S512x128 .f32) (c : FVec Ideal S1x1x1x512 .f32)
    (a b : Fin 512) :
    k0_pay13 (F := Ideal) x w o l k v c (ix2 a b)
      = Ideal.exp ((∑ d : Fin 128, x (ix2 a d) * ((0.125 : ℝ) : EReal) * k (ix2 b d)) - c (ix4 0 0 0 b) - l (ix3 0 a 0))
          * ((∑ d : Fin 128, w (ix2 a d) * v (ix2 b d)) - ∑ d : Fin 128, w (ix2 a d) * o (ix2 a d)) := by
  unfold k0_pay13 k0_pay12
  simp only [shapeCast_self]
  refine (ds_apply _ w (truncf .bf16 v bitsLt_bf16_f32) _ a b).trans ?_
  rw [pay7_apply]
  refine congrArg (· * _) (congrArg Ideal.exp (congrArg₂ (· - ·) (sc_apply x (truncf .bf16 k bitsLt_bf16_f32) c a b) ?_))
  exact (bc_col512 ..).trans (pay9_apply l a)

theorem pay14_apply (x w o : FVec Ideal S512x128 .f32) (l : FVec Ideal S1x512x1 .f32) (acc : FVec Ideal S512x128 .f32) (k v : FVec Ideal S512x128 .f32)
    (c : FVec Ideal S1x1x1x512 .f32) (a : Fin 512) (d : Fin 128) :
    k0_pay14 (F := Ideal) x w o l acc k v c (ix2 a d)
      = acc (ix2 a d) + ∑ b : Fin 512, k0_pay13 (F := Ideal) x w o l k v c (ix2 a b) * k (ix2 b d) := by
  unfold k0_pay14 k0_pay12
  simp only [shapeCast_self]
  exact pv_apply _ _ _ (truncf .bf16 k bitsLt_bf16_f32) a d

/-- The score gradients of the diagonal tile. -/
theorem pay1_apply (x w o : FVec Ideal S512x128 .f32) (l : FVec Ideal S1x512x1 .f32) (k v : FVec Ideal S512x128 .f32) (c : FVec Ideal S1x1x1x512 .f32)
    (a b : Fin 512) :
    k0_pay1 (F := Ideal) (k0_pay5 x) (k0_pay7 w o) (k0_pay8 w) (k0_pay9 l) (k0_pay20 k) (k0_pay21 v) c (ix2 a b)
      = Ideal.exp ((if b.val ≤ a.val then (∑ d : Fin 128, x (ix2 a d) * ((0.125 : ℝ) : EReal) * k (ix2 b d)) - c (ix4 0 0 0 b) else ⊥) - l (ix3 0 a 0))
          * ((∑ d : Fin 128, w (ix2 a d) * v (ix2 b d)) - ∑ d : Fin 128, w (ix2 a d) * o (ix2 a d)) := by
  have hm : cmpi .sle (iota .tc S512x512 32 [1] iota_S512x512_d1_w32) (iota .tc S512x512 32 [0] iota_S512x512_d0_w32) (ix2 a b)
      = BitVec.ofBool (decide (b.val ≤ a.val)) := by
    show IntOp.cmpi .sle (BitVec.ofNat 32 (0 * 512 + b.val)) (BitVec.ofNat 32 (0 * 512 + a.val)) = _
    simp only [Nat.zero_mul, Nat.zero_add]
    exact WordCmp.cmpi_sle_ofNat (by omega) (by omega)
  unfold k0_pay1 k0_pay20 k0_pay21
  simp only [shapeCast_self]
  refine (ds_apply _ w (truncf .bf16 v bitsLt_bf16_f32) _ a b).trans ?_
  rw [pay7_apply]
  refine congrArg (· * _) (congrArg Ideal.exp (congrArg₂ (· - ·) ?_ ((bc_col512 ..).trans (pay9_apply l a))))
  rw [select_apply, hm]
  by_cases h : b.val ≤ a.val
  · rw [if_pos h, decide_eq_true h]; exact sc_apply x (truncf .bf16 k bitsLt_bf16_f32) c a b
  · rw [if_neg h, decide_eq_false h]; exact ofBits_bot

section
variable (Q K V W O : ℕ → Fin 128 → ℝ) (C L D : ℕ → ℝ) (i : ℕ)
  (x0 : FVec Ideal S512x128 .f32) (x1 x2 : FVec Ideal S4096x128 .f32) (x3 x4 : FVec Ideal S512x128 .f32)
  (x5 : FVec Ideal S1x512x1 .f32) (x6 : FVec Ideal S1x8x1x512 .f32)
  (h0 : ∀ a d, x0 (ix2 a d) = (Q (512 * i + a.val) d : EReal))
  (h1 : ∀ (n : Fin 4096) d, x1 (ix2 n d) = (K n.val d : EReal))
  (h2 : ∀ (n : Fin 4096) d, x2 (ix2 n d) = (V n.val d : EReal))
  (h3 : ∀ a d, x3 (ix2 a d) = (O (512 * i + a.val) d : EReal))
  (h4 : ∀ a d, x4 (ix2 a d) = (W (512 * i + a.val) d : EReal))
  (h5 : ∀ a, x5 (ix3 0 a 0) = (L (512 * i + a.val) : EReal))
  (h6 : ∀ (j : Fin 8) (b : Fin 512), x6 (ix4 0 j 0 b) = (C (512 * j.val + b.val) : EReal))
  (hD : ∀ n, D n = ∑ d : Fin 128, W n d * O n d)

include h0 h1 h6 in
theorem score_real (n : ℕ) (hn : n < 8) (a b : Fin 512) :
    (∑ d : Fin 128, x0 (ix2 a d) * ((0.125 : ℝ) : EReal) * tile (F := Ideal) x1 n (ix2 b d)) - rowOf (F := Ideal) x6 n (ix4 0 0 0 b)
      = (score Q K C (512 * i + a.val) (512 * n + b.val) : EReal) := by
  rw [sum_eq_coe Finset.univ _ (fun d => Q (512 * i + a.val) d * 0.125 * K (512 * n + b.val) d), rowOf_real x6 C h6 n hn, ← EReal.coe_sub]
  · rfl
  · intro d _
    rw [h0, tile_real x1 K h1 n hn, ← EReal.coe_mul, ← EReal.coe_mul]

include h2 h3 h4 hD in
theorem dp_real (n : ℕ) (hn : n < 8) (a b : Fin 512) :
    (∑ d : Fin 128, x4 (ix2 a d) * tile (F := Ideal) x2 n (ix2 b d)) - ∑ d : Fin 128, x4 (ix2 a d) * x3 (ix2 a d)
      = (((∑ d : Fin 128, V (512 * n + b.val) d * W (512 * i + a.val) d) - D (512 * i + a.val) : ℝ) : EReal) := by
  rw [sum_eq_coe Finset.univ _ (fun d => V (512 * n + b.val) d * W (512 * i + a.val) d),
    sum_eq_coe Finset.univ (fun d : Fin 128 => x4 (ix2 a d) * x3 (ix2 a d)) (fun d => W (512 * i + a.val) d * O (512 * i + a.val) d), ← EReal.coe_sub, hD]
  · intro d _
    rw [h4, h3, ← EReal.coe_mul]
  · intro d _
    rw [h4, tile_real x2 V h2 n hn, ← EReal.coe_mul, mul_comm]

include h0 h1 h2 h3 h4 h5 h6 hD in
/-- The loop's query gradients: sums over the keys before tile `n`. -/
theorem dqSt_real (n : ℕ) (hn : n ≤ i) (hi : i < 8) (a : Fin 512) (d : Fin 128) :
    (dqSt (F := Ideal) x0 x1 x2 x3 x4 x5 x6 n).1 (ix2 a d)
      = ((∑ j ∈ Finset.range (512 * n), dsc Q K V W C L D (512 * i + a.val) j * K j d : ℝ) : EReal) := by
  induction n with
  | zero => exact Ideal.ofBits_zero_f32.trans (by simp)
  | succ n ih =>
    refine (pay14_apply _ _ _ _ _ _ _ _ a d).trans (add_tile n _ _ _ (ih (by omega)) fun b => ?_)
    rw [pay13_apply, score_real Q K C i x0 x1 x6 h0 h1 h6 n (by omega), dp_real V W O D i x2 x3 x4 h2 h3 h4 hD n (by omega), h5, ← EReal.coe_sub, Ideal.exp_coe,
      tile_real x1 K h1 n (by omega), ← EReal.coe_mul, ← EReal.coe_mul]
    unfold dsc prob wt
    rw [if_pos (by have := b.isLt; omega)]

include h0 h1 h2 h3 h4 h5 h6 hD in
/-- The stored block of query gradients. -/
theorem dq_real (hi : i < 8) (a : Fin 512) (d : Fin 128) :
    k0_pay2 (F := Ideal) (k0_pay5 x0) (k0_pay7 x4 x3) (k0_pay8 x4) (k0_pay9 x5) (dqSt x0 x1 x2 x3 x4 x5 x6 i).1 (k0_pay20 (tile x1 i)) (k0_pay21 (tile x2 i))
        (rowOf x6 i) (ix2 a d)
      = (((∑ j ∈ Finset.range 4096, dsc Q K V W C L D (512 * i + a.val) j * K j d) * 0.125 : ℝ) : EReal) := by
  have hs : ∑ j ∈ Finset.range 4096, dsc Q K V W C L D (512 * i + a.val) j * K j d
      = ∑ j ∈ Finset.range (512 * (i + 1)), dsc Q K V W C L D (512 * i + a.val) j * K j d :=
    (Finset.sum_subset (Finset.range_subset_range.2 (by omega)) fun j _ hj => by
      rw [dsc_zero _ _ _ _ _ _ _ _ _ (by have := Finset.mem_range.not.1 hj; have := a.isLt; omega), zero_mul]).symm
  have hk : ∀ b e, k0_pay20 (F := Ideal) (tile (F := Ideal) x1 i) (ix2 b e) = (K (512 * i + b.val) e : EReal) := fun b e => by
    unfold k0_pay20; simp only [shapeCast_self]; exact tile_real x1 K h1 i hi b e
  rw [EReal.coe_mul, hs]
  unfold k0_pay2
  refine congrArg₂ (· * ·) ((pv_apply _ _ _ _ a d).trans
    (add_tile i _ _ _ (dqSt_real Q K V W O C L D i x0 x1 x2 x3 x4 x5 x6 h0 h1 h2 h3 h4 h5 h6 hD i le_rfl hi a d) fun b => ?_)) ofBits_eighth
  rw [pay1_apply, score_real Q K C i x0 x1 x6 h0 h1 h6 i hi, dp_real V W O D i x2 x3 x4 h2 h3 h4 hD i hi, h5, exp_sub', hk,
    ← EReal.coe_mul, ← EReal.coe_mul]
  unfold dsc prob
  refine congrArg (fun r : ℝ => (r : EReal)) (congrArg (· * _) (congrArg (· * _) ?_))
  exact if_congr (by omega) rfl rfl

end

end Cert.Kernel11Ideal.Dq

end
-- ==== Proof.DqFoxHost.lean ====
module

public import proofs.«01_k».proof.Proof.DqFoxReal
public import proofs.«01_k».proof.Proof.RefGrad
public import proofs.«01_k».proof.Proof.DqHost
public import proofs.«01_k».proof.Proof.Gen.Kernel11Ideal.Value

@[expose] public section

set_option maxRecDepth 16384

noncomputable section

/-! The first attention's query gradient: what its call's operands hold. -/

namespace Cert.Kernel11Ideal.Dq

open Idealize.ShloMosaic Idealize.ShloMosaic.ValueIdx Idealize.ShloMosaic.TcCoe Cert.Kernel11Ideal Cert.Kernel11Ideal.Gen
open Cert.FoxMath
open Cert.KernelIdeal.Fox (flat flat_real trans_real rows_real concat_real ext ext_lo ext_hi outR lseR delR dsR total_pos)
open Cert.Kernel10Ideal.Dq (bc_last l_entry)
open Cert.ReferenceIdeal.Read

section
variable {F : FTy → Type} [FloatOps F] (m : (ℓ : Loc nD τ sig) → Buf (Elt F) ℓ) (c : Dev nD)

abbrev a0 : FVec F S4096x4x64 .f32 := m ((c : Thread nD τ).loc main_arg0)
abbrev a1 : FVec F S4096x4x64 .f32 := m ((c : Thread nD τ).loc main_arg1)
abbrev a2 : FVec F S4096x4x64 .f32 := m ((c : Thread nD τ).loc main_arg2)
abbrev a3 : FVec F S4096x4 .f32 := m ((c : Thread nD τ).loc main_arg3)
abbrev a4 : FVec F S4096x4x64 .f32 := m ((c : Thread nD τ).loc main_arg4)

theorem V_z : (V m c main_v6 : FVec F S4096x1536 .f32)
    = concatenate S4096x1536 1 [⟨S4096x512, flat (a0 m c)⟩, ⟨S4096x512, flat (a1 m c)⟩, ⟨S4096x512, flat (a2 m c)⟩]
        concatenates_S4096x512_S4096x512_S4096x512_S4096x1536_d1 := by
  after_reads_simp
  rfl
theorem V_c : (V m c main_v8 : FVec F S4x8x1x512 .f32)
    = shapeCast S4x8x1x512 (transpose S4x4096 [1, 0] (a3 m c) transposes_S4096x4_S4x4096_1_0) shapeCasts_S4x4096_S4x8x1x512 := by
  after_reads_simp
  rfl
theorem V_w : (V m c main_v73 : FVec F S4096x512 .f32) = flat (a4 m c) := by
  after_reads_simp
  rfl
theorem V_o : (V m c main_v41 : FVec F S4096x512 .f32) = flat (val_main_v47 (a0 m c) (a1 m c) (a2 m c) (a3 m c)) := by
  after_reads_simp
  rfl

theorem V_l : (V m c main_v71 : FVec F S4x4096x1 .f32)
    = subf (addf (broadcastInDim S4x4096x1 ![0, 1] bcast_S4x4096_S4x4096x1_0_1 (val_main_v18 (a0 m c) (a1 m c) (a3 m c)))
        (Host.log (broadcastInDim S4x4096x1 ![0, 1] bcast_S4x4096_S4x4096x1_0_1 (Host.reduceAdd (Host.exp (subf (val_main_v17_0 (a0 m c) (a1 m c) (a3 m c))
          (broadcastInDim S4x4096x4096 ![0, 1, 2] bcast_S4x4096x1_S4x4096x4096_0_1_2
            (broadcastInDim S4x4096x1 ![0, 1] bcast_S4x4096_S4x4096x1_0_1 (val_main_v18 (a0 m c) (a1 m c) (a3 m c))))))
          (constant S_ .f32 0x00000000#32 : FVec F S_ .f32) reducesTo_S4x4096x4096_S4x4096_d2 h_S_))))
        (broadcastInDim S4x4096x1 ![0, 1] bcast_S4x4096_S4x4096x1_0_1 (transpose S4x4096 [1, 0] (a3 m c) transposes_S4096x4_S4x4096_1_0)) := by
  after_reads_simp
  rfl

end

/-- The largest score of a row, compared once more with negative infinity. -/
theorem v25_eq (x0 x1 : FVec Ideal S4096x4x64 .f32) (x3 : FVec Ideal S4096x4 .f32) :
    val_main_v25 (F := Ideal) x0 x1 x3 = val_main_v18 (F := Ideal) x0 x1 x3 := funext fun i => by
  rw [val_main_v25_apply, val_main_v24_apply, val_main_cst_3_apply]
  show max (Ideal.ofBits .f32 0xFF800000#32) _ = _
  rw [Cert.KernelIdeal.Ops.ofBits_bot, max_eq_right bot_le]

theorem lc_entry (z y t : FVec Ideal S4x4096 .f32) (h : Fin 4) (n : Fin 4096) :
    subf (addf (broadcastInDim S4x4096x1 ![0, 1] bcast_S4x4096_S4x4096x1_0_1 z)
      (Host.log (broadcastInDim S4x4096x1 ![0, 1] bcast_S4x4096_S4x4096x1_0_1 y))) (broadcastInDim S4x4096x1 ![0, 1] bcast_S4x4096_S4x4096x1_0_1 t) (ix3 h n 0)
      = z (ix2 h n) + Ideal.log (y (ix2 h n)) - t (ix2 h n) :=
  congrArg₂ (· - ·) (l_entry z y h n) (bc_last t h n)

/-- A row's logarithm, from the exponentials of the scores less the largest one, less the query's own decay. -/
theorem lse_shift (M c L : ℝ) (hL : 0 < L) :
    (M : EReal) + Ideal.log ((Real.exp (c - M) * L : ℝ) : EReal) - (c : EReal) = ((Real.log L : ℝ) : EReal) := by
  have h := Real.exp_pos (c - M)
  rw [Ideal.log_coe, if_neg (not_le.2 (mul_pos h hL)), Real.log_mul h.ne' hL.ne', Real.log_exp, ← EReal.coe_add, ← EReal.coe_sub]
  congr 1; ring

section
variable (m : (ℓ : Loc nD τ sig) → Buf (Elt Ideal) ℓ) (c : Dev nD)
  (q k v w : Fin 4 → ℕ → Fin 64 → ℝ) (C : Fin 4 → ℕ → ℝ)
  (hq : ∀ (n : Fin 4096) (h : Fin 4) (d : Fin 64), a0 m c (ix3 n h d) = (q h n.val d : EReal))
  (hk : ∀ (n : Fin 4096) (h : Fin 4) (d : Fin 64), a1 m c (ix3 n h d) = (k h n.val d : EReal))
  (hv : ∀ (n : Fin 4096) (h : Fin 4) (d : Fin 64), a2 m c (ix3 n h d) = (v h n.val d : EReal))
  (hc : ∀ (n : Fin 4096) (h : Fin 4), a3 m c (ix2 n h) = (C h n.val : EReal))
  (hw : ∀ (n : Fin 4096) (h : Fin 4) (d : Fin 64), a4 m c (ix3 n h d) = (w h n.val d : EReal))

include hq in
theorem q_arr (h : Fin 4) (n : Fin 4096) (d : Fin 128) (e : Fin 1536) (he : e.val = 128 * h.val + d.val) :
    (V m c main_v6 : FVec Ideal S4096x1536 .f32) (ix2 n e) = (ext q h n.val d : EReal) :=
  (congrFun (V_z m c) _).trans (((concat_real _ _ _ n ⟨128 * h.val + d.val, by have := h.isLt; have := d.isLt; omega⟩ e).1 he).trans
    (flat_real _ q hq n h d _ rfl))

include hk in
theorem k_arr (h : Fin 4) (n : Fin 4096) (d : Fin 128) (e : Fin 1536) (he : e.val = 512 + (128 * h.val + d.val)) :
    (V m c main_v6 : FVec Ideal S4096x1536 .f32) (ix2 n e) = (ext k h n.val d : EReal) :=
  (congrFun (V_z m c) _).trans (((concat_real _ _ _ n ⟨128 * h.val + d.val, by have := h.isLt; have := d.isLt; omega⟩ e).2.1 he).trans
    (flat_real _ k hk n h d _ rfl))

include hv in
theorem v_arr (h : Fin 4) (n : Fin 4096) (d : Fin 128) (e : Fin 1536) (he : e.val = 1024 + (128 * h.val + d.val)) :
    (V m c main_v6 : FVec Ideal S4096x1536 .f32) (ix2 n e) = (ext v h n.val d : EReal) :=
  (congrFun (V_z m c) _).trans (((concat_real _ _ _ n ⟨128 * h.val + d.val, by have := h.isLt; have := d.isLt; omega⟩ e).2.2 he).trans
    (flat_real _ v hv n h d _ rfl))

include hw in
theorem w_arr (h : Fin 4) (n : Fin 4096) (d : Fin 128) (e : Fin 512) (he : e.val = 128 * h.val + d.val) :
    (V m c main_v73 : FVec Ideal S4096x512 .f32) (ix2 n e) = (ext w h n.val d : EReal) :=
  (congrFun (V_w m c) _).trans (flat_real _ w hw n h d e he)

include hc in
theorem c_arr (h : Fin 4) (j : Fin 8) (b : Fin 512) :
    (V m c main_v8 : FVec Ideal S4x8x1x512 .f32) (ix4 h j 0 b) = (C h (512 * j.val + b.val) : EReal) :=
  (congrFun (V_c m c) _).trans (rows_real _ C (trans_real _ C hc) h j b)

include hq hk hv hc in
theorem o_arr (h : Fin 4) (n : Fin 4096) (d : Fin 128) (e : Fin 512) (he : e.val = 128 * h.val + d.val) :
    (V m c main_v41 : FVec Ideal S4096x512 .f32) (ix2 n e) = (outR q k v C h n.val d : EReal) := by
  refine (congrFun (V_o m c) _).trans ((flat_real _ (fun h n d => outR q k v C h n ⟨d.val, by have := d.isLt; omega⟩)
    (fun n h d => Cert.ReferenceIdeal.Fox.v47_real _ _ _ _ q k v C hq hk hv hc n h d) n h d e he).trans (congrArg (fun r : ℝ => (r : EReal)) ?_))
  by_cases hd : d.val < 64
  · exact ext_lo _ _ _ _ hd
  · rw [ext_hi _ _ _ _ hd]
    unfold outR
    rw [Finset.sum_eq_zero fun j _ => by rw [ext_hi _ _ _ _ hd, mul_zero], zero_div]

include hq hk hc in
theorem l_arr (h : Fin 4) (n : Fin 4096) : (V m c main_v71 : FVec Ideal S4x4096x1 .f32) (ix3 h n 0) = (lseR q k C h n.val : EReal) := by
  obtain ⟨M, hM⟩ := Cert.ReferenceIdeal.Fox.v18_real _ _ _ q k C hq hk hc h n
  have hs := (Cert.ReferenceIdeal.Fox.exps_at _ _ _ q k C hq hk hc h n M hM).2
  unfold val_main_v39 val_main_v38 val_main_v37 val_main_v36 val_main_v35 at hs
  rw [v25_eq] at hs
  refine (congrFun (V_l m c) _).trans ((lc_entry _ _ _ h n).trans ?_)
  rw [hM, trans_real _ C hc]
  exact (congrArg (fun r : EReal => (M : EReal) + Ideal.log r - (C h n.val : EReal)) hs).trans
    (lse_shift M _ _ (total_pos (ext q h) (ext k h) (C h) n.val))

end

end Cert.Kernel11Ideal.Dq

end
-- ==== Proof.DqFoxArr.lean ====
module

public import proofs.«01_k».proof.Proof.DqFoxHost

@[expose] public section

set_option maxRecDepth 16384

noncomputable section

/-! The first attention's query gradient, entry by entry. -/

namespace Cert.Kernel11Ideal.Dq

open Idealize.ShloMosaic Idealize.ShloMosaic.ValueIdx Idealize.ShloMosaic.TcCoe Cert.Kernel11Ideal Cert.Kernel11Ideal.Gen
open Cert.FoxMath
open Cert.KernelIdeal.Fox (ext outR lseR delR dsR)

/-- The grid point of head `h` and block `i`. -/
def pt (h : Fin 4) (i : Fin 8) : Fin cfg0.N := ⟨8 * h.val + i.val, by have := h.isLt; have := i.isLt; show _ < 32; omega⟩

theorem coords : ∀ (h : Fin 4) (i : Fin 8), ((grid0.coords (pt h i)) 1).val = i.val := by decide +kernel
theorem fl_7 : ∀ t : Fin cfg0.N, (cfg0.win 7).flush t = true := by decide +kernel
theorem ix_0 : ∀ (h : Fin 4) (i : Fin 8), win0_0.index (pt h i) 0 = i.val ∧ win0_0.index (pt h i) 1 = h.val := by decide +kernel
theorem ix_1 : ∀ (h : Fin 4) (i : Fin 8), win0_1.index (pt h i) 0 = 0 ∧ win0_1.index (pt h i) 1 = 4 + h.val := by decide +kernel
theorem ix_2 : ∀ (h : Fin 4) (i : Fin 8), win0_2.index (pt h i) 0 = 0 ∧ win0_2.index (pt h i) 1 = 8 + h.val := by decide +kernel
theorem ix_3 : ∀ (h : Fin 4) (i : Fin 8), win0_3.index (pt h i) 0 = i.val ∧ win0_3.index (pt h i) 1 = h.val := by decide +kernel
theorem ix_4 : ∀ (h : Fin 4) (i : Fin 8), win0_4.index (pt h i) 0 = i.val ∧ win0_4.index (pt h i) 1 = h.val := by decide +kernel
theorem ix_7 : ∀ (h : Fin 4) (i : Fin 8), win0_7.index (pt h i) 0 = i.val ∧ win0_7.index (pt h i) 1 = h.val := by decide +kernel
theorem ix_5 : ∀ (h : Fin 4) (i : Fin 8), win0_5.index (pt h i) 0 = h.val ∧ win0_5.index (pt h i) 1 = i.val ∧ win0_5.index (pt h i) 2 = 0 := by decide +kernel
theorem ix_6 : ∀ (h : Fin 4) (i : Fin 8), win0_6.index (pt h i) 0 = h.val ∧ win0_6.index (pt h i) 1 = 0 ∧ win0_6.index (pt h i) 2 = 0 ∧ win0_6.index (pt h i) 3 = 0 := by
  decide +kernel

section
variable {F : FTy → Type} [FloatOps F] (m : (ℓ : Loc nD τ sig) → Buf (Elt F) ℓ) (c : Dev nD)

theorem iblk_0 (h : Fin 4) (i : Fin 8) (a : Fin 512) (d : Fin 128) (n : Fin 4096) (e : Fin 1536) (hn : n.val = 512 * i.val + a.val) (he : e.val = 128 * h.val + d.val) :
    (iblk m c 0 (pt h i) : FVec F S512x128 .f32) (ix2 a d) = (V m c main_v6 : FVec F S4096x1536 .f32) (ix2 n e) := by
  unfold iblk
  rw [View.read_apply]
  show V m c main_v6 _ = V m c main_v6 _
  congr 1
  funext x
  apply Fin.ext
  match x with
  | ⟨0, _⟩ => show win0_0.index (pt h i) 0 * 512 + 1 * a.val = n.val; rw [(ix_0 h i).1]; omega
  | ⟨1, _⟩ => show win0_0.index (pt h i) 1 * 128 + 1 * d.val = e.val; rw [(ix_0 h i).2]; omega

theorem iblk_3 (h : Fin 4) (i : Fin 8) (a : Fin 512) (d : Fin 128) (n : Fin 4096) (e : Fin 512) (hn : n.val = 512 * i.val + a.val) (he : e.val = 128 * h.val + d.val) :
    (iblk m c 3 (pt h i) : FVec F S512x128 .f32) (ix2 a d) = (V m c main_v41 : FVec F S4096x512 .f32) (ix2 n e) := by
  unfold iblk
  rw [View.read_apply]
  show V m c main_v41 _ = V m c main_v41 _
  congr 1
  funext x
  apply Fin.ext
  match x with
  | ⟨0, _⟩ => show win0_3.index (pt h i) 0 * 512 + 1 * a.val = n.val; rw [(ix_3 h i).1]; omega
  | ⟨1, _⟩ => show win0_3.index (pt h i) 1 * 128 + 1 * d.val = e.val; rw [(ix_3 h i).2]; omega

theorem iblk_4 (h : Fin 4) (i : Fin 8) (a : Fin 512) (d : Fin 128) (n : Fin 4096) (e : Fin 512) (hn : n.val = 512 * i.val + a.val) (he : e.val = 128 * h.val + d.val) :
    (iblk m c 4 (pt h i) : FVec F S512x128 .f32) (ix2 a d) = (V m c main_v73 : FVec F S4096x512 .f32) (ix2 n e) := by
  unfold iblk
  rw [View.read_apply]
  show V m c main_v73 _ = V m c main_v73 _
  congr 1
  funext x
  apply Fin.ext
  match x with
  | ⟨0, _⟩ => show win0_4.index (pt h i) 0 * 512 + 1 * a.val = n.val; rw [(ix_4 h i).1]; omega
  | ⟨1, _⟩ => show win0_4.index (pt h i) 1 * 128 + 1 * d.val = e.val; rw [(ix_4 h i).2]; omega

theorem iblk_1 (h : Fin 4) (i : Fin 8) (a : Fin 4096) (d : Fin 128) (e : Fin 1536) (he : e.val = 512 + (128 * h.val + d.val)) :
    (iblk m c 1 (pt h i) : FVec F S4096x128 .f32) (ix2 a d) = (V m c main_v6 : FVec F S4096x1536 .f32) (ix2 a e) := by
  unfold iblk
  rw [View.read_apply]
  show V m c main_v6 _ = V m c main_v6 _
  congr 1
  funext x
  apply Fin.ext
  match x with
  | ⟨0, _⟩ => show win0_1.index (pt h i) 0 * 4096 + 1 * a.val = a.val; rw [(ix_1 h i).1]; omega
  | ⟨1, _⟩ => show win0_1.index (pt h i) 1 * 128 + 1 * d.val = e.val; rw [(ix_1 h i).2]; omega

theorem iblk_2 (h : Fin 4) (i : Fin 8) (a : Fin 4096) (d : Fin 128) (e : Fin 1536) (he : e.val = 1024 + (128 * h.val + d.val)) :
    (iblk m c 2 (pt h i) : FVec F S4096x128 .f32) (ix2 a d) = (V m c main_v6 : FVec F S4096x1536 .f32) (ix2 a e) := by
  unfold iblk
  rw [View.read_apply]
  show V m c main_v6 _ = V m c main_v6 _
  congr 1
  funext x
  apply Fin.ext
  match x with
  | ⟨0, _⟩ => show win0_2.index (pt h i) 0 * 4096 + 1 * a.val = a.val; rw [(ix_2 h i).1]; omega
  | ⟨1, _⟩ => show win0_2.index (pt h i) 1 * 128 + 1 * d.val = e.val; rw [(ix_2 h i).2]; omega

theorem iblk_5 (h : Fin 4) (i : Fin 8) (a : Fin 512) (n : Fin 4096) (hn : n.val = 512 * i.val + a.val) :
    (iblk m c 5 (pt h i) : FVec F S1x512x1 .f32) (ix3 0 a 0) = (V m c main_v71 : FVec F S4x4096x1 .f32) (ix3 h n 0) := by
  unfold iblk
  rw [View.read_apply]
  show V m c main_v71 _ = V m c main_v71 _
  congr 1
  funext x
  apply Fin.ext
  match x with
  | ⟨0, _⟩ => show win0_5.index (pt h i) 0 * 1 + 1 * 0 = h.val; rw [(ix_5 h i).1]; omega
  | ⟨1, _⟩ => show win0_5.index (pt h i) 1 * 512 + 1 * a.val = n.val; rw [(ix_5 h i).2.1]; omega
  | ⟨2, _⟩ => show win0_5.index (pt h i) 2 * 1 + 1 * 0 = 0; rw [(ix_5 h i).2.2]

theorem iblk_6 (h : Fin 4) (i j : Fin 8) (b : Fin 512) :
    (iblk m c 6 (pt h i) : FVec F S1x8x1x512 .f32) (ix4 0 j 0 b) = (V m c main_v8 : FVec F S4x8x1x512 .f32) (ix4 h j 0 b) := by
  unfold iblk
  rw [View.read_apply]
  show V m c main_v8 _ = V m c main_v8 _
  congr 1
  funext x
  apply Fin.ext
  match x with
  | ⟨0, _⟩ => show win0_6.index (pt h i) 0 * 1 + 1 * 0 = h.val; rw [(ix_6 h i).1]; omega
  | ⟨1, _⟩ => show win0_6.index (pt h i) 1 * 8 + 1 * j.val = j.val; rw [(ix_6 h i).2.1]; omega
  | ⟨2, _⟩ => show win0_6.index (pt h i) 2 * 1 + 1 * 0 = 0; rw [(ix_6 h i).2.2.1]
  | ⟨3, _⟩ => show win0_6.index (pt h i) 3 * 512 + 1 * b.val = b.val; rw [(ix_6 h i).2.2.2]; omega

/-- An entry of the result is its block's. -/
theorem dq_apply (h : Fin 4) (i : Fin 8) (a : Fin 512) (d : Fin 128) (n : Fin 4096) (e : Fin 512) (hn : n.val = 512 * i.val + a.val)
    (he : e.val = 128 * h.val + d.val) :
    ((dats m 0 c).arrAt 7 cfg0.N : FVec F S4096x512 .f32) (ix2 n e) = (outsAt0 m c (pt h i)).1 (ix2 a d) := by
  have hb := congrFun (Cert.Kernel11Ideal.Value.blocks7 m c (pt h i) (fl_7 _)) (ix2 a d : S512x128.Idx)
  rw [View.read_apply] at hb
  refine Eq.trans ?_ (hb.trans ?_)
  · show ((dats m 0 c).arrAt 7 cfg0.N : FVec F S4096x512 .f32) _ = ((dats m 0 c).arrAt 7 cfg0.N : FVec F S4096x512 .f32) _
    congr 1
    funext x
    apply Fin.ext
    match x with
    | ⟨0, _⟩ => show n.val = win0_7.index (pt h i) 0 * 512 + 1 * a.val; rw [(ix_7 h i).1]; omega
    | ⟨1, _⟩ => show e.val = win0_7.index (pt h i) 1 * 128 + 1 * d.val; rw [(ix_7 h i).2]; omega
  · rw [Cert.Kernel11Ideal.Value.flushed7]; rfl

end

section
variable (m : (ℓ : Loc nD τ sig) → Buf (Elt Ideal) ℓ) (c : Dev nD)
  (q k v w : Fin 4 → ℕ → Fin 64 → ℝ) (C : Fin 4 → ℕ → ℝ)
  (hq : ∀ (n : Fin 4096) (h : Fin 4) (d : Fin 64), a0 m c (ix3 n h d) = (q h n.val d : EReal))
  (hk : ∀ (n : Fin 4096) (h : Fin 4) (d : Fin 64), a1 m c (ix3 n h d) = (k h n.val d : EReal))
  (hv : ∀ (n : Fin 4096) (h : Fin 4) (d : Fin 64), a2 m c (ix3 n h d) = (v h n.val d : EReal))
  (hc : ∀ (n : Fin 4096) (h : Fin 4), a3 m c (ix2 n h) = (C h n.val : EReal))
  (hw : ∀ (n : Fin 4096) (h : Fin 4) (d : Fin 64), a4 m c (ix3 n h d) = (w h n.val d : EReal))

include hq hk hv hc hw in
/-- The queries' gradient. -/
theorem res_dq (h : Fin 4) (n : Fin 4096) (d : Fin 128) (e : Fin 512) (he : e.val = 128 * h.val + d.val) :
    ((dats m 0 c).arrAt 7 cfg0.N : FVec Ideal S4096x512 .f32) (ix2 n e)
      = (((∑ j ∈ Finset.range 4096, dsR q k v w C h n.val j * ext k h j d) * 0.125 : ℝ) : EReal) := by
  obtain ⟨i, a, hia⟩ : ∃ (i : Fin 8) (a : Fin 512), n.val = 512 * i.val + a.val :=
    ⟨⟨n.val / 512, by have := n.isLt; omega⟩, ⟨n.val % 512, by omega⟩, by simp only; omega⟩
  have row : ∀ a : Fin 512, 512 * i.val + a.val < 4096 := fun a => by have := a.isLt; have := i.isLt; omega
  have col : ∀ d : Fin 128, 128 * h.val + d.val < 512 := fun d => by have := h.isLt; have := d.isLt; omega
  have c0 : ∀ d : Fin 128, 128 * h.val + d.val < 1536 := fun d => by have := col d; omega
  have c1 : ∀ d : Fin 128, 512 + (128 * h.val + d.val) < 1536 := fun d => by have := col d; omega
  have c2 : ∀ d : Fin 128, 1024 + (128 * h.val + d.val) < 1536 := fun d => by have := col d; omega
  rw [dq_apply m c h i a d n e hia he, hia]
  dsimp only [outsAt0]
  rw [out0_7_eq, coords]
  exact dq_real (ext q h) (ext k h) (ext v h) (ext w h) (outR q k v C h) (C h) (lseR q k C h) (delR q k v w C h) i.val _ _ _ _ _ _ _
    (fun a d => (iblk_0 m c h i a d ⟨_, row a⟩ ⟨_, c0 d⟩ rfl rfl).trans (q_arr m c q hq h _ d _ rfl))
    (fun a d => (iblk_1 m c h i a d ⟨_, c1 d⟩ rfl).trans (k_arr m c k hk h _ d _ rfl))
    (fun a d => (iblk_2 m c h i a d ⟨_, c2 d⟩ rfl).trans (v_arr m c v hv h _ d _ rfl))
    (fun a d => (iblk_3 m c h i a d ⟨_, row a⟩ ⟨_, col d⟩ rfl rfl).trans (o_arr m c q k v C hq hk hv hc h _ d _ rfl))
    (fun a d => (iblk_4 m c h i a d ⟨_, row a⟩ ⟨_, col d⟩ rfl rfl).trans (w_arr m c w hw h _ d _ rfl))
    (fun a => (iblk_5 m c h i a ⟨_, row a⟩ rfl).trans (l_arr m c q k C hq hk hc h _))
    (fun j b => (iblk_6 m c h i j b).trans (c_arr m c C hc h j b))
    (fun _ => rfl) i.isLt a d

end

end Cert.Kernel11Ideal.Dq

end
-- ==== Proof.Prod11.lean ====
module

public import proofs.«01_k».proof.Proof.Prod10
public import proofs.«01_k».proof.Proof.DqFoxArr
public import proofs.«01_k».proof.Proof.Gen.Reference11Ideal.Run
public import proofs.«01_k».proof.Proof.Gen.Reference11Ideal.Read

@[expose] public section

set_option maxRecDepth 16384

noncomputable section

/-! The first attention's query gradient: the kernel's result is the reference's. -/

namespace Cert.DqFox

open Idealize.ShloMosaic Idealize.SL.Sem Idealize.ShloMosaic.TcCoe Idealize.ShloMosaic.ValueIdx Cert.FoxMath
open Cert.Fox (inf_f32 val3 val3_eq val2_eq)
open Cert.Kernel11Ideal.Dq (a0 a1 a2 a3 a4)
open Cert.KernelIdeal.Fox (ext ext_lo ext_hi dsR)
open Cert.ReferenceIdeal.Fox (idx83 halves v64_real)
open Cert.Reference9Ideal.Mla (eq3)
open Cert.Mla (column)
open Cert.Reference11Ideal Cert.Reference11Ideal.Read

/-- The reference runs and leaves its arguments unchanged: its generated run, read at the arguments; it declares no semaphore. -/
theorem frame_ref : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

section
variable (x0 x1 x2 : FVec Ideal S4096x4x64 .f32) (x3 : FVec Ideal S4096x4 .f32) (x4 : FVec Ideal S4096x4x64 .f32)
  (q k v w : Fin 4 → ℕ → Fin 64 → ℝ) (C : Fin 4 → ℕ → ℝ)
  (h0 : ∀ (n : Fin 4096) (h : Fin 4) (d : Fin 64), x0 (ix3 n h d) = (q h n.val d : EReal))
  (h1 : ∀ (n : Fin 4096) (h : Fin 4) (d : Fin 64), x1 (ix3 n h d) = (k h n.val d : EReal))
  (h2 : ∀ (n : Fin 4096) (h : Fin 4) (d : Fin 64), x2 (ix3 n h d) = (v h n.val d : EReal))
  (h3 : ∀ (n : Fin 4096) (h : Fin 4), x3 (ix2 n h) = (C h n.val : EReal))
  (h4 : ∀ (n : Fin 4096) (h : Fin 4) (d : Fin 64), x4 (ix3 n h d) = (w h n.val d : EReal))

/-- The scores' gradients are the ones the other gradients are taken from. -/
theorem v64_eq : val_main_v64 (F := Ideal) x0 x1 x2 x3 x4 = Cert.ReferenceIdeal.Read.val_main_v64 (F := Ideal) x0 x1 x2 x3 x4 := rfl

include h0 h1 h2 h3 h4 in
/-- The queries' gradient. -/
theorem ref_dq (n : Fin 4096) (h : Fin 4) (d : Fin 128) (e : Fin 512) (he : e.val = 128 * h.val + d.val) :
    val_main_v83 (F := Ideal) x0 x1 x2 x3 x4 (ix2 n e)
      = (((∑ j ∈ Finset.range 4096, dsR q k v w C h n.val j * ext k h j d) * 0.125 : ℝ) : EReal) := by
  rw [val_main_v83_apply, show idx_main_v83 (ix2 n e) = ix3 n h d from idx83 n h d e he]
  unfold val_main_v82
  refine halves _ _ (fun i => Ideal.ofBits_zero_f32) _ n h d (fun hd => ?_) fun hd => ?_
  · rw [val_main_v80_apply, val_main_v79_apply, Finset.sum_mul, Finset.sum_range]
    refine sum_eq_coe _ _ _ fun j _ => ?_
    rw [eq3 (lidx_main_v79 (idx_main_v80 (ix3 n h ⟨d.val, hd⟩)) j) h n j rfl rfl rfl,
      eq3 (ridx_main_v79 (idx_main_v80 (ix3 n h ⟨d.val, hd⟩)) j) j h ⟨d.val, hd⟩ rfl rfl rfl,
      h1, val_main_v76_apply, v64_eq, v64_real x0 x1 x2 x3 x4 q k v w C h0 h1 h2 h3 h4, val_main_v75_apply, val_main_cst_17_apply]
    show _ * Ideal.ofBits .f32 0x3E000000#32 * _ = _
    rw [Cert.KernelIdeal.Ops.ofBits_eighth, ← EReal.coe_mul, ← EReal.coe_mul, ext_lo _ _ _ _ hd]
    refine congrArg (fun r : ℝ => (r : EReal)) ?_
    ring
  · rw [Finset.sum_eq_zero fun j _ => by rw [ext_hi _ _ _ _ hd, mul_zero], zero_mul]

end

/-- The kernel's result and the reference's are the same array, of arguments that are real. -/
theorem agree (m : (ℓ : Loc Cert.Kernel11Ideal.nD Cert.Kernel11Ideal.τ Cert.Kernel11Ideal.sig) → Buf (Elt Ideal) ℓ)
    (hpre : Cert.Pre_Kernel11Ideal_finite (hPre_finite := Cert.Fox.facts) m) (c : Dev Cert.Kernel11Ideal.nD) :
    val_main_v83 (F := Ideal) (a0 m c) (a1 m c) (a2 m c) (a3 m c) (a4 m c)
      = (Cert.Kernel11Ideal.Gen.dats m 0 c).arrAt 7 Cert.Kernel11Ideal.cfg0.N := by
  obtain ⟨p0, p1, p2, p3, p4⟩ := hpre c
  have h0 := val3_eq (a0 m c) _ (fun _ => inf_f32) p0
  have h1 := val3_eq (a1 m c) _ (fun _ => inf_f32) p1
  have h2 := val3_eq (a2 m c) _ (fun _ => inf_f32) p2
  have h3 := val2_eq (a3 m c) _ (fun _ => inf_f32) p3
  have h4 := val3_eq (a4 m c) _ (fun _ => inf_f32) p4
  refine funext fun i => ?_
  obtain ⟨n, e, rfl⟩ : ∃ n e, i = ix2 n e := ⟨i 0, i 1, funext fun a => by match a with | ⟨0, _⟩ => rfl | ⟨1, _⟩ => rfl⟩
  obtain ⟨h, d, he⟩ := column e
  exact (ref_dq _ _ _ _ _ _ _ _ _ _ h0 h1 h2 h3 h4 n h d e he).trans (Cert.Kernel11Ideal.Dq.res_dq m c _ _ _ _ _ h0 h1 h2 h3 h4 h n d e he).symm

/-- The kernel and the reference end with equal results. -/
theorem value : Cert.algebraic_Kernel11Ideal_Reference11Ideal_pre_finite (hKernel11Ideal := Cert.Kernel11Ideal.Gen.facts)
    (hReference11Ideal := Cert.Reference11Ideal.Gen.facts) (hPre_finite := Cert.Fox.facts) := fun m ρ m' ρ' hpre hag =>
  ⟨fun c => (Cert.Kernel11Ideal.Gen.dats m 0 c).arrAt 7 Cert.Kernel11Ideal.cfg0.N,
    (θ_run Cert.Kernel11Ideal.defs _ _).mono (fun _ h c => ⟨(h c).1, (h c).2.2.2⟩) (Cert.Kernel11Ideal.Value.run_blocks (F := Ideal) m ρ),
    (θ_run Cert.Reference11Ideal.defs _ _).mono (fun _ h c => by
      obtain ⟨g0, g1, g2, g3, g4⟩ := hag c
      refine ⟨(h c).1.trans ?_, (h c).2⟩
      rw [val_main_v83_eq, g0, g1, g2, g3, g4]
      exact agree m hpre c)
      (Cert.Reference11Ideal.Value.run (F := Ideal) m' ρ')⟩

end Cert.DqFox

end
-- ==== Proof.Val12.lean ====
module

public import proofs.«01_k».proof.Defs
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.IdealHost
public import Idealize.ShloMosaic.Lib.Pipeline.ValueKit.Geometry

@[expose] public section

set_option maxRecDepth 16384

noncomputable section

/-! The gate's mixing and its gradients: the tiles of rows, entry by entry, are what the reference makes of the whole arrays. -/

namespace Cert.Kernel12Ideal.Mix

open Idealize.ShloMosaic Idealize.ShloMosaic.TcCoe Idealize.ShloMosaic.Tactic Cert.Kernel12Ideal Cert.Kernel12Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference12Ideal.Read

section
variable (V : (c : Dev nD) → (b : Ref sig .tc) → Buf (Elt Ideal) ((c : Thread nD τ).loc b)) (c : Dev nD)

/-- The reference's quotient is the logistic function. -/
theorem gate_ (X : (⟨S4096x1024, .f32⟩ : BufTy).Contents (Elt Ideal)) (i : S4096x1024.Idx) : (val_main_v5 (F := Ideal) X i : EReal) = Ideal.logistic (X i) := by
  rw [val_main_v5_apply, val_main_v4_apply, val_main_cst_0_apply, val_main_v3_apply, val_main_v2_apply, val_main_cst_apply, val_main_v1_apply, val_main_v0_apply]
  show Ideal.div (Ideal.ofBits .f32 0x3F800000#32) (Ideal.ofBits .f32 0x3F800000#32 + Ideal.exp (-(X i))) = _
  rw [Ideal.ofBits_one_f32]
  rfl

theorem same_ (X : (⟨S4096x1024, .f32⟩ : BufTy).Contents (Elt Ideal)) (i : S4096x1024.Idx) : val_main_v11 (F := Ideal) X i = X i := by
  unfold val_main_v11
  rw [shapeCast_self]

/-- The mixed sum at an entry. -/
theorem mix_ (x0 x1 x2 : Vec Ideal S512x1024 .f32) (y : S512x1024.Idx) {X0 X1 X2 : (⟨S4096x1024, .f32⟩ : BufTy).Contents (Elt Ideal)} {i : S4096x1024.Idx}
    (h0 : x0 y = X0 i) (h1 : x1 y = X1 i) (h2 : x2 y = X2 i) :
    (k0_pay1 x0 x1 x2 : FVec Ideal S512x1024 .f32) y = val_main_v10 (F := Ideal) X0 X1 X2 i := by
  rw [val_main_v10_apply, val_main_v9_apply, show val_main_v5 (F := Ideal) X1 i = _ from gate_ X1 i, ← h0, ← h1, ← h2]
  rfl

/-- The gate's gradient at an entry. -/
theorem dgate_ (x1 x2 x3 : Vec Ideal S256x1024 .f32) (y : S256x1024.Idx) {X1 X2 X3 : (⟨S4096x1024, .f32⟩ : BufTy).Contents (Elt Ideal)} {i : S4096x1024.Idx}
    (h1 : x1 y = X1 i) (h2 : x2 y = X2 i) (h3 : x3 y = X3 i) :
    (k1_pay3 x1 x2 x3 : FVec Ideal S256x1024 .bf16) y = val_main_v15 (F := Ideal) X1 X2 X3 i := by
  rw [val_main_v15_apply, val_main_v14_apply, val_main_v13_apply, val_main_v8_apply, val_main_v7_apply, val_main_v6_apply, val_main_cst_1_apply,
    show val_main_v5 (F := Ideal) X1 i = _ from gate_ X1 i, same_, ← h1, ← h2, ← h3]
  unfold k1_pay3 k1_pay2
  rw [shapeCast_self]
  rfl

/-- The mixed value's gradient at an entry. -/
theorem dval_ (x1 x3 : Vec Ideal S256x1024 .f32) (y : S256x1024.Idx) {X1 X3 : (⟨S4096x1024, .f32⟩ : BufTy).Contents (Elt Ideal)} {i : S4096x1024.Idx}
    (h1 : x1 y = X1 i) (h3 : x3 y = X3 i) :
    (k1_pay4 x1 x3 : FVec Ideal S256x1024 .bf16) y = val_main_v16 (F := Ideal) X1 X3 i := by
  rw [val_main_v16_apply, val_main_v12_apply, show val_main_v5 (F := Ideal) X1 i = _ from gate_ X1 i, same_, ← h1, ← h3]
  unfold k1_pay4 k1_pay2
  rw [shapeCast_self]
  rfl

/-- The first call leaves the mixed sum. -/
theorem arr0_3 : (dat0 V c).arrAt 3 cfg0.N = val_main_v10 (F := Ideal) (V c main_arg0) (V c main_arg1) (V c main_arg2) := by
  refine (dat0 V c).arrAt_eq_of_covers 3 _ (by decide +kernel) fun t hf y => ?_
  blk_simp
  rw [after0_3]
  unfold out0_3
  rw [View.canon_unit_zero (S := S512x1024) (by decide) inb_S512x1024_S512x1024_0_0]
  simp only [View.ld_unit_zero (S := S512x1024) (by decide) inb_S512x1024_S512x1024_0_0]
  exact mix_ (iblk0 V c 0 t) (iblk0 V c 1 t) (iblk0 V c 2 t) y (by rfl) (by rfl) (by rfl)

/-- The second call passes the incoming gradient on. -/
theorem arr1_4 : (dat1 V c).arrAt 4 cfg1.N = V c main_arg3 := by
  refine (dat1 V c).arrAt_eq_of_covers 4 _ (by decide +kernel) fun t hf y => ?_
  blk_simp
  rw [after1_4]
  unfold out1_4
  rw [View.canon_unit_zero (S := S256x1024) (by decide) inb_S256x1024_S256x1024_0_0]
  simp only [View.ld_unit_zero (S := S256x1024) (by decide) inb_S256x1024_S256x1024_0_0]
  exact (congrFun (View.ld_unit_zero (S := S256x1024) (by decide) inb_S256x1024_S256x1024_0_0 (iblk1 V c 3 t)) y).trans (by rfl)

/-- The second call leaves the gate's gradient. -/
theorem arr1_5 : (dat1 V c).arrAt 5 cfg1.N = val_main_v15 (F := Ideal) (V c main_arg1) (V c main_arg2) (V c main_arg3) := by
  refine (dat1 V c).arrAt_eq_of_covers 5 _ (by decide +kernel) fun t hf y => ?_
  blk_simp
  rw [after1_5]
  unfold out1_5
  rw [View.canon_unit_zero (S := S256x1024) (by decide) inb_S256x1024_S256x1024_0_0]
  simp only [View.ld_unit_zero (S := S256x1024) (by decide) inb_S256x1024_S256x1024_0_0]
  exact dgate_ (iblk1 V c 1 t) (iblk1 V c 2 t) (iblk1 V c 3 t) y (by rfl) (by rfl) (by rfl)

/-- The second call leaves the mixed value's gradient. -/
theorem arr1_6 : (dat1 V c).arrAt 6 cfg1.N = val_main_v16 (F := Ideal) (V c main_arg1) (V c main_arg3) := by
  refine (dat1 V c).arrAt_eq_of_covers 6 _ (by decide +kernel) fun t hf y => ?_
  blk_simp
  rw [after1_6]
  unfold out1_6
  rw [View.canon_unit_zero (S := S256x1024) (by decide) inb_S256x1024_S256x1024_0_0]
  simp only [View.ld_unit_zero (S := S256x1024) (by decide) inb_S256x1024_S256x1024_0_0]
  exact dval_ (iblk1 V c 1 t) (iblk1 V c 3 t) y (by rfl) (by rfl)
end

section
variable (m : (ℓ : Loc nD τ sig) → Buf (Elt Ideal) ℓ) (ρ : Dev nD → PrngReg) (c : Dev nD)

theorem res0 {x0 x1 x2} (h0 : x0 = m ((c.tc : Thread nD τ).loc main_arg0)) (h1 : x1 = m ((c.tc : Thread nD τ).loc main_arg1)) (h2 : x2 = m ((c.tc : Thread nD τ).loc main_arg2)) :
    val_main_v10 (F := Ideal) x0 x1 x2 = W2 m ρ c main_v0 := by
  subst h0 h1 h2
  rw [W2_of m ρ c main_v0 (by decide), show W1 m ρ c main_v0 = _ from W1_arr m ρ c 3, arr0_3]
  try simp only [show V0 m ρ c main_arg0 = _ from W0_args m ρ c main_arg0 (by decide), show V0 m ρ c main_arg1 = _ from W0_args m ρ c main_arg1 (by decide), show V0 m ρ c main_arg2 = _ from W0_args m ρ c main_arg2 (by decide)]

theorem res1 {x3} (h3 : x3 = m ((c.tc : Thread nD τ).loc main_arg3)) :
    x3 = W2 m ρ c main_v1_0 := by
  subst h3
  rw [show W2 m ρ c main_v1_0 = _ from W2_arr m ρ c 4, arr1_4]
  simp only [show V1 m ρ c main_arg3 = _ from W1_args m ρ c main_arg3 (by decide)]

theorem res2 {x1 x2 x3} (h1 : x1 = m ((c.tc : Thread nD τ).loc main_arg1)) (h2 : x2 = m ((c.tc : Thread nD τ).loc main_arg2)) (h3 : x3 = m ((c.tc : Thread nD τ).loc main_arg3)) :
    val_main_v15 (F := Ideal) x1 x2 x3 = W2 m ρ c main_v1_1 := by
  subst h1 h2 h3
  rw [show W2 m ρ c main_v1_1 = _ from W2_arr m ρ c 5, arr1_5]
  simp only [show V1 m ρ c main_arg1 = _ from W1_args m ρ c main_arg1 (by decide), show V1 m ρ c main_arg2 = _ from W1_args m ρ c main_arg2 (by decide), show V1 m ρ c main_arg3 = _ from W1_args m ρ c main_arg3 (by decide)]

theorem res3 {x1 x3} (h1 : x1 = m ((c.tc : Thread nD τ).loc main_arg1)) (h3 : x3 = m ((c.tc : Thread nD τ).loc main_arg3)) :
    val_main_v16 (F := Ideal) x1 x3 = W2 m ρ c main_v1_2 := by
  subst h1 h3
  rw [show W2 m ρ c main_v1_2 = _ from W2_arr m ρ c 6, arr1_6]
  simp only [show V1 m ρ c main_arg1 = _ from W1_args m ρ c main_arg1 (by decide), show V1 m ρ c main_arg3 = _ from W1_args m ρ c main_arg3 (by decide)]
end

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      r.2.mem ((c.tc : Thread nD τ).loc main_v0) = W2 m ρ c main_v0
      ∧ r.2.mem ((c.tc : Thread nD τ).loc main_v1_0) = W2 m ρ c main_v1_0
      ∧ r.2.mem ((c.tc : Thread nD τ).loc main_v1_1) = W2 m ρ c main_v1_1
      ∧ r.2.mem ((c.tc : Thread nD τ).loc main_v1_2) = W2 m ρ c main_v1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨h c _ (mem_uc main_v0 (by decide)),
       h c _ (mem_uc main_v1_0 (by decide)),
       h c _ (mem_uc main_v1_1 (by decide)),
       h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end

end Cert.Kernel12Ideal.Mix

namespace Cert.Prod12

open Idealize.ShloMosaic Idealize.ShloMosaic.TcCoe Idealize.SL.Sem

/-- The reference keeps its arguments and leaves no count. -/
theorem frame_ref : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The kernel and the reference end with equal results. -/
theorem value : Cert.algebraic_Kernel12Ideal_Reference12Ideal (hKernel12Ideal := Cert.Kernel12Ideal.Gen.facts)
    (hReference12Ideal := Cert.Reference12Ideal.Gen.facts) := fun m ρ m' ρ' _ hag =>
  ⟨fun c => Cert.Kernel12Ideal.Gen.W2 m ρ c Cert.Kernel12Ideal.main_v0, fun c => Cert.Kernel12Ideal.Gen.W2 m ρ c Cert.Kernel12Ideal.main_v1_0, fun c => Cert.Kernel12Ideal.Gen.W2 m ρ c Cert.Kernel12Ideal.main_v1_1, fun c => Cert.Kernel12Ideal.Gen.W2 m ρ c Cert.Kernel12Ideal.main_v1_2,
    Cert.Kernel12Ideal.Mix.run (F := Ideal) m ρ,
    (θ_run Cert.Reference12Ideal.defs _ _).mono (fun _ h c => by
      obtain ⟨g0, g1, g2, g3⟩ := hag c
      obtain ⟨r0, r1, r2, r3, rest⟩ := h c
      exact ⟨(r0.trans (Cert.Reference12Ideal.Read.val_main_v10_eq _ _ _)).trans (Cert.Kernel12Ideal.Mix.res0 m ρ c g0 g1 g2), r1.trans (Cert.Kernel12Ideal.Mix.res1 m ρ c g3),
        (r2.trans (Cert.Reference12Ideal.Read.val_main_v15_eq _ _ _)).trans (Cert.Kernel12Ideal.Mix.res2 m ρ c g1 g2 g3), (r3.trans (Cert.Reference12Ideal.Read.val_main_v16_eq _ _)).trans (Cert.Kernel12Ideal.Mix.res3 m ρ c g1 g3), rest⟩)
      (Cert.Reference12Ideal.Value.run (F := Ideal) m' ρ')⟩

end Cert.Prod12

end

end
-- ==== Proof.Val13.lean ====
module

public import proofs.«01_k».proof.Defs
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init
public import Idealize.ShloMosaic.Lib.Pipeline.ValueKit.Geometry

@[expose] public section

set_option maxRecDepth 16384

noncomputable section

/-! The optimiser's calls: the tiles of rows of each, entry by entry, are the update the reference makes of the whole array. -/

namespace Cert.Kernel13Ideal.Opt

open Idealize.ShloMosaic Idealize.ShloMosaic.TcCoe Idealize.ShloMosaic.Tactic Cert.Kernel13Ideal Cert.Kernel13Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference13Ideal.Read

section
variable (V : (c : Dev nD) → (b : Ref sig .tc) → Buf (Elt Ideal) ((c : Thread nD τ).loc b)) (c : Dev nD)

/-- Entry by entry, the change call 0 writes is the reference's. -/
theorem pay0 (x0 x1 x2 x3 : Vec Ideal S512x1024 .f32) (y : S512x1024.Idx) {X0 X1 X2 X3 : (⟨S512x1024, .f32⟩ : BufTy).Contents (Elt Ideal)} {i : S512x1024.Idx}
    (h0 : x0 y = X0 i) (h1 : x1 y = X1 i) (h2 : x2 y = X2 i) (h3 : x3 y = X3 i) :
    (k0_pay3 x1 x2 x3 x0 : FVec Ideal S512x1024 .f32) y = val_main_v23 (F := Ideal) X0 X1 X2 X3 i := by
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, ← h0, ← h1, ← h2, ← h3]
  rfl

/-- Call 0 leaves the changes of the weight. -/
theorem arr0_4 : (dat0 V c).arrAt 4 cfg0.N = val_main_v23 (F := Ideal) (V c main_arg0) (V c main_arg1) (V c main_arg2) (V c main_arg3) := by
  refine (dat0 V c).arrAt_eq_of_covers 4 _ (by decide +kernel) fun t hf y => ?_
  blk_simp
  rw [after0_4]
  unfold out0_4
  rw [View.canon_unit_zero (S := S512x1024) (by decide) inb_S512x1024_S512x1024_0_0]
  simp only [View.ld_unit_zero (S := S512x1024) (by decide) inb_S512x1024_S512x1024_0_0]
  exact pay0 (iblk0 V c 0 t) (iblk0 V c 1 t) (iblk0 V c 2 t) (iblk0 V c 3 t) y (by rfl) (by rfl) (by rfl) (by rfl)

/-- Call 0 leaves the first moments. -/
theorem arr0_5 : (dat0 V c).arrAt 5 cfg0.N = val_main_v4 (F := Ideal) (V c main_arg1) (V c main_arg2) := by
  refine (dat0 V c).arrAt_eq_of_covers 5 _ (by decide +kernel) fun t hf y => ?_
  blk_simp
  rw [after0_5]
  unfold out0_5
  rw [View.canon_unit_zero (S := S512x1024) (by decide) inb_S512x1024_S512x1024_0_0]
  simp only [View.ld_unit_zero (S := S512x1024) (by decide) inb_S512x1024_S512x1024_0_0]
  rfl

/-- Call 0 leaves the second moments. -/
theorem arr0_6 : (dat0 V c).arrAt 6 cfg0.N = val_main_v10 (F := Ideal) (V c main_arg1) (V c main_arg3) := by
  refine (dat0 V c).arrAt_eq_of_covers 6 _ (by decide +kernel) fun t hf y => ?_
  blk_simp
  rw [after0_6]
  unfold out0_6
  rw [View.canon_unit_zero (S := S512x1024) (by decide) inb_S512x1024_S512x1024_0_0]
  simp only [View.ld_unit_zero (S := S512x1024) (by decide) inb_S512x1024_S512x1024_0_0]
  rfl

/-- Entry by entry, the change call 1 writes is the reference's. -/
theorem pay1 (x0 x1 x2 x3 : Vec Ideal S256x1408 .f32) (y : S256x1408.Idx) {X0 X1 X2 X3 : (⟨S2048x1408, .f32⟩ : BufTy).Contents (Elt Ideal)} {i : S2048x1408.Idx}
    (h0 : x0 y = X0 i) (h1 : x1 y = X1 i) (h2 : x2 y = X2 i) (h3 : x3 y = X3 i) :
    (k1_pay3 x1 x2 x3 x0 : FVec Ideal S256x1408 .f32) y = val_main_v47 (F := Ideal) X0 X1 X2 X3 i := by
  simp only [val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, ← h0, ← h1, ← h2, ← h3]
  rfl

/-- Call 1 leaves the changes of the weight. -/
theorem arr1_4 : (dat1 V c).arrAt 4 cfg1.N = val_main_v47 (F := Ideal) (V c main_arg4) (V c main_arg5) (V c main_arg6) (V c main_arg7) := by
  refine (dat1 V c).arrAt_eq_of_covers 4 _ (by decide +kernel) fun t hf y => ?_
  blk_simp
  rw [after1_4]
  unfold out1_4
  rw [View.canon_unit_zero (S := S256x1408) (by decide) inb_S256x1408_S256x1408_0_0]
  simp only [View.ld_unit_zero (S := S256x1408) (by decide) inb_S256x1408_S256x1408_0_0]
  exact pay1 (iblk1 V c 0 t) (iblk1 V c 1 t) (iblk1 V c 2 t) (iblk1 V c 3 t) y (by rfl) (by rfl) (by rfl) (by rfl)

/-- Call 1 leaves the first moments. -/
theorem arr1_5 : (dat1 V c).arrAt 5 cfg1.N = val_main_v28 (F := Ideal) (V c main_arg5) (V c main_arg6) := by
  refine (dat1 V c).arrAt_eq_of_covers 5 _ (by decide +kernel) fun t hf y => ?_
  blk_simp
  rw [after1_5]
  unfold out1_5
  rw [View.canon_unit_zero (S := S256x1408) (by decide) inb_S256x1408_S256x1408_0_0]
  simp only [View.ld_unit_zero (S := S256x1408) (by decide) inb_S256x1408_S256x1408_0_0]
  rfl

/-- Call 1 leaves the second moments. -/
theorem arr1_6 : (dat1 V c).arrAt 6 cfg1.N = val_main_v34 (F := Ideal) (V c main_arg5) (V c main_arg7) := by
  refine (dat1 V c).arrAt_eq_of_covers 6 _ (by decide +kernel) fun t hf y => ?_
  blk_simp
  rw [after1_6]
  unfold out1_6
  rw [View.canon_unit_zero (S := S256x1408) (by decide) inb_S256x1408_S256x1408_0_0]
  simp only [View.ld_unit_zero (S := S256x1408) (by decide) inb_S256x1408_S256x1408_0_0]
  rfl

/-- Entry by entry, the change call 2 writes is the reference's. -/
theorem pay2 (x0 x1 x2 x3 : Vec Ideal S6x1408 .f32) (y : S6x1408.Idx) {X0 X1 X2 X3 : (⟨S6x1408, .f32⟩ : BufTy).Contents (Elt Ideal)} {i : S6x1408.Idx}
    (h0 : x0 y = X0 i) (h1 : x1 y = X1 i) (h2 : x2 y = X2 i) (h3 : x3 y = X3 i) :
    (k2_pay3 x1 x2 x3 x0 : FVec Ideal S6x1408 .f32) y = val_main_v71 (F := Ideal) X0 X1 X2 X3 i := by
  simp only [val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, ← h0, ← h1, ← h2, ← h3]
  rfl

/-- Call 2 leaves the changes of the weight. -/
theorem arr2_4 : (dat2 V c).arrAt 4 cfg2.N = val_main_v71 (F := Ideal) (V c main_arg8) (V c main_arg9) (V c main_arg10) (V c main_arg11) := by
  refine (dat2 V c).arrAt_eq_of_covers 4 _ (by decide +kernel) fun t hf y => ?_
  blk_simp
  rw [after2_4]
  unfold out2_4
  rw [View.canon_unit_zero (S := S6x1408) (by decide) inb_S6x1408_S6x1408_0_0]
  simp only [View.ld_unit_zero (S := S6x1408) (by decide) inb_S6x1408_S6x1408_0_0]
  exact pay2 (iblk2 V c 0 t) (iblk2 V c 1 t) (iblk2 V c 2 t) (iblk2 V c 3 t) y (by rfl) (by rfl) (by rfl) (by rfl)

/-- Call 2 leaves the first moments. -/
theorem arr2_5 : (dat2 V c).arrAt 5 cfg2.N = val_main_v52 (F := Ideal) (V c main_arg9) (V c main_arg10) := by
  refine (dat2 V c).arrAt_eq_of_covers 5 _ (by decide +kernel) fun t hf y => ?_
  blk_simp
  rw [after2_5]
  unfold out2_5
  rw [View.canon_unit_zero (S := S6x1408) (by decide) inb_S6x1408_S6x1408_0_0]
  simp only [View.ld_unit_zero (S := S6x1408) (by decide) inb_S6x1408_S6x1408_0_0]
  rfl

/-- Call 2 leaves the second moments. -/
theorem arr2_6 : (dat2 V c).arrAt 6 cfg2.N = val_main_v58 (F := Ideal) (V c main_arg9) (V c main_arg11) := by
  refine (dat2 V c).arrAt_eq_of_covers 6 _ (by decide +kernel) fun t hf y => ?_
  blk_simp
  rw [after2_6]
  unfold out2_6
  rw [View.canon_unit_zero (S := S6x1408) (by decide) inb_S6x1408_S6x1408_0_0]
  simp only [View.ld_unit_zero (S := S6x1408) (by decide) inb_S6x1408_S6x1408_0_0]
  rfl

/-- Entry by entry, the change call 3 writes is the reference's. -/
theorem pay3 (x0 x1 x2 x3 : Vec Ideal S352x1024 .f32) (y : S352x1024.Idx) {X0 X1 X2 X3 : (⟨S1408x1024, .f32⟩ : BufTy).Contents (Elt Ideal)} {i : S1408x1024.Idx}
    (h0 : x0 y = X0 i) (h1 : x1 y = X1 i) (h2 : x2 y = X2 i) (h3 : x3 y = X3 i) :
    (k3_pay3 x1 x2 x3 x0 : FVec Ideal S352x1024 .f32) y = val_main_v95 (F := Ideal) X0 X1 X2 X3 i := by
  simp only [val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, ← h0, ← h1, ← h2, ← h3]
  rfl

/-- Call 3 leaves the changes of the weight. -/
theorem arr3_4 : (dat3 V c).arrAt 4 cfg3.N = val_main_v95 (F := Ideal) (V c main_arg12) (V c main_arg13) (V c main_arg14) (V c main_arg15) := by
  refine (dat3 V c).arrAt_eq_of_covers 4 _ (by decide +kernel) fun t hf y => ?_
  blk_simp
  rw [after3_4]
  unfold out3_4
  rw [View.canon_unit_zero (S := S352x1024) (by decide) inb_S352x1024_S352x1024_0_0]
  simp only [View.ld_unit_zero (S := S352x1024) (by decide) inb_S352x1024_S352x1024_0_0]
  exact pay3 (iblk3 V c 0 t) (iblk3 V c 1 t) (iblk3 V c 2 t) (iblk3 V c 3 t) y (by rfl) (by rfl) (by rfl) (by rfl)

/-- Call 3 leaves the first moments. -/
theorem arr3_5 : (dat3 V c).arrAt 5 cfg3.N = val_main_v76 (F := Ideal) (V c main_arg13) (V c main_arg14) := by
  refine (dat3 V c).arrAt_eq_of_covers 5 _ (by decide +kernel) fun t hf y => ?_
  blk_simp
  rw [after3_5]
  unfold out3_5
  rw [View.canon_unit_zero (S := S352x1024) (by decide) inb_S352x1024_S352x1024_0_0]
  simp only [View.ld_unit_zero (S := S352x1024) (by decide) inb_S352x1024_S352x1024_0_0]
  rfl

/-- Call 3 leaves the second moments. -/
theorem arr3_6 : (dat3 V c).arrAt 6 cfg3.N = val_main_v82 (F := Ideal) (V c main_arg13) (V c main_arg15) := by
  refine (dat3 V c).arrAt_eq_of_covers 6 _ (by decide +kernel) fun t hf y => ?_
  blk_simp
  rw [after3_6]
  unfold out3_6
  rw [View.canon_unit_zero (S := S352x1024) (by decide) inb_S352x1024_S352x1024_0_0]
  simp only [View.ld_unit_zero (S := S352x1024) (by decide) inb_S352x1024_S352x1024_0_0]
  rfl

/-- Entry by entry, the change call 4 writes is the reference's. -/
theorem pay4 (x0 x1 x2 x3 : Vec Ideal S512x1024 .f32) (y : S512x1024.Idx) {X0 X1 X2 X3 : (⟨S512x1024, .f32⟩ : BufTy).Contents (Elt Ideal)} {i : S512x1024.Idx}
    (h0 : x0 y = X0 i) (h1 : x1 y = X1 i) (h2 : x2 y = X2 i) (h3 : x3 y = X3 i) :
    (k4_pay3 x1 x2 x3 x0 : FVec Ideal S512x1024 .f32) y = val_main_v119 (F := Ideal) X0 X1 X2 X3 i := by
  simp only [val_main_v119_apply, val_main_v118_apply, val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, ← h0, ← h1, ← h2, ← h3]
  rfl

/-- Call 4 leaves the changes of the weight. -/
theorem arr4_4 : (dat4 V c).arrAt 4 cfg4.N = val_main_v119 (F := Ideal) (V c main_arg16) (V c main_arg17) (V c main_arg18) (V c main_arg19) := by
  refine (dat4 V c).arrAt_eq_of_covers 4 _ (by decide +kernel) fun t hf y => ?_
  blk_simp
  rw [after4_4]
  unfold out4_4
  rw [View.canon_unit_zero (S := S512x1024) (by decide) inb_S512x1024_S512x1024_0_0]
  simp only [View.ld_unit_zero (S := S512x1024) (by decide) inb_S512x1024_S512x1024_0_0]
  exact pay4 (iblk4 V c 0 t) (iblk4 V c 1 t) (iblk4 V c 2 t) (iblk4 V c 3 t) y (by rfl) (by rfl) (by rfl) (by rfl)

/-- Call 4 leaves the first moments. -/
theorem arr4_5 : (dat4 V c).arrAt 5 cfg4.N = val_main_v100 (F := Ideal) (V c main_arg17) (V c main_arg18) := by
  refine (dat4 V c).arrAt_eq_of_covers 5 _ (by decide +kernel) fun t hf y => ?_
  blk_simp
  rw [after4_5]
  unfold out4_5
  rw [View.canon_unit_zero (S := S512x1024) (by decide) inb_S512x1024_S512x1024_0_0]
  simp only [View.ld_unit_zero (S := S512x1024) (by decide) inb_S512x1024_S512x1024_0_0]
  rfl

/-- Call 4 leaves the second moments. -/
theorem arr4_6 : (dat4 V c).arrAt 6 cfg4.N = val_main_v106 (F := Ideal) (V c main_arg17) (V c main_arg19) := by
  refine (dat4 V c).arrAt_eq_of_covers 6 _ (by decide +kernel) fun t hf y => ?_
  blk_simp
  rw [after4_6]
  unfold out4_6
  rw [View.canon_unit_zero (S := S512x1024) (by decide) inb_S512x1024_S512x1024_0_0]
  simp only [View.ld_unit_zero (S := S512x1024) (by decide) inb_S512x1024_S512x1024_0_0]
  rfl

/-- Entry by entry, the change call 5 writes is the reference's. -/
theorem pay5 (x0 x1 x2 x3 : Vec Ideal S512x256 .f32) (y : S512x256.Idx) {X0 X1 X2 X3 : (⟨S512x256, .f32⟩ : BufTy).Contents (Elt Ideal)} {i : S512x256.Idx}
    (h0 : x0 y = X0 i) (h1 : x1 y = X1 i) (h2 : x2 y = X2 i) (h3 : x3 y = X3 i) :
    (k5_pay3 x1 x2 x3 x0 : FVec Ideal S512x256 .f32) y = val_main_v143 (F := Ideal) X0 X1 X2 X3 i := by
  simp only [val_main_v143_apply, val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, ← h0, ← h1, ← h2, ← h3]
  rfl

/-- Call 5 leaves the changes of the weight. -/
theorem arr5_4 : (dat5 V c).arrAt 4 cfg5.N = val_main_v143 (F := Ideal) (V c main_arg20) (V c main_arg21) (V c main_arg22) (V c main_arg23) := by
  refine (dat5 V c).arrAt_eq_of_covers 4 _ (by decide +kernel) fun t hf y => ?_
  blk_simp
  rw [after5_4]
  unfold out5_4
  rw [View.canon_unit_zero (S := S512x256) (by decide) inb_S512x256_S512x256_0_0]
  simp only [View.ld_unit_zero (S := S512x256) (by decide) inb_S512x256_S512x256_0_0]
  exact pay5 (iblk5 V c 0 t) (iblk5 V c 1 t) (iblk5 V c 2 t) (iblk5 V c 3 t) y (by rfl) (by rfl) (by rfl) (by rfl)

/-- Call 5 leaves the first moments. -/
theorem arr5_5 : (dat5 V c).arrAt 5 cfg5.N = val_main_v124 (F := Ideal) (V c main_arg21) (V c main_arg22) := by
  refine (dat5 V c).arrAt_eq_of_covers 5 _ (by decide +kernel) fun t hf y => ?_
  blk_simp
  rw [after5_5]
  unfold out5_5
  rw [View.canon_unit_zero (S := S512x256) (by decide) inb_S512x256_S512x256_0_0]
  simp only [View.ld_unit_zero (S := S512x256) (by decide) inb_S512x256_S512x256_0_0]
  rfl

/-- Call 5 leaves the second moments. -/
theorem arr5_6 : (dat5 V c).arrAt 6 cfg5.N = val_main_v130 (F := Ideal) (V c main_arg21) (V c main_arg23) := by
  refine (dat5 V c).arrAt_eq_of_covers 6 _ (by decide +kernel) fun t hf y => ?_
  blk_simp
  rw [after5_6]
  unfold out5_6
  rw [View.canon_unit_zero (S := S512x256) (by decide) inb_S512x256_S512x256_0_0]
  simp only [View.ld_unit_zero (S := S512x256) (by decide) inb_S512x256_S512x256_0_0]
  rfl

/-- Entry by entry, the change call 6 writes is the reference's. -/
theorem pay6 (x0 x1 x2 x3 : Vec Ideal S512x537 .f32) (y : S512x537.Idx) {X0 X1 X2 X3 : (⟨S2048x537, .f32⟩ : BufTy).Contents (Elt Ideal)} {i : S2048x537.Idx}
    (h0 : x0 y = X0 i) (h1 : x1 y = X1 i) (h2 : x2 y = X2 i) (h3 : x3 y = X3 i) :
    (k6_pay3 x1 x2 x3 x0 : FVec Ideal S512x537 .f32) y = val_main_v167 (F := Ideal) X0 X1 X2 X3 i := by
  simp only [val_main_v167_apply, val_main_v166_apply, val_main_v165_apply, val_main_v164_apply, val_main_v163_apply, val_main_v162_apply, val_main_v161_apply, val_main_v160_apply, val_main_v159_apply, val_main_v158_apply, val_main_v157_apply, val_main_v156_apply, val_main_v155_apply, val_main_v154_apply, val_main_v153_apply, val_main_v152_apply, val_main_v151_apply, val_main_v150_apply, val_main_v149_apply, val_main_v148_apply, val_main_v147_apply, val_main_v146_apply, val_main_v145_apply, val_main_v144_apply, ← h0, ← h1, ← h2, ← h3]
  rfl

/-- Call 6 leaves the changes of the weight. -/
theorem arr6_4 : (dat6 V c).arrAt 4 cfg6.N = val_main_v167 (F := Ideal) (V c main_arg24) (V c main_arg25) (V c main_arg26) (V c main_arg27) := by
  refine (dat6 V c).arrAt_eq_of_covers 4 _ (by decide +kernel) fun t hf y => ?_
  blk_simp
  rw [after6_4]
  unfold out6_4
  rw [View.canon_unit_zero (S := S512x537) (by decide) inb_S512x537_S512x537_0_0]
  simp only [View.ld_unit_zero (S := S512x537) (by decide) inb_S512x537_S512x537_0_0]
  exact pay6 (iblk6 V c 0 t) (iblk6 V c 1 t) (iblk6 V c 2 t) (iblk6 V c 3 t) y (by rfl) (by rfl) (by rfl) (by rfl)

/-- Call 6 leaves the first moments. -/
theorem arr6_5 : (dat6 V c).arrAt 5 cfg6.N = val_main_v148 (F := Ideal) (V c main_arg25) (V c main_arg26) := by
  refine (dat6 V c).arrAt_eq_of_covers 5 _ (by decide +kernel) fun t hf y => ?_
  blk_simp
  rw [after6_5]
  unfold out6_5
  rw [View.canon_unit_zero (S := S512x537) (by decide) inb_S512x537_S512x537_0_0]
  simp only [View.ld_unit_zero (S := S512x537) (by decide) inb_S512x537_S512x537_0_0]
  rfl

/-- Call 6 leaves the second moments. -/
theorem arr6_6 : (dat6 V c).arrAt 6 cfg6.N = val_main_v154 (F := Ideal) (V c main_arg25) (V c main_arg27) := by
  refine (dat6 V c).arrAt_eq_of_covers 6 _ (by decide +kernel) fun t hf y => ?_
  blk_simp
  rw [after6_6]
  unfold out6_6
  rw [View.canon_unit_zero (S := S512x537) (by decide) inb_S512x537_S512x537_0_0]
  simp only [View.ld_unit_zero (S := S512x537) (by decide) inb_S512x537_S512x537_0_0]
  rfl

/-- Entry by entry, the change call 7 writes is the reference's. -/
theorem pay7 (x0 x1 x2 x3 : Vec Ideal S384x96 .f32) (y : S384x96.Idx) {X0 X1 X2 X3 : (⟨S384x96, .f32⟩ : BufTy).Contents (Elt Ideal)} {i : S384x96.Idx}
    (h0 : x0 y = X0 i) (h1 : x1 y = X1 i) (h2 : x2 y = X2 i) (h3 : x3 y = X3 i) :
    (k7_pay3 x1 x2 x3 x0 : FVec Ideal S384x96 .f32) y = val_main_v191 (F := Ideal) X0 X1 X2 X3 i := by
  simp only [val_main_v191_apply, val_main_v190_apply, val_main_v189_apply, val_main_v188_apply, val_main_v187_apply, val_main_v186_apply, val_main_v185_apply, val_main_v184_apply, val_main_v183_apply, val_main_v182_apply, val_main_v181_apply, val_main_v180_apply, val_main_v179_apply, val_main_v178_apply, val_main_v177_apply, val_main_v176_apply, val_main_v175_apply, val_main_v174_apply, val_main_v173_apply, val_main_v172_apply, val_main_v171_apply, val_main_v170_apply, val_main_v169_apply, val_main_v168_apply, ← h0, ← h1, ← h2, ← h3]
  rfl

/-- Call 7 leaves the changes of the weight. -/
theorem arr7_4 : (dat7 V c).arrAt 4 cfg7.N = val_main_v191 (F := Ideal) (V c main_arg28) (V c main_arg29) (V c main_arg30) (V c main_arg31) := by
  refine (dat7 V c).arrAt_eq_of_covers 4 _ (by decide +kernel) fun t hf y => ?_
  blk_simp
  rw [after7_4]
  unfold out7_4
  rw [View.canon_unit_zero (S := S384x96) (by decide) inb_S384x96_S384x96_0_0]
  simp only [View.ld_unit_zero (S := S384x96) (by decide) inb_S384x96_S384x96_0_0]
  exact pay7 (iblk7 V c 0 t) (iblk7 V c 1 t) (iblk7 V c 2 t) (iblk7 V c 3 t) y (by rfl) (by rfl) (by rfl) (by rfl)

/-- Call 7 leaves the first moments. -/
theorem arr7_5 : (dat7 V c).arrAt 5 cfg7.N = val_main_v172 (F := Ideal) (V c main_arg29) (V c main_arg30) := by
  refine (dat7 V c).arrAt_eq_of_covers 5 _ (by decide +kernel) fun t hf y => ?_
  blk_simp
  rw [after7_5]
  unfold out7_5
  rw [View.canon_unit_zero (S := S384x96) (by decide) inb_S384x96_S384x96_0_0]
  simp only [View.ld_unit_zero (S := S384x96) (by decide) inb_S384x96_S384x96_0_0]
  rfl

/-- Call 7 leaves the second moments. -/
theorem arr7_6 : (dat7 V c).arrAt 6 cfg7.N = val_main_v178 (F := Ideal) (V c main_arg29) (V c main_arg31) := by
  refine (dat7 V c).arrAt_eq_of_covers 6 _ (by decide +kernel) fun t hf y => ?_
  blk_simp
  rw [after7_6]
  unfold out7_6
  rw [View.canon_unit_zero (S := S384x96) (by decide) inb_S384x96_S384x96_0_0]
  simp only [View.ld_unit_zero (S := S384x96) (by decide) inb_S384x96_S384x96_0_0]
  rfl

/-- Entry by entry, the change call 8 writes is the reference's. -/
theorem pay8 (x0 x1 x2 x3 : Vec Ideal S256x128 .f32) (y : S256x128.Idx) {X0 X1 X2 X3 : (⟨S256x128, .f32⟩ : BufTy).Contents (Elt Ideal)} {i : S256x128.Idx}
    (h0 : x0 y = X0 i) (h1 : x1 y = X1 i) (h2 : x2 y = X2 i) (h3 : x3 y = X3 i) :
    (k8_pay3 x1 x2 x3 x0 : FVec Ideal S256x128 .f32) y = val_main_v215 (F := Ideal) X0 X1 X2 X3 i := by
  simp only [val_main_v215_apply, val_main_v214_apply, val_main_v213_apply, val_main_v212_apply, val_main_v211_apply, val_main_v210_apply, val_main_v209_apply, val_main_v208_apply, val_main_v207_apply, val_main_v206_apply, val_main_v205_apply, val_main_v204_apply, val_main_v203_apply, val_main_v202_apply, val_main_v201_apply, val_main_v200_apply, val_main_v199_apply, val_main_v198_apply, val_main_v197_apply, val_main_v196_apply, val_main_v195_apply, val_main_v194_apply, val_main_v193_apply, val_main_v192_apply, ← h0, ← h1, ← h2, ← h3]
  rfl

/-- Call 8 leaves the changes of the weight. -/
theorem arr8_4 : (dat8 V c).arrAt 4 cfg8.N = val_main_v215 (F := Ideal) (V c main_arg32) (V c main_arg33) (V c main_arg34) (V c main_arg35) := by
  refine (dat8 V c).arrAt_eq_of_covers 4 _ (by decide +kernel) fun t hf y => ?_
  blk_simp
  rw [after8_4]
  unfold out8_4
  rw [View.canon_unit_zero (S := S256x128) (by decide) inb_S256x128_S256x128_0_0]
  simp only [View.ld_unit_zero (S := S256x128) (by decide) inb_S256x128_S256x128_0_0]
  exact pay8 (iblk8 V c 0 t) (iblk8 V c 1 t) (iblk8 V c 2 t) (iblk8 V c 3 t) y (by rfl) (by rfl) (by rfl) (by rfl)

/-- Call 8 leaves the first moments. -/
theorem arr8_5 : (dat8 V c).arrAt 5 cfg8.N = val_main_v196 (F := Ideal) (V c main_arg33) (V c main_arg34) := by
  refine (dat8 V c).arrAt_eq_of_covers 5 _ (by decide +kernel) fun t hf y => ?_
  blk_simp
  rw [after8_5]
  unfold out8_5
  rw [View.canon_unit_zero (S := S256x128) (by decide) inb_S256x128_S256x128_0_0]
  simp only [View.ld_unit_zero (S := S256x128) (by decide) inb_S256x128_S256x128_0_0]
  rfl

/-- Call 8 leaves the second moments. -/
theorem arr8_6 : (dat8 V c).arrAt 6 cfg8.N = val_main_v202 (F := Ideal) (V c main_arg33) (V c main_arg35) := by
  refine (dat8 V c).arrAt_eq_of_covers 6 _ (by decide +kernel) fun t hf y => ?_
  blk_simp
  rw [after8_6]
  unfold out8_6
  rw [View.canon_unit_zero (S := S256x128) (by decide) inb_S256x128_S256x128_0_0]
  simp only [View.ld_unit_zero (S := S256x128) (by decide) inb_S256x128_S256x128_0_0]
  rfl

/-- Entry by entry, the change call 9 writes is the reference's. -/
theorem pay9 (x0 x1 x2 x3 : Vec Ideal S8x128 .f32) (y : S8x128.Idx) {X0 X1 X2 X3 : (⟨S8x128, .f32⟩ : BufTy).Contents (Elt Ideal)} {i : S8x128.Idx}
    (h0 : x0 y = X0 i) (h1 : x1 y = X1 i) (h2 : x2 y = X2 i) (h3 : x3 y = X3 i) :
    (k9_pay3 x1 x2 x3 x0 : FVec Ideal S8x128 .f32) y = val_main_v239 (F := Ideal) X0 X1 X2 X3 i := by
  simp only [val_main_v239_apply, val_main_v238_apply, val_main_v237_apply, val_main_v236_apply, val_main_v235_apply, val_main_v234_apply, val_main_v233_apply, val_main_v232_apply, val_main_v231_apply, val_main_v230_apply, val_main_v229_apply, val_main_v228_apply, val_main_v227_apply, val_main_v226_apply, val_main_v225_apply, val_main_v224_apply, val_main_v223_apply, val_main_v222_apply, val_main_v221_apply, val_main_v220_apply, val_main_v219_apply, val_main_v218_apply, val_main_v217_apply, val_main_v216_apply, ← h0, ← h1, ← h2, ← h3]
  rfl

/-- Call 9 leaves the changes of the weight. -/
theorem arr9_4 : (dat9 V c).arrAt 4 cfg9.N = val_main_v239 (F := Ideal) (V c main_arg36) (V c main_arg37) (V c main_arg38) (V c main_arg39) := by
  refine (dat9 V c).arrAt_eq_of_covers 4 _ (by decide +kernel) fun t hf y => ?_
  blk_simp
  rw [after9_4]
  unfold out9_4
  rw [View.canon_unit_zero (S := S8x128) (by decide) inb_S8x128_S8x128_0_0]
  simp only [View.ld_unit_zero (S := S8x128) (by decide) inb_S8x128_S8x128_0_0]
  exact pay9 (iblk9 V c 0 t) (iblk9 V c 1 t) (iblk9 V c 2 t) (iblk9 V c 3 t) y (by rfl) (by rfl) (by rfl) (by rfl)

/-- Call 9 leaves the first moments. -/
theorem arr9_5 : (dat9 V c).arrAt 5 cfg9.N = val_main_v220 (F := Ideal) (V c main_arg37) (V c main_arg38) := by
  refine (dat9 V c).arrAt_eq_of_covers 5 _ (by decide +kernel) fun t hf y => ?_
  blk_simp
  rw [after9_5]
  unfold out9_5
  rw [View.canon_unit_zero (S := S8x128) (by decide) inb_S8x128_S8x128_0_0]
  simp only [View.ld_unit_zero (S := S8x128) (by decide) inb_S8x128_S8x128_0_0]
  rfl

/-- Call 9 leaves the second moments. -/
theorem arr9_6 : (dat9 V c).arrAt 6 cfg9.N = val_main_v226 (F := Ideal) (V c main_arg37) (V c main_arg39) := by
  refine (dat9 V c).arrAt_eq_of_covers 6 _ (by decide +kernel) fun t hf y => ?_
  blk_simp
  rw [after9_6]
  unfold out9_6
  rw [View.canon_unit_zero (S := S8x128) (by decide) inb_S8x128_S8x128_0_0]
  simp only [View.ld_unit_zero (S := S8x128) (by decide) inb_S8x128_S8x128_0_0]
  rfl

/-- Entry by entry, the change call 10 writes is the reference's. -/
theorem pay10 (x0 x1 x2 x3 : Vec Ideal S1248x128 .f32) (y : S1248x128.Idx) {X0 X1 X2 X3 : (⟨S1248x128, .f32⟩ : BufTy).Contents (Elt Ideal)} {i : S1248x128.Idx}
    (h0 : x0 y = X0 i) (h1 : x1 y = X1 i) (h2 : x2 y = X2 i) (h3 : x3 y = X3 i) :
    (k10_pay3 x1 x2 x3 x0 : FVec Ideal S1248x128 .f32) y = val_main_v263 (F := Ideal) X0 X1 X2 X3 i := by
  simp only [val_main_v263_apply, val_main_v262_apply, val_main_v261_apply, val_main_v260_apply, val_main_v259_apply, val_main_v258_apply, val_main_v257_apply, val_main_v256_apply, val_main_v255_apply, val_main_v254_apply, val_main_v253_apply, val_main_v252_apply, val_main_v251_apply, val_main_v250_apply, val_main_v249_apply, val_main_v248_apply, val_main_v247_apply, val_main_v246_apply, val_main_v245_apply, val_main_v244_apply, val_main_v243_apply, val_main_v242_apply, val_main_v241_apply, val_main_v240_apply, ← h0, ← h1, ← h2, ← h3]
  rfl

/-- Call 10 leaves the changes of the weight. -/
theorem arr10_4 : (dat10 V c).arrAt 4 cfg10.N = val_main_v263 (F := Ideal) (V c main_arg40) (V c main_arg41) (V c main_arg42) (V c main_arg43) := by
  refine (dat10 V c).arrAt_eq_of_covers 4 _ (by decide +kernel) fun t hf y => ?_
  blk_simp
  rw [after10_4]
  unfold out10_4
  rw [View.canon_unit_zero (S := S1248x128) (by decide) inb_S1248x128_S1248x128_0_0]
  simp only [View.ld_unit_zero (S := S1248x128) (by decide) inb_S1248x128_S1248x128_0_0]
  exact pay10 (iblk10 V c 0 t) (iblk10 V c 1 t) (iblk10 V c 2 t) (iblk10 V c 3 t) y (by rfl) (by rfl) (by rfl) (by rfl)

/-- Call 10 leaves the first moments. -/
theorem arr10_5 : (dat10 V c).arrAt 5 cfg10.N = val_main_v244 (F := Ideal) (V c main_arg41) (V c main_arg42) := by
  refine (dat10 V c).arrAt_eq_of_covers 5 _ (by decide +kernel) fun t hf y => ?_
  blk_simp
  rw [after10_5]
  unfold out10_5
  rw [View.canon_unit_zero (S := S1248x128) (by decide) inb_S1248x128_S1248x128_0_0]
  simp only [View.ld_unit_zero (S := S1248x128) (by decide) inb_S1248x128_S1248x128_0_0]
  rfl

/-- Call 10 leaves the second moments. -/
theorem arr10_6 : (dat10 V c).arrAt 6 cfg10.N = val_main_v250 (F := Ideal) (V c main_arg41) (V c main_arg43) := by
  refine (dat10 V c).arrAt_eq_of_covers 6 _ (by decide +kernel) fun t hf y => ?_
  blk_simp
  rw [after10_6]
  unfold out10_6
  rw [View.canon_unit_zero (S := S1248x128) (by decide) inb_S1248x128_S1248x128_0_0]
  simp only [View.ld_unit_zero (S := S1248x128) (by decide) inb_S1248x128_S1248x128_0_0]
  rfl
end

section
variable (m : (ℓ : Loc nD τ sig) → Buf (Elt Ideal) ℓ) (ρ : Dev nD → PrngReg) (c : Dev nD)

theorem res0_0 {x0 x1 x2 x3} (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) :
    val_main_v23 (F := Ideal) x0 x1 x2 x3 = W11 m ρ c main_v0_0 := by
  subst h0 h1 h2 h3
  rw [W11_of m ρ c main_v0_0 (by decide), W10_of m ρ c main_v0_0 (by decide), W9_of m ρ c main_v0_0 (by decide), W8_of m ρ c main_v0_0 (by decide), W7_of m ρ c main_v0_0 (by decide), W6_of m ρ c main_v0_0 (by decide), W5_of m ρ c main_v0_0 (by decide), W4_of m ρ c main_v0_0 (by decide), W3_of m ρ c main_v0_0 (by decide), W2_of m ρ c main_v0_0 (by decide), show W1 m ρ c main_v0_0 = _ from W1_arr m ρ c 4, arr0_4]
  try simp only [show V0 m ρ c main_arg0 = _ from W0_args m ρ c main_arg0 (by decide), show V0 m ρ c main_arg1 = _ from W0_args m ρ c main_arg1 (by decide), show V0 m ρ c main_arg2 = _ from W0_args m ρ c main_arg2 (by decide), show V0 m ρ c main_arg3 = _ from W0_args m ρ c main_arg3 (by decide)]

theorem res0_1 {x1 x2} (h1 : x1 = m ((c.tc : Thread nD τ).loc main_arg1)) (h2 : x2 = m ((c.tc : Thread nD τ).loc main_arg2)) :
    val_main_v4 (F := Ideal) x1 x2 = W11 m ρ c main_v0_1 := by
  subst h1 h2
  rw [W11_of m ρ c main_v0_1 (by decide), W10_of m ρ c main_v0_1 (by decide), W9_of m ρ c main_v0_1 (by decide), W8_of m ρ c main_v0_1 (by decide), W7_of m ρ c main_v0_1 (by decide), W6_of m ρ c main_v0_1 (by decide), W5_of m ρ c main_v0_1 (by decide), W4_of m ρ c main_v0_1 (by decide), W3_of m ρ c main_v0_1 (by decide), W2_of m ρ c main_v0_1 (by decide), show W1 m ρ c main_v0_1 = _ from W1_arr m ρ c 5, arr0_5]
  try simp only [show V0 m ρ c main_arg1 = _ from W0_args m ρ c main_arg1 (by decide), show V0 m ρ c main_arg2 = _ from W0_args m ρ c main_arg2 (by decide)]

theorem res0_2 {x1 x3} (h1 : x1 = m ((c.tc : Thread nD τ).loc main_arg1)) (h3 : x3 = m ((c.tc : Thread nD τ).loc main_arg3)) :
    val_main_v10 (F := Ideal) x1 x3 = W11 m ρ c main_v0_2 := by
  subst h1 h3
  rw [W11_of m ρ c main_v0_2 (by decide), W10_of m ρ c main_v0_2 (by decide), W9_of m ρ c main_v0_2 (by decide), W8_of m ρ c main_v0_2 (by decide), W7_of m ρ c main_v0_2 (by decide), W6_of m ρ c main_v0_2 (by decide), W5_of m ρ c main_v0_2 (by decide), W4_of m ρ c main_v0_2 (by decide), W3_of m ρ c main_v0_2 (by decide), W2_of m ρ c main_v0_2 (by decide), show W1 m ρ c main_v0_2 = _ from W1_arr m ρ c 6, arr0_6]
  try simp only [show V0 m ρ c main_arg1 = _ from W0_args m ρ c main_arg1 (by decide), show V0 m ρ c main_arg3 = _ from W0_args m ρ c main_arg3 (by decide)]

theorem res1_0 {x4 x5 x6 x7} (h4 : x4 = m ((c.tc : Thread nD τ).loc main_arg4)) (h5 : x5 = m ((c.tc : Thread nD τ).loc main_arg5)) (h6 : x6 = m ((c.tc : Thread nD τ).loc main_arg6)) (h7 : x7 = m ((c.tc : Thread nD τ).loc main_arg7)) :
    val_main_v47 (F := Ideal) x4 x5 x6 x7 = W11 m ρ c main_v1_0 := by
  subst h4 h5 h6 h7
  rw [W11_of m ρ c main_v1_0 (by decide), W10_of m ρ c main_v1_0 (by decide), W9_of m ρ c main_v1_0 (by decide), W8_of m ρ c main_v1_0 (by decide), W7_of m ρ c main_v1_0 (by decide), W6_of m ρ c main_v1_0 (by decide), W5_of m ρ c main_v1_0 (by decide), W4_of m ρ c main_v1_0 (by decide), W3_of m ρ c main_v1_0 (by decide), show W2 m ρ c main_v1_0 = _ from W2_arr m ρ c 4, arr1_4]
  simp only [show V1 m ρ c main_arg4 = _ from W1_args m ρ c main_arg4 (by decide), show V1 m ρ c main_arg5 = _ from W1_args m ρ c main_arg5 (by decide), show V1 m ρ c main_arg6 = _ from W1_args m ρ c main_arg6 (by decide), show V1 m ρ c main_arg7 = _ from W1_args m ρ c main_arg7 (by decide)]

theorem res1_1 {x5 x6} (h5 : x5 = m ((c.tc : Thread nD τ).loc main_arg5)) (h6 : x6 = m ((c.tc : Thread nD τ).loc main_arg6)) :
    val_main_v28 (F := Ideal) x5 x6 = W11 m ρ c main_v1_1 := by
  subst h5 h6
  rw [W11_of m ρ c main_v1_1 (by decide), W10_of m ρ c main_v1_1 (by decide), W9_of m ρ c main_v1_1 (by decide), W8_of m ρ c main_v1_1 (by decide), W7_of m ρ c main_v1_1 (by decide), W6_of m ρ c main_v1_1 (by decide), W5_of m ρ c main_v1_1 (by decide), W4_of m ρ c main_v1_1 (by decide), W3_of m ρ c main_v1_1 (by decide), show W2 m ρ c main_v1_1 = _ from W2_arr m ρ c 5, arr1_5]
  simp only [show V1 m ρ c main_arg5 = _ from W1_args m ρ c main_arg5 (by decide), show V1 m ρ c main_arg6 = _ from W1_args m ρ c main_arg6 (by decide)]

theorem res1_2 {x5 x7} (h5 : x5 = m ((c.tc : Thread nD τ).loc main_arg5)) (h7 : x7 = m ((c.tc : Thread nD τ).loc main_arg7)) :
    val_main_v34 (F := Ideal) x5 x7 = W11 m ρ c main_v1_2 := by
  subst h5 h7
  rw [W11_of m ρ c main_v1_2 (by decide), W10_of m ρ c main_v1_2 (by decide), W9_of m ρ c main_v1_2 (by decide), W8_of m ρ c main_v1_2 (by decide), W7_of m ρ c main_v1_2 (by decide), W6_of m ρ c main_v1_2 (by decide), W5_of m ρ c main_v1_2 (by decide), W4_of m ρ c main_v1_2 (by decide), W3_of m ρ c main_v1_2 (by decide), show W2 m ρ c main_v1_2 = _ from W2_arr m ρ c 6, arr1_6]
  simp only [show V1 m ρ c main_arg5 = _ from W1_args m ρ c main_arg5 (by decide), show V1 m ρ c main_arg7 = _ from W1_args m ρ c main_arg7 (by decide)]

theorem res2_0 {x8 x9 x10 x11} (h8 : x8 = m ((c.tc : Thread nD τ).loc main_arg8)) (h9 : x9 = m ((c.tc : Thread nD τ).loc main_arg9)) (h10 : x10 = m ((c.tc : Thread nD τ).loc main_arg10)) (h11 : x11 = m ((c.tc : Thread nD τ).loc main_arg11)) :
    val_main_v71 (F := Ideal) x8 x9 x10 x11 = W11 m ρ c main_v2_0 := by
  subst h8 h9 h10 h11
  rw [W11_of m ρ c main_v2_0 (by decide), W10_of m ρ c main_v2_0 (by decide), W9_of m ρ c main_v2_0 (by decide), W8_of m ρ c main_v2_0 (by decide), W7_of m ρ c main_v2_0 (by decide), W6_of m ρ c main_v2_0 (by decide), W5_of m ρ c main_v2_0 (by decide), W4_of m ρ c main_v2_0 (by decide), show W3 m ρ c main_v2_0 = _ from W3_arr m ρ c 4, arr2_4]
  simp only [show V2 m ρ c main_arg8 = _ from W2_args m ρ c main_arg8 (by decide), show V2 m ρ c main_arg9 = _ from W2_args m ρ c main_arg9 (by decide), show V2 m ρ c main_arg10 = _ from W2_args m ρ c main_arg10 (by decide), show V2 m ρ c main_arg11 = _ from W2_args m ρ c main_arg11 (by decide)]

theorem res2_1 {x9 x10} (h9 : x9 = m ((c.tc : Thread nD τ).loc main_arg9)) (h10 : x10 = m ((c.tc : Thread nD τ).loc main_arg10)) :
    val_main_v52 (F := Ideal) x9 x10 = W11 m ρ c main_v2_1 := by
  subst h9 h10
  rw [W11_of m ρ c main_v2_1 (by decide), W10_of m ρ c main_v2_1 (by decide), W9_of m ρ c main_v2_1 (by decide), W8_of m ρ c main_v2_1 (by decide), W7_of m ρ c main_v2_1 (by decide), W6_of m ρ c main_v2_1 (by decide), W5_of m ρ c main_v2_1 (by decide), W4_of m ρ c main_v2_1 (by decide), show W3 m ρ c main_v2_1 = _ from W3_arr m ρ c 5, arr2_5]
  simp only [show V2 m ρ c main_arg9 = _ from W2_args m ρ c main_arg9 (by decide), show V2 m ρ c main_arg10 = _ from W2_args m ρ c main_arg10 (by decide)]

theorem res2_2 {x9 x11} (h9 : x9 = m ((c.tc : Thread nD τ).loc main_arg9)) (h11 : x11 = m ((c.tc : Thread nD τ).loc main_arg11)) :
    val_main_v58 (F := Ideal) x9 x11 = W11 m ρ c main_v2_2 := by
  subst h9 h11
  rw [W11_of m ρ c main_v2_2 (by decide), W10_of m ρ c main_v2_2 (by decide), W9_of m ρ c main_v2_2 (by decide), W8_of m ρ c main_v2_2 (by decide), W7_of m ρ c main_v2_2 (by decide), W6_of m ρ c main_v2_2 (by decide), W5_of m ρ c main_v2_2 (by decide), W4_of m ρ c main_v2_2 (by decide), show W3 m ρ c main_v2_2 = _ from W3_arr m ρ c 6, arr2_6]
  simp only [show V2 m ρ c main_arg9 = _ from W2_args m ρ c main_arg9 (by decide), show V2 m ρ c main_arg11 = _ from W2_args m ρ c main_arg11 (by decide)]

theorem res3_0 {x12 x13 x14 x15} (h12 : x12 = m ((c.tc : Thread nD τ).loc main_arg12)) (h13 : x13 = m ((c.tc : Thread nD τ).loc main_arg13)) (h14 : x14 = m ((c.tc : Thread nD τ).loc main_arg14)) (h15 : x15 = m ((c.tc : Thread nD τ).loc main_arg15)) :
    val_main_v95 (F := Ideal) x12 x13 x14 x15 = W11 m ρ c main_v3_0 := by
  subst h12 h13 h14 h15
  rw [W11_of m ρ c main_v3_0 (by decide), W10_of m ρ c main_v3_0 (by decide), W9_of m ρ c main_v3_0 (by decide), W8_of m ρ c main_v3_0 (by decide), W7_of m ρ c main_v3_0 (by decide), W6_of m ρ c main_v3_0 (by decide), W5_of m ρ c main_v3_0 (by decide), show W4 m ρ c main_v3_0 = _ from W4_arr m ρ c 4, arr3_4]
  simp only [show V3 m ρ c main_arg12 = _ from W3_args m ρ c main_arg12 (by decide), show V3 m ρ c main_arg13 = _ from W3_args m ρ c main_arg13 (by decide), show V3 m ρ c main_arg14 = _ from W3_args m ρ c main_arg14 (by decide), show V3 m ρ c main_arg15 = _ from W3_args m ρ c main_arg15 (by decide)]

theorem res3_1 {x13 x14} (h13 : x13 = m ((c.tc : Thread nD τ).loc main_arg13)) (h14 : x14 = m ((c.tc : Thread nD τ).loc main_arg14)) :
    val_main_v76 (F := Ideal) x13 x14 = W11 m ρ c main_v3_1 := by
  subst h13 h14
  rw [W11_of m ρ c main_v3_1 (by decide), W10_of m ρ c main_v3_1 (by decide), W9_of m ρ c main_v3_1 (by decide), W8_of m ρ c main_v3_1 (by decide), W7_of m ρ c main_v3_1 (by decide), W6_of m ρ c main_v3_1 (by decide), W5_of m ρ c main_v3_1 (by decide), show W4 m ρ c main_v3_1 = _ from W4_arr m ρ c 5, arr3_5]
  simp only [show V3 m ρ c main_arg13 = _ from W3_args m ρ c main_arg13 (by decide), show V3 m ρ c main_arg14 = _ from W3_args m ρ c main_arg14 (by decide)]

theorem res3_2 {x13 x15} (h13 : x13 = m ((c.tc : Thread nD τ).loc main_arg13)) (h15 : x15 = m ((c.tc : Thread nD τ).loc main_arg15)) :
    val_main_v82 (F := Ideal) x13 x15 = W11 m ρ c main_v3_2 := by
  subst h13 h15
  rw [W11_of m ρ c main_v3_2 (by decide), W10_of m ρ c main_v3_2 (by decide), W9_of m ρ c main_v3_2 (by decide), W8_of m ρ c main_v3_2 (by decide), W7_of m ρ c main_v3_2 (by decide), W6_of m ρ c main_v3_2 (by decide), W5_of m ρ c main_v3_2 (by decide), show W4 m ρ c main_v3_2 = _ from W4_arr m ρ c 6, arr3_6]
  simp only [show V3 m ρ c main_arg13 = _ from W3_args m ρ c main_arg13 (by decide), show V3 m ρ c main_arg15 = _ from W3_args m ρ c main_arg15 (by decide)]

theorem res4_0 {x16 x17 x18 x19} (h16 : x16 = m ((c.tc : Thread nD τ).loc main_arg16)) (h17 : x17 = m ((c.tc : Thread nD τ).loc main_arg17)) (h18 : x18 = m ((c.tc : Thread nD τ).loc main_arg18)) (h19 : x19 = m ((c.tc : Thread nD τ).loc main_arg19)) :
    val_main_v119 (F := Ideal) x16 x17 x18 x19 = W11 m ρ c main_v4_0 := by
  subst h16 h17 h18 h19
  rw [W11_of m ρ c main_v4_0 (by decide), W10_of m ρ c main_v4_0 (by decide), W9_of m ρ c main_v4_0 (by decide), W8_of m ρ c main_v4_0 (by decide), W7_of m ρ c main_v4_0 (by decide), W6_of m ρ c main_v4_0 (by decide), show W5 m ρ c main_v4_0 = _ from W5_arr m ρ c 4, arr4_4]
  simp only [show V4 m ρ c main_arg16 = _ from W4_args m ρ c main_arg16 (by decide), show V4 m ρ c main_arg17 = _ from W4_args m ρ c main_arg17 (by decide), show V4 m ρ c main_arg18 = _ from W4_args m ρ c main_arg18 (by decide), show V4 m ρ c main_arg19 = _ from W4_args m ρ c main_arg19 (by decide)]

theorem res4_1 {x17 x18} (h17 : x17 = m ((c.tc : Thread nD τ).loc main_arg17)) (h18 : x18 = m ((c.tc : Thread nD τ).loc main_arg18)) :
    val_main_v100 (F := Ideal) x17 x18 = W11 m ρ c main_v4_1 := by
  subst h17 h18
  rw [W11_of m ρ c main_v4_1 (by decide), W10_of m ρ c main_v4_1 (by decide), W9_of m ρ c main_v4_1 (by decide), W8_of m ρ c main_v4_1 (by decide), W7_of m ρ c main_v4_1 (by decide), W6_of m ρ c main_v4_1 (by decide), show W5 m ρ c main_v4_1 = _ from W5_arr m ρ c 5, arr4_5]
  simp only [show V4 m ρ c main_arg17 = _ from W4_args m ρ c main_arg17 (by decide), show V4 m ρ c main_arg18 = _ from W4_args m ρ c main_arg18 (by decide)]

theorem res4_2 {x17 x19} (h17 : x17 = m ((c.tc : Thread nD τ).loc main_arg17)) (h19 : x19 = m ((c.tc : Thread nD τ).loc main_arg19)) :
    val_main_v106 (F := Ideal) x17 x19 = W11 m ρ c main_v4_2 := by
  subst h17 h19
  rw [W11_of m ρ c main_v4_2 (by decide), W10_of m ρ c main_v4_2 (by decide), W9_of m ρ c main_v4_2 (by decide), W8_of m ρ c main_v4_2 (by decide), W7_of m ρ c main_v4_2 (by decide), W6_of m ρ c main_v4_2 (by decide), show W5 m ρ c main_v4_2 = _ from W5_arr m ρ c 6, arr4_6]
  simp only [show V4 m ρ c main_arg17 = _ from W4_args m ρ c main_arg17 (by decide), show V4 m ρ c main_arg19 = _ from W4_args m ρ c main_arg19 (by decide)]

theorem res5_0 {x20 x21 x22 x23} (h20 : x20 = m ((c.tc : Thread nD τ).loc main_arg20)) (h21 : x21 = m ((c.tc : Thread nD τ).loc main_arg21)) (h22 : x22 = m ((c.tc : Thread nD τ).loc main_arg22)) (h23 : x23 = m ((c.tc : Thread nD τ).loc main_arg23)) :
    val_main_v143 (F := Ideal) x20 x21 x22 x23 = W11 m ρ c main_v5_0 := by
  subst h20 h21 h22 h23
  rw [W11_of m ρ c main_v5_0 (by decide), W10_of m ρ c main_v5_0 (by decide), W9_of m ρ c main_v5_0 (by decide), W8_of m ρ c main_v5_0 (by decide), W7_of m ρ c main_v5_0 (by decide), show W6 m ρ c main_v5_0 = _ from W6_arr m ρ c 4, arr5_4]
  simp only [show V5 m ρ c main_arg20 = _ from W5_args m ρ c main_arg20 (by decide), show V5 m ρ c main_arg21 = _ from W5_args m ρ c main_arg21 (by decide), show V5 m ρ c main_arg22 = _ from W5_args m ρ c main_arg22 (by decide), show V5 m ρ c main_arg23 = _ from W5_args m ρ c main_arg23 (by decide)]

theorem res5_1 {x21 x22} (h21 : x21 = m ((c.tc : Thread nD τ).loc main_arg21)) (h22 : x22 = m ((c.tc : Thread nD τ).loc main_arg22)) :
    val_main_v124 (F := Ideal) x21 x22 = W11 m ρ c main_v5_1 := by
  subst h21 h22
  rw [W11_of m ρ c main_v5_1 (by decide), W10_of m ρ c main_v5_1 (by decide), W9_of m ρ c main_v5_1 (by decide), W8_of m ρ c main_v5_1 (by decide), W7_of m ρ c main_v5_1 (by decide), show W6 m ρ c main_v5_1 = _ from W6_arr m ρ c 5, arr5_5]
  simp only [show V5 m ρ c main_arg21 = _ from W5_args m ρ c main_arg21 (by decide), show V5 m ρ c main_arg22 = _ from W5_args m ρ c main_arg22 (by decide)]

theorem res5_2 {x21 x23} (h21 : x21 = m ((c.tc : Thread nD τ).loc main_arg21)) (h23 : x23 = m ((c.tc : Thread nD τ).loc main_arg23)) :
    val_main_v130 (F := Ideal) x21 x23 = W11 m ρ c main_v5_2 := by
  subst h21 h23
  rw [W11_of m ρ c main_v5_2 (by decide), W10_of m ρ c main_v5_2 (by decide), W9_of m ρ c main_v5_2 (by decide), W8_of m ρ c main_v5_2 (by decide), W7_of m ρ c main_v5_2 (by decide), show W6 m ρ c main_v5_2 = _ from W6_arr m ρ c 6, arr5_6]
  simp only [show V5 m ρ c main_arg21 = _ from W5_args m ρ c main_arg21 (by decide), show V5 m ρ c main_arg23 = _ from W5_args m ρ c main_arg23 (by decide)]

theorem res6_0 {x24 x25 x26 x27} (h24 : x24 = m ((c.tc : Thread nD τ).loc main_arg24)) (h25 : x25 = m ((c.tc : Thread nD τ).loc main_arg25)) (h26 : x26 = m ((c.tc : Thread nD τ).loc main_arg26)) (h27 : x27 = m ((c.tc : Thread nD τ).loc main_arg27)) :
    val_main_v167 (F := Ideal) x24 x25 x26 x27 = W11 m ρ c main_v6_0 := by
  subst h24 h25 h26 h27
  rw [W11_of m ρ c main_v6_0 (by decide), W10_of m ρ c main_v6_0 (by decide), W9_of m ρ c main_v6_0 (by decide), W8_of m ρ c main_v6_0 (by decide), show W7 m ρ c main_v6_0 = _ from W7_arr m ρ c 4, arr6_4]
  simp only [show V6 m ρ c main_arg24 = _ from W6_args m ρ c main_arg24 (by decide), show V6 m ρ c main_arg25 = _ from W6_args m ρ c main_arg25 (by decide), show V6 m ρ c main_arg26 = _ from W6_args m ρ c main_arg26 (by decide), show V6 m ρ c main_arg27 = _ from W6_args m ρ c main_arg27 (by decide)]

theorem res6_1 {x25 x26} (h25 : x25 = m ((c.tc : Thread nD τ).loc main_arg25)) (h26 : x26 = m ((c.tc : Thread nD τ).loc main_arg26)) :
    val_main_v148 (F := Ideal) x25 x26 = W11 m ρ c main_v6_1 := by
  subst h25 h26
  rw [W11_of m ρ c main_v6_1 (by decide), W10_of m ρ c main_v6_1 (by decide), W9_of m ρ c main_v6_1 (by decide), W8_of m ρ c main_v6_1 (by decide), show W7 m ρ c main_v6_1 = _ from W7_arr m ρ c 5, arr6_5]
  simp only [show V6 m ρ c main_arg25 = _ from W6_args m ρ c main_arg25 (by decide), show V6 m ρ c main_arg26 = _ from W6_args m ρ c main_arg26 (by decide)]

theorem res6_2 {x25 x27} (h25 : x25 = m ((c.tc : Thread nD τ).loc main_arg25)) (h27 : x27 = m ((c.tc : Thread nD τ).loc main_arg27)) :
    val_main_v154 (F := Ideal) x25 x27 = W11 m ρ c main_v6_2 := by
  subst h25 h27
  rw [W11_of m ρ c main_v6_2 (by decide), W10_of m ρ c main_v6_2 (by decide), W9_of m ρ c main_v6_2 (by decide), W8_of m ρ c main_v6_2 (by decide), show W7 m ρ c main_v6_2 = _ from W7_arr m ρ c 6, arr6_6]
  simp only [show V6 m ρ c main_arg25 = _ from W6_args m ρ c main_arg25 (by decide), show V6 m ρ c main_arg27 = _ from W6_args m ρ c main_arg27 (by decide)]

theorem res7_0 {x28 x29 x30 x31} (h28 : x28 = m ((c.tc : Thread nD τ).loc main_arg28)) (h29 : x29 = m ((c.tc : Thread nD τ).loc main_arg29)) (h30 : x30 = m ((c.tc : Thread nD τ).loc main_arg30)) (h31 : x31 = m ((c.tc : Thread nD τ).loc main_arg31)) :
    val_main_v191 (F := Ideal) x28 x29 x30 x31 = W11 m ρ c main_v7_0 := by
  subst h28 h29 h30 h31
  rw [W11_of m ρ c main_v7_0 (by decide), W10_of m ρ c main_v7_0 (by decide), W9_of m ρ c main_v7_0 (by decide), show W8 m ρ c main_v7_0 = _ from W8_arr m ρ c 4, arr7_4]
  simp only [show V7 m ρ c main_arg28 = _ from W7_args m ρ c main_arg28 (by decide), show V7 m ρ c main_arg29 = _ from W7_args m ρ c main_arg29 (by decide), show V7 m ρ c main_arg30 = _ from W7_args m ρ c main_arg30 (by decide), show V7 m ρ c main_arg31 = _ from W7_args m ρ c main_arg31 (by decide)]

theorem res7_1 {x29 x30} (h29 : x29 = m ((c.tc : Thread nD τ).loc main_arg29)) (h30 : x30 = m ((c.tc : Thread nD τ).loc main_arg30)) :
    val_main_v172 (F := Ideal) x29 x30 = W11 m ρ c main_v7_1 := by
  subst h29 h30
  rw [W11_of m ρ c main_v7_1 (by decide), W10_of m ρ c main_v7_1 (by decide), W9_of m ρ c main_v7_1 (by decide), show W8 m ρ c main_v7_1 = _ from W8_arr m ρ c 5, arr7_5]
  simp only [show V7 m ρ c main_arg29 = _ from W7_args m ρ c main_arg29 (by decide), show V7 m ρ c main_arg30 = _ from W7_args m ρ c main_arg30 (by decide)]

theorem res7_2 {x29 x31} (h29 : x29 = m ((c.tc : Thread nD τ).loc main_arg29)) (h31 : x31 = m ((c.tc : Thread nD τ).loc main_arg31)) :
    val_main_v178 (F := Ideal) x29 x31 = W11 m ρ c main_v7_2 := by
  subst h29 h31
  rw [W11_of m ρ c main_v7_2 (by decide), W10_of m ρ c main_v7_2 (by decide), W9_of m ρ c main_v7_2 (by decide), show W8 m ρ c main_v7_2 = _ from W8_arr m ρ c 6, arr7_6]
  simp only [show V7 m ρ c main_arg29 = _ from W7_args m ρ c main_arg29 (by decide), show V7 m ρ c main_arg31 = _ from W7_args m ρ c main_arg31 (by decide)]

theorem res8_0 {x32 x33 x34 x35} (h32 : x32 = m ((c.tc : Thread nD τ).loc main_arg32)) (h33 : x33 = m ((c.tc : Thread nD τ).loc main_arg33)) (h34 : x34 = m ((c.tc : Thread nD τ).loc main_arg34)) (h35 : x35 = m ((c.tc : Thread nD τ).loc main_arg35)) :
    val_main_v215 (F := Ideal) x32 x33 x34 x35 = W11 m ρ c main_v8_0 := by
  subst h32 h33 h34 h35
  rw [W11_of m ρ c main_v8_0 (by decide), W10_of m ρ c main_v8_0 (by decide), show W9 m ρ c main_v8_0 = _ from W9_arr m ρ c 4, arr8_4]
  simp only [show V8 m ρ c main_arg32 = _ from W8_args m ρ c main_arg32 (by decide), show V8 m ρ c main_arg33 = _ from W8_args m ρ c main_arg33 (by decide), show V8 m ρ c main_arg34 = _ from W8_args m ρ c main_arg34 (by decide), show V8 m ρ c main_arg35 = _ from W8_args m ρ c main_arg35 (by decide)]

theorem res8_1 {x33 x34} (h33 : x33 = m ((c.tc : Thread nD τ).loc main_arg33)) (h34 : x34 = m ((c.tc : Thread nD τ).loc main_arg34)) :
    val_main_v196 (F := Ideal) x33 x34 = W11 m ρ c main_v8_1 := by
  subst h33 h34
  rw [W11_of m ρ c main_v8_1 (by decide), W10_of m ρ c main_v8_1 (by decide), show W9 m ρ c main_v8_1 = _ from W9_arr m ρ c 5, arr8_5]
  simp only [show V8 m ρ c main_arg33 = _ from W8_args m ρ c main_arg33 (by decide), show V8 m ρ c main_arg34 = _ from W8_args m ρ c main_arg34 (by decide)]

theorem res8_2 {x33 x35} (h33 : x33 = m ((c.tc : Thread nD τ).loc main_arg33)) (h35 : x35 = m ((c.tc : Thread nD τ).loc main_arg35)) :
    val_main_v202 (F := Ideal) x33 x35 = W11 m ρ c main_v8_2 := by
  subst h33 h35
  rw [W11_of m ρ c main_v8_2 (by decide), W10_of m ρ c main_v8_2 (by decide), show W9 m ρ c main_v8_2 = _ from W9_arr m ρ c 6, arr8_6]
  simp only [show V8 m ρ c main_arg33 = _ from W8_args m ρ c main_arg33 (by decide), show V8 m ρ c main_arg35 = _ from W8_args m ρ c main_arg35 (by decide)]

theorem res9_0 {x36 x37 x38 x39} (h36 : x36 = m ((c.tc : Thread nD τ).loc main_arg36)) (h37 : x37 = m ((c.tc : Thread nD τ).loc main_arg37)) (h38 : x38 = m ((c.tc : Thread nD τ).loc main_arg38)) (h39 : x39 = m ((c.tc : Thread nD τ).loc main_arg39)) :
    val_main_v239 (F := Ideal) x36 x37 x38 x39 = W11 m ρ c main_v9_0 := by
  subst h36 h37 h38 h39
  rw [W11_of m ρ c main_v9_0 (by decide), show W10 m ρ c main_v9_0 = _ from W10_arr m ρ c 4, arr9_4]
  simp only [show V9 m ρ c main_arg36 = _ from W9_args m ρ c main_arg36 (by decide), show V9 m ρ c main_arg37 = _ from W9_args m ρ c main_arg37 (by decide), show V9 m ρ c main_arg38 = _ from W9_args m ρ c main_arg38 (by decide), show V9 m ρ c main_arg39 = _ from W9_args m ρ c main_arg39 (by decide)]

theorem res9_1 {x37 x38} (h37 : x37 = m ((c.tc : Thread nD τ).loc main_arg37)) (h38 : x38 = m ((c.tc : Thread nD τ).loc main_arg38)) :
    val_main_v220 (F := Ideal) x37 x38 = W11 m ρ c main_v9_1 := by
  subst h37 h38
  rw [W11_of m ρ c main_v9_1 (by decide), show W10 m ρ c main_v9_1 = _ from W10_arr m ρ c 5, arr9_5]
  simp only [show V9 m ρ c main_arg37 = _ from W9_args m ρ c main_arg37 (by decide), show V9 m ρ c main_arg38 = _ from W9_args m ρ c main_arg38 (by decide)]

theorem res9_2 {x37 x39} (h37 : x37 = m ((c.tc : Thread nD τ).loc main_arg37)) (h39 : x39 = m ((c.tc : Thread nD τ).loc main_arg39)) :
    val_main_v226 (F := Ideal) x37 x39 = W11 m ρ c main_v9_2 := by
  subst h37 h39
  rw [W11_of m ρ c main_v9_2 (by decide), show W10 m ρ c main_v9_2 = _ from W10_arr m ρ c 6, arr9_6]
  simp only [show V9 m ρ c main_arg37 = _ from W9_args m ρ c main_arg37 (by decide), show V9 m ρ c main_arg39 = _ from W9_args m ρ c main_arg39 (by decide)]

theorem res10_0 {x40 x41 x42 x43} (h40 : x40 = m ((c.tc : Thread nD τ).loc main_arg40)) (h41 : x41 = m ((c.tc : Thread nD τ).loc main_arg41)) (h42 : x42 = m ((c.tc : Thread nD τ).loc main_arg42)) (h43 : x43 = m ((c.tc : Thread nD τ).loc main_arg43)) :
    val_main_v263 (F := Ideal) x40 x41 x42 x43 = W11 m ρ c main_v10_0 := by
  subst h40 h41 h42 h43
  rw [show W11 m ρ c main_v10_0 = _ from W11_arr m ρ c 4, arr10_4]
  simp only [show V10 m ρ c main_arg40 = _ from W10_args m ρ c main_arg40 (by decide), show V10 m ρ c main_arg41 = _ from W10_args m ρ c main_arg41 (by decide), show V10 m ρ c main_arg42 = _ from W10_args m ρ c main_arg42 (by decide), show V10 m ρ c main_arg43 = _ from W10_args m ρ c main_arg43 (by decide)]

theorem res10_1 {x41 x42} (h41 : x41 = m ((c.tc : Thread nD τ).loc main_arg41)) (h42 : x42 = m ((c.tc : Thread nD τ).loc main_arg42)) :
    val_main_v244 (F := Ideal) x41 x42 = W11 m ρ c main_v10_1 := by
  subst h41 h42
  rw [show W11 m ρ c main_v10_1 = _ from W11_arr m ρ c 5, arr10_5]
  simp only [show V10 m ρ c main_arg41 = _ from W10_args m ρ c main_arg41 (by decide), show V10 m ρ c main_arg42 = _ from W10_args m ρ c main_arg42 (by decide)]

theorem res10_2 {x41 x43} (h41 : x41 = m ((c.tc : Thread nD τ).loc main_arg41)) (h43 : x43 = m ((c.tc : Thread nD τ).loc main_arg43)) :
    val_main_v250 (F := Ideal) x41 x43 = W11 m ρ c main_v10_2 := by
  subst h41 h43
  rw [show W11 m ρ c main_v10_2 = _ from W11_arr m ρ c 6, arr10_6]
  simp only [show V10 m ρ c main_arg41 = _ from W10_args m ρ c main_arg41 (by decide), show V10 m ρ c main_arg43 = _ from W10_args m ρ c main_arg43 (by decide)]
end

section
variable {F : FTy → Type} [FloatOps F] (m : (ℓ : Loc nD τ sig) → Buf (Elt F) ℓ) (ρ : Dev nD → PrngReg)

set_option maxHeartbeats 4000000 in
set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      r.2.mem ((c.tc : Thread nD τ).loc main_v0_0) = W11 m ρ c main_v0_0
      ∧ r.2.mem ((c.tc : Thread nD τ).loc main_v0_1) = W11 m ρ c main_v0_1
      ∧ r.2.mem ((c.tc : Thread nD τ).loc main_v0_2) = W11 m ρ c main_v0_2
      ∧ r.2.mem ((c.tc : Thread nD τ).loc main_v1_0) = W11 m ρ c main_v1_0
      ∧ r.2.mem ((c.tc : Thread nD τ).loc main_v1_1) = W11 m ρ c main_v1_1
      ∧ r.2.mem ((c.tc : Thread nD τ).loc main_v1_2) = W11 m ρ c main_v1_2
      ∧ r.2.mem ((c.tc : Thread nD τ).loc main_v2_0) = W11 m ρ c main_v2_0
      ∧ r.2.mem ((c.tc : Thread nD τ).loc main_v2_1) = W11 m ρ c main_v2_1
      ∧ r.2.mem ((c.tc : Thread nD τ).loc main_v2_2) = W11 m ρ c main_v2_2
      ∧ r.2.mem ((c.tc : Thread nD τ).loc main_v3_0) = W11 m ρ c main_v3_0
      ∧ r.2.mem ((c.tc : Thread nD τ).loc main_v3_1) = W11 m ρ c main_v3_1
      ∧ r.2.mem ((c.tc : Thread nD τ).loc main_v3_2) = W11 m ρ c main_v3_2
      ∧ r.2.mem ((c.tc : Thread nD τ).loc main_v4_0) = W11 m ρ c main_v4_0
      ∧ r.2.mem ((c.tc : Thread nD τ).loc main_v4_1) = W11 m ρ c main_v4_1
      ∧ r.2.mem ((c.tc : Thread nD τ).loc main_v4_2) = W11 m ρ c main_v4_2
      ∧ r.2.mem ((c.tc : Thread nD τ).loc main_v5_0) = W11 m ρ c main_v5_0
      ∧ r.2.mem ((c.tc : Thread nD τ).loc main_v5_1) = W11 m ρ c main_v5_1
      ∧ r.2.mem ((c.tc : Thread nD τ).loc main_v5_2) = W11 m ρ c main_v5_2
      ∧ r.2.mem ((c.tc : Thread nD τ).loc main_v6_0) = W11 m ρ c main_v6_0
      ∧ r.2.mem ((c.tc : Thread nD τ).loc main_v6_1) = W11 m ρ c main_v6_1
      ∧ r.2.mem ((c.tc : Thread nD τ).loc main_v6_2) = W11 m ρ c main_v6_2
      ∧ r.2.mem ((c.tc : Thread nD τ).loc main_v7_0) = W11 m ρ c main_v7_0
      ∧ r.2.mem ((c.tc : Thread nD τ).loc main_v7_1) = W11 m ρ c main_v7_1
      ∧ r.2.mem ((c.tc : Thread nD τ).loc main_v7_2) = W11 m ρ c main_v7_2
      ∧ r.2.mem ((c.tc : Thread nD τ).loc main_v8_0) = W11 m ρ c main_v8_0
      ∧ r.2.mem ((c.tc : Thread nD τ).loc main_v8_1) = W11 m ρ c main_v8_1
      ∧ r.2.mem ((c.tc : Thread nD τ).loc main_v8_2) = W11 m ρ c main_v8_2
      ∧ r.2.mem ((c.tc : Thread nD τ).loc main_v9_0) = W11 m ρ c main_v9_0
      ∧ r.2.mem ((c.tc : Thread nD τ).loc main_v9_1) = W11 m ρ c main_v9_1
      ∧ r.2.mem ((c.tc : Thread nD τ).loc main_v9_2) = W11 m ρ c main_v9_2
      ∧ r.2.mem ((c.tc : Thread nD τ).loc main_v10_0) = W11 m ρ c main_v10_0
      ∧ r.2.mem ((c.tc : Thread nD τ).loc main_v10_1) = W11 m ρ c main_v10_1
      ∧ r.2.mem ((c.tc : Thread nD τ).loc main_v10_2) = W11 m ρ c main_v10_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v0_0 (by decide)),
       h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v2_0 (by decide)),
       h c _ (mem_uc main_v2_1 (by decide)),
       h c _ (mem_uc main_v2_2 (by decide)),
       h c _ (mem_uc main_v3_0 (by decide)),
       h c _ (mem_uc main_v3_1 (by decide)),
       h c _ (mem_uc main_v3_2 (by decide)),
       h c _ (mem_uc main_v4_0 (by decide)),
       h c _ (mem_uc main_v4_1 (by decide)),
       h c _ (mem_uc main_v4_2 (by decide)),
       h c _ (mem_uc main_v5_0 (by decide)),
       h c _ (mem_uc main_v5_1 (by decide)),
       h c _ (mem_uc main_v5_2 (by decide)),
       h c _ (mem_uc main_v6_0 (by decide)),
       h c _ (mem_uc main_v6_1 (by decide)),
       h c _ (mem_uc main_v6_2 (by decide)),
       h c _ (mem_uc main_v7_0 (by decide)),
       h c _ (mem_uc main_v7_1 (by decide)),
       h c _ (mem_uc main_v7_2 (by decide)),
       h c _ (mem_uc main_v8_0 (by decide)),
       h c _ (mem_uc main_v8_1 (by decide)),
       h c _ (mem_uc main_v8_2 (by decide)),
       h c _ (mem_uc main_v9_0 (by decide)),
       h c _ (mem_uc main_v9_1 (by decide)),
       h c _ (mem_uc main_v9_2 (by decide)),
       h c _ (mem_uc main_v10_0 (by decide)),
       h c _ (mem_uc main_v10_1 (by decide)),
       h c _ (mem_uc main_v10_2 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c),
       (h c _ (mem_uc main_arg23 (by decide))).trans (W11_main_arg23 m ρ c),
       (h c _ (mem_uc main_arg24 (by decide))).trans (W11_main_arg24 m ρ c),
       (h c _ (mem_uc main_arg25 (by decide))).trans (W11_main_arg25 m ρ c),
       (h c _ (mem_uc main_arg26 (by decide))).trans (W11_main_arg26 m ρ c),
       (h c _ (mem_uc main_arg27 (by decide))).trans (W11_main_arg27 m ρ c),
       (h c _ (mem_uc main_arg28 (by decide))).trans (W11_main_arg28 m ρ c),
       (h c _ (mem_uc main_arg29 (by decide))).trans (W11_main_arg29 m ρ c),
       (h c _ (mem_uc main_arg30 (by decide))).trans (W11_main_arg30 m ρ c),
       (h c _ (mem_uc main_arg31 (by decide))).trans (W11_main_arg31 m ρ c),
       (h c _ (mem_uc main_arg32 (by decide))).trans (W11_main_arg32 m ρ c),
       (h c _ (mem_uc main_arg33 (by decide))).trans (W11_main_arg33 m ρ c),
       (h c _ (mem_uc main_arg34 (by decide))).trans (W11_main_arg34 m ρ c),
       (h c _ (mem_uc main_arg35 (by decide))).trans (W11_main_arg35 m ρ c),
       (h c _ (mem_uc main_arg36 (by decide))).trans (W11_main_arg36 m ρ c),
       (h c _ (mem_uc main_arg37 (by decide))).trans (W11_main_arg37 m ρ c),
       (h c _ (mem_uc main_arg38 (by decide))).trans (W11_main_arg38 m ρ c),
       (h c _ (mem_uc main_arg39 (by decide))).trans (W11_main_arg39 m ρ c),
       (h c _ (mem_uc main_arg40 (by decide))).trans (W11_main_arg40 m ρ c),
       (h c _ (mem_uc main_arg41 (by decide))).trans (W11_main_arg41 m ρ c),
       (h c _ (mem_uc main_arg42 (by decide))).trans (W11_main_arg42 m ρ c),
       (h c _ (mem_uc main_arg43 (by decide))).trans (W11_main_arg43 m ρ c)⟩)

end

end Cert.Kernel13Ideal.Opt

namespace Cert.Prod13

open Idealize.ShloMosaic Idealize.ShloMosaic.TcCoe Idealize.SL.Sem

/-- The reference keeps its arguments and leaves no count. -/
theorem frame_ref : Cert.quiescent_Reference13Ideal (hReference13Ideal := Cert.Reference13Ideal.Gen.facts) := fun m ρ _ =>
  (θ_run Cert.Reference13Ideal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.Reference13Ideal.Value.run (F := Ideal) m ρ)

set_option maxHeartbeats 4000000 in
/-- The kernel and the reference end with equal results. -/
theorem value : Cert.algebraic_Kernel13Ideal_Reference13Ideal (hKernel13Ideal := Cert.Kernel13Ideal.Gen.facts)
    (hReference13Ideal := Cert.Reference13Ideal.Gen.facts) := fun m ρ m' ρ' _ hag =>
  ⟨fun c => Cert.Kernel13Ideal.Gen.W11 m ρ c Cert.Kernel13Ideal.main_v0_0,
    fun c => Cert.Kernel13Ideal.Gen.W11 m ρ c Cert.Kernel13Ideal.main_v0_1,
    fun c => Cert.Kernel13Ideal.Gen.W11 m ρ c Cert.Kernel13Ideal.main_v0_2,
    fun c => Cert.Kernel13Ideal.Gen.W11 m ρ c Cert.Kernel13Ideal.main_v1_0,
    fun c => Cert.Kernel13Ideal.Gen.W11 m ρ c Cert.Kernel13Ideal.main_v1_1,
    fun c => Cert.Kernel13Ideal.Gen.W11 m ρ c Cert.Kernel13Ideal.main_v1_2,
    fun c => Cert.Kernel13Ideal.Gen.W11 m ρ c Cert.Kernel13Ideal.main_v2_0,
    fun c => Cert.Kernel13Ideal.Gen.W11 m ρ c Cert.Kernel13Ideal.main_v2_1,
    fun c => Cert.Kernel13Ideal.Gen.W11 m ρ c Cert.Kernel13Ideal.main_v2_2,
    fun c => Cert.Kernel13Ideal.Gen.W11 m ρ c Cert.Kernel13Ideal.main_v3_0,
    fun c => Cert.Kernel13Ideal.Gen.W11 m ρ c Cert.Kernel13Ideal.main_v3_1,
    fun c => Cert.Kernel13Ideal.Gen.W11 m ρ c Cert.Kernel13Ideal.main_v3_2,
    fun c => Cert.Kernel13Ideal.Gen.W11 m ρ c Cert.Kernel13Ideal.main_v4_0,
    fun c => Cert.Kernel13Ideal.Gen.W11 m ρ c Cert.Kernel13Ideal.main_v4_1,
    fun c => Cert.Kernel13Ideal.Gen.W11 m ρ c Cert.Kernel13Ideal.main_v4_2,
    fun c => Cert.Kernel13Ideal.Gen.W11 m ρ c Cert.Kernel13Ideal.main_v5_0,
    fun c => Cert.Kernel13Ideal.Gen.W11 m ρ c Cert.Kernel13Ideal.main_v5_1,
    fun c => Cert.Kernel13Ideal.Gen.W11 m ρ c Cert.Kernel13Ideal.main_v5_2,
    fun c => Cert.Kernel13Ideal.Gen.W11 m ρ c Cert.Kernel13Ideal.main_v6_0,
    fun c => Cert.Kernel13Ideal.Gen.W11 m ρ c Cert.Kernel13Ideal.main_v6_1,
    fun c => Cert.Kernel13Ideal.Gen.W11 m ρ c Cert.Kernel13Ideal.main_v6_2,
    fun c => Cert.Kernel13Ideal.Gen.W11 m ρ c Cert.Kernel13Ideal.main_v7_0,
    fun c => Cert.Kernel13Ideal.Gen.W11 m ρ c Cert.Kernel13Ideal.main_v7_1,
    fun c => Cert.Kernel13Ideal.Gen.W11 m ρ c Cert.Kernel13Ideal.main_v7_2,
    fun c => Cert.Kernel13Ideal.Gen.W11 m ρ c Cert.Kernel13Ideal.main_v8_0,
    fun c => Cert.Kernel13Ideal.Gen.W11 m ρ c Cert.Kernel13Ideal.main_v8_1,
    fun c => Cert.Kernel13Ideal.Gen.W11 m ρ c Cert.Kernel13Ideal.main_v8_2,
    fun c => Cert.Kernel13Ideal.Gen.W11 m ρ c Cert.Kernel13Ideal.main_v9_0,
    fun c => Cert.Kernel13Ideal.Gen.W11 m ρ c Cert.Kernel13Ideal.main_v9_1,
    fun c => Cert.Kernel13Ideal.Gen.W11 m ρ c Cert.Kernel13Ideal.main_v9_2,
    fun c => Cert.Kernel13Ideal.Gen.W11 m ρ c Cert.Kernel13Ideal.main_v10_0,
    fun c => Cert.Kernel13Ideal.Gen.W11 m ρ c Cert.Kernel13Ideal.main_v10_1,
    fun c => Cert.Kernel13Ideal.Gen.W11 m ρ c Cert.Kernel13Ideal.main_v10_2,
    Cert.Kernel13Ideal.Opt.run (F := Ideal) m ρ,
    (θ_run Cert.Reference13Ideal.defs _ _).mono (fun _ h c => by
      obtain ⟨g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41, g42, g43⟩ := hag c
      obtain ⟨r0, r1, r2, r3, r4, r5, r6, r7, r8, r9, r10, r11, r12, r13, r14, r15, r16, r17, r18, r19, r20, r21, r22, r23, r24, r25, r26, r27, r28, r29, r30, r31, r32, rest⟩ := h c
      exact ⟨(r0.trans (Cert.Reference13Ideal.Read.val_main_v23_eq (StableHlo.launchContents m' c))).trans (Cert.Kernel13Ideal.Opt.res0_0 m ρ c g0 g1 g2 g3),
        (r1.trans (Cert.Reference13Ideal.Read.val_main_v4_eq (StableHlo.launchContents m' c))).trans (Cert.Kernel13Ideal.Opt.res0_1 m ρ c g1 g2),
        (r2.trans (Cert.Reference13Ideal.Read.val_main_v10_eq (StableHlo.launchContents m' c))).trans (Cert.Kernel13Ideal.Opt.res0_2 m ρ c g1 g3),
        (r3.trans (Cert.Reference13Ideal.Read.val_main_v47_eq (StableHlo.launchContents m' c))).trans (Cert.Kernel13Ideal.Opt.res1_0 m ρ c g4 g5 g6 g7),
        (r4.trans (Cert.Reference13Ideal.Read.val_main_v28_eq (StableHlo.launchContents m' c))).trans (Cert.Kernel13Ideal.Opt.res1_1 m ρ c g5 g6),
        (r5.trans (Cert.Reference13Ideal.Read.val_main_v34_eq (StableHlo.launchContents m' c))).trans (Cert.Kernel13Ideal.Opt.res1_2 m ρ c g5 g7),
        (r6.trans (Cert.Reference13Ideal.Read.val_main_v71_eq (StableHlo.launchContents m' c))).trans (Cert.Kernel13Ideal.Opt.res2_0 m ρ c g8 g9 g10 g11),
        (r7.trans (Cert.Reference13Ideal.Read.val_main_v52_eq (StableHlo.launchContents m' c))).trans (Cert.Kernel13Ideal.Opt.res2_1 m ρ c g9 g10),
        (r8.trans (Cert.Reference13Ideal.Read.val_main_v58_eq (StableHlo.launchContents m' c))).trans (Cert.Kernel13Ideal.Opt.res2_2 m ρ c g9 g11),
        (r9.trans (Cert.Reference13Ideal.Read.val_main_v95_eq (StableHlo.launchContents m' c))).trans (Cert.Kernel13Ideal.Opt.res3_0 m ρ c g12 g13 g14 g15),
        (r10.trans (Cert.Reference13Ideal.Read.val_main_v76_eq (StableHlo.launchContents m' c))).trans (Cert.Kernel13Ideal.Opt.res3_1 m ρ c g13 g14),
        (r11.trans (Cert.Reference13Ideal.Read.val_main_v82_eq (StableHlo.launchContents m' c))).trans (Cert.Kernel13Ideal.Opt.res3_2 m ρ c g13 g15),
        (r12.trans (Cert.Reference13Ideal.Read.val_main_v119_eq (StableHlo.launchContents m' c))).trans (Cert.Kernel13Ideal.Opt.res4_0 m ρ c g16 g17 g18 g19),
        (r13.trans (Cert.Reference13Ideal.Read.val_main_v100_eq (StableHlo.launchContents m' c))).trans (Cert.Kernel13Ideal.Opt.res4_1 m ρ c g17 g18),
        (r14.trans (Cert.Reference13Ideal.Read.val_main_v106_eq (StableHlo.launchContents m' c))).trans (Cert.Kernel13Ideal.Opt.res4_2 m ρ c g17 g19),
        (r15.trans (Cert.Reference13Ideal.Read.val_main_v143_eq (StableHlo.launchContents m' c))).trans (Cert.Kernel13Ideal.Opt.res5_0 m ρ c g20 g21 g22 g23),
        (r16.trans (Cert.Reference13Ideal.Read.val_main_v124_eq (StableHlo.launchContents m' c))).trans (Cert.Kernel13Ideal.Opt.res5_1 m ρ c g21 g22),
        (r17.trans (Cert.Reference13Ideal.Read.val_main_v130_eq (StableHlo.launchContents m' c))).trans (Cert.Kernel13Ideal.Opt.res5_2 m ρ c g21 g23),
        (r18.trans (Cert.Reference13Ideal.Read.val_main_v167_eq (StableHlo.launchContents m' c))).trans (Cert.Kernel13Ideal.Opt.res6_0 m ρ c g24 g25 g26 g27),
        (r19.trans (Cert.Reference13Ideal.Read.val_main_v148_eq (StableHlo.launchContents m' c))).trans (Cert.Kernel13Ideal.Opt.res6_1 m ρ c g25 g26),
        (r20.trans (Cert.Reference13Ideal.Read.val_main_v154_eq (StableHlo.launchContents m' c))).trans (Cert.Kernel13Ideal.Opt.res6_2 m ρ c g25 g27),
        (r21.trans (Cert.Reference13Ideal.Read.val_main_v191_eq (StableHlo.launchContents m' c))).trans (Cert.Kernel13Ideal.Opt.res7_0 m ρ c g28 g29 g30 g31),
        (r22.trans (Cert.Reference13Ideal.Read.val_main_v172_eq (StableHlo.launchContents m' c))).trans (Cert.Kernel13Ideal.Opt.res7_1 m ρ c g29 g30),
        (r23.trans (Cert.Reference13Ideal.Read.val_main_v178_eq (StableHlo.launchContents m' c))).trans (Cert.Kernel13Ideal.Opt.res7_2 m ρ c g29 g31),
        (r24.trans (Cert.Reference13Ideal.Read.val_main_v215_eq (StableHlo.launchContents m' c))).trans (Cert.Kernel13Ideal.Opt.res8_0 m ρ c g32 g33 g34 g35),
        (r25.trans (Cert.Reference13Ideal.Read.val_main_v196_eq (StableHlo.launchContents m' c))).trans (Cert.Kernel13Ideal.Opt.res8_1 m ρ c g33 g34),
        (r26.trans (Cert.Reference13Ideal.Read.val_main_v202_eq (StableHlo.launchContents m' c))).trans (Cert.Kernel13Ideal.Opt.res8_2 m ρ c g33 g35),
        (r27.trans (Cert.Reference13Ideal.Read.val_main_v239_eq (StableHlo.launchContents m' c))).trans (Cert.Kernel13Ideal.Opt.res9_0 m ρ c g36 g37 g38 g39),
        (r28.trans (Cert.Reference13Ideal.Read.val_main_v220_eq (StableHlo.launchContents m' c))).trans (Cert.Kernel13Ideal.Opt.res9_1 m ρ c g37 g38),
        (r29.trans (Cert.Reference13Ideal.Read.val_main_v226_eq (StableHlo.launchContents m' c))).trans (Cert.Kernel13Ideal.Opt.res9_2 m ρ c g37 g39),
        (r30.trans (Cert.Reference13Ideal.Read.val_main_v263_eq (StableHlo.launchContents m' c))).trans (Cert.Kernel13Ideal.Opt.res10_0 m ρ c g40 g41 g42 g43),
        (r31.trans (Cert.Reference13Ideal.Read.val_main_v244_eq (StableHlo.launchContents m' c))).trans (Cert.Kernel13Ideal.Opt.res10_1 m ρ c g41 g42),
        (r32.trans (Cert.Reference13Ideal.Read.val_main_v250_eq (StableHlo.launchContents m' c))).trans (Cert.Kernel13Ideal.Opt.res10_2 m ρ c g41 g43),
        rest⟩)
      (Cert.Reference13Ideal.Value.run (F := Ideal) m' ρ')⟩

end Cert.Prod13

end

end
-- ==== Proof.Norm.lean ====
module

public import proofs.«01_k».proof.Proof.MMBlk
public import Idealize.ShloMosaic.Lib.IdealHost
public import Idealize.ShloMosaic.Lib.ValueIdx
public import Idealize.ShloMosaic.Lib.ValueLayout

@[expose] public section

noncomputable section

/-! The root mean square norm of a row, and what its proofs share. -/

namespace Cert.Norm

open Idealize.ShloMosaic Idealize.ShloMosaic.ValueIdx
open scoped BigOperators

/-- An index of a matrix from its two coordinates. -/
theorem e2 {n0 n1 : ℕ} (f : (⟨2, ![n0, n1]⟩ : Shape).Idx) (a : Fin n0) (b : Fin n1) (h0 : (f 0).val = a.val) (h1 : (f 1).val = b.val) : f = ix2 a b :=
  funext fun x => Fin.ext (by match x with | ⟨0, _⟩ => exact h0 | ⟨1, _⟩ => exact h1)

/-- Dividing by 1024 is multiplying by its reciprocal. -/
theorem div1024 (s : EReal) : Ideal.div s (Ideal.ofBits .f32 0x44800000#32) = s * Ideal.ofBits .f32 0x3A800000#32 := by
  have h1 : Ideal.ofBits .f32 0x44800000#32 = ((1024 : ℝ) : EReal) := by
    simp [Ideal.ofBits, Ideal.ieee]
    rw [← EReal.coe_mul]
    norm_num
  have h2 : Ideal.ofBits .f32 0x3A800000#32 = ((1 / 1024 : ℝ) : EReal) := by
    simp [Ideal.ofBits, Ideal.ieee]
    rw [← EReal.coe_mul]
    norm_num
  rw [h1, h2, Ideal.div_coe (by norm_num)]

/-- The shifted mean of the squares of a row. -/
def ms (x : Fin 1024 → EReal) : EReal := (∑ d, x d * x d) * Ideal.ofBits .f32 0x3A800000#32 + Ideal.ofBits .f32 0x358637BD#32

/-- A column repeated over the columns of a matrix. -/
theorem bc_col {α : Type} {A B : ℕ} (hA : A ≠ 1) (x : (⟨2, ![A, 1]⟩ : Shape).Idx → α) (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h (ix2 a b) (ix2 a (0 : Fin 1)) fun ax => ?_
  match ax with
  | ⟨0, _⟩ => show a.val = if A = 1 then 0 else a.val; rw [if_neg hA]
  | ⟨1, _⟩ => show 0 = if (1 : ℕ) = 1 then 0 else b.val; rw [if_pos rfl]

/-- A row repeated over the rows of a matrix. -/
theorem bc_row {α : Type} {A B : ℕ} (hB : B ≠ 1) (x : (⟨2, ![1, B]⟩ : Shape).Idx → α) (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h (ix2 a b) (ix2 (0 : Fin 1) b) fun ax => ?_
  match ax with
  | ⟨0, _⟩ => show 0 = if (1 : ℕ) = 1 then 0 else a.val; rw [if_pos rfl]
  | ⟨1, _⟩ => show b.val = if B = 1 then 0 else b.val; rw [if_neg hB]

/-- A vector cast to a column. -/
theorem cast_c {α : Type} {A : ℕ} (x : (⟨1, ![A]⟩ : Shape).Idx → α) (h : (⟨1, ![A]⟩ : Shape).ShapeCasts ⟨2, ![A, 1]⟩) (a : Fin A) (u : Fin 1) :
    shapeCast ⟨2, ![A, 1]⟩ x h (ix2 a u) = x (ix1 a) :=
  shapeCast_apply x h _ _ (by
    rw [Shape.rowMajor_val_two, Shape.rowMajor_val_one]
    show a.val = a.val * 1 + u.val
    omega)

/-- The sum of a row. -/
theorem sum_row {A B : ℕ} (x : FVec Ideal ⟨2, ![A, B]⟩ .f32) (a : Fin A) (h : (⟨2, ![A, B]⟩ : Shape).Reduces [1] ⟨1, ![A]⟩) (h1) (h2) :
    multiReduction .add [1] ⟨1, ![A]⟩ x 0x00000000#32 h h1 h2 (ix1 a) = ∑ d : Fin B, x (ix2 a d) := by
  rw [Ideal.multiReduction_add_single]
  refine Finset.sum_congr rfl fun b _ => congrArg x (funext fun ax => ?_)
  match ax with
  | ⟨0, _⟩ => rfl
  | ⟨1, _⟩ => rfl

/-- The sum of a column. -/
theorem sum_col {A B : ℕ} (x : FVec Ideal ⟨2, ![A, B]⟩ .f32) (b : Fin B) (h : (⟨2, ![A, B]⟩ : Shape).Reduces [0] ⟨1, ![B]⟩) (h1) (h2) :
    multiReduction .add [0] ⟨1, ![B]⟩ x 0x00000000#32 h h1 h2 (ix1 b) = ∑ d : Fin A, x (ix2 d b) := by
  rw [Ideal.multiReduction_add_single]
  refine Finset.sum_congr rfl fun d _ => congrArg x (funext fun ax => ?_)
  match ax with
  | ⟨0, _⟩ => rfl
  | ⟨1, _⟩ => rfl

end Cert.Norm

end

end
-- ==== Proof.Val14.lean ====
module

public import proofs.«01_k».proof.Defs
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init
public import proofs.«01_k».proof.Proof.Norm
public import Idealize.ShloMosaic.Lib.Pipeline.ValueKit.Geometry

@[expose] public section

set_option maxRecDepth 16384

noncomputable section

/-! The norms: the rows of a tile, normed, are the rows the reference norms. -/

namespace Cert.Kernel14Ideal.Nrm

open Idealize.ShloMosaic Idealize.ShloMosaic.TcCoe Idealize.ShloMosaic.Tactic Cert.Kernel14Ideal Cert.Kernel14Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference14Ideal.Read Cert.Norm Idealize.ShloMosaic.ValueIdx
open scoped BigOperators

section
variable (V : (c : Dev nD) → (b : Ref sig .tc) → Buf (Elt Ideal) ((c : Thread nD τ).loc b)) (c : Dev nD)

/-- The reference's shifted mean of squares. -/
theorem ms_ (X : (⟨S4096x1024, .f32⟩ : BufTy).Contents (Elt Ideal)) (n : Fin 4096) : (val_main_v6 (F := Ideal) X (ix2 n 0) : EReal) = ms fun d => X (ix2 n d) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + ∑ k : Fin 1024, val_main_v0 (F := Ideal) X (idx_main_v1 (idx_main_v2 (ix2 n 0)) k)) (Ideal.ofBits .f32 0x44800000#32) + Ideal.ofBits .f32 0x358637BD#32 = _
  rw [Ideal.ofBits_zero_f32, zero_add, div1024]
  unfold ms
  congr 2
  refine Finset.sum_congr rfl fun k _ => ?_
  rw [val_main_v0_apply, e2 (idx_main_v1 (idx_main_v2 (ix2 n 0)) k) n k rfl rfl]
  rfl

/-- A normed row of the reference at an entry. -/
theorem ref_ (X : (⟨S4096x1024, .f32⟩ : BufTy).Contents (Elt Ideal)) (G : (⟨S1x1024, .f32⟩ : BufTy).Contents (Elt Ideal)) (n : Fin 4096) (b : Fin 1024) :
    (val_main_v12 (F := Ideal) X G (ix2 n b) : EReal) = X (ix2 n b) * Ideal.rsqrt (ms fun d => X (ix2 n d)) * G (ix2 0 b) := by
  rw [val_main_v12_apply, val_main_v11_apply, val_main_v9_apply, val_main_v8_apply, val_main_v10_apply, val_main_v7_apply,
    e2 (idx_main_v8 (ix2 n b)) n 0 rfl rfl, e2 (idx_main_v10 (ix2 n b)) 0 b rfl rfl]
  show X (ix2 n b) * Ideal.rsqrt (val_main_v6 (F := Ideal) X (ix2 n 0)) * G (ix2 0 b) = _
  rw [ms_]

/-- A normed row of a tile at an entry. -/
theorem ker_ (x : Vec Ideal S1024x1024 .f32) (g : Vec Ideal S1x1024 .f32) (a b : Fin 1024) :
    ((k0_pay1 x g : FVec Ideal S1024x1024 .bf16) (ix2 a b) : EReal) = x (ix2 a b) * Ideal.rsqrt (ms fun d => x (ix2 a d)) * g (ix2 0 b) := by
  unfold k0_pay1
  refine congrArg₂ (fun u v : EReal => u * v) (congrArg (fun u : EReal => x (ix2 a b) * u) ((bc_col (by decide) _ _ a b).trans (congrArg Ideal.rsqrt ?_))) (bc_row (by decide) _ _ a b)
  unfold ms
  exact congrArg (fun u : EReal => u * Ideal.ofBits .f32 0x3A800000#32 + Ideal.ofBits .f32 0x358637BD#32) ((cast_c _ _ a 0).trans (sum_row _ a _ _ _))

/-- A tile's entry is the whole array's when the tile's row and the gain are. -/
theorem pay_ (x : Vec Ideal S1024x1024 .f32) (g : Vec Ideal S1x1024 .f32) (y : S1024x1024.Idx) {X : (⟨S4096x1024, .f32⟩ : BufTy).Contents (Elt Ideal)} {G : (⟨S1x1024, .f32⟩ : BufTy).Contents (Elt Ideal)} {i : S4096x1024.Idx} (n : Fin 4096)
    (a b : Fin 1024) (hy : y = ix2 a b)
    (h0 : ∀ d : Fin 1024, x (ix2 a d) = X (ix2 n d)) (h1 : ∀ d : Fin 1024, g (ix2 0 d) = G (ix2 0 d)) (hi : i = ix2 n b) :
    (k0_pay1 x g : FVec Ideal S1024x1024 .bf16) y = val_main_v12 (F := Ideal) X G i := by
  subst hy hi
  refine (ker_ x g a b).trans ((?_ : _ = _).trans (ref_ X G n b).symm)
  rw [h0 b, h1 b, show (fun d : Fin 1024 => x (ix2 a d)) = fun d => X (ix2 n d) from funext h0]

theorem ixs0 : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

theorem row0 (t : Fin cfg0.N) (a : Fin 1024) (n : Fin 4096) (hn : n.val = t.val * 1024 + a.val) (d : Fin 1024) :
    (iblk0 V c 0 t : FVec Ideal S1024x1024 .f32) (ix2 a d) = (V c main_arg0 : FVec Ideal S4096x1024 .f32) (ix2 n d) := by
  unfold iblk0
  rw [View.read_apply]
  show V c main_arg0 _ = V c main_arg0 _
  refine congrArg (V c main_arg0) (e2 _ _ _ ?_ ?_)
  · show win0_0.index t 0 * 1024 + 1 * a.val = n.val; rw [(ixs0 t).1]; omega
  · show win0_0.index t 1 * 1024 + 1 * d.val = d.val; rw [(ixs0 t).2.1]; omega

theorem gain0 (t : Fin cfg0.N) (d : Fin 1024) :
    (iblk0 V c 1 t : FVec Ideal S1x1024 .f32) (ix2 0 d) = (V c main_arg3 : FVec Ideal S1x1024 .f32) (ix2 0 d) := by
  unfold iblk0
  rw [View.read_apply]
  show V c main_arg3 _ = V c main_arg3 _
  refine congrArg (V c main_arg3) (e2 _ _ _ ?_ ?_)
  · show win0_1.index t 0 * 1 + 1 * 0 = 0; rw [(ixs0 t).2.2.1]
  · show win0_1.index t 1 * 1024 + 1 * d.val = d.val; rw [(ixs0 t).2.2.2.1]; omega

/-- A call leaves the normed rows. -/
theorem arr0_2 : (dat0 V c).arrAt 2 cfg0.N = val_main_v12 (F := Ideal) (V c main_arg0) (V c main_arg3) := by
  refine (dat0 V c).arrAt_eq_of_covers 2 _ (by decide +kernel) fun t hf y => ?_
  blk_simp
  rw [after0_2]
  unfold out0_2
  rw [View.canon_unit_zero (S := S1024x1024) (by decide) inb_S1024x1024_S1024x1024_0_0]
  simp only [View.ld_unit_zero (S := S1024x1024) (by decide) inb_S1024x1024_S1024x1024_0_0, View.ld_unit_zero (S := S1x1024) (by decide) inb_S1x1024_S1x1024_0_0]
  have ht : t.val < 4 := t.isLt
  have hy0 : (y 0).val < 1024 := (y 0).isLt
  exact pay_ (iblk0 V c 0 t) (iblk0 V c 1 t) y ⟨t.val * 1024 + (y 0).val, by omega⟩ (y 0) (y 1) (e2 y (y 0) (y 1) rfl rfl) (row0 V c t (y 0) _ rfl) (gain0 V c t)
    (e2 _ _ _ (by show win0_2.index t 0 * 1024 + 1 * (y 0).val = t.val * 1024 + (y 0).val; rw [(ixs0 t).2.2.2.2.1]; omega)
      (by show win0_2.index t 1 * 1024 + 1 * (y 1).val = (y 1).val; rw [(ixs0 t).2.2.2.2.2]; omega))

theorem ixs1 : ∀ t : Fin cfg1.N, win1_0.index t 0 = t.val ∧ win1_0.index t 1 = 0 ∧ win1_1.index t 0 = 0 ∧ win1_1.index t 1 = 0 ∧ win1_2.index t 0 = t.val ∧ win1_2.index t 1 = 0 := by decide +kernel

theorem row1 (t : Fin cfg1.N) (a : Fin 1024) (n : Fin 4096) (hn : n.val = t.val * 1024 + a.val) (d : Fin 1024) :
    (iblk1 V c 0 t : FVec Ideal S1024x1024 .f32) (ix2 a d) = (V c main_arg1 : FVec Ideal S4096x1024 .f32) (ix2 n d) := by
  unfold iblk1
  rw [View.read_apply]
  show V c main_arg1 _ = V c main_arg1 _
  refine congrArg (V c main_arg1) (e2 _ _ _ ?_ ?_)
  · show win1_0.index t 0 * 1024 + 1 * a.val = n.val; rw [(ixs1 t).1]; omega
  · show win1_0.index t 1 * 1024 + 1 * d.val = d.val; rw [(ixs1 t).2.1]; omega

theorem gain1 (t : Fin cfg1.N) (d : Fin 1024) :
    (iblk1 V c 1 t : FVec Ideal S1x1024 .f32) (ix2 0 d) = (V c main_arg4 : FVec Ideal S1x1024 .f32) (ix2 0 d) := by
  unfold iblk1
  rw [View.read_apply]
  show V c main_arg4 _ = V c main_arg4 _
  refine congrArg (V c main_arg4) (e2 _ _ _ ?_ ?_)
  · show win1_1.index t 0 * 1 + 1 * 0 = 0; rw [(ixs1 t).2.2.1]
  · show win1_1.index t 1 * 1024 + 1 * d.val = d.val; rw [(ixs1 t).2.2.2.1]; omega

/-- A call leaves the normed rows. -/
theorem arr1_2 : (dat1 V c).arrAt 2 cfg1.N = val_main_v25 (F := Ideal) (V c main_arg1) (V c main_arg4) := by
  refine (dat1 V c).arrAt_eq_of_covers 2 _ (by decide +kernel) fun t hf y => ?_
  blk_simp
  rw [after1_2]
  unfold out1_2
  rw [View.canon_unit_zero (S := S1024x1024) (by decide) inb_S1024x1024_S1024x1024_0_0]
  simp only [View.ld_unit_zero (S := S1024x1024) (by decide) inb_S1024x1024_S1024x1024_0_0, View.ld_unit_zero (S := S1x1024) (by decide) inb_S1x1024_S1x1024_0_0]
  have ht : t.val < 4 := t.isLt
  have hy0 : (y 0).val < 1024 := (y 0).isLt
  exact pay_ (iblk1 V c 0 t) (iblk1 V c 1 t) y ⟨t.val * 1024 + (y 0).val, by omega⟩ (y 0) (y 1) (e2 y (y 0) (y 1) rfl rfl) (row1 V c t (y 0) _ rfl) (gain1 V c t)
    (e2 _ _ _ (by show win1_2.index t 0 * 1024 + 1 * (y 0).val = t.val * 1024 + (y 0).val; rw [(ixs1 t).2.2.2.2.1]; omega)
      (by show win1_2.index t 1 * 1024 + 1 * (y 1).val = (y 1).val; rw [(ixs1 t).2.2.2.2.2]; omega))

theorem ixs2 : ∀ t : Fin cfg2.N, win2_0.index t 0 = t.val ∧ win2_0.index t 1 = 0 ∧ win2_1.index t 0 = 0 ∧ win2_1.index t 1 = 0 ∧ win2_2.index t 0 = t.val ∧ win2_2.index t 1 = 0 := by decide +kernel

theorem row2 (t : Fin cfg2.N) (a : Fin 1024) (n : Fin 4096) (hn : n.val = t.val * 1024 + a.val) (d : Fin 1024) :
    (iblk2 V c 0 t : FVec Ideal S1024x1024 .f32) (ix2 a d) = (V c main_arg2 : FVec Ideal S4096x1024 .f32) (ix2 n d) := by
  unfold iblk2
  rw [View.read_apply]
  show V c main_arg2 _ = V c main_arg2 _
  refine congrArg (V c main_arg2) (e2 _ _ _ ?_ ?_)
  · show win2_0.index t 0 * 1024 + 1 * a.val = n.val; rw [(ixs2 t).1]; omega
  · show win2_0.index t 1 * 1024 + 1 * d.val = d.val; rw [(ixs2 t).2.1]; omega

theorem gain2 (t : Fin cfg2.N) (d : Fin 1024) :
    (iblk2 V c 1 t : FVec Ideal S1x1024 .f32) (ix2 0 d) = (V c main_arg5 : FVec Ideal S1x1024 .f32) (ix2 0 d) := by
  unfold iblk2
  rw [View.read_apply]
  show V c main_arg5 _ = V c main_arg5 _
  refine congrArg (V c main_arg5) (e2 _ _ _ ?_ ?_)
  · show win2_1.index t 0 * 1 + 1 * 0 = 0; rw [(ixs2 t).2.2.1]
  · show win2_1.index t 1 * 1024 + 1 * d.val = d.val; rw [(ixs2 t).2.2.2.1]; omega

/-- A call leaves the normed rows. -/
theorem arr2_2 : (dat2 V c).arrAt 2 cfg2.N = val_main_v38 (F := Ideal) (V c main_arg2) (V c main_arg5) := by
  refine (dat2 V c).arrAt_eq_of_covers 2 _ (by decide +kernel) fun t hf y => ?_
  blk_simp
  rw [after2_2]
  unfold out2_2
  rw [View.canon_unit_zero (S := S1024x1024) (by decide) inb_S1024x1024_S1024x1024_0_0]
  simp only [View.ld_unit_zero (S := S1024x1024) (by decide) inb_S1024x1024_S1024x1024_0_0, View.ld_unit_zero (S := S1x1024) (by decide) inb_S1x1024_S1x1024_0_0]
  have ht : t.val < 4 := t.isLt
  have hy0 : (y 0).val < 1024 := (y 0).isLt
  exact pay_ (iblk2 V c 0 t) (iblk2 V c 1 t) y ⟨t.val * 1024 + (y 0).val, by omega⟩ (y 0) (y 1) (e2 y (y 0) (y 1) rfl rfl) (row2 V c t (y 0) _ rfl) (gain2 V c t)
    (e2 _ _ _ (by show win2_2.index t 0 * 1024 + 1 * (y 0).val = t.val * 1024 + (y 0).val; rw [(ixs2 t).2.2.2.2.1]; omega)
      (by show win2_2.index t 1 * 1024 + 1 * (y 1).val = (y 1).val; rw [(ixs2 t).2.2.2.2.2]; omega))
end

section
variable (m : (ℓ : Loc nD τ sig) → Buf (Elt Ideal) ℓ) (ρ : Dev nD → PrngReg) (c : Dev nD)

theorem res0 {x0 x3} (h0 : x0 = m ((c.tc : Thread nD τ).loc main_arg0)) (h3 : x3 = m ((c.tc : Thread nD τ).loc main_arg3)) :
    val_main_v12 (F := Ideal) x0 x3 = W3 m ρ c main_v0 := by
  subst h0 h3
  rw [W3_of m ρ c main_v0 (by decide), W2_of m ρ c main_v0 (by decide), show W1 m ρ c main_v0 = _ from W1_arr m ρ c 2, arr0_2]
  try simp only [show V0 m ρ c main_arg0 = _ from W0_args m ρ c main_arg0 (by decide), show V0 m ρ c main_arg3 = _ from W0_args m ρ c main_arg3 (by decide)]

theorem res1 {x1 x4} (h1 : x1 = m ((c.tc : Thread nD τ).loc main_arg1)) (h4 : x4 = m ((c.tc : Thread nD τ).loc main_arg4)) :
    val_main_v25 (F := Ideal) x1 x4 = W3 m ρ c main_v1 := by
  subst h1 h4
  rw [W3_of m ρ c main_v1 (by decide), show W2 m ρ c main_v1 = _ from W2_arr m ρ c 2, arr1_2]
  simp only [show V1 m ρ c main_arg1 = _ from W1_args m ρ c main_arg1 (by decide), show V1 m ρ c main_arg4 = _ from W1_args m ρ c main_arg4 (by decide)]

theorem res2 {x2 x5} (h2 : x2 = m ((c.tc : Thread nD τ).loc main_arg2)) (h5 : x5 = m ((c.tc : Thread nD τ).loc main_arg5)) :
    val_main_v38 (F := Ideal) x2 x5 = W3 m ρ c main_v2 := by
  subst h2 h5
  rw [show W3 m ρ c main_v2 = _ from W3_arr m ρ c 2, arr2_2]
  simp only [show V2 m ρ c main_arg2 = _ from W2_args m ρ c main_arg2 (by decide), show V2 m ρ c main_arg5 = _ from W2_args m ρ c main_arg5 (by decide)]
end

section
variable {F : FTy → Type} [FloatOps F] (m : (ℓ : Loc nD τ sig) → Buf (Elt F) ℓ) (ρ : Dev nD → PrngReg)

set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      r.2.mem ((c.tc : Thread nD τ).loc main_v0) = W3 m ρ c main_v0
      ∧ r.2.mem ((c.tc : Thread nD τ).loc main_v1) = W3 m ρ c main_v1
      ∧ r.2.mem ((c.tc : Thread nD τ).loc main_v2) = W3 m ρ c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v0 (by decide)),
       h c _ (mem_uc main_v1 (by decide)),
       h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end

end Cert.Kernel14Ideal.Nrm

namespace Cert.Prod14

open Idealize.ShloMosaic Idealize.ShloMosaic.TcCoe Idealize.SL.Sem

/-- The reference keeps its arguments and leaves no count. -/
theorem frame_ref : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The kernel and the reference end with equal results. -/
theorem value : Cert.algebraic_Kernel14Ideal_Reference14Ideal (hKernel14Ideal := Cert.Kernel14Ideal.Gen.facts)
    (hReference14Ideal := Cert.Reference14Ideal.Gen.facts) := fun m ρ m' ρ' _ hag =>
  ⟨fun c => Cert.Kernel14Ideal.Gen.W3 m ρ c Cert.Kernel14Ideal.main_v0, fun c => Cert.Kernel14Ideal.Gen.W3 m ρ c Cert.Kernel14Ideal.main_v1, fun c => Cert.Kernel14Ideal.Gen.W3 m ρ c Cert.Kernel14Ideal.main_v2,
    Cert.Kernel14Ideal.Nrm.run (F := Ideal) m ρ,
    (θ_run Cert.Reference14Ideal.defs _ _).mono (fun _ h c => by
      obtain ⟨g0, g1, g2, g3, g4, g5⟩ := hag c
      obtain ⟨r0, r1, r2, rest⟩ := h c
      exact ⟨(r0.trans (Cert.Reference14Ideal.Read.val_main_v12_eq _ _)).trans (Cert.Kernel14Ideal.Nrm.res0 m ρ c g0 g3), (r1.trans (Cert.Reference14Ideal.Read.val_main_v25_eq _ _)).trans (Cert.Kernel14Ideal.Nrm.res1 m ρ c g1 g4), (r2.trans (Cert.Reference14Ideal.Read.val_main_v38_eq _ _)).trans (Cert.Kernel14Ideal.Nrm.res2 m ρ c g2 g5), rest⟩)
      (Cert.Reference14Ideal.Value.run (F := Ideal) m' ρ')⟩

end Cert.Prod14

end

end
-- ==== Proof.Val15.lean ====
module

public import proofs.«01_k».proof.Defs
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import Idealize.ShloMosaic.Adequacy
public import Idealize.ShloMosaic.Init
public import proofs.«01_k».proof.Proof.Norm
public import Idealize.ShloMosaic.Lib.Pipeline.ValueKit.Geometry

@[expose] public section

set_option maxRecDepth 16384

noncomputable section

/-! The norms' gradients: a tile's rows give the gradients of the same rows, and the gain's gradient is summed over the tiles. -/

namespace Cert.Kernel15Ideal.NrmB

open Idealize.ShloMosaic Idealize.ShloMosaic.TcCoe Idealize.ShloMosaic.Tactic Cert.Kernel15Ideal Cert.Kernel15Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference15Ideal.Read Cert.Norm Idealize.ShloMosaic.ValueIdx
open scoped BigOperators

section
variable (V : (c : Dev nD) → (b : Ref sig .tc) → Buf (Elt Ideal) ((c : Thread nD τ).loc b)) (c : Dev nD)

/-- The factor of a row in the gradient through its mean of squares. -/
def fac (x d g : Fin 1024 → EReal) : EReal :=
  ((∑ k, x k * (d k * g k)) * (Ideal.ofBits .f32 0xBF000000#32 * Ideal.div (Ideal.rsqrt (ms x)) (ms x))) * Ideal.ofBits .f32 0x3A800000#32

/-- The gradient of a row's input at an entry. -/
def dx (x d g : Fin 1024 → EReal) (b : Fin 1024) (r : EReal) : EReal :=
  d b * g b * Ideal.rsqrt (ms x) + x b * fac x d g + fac x d g * x b + r

/-- The reference's shifted mean of squares. -/
theorem ms_ (X : (⟨S4096x1024, .f32⟩ : BufTy).Contents (Elt Ideal)) (n : Fin 4096) : (val_main_v6 (F := Ideal) X (ix2 n 0) : EReal) = ms fun d => X (ix2 n d) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + ∑ k : Fin 1024, val_main_v0 (F := Ideal) X (idx_main_v1 (idx_main_v2 (ix2 n 0)) k)) (Ideal.ofBits .f32 0x44800000#32) + Ideal.ofBits .f32 0x358637BD#32 = _
  rw [Ideal.ofBits_zero_f32, zero_add, div1024]
  unfold ms
  congr 2
  refine Finset.sum_congr rfl fun k _ => ?_
  rw [val_main_v0_apply, e2 (idx_main_v1 (idx_main_v2 (ix2 n 0)) k) n k rfl rfl]
  rfl

theorem rs_ (X : (⟨S4096x1024, .f32⟩ : BufTy).Contents (Elt Ideal)) (n : Fin 4096) : (val_main_v7 (F := Ideal) X (ix2 n 0) : EReal) = Ideal.rsqrt (ms fun d => X (ix2 n d)) := by
  rw [val_main_v7_apply]
  exact congrArg Ideal.rsqrt (ms_ X n)

theorem dyg_ (G : (⟨S1x1024, .f32⟩ : BufTy).Contents (Elt Ideal)) (D : (⟨S4096x1024, .f32⟩ : BufTy).Contents (Elt Ideal)) (n : Fin 4096) (b : Fin 1024) : (val_main_v19 (F := Ideal) G D (ix2 n b) : EReal) = D (ix2 n b) * G (ix2 0 b) := by
  rw [val_main_v19_apply, val_main_v18_apply, e2 (idx_main_v18 (ix2 n b)) 0 b rfl rfl]
  rfl

/-- The reference's factor of a row. -/
theorem fac_ (X : (⟨S4096x1024, .f32⟩ : BufTy).Contents (Elt Ideal)) (G : (⟨S1x1024, .f32⟩ : BufTy).Contents (Elt Ideal)) (D : (⟨S4096x1024, .f32⟩ : BufTy).Contents (Elt Ideal)) (n : Fin 4096) (b : Fin 1024) :
    (val_main_v29 (F := Ideal) X G D (ix2 n b) : EReal) = fac (fun d => X (ix2 n d)) (fun d => D (ix2 n d)) (fun d => G (ix2 0 d)) := by
  rw [val_main_v29_apply, val_main_v28_apply, Fin.sum_univ_one, val_main_v27_apply, val_main_v26_apply, val_main_v25_apply, val_main_v22_apply, val_main_v21_apply,
    val_main_v10_apply, val_main_v9_apply, val_main_v8_apply, val_main_cst_6_apply, val_main_cst_5_apply, val_main_cst_4_apply, val_main_cst_2_apply,
    e2 (idx_main_v28 (idx_main_v29 (ix2 n b)) 0) n 0 rfl rfl]
  show Ideal.ofBits .f32 0x00000000#32 + Ideal.div ((Ideal.ofBits .f32 0x00000000#32 + ∑ k : Fin 1024, val_main_v20 (F := Ideal) X G D (idx_main_v21 (idx_main_v22 (ix2 n 0)) k))
    * (Ideal.ofBits .f32 0xBF000000#32 * Ideal.div (val_main_v7 (F := Ideal) X (ix2 n 0)) (val_main_v6 (F := Ideal) X (ix2 n 0)))) (Ideal.ofBits .f32 0x44800000#32) = _
  rw [Ideal.ofBits_zero_f32, zero_add, zero_add, div1024, rs_, ms_]
  unfold fac
  congr 2
  refine Finset.sum_congr rfl fun k _ => ?_
  rw [val_main_v20_apply, e2 (idx_main_v21 (idx_main_v22 (ix2 n 0)) k) n k (by show n.val * 1 + 0 = n.val; omega) rfl]
  exact congrArg (fun u : EReal => X (ix2 n k) * u) (dyg_ G D n k)

/-- The reference's gradient of the input at an entry. -/
theorem refdx_ (X : (⟨S4096x1024, .f32⟩ : BufTy).Contents (Elt Ideal)) (G : (⟨S1x1024, .f32⟩ : BufTy).Contents (Elt Ideal)) (D R : (⟨S4096x1024, .f32⟩ : BufTy).Contents (Elt Ideal)) (n : Fin 4096) (b : Fin 1024) :
    (val_main_v34 (F := Ideal) X G D R (ix2 n b) : EReal) = dx (fun d => X (ix2 n d)) (fun d => D (ix2 n d)) (fun d => G (ix2 0 d)) b (R (ix2 n b)) := by
  rw [val_main_v34_apply, val_main_v33_apply, val_main_v32_apply, val_main_v31_apply, val_main_v30_apply, val_main_v24_apply, val_main_v23_apply,
    e2 (idx_main_v23 (ix2 n b)) n 0 rfl rfl]
  show val_main_v19 (F := Ideal) G D (ix2 n b) * val_main_v7 (F := Ideal) X (ix2 n 0) + X (ix2 n b) * val_main_v29 (F := Ideal) X G D (ix2 n b)
    + val_main_v29 (F := Ideal) X G D (ix2 n b) * X (ix2 n b) + R (ix2 n b) = _
  rw [rs_, dyg_, fac_]
  rfl

/-- The reference's gradient of the gain at an entry. -/
theorem refdg_ (X D : (⟨S4096x1024, .f32⟩ : BufTy).Contents (Elt Ideal)) (b : Fin 1024) :
    (val_main_v17 (F := Ideal) X D (ix2 0 b) : EReal) = ∑ n : Fin 4096, X (ix2 n b) * Ideal.rsqrt (ms fun d => X (ix2 n d)) * D (ix2 n b) := by
  rw [val_main_v17_apply, val_main_v16_apply, val_main_cst_3_apply]
  show Ideal.ofBits .f32 0x00000000#32 + ∑ k : Fin 4096, val_main_v15 (F := Ideal) X D (idx_main_v16 (idx_main_v17 (ix2 0 b)) k) = _
  rw [Ideal.ofBits_zero_f32, zero_add]
  refine Finset.sum_congr rfl fun n _ => ?_
  rw [val_main_v15_apply, e2 (idx_main_v16 (idx_main_v17 (ix2 0 b)) n) n b rfl (by show 0 * 1024 + b.val = b.val; omega), val_main_v12_apply, val_main_v11_apply, e2 (idx_main_v11 (ix2 n b)) n 0 rfl rfl]
  show X (ix2 n b) * val_main_v7 (F := Ideal) X (ix2 n 0) * D (ix2 n b) = _
  rw [rs_]

theorem kms_ (x : Vec Ideal S512x1024 .f32) (a : Fin 512) : ((k0_pay3 x : FVec Ideal S512x1 .f32) (ix2 a 0) : EReal) = ms fun d => x (ix2 a d) := by
  unfold k0_pay3 ms
  exact congrArg (fun u : EReal => u * Ideal.ofBits .f32 0x3A800000#32 + Ideal.ofBits .f32 0x358637BD#32) ((cast_c _ _ a 0).trans (sum_row _ a _ _ _))

theorem krs_ (x : Vec Ideal S512x1024 .f32) (a : Fin 512) : ((k0_pay4 x : FVec Ideal S512x1 .f32) (ix2 a 0) : EReal) = Ideal.rsqrt (ms fun d => x (ix2 a d)) := by
  unfold k0_pay4
  exact congrArg Ideal.rsqrt (kms_ x a)

/-- A tile's part of the gain's gradient. -/
theorem kdg_ (x d : Vec Ideal S512x1024 .f32) (b : Fin 1024) :
    ((k0_pay5 x d : FVec Ideal S1x1024 .f32) (ix2 0 b) : EReal) = ∑ a : Fin 512, x (ix2 a b) * Ideal.rsqrt (ms fun k => x (ix2 a k)) * d (ix2 a b) := by
  unfold k0_pay5
  refine (shapeCast_a_1a_apply _ _ 0 b).trans ((sum_col _ b _ _ _).trans (Finset.sum_congr rfl fun a _ => ?_))
  exact congrArg (fun u : EReal => x (ix2 a b) * u * d (ix2 a b)) ((bc_col (by decide) _ _ a b).trans (krs_ x a))

theorem kg_ (g : Vec Ideal S1x1024 .f32) (d : Vec Ideal S512x1024 .f32) (h) (a : Fin 512) (b : Fin 1024) :
    (mulf d (broadcastTo S512x1024 g h) : FVec Ideal S512x1024 .f32) (ix2 a b) = (d (ix2 a b) * g (ix2 0 b) : EReal) :=
  congrArg (fun u : EReal => d (ix2 a b) * u) (bc_row (by decide) _ _ a b)

/-- A tile's gradient of the input at an entry. -/
theorem kdx_ (x : Vec Ideal S512x1024 .f32) (g : Vec Ideal S1x1024 .f32) (d r : Vec Ideal S512x1024 .f32) (a : Fin 512) (b : Fin 1024) :
    ((k0_pay6 x g d r : FVec Ideal S512x1024 .f32) (ix2 a b) : EReal) = dx (fun k => x (ix2 a k)) (fun k => d (ix2 a k)) (fun k => g (ix2 0 k)) b (r (ix2 a b)) := by
  unfold k0_pay6 dx
  have hf : ∀ v : FVec Ideal S512x1 .f32, v (ix2 a 0) = fac (fun k => x (ix2 a k)) (fun k => d (ix2 a k)) (fun k => g (ix2 0 k)) → ∀ h1 h2 h3 h4 h5,
      broadcastTo S512x1024 (shapeCast S512x1 (multiReduction .add [1] S512 v 0x00000000#32 h1 h2 h3) h4) h5 (ix2 a b)
        = fac (fun k => x (ix2 a k)) (fun k => d (ix2 a k)) (fun k => g (ix2 0 k)) := fun v hv h1 h2 h3 h4 h5 =>
    (bc_col (by decide) _ _ a b).trans ((cast_c _ _ a 0).trans ((sum_row _ a _ _ _).trans ((Fin.sum_univ_one _).trans hv)))
  have hv := hf _ (?_ : mulf (mulf (shapeCast S512x1 (multiReduction .add [1] S512 (mulf x (mulf d (broadcastTo S512x1024 g broadcasts_S1x1024_S512x1024))) 0x00000000#32 reduces_S512x1024_S512 (.inl rfl) rfl) shapeCasts_S512_S512x1)
      (mulf (broadcast S512x1 (Scalar.ofBits .f32 0xBF000000#32)) (divf (k0_pay4 x) (k0_pay3 x)))) (broadcast S512x1 (Scalar.ofBits .f32 0x3A800000#32)) (ix2 a 0) = _)
    reduces_S512x1_S512 (.inl rfl) rfl shapeCasts_S512_S512x1 broadcasts_S512x1_S512x1024
  · have hr := (bc_col (by decide) _ broadcasts_S512x1_S512x1024 a b).trans (krs_ x a)
    have hg := kg_ g d broadcasts_S1x1024_S512x1024 a b
    exact congrArg₂ (fun u v : EReal => u + v) (congrArg₂ (fun u v : EReal => u + v) (congrArg₂ (fun u v : EReal => u + v) (congrArg₂ (fun u v : EReal => u * v) hg hr)
      (congrArg (fun u : EReal => x (ix2 a b) * u) hv)) (congrArg (fun u : EReal => u * x (ix2 a b)) hv)) rfl
  · unfold fac
    have hs := (cast_c _ shapeCasts_S512_S512x1 a 0).trans (sum_row (mulf x (mulf d (broadcastTo S512x1024 g broadcasts_S1x1024_S512x1024))) a reduces_S512x1024_S512 (.inl rfl) rfl)
    refine congrArg (fun u : EReal => u * Ideal.ofBits .f32 0x3A800000#32) (congrArg₂ (fun u v : EReal => u * v) (hs.trans (Finset.sum_congr rfl fun k _ => ?_))
      (congrArg (fun u : EReal => Ideal.ofBits .f32 0xBF000000#32 * u) (congrArg₂ Ideal.div (krs_ x a) (kms_ x a))))
    exact congrArg (fun u : EReal => x (ix2 a k) * u) (kg_ g d broadcasts_S1x1024_S512x1024 a k)

/-- A tile's entry is the whole array's when the tile's rows and the gain are. -/
theorem pay_ (x : Vec Ideal S512x1024 .f32) (g : Vec Ideal S1x1024 .f32) (d r : Vec Ideal S512x1024 .f32) (y : S512x1024.Idx)
    {X : (⟨S4096x1024, .f32⟩ : BufTy).Contents (Elt Ideal)} {G : (⟨S1x1024, .f32⟩ : BufTy).Contents (Elt Ideal)} {D R : (⟨S4096x1024, .f32⟩ : BufTy).Contents (Elt Ideal)} {i : S4096x1024.Idx} (n : Fin 4096)
    (a : Fin 512) (b : Fin 1024) (hy : y = ix2 a b)
    (h0 : ∀ k : Fin 1024, x (ix2 a k) = X (ix2 n k)) (h1 : ∀ k : Fin 1024, g (ix2 0 k) = G (ix2 0 k)) (h2 : ∀ k : Fin 1024, d (ix2 a k) = D (ix2 n k))
    (h3 : ∀ k : Fin 1024, r (ix2 a k) = R (ix2 n k)) (hi : i = ix2 n b) :
    (k0_pay6 x g d r : FVec Ideal S512x1024 .f32) y = val_main_v34 (F := Ideal) X G D R i := by
  subst hy hi
  refine (kdx_ x g d r a b).trans ((?_ : _ = _).trans (refdx_ X G D R n b).symm)
  rw [h3 b, show (fun k : Fin 1024 => x (ix2 a k)) = fun k => X (ix2 n k) from funext h0, show (fun k : Fin 1024 => g (ix2 0 k)) = fun k => G (ix2 0 k) from funext h1,
    show (fun k : Fin 1024 => d (ix2 a k)) = fun k => D (ix2 n k) from funext h2]

/-- Adding a tile's part to what the gain's gradient holds. -/
theorem kadd_ (p v : Vec Ideal S1x1024 .f32) (b : Fin 1024) : ((k0_pay2 p v : FVec Ideal S1x1024 .f32) (ix2 0 b) : EReal) = v (ix2 0 b) + p (ix2 0 b) := by
  unfold k0_pay2
  rw [shapeCast_self]
  rfl

theorem kzero_ (b : Fin 1024) : ((k0_pay1 (F := Ideal) : FVec Ideal S1x1024 .f32) (ix2 0 b) : EReal) = 0 := Ideal.ofBits_zero_f32

theorem ixs0 : ∀ t : Fin cfg0.N, win0_0.index t 0 = t.val ∧ win0_0.index t 1 = 0 ∧ win0_1.index t 0 = 0 ∧ win0_1.index t 1 = 0 ∧ win0_2.index t 0 = t.val ∧ win0_2.index t 1 = 0
    ∧ win0_3.index t 0 = t.val ∧ win0_3.index t 1 = 0 ∧ win0_4.index t 0 = t.val ∧ win0_4.index t 1 = 0 ∧ win0_5.index t 0 = 0 ∧ win0_5.index t 1 = 0 := by decide +kernel
theorem last0 : ∀ t : Fin cfg0.N, (cfg0.win 5).flush t = true → t.val = 7 := by decide +kernel

theorem row0_0 (t : Fin cfg0.N) (a : Fin 512) (n : Fin 4096) (hn : n.val = 512 * t.val + a.val) (d : Fin 1024) :
    (iblk0 V c 0 t : FVec Ideal S512x1024 .f32) (ix2 a d) = (V c main_arg0 : FVec Ideal S4096x1024 .f32) (ix2 n d) := by
  unfold iblk0
  rw [View.read_apply]
  show V c main_arg0 _ = V c main_arg0 _
  refine congrArg (V c main_arg0) (e2 _ _ _ ?_ ?_)
  · show win0_0.index t 0 * 512 + 1 * a.val = n.val; rw [(ixs0 t).1]; omega
  · show win0_0.index t 1 * 1024 + 1 * d.val = d.val; rw [(ixs0 t).2.1]; omega

theorem row0_2 (t : Fin cfg0.N) (a : Fin 512) (n : Fin 4096) (hn : n.val = 512 * t.val + a.val) (d : Fin 1024) :
    (iblk0 V c 2 t : FVec Ideal S512x1024 .f32) (ix2 a d) = (V c main_arg2 : FVec Ideal S4096x1024 .f32) (ix2 n d) := by
  unfold iblk0
  rw [View.read_apply]
  show V c main_arg2 _ = V c main_arg2 _
  refine congrArg (V c main_arg2) (e2 _ _ _ ?_ ?_)
  · show win0_2.index t 0 * 512 + 1 * a.val = n.val; rw [(ixs0 t).2.2.2.2.1]; omega
  · show win0_2.index t 1 * 1024 + 1 * d.val = d.val; rw [(ixs0 t).2.2.2.2.2.1]; omega

theorem row0_3 (t : Fin cfg0.N) (a : Fin 512) (n : Fin 4096) (hn : n.val = 512 * t.val + a.val) (d : Fin 1024) :
    (iblk0 V c 3 t : FVec Ideal S512x1024 .f32) (ix2 a d) = (V c main_arg3 : FVec Ideal S4096x1024 .f32) (ix2 n d) := by
  unfold iblk0
  rw [View.read_apply]
  show V c main_arg3 _ = V c main_arg3 _
  refine congrArg (V c main_arg3) (e2 _ _ _ ?_ ?_)
  · show win0_3.index t 0 * 512 + 1 * a.val = n.val; rw [(ixs0 t).2.2.2.2.2.2.1]; omega
  · show win0_3.index t 1 * 1024 + 1 * d.val = d.val; rw [(ixs0 t).2.2.2.2.2.2.2.1]; omega

theorem gain0 (t : Fin cfg0.N) (d : Fin 1024) :
    (iblk0 V c 1 t : FVec Ideal S1x1024 .f32) (ix2 0 d) = (V c main_arg1 : FVec Ideal S1x1024 .f32) (ix2 0 d) := by
  unfold iblk0
  rw [View.read_apply]
  show V c main_arg1 _ = V c main_arg1 _
  refine congrArg (V c main_arg1) (e2 _ _ _ ?_ ?_)
  · show win0_1.index t 0 * 1 + 1 * 0 = 0; rw [(ixs0 t).2.2.1]
  · show win0_1.index t 1 * 1024 + 1 * d.val = d.val; rw [(ixs0 t).2.2.2.1]; omega

/-- What every point leaves for the input's gradient. -/
theorem fst0 (t : Fin cfg0.N) : (outsAt0 V c t.val t.isLt).1 = k0_pay6 (iblk0 V c 0 t) (iblk0 V c 1 t) (iblk0 V c 2 t) (iblk0 V c 3 t) := by
  by_cases h0 : t.val % 8 = 0
  · refine (congrArg Prod.fst (outsAt0_A V c t h0)).trans ?_
    dsimp only
    unfold out0_A_4
    rw [View.read_writes_eq_canon _ _ _ (cover0_A_4 c _ _ _ _ _ _ _ _ _ _ _ _ _ _ _ _ _ _)]
    unfold kernelRun0_A
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]
  · refine (congrArg Prod.fst (outsAt0_B V c t h0)).trans ?_
    dsimp only
    unfold out0_B_4
    rw [View.read_writes_eq_canon _ _ _ (cover0_B_4 c _ _ _ _ _ _ _ _ _ _ _ _ _ _ _ _ _ _ _)]
    unfold kernelRun0_B
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]

/-- What the first point leaves for the gain's gradient. -/
theorem sndA0 (t : Fin cfg0.N) (h0 : t.val % 8 = 0) : (outsAt0 V c t.val t.isLt).2 = k0_pay2 (k0_pay5 (iblk0 V c 0 t) (iblk0 V c 2 t)) (k0_pay1 (F := Ideal)) := by
  refine (congrArg Prod.snd (outsAt0_A V c t h0)).trans ?_
  dsimp only
  unfold out0_A_5
  rw [View.read_writes_eq_canon _ _ _ (cover0_A_5 c _ _ _ _ _ _ _ _ _ _ _ _ _ _ _ _ _ _)]
  unfold kernelRun0_A
  refine (View.canon_cons_unit_zero (S := S1x1024) (by decide) inb_S1x1024_S1x1024_0_0 _ _).trans ?_
  unfold kernelRun0_A.sl.r
  rw [MM.ld_whole _ _ (by decide), MM.ld_whole _ _ (by decide)]
  unfold kernelRun0_A.sl.v42
  exact congrArg (k0_pay2 _) (View.readCov_unit_zero _ (by decide) inb_S1x1024_S1x1024_0_0 _)

/-- What a later point leaves for the gain's gradient. -/
theorem sndB0 (t : Fin cfg0.N) (h0 : ¬ t.val % 8 = 0) : (outsAt0 V c t.val t.isLt).2
    = k0_pay2 (k0_pay5 (iblk0 V c 0 t) (iblk0 V c 2 t)) (outsAt0 V c (t.val - 1) (Nat.lt_of_le_of_lt (Nat.sub_le _ _) t.isLt)).2 := by
  refine (congrArg Prod.snd (outsAt0_B V c t h0)).trans ?_
  dsimp only
  unfold out0_B_5
  rw [View.read_writes_eq_canon _ _ _ (cover0_B_5 c _ _ _ _ _ _ _ _ _ _ _ _ _ _ _ _ _ _ _)]
  unfold kernelRun0_B
  refine (View.canon_unit_zero (S := S1x1024) (by decide) inb_S1x1024_S1x1024_0_0 _).trans ?_
  unfold kernelRun0_B.sl.r
  rw [MM.ld_whole _ _ (by decide), MM.ld_whole _ _ (by decide), MM.ld_whole _ _ (by decide)]

/-- A tile's part of the gain's gradient, by the tile's number. -/
def part0 (b : Fin 1024) (n : ℕ) : EReal :=
  if h : n < cfg0.N then (k0_pay5 (iblk0 V c 0 ⟨n, h⟩) (iblk0 V c 2 ⟨n, h⟩) : FVec Ideal S1x1024 .f32) (ix2 0 b) else 0

/-- The parts added so far. -/
theorem acc0 (b : Fin 1024) : ∀ (n : ℕ) (hn : n < cfg0.N), ((outsAt0 V c n hn).2 (ix2 0 b) : EReal) = ∑ j ∈ Finset.range (n + 1), part0 V c b j := by
  intro n
  induction n with
  | zero =>
    intro hn
    rw [Finset.sum_range_one, show (outsAt0 V c 0 hn).2 = _ from sndA0 V c ⟨0, hn⟩ rfl]
    refine (kadd_ _ _ b).trans ?_
    rw [show ((k0_pay1 (F := Ideal) : FVec Ideal S1x1024 .f32) (ix2 0 b) : EReal) = 0 from kzero_ b, zero_add]
    unfold part0
    rw [dif_pos hn]
  | succ n ih =>
    intro hn
    have hN : n + 1 < 8 := hn
    rw [Finset.sum_range_succ, ← ih (Nat.lt_of_succ_lt hn), show (outsAt0 V c (n + 1) hn).2 = _ from sndB0 V c ⟨n + 1, hn⟩ (by show ¬ (n + 1) % 8 = 0; omega)]
    refine (kadd_ _ _ b).trans ?_
    unfold part0
    rw [dif_pos hn]
    rfl

/-- A call leaves the input's gradient with what it is added to. -/
theorem arr0_4 : (dat0 V c).arrAt 4 cfg0.N = val_main_v34 (F := Ideal) (V c main_arg0) (V c main_arg1) (V c main_arg2) (V c main_arg3) := by
  refine (dat0 V c).arrAt_eq_of_covers 4 _ (by decide +kernel) fun t hf y => ?_
  blk_simp
  rw [after0_4, fst0]
  have ht : t.val < 8 := t.isLt
  have hy0 : (y 0).val < 512 := (y 0).isLt
  exact pay_ (iblk0 V c 0 t) (iblk0 V c 1 t) (iblk0 V c 2 t) (iblk0 V c 3 t) y ⟨512 * t.val + (y 0).val, by omega⟩ (y 0) (y 1) (e2 y (y 0) (y 1) rfl rfl)
    (row0_0 V c t (y 0) _ rfl) (gain0 V c t) (row0_2 V c t (y 0) _ rfl) (row0_3 V c t (y 0) _ rfl)
    (e2 _ _ _ (by show win0_4.index t 0 * 512 + 1 * (y 0).val = 512 * t.val + (y 0).val; rw [(ixs0 t).2.2.2.2.2.2.2.2.1]; omega)
      (by show win0_4.index t 1 * 1024 + 1 * (y 1).val = (y 1).val; rw [(ixs0 t).2.2.2.2.2.2.2.2.2.1]; omega))

/-- All parts together are the gain's gradient. -/
theorem all0 (b : Fin 1024) (hn : 7 < cfg0.N) : ((outsAt0 V c 7 hn).2 (ix2 0 b) : EReal) = val_main_v17 (F := Ideal) (V c main_arg0) (V c main_arg2) (ix2 0 b) := by
  rw [acc0, Finset.sum_range]
  refine Eq.trans ?_ ((refdg_ (V c main_arg0) (V c main_arg2) b).trans (MM.sum_blk 8 512 4096 rfl _)).symm
  refine Finset.sum_congr rfl fun j _ => ?_
  unfold part0
  rw [dif_pos (show j.val < cfg0.N from j.isLt)]
  refine (kdg_ _ _ b).trans (Finset.sum_congr rfl fun a _ => ?_)
  rw [row0_0 V c ⟨j.val, j.isLt⟩ a (MM.blk 8 512 4096 rfl j a) rfl b, row0_2 V c ⟨j.val, j.isLt⟩ a (MM.blk 8 512 4096 rfl j a) rfl b,
    show (fun d : Fin 1024 => (iblk0 V c 0 ⟨j.val, j.isLt⟩ : FVec Ideal S512x1024 .f32) (ix2 a d)) = fun d => (V c main_arg0 : FVec Ideal S4096x1024 .f32) (ix2 (MM.blk 8 512 4096 rfl j a) d) from
      funext (row0_0 V c ⟨j.val, j.isLt⟩ a (MM.blk 8 512 4096 rfl j a) rfl)]

/-- A call leaves the gain's gradient. -/
theorem arr0_5 : (dat0 V c).arrAt 5 cfg0.N = val_main_v17 (F := Ideal) (V c main_arg0) (V c main_arg2) := by
  refine (dat0 V c).arrAt_eq_of_covers 5 _ (by decide +kernel) fun t hf y => ?_
  blk_simp
  rw [after0_5]
  have ht := last0 t hf
  obtain ⟨n, hn⟩ := t
  obtain rfl : n = 7 := ht
  have hy0 : (y 0).val < 1 := (y 0).isLt
  have hy := e2 y 0 (y 1) (by show (y 0).val = 0; omega) rfl
  refine Eq.trans (congrArg (outsAt0 V c 7 hn).2 hy) ((all0 V c (y 1) hn).trans (congrArg (val_main_v17 (F := Ideal) (V c main_arg0) (V c main_arg2)) (e2 _ _ _ ?_ ?_).symm))
  · show win0_5.index ⟨7, hn⟩ 0 * 1 + 1 * (y 0).val = 0; rw [(ixs0 ⟨7, hn⟩).2.2.2.2.2.2.2.2.2.2.1]; omega
  · show win0_5.index ⟨7, hn⟩ 1 * 1024 + 1 * (y 1).val = (y 1).val; rw [(ixs0 ⟨7, hn⟩).2.2.2.2.2.2.2.2.2.2.2]; omega

theorem ixs1 : ∀ t : Fin cfg1.N, win1_0.index t 0 = t.val ∧ win1_0.index t 1 = 0 ∧ win1_1.index t 0 = 0 ∧ win1_1.index t 1 = 0 ∧ win1_2.index t 0 = t.val ∧ win1_2.index t 1 = 0
    ∧ win1_3.index t 0 = t.val ∧ win1_3.index t 1 = 0 ∧ win1_4.index t 0 = t.val ∧ win1_4.index t 1 = 0 ∧ win1_5.index t 0 = 0 ∧ win1_5.index t 1 = 0 := by decide +kernel
theorem last1 : ∀ t : Fin cfg1.N, (cfg1.win 5).flush t = true → t.val = 7 := by decide +kernel

theorem row1_0 (t : Fin cfg1.N) (a : Fin 512) (n : Fin 4096) (hn : n.val = 512 * t.val + a.val) (d : Fin 1024) :
    (iblk1 V c 0 t : FVec Ideal S512x1024 .f32) (ix2 a d) = (V c main_arg4 : FVec Ideal S4096x1024 .f32) (ix2 n d) := by
  unfold iblk1
  rw [View.read_apply]
  show V c main_arg4 _ = V c main_arg4 _
  refine congrArg (V c main_arg4) (e2 _ _ _ ?_ ?_)
  · show win1_0.index t 0 * 512 + 1 * a.val = n.val; rw [(ixs1 t).1]; omega
  · show win1_0.index t 1 * 1024 + 1 * d.val = d.val; rw [(ixs1 t).2.1]; omega

theorem row1_2 (t : Fin cfg1.N) (a : Fin 512) (n : Fin 4096) (hn : n.val = 512 * t.val + a.val) (d : Fin 1024) :
    (iblk1 V c 2 t : FVec Ideal S512x1024 .f32) (ix2 a d) = (V c main_arg6 : FVec Ideal S4096x1024 .f32) (ix2 n d) := by
  unfold iblk1
  rw [View.read_apply]
  show V c main_arg6 _ = V c main_arg6 _
  refine congrArg (V c main_arg6) (e2 _ _ _ ?_ ?_)
  · show win1_2.index t 0 * 512 + 1 * a.val = n.val; rw [(ixs1 t).2.2.2.2.1]; omega
  · show win1_2.index t 1 * 1024 + 1 * d.val = d.val; rw [(ixs1 t).2.2.2.2.2.1]; omega

theorem row1_3 (t : Fin cfg1.N) (a : Fin 512) (n : Fin 4096) (hn : n.val = 512 * t.val + a.val) (d : Fin 1024) :
    (iblk1 V c 3 t : FVec Ideal S512x1024 .f32) (ix2 a d) = (V c main_arg7 : FVec Ideal S4096x1024 .f32) (ix2 n d) := by
  unfold iblk1
  rw [View.read_apply]
  show V c main_arg7 _ = V c main_arg7 _
  refine congrArg (V c main_arg7) (e2 _ _ _ ?_ ?_)
  · show win1_3.index t 0 * 512 + 1 * a.val = n.val; rw [(ixs1 t).2.2.2.2.2.2.1]; omega
  · show win1_3.index t 1 * 1024 + 1 * d.val = d.val; rw [(ixs1 t).2.2.2.2.2.2.2.1]; omega

theorem gain1 (t : Fin cfg1.N) (d : Fin 1024) :
    (iblk1 V c 1 t : FVec Ideal S1x1024 .f32) (ix2 0 d) = (V c main_arg5 : FVec Ideal S1x1024 .f32) (ix2 0 d) := by
  unfold iblk1
  rw [View.read_apply]
  show V c main_arg5 _ = V c main_arg5 _
  refine congrArg (V c main_arg5) (e2 _ _ _ ?_ ?_)
  · show win1_1.index t 0 * 1 + 1 * 0 = 0; rw [(ixs1 t).2.2.1]
  · show win1_1.index t 1 * 1024 + 1 * d.val = d.val; rw [(ixs1 t).2.2.2.1]; omega

/-- What every point leaves for the input's gradient. -/
theorem fst1 (t : Fin cfg1.N) : (outsAt1 V c t.val t.isLt).1 = k1_pay6 (iblk1 V c 0 t) (iblk1 V c 1 t) (iblk1 V c 2 t) (iblk1 V c 3 t) := by
  by_cases h0 : t.val % 8 = 0
  · refine (congrArg Prod.fst (outsAt1_A V c t h0)).trans ?_
    dsimp only
    unfold out1_A_4
    rw [View.read_writes_eq_canon _ _ _ (cover1_A_4 c _ _ _ _ _ _ _ _ _ _ _ _ _ _ _ _ _ _)]
    unfold kernelRun1_A
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]
  · refine (congrArg Prod.fst (outsAt1_B V c t h0)).trans ?_
    dsimp only
    unfold out1_B_4
    rw [View.read_writes_eq_canon _ _ _ (cover1_B_4 c _ _ _ _ _ _ _ _ _ _ _ _ _ _ _ _ _ _ _)]
    unfold kernelRun1_B
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]

/-- What the first point leaves for the gain's gradient. -/
theorem sndA1 (t : Fin cfg1.N) (h0 : t.val % 8 = 0) : (outsAt1 V c t.val t.isLt).2 = k1_pay2 (k1_pay5 (iblk1 V c 0 t) (iblk1 V c 2 t)) (k1_pay1 (F := Ideal)) := by
  refine (congrArg Prod.snd (outsAt1_A V c t h0)).trans ?_
  dsimp only
  unfold out1_A_5
  rw [View.read_writes_eq_canon _ _ _ (cover1_A_5 c _ _ _ _ _ _ _ _ _ _ _ _ _ _ _ _ _ _)]
  unfold kernelRun1_A
  refine (View.canon_cons_unit_zero (S := S1x1024) (by decide) inb_S1x1024_S1x1024_0_0 _ _).trans ?_
  unfold kernelRun1_A.sl.r
  rw [MM.ld_whole _ _ (by decide), MM.ld_whole _ _ (by decide)]
  unfold kernelRun1_A.sl.v42
  exact congrArg (k1_pay2 _) (View.readCov_unit_zero _ (by decide) inb_S1x1024_S1x1024_0_0 _)

/-- What a later point leaves for the gain's gradient. -/
theorem sndB1 (t : Fin cfg1.N) (h0 : ¬ t.val % 8 = 0) : (outsAt1 V c t.val t.isLt).2
    = k1_pay2 (k1_pay5 (iblk1 V c 0 t) (iblk1 V c 2 t)) (outsAt1 V c (t.val - 1) (Nat.lt_of_le_of_lt (Nat.sub_le _ _) t.isLt)).2 := by
  refine (congrArg Prod.snd (outsAt1_B V c t h0)).trans ?_
  dsimp only
  unfold out1_B_5
  rw [View.read_writes_eq_canon _ _ _ (cover1_B_5 c _ _ _ _ _ _ _ _ _ _ _ _ _ _ _ _ _ _ _)]
  unfold kernelRun1_B
  refine (View.canon_unit_zero (S := S1x1024) (by decide) inb_S1x1024_S1x1024_0_0 _).trans ?_
  unfold kernelRun1_B.sl.r
  rw [MM.ld_whole _ _ (by decide), MM.ld_whole _ _ (by decide), MM.ld_whole _ _ (by decide)]

/-- A tile's part of the gain's gradient, by the tile's number. -/
def part1 (b : Fin 1024) (n : ℕ) : EReal :=
  if h : n < cfg1.N then (k1_pay5 (iblk1 V c 0 ⟨n, h⟩) (iblk1 V c 2 ⟨n, h⟩) : FVec Ideal S1x1024 .f32) (ix2 0 b) else 0

/-- The parts added so far. -/
theorem acc1 (b : Fin 1024) : ∀ (n : ℕ) (hn : n < cfg1.N), ((outsAt1 V c n hn).2 (ix2 0 b) : EReal) = ∑ j ∈ Finset.range (n + 1), part1 V c b j := by
  intro n
  induction n with
  | zero =>
    intro hn
    rw [Finset.sum_range_one, show (outsAt1 V c 0 hn).2 = _ from sndA1 V c ⟨0, hn⟩ rfl]
    refine (kadd_ _ _ b).trans ?_
    rw [show ((k1_pay1 (F := Ideal) : FVec Ideal S1x1024 .f32) (ix2 0 b) : EReal) = 0 from kzero_ b, zero_add]
    unfold part1
    rw [dif_pos hn]
  | succ n ih =>
    intro hn
    have hN : n + 1 < 8 := hn
    rw [Finset.sum_range_succ, ← ih (Nat.lt_of_succ_lt hn), show (outsAt1 V c (n + 1) hn).2 = _ from sndB1 V c ⟨n + 1, hn⟩ (by show ¬ (n + 1) % 8 = 0; omega)]
    refine (kadd_ _ _ b).trans ?_
    unfold part1
    rw [dif_pos hn]
    rfl

/-- A call leaves the input's gradient with what it is added to. -/
theorem arr1_4 : (dat1 V c).arrAt 4 cfg1.N = val_main_v69 (F := Ideal) (V c main_arg4) (V c main_arg5) (V c main_arg6) (V c main_arg7) := by
  refine (dat1 V c).arrAt_eq_of_covers 4 _ (by decide +kernel) fun t hf y => ?_
  blk_simp
  rw [after1_4, fst1]
  have ht : t.val < 8 := t.isLt
  have hy0 : (y 0).val < 512 := (y 0).isLt
  exact pay_ (iblk1 V c 0 t) (iblk1 V c 1 t) (iblk1 V c 2 t) (iblk1 V c 3 t) y ⟨512 * t.val + (y 0).val, by omega⟩ (y 0) (y 1) (e2 y (y 0) (y 1) rfl rfl)
    (row1_0 V c t (y 0) _ rfl) (gain1 V c t) (row1_2 V c t (y 0) _ rfl) (row1_3 V c t (y 0) _ rfl)
    (e2 _ _ _ (by show win1_4.index t 0 * 512 + 1 * (y 0).val = 512 * t.val + (y 0).val; rw [(ixs1 t).2.2.2.2.2.2.2.2.1]; omega)
      (by show win1_4.index t 1 * 1024 + 1 * (y 1).val = (y 1).val; rw [(ixs1 t).2.2.2.2.2.2.2.2.2.1]; omega))

/-- All parts together are the gain's gradient. -/
theorem all1 (b : Fin 1024) (hn : 7 < cfg1.N) : ((outsAt1 V c 7 hn).2 (ix2 0 b) : EReal) = val_main_v52 (F := Ideal) (V c main_arg4) (V c main_arg6) (ix2 0 b) := by
  rw [acc1, Finset.sum_range]
  refine Eq.trans ?_ ((refdg_ (V c main_arg4) (V c main_arg6) b).trans (MM.sum_blk 8 512 4096 rfl _)).symm
  refine Finset.sum_congr rfl fun j _ => ?_
  unfold part1
  rw [dif_pos (show j.val < cfg1.N from j.isLt)]
  refine (kdg_ _ _ b).trans (Finset.sum_congr rfl fun a _ => ?_)
  rw [row1_0 V c ⟨j.val, j.isLt⟩ a (MM.blk 8 512 4096 rfl j a) rfl b, row1_2 V c ⟨j.val, j.isLt⟩ a (MM.blk 8 512 4096 rfl j a) rfl b,
    show (fun d : Fin 1024 => (iblk1 V c 0 ⟨j.val, j.isLt⟩ : FVec Ideal S512x1024 .f32) (ix2 a d)) = fun d => (V c main_arg4 : FVec Ideal S4096x1024 .f32) (ix2 (MM.blk 8 512 4096 rfl j a) d) from
      funext (row1_0 V c ⟨j.val, j.isLt⟩ a (MM.blk 8 512 4096 rfl j a) rfl)]

/-- A call leaves the gain's gradient. -/
theorem arr1_5 : (dat1 V c).arrAt 5 cfg1.N = val_main_v52 (F := Ideal) (V c main_arg4) (V c main_arg6) := by
  refine (dat1 V c).arrAt_eq_of_covers 5 _ (by decide +kernel) fun t hf y => ?_
  blk_simp
  rw [after1_5]
  have ht := last1 t hf
  obtain ⟨n, hn⟩ := t
  obtain rfl : n = 7 := ht
  have hy0 : (y 0).val < 1 := (y 0).isLt
  have hy := e2 y 0 (y 1) (by show (y 0).val = 0; omega) rfl
  refine Eq.trans (congrArg (outsAt1 V c 7 hn).2 hy) ((all1 V c (y 1) hn).trans (congrArg (val_main_v52 (F := Ideal) (V c main_arg4) (V c main_arg6)) (e2 _ _ _ ?_ ?_).symm))
  · show win1_5.index ⟨7, hn⟩ 0 * 1 + 1 * (y 0).val = 0; rw [(ixs1 ⟨7, hn⟩).2.2.2.2.2.2.2.2.2.2.1]; omega
  · show win1_5.index ⟨7, hn⟩ 1 * 1024 + 1 * (y 1).val = (y 1).val; rw [(ixs1 ⟨7, hn⟩).2.2.2.2.2.2.2.2.2.2.2]; omega

theorem ixs2 : ∀ t : Fin cfg2.N, win2_0.index t 0 = t.val ∧ win2_0.index t 1 = 0 ∧ win2_1.index t 0 = 0 ∧ win2_1.index t 1 = 0 ∧ win2_2.index t 0 = t.val ∧ win2_2.index t 1 = 0
    ∧ win2_3.index t 0 = t.val ∧ win2_3.index t 1 = 0 ∧ win2_4.index t 0 = t.val ∧ win2_4.index t 1 = 0 ∧ win2_5.index t 0 = 0 ∧ win2_5.index t 1 = 0 := by decide +kernel
theorem last2 : ∀ t : Fin cfg2.N, (cfg2.win 5).flush t = true → t.val = 7 := by decide +kernel

theorem row2_0 (t : Fin cfg2.N) (a : Fin 512) (n : Fin 4096) (hn : n.val = 512 * t.val + a.val) (d : Fin 1024) :
    (iblk2 V c 0 t : FVec Ideal S512x1024 .f32) (ix2 a d) = (V c main_arg8 : FVec Ideal S4096x1024 .f32) (ix2 n d) := by
  unfold iblk2
  rw [View.read_apply]
  show V c main_arg8 _ = V c main_arg8 _
  refine congrArg (V c main_arg8) (e2 _ _ _ ?_ ?_)
  · show win2_0.index t 0 * 512 + 1 * a.val = n.val; rw [(ixs2 t).1]; omega
  · show win2_0.index t 1 * 1024 + 1 * d.val = d.val; rw [(ixs2 t).2.1]; omega

theorem row2_2 (t : Fin cfg2.N) (a : Fin 512) (n : Fin 4096) (hn : n.val = 512 * t.val + a.val) (d : Fin 1024) :
    (iblk2 V c 2 t : FVec Ideal S512x1024 .f32) (ix2 a d) = (V c main_arg10 : FVec Ideal S4096x1024 .f32) (ix2 n d) := by
  unfold iblk2
  rw [View.read_apply]
  show V c main_arg10 _ = V c main_arg10 _
  refine congrArg (V c main_arg10) (e2 _ _ _ ?_ ?_)
  · show win2_2.index t 0 * 512 + 1 * a.val = n.val; rw [(ixs2 t).2.2.2.2.1]; omega
  · show win2_2.index t 1 * 1024 + 1 * d.val = d.val; rw [(ixs2 t).2.2.2.2.2.1]; omega

theorem row2_3 (t : Fin cfg2.N) (a : Fin 512) (n : Fin 4096) (hn : n.val = 512 * t.val + a.val) (d : Fin 1024) :
    (iblk2 V c 3 t : FVec Ideal S512x1024 .f32) (ix2 a d) = (V c main_arg11 : FVec Ideal S4096x1024 .f32) (ix2 n d) := by
  unfold iblk2
  rw [View.read_apply]
  show V c main_arg11 _ = V c main_arg11 _
  refine congrArg (V c main_arg11) (e2 _ _ _ ?_ ?_)
  · show win2_3.index t 0 * 512 + 1 * a.val = n.val; rw [(ixs2 t).2.2.2.2.2.2.1]; omega
  · show win2_3.index t 1 * 1024 + 1 * d.val = d.val; rw [(ixs2 t).2.2.2.2.2.2.2.1]; omega

theorem gain2 (t : Fin cfg2.N) (d : Fin 1024) :
    (iblk2 V c 1 t : FVec Ideal S1x1024 .f32) (ix2 0 d) = (V c main_arg9 : FVec Ideal S1x1024 .f32) (ix2 0 d) := by
  unfold iblk2
  rw [View.read_apply]
  show V c main_arg9 _ = V c main_arg9 _
  refine congrArg (V c main_arg9) (e2 _ _ _ ?_ ?_)
  · show win2_1.index t 0 * 1 + 1 * 0 = 0; rw [(ixs2 t).2.2.1]
  · show win2_1.index t 1 * 1024 + 1 * d.val = d.val; rw [(ixs2 t).2.2.2.1]; omega

/-- What every point leaves for the input's gradient. -/
theorem fst2 (t : Fin cfg2.N) : (outsAt2 V c t.val t.isLt).1 = k2_pay6 (iblk2 V c 0 t) (iblk2 V c 1 t) (iblk2 V c 2 t) (iblk2 V c 3 t) := by
  by_cases h0 : t.val % 8 = 0
  · refine (congrArg Prod.fst (outsAt2_A V c t h0)).trans ?_
    dsimp only
    unfold out2_A_4
    rw [View.read_writes_eq_canon _ _ _ (cover2_A_4 c _ _ _ _ _ _ _ _ _ _ _ _ _ _ _ _ _ _)]
    unfold kernelRun2_A
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]
  · refine (congrArg Prod.fst (outsAt2_B V c t h0)).trans ?_
    dsimp only
    unfold out2_B_4
    rw [View.read_writes_eq_canon _ _ _ (cover2_B_4 c _ _ _ _ _ _ _ _ _ _ _ _ _ _ _ _ _ _ _)]
    unfold kernelRun2_B
    refine (View.canon_unit_zero (S := S512x1024) (by decide) inb_S512x1024_S512x1024_0_0 _).trans ?_
    rw [MM.ld_whole _ _ (by decide), MM.ld_whole _ _ (by decide), MM.ld_whole _ _ (by decide), MM.ld_whole _ _ (by decide)]

/-- What the first point leaves for the gain's gradient. -/
theorem sndA2 (t : Fin cfg2.N) (h0 : t.val % 8 = 0) : (outsAt2 V c t.val t.isLt).2 = k2_pay2 (k2_pay5 (iblk2 V c 0 t) (iblk2 V c 2 t)) (k2_pay1 (F := Ideal)) := by
  refine (congrArg Prod.snd (outsAt2_A V c t h0)).trans ?_
  dsimp only
  unfold out2_A_5
  rw [View.read_writes_eq_canon _ _ _ (cover2_A_5 c _ _ _ _ _ _ _ _ _ _ _ _ _ _ _ _ _ _)]
  unfold kernelRun2_A
  refine (View.canon_cons_unit_zero (S := S1x1024) (by decide) inb_S1x1024_S1x1024_0_0 _ _).trans ?_
  unfold kernelRun2_A.sl.r
  rw [MM.ld_whole _ _ (by decide), MM.ld_whole _ _ (by decide)]
  unfold kernelRun2_A.sl.v42
  exact congrArg (k2_pay2 _) (View.readCov_unit_zero _ (by decide) inb_S1x1024_S1x1024_0_0 _)

/-- What a later point leaves for the gain's gradient. -/
theorem sndB2 (t : Fin cfg2.N) (h0 : ¬ t.val % 8 = 0) : (outsAt2 V c t.val t.isLt).2
    = k2_pay2 (k2_pay5 (iblk2 V c 0 t) (iblk2 V c 2 t)) (outsAt2 V c (t.val - 1) (Nat.lt_of_le_of_lt (Nat.sub_le _ _) t.isLt)).2 := by
  refine (congrArg Prod.snd (outsAt2_B V c t h0)).trans ?_
  dsimp only
  unfold out2_B_5
  rw [View.read_writes_eq_canon _ _ _ (cover2_B_5 c _ _ _ _ _ _ _ _ _ _ _ _ _ _ _ _ _ _ _)]
  unfold kernelRun2_B
  refine (View.canon_unit_zero (S := S1x1024) (by decide) inb_S1x1024_S1x1024_0_0 _).trans ?_
  unfold kernelRun2_B.sl.r
  rw [MM.ld_whole _ _ (by decide), MM.ld_whole _ _ (by decide), MM.ld_whole _ _ (by decide)]

/-- A tile's part of the gain's gradient, by the tile's number. -/
def part2 (b : Fin 1024) (n : ℕ) : EReal :=
  if h : n < cfg2.N then (k2_pay5 (iblk2 V c 0 ⟨n, h⟩) (iblk2 V c 2 ⟨n, h⟩) : FVec Ideal S1x1024 .f32) (ix2 0 b) else 0

/-- The parts added so far. -/
theorem acc2 (b : Fin 1024) : ∀ (n : ℕ) (hn : n < cfg2.N), ((outsAt2 V c n hn).2 (ix2 0 b) : EReal) = ∑ j ∈ Finset.range (n + 1), part2 V c b j := by
  intro n
  induction n with
  | zero =>
    intro hn
    rw [Finset.sum_range_one, show (outsAt2 V c 0 hn).2 = _ from sndA2 V c ⟨0, hn⟩ rfl]
    refine (kadd_ _ _ b).trans ?_
    rw [show ((k2_pay1 (F := Ideal) : FVec Ideal S1x1024 .f32) (ix2 0 b) : EReal) = 0 from kzero_ b, zero_add]
    unfold part2
    rw [dif_pos hn]
  | succ n ih =>
    intro hn
    have hN : n + 1 < 8 := hn
    rw [Finset.sum_range_succ, ← ih (Nat.lt_of_succ_lt hn), show (outsAt2 V c (n + 1) hn).2 = _ from sndB2 V c ⟨n + 1, hn⟩ (by show ¬ (n + 1) % 8 = 0; omega)]
    refine (kadd_ _ _ b).trans ?_
    unfold part2
    rw [dif_pos hn]
    rfl

/-- A call leaves the input's gradient with what it is added to. -/
theorem arr2_4 : (dat2 V c).arrAt 4 cfg2.N = val_main_v104 (F := Ideal) (V c main_arg8) (V c main_arg9) (V c main_arg10) (V c main_arg11) := by
  refine (dat2 V c).arrAt_eq_of_covers 4 _ (by decide +kernel) fun t hf y => ?_
  blk_simp
  rw [after2_4, fst2]
  have ht : t.val < 8 := t.isLt
  have hy0 : (y 0).val < 512 := (y 0).isLt
  exact pay_ (iblk2 V c 0 t) (iblk2 V c 1 t) (iblk2 V c 2 t) (iblk2 V c 3 t) y ⟨512 * t.val + (y 0).val, by omega⟩ (y 0) (y 1) (e2 y (y 0) (y 1) rfl rfl)
    (row2_0 V c t (y 0) _ rfl) (gain2 V c t) (row2_2 V c t (y 0) _ rfl) (row2_3 V c t (y 0) _ rfl)
    (e2 _ _ _ (by show win2_4.index t 0 * 512 + 1 * (y 0).val = 512 * t.val + (y 0).val; rw [(ixs2 t).2.2.2.2.2.2.2.2.1]; omega)
      (by show win2_4.index t 1 * 1024 + 1 * (y 1).val = (y 1).val; rw [(ixs2 t).2.2.2.2.2.2.2.2.2.1]; omega))

/-- All parts together are the gain's gradient. -/
theorem all2 (b : Fin 1024) (hn : 7 < cfg2.N) : ((outsAt2 V c 7 hn).2 (ix2 0 b) : EReal) = val_main_v87 (F := Ideal) (V c main_arg8) (V c main_arg10) (ix2 0 b) := by
  rw [acc2, Finset.sum_range]
  refine Eq.trans ?_ ((refdg_ (V c main_arg8) (V c main_arg10) b).trans (MM.sum_blk 8 512 4096 rfl _)).symm
  refine Finset.sum_congr rfl fun j _ => ?_
  unfold part2
  rw [dif_pos (show j.val < cfg2.N from j.isLt)]
  refine (kdg_ _ _ b).trans (Finset.sum_congr rfl fun a _ => ?_)
  rw [row2_0 V c ⟨j.val, j.isLt⟩ a (MM.blk 8 512 4096 rfl j a) rfl b, row2_2 V c ⟨j.val, j.isLt⟩ a (MM.blk 8 512 4096 rfl j a) rfl b,
    show (fun d : Fin 1024 => (iblk2 V c 0 ⟨j.val, j.isLt⟩ : FVec Ideal S512x1024 .f32) (ix2 a d)) = fun d => (V c main_arg8 : FVec Ideal S4096x1024 .f32) (ix2 (MM.blk 8 512 4096 rfl j a) d) from
      funext (row2_0 V c ⟨j.val, j.isLt⟩ a (MM.blk 8 512 4096 rfl j a) rfl)]

/-- A call leaves the gain's gradient. -/
theorem arr2_5 : (dat2 V c).arrAt 5 cfg2.N = val_main_v87 (F := Ideal) (V c main_arg8) (V c main_arg10) := by
  refine (dat2 V c).arrAt_eq_of_covers 5 _ (by decide +kernel) fun t hf y => ?_
  blk_simp
  rw [after2_5]
  have ht := last2 t hf
  obtain ⟨n, hn⟩ := t
  obtain rfl : n = 7 := ht
  have hy0 : (y 0).val < 1 := (y 0).isLt
  have hy := e2 y 0 (y 1) (by show (y 0).val = 0; omega) rfl
  refine Eq.trans (congrArg (outsAt2 V c 7 hn).2 hy) ((all2 V c (y 1) hn).trans (congrArg (val_main_v87 (F := Ideal) (V c main_arg8) (V c main_arg10)) (e2 _ _ _ ?_ ?_).symm))
  · show win2_5.index ⟨7, hn⟩ 0 * 1 + 1 * (y 0).val = 0; rw [(ixs2 ⟨7, hn⟩).2.2.2.2.2.2.2.2.2.2.1]; omega
  · show win2_5.index ⟨7, hn⟩ 1 * 1024 + 1 * (y 1).val = (y 1).val; rw [(ixs2 ⟨7, hn⟩).2.2.2.2.2.2.2.2.2.2.2]; omega
end

section
variable (m : (ℓ : Loc nD τ sig) → Buf (Elt Ideal) ℓ) (ρ : Dev nD → PrngReg) (c : Dev nD)

theorem res0_4 {x0 x1 x2 x3} (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) :
    val_main_v34 (F := Ideal) x0 x1 x2 x3 = W3 m ρ c main_v0_0 := by
  subst h0 h1 h2 h3
  rw [W3_of m ρ c main_v0_0 (by decide), W2_of m ρ c main_v0_0 (by decide), show W1 m ρ c main_v0_0 = _ from W1_arr m ρ c 4, arr0_4]
  try simp only [show V0 m ρ c main_arg0 = _ from W0_args m ρ c main_arg0 (by decide), show V0 m ρ c main_arg1 = _ from W0_args m ρ c main_arg1 (by decide), show V0 m ρ c main_arg2 = _ from W0_args m ρ c main_arg2 (by decide), show V0 m ρ c main_arg3 = _ from W0_args m ρ c main_arg3 (by decide)]

theorem res0_5 {x0 x2} (h0 : x0 = m ((c.tc : Thread nD τ).loc main_arg0)) (h2 : x2 = m ((c.tc : Thread nD τ).loc main_arg2)) :
    val_main_v17 (F := Ideal) x0 x2 = W3 m ρ c main_v0_1 := by
  subst h0 h2
  rw [W3_of m ρ c main_v0_1 (by decide), W2_of m ρ c main_v0_1 (by decide), show W1 m ρ c main_v0_1 = _ from W1_arr m ρ c 5, arr0_5]
  try simp only [show V0 m ρ c main_arg0 = _ from W0_args m ρ c main_arg0 (by decide), show V0 m ρ c main_arg2 = _ from W0_args m ρ c main_arg2 (by decide)]

theorem res1_4 {x4 x5 x6 x7} (h4 : x4 = m ((c.tc : Thread nD τ).loc main_arg4)) (h5 : x5 = m ((c.tc : Thread nD τ).loc main_arg5)) (h6 : x6 = m ((c.tc : Thread nD τ).loc main_arg6)) (h7 : x7 = m ((c.tc : Thread nD τ).loc main_arg7)) :
    val_main_v69 (F := Ideal) x4 x5 x6 x7 = W3 m ρ c main_v1_0 := by
  subst h4 h5 h6 h7
  rw [W3_of m ρ c main_v1_0 (by decide), show W2 m ρ c main_v1_0 = _ from W2_arr m ρ c 4, arr1_4]
  simp only [show V1 m ρ c main_arg4 = _ from W1_args m ρ c main_arg4 (by decide), show V1 m ρ c main_arg5 = _ from W1_args m ρ c main_arg5 (by decide), show V1 m ρ c main_arg6 = _ from W1_args m ρ c main_arg6 (by decide), show V1 m ρ c main_arg7 = _ from W1_args m ρ c main_arg7 (by decide)]

theorem res1_5 {x4 x6} (h4 : x4 = m ((c.tc : Thread nD τ).loc main_arg4)) (h6 : x6 = m ((c.tc : Thread nD τ).loc main_arg6)) :
    val_main_v52 (F := Ideal) x4 x6 = W3 m ρ c main_v1_1 := by
  subst h4 h6
  rw [W3_of m ρ c main_v1_1 (by decide), show W2 m ρ c main_v1_1 = _ from W2_arr m ρ c 5, arr1_5]
  simp only [show V1 m ρ c main_arg4 = _ from W1_args m ρ c main_arg4 (by decide), show V1 m ρ c main_arg6 = _ from W1_args m ρ c main_arg6 (by decide)]

theorem res2_4 {x8 x9 x10 x11} (h8 : x8 = m ((c.tc : Thread nD τ).loc main_arg8)) (h9 : x9 = m ((c.tc : Thread nD τ).loc main_arg9)) (h10 : x10 = m ((c.tc : Thread nD τ).loc main_arg10)) (h11 : x11 = m ((c.tc : Thread nD τ).loc main_arg11)) :
    val_main_v104 (F := Ideal) x8 x9 x10 x11 = W3 m ρ c main_v2_0 := by
  subst h8 h9 h10 h11
  rw [show W3 m ρ c main_v2_0 = _ from W3_arr m ρ c 4, arr2_4]
  simp only [show V2 m ρ c main_arg8 = _ from W2_args m ρ c main_arg8 (by decide), show V2 m ρ c main_arg9 = _ from W2_args m ρ c main_arg9 (by decide), show V2 m ρ c main_arg10 = _ from W2_args m ρ c main_arg10 (by decide), show V2 m ρ c main_arg11 = _ from W2_args m ρ c main_arg11 (by decide)]

theorem res2_5 {x8 x10} (h8 : x8 = m ((c.tc : Thread nD τ).loc main_arg8)) (h10 : x10 = m ((c.tc : Thread nD τ).loc main_arg10)) :
    val_main_v87 (F := Ideal) x8 x10 = W3 m ρ c main_v2_1 := by
  subst h8 h10
  rw [show W3 m ρ c main_v2_1 = _ from W3_arr m ρ c 5, arr2_5]
  simp only [show V2 m ρ c main_arg8 = _ from W2_args m ρ c main_arg8 (by decide), show V2 m ρ c main_arg10 = _ from W2_args m ρ c main_arg10 (by decide)]
end

section
variable {F : FTy → Type} [FloatOps F] (m : (ℓ : Loc nD τ sig) → Buf (Elt F) ℓ) (ρ : Dev nD → PrngReg)

set_option maxHeartbeats 4000000 in
set_option backward.isDefEq.respectTransparency.types false in
/-- The run: the results hold the last boundary's contents and the arguments are unchanged. -/
theorem run : θ_run defs (onTc (τ := τ) (main (F := F))) ⟨m, fun _ => 0, ρ⟩ (fun r => ∀ c : Dev nD,
      r.2.mem ((c.tc : Thread nD τ).loc main_v0_0) = W3 m ρ c main_v0_0
      ∧ r.2.mem ((c.tc : Thread nD τ).loc main_v0_1) = W3 m ρ c main_v0_1
      ∧ r.2.mem ((c.tc : Thread nD τ).loc main_v1_0) = W3 m ρ c main_v1_0
      ∧ r.2.mem ((c.tc : Thread nD τ).loc main_v1_1) = W3 m ρ c main_v1_1
      ∧ r.2.mem ((c.tc : Thread nD τ).loc main_v2_0) = W3 m ρ c main_v2_0
      ∧ r.2.mem ((c.tc : Thread nD τ).loc main_v2_1) = W3 m ρ c main_v2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v0_0 (by decide)),
       h c _ (mem_uc main_v0_1 (by decide)),
       h c _ (mem_uc main_v1_0 (by decide)),
       h c _ (mem_uc main_v1_1 (by decide)),
       h c _ (mem_uc main_v2_0 (by decide)),
       h c _ (mem_uc main_v2_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end

end Cert.Kernel15Ideal.NrmB

namespace Cert.Prod15

open Idealize.ShloMosaic Idealize.ShloMosaic.TcCoe Idealize.SL.Sem

/-- The reference keeps its arguments and leaves no count. -/
theorem frame_ref : Cert.quiescent_Reference15Ideal (hReference15Ideal := Cert.Reference15Ideal.Gen.facts) := fun m ρ _ =>
  (θ_run Cert.Reference15Ideal.defs _ _).mono (fun r h => ⟨fun c => (h c).2.2.2.2.2.2, sem_eq_zero_of_no_sems (by decide) r.2⟩)
    (Cert.Reference15Ideal.Value.run (F := Ideal) m ρ)

set_option maxHeartbeats 4000000 in
/-- The kernel and the reference end with equal results. -/
theorem value : Cert.algebraic_Kernel15Ideal_Reference15Ideal (hKernel15Ideal := Cert.Kernel15Ideal.Gen.facts)
    (hReference15Ideal := Cert.Reference15Ideal.Gen.facts) := fun m ρ m' ρ' _ hag =>
  ⟨fun c => Cert.Kernel15Ideal.Gen.W3 m ρ c Cert.Kernel15Ideal.main_v0_0, fun c => Cert.Kernel15Ideal.Gen.W3 m ρ c Cert.Kernel15Ideal.main_v0_1, fun c => Cert.Kernel15Ideal.Gen.W3 m ρ c Cert.Kernel15Ideal.main_v1_0, fun c => Cert.Kernel15Ideal.Gen.W3 m ρ c Cert.Kernel15Ideal.main_v1_1, fun c => Cert.Kernel15Ideal.Gen.W3 m ρ c Cert.Kernel15Ideal.main_v2_0, fun c => Cert.Kernel15Ideal.Gen.W3 m ρ c Cert.Kernel15Ideal.main_v2_1,
    Cert.Kernel15Ideal.NrmB.run (F := Ideal) m ρ,
    (θ_run Cert.Reference15Ideal.defs _ _).mono (fun _ h c => by
      obtain ⟨g0, g1, g2, g3, g4, g5, g6, g7, g8, g9, g10, g11⟩ := hag c
      obtain ⟨r0, r1, r2, r3, r4, r5, rest⟩ := h c
      exact ⟨(r0.trans (Cert.Reference15Ideal.Read.val_main_v34_eq _ _ _ _)).trans (Cert.Kernel15Ideal.NrmB.res0_4 m ρ c g0 g1 g2 g3),
        (r1.trans (Cert.Reference15Ideal.Read.val_main_v17_eq _ _)).trans (Cert.Kernel15Ideal.NrmB.res0_5 m ρ c g0 g2),
        (r2.trans (Cert.Reference15Ideal.Read.val_main_v69_eq _ _ _ _)).trans (Cert.Kernel15Ideal.NrmB.res1_4 m ρ c g4 g5 g6 g7),
        (r3.trans (Cert.Reference15Ideal.Read.val_main_v52_eq _ _)).trans (Cert.Kernel15Ideal.NrmB.res1_5 m ρ c g4 g6),
        (r4.trans (Cert.Reference15Ideal.Read.val_main_v104_eq _ _ _ _)).trans (Cert.Kernel15Ideal.NrmB.res2_4 m ρ c g8 g9 g10 g11),
        (r5.trans (Cert.Reference15Ideal.Read.val_main_v87_eq _ _)).trans (Cert.Kernel15Ideal.NrmB.res2_5 m ρ c g8 g10), rest⟩)
      (Cert.Reference15Ideal.Value.run (F := Ideal) m' ρ')⟩

end Cert.Prod15

end

end
-- ==== Proof.Val16.lean ====
module

public import proofs.«01_k».proof.Defs
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init
public import proofs.«01_k».proof.Proof.Norm
public import Idealize.ShloMosaic.Lib.Pipeline.ValueKit.Geometry

@[expose] public section

set_option maxRecDepth 16384

noncomputable section

/-! The loss and its gradients: the tiles' losses and gains' gradients are summed, a tile's rows give the gradient of the same rows. -/

namespace Cert.Kernel16Ideal.Loss

open Idealize.ShloMosaic Idealize.ShloMosaic.TcCoe Idealize.ShloMosaic.Tactic Cert.Kernel16Ideal Cert.Kernel16Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference16Ideal.Read Cert.Norm Idealize.ShloMosaic.ValueIdx
open scoped BigOperators

/-- A row's error at an entry: the normed row against the target. -/
def er (x t g : Fin 1024 → EReal) (b : Fin 1024) : EReal := x b * Ideal.rsqrt (ms x) * g b - t b

/-- A row's mean square error. -/
def sq (x t g : Fin 1024 → EReal) : EReal := (∑ k, er x t g k * er x t g k) * Ideal.ofBits .f32 0x3A800000#32

/-- The weight of an entry's squared error in the loss. -/
def wt : EReal := Ideal.ofBits .f32 0x3F000000#32 * Ideal.ofBits .f32 0x3F800000#32 * Ideal.ofBits .f32 0x3A800000#32

/-- The loss's gradient of a normed row at an entry. -/
def dy (x t g : Fin 1024 → EReal) (b : Fin 1024) : EReal := wt * (Ideal.ofBits .f32 0x40000000#32 * er x t g b)

/-- The factor of a row in the gradient through its mean of squares. -/
def fac (x t g : Fin 1024 → EReal) : EReal :=
  ((∑ k, x k * (dy x t g k * g k)) * (Ideal.ofBits .f32 0xBF000000#32 * Ideal.div (Ideal.rsqrt (ms x)) (ms x))) * Ideal.ofBits .f32 0x3A800000#32

/-- The gradient of a row's input at an entry. -/
def dx (x t g : Fin 1024 → EReal) (b : Fin 1024) : EReal :=
  dy x t g b * g b * Ideal.rsqrt (ms x) + x b * fac x t g + fac x t g * x b

/-- A row's part of the gain's gradient at an entry. -/
def gp (x t g : Fin 1024 → EReal) (b : Fin 1024) : EReal := x b * Ideal.rsqrt (ms x) * dy x t g b

theorem half_ : Ideal.ofBits .f32 0x3F000000#32 = ((1 / 2 : ℝ) : EReal) := by
  simp [Ideal.ofBits, Ideal.ieee]
  rw [← EReal.coe_mul]
  norm_num

theorem one_ : Ideal.ofBits .f32 0x3F800000#32 = ((1 : ℝ) : EReal) := by
  simp [Ideal.ofBits, Ideal.ieee]
  rw [← EReal.coe_mul]
  norm_num

theorem two_ : Ideal.ofBits .f32 0x40000000#32 = (1 : EReal) + 1 := by
  have h : Ideal.ofBits .f32 0x40000000#32 = ((2 : ℝ) : EReal) := by
    simp [Ideal.ofBits, Ideal.ieee]
    rw [← EReal.coe_mul]
    norm_num
  rw [h, ← EReal.coe_one, ← EReal.coe_add]
  norm_num

theorem mean_ : Ideal.ofBits .f32 0x3A800000#32 = ((1 / 1024 : ℝ) : EReal) := by
  simp [Ideal.ofBits, Ideal.ieee]
  rw [← EReal.coe_mul]
  norm_num

/-- Half of a sum is the sum of the halves. -/
theorem half_add (y z : EReal) : Ideal.ofBits .f32 0x3F000000#32 * (y + z) = Ideal.ofBits .f32 0x3F000000#32 * y + Ideal.ofBits .f32 0x3F000000#32 * z := by
  rw [half_]
  exact EReal.left_distrib_of_nonneg_of_ne_top (EReal.coe_nonneg.mpr (by norm_num)) (EReal.coe_ne_top _) y z

/-- The derivative of a square, both ways. -/
theorem sqd_ (e : EReal) : e * wt + wt * e = wt * (Ideal.ofBits .f32 0x40000000#32 * e) := by
  have hw : wt = (((1 / 2 : ℝ) * 1 * (1 / 1024) : ℝ) : EReal) := by
    unfold wt
    rw [half_, one_, mean_, ← EReal.coe_mul, ← EReal.coe_mul]
  rw [two_, EReal.right_distrib_of_nonneg zero_le_one zero_le_one, one_mul, hw,
    EReal.left_distrib_of_nonneg_of_ne_top (EReal.coe_nonneg.mpr (by norm_num)) (EReal.coe_ne_top _) e e, mul_comm e]

/-- The reference's shifted mean of squares. -/
theorem ms_ (X : (⟨S4096x1024, .f32⟩ : BufTy).Contents (Elt Ideal)) (n : Fin 4096) : (val_main_v6 (F := Ideal) X (ix2 n 0) : EReal) = ms fun d => X (ix2 n d) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + ∑ k : Fin 1024, val_main_v0 (F := Ideal) X (idx_main_v1 (idx_main_v2 (ix2 n 0)) k)) (Ideal.ofBits .f32 0x44800000#32) + Ideal.ofBits .f32 0x358637BD#32 = _
  rw [Ideal.ofBits_zero_f32, zero_add, div1024]
  unfold ms
  congr 2
  refine Finset.sum_congr rfl fun k _ => ?_
  rw [val_main_v0_apply, e2 (idx_main_v1 (idx_main_v2 (ix2 n 0)) k) n k rfl rfl]
  rfl

theorem rs_ (X : (⟨S4096x1024, .f32⟩ : BufTy).Contents (Elt Ideal)) (n : Fin 4096) : (val_main_v7 (F := Ideal) X (ix2 n 0) : EReal) = Ideal.rsqrt (ms fun d => X (ix2 n d)) := by
  rw [val_main_v7_apply]
  exact congrArg Ideal.rsqrt (ms_ X n)

theorem xn_ (X : (⟨S4096x1024, .f32⟩ : BufTy).Contents (Elt Ideal)) (n : Fin 4096) (b : Fin 1024) : (val_main_v12 (F := Ideal) X (ix2 n b) : EReal) = X (ix2 n b) * Ideal.rsqrt (ms fun d => X (ix2 n d)) := by
  rw [val_main_v12_apply, val_main_v11_apply, e2 (idx_main_v11 (ix2 n b)) n 0 rfl rfl]
  exact congrArg (fun u : EReal => X (ix2 n b) * u) (rs_ X n)

/-- The reference's error at an entry. -/
theorem er_ (X T : (⟨S4096x1024, .f32⟩ : BufTy).Contents (Elt Ideal)) (G : (⟨S1x1024, .f32⟩ : BufTy).Contents (Elt Ideal)) (n : Fin 4096) (b : Fin 1024) : (val_main_v15 (F := Ideal) X T G (ix2 n b) : EReal) = er (fun d => X (ix2 n d)) (fun d => T (ix2 n d)) (fun d => G (ix2 0 d)) b := by
  rw [val_main_v15_apply, val_main_v14_apply, val_main_v13_apply, e2 (idx_main_v13 (ix2 n b)) 0 b rfl rfl]
  exact congrArg (fun u : EReal => u * G (ix2 0 b) - T (ix2 n b)) (xn_ X n b)

/-- The reference's mean square error of a row. -/
theorem sq_ (X T : (⟨S4096x1024, .f32⟩ : BufTy).Contents (Elt Ideal)) (G : (⟨S1x1024, .f32⟩ : BufTy).Contents (Elt Ideal)) (n : Fin 4096) : (val_main_v21 (F := Ideal) X T G (ix1 n) : EReal) = sq (fun d => X (ix2 n d)) (fun d => T (ix2 n d)) (fun d => G (ix2 0 d)) := by
  rw [val_main_v21_apply, val_main_v20_apply, val_main_v19_apply, val_main_cst_4_apply, val_main_cst_5_apply]
  show Ideal.div (Ideal.ofBits .f32 0x00000000#32 + ∑ k : Fin 1024, val_main_v16 (F := Ideal) X T G (idx_main_v19 (ix1 n) k)) (Ideal.ofBits .f32 0x44800000#32) = _
  rw [Ideal.ofBits_zero_f32, zero_add, div1024]
  unfold sq
  congr 1
  refine Finset.sum_congr rfl fun k _ => ?_
  rw [val_main_v16_apply, e2 (idx_main_v19 (ix1 n) k) n k rfl rfl]
  exact congrArg (fun u : EReal => u * u) (er_ X T G n k)

/-- The reference's loss. -/
theorem refloss_ (X T : (⟨S4096x1024, .f32⟩ : BufTy).Contents (Elt Ideal)) (G : (⟨S1x1024, .f32⟩ : BufTy).Contents (Elt Ideal)) (i : S1x1.Idx) : (val_main_v49 (F := Ideal) X T G i : EReal) = Ideal.ofBits .f32 0x3F000000#32 * ∑ n : Fin 4096, sq (fun d => X (ix2 n d)) (fun d => T (ix2 n d)) (fun d => G (ix2 0 d)) := by
  unfold val_main_v49
  show (val_main_v23 (F := Ideal) X T G _ : EReal) = _
  rw [val_main_v23_apply, val_main_cst_7_apply, val_main_v22_apply, val_main_cst_6_apply]
  show Ideal.ofBits .f32 0x3F000000#32 * (Ideal.ofBits .f32 0x00000000#32 + ∑ j : Cert.Reference16Ideal.S4096.Idx, val_main_v21 (F := Ideal) X T G j) = _
  rw [Ideal.ofBits_zero_f32, zero_add]
  refine congrArg (fun u : EReal => Ideal.ofBits .f32 0x3F000000#32 * u) ?_
  refine (Fintype.sum_equiv ⟨fun n : Fin 4096 => (ix1 n : Cert.Reference16Ideal.S4096.Idx), fun i => i 0, fun n => rfl, fun i => funext fun a => by match a with | ⟨0, _⟩ => rfl⟩ _ _ fun n => ?_).symm
  exact (sq_ X T G n).symm

/-- The reference's gradient of a normed row at an entry. -/
theorem dy_ (X T : (⟨S4096x1024, .f32⟩ : BufTy).Contents (Elt Ideal)) (G : (⟨S1x1024, .f32⟩ : BufTy).Contents (Elt Ideal)) (n : Fin 4096) (b : Fin 1024) : (val_main_v29 (F := Ideal) X T G (ix2 n b) : EReal) = dy (fun d => X (ix2 n d)) (fun d => T (ix2 n d)) (fun d => G (ix2 0 d)) b := by
  rw [val_main_v29_apply, val_main_v28_apply, val_main_v27_apply, val_main_v26_apply, val_main_v25_apply, val_main_v24_apply, val_main_v18_apply, val_main_v17_apply,
    val_main_cst_3_apply, val_main_cst_8_apply, val_main_cst_9_apply, val_main_cst_10_apply]
  show Ideal.div (Ideal.ofBits .f32 0x3F000000#32 * Ideal.ofBits .f32 0x3F800000#32) (Ideal.ofBits .f32 0x44800000#32)
    * (Ideal.ofBits .f32 0x40000000#32 * val_main_v15 (F := Ideal) X T G (ix2 n b)) = _
  rw [div1024, er_]
  rfl

theorem dyg_ (X T : (⟨S4096x1024, .f32⟩ : BufTy).Contents (Elt Ideal)) (G : (⟨S1x1024, .f32⟩ : BufTy).Contents (Elt Ideal)) (n : Fin 4096) (b : Fin 1024) : (val_main_v34 (F := Ideal) X T G (ix2 n b) : EReal) = dy (fun d => X (ix2 n d)) (fun d => T (ix2 n d)) (fun d => G (ix2 0 d)) b * G (ix2 0 b) := by
  rw [val_main_v34_apply, val_main_v33_apply, e2 (idx_main_v33 (ix2 n b)) 0 b rfl rfl]
  exact congrArg (fun u : EReal => u * G (ix2 0 b)) (dy_ X T G n b)

/-- The reference's factor of a row. -/
theorem fac_ (X T : (⟨S4096x1024, .f32⟩ : BufTy).Contents (Elt Ideal)) (G : (⟨S1x1024, .f32⟩ : BufTy).Contents (Elt Ideal)) (n : Fin 4096) (b : Fin 1024) :
    (val_main_v44 (F := Ideal) X T G (ix2 n b) : EReal) = fac (fun d => X (ix2 n d)) (fun d => T (ix2 n d)) (fun d => G (ix2 0 d)) := by
  rw [val_main_v44_apply, val_main_v43_apply, Fin.sum_univ_one, val_main_v42_apply, val_main_v41_apply, val_main_v40_apply, val_main_v37_apply, val_main_v36_apply,
    val_main_v10_apply, val_main_v9_apply, val_main_v8_apply, val_main_cst_14_apply, val_main_cst_13_apply, val_main_cst_12_apply, val_main_cst_2_apply,
    e2 (idx_main_v43 (idx_main_v44 (ix2 n b)) 0) n 0 rfl rfl]
  show Ideal.ofBits .f32 0x00000000#32 + Ideal.div ((Ideal.ofBits .f32 0x00000000#32 + ∑ k : Fin 1024, val_main_v35 (F := Ideal) X T G (idx_main_v36 (idx_main_v37 (ix2 n 0)) k))
    * (Ideal.ofBits .f32 0xBF000000#32 * Ideal.div (val_main_v7 (F := Ideal) X (ix2 n 0)) (val_main_v6 (F := Ideal) X (ix2 n 0)))) (Ideal.ofBits .f32 0x44800000#32) = _
  rw [Ideal.ofBits_zero_f32, zero_add, zero_add, div1024, rs_, ms_]
  unfold fac
  congr 2
  refine Finset.sum_congr rfl fun k _ => ?_
  rw [val_main_v35_apply, e2 (idx_main_v36 (idx_main_v37 (ix2 n 0)) k) n k (by show n.val * 1 + 0 = n.val; omega) rfl]
  exact congrArg (fun u : EReal => X (ix2 n k) * u) (dyg_ X T G n k)

/-- The reference's gradient of the input at an entry. -/
theorem refdx_ (X T : (⟨S4096x1024, .f32⟩ : BufTy).Contents (Elt Ideal)) (G : (⟨S1x1024, .f32⟩ : BufTy).Contents (Elt Ideal)) (n : Fin 4096) (b : Fin 1024) :
    (val_main_v48 (F := Ideal) X T G (ix2 n b) : EReal) = dx (fun d => X (ix2 n d)) (fun d => T (ix2 n d)) (fun d => G (ix2 0 d)) b := by
  rw [val_main_v48_apply, val_main_v47_apply, val_main_v46_apply, val_main_v45_apply, val_main_v39_apply, val_main_v38_apply,
    e2 (idx_main_v38 (ix2 n b)) n 0 rfl rfl]
  show val_main_v34 (F := Ideal) X T G (ix2 n b) * val_main_v7 (F := Ideal) X (ix2 n 0) + X (ix2 n b) * val_main_v44 (F := Ideal) X T G (ix2 n b)
    + val_main_v44 (F := Ideal) X T G (ix2 n b) * X (ix2 n b) = _
  rw [rs_, dyg_, fac_]
  rfl

/-- The reference's gradient of the gain at an entry. -/
theorem refdg_ (X T : (⟨S4096x1024, .f32⟩ : BufTy).Contents (Elt Ideal)) (G : (⟨S1x1024, .f32⟩ : BufTy).Contents (Elt Ideal)) (b : Fin 1024) :
    (val_main_v32 (F := Ideal) X T G (ix2 0 b) : EReal) = ∑ n : Fin 4096, gp (fun d => X (ix2 n d)) (fun d => T (ix2 n d)) (fun d => G (ix2 0 d)) b := by
  rw [val_main_v32_apply, val_main_v31_apply, val_main_cst_11_apply]
  show Ideal.ofBits .f32 0x00000000#32 + ∑ k : Fin 4096, val_main_v30 (F := Ideal) X T G (idx_main_v31 (idx_main_v32 (ix2 0 b)) k) = _
  rw [Ideal.ofBits_zero_f32, zero_add]
  refine Finset.sum_congr rfl fun n _ => ?_
  rw [val_main_v30_apply, e2 (idx_main_v31 (idx_main_v32 (ix2 0 b)) n) n b rfl (by show 0 * 1024 + b.val = b.val; omega)]
  exact congrArg₂ (fun u v : EReal => u * v) (xn_ X n b) (dy_ X T G n b)

theorem kms_ (x : Vec Ideal S512x1024 .f32) (a : Fin 512) : ((k0_pay7 x : FVec Ideal S512x1 .f32) (ix2 a 0) : EReal) = ms fun d => x (ix2 a d) := by
  unfold k0_pay7 ms
  exact congrArg (fun u : EReal => u * Ideal.ofBits .f32 0x3A800000#32 + Ideal.ofBits .f32 0x358637BD#32) ((cast_c _ _ a 0).trans (sum_row _ a _ _ _))

theorem krs_ (x : Vec Ideal S512x1024 .f32) (a : Fin 512) : ((k0_pay8 x : FVec Ideal S512x1 .f32) (ix2 a 0) : EReal) = Ideal.rsqrt (ms fun d => x (ix2 a d)) := by
  unfold k0_pay8
  exact congrArg Ideal.rsqrt (kms_ x a)

theorem kxn_ (x : Vec Ideal S512x1024 .f32) (a : Fin 512) (b : Fin 1024) : ((k0_pay10 x : FVec Ideal S512x1024 .f32) (ix2 a b) : EReal) = x (ix2 a b) * Ideal.rsqrt (ms fun d => x (ix2 a d)) := by
  unfold k0_pay10
  exact congrArg (fun u : EReal => x (ix2 a b) * u) ((bc_col (by decide) _ _ a b).trans (krs_ x a))

/-- A tile's error at an entry. -/
theorem ker_ (t x : Vec Ideal S512x1024 .f32) (g : Vec Ideal S1x1024 .f32) (a : Fin 512) (b : Fin 1024) : ((k0_pay11 t x g : FVec Ideal S512x1024 .f32) (ix2 a b) : EReal) = er (fun k => x (ix2 a k)) (fun k => t (ix2 a k)) (fun k => g (ix2 0 k)) b := by
  unfold k0_pay11
  exact congrArg (fun u : EReal => u - t (ix2 a b)) (congrArg₂ (fun u v : EReal => u * v) (kxn_ x a b) (bc_row (by decide) _ _ a b))

/-- A tile's loss. -/
theorem ksq_ (t x : Vec Ideal S512x1024 .f32) (g : Vec Ideal S1x1024 .f32) : ((k0_pay12 t x g : FVec Ideal S1x1 .f32) (ix2 0 0) : EReal) = Ideal.ofBits .f32 0x3F000000#32 * ∑ a : Fin 512, sq (fun k => x (ix2 a k)) (fun k => t (ix2 a k)) (fun k => g (ix2 0 k)) := by
  unfold k0_pay12
  refine congrArg (fun u : EReal => Ideal.ofBits .f32 0x3F000000#32 * u) ((cast_c _ _ 0 0).trans ((sum_col _ 0 _ _ _).trans (Finset.sum_congr rfl fun a _ => ?_)))
  unfold sq
  refine congrArg (fun u : EReal => u * Ideal.ofBits .f32 0x3A800000#32) ((cast_c _ _ a 0).trans ((sum_row _ a _ _ _).trans (Finset.sum_congr rfl fun k _ => ?_)))
  exact congrArg (fun u : EReal => u * u) (ker_ t x g a k)

/-- The kernel's weight of an entry's squared error. -/
theorem kwt_ (a : Fin 512) : ((k0_pay13 (F := Ideal) : FVec Ideal S512x1 .f32) (ix2 a 0) : EReal) = wt := by
  unfold k0_pay13 wt
  refine congrArg (fun u : EReal => u * Ideal.ofBits .f32 0x3A800000#32) ?_
  have hs : ∀ (h1) (h2) (h3) (j : S1.Idx), multiReduction (F := Ideal) .add [1, 2] S1 (shapeCast S1x1x1 (mulf (broadcast S1x1 (Scalar.ofBits .f32 0x3F000000#32)) (broadcast S1x1 (Scalar.ofBits .f32 0x3F800000#32)) : FVec Ideal S1x1 .f32) shapeCasts_S1x1_S1x1x1) 0x00000000#32 h1 h2 h3 j
      = (Ideal.ofBits .f32 0x3F000000#32 * Ideal.ofBits .f32 0x3F800000#32 : EReal) := fun h1 h2 h3 j => by
    rw [Ideal.multiReduction_add_total _ _ _ (by decide)]
    have hc : Fintype.card S1x1x1.Idx = 1 := by decide
    obtain ⟨i0, hi⟩ := Fintype.card_eq_one_iff.mp hc
    rw [Fintype.sum_eq_single i0 fun y hy => absurd (hi y) hy]
    rfl
  exact hs reduces_S1x1x1_S1 (.inl rfl) rfl _

/-- A tile's gradient of the normed rows at an entry. -/
theorem kdy_ (t x : Vec Ideal S512x1024 .f32) (g : Vec Ideal S1x1024 .f32) (a : Fin 512) (b : Fin 1024) : ((k0_pay1 (k0_pay11 t x g) k0_pay13 : FVec Ideal S512x1024 .f32) (ix2 a b) : EReal) = dy (fun k => x (ix2 a k)) (fun k => t (ix2 a k)) (fun k => g (ix2 0 k)) b := by
  unfold k0_pay1 dy
  have hw : ∀ h1 h2 h3 h4 h5, broadcastTo S512x1024 (shapeCast S512x1 (multiReduction (F := Ideal) .add [1] S512 k0_pay13 0x00000000#32 h1 h2 h3) h4) h5 (ix2 a b) = wt := fun h1 h2 h3 h4 h5 =>
    (bc_col (by decide) _ _ a b).trans ((cast_c _ _ a 0).trans ((sum_row _ a _ _ _).trans ((Fin.sum_univ_one _).trans (kwt_ a))))
  have hv := hw reduces_S512x1_S512 (.inl rfl) rfl shapeCasts_S512_S512x1 broadcasts_S512x1_S512x1024
  have he := ker_ t x g a b
  exact (congrArg₂ (fun u v : EReal => u * v + v * u) he hv).trans (sqd_ _)

/-- A tile's part of the gain's gradient, added to what is held. -/
theorem kdg_ (t x : Vec Ideal S512x1024 .f32) (g : Vec Ideal S1x1024 .f32) (v : Vec Ideal S1x1024 .f32) (b : Fin 1024) :
    ((k0_pay6 (k0_pay10 x) (k0_pay11 t x g) k0_pay13 v : FVec Ideal S1x1024 .f32) (ix2 0 b) : EReal)
      = v (ix2 0 b) + ∑ a : Fin 512, gp (fun k => x (ix2 a k)) (fun k => t (ix2 a k)) (fun k => g (ix2 0 k)) b := by
  unfold k0_pay6
  rw [shapeCast_self]
  refine congrArg (fun u : EReal => v (ix2 0 b) + u) ((shapeCast_a_1a_apply _ _ 0 b).trans ((sum_col _ b _ _ _).trans (Finset.sum_congr rfl fun a _ => ?_)))
  exact congrArg₂ (fun u v : EReal => u * v) (kxn_ x a b) (kdy_ t x g a b)

theorem kdyg_ (t x : Vec Ideal S512x1024 .f32) (g : Vec Ideal S1x1024 .f32) (h) (a : Fin 512) (b : Fin 1024) :
    (mulf (k0_pay1 (k0_pay11 t x g) k0_pay13) (broadcastTo S512x1024 g h) : FVec Ideal S512x1024 .f32) (ix2 a b) = (dy (fun k => x (ix2 a k)) (fun k => t (ix2 a k)) (fun k => g (ix2 0 k)) b * g (ix2 0 b) : EReal) :=
  congrArg₂ (fun u v : EReal => u * v) (kdy_ t x g a b) (bc_row (by decide) _ _ a b)

/-- A tile's gradient of the input at an entry. -/
theorem kdx_ (t x : Vec Ideal S512x1024 .f32) (g : Vec Ideal S1x1024 .f32) (a : Fin 512) (b : Fin 1024) :
    ((k0_pay2 x g (k0_pay8 x) (k0_pay9 x) (k0_pay11 t x g) k0_pay13 : FVec Ideal S512x1024 .f32) (ix2 a b) : EReal) = dx (fun k => x (ix2 a k)) (fun k => t (ix2 a k)) (fun k => g (ix2 0 k)) b := by
  unfold k0_pay2 k0_pay9 dx
  have hf : ∀ v : FVec Ideal S512x1 .f32, v (ix2 a 0) = fac (fun k => x (ix2 a k)) (fun k => t (ix2 a k)) (fun k => g (ix2 0 k)) → ∀ h1 h2 h3 h4 h5,
      broadcastTo S512x1024 (shapeCast S512x1 (multiReduction .add [1] S512 v 0x00000000#32 h1 h2 h3) h4) h5 (ix2 a b)
        = fac (fun k => x (ix2 a k)) (fun k => t (ix2 a k)) (fun k => g (ix2 0 k)) := fun v hv h1 h2 h3 h4 h5 =>
    (bc_col (by decide) _ _ a b).trans ((cast_c _ _ a 0).trans ((sum_row _ a _ _ _).trans ((Fin.sum_univ_one _).trans hv)))
  have hv := hf _ (?_ : mulf (mulf (shapeCast S512x1 (multiReduction .add [1] S512 (mulf x (mulf (k0_pay1 (k0_pay11 t x g) k0_pay13) (broadcastTo S512x1024 g broadcasts_S1x1024_S512x1024))) 0x00000000#32 reduces_S512x1024_S512 (.inl rfl) rfl) shapeCasts_S512_S512x1)
      (mulf (broadcast S512x1 (Scalar.ofBits .f32 0xBF000000#32)) (divf (k0_pay8 x) (k0_pay7 x)))) (broadcast S512x1 (Scalar.ofBits .f32 0x3A800000#32)) (ix2 a 0) = _)
    reduces_S512x1_S512 (.inl rfl) rfl shapeCasts_S512_S512x1 broadcasts_S512x1_S512x1024
  · have hr := (bc_col (by decide) _ broadcasts_S512x1_S512x1024 a b).trans (krs_ x a)
    have hg := kdyg_ t x g broadcasts_S1x1024_S512x1024 a b
    exact congrArg₂ (fun u v : EReal => u + v) (congrArg₂ (fun u v : EReal => u + v) (congrArg₂ (fun u v : EReal => u * v) hg hr)
      (congrArg (fun u : EReal => x (ix2 a b) * u) hv)) (congrArg (fun u : EReal => u * x (ix2 a b)) hv)
  · unfold fac
    have hs := (cast_c _ shapeCasts_S512_S512x1 a 0).trans (sum_row (mulf x (mulf (k0_pay1 (k0_pay11 t x g) k0_pay13) (broadcastTo S512x1024 g broadcasts_S1x1024_S512x1024))) a reduces_S512x1024_S512 (.inl rfl) rfl)
    refine congrArg (fun u : EReal => u * Ideal.ofBits .f32 0x3A800000#32) (congrArg₂ (fun u v : EReal => u * v) (hs.trans (Finset.sum_congr rfl fun k _ => ?_))
      (congrArg (fun u : EReal => Ideal.ofBits .f32 0xBF000000#32 * u) (congrArg₂ Ideal.div (krs_ x a) (kms_ x a))))
    exact congrArg (fun u : EReal => x (ix2 a k) * u) (kdyg_ t x g broadcasts_S1x1024_S512x1024 a k)

/-- A tile's entry is the whole array's when the tile's rows and the gain are. -/
theorem pay_ (t x : Vec Ideal S512x1024 .f32) (g : Vec Ideal S1x1024 .f32) (y : S512x1024.Idx)
    {X T : (⟨S4096x1024, .f32⟩ : BufTy).Contents (Elt Ideal)} {G : (⟨S1x1024, .f32⟩ : BufTy).Contents (Elt Ideal)} {i : S4096x1024.Idx} (n : Fin 4096)
    (a : Fin 512) (b : Fin 1024) (hy : y = ix2 a b)
    (h0 : ∀ k : Fin 1024, x (ix2 a k) = X (ix2 n k)) (h1 : ∀ k : Fin 1024, t (ix2 a k) = T (ix2 n k)) (h2 : ∀ k : Fin 1024, g (ix2 0 k) = G (ix2 0 k)) (hi : i = ix2 n b) :
    (k0_pay2 x g (k0_pay8 x) (k0_pay9 x) (k0_pay11 t x g) k0_pay13 : FVec Ideal S512x1024 .f32) y = val_main_v48 (F := Ideal) X T G i := by
  subst hy hi
  refine (kdx_ t x g a b).trans ((?_ : _ = _).trans (refdx_ X T G n b).symm)
  rw [show (fun k : Fin 1024 => x (ix2 a k)) = fun k => X (ix2 n k) from funext h0, show (fun k : Fin 1024 => t (ix2 a k)) = fun k => T (ix2 n k) from funext h1,
    show (fun k : Fin 1024 => g (ix2 0 k)) = fun k => G (ix2 0 k) from funext h2]

/-- Adding a tile's loss to what is held. -/
theorem kadd_ (p v : Vec Ideal S1x1 .f32) : ((k0_pay5 p v : FVec Ideal S1x1 .f32) (ix2 0 0) : EReal) = v (ix2 0 0) + p (ix2 0 0) := by
  unfold k0_pay5
  rw [shapeCast_self]
  rfl

theorem kzero_ : ((k0_pay3 (F := Ideal) : FVec Ideal S1x1 .f32) (ix2 0 0) : EReal) = 0 := Ideal.ofBits_zero_f32

theorem kzerog_ (b : Fin 1024) : ((k0_pay4 (F := Ideal) : FVec Ideal S1x1024 .f32) (ix2 0 b) : EReal) = 0 := Ideal.ofBits_zero_f32

section
variable (m : (ℓ : Loc nD τ sig) → Buf (Elt Ideal) ℓ) (ρ : Dev nD → PrngReg) (c : Dev nD)

theorem ixs : ∀ t : Fin cfg0.N, win0_0.index t 0 = t.val ∧ win0_0.index t 1 = 0 ∧ win0_1.index t 0 = t.val ∧ win0_1.index t 1 = 0 ∧ win0_2.index t 0 = 0 ∧ win0_2.index t 1 = 0
    ∧ win0_4.index t 0 = t.val ∧ win0_4.index t 1 = 0 ∧ win0_5.index t 0 = 0 ∧ win0_5.index t 1 = 0 := by decide +kernel
theorem last3 : ∀ t : Fin cfg0.N, (cfg0.win 3).flush t = true → t.val = 7 := by decide +kernel
theorem last5 : ∀ t : Fin cfg0.N, (cfg0.win 5).flush t = true → t.val = 7 := by decide +kernel

theorem row0 (t : Fin cfg0.N) (a : Fin 512) (n : Fin 4096) (hn : n.val = 512 * t.val + a.val) (d : Fin 1024) :
    (iblk m c 0 t : FVec Ideal S512x1024 .f32) (ix2 a d) = (V m c main_arg0 : FVec Ideal S4096x1024 .f32) (ix2 n d) := by
  unfold iblk
  rw [View.read_apply]
  show V m c main_arg0 _ = V m c main_arg0 _
  refine congrArg (V m c main_arg0) (e2 _ _ _ ?_ ?_)
  · show win0_0.index t 0 * 512 + 1 * a.val = n.val; rw [(ixs t).1]; omega
  · show win0_0.index t 1 * 1024 + 1 * d.val = d.val; rw [(ixs t).2.1]; omega

theorem row1 (t : Fin cfg0.N) (a : Fin 512) (n : Fin 4096) (hn : n.val = 512 * t.val + a.val) (d : Fin 1024) :
    (iblk m c 1 t : FVec Ideal S512x1024 .f32) (ix2 a d) = (V m c main_arg1 : FVec Ideal S4096x1024 .f32) (ix2 n d) := by
  unfold iblk
  rw [View.read_apply]
  show V m c main_arg1 _ = V m c main_arg1 _
  refine congrArg (V m c main_arg1) (e2 _ _ _ ?_ ?_)
  · show win0_1.index t 0 * 512 + 1 * a.val = n.val; rw [(ixs t).2.2.1]; omega
  · show win0_1.index t 1 * 1024 + 1 * d.val = d.val; rw [(ixs t).2.2.2.1]; omega

theorem gain (t : Fin cfg0.N) (d : Fin 1024) :
    (iblk m c 2 t : FVec Ideal S1x1024 .f32) (ix2 0 d) = (V m c main_arg2 : FVec Ideal S1x1024 .f32) (ix2 0 d) := by
  unfold iblk
  rw [View.read_apply]
  show V m c main_arg2 _ = V m c main_arg2 _
  refine congrArg (V m c main_arg2) (e2 _ _ _ ?_ ?_)
  · show win0_2.index t 0 * 1 + 1 * 0 = 0; rw [(ixs t).2.2.2.2.1]
  · show win0_2.index t 1 * 1024 + 1 * d.val = d.val; rw [(ixs t).2.2.2.2.2.1]; omega

/-- What the first point leaves for the loss. -/
theorem outA3 (t : Fin cfg0.N) (h0 : t.val % 8 = 0) : (outsAt0 m c t.val t.isLt).1 = k0_pay5 (k0_pay12 (iblk m c 1 t) (iblk m c 0 t) (iblk m c 2 t)) (k0_pay3 (F := Ideal)) := by
  refine (congrArg (fun p : Vec Ideal S1x1 .f32 × Vec Ideal S512x1024 .f32 × Vec Ideal S1x1024 .f32 => p.1) (outsAt0_A m c t h0)).trans ?_
  dsimp only
  unfold out0_A_3
  rw [View.read_writes_eq_canon _ _ _ (cover0_A_3 c _ _ _ _ _ _ _ _ _ _ _ _ _ _ _ _ _)]
  unfold kernelRun0_A
  refine (View.canon_cons_unit_zero (S := S1x1) (by decide) inb_S1x1_S1x1_0_0 _ _).trans ?_
  unfold kernelRun0_A.sl.r_6
  repeat rw [MM.ld_whole _ _ (by decide)]
  unfold kernelRun0_A.sl.v70
  exact congrArg (k0_pay5 _) (View.readCov_unit_zero _ (by decide) inb_S1x1_S1x1_0_0 _)

/-- What the first point leaves for the input's gradient. -/
theorem outA4 (t : Fin cfg0.N) (h0 : t.val % 8 = 0) : (outsAt0 m c t.val t.isLt).2.1 = k0_pay2 (iblk m c 0 t) (iblk m c 2 t) (k0_pay8 (iblk m c 0 t)) (k0_pay9 (iblk m c 0 t)) (k0_pay11 (iblk m c 1 t) (iblk m c 0 t) (iblk m c 2 t)) k0_pay13 := by
  refine (congrArg (fun p : Vec Ideal S1x1 .f32 × Vec Ideal S512x1024 .f32 × Vec Ideal S1x1024 .f32 => p.2.1) (outsAt0_A m c t h0)).trans ?_
  dsimp only
  unfold out0_A_4
  rw [View.read_writes_eq_canon _ _ _ (cover0_A_4 c _ _ _ _ _ _ _ _ _ _ _ _ _ _ _ _ _)]
  unfold kernelRun0_A
  refine (View.canon_unit_zero (S := S512x1024) (by decide) inb_S512x1024_S512x1024_0_0 _).trans ?_
  unfold kernelRun0_A.sl.r_5 kernelRun0_A.sl.r_3 kernelRun0_A.sl.r_2 kernelRun0_A.sl.r_1 kernelRun0_A.sl.r
  repeat rw [MM.ld_whole _ _ (by decide)]

/-- What the first point leaves for the gain's gradient. -/
theorem outA5 (t : Fin cfg0.N) (h0 : t.val % 8 = 0) : (outsAt0 m c t.val t.isLt).2.2 = k0_pay6 (k0_pay10 (iblk m c 0 t)) (k0_pay11 (iblk m c 1 t) (iblk m c 0 t) (iblk m c 2 t)) k0_pay13 (k0_pay4 (F := Ideal)) := by
  refine (congrArg (fun p : Vec Ideal S1x1 .f32 × Vec Ideal S512x1024 .f32 × Vec Ideal S1x1024 .f32 => p.2.2) (outsAt0_A m c t h0)).trans ?_
  dsimp only
  unfold out0_A_5
  rw [View.read_writes_eq_canon _ _ _ (cover0_A_5 c _ _ _ _ _ _ _ _ _ _ _ _ _ _ _ _ _)]
  unfold kernelRun0_A
  refine (View.canon_cons_unit_zero (S := S1x1024) (by decide) inb_S1x1024_S1x1024_0_0 _ _).trans ?_
  unfold kernelRun0_A.sl.r_5 kernelRun0_A.sl.r_4
  repeat rw [MM.ld_whole _ _ (by decide)]
  unfold kernelRun0_A.sl.v74
  exact congrArg (k0_pay6 _ _ _) (View.readCov_unit_zero _ (by decide) inb_S1x1024_S1x1024_0_0 _)

/-- What a later point leaves for the loss. -/
theorem outB3 (t : Fin cfg0.N) (h0 : ¬ t.val % 8 = 0) : (outsAt0 m c t.val t.isLt).1 = k0_pay5 (k0_pay12 (iblk m c 1 t) (iblk m c 0 t) (iblk m c 2 t)) (outsAt0 m c (t.val - 1) (Nat.lt_of_le_of_lt (Nat.sub_le _ _) t.isLt)).1 := by
  refine (congrArg (fun p : Vec Ideal S1x1 .f32 × Vec Ideal S512x1024 .f32 × Vec Ideal S1x1024 .f32 => p.1) (outsAt0_B m c t h0)).trans ?_
  dsimp only
  unfold out0_B_3
  rw [View.read_writes_eq_canon _ _ _ (cover0_B_3 c _ _ _ _ _ _ _ _ _ _ _ _ _ _ _ _ _ _ _)]
  unfold kernelRun0_B
  refine (View.canon_unit_zero (S := S1x1) (by decide) inb_S1x1_S1x1_0_0 _).trans ?_
  unfold kernelRun0_B.sl.r_6
  repeat rw [MM.ld_whole _ _ (by decide)]

/-- What a later point leaves for the input's gradient. -/
theorem outB4 (t : Fin cfg0.N) (h0 : ¬ t.val % 8 = 0) : (outsAt0 m c t.val t.isLt).2.1 = k0_pay2 (iblk m c 0 t) (iblk m c 2 t) (k0_pay8 (iblk m c 0 t)) (k0_pay9 (iblk m c 0 t)) (k0_pay11 (iblk m c 1 t) (iblk m c 0 t) (iblk m c 2 t)) k0_pay13 := by
  refine (congrArg (fun p : Vec Ideal S1x1 .f32 × Vec Ideal S512x1024 .f32 × Vec Ideal S1x1024 .f32 => p.2.1) (outsAt0_B m c t h0)).trans ?_
  dsimp only
  unfold out0_B_4
  rw [View.read_writes_eq_canon _ _ _ (cover0_B_4 c _ _ _ _ _ _ _ _ _ _ _ _ _ _ _ _ _ _ _)]
  unfold kernelRun0_B
  refine (View.canon_unit_zero (S := S512x1024) (by decide) inb_S512x1024_S512x1024_0_0 _).trans ?_
  unfold kernelRun0_B.sl.r_5 kernelRun0_B.sl.r_3 kernelRun0_B.sl.r_2 kernelRun0_B.sl.r_1 kernelRun0_B.sl.r
  repeat rw [MM.ld_whole _ _ (by decide)]

/-- What a later point leaves for the gain's gradient. -/
theorem outB5 (t : Fin cfg0.N) (h0 : ¬ t.val % 8 = 0) : (outsAt0 m c t.val t.isLt).2.2 = k0_pay6 (k0_pay10 (iblk m c 0 t)) (k0_pay11 (iblk m c 1 t) (iblk m c 0 t) (iblk m c 2 t)) k0_pay13 (outsAt0 m c (t.val - 1) (Nat.lt_of_le_of_lt (Nat.sub_le _ _) t.isLt)).2.2 := by
  refine (congrArg (fun p : Vec Ideal S1x1 .f32 × Vec Ideal S512x1024 .f32 × Vec Ideal S1x1024 .f32 => p.2.2) (outsAt0_B m c t h0)).trans ?_
  dsimp only
  unfold out0_B_5
  rw [View.read_writes_eq_canon _ _ _ (cover0_B_5 c _ _ _ _ _ _ _ _ _ _ _ _ _ _ _ _ _ _ _)]
  unfold kernelRun0_B
  refine (View.canon_unit_zero (S := S1x1024) (by decide) inb_S1x1024_S1x1024_0_0 _).trans ?_
  unfold kernelRun0_B.sl.r_5 kernelRun0_B.sl.r_4
  repeat rw [MM.ld_whole _ _ (by decide)]

/-- A tile's sum of mean square errors, by the tile's number. -/
def lpart (n : ℕ) : EReal := if h : n < cfg0.N then ∑ a : Fin 512, sq (fun k => (iblk m c 0 ⟨n, h⟩ : FVec Ideal S512x1024 .f32) (ix2 a k)) (fun k => (iblk m c 1 ⟨n, h⟩ : FVec Ideal S512x1024 .f32) (ix2 a k)) (fun k => (iblk m c 2 ⟨n, h⟩ : FVec Ideal S1x1024 .f32) (ix2 0 k)) else 0

/-- The losses added so far. -/
theorem lacc : ∀ (n : ℕ) (hn : n < cfg0.N), ((outsAt0 m c n hn).1 (ix2 0 0) : EReal) = Ideal.ofBits .f32 0x3F000000#32 * ∑ j ∈ Finset.range (n + 1), lpart m c j := by
  intro n
  induction n with
  | zero =>
    intro hn
    rw [Finset.sum_range_one, show (outsAt0 m c 0 hn).1 = _ from outA3 m c ⟨0, hn⟩ rfl]
    refine (kadd_ _ _).trans ?_
    rw [kzero_, zero_add, ksq_]
    unfold lpart
    rw [dif_pos hn]
  | succ n ih =>
    intro hn
    have hN : n + 1 < 8 := hn
    rw [Finset.sum_range_succ, half_add, ← ih (Nat.lt_of_succ_lt hn), show (outsAt0 m c (n + 1) hn).1 = _ from outB3 m c ⟨n + 1, hn⟩ (by show ¬ (n + 1) % 8 = 0; omega)]
    refine (kadd_ _ _).trans ?_
    rw [ksq_]
    unfold lpart
    rw [dif_pos hn]
    rfl

/-- All losses together are the loss. -/
theorem lall (i : S1x1.Idx) (hn : 7 < cfg0.N) : ((outsAt0 m c 7 hn).1 (ix2 0 0) : EReal) = val_main_v49 (F := Ideal) (V m c main_arg0) (V m c main_arg1) (V m c main_arg2) i := by
  rw [lacc, Finset.sum_range]
  refine Eq.trans ?_ (refloss_ (V m c main_arg0) (V m c main_arg1) (V m c main_arg2) i).symm
  refine congrArg (fun u : EReal => Ideal.ofBits .f32 0x3F000000#32 * u) (Eq.trans ?_ (MM.sum_blk 8 512 4096 rfl _).symm)
  refine Finset.sum_congr rfl fun j _ => ?_
  unfold lpart
  rw [dif_pos (show j.val < cfg0.N from j.isLt)]
  refine Finset.sum_congr rfl fun a _ => ?_
  rw [show (fun d : Fin 1024 => (iblk m c 0 ⟨j.val, j.isLt⟩ : FVec Ideal S512x1024 .f32) (ix2 a d)) = fun d => (V m c main_arg0 : FVec Ideal S4096x1024 .f32) (ix2 (MM.blk 8 512 4096 rfl j a) d) from funext (row0 m c ⟨j.val, j.isLt⟩ a (MM.blk 8 512 4096 rfl j a) rfl),
    show (fun d : Fin 1024 => (iblk m c 1 ⟨j.val, j.isLt⟩ : FVec Ideal S512x1024 .f32) (ix2 a d)) = fun d => (V m c main_arg1 : FVec Ideal S4096x1024 .f32) (ix2 (MM.blk 8 512 4096 rfl j a) d) from funext (row1 m c ⟨j.val, j.isLt⟩ a (MM.blk 8 512 4096 rfl j a) rfl),
    show (fun d : Fin 1024 => (iblk m c 2 ⟨j.val, j.isLt⟩ : FVec Ideal S1x1024 .f32) (ix2 0 d)) = fun d => (V m c main_arg2 : FVec Ideal S1x1024 .f32) (ix2 0 d) from funext (gain m c ⟨j.val, j.isLt⟩)]

/-- A tile's part of the gain's gradient, by the tile's number. -/
def part (b : Fin 1024) (n : ℕ) : EReal :=
  if h : n < cfg0.N then ∑ a : Fin 512, gp (fun k => (iblk m c 0 ⟨n, h⟩ : FVec Ideal S512x1024 .f32) (ix2 a k)) (fun k => (iblk m c 1 ⟨n, h⟩ : FVec Ideal S512x1024 .f32) (ix2 a k)) (fun k => (iblk m c 2 ⟨n, h⟩ : FVec Ideal S1x1024 .f32) (ix2 0 k)) b else 0

/-- The parts added so far. -/
theorem acc (b : Fin 1024) : ∀ (n : ℕ) (hn : n < cfg0.N), ((outsAt0 m c n hn).2.2 (ix2 0 b) : EReal) = ∑ j ∈ Finset.range (n + 1), part m c b j := by
  intro n
  induction n with
  | zero =>
    intro hn
    rw [Finset.sum_range_one, show (outsAt0 m c 0 hn).2.2 = _ from outA5 m c ⟨0, hn⟩ rfl]
    refine (kdg_ _ _ _ _ b).trans ?_
    rw [kzerog_, zero_add]
    unfold part
    rw [dif_pos hn]
  | succ n ih =>
    intro hn
    have hN : n + 1 < 8 := hn
    rw [Finset.sum_range_succ, ← ih (Nat.lt_of_succ_lt hn), show (outsAt0 m c (n + 1) hn).2.2 = _ from outB5 m c ⟨n + 1, hn⟩ (by show ¬ (n + 1) % 8 = 0; omega)]
    refine (kdg_ _ _ _ _ b).trans ?_
    unfold part
    rw [dif_pos hn]
    rfl

/-- All parts together are the gain's gradient. -/
theorem all (b : Fin 1024) (hn : 7 < cfg0.N) : ((outsAt0 m c 7 hn).2.2 (ix2 0 b) : EReal) = val_main_v32 (F := Ideal) (V m c main_arg0) (V m c main_arg1) (V m c main_arg2) (ix2 0 b) := by
  rw [acc, Finset.sum_range]
  refine Eq.trans ?_ ((refdg_ (V m c main_arg0) (V m c main_arg1) (V m c main_arg2) b).trans (MM.sum_blk 8 512 4096 rfl _)).symm
  refine Finset.sum_congr rfl fun j _ => ?_
  unfold part
  rw [dif_pos (show j.val < cfg0.N from j.isLt)]
  refine Finset.sum_congr rfl fun a _ => ?_
  rw [show (fun d : Fin 1024 => (iblk m c 0 ⟨j.val, j.isLt⟩ : FVec Ideal S512x1024 .f32) (ix2 a d)) = fun d => (V m c main_arg0 : FVec Ideal S4096x1024 .f32) (ix2 (MM.blk 8 512 4096 rfl j a) d) from funext (row0 m c ⟨j.val, j.isLt⟩ a (MM.blk 8 512 4096 rfl j a) rfl),
    show (fun d : Fin 1024 => (iblk m c 1 ⟨j.val, j.isLt⟩ : FVec Ideal S512x1024 .f32) (ix2 a d)) = fun d => (V m c main_arg1 : FVec Ideal S4096x1024 .f32) (ix2 (MM.blk 8 512 4096 rfl j a) d) from funext (row1 m c ⟨j.val, j.isLt⟩ a (MM.blk 8 512 4096 rfl j a) rfl),
    show (fun d : Fin 1024 => (iblk m c 2 ⟨j.val, j.isLt⟩ : FVec Ideal S1x1024 .f32) (ix2 0 d)) = fun d => (V m c main_arg2 : FVec Ideal S1x1024 .f32) (ix2 0 d) from funext (gain m c ⟨j.val, j.isLt⟩)]

/-- The call leaves the loss. -/
theorem arr3 : (dats m 0 c).arrAt 3 cfg0.N = val_main_v49 (F := Ideal) (V m c main_arg0) (V m c main_arg1) (V m c main_arg2) := by
  refine (dats m 0 c).arrAt_eq_of_covers 3 _ (by decide +kernel) fun t hf y => ?_
  blk_simp
  rw [after0_3]
  have ht := last3 t hf
  obtain ⟨n, hn⟩ := t
  obtain rfl : n = 7 := ht
  have hy0 : (y 0).val < 1 := (y 0).isLt
  have hy1 : (y 1).val < 1 := (y 1).isLt
  have hy := e2 y 0 0 (by show (y 0).val = 0; omega) (by show (y 1).val = 0; omega)
  exact (congrArg (outsAt0 m c 7 hn).1 hy).trans (lall m c _ hn)

/-- The call leaves the input's gradient. -/
theorem arr4 : (dats m 0 c).arrAt 4 cfg0.N = val_main_v48 (F := Ideal) (V m c main_arg0) (V m c main_arg1) (V m c main_arg2) := by
  refine (dats m 0 c).arrAt_eq_of_covers 4 _ (by decide +kernel) fun t hf y => ?_
  blk_simp
  rw [after0_4]
  have ht : t.val < 8 := t.isLt
  have hy0 : (y 0).val < 512 := (y 0).isLt
  have e : (outsAt0 m c t.val t.isLt).2.1 = k0_pay2 (iblk m c 0 t) (iblk m c 2 t) (k0_pay8 (iblk m c 0 t)) (k0_pay9 (iblk m c 0 t)) (k0_pay11 (iblk m c 1 t) (iblk m c 0 t) (iblk m c 2 t)) k0_pay13 := by
    by_cases h0 : t.val % 8 = 0
    · exact outA4 m c t h0
    · exact outB4 m c t h0
  rw [e]
  exact pay_ (iblk m c 1 t) (iblk m c 0 t) (iblk m c 2 t) y ⟨512 * t.val + (y 0).val, by omega⟩ (y 0) (y 1) (e2 y (y 0) (y 1) rfl rfl)
    (row0 m c t (y 0) _ rfl) (row1 m c t (y 0) _ rfl) (gain m c t)
    (e2 _ _ _ (by show win0_4.index t 0 * 512 + 1 * (y 0).val = 512 * t.val + (y 0).val; rw [(ixs t).2.2.2.2.2.2.1]; omega)
      (by show win0_4.index t 1 * 1024 + 1 * (y 1).val = (y 1).val; rw [(ixs t).2.2.2.2.2.2.2.1]; omega))

/-- The call leaves the gain's gradient. -/
theorem arr5 : (dats m 0 c).arrAt 5 cfg0.N = val_main_v32 (F := Ideal) (V m c main_arg0) (V m c main_arg1) (V m c main_arg2) := by
  refine (dats m 0 c).arrAt_eq_of_covers 5 _ (by decide +kernel) fun t hf y => ?_
  blk_simp
  rw [after0_5]
  have ht := last5 t hf
  obtain ⟨n, hn⟩ := t
  obtain rfl : n = 7 := ht
  have hy0 : (y 0).val < 1 := (y 0).isLt
  have hy := e2 y 0 (y 1) (by show (y 0).val = 0; omega) rfl
  refine Eq.trans (congrArg (outsAt0 m c 7 hn).2.2 hy) ((all m c (y 1) hn).trans (congrArg (val_main_v32 (F := Ideal) (V m c main_arg0) (V m c main_arg1) (V m c main_arg2)) (e2 _ _ _ ?_ ?_).symm))
  · show win0_5.index ⟨7, hn⟩ 0 * 1 + 1 * (y 0).val = 0; rw [(ixs ⟨7, hn⟩).2.2.2.2.2.2.2.2.1]; omega
  · show win0_5.index ⟨7, hn⟩ 1 * 1024 + 1 * (y 1).val = (y 1).val; rw [(ixs ⟨7, hn⟩).2.2.2.2.2.2.2.2.2]; omega

/-- The run: the results hold what the pipeline leaves and the arguments are unchanged. -/
theorem run : θ_run (defs (F := Ideal)) (onTc (τ := τ) (main (F := Ideal))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, (h.1 c).1 4, (h.1 c).1 5, h.2 c⟩) (θ_run_and (run_main m ρ) (unchanged m ρ))

end

end Cert.Kernel16Ideal.Loss

namespace Cert.Prod16

open Idealize.ShloMosaic Idealize.ShloMosaic.TcCoe Idealize.SL.Sem

/-- The reference keeps its arguments and leaves no count. -/
theorem frame_ref : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- The kernel and the reference end with equal results. -/
theorem value : Cert.algebraic_Kernel16Ideal_Reference16Ideal (hKernel16Ideal := Cert.Kernel16Ideal.Gen.facts)
    (hReference16Ideal := Cert.Reference16Ideal.Gen.facts) := fun m ρ m' ρ' _ hag =>
  ⟨fun c => (Cert.Kernel16Ideal.Gen.dats m 0 c).arrAt 3 Cert.Kernel16Ideal.cfg0.N, fun c => (Cert.Kernel16Ideal.Gen.dats m 0 c).arrAt 4 Cert.Kernel16Ideal.cfg0.N,
    fun c => (Cert.Kernel16Ideal.Gen.dats m 0 c).arrAt 5 Cert.Kernel16Ideal.cfg0.N,
    Cert.Kernel16Ideal.Loss.run m ρ,
    (θ_run Cert.Reference16Ideal.defs _ _).mono (fun _ h c => by
      obtain ⟨g0, g1, g2⟩ := hag c
      obtain ⟨r0, r1, r2, rest⟩ := h c
      refine ⟨r0.trans ?_, r1.trans ?_, r2.trans ?_, rest⟩
      · rw [Cert.Reference16Ideal.Read.val_main_v49_eq, g0, g1, g2]; exact (Cert.Kernel16Ideal.Loss.arr3 m c).symm
      · rw [Cert.Reference16Ideal.Read.val_main_v48_eq, g0, g1, g2]; exact (Cert.Kernel16Ideal.Loss.arr4 m c).symm
      · rw [Cert.Reference16Ideal.Read.val_main_v32_eq, g0, g1, g2]; exact (Cert.Kernel16Ideal.Loss.arr5 m c).symm)
      (Cert.Reference16Ideal.Value.run (F := Ideal) m' ρ')⟩

end Cert.Prod16

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Loops
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Loops
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_finite
public import proofs.«01_k».proof.Proof.Gen.Pre_finite9
public import proofs.«01_k».proof.Proof.Finite
public import proofs.«01_k».proof.Proof.Val2
public import proofs.«01_k».proof.Proof.Val3
public import proofs.«01_k».proof.Proof.Val4
public import proofs.«01_k».proof.Proof.Val5
public import proofs.«01_k».proof.Proof.Val6
public import proofs.«01_k».proof.Proof.Val7
public import proofs.«01_k».proof.Proof.Val8
public import proofs.«01_k».proof.Proof.Prod9
public import proofs.«01_k».proof.Proof.Prod10
public import proofs.«01_k».proof.Proof.Prod11
public import proofs.«01_k».proof.Proof.Val12
public import proofs.«01_k».proof.Proof.Val13
public import proofs.«01_k».proof.Proof.Val14
public import proofs.«01_k».proof.Proof.Val15
public import proofs.«01_k».proof.Proof.Val16
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- The reference runs and leaves its arguments unchanged: its generated run, read at the arguments; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

section
open Cert.FoxMath Cert.Fox Idealize.ShloMosaic.ValueIdx
open Cert.KernelIdeal.Fox (a0 a1 a2 a3 a4)

/-- The head's and the lane's numbers of a column of 512. -/
theorem column (e : Fin 512) : ∃ (h : Fin 4) (d : Fin 128), e.val = 128 * h.val + d.val := by
  have he := e.isLt
  exact ⟨⟨e.val / 128, by omega⟩, ⟨e.val % 128, by omega⟩, by show e.val = 128 * (e.val / 128) + e.val % 128; omega⟩

/-- The kernel's four results and the reference's are the same arrays, of arguments that are real. -/
theorem agree (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite (hPre_finite := facts) m) (c : Dev Cert.KernelIdeal.nD) :
    Cert.ReferenceIdeal.Read.val_main_v83 (F := Ideal) (a0 m c) (a1 m c) (a2 m c) (a3 m c) = Cert.KernelIdeal.Gen.W12 m ρ c Cert.KernelIdeal.main_v13_0
    ∧ Cert.ReferenceIdeal.Read.val_main_v86 (F := Ideal) (a0 m c) (a1 m c) (a2 m c) (a3 m c) (a4 m c) = Cert.KernelIdeal.Gen.W12 m ρ c Cert.KernelIdeal.main_v19_0
    ∧ Cert.ReferenceIdeal.Read.val_main_v89 (F := Ideal) (a0 m c) (a1 m c) (a3 m c) (a4 m c) = Cert.KernelIdeal.Gen.W12 m ρ c Cert.KernelIdeal.main_v19_1
    ∧ Cert.ReferenceIdeal.Read.val_main_v91 (F := Ideal) (a0 m c) (a1 m c) (a2 m c) (a3 m c) (a4 m c) = Cert.KernelIdeal.Gen.W12 m ρ c Cert.KernelIdeal.main_v19_2 := by
  obtain ⟨p0, p1, p2, p3, p4⟩ := hpre c
  have h0 := val3_eq (a0 m c) _ (fun _ => inf_f32) p0
  have h1 := val3_eq (a1 m c) _ (fun _ => inf_f32) p1
  have h2 := val3_eq (a2 m c) _ (fun _ => inf_f32) p2
  have h3 := val2_eq (a3 m c) _ (fun _ => inf_f32) p3
  have h4 := val3_eq (a4 m c) _ (fun _ => inf_f32) p4
  refine ⟨funext fun i => ?_, funext fun i => ?_, funext fun i => ?_, funext fun i => ?_⟩
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.ReferenceIdeal.Fox.ref_o _ _ _ _ _ _ _ _ h0 h1 h2 h3 n h d e he).trans (Cert.KernelIdeal.Fox.res_o m ρ c _ _ _ _ h0 h1 h2 h3 h n d e he).symm
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.ReferenceIdeal.Fox.ref_dk _ _ _ _ _ _ _ _ _ _ h0 h1 h2 h3 h4 n h d e he).trans (Cert.KernelIdeal.Fox.res_dk m ρ c _ _ _ _ _ h0 h1 h2 h3 h4 h n d e he).symm
  · obtain ⟨n, e, rfl⟩ : ∃ n e, i = ix2 n e := ⟨i 0, i 1, funext fun a => by match a with | ⟨0, _⟩ => rfl | ⟨1, _⟩ => rfl⟩
    obtain ⟨h, d, he⟩ := column e
    exact (Cert.ReferenceIdeal.Fox.ref_dv _ _ _ _ _ _ _ _ h0 h1 h3 h4 n h d e he).trans (Cert.KernelIdeal.Fox.res_dv m ρ c _ _ _ _ _ h0 h1 h2 h3 h4 h n d e he).symm
  · obtain ⟨h, n, rfl⟩ : ∃ h n, i = ix3 h n 0 := ⟨i 0, i 1, funext fun a => by
      match a with
      | ⟨0, _⟩ => rfl
      | ⟨1, _⟩ => rfl
      | ⟨2, _⟩ => exact Fin.ext (by have : (i 2).val < 1 := (i 2).isLt; show (i 2).val = 0; omega)⟩
    exact (Cert.ReferenceIdeal.Fox.ref_dc _ _ _ _ _ _ _ _ _ _ h0 h1 h2 h3 h4 h n).trans (Cert.KernelIdeal.Fox.res_dc m ρ c _ _ _ _ _ h0 h1 h2 h3 h4 h n).symm

/-- The kernel and the reference end with equal results. -/
theorem value : Cert.algebraic_KernelIdeal_ReferenceIdeal_pre_finite (hKernelIdeal := Cert.KernelIdeal.Gen.facts)
    (hReferenceIdeal := Cert.ReferenceIdeal.Gen.facts) (hPre_finite := facts) := fun m ρ m' ρ' hpre hag =>
  ⟨fun c => Cert.KernelIdeal.Gen.W12 m ρ c Cert.KernelIdeal.main_v13_0, fun c => Cert.KernelIdeal.Gen.W12 m ρ c Cert.KernelIdeal.main_v19_0,
    fun c => Cert.KernelIdeal.Gen.W12 m ρ c Cert.KernelIdeal.main_v19_1, fun c => Cert.KernelIdeal.Gen.W12 m ρ c Cert.KernelIdeal.main_v19_2,
    (θ_run Cert.KernelIdeal.defs _ _).mono (fun _ h c => ⟨(h c).1.1, (h c).1.2.1, (h c).1.2.2.1, (h c).1.2.2.2, (h c).2⟩) (Cert.KernelIdeal.Gen.run (F := Ideal) m ρ),
    (θ_run Cert.ReferenceIdeal.defs _ _).mono (fun _ h c => by
      obtain ⟨g0, g1, g2, g3, g4⟩ := hag c
      obtain ⟨e0, e1, e2, e3⟩ := agree m ρ hpre c
      obtain ⟨r0, r1, r2, r3, rest⟩ := h c
      refine ⟨r0.trans ?_, r1.trans ?_, r2.trans ?_, r3.trans ?_, rest⟩
      · rw [Cert.ReferenceIdeal.Read.val_main_v83_eq, g0, g1, g2, g3]; exact e0
      · rw [Cert.ReferenceIdeal.Read.val_main_v86_eq, g0, g1, g2, g3, g4]; exact e1
      · rw [Cert.ReferenceIdeal.Read.val_main_v89_eq, g0, g1, g3, g4]; exact e2
      · rw [Cert.ReferenceIdeal.Read.val_main_v91_eq, g0, g1, g2, g3, g4]; exact e3)
      (Cert.ReferenceIdeal.Value.run (F := Ideal) m' ρ')⟩

end

/-- The certificate's claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Fox.facts, Cert.Mla.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, Cert.Prod2.frame_ref,
  fun m ρ _ => Cert.Kernel3.Gen.frame m ρ, fun m ρ _ => Cert.Kernel3Ideal.Gen.frame m ρ, Cert.Prod3.frame_ref,
  fun m ρ _ => Cert.Kernel4.Gen.frame m ρ, fun m ρ _ => Cert.Kernel4Ideal.Gen.frame m ρ, Cert.Prod4.frame_ref,
  fun m ρ _ => Cert.Kernel5.Gen.frame m ρ, fun m ρ _ => Cert.Kernel5Ideal.Gen.frame m ρ, Cert.Prod5.frame_ref,
  fun m ρ _ => Cert.Kernel6.Gen.frame m ρ, fun m ρ _ => Cert.Kernel6Ideal.Gen.frame m ρ, Cert.Prod6.frame_ref,
  fun m ρ _ => Cert.Kernel7.Gen.frame m ρ, fun m ρ _ => Cert.Kernel7Ideal.Gen.frame m ρ, Cert.Prod7.frame_ref,
  fun m ρ _ => Cert.Kernel8.Gen.frame m ρ, fun m ρ _ => Cert.Kernel8Ideal.Gen.frame m ρ, Cert.Prod8.frame_ref,
  fun m ρ _ => Cert.Kernel9.Gen.frame m ρ, fun m ρ _ => Cert.Kernel9Ideal.Gen.frame m ρ, fun m ρ _ => Cert.Kernel9Ideal.Gen.frame m ρ,
  Cert.Mla.frame_ref, fun m ρ _ => Cert.Mla.frame_ref m ρ trivial,
  fun m ρ _ => Cert.Kernel10.Gen.frame m ρ, fun m ρ _ => Cert.Kernel10Ideal.Gen.frame m ρ, fun m ρ _ => Cert.Kernel10Ideal.Gen.frame m ρ,
  Cert.Dq.frame_ref, fun m ρ _ => Cert.Dq.frame_ref m ρ trivial,
  fun m ρ _ => Cert.Kernel11.Gen.frame m ρ, fun m ρ _ => Cert.Kernel11Ideal.Gen.frame m ρ, fun m ρ _ => Cert.Kernel11Ideal.Gen.frame m ρ,
  Cert.DqFox.frame_ref, fun m ρ _ => Cert.DqFox.frame_ref m ρ trivial,
  fun m ρ _ => Cert.Kernel12.Gen.frame m ρ, fun m ρ _ => Cert.Kernel12Ideal.Gen.frame m ρ, Cert.Prod12.frame_ref,
  fun m ρ _ => Cert.Kernel13.Gen.frame m ρ, fun m ρ _ => Cert.Kernel13Ideal.Gen.frame m ρ, Cert.Prod13.frame_ref,
  fun m ρ _ => Cert.Kernel14.Gen.frame m ρ, fun m ρ _ => Cert.Kernel14Ideal.Gen.frame m ρ, Cert.Prod14.frame_ref,
  fun m ρ _ => Cert.Kernel15.Gen.frame m ρ, fun m ρ _ => Cert.Kernel15Ideal.Gen.frame m ρ, Cert.Prod15.frame_ref,
  fun m ρ _ => Cert.Kernel16.Gen.frame m ρ, fun m ρ _ => Cert.Kernel16Ideal.Gen.frame m ρ, Cert.Prod16.frame_ref,
  trivial, value,
  trivial, Cert.Prod2.value,
  trivial, Cert.Prod3.value,
  trivial, Cert.Prod4.value,
  trivial, Cert.Prod5.value,
  trivial, Cert.Prod6.value,
  trivial, Cert.Prod7.value,
  trivial, Cert.Prod8.value,
  trivial, Cert.Mla.value,
  trivial, Cert.Dq.value,
  trivial, Cert.DqFox.value,
  trivial, Cert.Prod12.value,
  trivial, Cert.Prod13.value,
  trivial, Cert.Prod14.value,
  trivial, Cert.Prod15.value,
  trivial, Cert.Prod16.value⟩

end Cert.Proof

end
